-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11)
      ∧ r.2.mem ((c.tc : Thread Cert.Kernel18.nD Cert.Kernel18.τ).loc Cert.Kernel18.main_arg12) = m ((c.tc : Thread Cert.Kernel18.nD Cert.Kernel18.τ).loc Cert.Kernel18.main_arg12)
      ∧ r.2.mem ((c.tc : Thread Cert.Kernel18.nD Cert.Kernel18.τ).loc Cert.Kernel18.main_arg13) = m ((c.tc : Thread Cert.Kernel18.nD Cert.Kernel18.τ).loc Cert.Kernel18.main_arg13)
      ∧ r.2.mem ((c.tc : Thread Cert.Kernel18.nD Cert.Kernel18.τ).loc Cert.Kernel18.main_arg14) = m ((c.tc : Thread Cert.Kernel18.nD Cert.Kernel18.τ).loc Cert.Kernel18.main_arg14)
      ∧ r.2.mem ((c.tc : Thread Cert.Kernel18.nD Cert.Kernel18.τ).loc Cert.Kernel18.main_arg15) = m ((c.tc : Thread Cert.Kernel18.nD Cert.Kernel18.τ).loc Cert.Kernel18.main_arg15)
      ∧ r.2.mem ((c.tc : Thread Cert.Kernel18.nD Cert.Kernel18.τ).loc Cert.Kernel18.main_arg16) = m ((c.tc : Thread Cert.Kernel18.nD Cert.Kernel18.τ).loc Cert.Kernel18.main_arg16)
      ∧ r.2.mem ((c.tc : Thread Cert.Kernel18.nD Cert.Kernel18.τ).loc Cert.Kernel18.main_arg17) = m ((c.tc : Thread Cert.Kernel18.nD Cert.Kernel18.τ).loc Cert.Kernel18.main_arg17)
      ∧ r.2.mem ((c.tc : Thread Cert.Kernel18.nD Cert.Kernel18.τ).loc Cert.Kernel18.main_arg18) = m ((c.tc : Thread Cert.Kernel18.nD Cert.Kernel18.τ).loc Cert.Kernel18.main_arg18)
      ∧ r.2.mem ((c.tc : Thread Cert.Kernel18.nD Cert.Kernel18.τ).loc Cert.Kernel18.main_arg19) = m ((c.tc : Thread Cert.Kernel18.nD Cert.Kernel18.τ).loc Cert.Kernel18.main_arg19)
      ∧ r.2.mem ((c.tc : Thread Cert.Kernel18.nD Cert.Kernel18.τ).loc Cert.Kernel18.main_arg20) = m ((c.tc : Thread Cert.Kernel18.nD Cert.Kernel18.τ).loc Cert.Kernel18.main_arg20)
      ∧ r.2.mem ((c.tc : Thread Cert.Kernel18.nD Cert.Kernel18.τ).loc Cert.Kernel18.main_arg21) = m ((c.tc : Thread Cert.Kernel18.nD Cert.Kernel18.τ).loc Cert.Kernel18.main_arg21)
      ∧ r.2.mem ((c.tc : Thread Cert.Kernel18.nD Cert.Kernel18.τ).loc Cert.Kernel18.main_arg22) = m ((c.tc : Thread Cert.Kernel18.nD Cert.Kernel18.τ).loc Cert.Kernel18.main_arg22)
      ∧ r.2.mem ((c.tc : Thread Cert.Kernel18.nD Cert.Kernel18.τ).loc Cert.Kernel18.main_arg23) = m ((c.tc : Thread Cert.Kernel18.nD Cert.Kernel18.τ).loc Cert.Kernel18.main_arg23)
      ∧ r.2.mem ((c.tc : Thread Cert.Kernel18.nD Cert.Kernel18.τ).loc Cert.Kernel18.main_arg24) = m ((c.tc : Thread Cert.Kernel18.nD Cert.Kernel18.τ).loc Cert.Kernel18.main_arg24)
      ∧ r.2.mem ((c.tc : Thread Cert.Kernel18.nD Cert.Kernel18.τ).loc Cert.Kernel18.main_arg25) = m ((c.tc : Thread Cert.Kernel18.nD Cert.Kernel18.τ).loc Cert.Kernel18.main_arg25)
      ∧ r.2.mem ((c.tc : Thread Cert.Kernel18.nD Cert.Kernel18.τ).loc Cert.Kernel18.main_arg26) = m ((c.tc : Thread Cert.Kernel18.nD Cert.Kernel18.τ).loc Cert.Kernel18.main_arg26)
      ∧ r.2.mem ((c.tc : Thread Cert.Kernel18.nD Cert.Kernel18.τ).loc Cert.Kernel18.main_arg27) = m ((c.tc : Thread Cert.Kernel18.nD Cert.Kernel18.τ).loc Cert.Kernel18.main_arg27)
      ∧ r.2.mem ((c.tc : Thread Cert.Kernel18.nD Cert.Kernel18.τ).loc Cert.Kernel18.main_arg28) = m ((c.tc : Thread Cert.Kernel18.nD Cert.Kernel18.τ).loc Cert.Kernel18.main_arg28)
      ∧ r.2.mem ((c.tc : Thread Cert.Kernel18.nD Cert.Kernel18.τ).loc Cert.Kernel18.main_arg29) = m ((c.tc : Thread Cert.Kernel18.nD Cert.Kernel18.τ).loc Cert.Kernel18.main_arg29)
      ∧ r.2.mem ((c.tc : Thread Cert.Kernel18.nD Cert.Kernel18.τ).loc Cert.Kernel18.main_arg30) = m ((c.tc : Thread Cert.Kernel18.nD Cert.Kernel18.τ).loc Cert.Kernel18.main_arg30)
      ∧ r.2.mem ((c.tc : Thread Cert.Kernel18.nD Cert.Kernel18.τ).loc Cert.Kernel18.main_arg31) = m ((c.tc : Thread Cert.Kernel18.nD Cert.Kernel18.τ).loc Cert.Kernel18.main_arg31)
      ∧ r.2.mem ((c.tc : Thread Cert.Kernel18.nD Cert.Kernel18.τ).loc Cert.Kernel18.main_arg32) = m ((c.tc : Thread Cert.Kernel18.nD Cert.Kernel18.τ).loc Cert.Kernel18.main_arg32)
      ∧ r.2.mem ((c.tc : Thread Cert.Kernel18.nD Cert.Kernel18.τ).loc Cert.Kernel18.main_arg33) = m ((c.tc : Thread Cert.Kernel18.nD Cert.Kernel18.τ).loc Cert.Kernel18.main_arg33)
      ∧ r.2.mem ((c.tc : Thread Cert.Kernel18.nD Cert.Kernel18.τ).loc Cert.Kernel18.main_arg34) = m ((c.tc : Thread Cert.Kernel18.nD Cert.Kernel18.τ).loc Cert.Kernel18.main_arg34)
      ∧ r.2.mem ((c.tc : Thread Cert.Kernel18.nD Cert.Kernel18.τ).loc Cert.Kernel18.main_arg35) = m ((c.tc : Thread Cert.Kernel18.nD Cert.Kernel18.τ).loc Cert.Kernel18.main_arg35)
      ∧ r.2.mem ((c.tc : Thread Cert.Kernel18.nD Cert.Kernel18.τ).loc Cert.Kernel18.main_arg36) = m ((c.tc : Thread Cert.Kernel18.nD Cert.Kernel18.τ).loc Cert.Kernel18.main_arg36)
      ∧ r.2.mem ((c.tc : Thread Cert.Kernel18.nD Cert.Kernel18.τ).loc Cert.Kernel18.main_arg37) = m ((c.tc : Thread Cert.Kernel18.nD Cert.Kernel18.τ).loc Cert.Kernel18.main_arg37)
      ∧ r.2.mem ((c.tc : Thread Cert.Kernel18.nD Cert.Kernel18.τ).loc Cert.Kernel18.main_arg38) = m ((c.tc : Thread Cert.Kernel18.nD Cert.Kernel18.τ).loc Cert.Kernel18.main_arg38)
      ∧ r.2.mem ((c.tc : Thread Cert.Kernel18.nD Cert.Kernel18.τ).loc Cert.Kernel18.main_arg39) = m ((c.tc : Thread Cert.Kernel18.nD Cert.Kernel18.τ).loc Cert.Kernel18.main_arg39))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
      ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
      ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
      ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
      ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
      ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
      ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
      ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
      ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
      ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
      ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
      ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
      ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
      ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
      ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
      ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
      ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
      ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
      ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
      ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
      ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31)
      ∧ r.2.mem ((c.tc : Thread Cert.Kernel18Ideal.nD Cert.Kernel18Ideal.τ).loc Cert.Kernel18Ideal.main_arg32) = m ((c.tc : Thread Cert.Kernel18Ideal.nD Cert.Kernel18Ideal.τ).loc Cert.Kernel18Ideal.main_arg32)
      ∧ r.2.mem ((c.tc : Thread Cert.Kernel18Ideal.nD Cert.Kernel18Ideal.τ).loc Cert.Kernel18Ideal.main_arg33) = m ((c.tc : Thread Cert.Kernel18Ideal.nD Cert.Kernel18Ideal.τ).loc Cert.Kernel18Ideal.main_arg33)
      ∧ r.2.mem ((c.tc : Thread Cert.Kernel18Ideal.nD Cert.Kernel18Ideal.τ).loc Cert.Kernel18Ideal.main_arg34) = m ((c.tc : Thread Cert.Kernel18Ideal.nD Cert.Kernel18Ideal.τ).loc Cert.Kernel18Ideal.main_arg34)
      ∧ r.2.mem ((c.tc : Thread Cert.Kernel18Ideal.nD Cert.Kernel18Ideal.τ).loc Cert.Kernel18Ideal.main_arg35) = m ((c.tc : Thread Cert.Kernel18Ideal.nD Cert.Kernel18Ideal.τ).loc Cert.Kernel18Ideal.main_arg35)
      ∧ r.2.mem ((c.tc : Thread Cert.Kernel18Ideal.nD Cert.Kernel18Ideal.τ).loc Cert.Kernel18Ideal.main_arg36) = m ((c.tc : Thread Cert.Kernel18Ideal.nD Cert.Kernel18Ideal.τ).loc Cert.Kernel18Ideal.main_arg36)
      ∧ r.2.mem ((c.tc : Thread Cert.Kernel18Ideal.nD Cert.Kernel18Ideal.τ).loc Cert.Kernel18Ideal.main_arg37) = m ((c.tc : Thread Cert.Kernel18Ideal.nD Cert.Kernel18Ideal.τ).loc Cert.Kernel18Ideal.main_arg37)
      ∧ r.2.mem ((c.tc : Thread Cert.Kernel18Ideal.nD Cert.Kernel18Ideal.τ).loc Cert.Kernel18Ideal.main_arg38) = m ((c.tc : Thread Cert.Kernel18Ideal.nD Cert.Kernel18Ideal.τ).loc Cert.Kernel18Ideal.main_arg38)
      ∧ r.2.mem ((c.tc : Thread Cert.Kernel18Ideal.nD Cert.Kernel18Ideal.τ).loc Cert.Kernel18Ideal.main_arg39) = m ((c.tc : Thread Cert.Kernel18Ideal.nD Cert.Kernel18Ideal.τ).loc Cert.Kernel18Ideal.main_arg39))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11)
      ∧ r.2.mem ((c.tc : Thread Cert.Reference18Ideal.nD Cert.Reference18Ideal.τ).loc Cert.Reference18Ideal.main_arg12) = m ((c.tc : Thread Cert.Reference18Ideal.nD Cert.Reference18Ideal.τ).loc Cert.Reference18Ideal.main_arg12)
      ∧ r.2.mem ((c.tc : Thread Cert.Reference18Ideal.nD Cert.Reference18Ideal.τ).loc Cert.Reference18Ideal.main_arg13) = m ((c.tc : Thread Cert.Reference18Ideal.nD Cert.Reference18Ideal.τ).loc Cert.Reference18Ideal.main_arg13)
      ∧ r.2.mem ((c.tc : Thread Cert.Reference18Ideal.nD Cert.Reference18Ideal.τ).loc Cert.Reference18Ideal.main_arg14) = m ((c.tc : Thread Cert.Reference18Ideal.nD Cert.Reference18Ideal.τ).loc Cert.Reference18Ideal.main_arg14)
      ∧ r.2.mem ((c.tc : Thread Cert.Reference18Ideal.nD Cert.Reference18Ideal.τ).loc Cert.Reference18Ideal.main_arg15) = m ((c.tc : Thread Cert.Reference18Ideal.nD Cert.Reference18Ideal.τ).loc Cert.Reference18Ideal.main_arg15)
      ∧ r.2.mem ((c.tc : Thread Cert.Reference18Ideal.nD Cert.Reference18Ideal.τ).loc Cert.Reference18Ideal.main_arg16) = m ((c.tc : Thread Cert.Reference18Ideal.nD Cert.Reference18Ideal.τ).loc Cert.Reference18Ideal.main_arg16)
      ∧ r.2.mem ((c.tc : Thread Cert.Reference18Ideal.nD Cert.Reference18Ideal.τ).loc Cert.Reference18Ideal.main_arg17) = m ((c.tc : Thread Cert.Reference18Ideal.nD Cert.Reference18Ideal.τ).loc Cert.Reference18Ideal.main_arg17)
      ∧ r.2.mem ((c.tc : Thread Cert.Reference18Ideal.nD Cert.Reference18Ideal.τ).loc Cert.Reference18Ideal.main_arg18) = m ((c.tc : Thread Cert.Reference18Ideal.nD Cert.Reference18Ideal.τ).loc Cert.Reference18Ideal.main_arg18)
      ∧ r.2.mem ((c.tc : Thread Cert.Reference18Ideal.nD Cert.Reference18Ideal.τ).loc Cert.Reference18Ideal.main_arg19) = m ((c.tc : Thread Cert.Reference18Ideal.nD Cert.Reference18Ideal.τ).loc Cert.Reference18Ideal.main_arg19)
      ∧ r.2.mem ((c.tc : Thread Cert.Reference18Ideal.nD Cert.Reference18Ideal.τ).loc Cert.Reference18Ideal.main_arg20) = m ((c.tc : Thread Cert.Reference18Ideal.nD Cert.Reference18Ideal.τ).loc Cert.Reference18Ideal.main_arg20)
      ∧ r.2.mem ((c.tc : Thread Cert.Reference18Ideal.nD Cert.Reference18Ideal.τ).loc Cert.Reference18Ideal.main_arg21) = m ((c.tc : Thread Cert.Reference18Ideal.nD Cert.Reference18Ideal.τ).loc Cert.Reference18Ideal.main_arg21)
      ∧ r.2.mem ((c.tc : Thread Cert.Reference18Ideal.nD Cert.Reference18Ideal.τ).loc Cert.Reference18Ideal.main_arg22) = m ((c.tc : Thread Cert.Reference18Ideal.nD Cert.Reference18Ideal.τ).loc Cert.Reference18Ideal.main_arg22)
      ∧ r.2.mem ((c.tc : Thread Cert.Reference18Ideal.nD Cert.Reference18Ideal.τ).loc Cert.Reference18Ideal.main_arg23) = m ((c.tc : Thread Cert.Reference18Ideal.nD Cert.Reference18Ideal.τ).loc Cert.Reference18Ideal.main_arg23)
      ∧ r.2.mem ((c.tc : Thread Cert.Reference18Ideal.nD Cert.Reference18Ideal.τ).loc Cert.Reference18Ideal.main_arg24) = m ((c.tc : Thread Cert.Reference18Ideal.nD Cert.Reference18Ideal.τ).loc Cert.Reference18Ideal.main_arg24)
      ∧ r.2.mem ((c.tc : Thread Cert.Reference18Ideal.nD Cert.Reference18Ideal.τ).loc Cert.Reference18Ideal.main_arg25) = m ((c.tc : Thread Cert.Reference18Ideal.nD Cert.Reference18Ideal.τ).loc Cert.Reference18Ideal.main_arg25)
      ∧ r.2.mem ((c.tc : Thread Cert.Reference18Ideal.nD Cert.Reference18Ideal.τ).loc Cert.Reference18Ideal.main_arg26) = m ((c.tc : Thread Cert.Reference18Ideal.nD Cert.Reference18Ideal.τ).loc Cert.Reference18Ideal.main_arg26)
      ∧ r.2.mem ((c.tc : Thread Cert.Reference18Ideal.nD Cert.Reference18Ideal.τ).loc Cert.Reference18Ideal.main_arg27) = m ((c.tc : Thread Cert.Reference18Ideal.nD Cert.Reference18Ideal.τ).loc Cert.Reference18Ideal.main_arg27)
      ∧ r.2.mem ((c.tc : Thread Cert.Reference18Ideal.nD Cert.Reference18Ideal.τ).loc Cert.Reference18Ideal.main_arg28) = m ((c.tc : Thread Cert.Reference18Ideal.nD Cert.Reference18Ideal.τ).loc Cert.Reference18Ideal.main_arg28)
      ∧ r.2.mem ((c.tc : Thread Cert.Reference18Ideal.nD Cert.Reference18Ideal.τ).loc Cert.Reference18Ideal.main_arg29) = m ((c.tc : Thread Cert.Reference18Ideal.nD Cert.Reference18Ideal.τ).loc Cert.Reference18Ideal.main_arg29)
      ∧ r.2.mem ((c.tc : Thread Cert.Reference18Ideal.nD Cert.Reference18Ideal.τ).loc Cert.Reference18Ideal.main_arg30) = m ((c.tc : Thread Cert.Reference18Ideal.nD Cert.Reference18Ideal.τ).loc Cert.Reference18Ideal.main_arg30)
      ∧ r.2.mem ((c.tc : Thread Cert.Reference18Ideal.nD Cert.Reference18Ideal.τ).loc Cert.Reference18Ideal.main_arg31) = m ((c.tc : Thread Cert.Reference18Ideal.nD Cert.Reference18Ideal.τ).loc Cert.Reference18Ideal.main_arg31)
      ∧ r.2.mem ((c.tc : Thread Cert.Reference18Ideal.nD Cert.Reference18Ideal.τ).loc Cert.Reference18Ideal.main_arg32) = m ((c.tc : Thread Cert.Reference18Ideal.nD Cert.Reference18Ideal.τ).loc Cert.Reference18Ideal.main_arg32)
      ∧ r.2.mem ((c.tc : Thread Cert.Reference18Ideal.nD Cert.Reference18Ideal.τ).loc Cert.Reference18Ideal.main_arg33) = m ((c.tc : Thread Cert.Reference18Ideal.nD Cert.Reference18Ideal.τ).loc Cert.Reference18Ideal.main_arg33)
      ∧ r.2.mem ((c.tc : Thread Cert.Reference18Ideal.nD Cert.Reference18Ideal.τ).loc Cert.Reference18Ideal.main_arg34) = m ((c.tc : Thread Cert.Reference18Ideal.nD Cert.Reference18Ideal.τ).loc Cert.Reference18Ideal.main_arg34)
      ∧ r.2.mem ((c.tc : Thread Cert.Reference18Ideal.nD Cert.Reference18Ideal.τ).loc Cert.Reference18Ideal.main_arg35) = m ((c.tc : Thread Cert.Reference18Ideal.nD Cert.Reference18Ideal.τ).loc Cert.Reference18Ideal.main_arg35)
      ∧ r.2.mem ((c.tc : Thread Cert.Reference18Ideal.nD Cert.Reference18Ideal.τ).loc Cert.Reference18Ideal.main_arg36) = m ((c.tc : Thread Cert.Reference18Ideal.nD Cert.Reference18Ideal.τ).loc Cert.Reference18Ideal.main_arg36)
      ∧ r.2.mem ((c.tc : Thread Cert.Reference18Ideal.nD Cert.Reference18Ideal.τ).loc Cert.Reference18Ideal.main_arg37) = m ((c.tc : Thread Cert.Reference18Ideal.nD Cert.Reference18Ideal.τ).loc Cert.Reference18Ideal.main_arg37)
      ∧ r.2.mem ((c.tc : Thread Cert.Reference18Ideal.nD Cert.Reference18Ideal.τ).loc Cert.Reference18Ideal.main_arg38) = m ((c.tc : Thread Cert.Reference18Ideal.nD Cert.Reference18Ideal.τ).loc Cert.Reference18Ideal.main_arg38)
      ∧ r.2.mem ((c.tc : Thread Cert.Reference18Ideal.nD Cert.Reference18Ideal.τ).loc Cert.Reference18Ideal.main_arg39) = m ((c.tc : Thread Cert.Reference18Ideal.nD Cert.Reference18Ideal.τ).loc Cert.Reference18Ideal.main_arg39))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)) (v3 : (c : Dev Cert.KernelIdeal.nD) → Buf (Elt Ideal) ((c.tc : Thread Cert.KernelIdeal.nD Cert.KernelIdeal.τ).loc Cert.KernelIdeal.main_v71_3)) (v4 : (c : Dev Cert.KernelIdeal.nD) → Buf (Elt Ideal) ((c.tc : Thread Cert.KernelIdeal.nD Cert.KernelIdeal.τ).loc Cert.KernelIdeal.main_v71_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_v71_3) = v3 c
          ∧ r.2.mem ((c.tc : Thread Cert.KernelIdeal.nD Cert.KernelIdeal.τ).loc Cert.KernelIdeal.main_v71_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v25)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v25) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v19) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)) (v3 : (c : Dev Cert.Kernel12Ideal.nD) → Buf (Elt Ideal) ((c.tc : Thread Cert.Kernel12Ideal.nD Cert.Kernel12Ideal.τ).loc Cert.Kernel12Ideal.main_v8_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_v8_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_v34) = v2 c
          ∧ r.2.mem ((c.tc : Thread Cert.Reference12Ideal.nD Cert.Reference12Ideal.τ).loc Cert.Reference12Ideal.main_v37) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4)) (v1 : (c : Dev Cert.Kernel13Ideal.nD) → Buf (Elt Ideal) ((c.tc : Thread Cert.Kernel13Ideal.nD Cert.Kernel13Ideal.τ).loc Cert.Kernel13Ideal.main_v5)) (v2 : (c : Dev Cert.Kernel13Ideal.nD) → Buf (Elt Ideal) ((c.tc : Thread Cert.Kernel13Ideal.nD Cert.Kernel13Ideal.τ).loc Cert.Kernel13Ideal.main_v6)) (v3 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_v5) = v1 c
          ∧ r.2.mem ((c.tc : Thread Cert.Kernel13Ideal.nD Cert.Kernel13Ideal.τ).loc Cert.Kernel13Ideal.main_v6) = v2 c
          ∧ r.2.mem ((c.tc : Thread Cert.Kernel13Ideal.nD Cert.Kernel13Ideal.τ).loc Cert.Kernel13Ideal.main_v7) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4)) (v1 : (c : Dev Cert.Kernel15Ideal.nD) → Buf (Elt Ideal) ((c.tc : Thread Cert.Kernel15Ideal.nD Cert.Kernel15Ideal.τ).loc Cert.Kernel15Ideal.main_v5)) (v2 : (c : Dev Cert.Kernel15Ideal.nD) → Buf (Elt Ideal) ((c.tc : Thread Cert.Kernel15Ideal.nD Cert.Kernel15Ideal.τ).loc Cert.Kernel15Ideal.main_v6)) (v3 : (c : Dev Cert.Kernel15Ideal.nD) → Buf (Elt Ideal) ((c.tc : Thread Cert.Kernel15Ideal.nD Cert.Kernel15Ideal.τ).loc Cert.Kernel15Ideal.main_v7)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_v5) = v1 c
          ∧ r.2.mem ((c.tc : Thread Cert.Kernel15Ideal.nD Cert.Kernel15Ideal.τ).loc Cert.Kernel15Ideal.main_v6) = v2 c
          ∧ r.2.mem ((c.tc : Thread Cert.Kernel15Ideal.nD Cert.Kernel15Ideal.τ).loc Cert.Kernel15Ideal.main_v7) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v4)) (v1 : (c : Dev Cert.Kernel16Ideal.nD) → Buf (Elt Ideal) ((c.tc : Thread Cert.Kernel16Ideal.nD Cert.Kernel16Ideal.τ).loc Cert.Kernel16Ideal.main_v5)) (v2 : (c : Dev Cert.Kernel16Ideal.nD) → Buf (Elt Ideal) ((c.tc : Thread Cert.Kernel16Ideal.nD Cert.Kernel16Ideal.τ).loc Cert.Kernel16Ideal.main_v6)) (v3 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_v5) = v1 c
          ∧ r.2.mem ((c.tc : Thread Cert.Kernel16Ideal.nD Cert.Kernel16Ideal.τ).loc Cert.Kernel16Ideal.main_v6) = v2 c
          ∧ r.2.mem ((c.tc : Thread Cert.Kernel16Ideal.nD Cert.Kernel16Ideal.τ).loc Cert.Kernel16Ideal.main_v7) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v13) = v2 c
          ∧ r.2.mem ((c.tc : Thread Cert.Reference16Ideal.nD Cert.Reference16Ideal.τ).loc Cert.Reference16Ideal.main_v19) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)
      ∧ m' ((c.tc : Thread Cert.Reference18Ideal.nD Cert.Reference18Ideal.τ).loc Cert.Reference18Ideal.main_arg12) = m ((c.tc : Thread Cert.Kernel18Ideal.nD Cert.Kernel18Ideal.τ).loc Cert.Kernel18Ideal.main_arg12)
      ∧ m' ((c.tc : Thread Cert.Reference18Ideal.nD Cert.Reference18Ideal.τ).loc Cert.Reference18Ideal.main_arg13) = m ((c.tc : Thread Cert.Kernel18Ideal.nD Cert.Kernel18Ideal.τ).loc Cert.Kernel18Ideal.main_arg13)
      ∧ m' ((c.tc : Thread Cert.Reference18Ideal.nD Cert.Reference18Ideal.τ).loc Cert.Reference18Ideal.main_arg14) = m ((c.tc : Thread Cert.Kernel18Ideal.nD Cert.Kernel18Ideal.τ).loc Cert.Kernel18Ideal.main_arg14)
      ∧ m' ((c.tc : Thread Cert.Reference18Ideal.nD Cert.Reference18Ideal.τ).loc Cert.Reference18Ideal.main_arg15) = m ((c.tc : Thread Cert.Kernel18Ideal.nD Cert.Kernel18Ideal.τ).loc Cert.Kernel18Ideal.main_arg15)
      ∧ m' ((c.tc : Thread Cert.Reference18Ideal.nD Cert.Reference18Ideal.τ).loc Cert.Reference18Ideal.main_arg16) = m ((c.tc : Thread Cert.Kernel18Ideal.nD Cert.Kernel18Ideal.τ).loc Cert.Kernel18Ideal.main_arg16)
      ∧ m' ((c.tc : Thread Cert.Reference18Ideal.nD Cert.Reference18Ideal.τ).loc Cert.Reference18Ideal.main_arg17) = m ((c.tc : Thread Cert.Kernel18Ideal.nD Cert.Kernel18Ideal.τ).loc Cert.Kernel18Ideal.main_arg17)
      ∧ m' ((c.tc : Thread Cert.Reference18Ideal.nD Cert.Reference18Ideal.τ).loc Cert.Reference18Ideal.main_arg18) = m ((c.tc : Thread Cert.Kernel18Ideal.nD Cert.Kernel18Ideal.τ).loc Cert.Kernel18Ideal.main_arg18)
      ∧ m' ((c.tc : Thread Cert.Reference18Ideal.nD Cert.Reference18Ideal.τ).loc Cert.Reference18Ideal.main_arg19) = m ((c.tc : Thread Cert.Kernel18Ideal.nD Cert.Kernel18Ideal.τ).loc Cert.Kernel18Ideal.main_arg19)
      ∧ m' ((c.tc : Thread Cert.Reference18Ideal.nD Cert.Reference18Ideal.τ).loc Cert.Reference18Ideal.main_arg20) = m ((c.tc : Thread Cert.Kernel18Ideal.nD Cert.Kernel18Ideal.τ).loc Cert.Kernel18Ideal.main_arg20)
      ∧ m' ((c.tc : Thread Cert.Reference18Ideal.nD Cert.Reference18Ideal.τ).loc Cert.Reference18Ideal.main_arg21) = m ((c.tc : Thread Cert.Kernel18Ideal.nD Cert.Kernel18Ideal.τ).loc Cert.Kernel18Ideal.main_arg21)
      ∧ m' ((c.tc : Thread Cert.Reference18Ideal.nD Cert.Reference18Ideal.τ).loc Cert.Reference18Ideal.main_arg22) = m ((c.tc : Thread Cert.Kernel18Ideal.nD Cert.Kernel18Ideal.τ).loc Cert.Kernel18Ideal.main_arg22)
      ∧ m' ((c.tc : Thread Cert.Reference18Ideal.nD Cert.Reference18Ideal.τ).loc Cert.Reference18Ideal.main_arg23) = m ((c.tc : Thread Cert.Kernel18Ideal.nD Cert.Kernel18Ideal.τ).loc Cert.Kernel18Ideal.main_arg23)
      ∧ m' ((c.tc : Thread Cert.Reference18Ideal.nD Cert.Reference18Ideal.τ).loc Cert.Reference18Ideal.main_arg24) = m ((c.tc : Thread Cert.Kernel18Ideal.nD Cert.Kernel18Ideal.τ).loc Cert.Kernel18Ideal.main_arg24)
      ∧ m' ((c.tc : Thread Cert.Reference18Ideal.nD Cert.Reference18Ideal.τ).loc Cert.Reference18Ideal.main_arg25) = m ((c.tc : Thread Cert.Kernel18Ideal.nD Cert.Kernel18Ideal.τ).loc Cert.Kernel18Ideal.main_arg25)
      ∧ m' ((c.tc : Thread Cert.Reference18Ideal.nD Cert.Reference18Ideal.τ).loc Cert.Reference18Ideal.main_arg26) = m ((c.tc : Thread Cert.Kernel18Ideal.nD Cert.Kernel18Ideal.τ).loc Cert.Kernel18Ideal.main_arg26)
      ∧ m' ((c.tc : Thread Cert.Reference18Ideal.nD Cert.Reference18Ideal.τ).loc Cert.Reference18Ideal.main_arg27) = m ((c.tc : Thread Cert.Kernel18Ideal.nD Cert.Kernel18Ideal.τ).loc Cert.Kernel18Ideal.main_arg27)
      ∧ m' ((c.tc : Thread Cert.Reference18Ideal.nD Cert.Reference18Ideal.τ).loc Cert.Reference18Ideal.main_arg28) = m ((c.tc : Thread Cert.Kernel18Ideal.nD Cert.Kernel18Ideal.τ).loc Cert.Kernel18Ideal.main_arg28)
      ∧ m' ((c.tc : Thread Cert.Reference18Ideal.nD Cert.Reference18Ideal.τ).loc Cert.Reference18Ideal.main_arg29) = m ((c.tc : Thread Cert.Kernel18Ideal.nD Cert.Kernel18Ideal.τ).loc Cert.Kernel18Ideal.main_arg29)
      ∧ m' ((c.tc : Thread Cert.Reference18Ideal.nD Cert.Reference18Ideal.τ).loc Cert.Reference18Ideal.main_arg30) = m ((c.tc : Thread Cert.Kernel18Ideal.nD Cert.Kernel18Ideal.τ).loc Cert.Kernel18Ideal.main_arg30)
      ∧ m' ((c.tc : Thread Cert.Reference18Ideal.nD Cert.Reference18Ideal.τ).loc Cert.Reference18Ideal.main_arg31) = m ((c.tc : Thread Cert.Kernel18Ideal.nD Cert.Kernel18Ideal.τ).loc Cert.Kernel18Ideal.main_arg31)
      ∧ m' ((c.tc : Thread Cert.Reference18Ideal.nD Cert.Reference18Ideal.τ).loc Cert.Reference18Ideal.main_arg32) = m ((c.tc : Thread Cert.Kernel18Ideal.nD Cert.Kernel18Ideal.τ).loc Cert.Kernel18Ideal.main_arg32)
      ∧ m' ((c.tc : Thread Cert.Reference18Ideal.nD Cert.Reference18Ideal.τ).loc Cert.Reference18Ideal.main_arg33) = m ((c.tc : Thread Cert.Kernel18Ideal.nD Cert.Kernel18Ideal.τ).loc Cert.Kernel18Ideal.main_arg33)
      ∧ m' ((c.tc : Thread Cert.Reference18Ideal.nD Cert.Reference18Ideal.τ).loc Cert.Reference18Ideal.main_arg34) = m ((c.tc : Thread Cert.Kernel18Ideal.nD Cert.Kernel18Ideal.τ).loc Cert.Kernel18Ideal.main_arg34)
      ∧ m' ((c.tc : Thread Cert.Reference18Ideal.nD Cert.Reference18Ideal.τ).loc Cert.Reference18Ideal.main_arg35) = m ((c.tc : Thread Cert.Kernel18Ideal.nD Cert.Kernel18Ideal.τ).loc Cert.Kernel18Ideal.main_arg35)
      ∧ m' ((c.tc : Thread Cert.Reference18Ideal.nD Cert.Reference18Ideal.τ).loc Cert.Reference18Ideal.main_arg36) = m ((c.tc : Thread Cert.Kernel18Ideal.nD Cert.Kernel18Ideal.τ).loc Cert.Kernel18Ideal.main_arg36)
      ∧ m' ((c.tc : Thread Cert.Reference18Ideal.nD Cert.Reference18Ideal.τ).loc Cert.Reference18Ideal.main_arg37) = m ((c.tc : Thread Cert.Kernel18Ideal.nD Cert.Kernel18Ideal.τ).loc Cert.Kernel18Ideal.main_arg37)
      ∧ m' ((c.tc : Thread Cert.Reference18Ideal.nD Cert.Reference18Ideal.τ).loc Cert.Reference18Ideal.main_arg38) = m ((c.tc : Thread Cert.Kernel18Ideal.nD Cert.Kernel18Ideal.τ).loc Cert.Kernel18Ideal.main_arg38)
      ∧ m' ((c.tc : Thread Cert.Reference18Ideal.nD Cert.Reference18Ideal.τ).loc Cert.Reference18Ideal.main_arg39) = m ((c.tc : Thread Cert.Kernel18Ideal.nD Cert.Kernel18Ideal.τ).loc Cert.Kernel18Ideal.main_arg39)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)) (v8 : (c : Dev Cert.Kernel18Ideal.nD) → Buf (Elt Ideal) ((c.tc : Thread Cert.Kernel18Ideal.nD Cert.Kernel18Ideal.τ).loc Cert.Kernel18Ideal.main_v0_8)) (v9 : (c : Dev Cert.Kernel18Ideal.nD) → Buf (Elt Ideal) ((c.tc : Thread Cert.Kernel18Ideal.nD Cert.Kernel18Ideal.τ).loc Cert.Kernel18Ideal.main_v0_9)) (v10 : (c : Dev Cert.Kernel18Ideal.nD) → Buf (Elt Ideal) ((c.tc : Thread Cert.Kernel18Ideal.nD Cert.Kernel18Ideal.τ).loc Cert.Kernel18Ideal.main_v0_10)) (v11 : (c : Dev Cert.Kernel18Ideal.nD) → Buf (Elt Ideal) ((c.tc : Thread Cert.Kernel18Ideal.nD Cert.Kernel18Ideal.τ).loc Cert.Kernel18Ideal.main_v0_11)) (v12 : (c : Dev Cert.Kernel18Ideal.nD) → Buf (Elt Ideal) ((c.tc : Thread Cert.Kernel18Ideal.nD Cert.Kernel18Ideal.τ).loc Cert.Kernel18Ideal.main_v0_12)) (v13 : (c : Dev Cert.Kernel18Ideal.nD) → Buf (Elt Ideal) ((c.tc : Thread Cert.Kernel18Ideal.nD Cert.Kernel18Ideal.τ).loc Cert.Kernel18Ideal.main_v0_13)) (v14 : (c : Dev Cert.Kernel18Ideal.nD) → Buf (Elt Ideal) ((c.tc : Thread Cert.Kernel18Ideal.nD Cert.Kernel18Ideal.τ).loc Cert.Kernel18Ideal.main_v0_14)) (v15 : (c : Dev Cert.Kernel18Ideal.nD) → Buf (Elt Ideal) ((c.tc : Thread Cert.Kernel18Ideal.nD Cert.Kernel18Ideal.τ).loc Cert.Kernel18Ideal.main_v0_15)) (v16 : (c : Dev Cert.Kernel18Ideal.nD) → Buf (Elt Ideal) ((c.tc : Thread Cert.Kernel18Ideal.nD Cert.Kernel18Ideal.τ).loc Cert.Kernel18Ideal.main_v0_16)) (v17 : (c : Dev Cert.Kernel18Ideal.nD) → Buf (Elt Ideal) ((c.tc : Thread Cert.Kernel18Ideal.nD Cert.Kernel18Ideal.τ).loc Cert.Kernel18Ideal.main_v0_17)) (v18 : (c : Dev Cert.Kernel18Ideal.nD) → Buf (Elt Ideal) ((c.tc : Thread Cert.Kernel18Ideal.nD Cert.Kernel18Ideal.τ).loc Cert.Kernel18Ideal.main_v0_18)) (v19 : (c : Dev Cert.Kernel18Ideal.nD) → Buf (Elt Ideal) ((c.tc : Thread Cert.Kernel18Ideal.nD Cert.Kernel18Ideal.τ).loc Cert.Kernel18Ideal.main_v0_19)) (v20 : (c : Dev Cert.Kernel18Ideal.nD) → Buf (Elt Ideal) ((c.tc : Thread Cert.Kernel18Ideal.nD Cert.Kernel18Ideal.τ).loc Cert.Kernel18Ideal.main_v0_20)) (v21 : (c : Dev Cert.Kernel18Ideal.nD) → Buf (Elt Ideal) ((c.tc : Thread Cert.Kernel18Ideal.nD Cert.Kernel18Ideal.τ).loc Cert.Kernel18Ideal.main_v0_21)) (v22 : (c : Dev Cert.Kernel18Ideal.nD) → Buf (Elt Ideal) ((c.tc : Thread Cert.Kernel18Ideal.nD Cert.Kernel18Ideal.τ).loc Cert.Kernel18Ideal.main_v0_22)) (v23 : (c : Dev Cert.Kernel18Ideal.nD) → Buf (Elt Ideal) ((c.tc : Thread Cert.Kernel18Ideal.nD Cert.Kernel18Ideal.τ).loc Cert.Kernel18Ideal.main_v0_23)) (v24 : (c : Dev Cert.Kernel18Ideal.nD) → Buf (Elt Ideal) ((c.tc : Thread Cert.Kernel18Ideal.nD Cert.Kernel18Ideal.τ).loc Cert.Kernel18Ideal.main_v0_24)) (v25 : (c : Dev Cert.Kernel18Ideal.nD) → Buf (Elt Ideal) ((c.tc : Thread Cert.Kernel18Ideal.nD Cert.Kernel18Ideal.τ).loc Cert.Kernel18Ideal.main_v0_25)) (v26 : (c : Dev Cert.Kernel18Ideal.nD) → Buf (Elt Ideal) ((c.tc : Thread Cert.Kernel18Ideal.nD Cert.Kernel18Ideal.τ).loc Cert.Kernel18Ideal.main_v0_26)) (v27 : (c : Dev Cert.Kernel18Ideal.nD) → Buf (Elt Ideal) ((c.tc : Thread Cert.Kernel18Ideal.nD Cert.Kernel18Ideal.τ).loc Cert.Kernel18Ideal.main_v0_27)) (v28 : (c : Dev Cert.Kernel18Ideal.nD) → Buf (Elt Ideal) ((c.tc : Thread Cert.Kernel18Ideal.nD Cert.Kernel18Ideal.τ).loc Cert.Kernel18Ideal.main_v0_28)) (v29 : (c : Dev Cert.Kernel18Ideal.nD) → Buf (Elt Ideal) ((c.tc : Thread Cert.Kernel18Ideal.nD Cert.Kernel18Ideal.τ).loc Cert.Kernel18Ideal.main_v0_29)) (v30 : (c : Dev Cert.Kernel18Ideal.nD) → Buf (Elt Ideal) ((c.tc : Thread Cert.Kernel18Ideal.nD Cert.Kernel18Ideal.τ).loc Cert.Kernel18Ideal.main_v0_30)) (v31 : (c : Dev Cert.Kernel18Ideal.nD) → Buf (Elt Ideal) ((c.tc : Thread Cert.Kernel18Ideal.nD Cert.Kernel18Ideal.τ).loc Cert.Kernel18Ideal.main_v0_31)) (v32 : (c : Dev Cert.Kernel18Ideal.nD) → Buf (Elt Ideal) ((c.tc : Thread Cert.Kernel18Ideal.nD Cert.Kernel18Ideal.τ).loc Cert.Kernel18Ideal.main_v0_32)) (v33 : (c : Dev Cert.Kernel18Ideal.nD) → Buf (Elt Ideal) ((c.tc : Thread Cert.Kernel18Ideal.nD Cert.Kernel18Ideal.τ).loc Cert.Kernel18Ideal.main_v0_33)) (v34 : (c : Dev Cert.Kernel18Ideal.nD) → Buf (Elt Ideal) ((c.tc : Thread Cert.Kernel18Ideal.nD Cert.Kernel18Ideal.τ).loc Cert.Kernel18Ideal.main_v0_34)) (v35 : (c : Dev Cert.Kernel18Ideal.nD) → Buf (Elt Ideal) ((c.tc : Thread Cert.Kernel18Ideal.nD Cert.Kernel18Ideal.τ).loc Cert.Kernel18Ideal.main_v0_35)) (v36 : (c : Dev Cert.Kernel18Ideal.nD) → Buf (Elt Ideal) ((c.tc : Thread Cert.Kernel18Ideal.nD Cert.Kernel18Ideal.τ).loc Cert.Kernel18Ideal.main_v0_36)) (v37 : (c : Dev Cert.Kernel18Ideal.nD) → Buf (Elt Ideal) ((c.tc : Thread Cert.Kernel18Ideal.nD Cert.Kernel18Ideal.τ).loc Cert.Kernel18Ideal.main_v0_37)) (v38 : (c : Dev Cert.Kernel18Ideal.nD) → Buf (Elt Ideal) ((c.tc : Thread Cert.Kernel18Ideal.nD Cert.Kernel18Ideal.τ).loc Cert.Kernel18Ideal.main_v0_38)) (v39 : (c : Dev Cert.Kernel18Ideal.nD) → Buf (Elt Ideal) ((c.tc : Thread Cert.Kernel18Ideal.nD Cert.Kernel18Ideal.τ).loc Cert.Kernel18Ideal.main_v0_39)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_v0_8) = v8 c
          ∧ r.2.mem ((c.tc : Thread Cert.Kernel18Ideal.nD Cert.Kernel18Ideal.τ).loc Cert.Kernel18Ideal.main_v0_9) = v9 c
          ∧ r.2.mem ((c.tc : Thread Cert.Kernel18Ideal.nD Cert.Kernel18Ideal.τ).loc Cert.Kernel18Ideal.main_v0_10) = v10 c
          ∧ r.2.mem ((c.tc : Thread Cert.Kernel18Ideal.nD Cert.Kernel18Ideal.τ).loc Cert.Kernel18Ideal.main_v0_11) = v11 c
          ∧ r.2.mem ((c.tc : Thread Cert.Kernel18Ideal.nD Cert.Kernel18Ideal.τ).loc Cert.Kernel18Ideal.main_v0_12) = v12 c
          ∧ r.2.mem ((c.tc : Thread Cert.Kernel18Ideal.nD Cert.Kernel18Ideal.τ).loc Cert.Kernel18Ideal.main_v0_13) = v13 c
          ∧ r.2.mem ((c.tc : Thread Cert.Kernel18Ideal.nD Cert.Kernel18Ideal.τ).loc Cert.Kernel18Ideal.main_v0_14) = v14 c
          ∧ r.2.mem ((c.tc : Thread Cert.Kernel18Ideal.nD Cert.Kernel18Ideal.τ).loc Cert.Kernel18Ideal.main_v0_15) = v15 c
          ∧ r.2.mem ((c.tc : Thread Cert.Kernel18Ideal.nD Cert.Kernel18Ideal.τ).loc Cert.Kernel18Ideal.main_v0_16) = v16 c
          ∧ r.2.mem ((c.tc : Thread Cert.Kernel18Ideal.nD Cert.Kernel18Ideal.τ).loc Cert.Kernel18Ideal.main_v0_17) = v17 c
          ∧ r.2.mem ((c.tc : Thread Cert.Kernel18Ideal.nD Cert.Kernel18Ideal.τ).loc Cert.Kernel18Ideal.main_v0_18) = v18 c
          ∧ r.2.mem ((c.tc : Thread Cert.Kernel18Ideal.nD Cert.Kernel18Ideal.τ).loc Cert.Kernel18Ideal.main_v0_19) = v19 c
          ∧ r.2.mem ((c.tc : Thread Cert.Kernel18Ideal.nD Cert.Kernel18Ideal.τ).loc Cert.Kernel18Ideal.main_v0_20) = v20 c
          ∧ r.2.mem ((c.tc : Thread Cert.Kernel18Ideal.nD Cert.Kernel18Ideal.τ).loc Cert.Kernel18Ideal.main_v0_21) = v21 c
          ∧ r.2.mem ((c.tc : Thread Cert.Kernel18Ideal.nD Cert.Kernel18Ideal.τ).loc Cert.Kernel18Ideal.main_v0_22) = v22 c
          ∧ r.2.mem ((c.tc : Thread Cert.Kernel18Ideal.nD Cert.Kernel18Ideal.τ).loc Cert.Kernel18Ideal.main_v0_23) = v23 c
          ∧ r.2.mem ((c.tc : Thread Cert.Kernel18Ideal.nD Cert.Kernel18Ideal.τ).loc Cert.Kernel18Ideal.main_v0_24) = v24 c
          ∧ r.2.mem ((c.tc : Thread Cert.Kernel18Ideal.nD Cert.Kernel18Ideal.τ).loc Cert.Kernel18Ideal.main_v0_25) = v25 c
          ∧ r.2.mem ((c.tc : Thread Cert.Kernel18Ideal.nD Cert.Kernel18Ideal.τ).loc Cert.Kernel18Ideal.main_v0_26) = v26 c
          ∧ r.2.mem ((c.tc : Thread Cert.Kernel18Ideal.nD Cert.Kernel18Ideal.τ).loc Cert.Kernel18Ideal.main_v0_27) = v27 c
          ∧ r.2.mem ((c.tc : Thread Cert.Kernel18Ideal.nD Cert.Kernel18Ideal.τ).loc Cert.Kernel18Ideal.main_v0_28) = v28 c
          ∧ r.2.mem ((c.tc : Thread Cert.Kernel18Ideal.nD Cert.Kernel18Ideal.τ).loc Cert.Kernel18Ideal.main_v0_29) = v29 c
          ∧ r.2.mem ((c.tc : Thread Cert.Kernel18Ideal.nD Cert.Kernel18Ideal.τ).loc Cert.Kernel18Ideal.main_v0_30) = v30 c
          ∧ r.2.mem ((c.tc : Thread Cert.Kernel18Ideal.nD Cert.Kernel18Ideal.τ).loc Cert.Kernel18Ideal.main_v0_31) = v31 c
          ∧ r.2.mem ((c.tc : Thread Cert.Kernel18Ideal.nD Cert.Kernel18Ideal.τ).loc Cert.Kernel18Ideal.main_v0_32) = v32 c
          ∧ r.2.mem ((c.tc : Thread Cert.Kernel18Ideal.nD Cert.Kernel18Ideal.τ).loc Cert.Kernel18Ideal.main_v0_33) = v33 c
          ∧ r.2.mem ((c.tc : Thread Cert.Kernel18Ideal.nD Cert.Kernel18Ideal.τ).loc Cert.Kernel18Ideal.main_v0_34) = v34 c
          ∧ r.2.mem ((c.tc : Thread Cert.Kernel18Ideal.nD Cert.Kernel18Ideal.τ).loc Cert.Kernel18Ideal.main_v0_35) = v35 c
          ∧ r.2.mem ((c.tc : Thread Cert.Kernel18Ideal.nD Cert.Kernel18Ideal.τ).loc Cert.Kernel18Ideal.main_v0_36) = v36 c
          ∧ r.2.mem ((c.tc : Thread Cert.Kernel18Ideal.nD Cert.Kernel18Ideal.τ).loc Cert.Kernel18Ideal.main_v0_37) = v37 c
          ∧ r.2.mem ((c.tc : Thread Cert.Kernel18Ideal.nD Cert.Kernel18Ideal.τ).loc Cert.Kernel18Ideal.main_v0_38) = v38 c
          ∧ r.2.mem ((c.tc : Thread Cert.Kernel18Ideal.nD Cert.Kernel18Ideal.τ).loc Cert.Kernel18Ideal.main_v0_39) = v39 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
          ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
          ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
          ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
          ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
          ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
          ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
          ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
          ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
          ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
          ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
          ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
          ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
          ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
          ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
          ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
          ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
          ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
          ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
          ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
          ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31)
          ∧ r.2.mem ((c.tc : Thread Cert.Kernel18Ideal.nD Cert.Kernel18Ideal.τ).loc Cert.Kernel18Ideal.main_arg32) = m ((c.tc : Thread Cert.Kernel18Ideal.nD Cert.Kernel18Ideal.τ).loc Cert.Kernel18Ideal.main_arg32)
          ∧ r.2.mem ((c.tc : Thread Cert.Kernel18Ideal.nD Cert.Kernel18Ideal.τ).loc Cert.Kernel18Ideal.main_arg33) = m ((c.tc : Thread Cert.Kernel18Ideal.nD Cert.Kernel18Ideal.τ).loc Cert.Kernel18Ideal.main_arg33)
          ∧ r.2.mem ((c.tc : Thread Cert.Kernel18Ideal.nD Cert.Kernel18Ideal.τ).loc Cert.Kernel18Ideal.main_arg34) = m ((c.tc : Thread Cert.Kernel18Ideal.nD Cert.Kernel18Ideal.τ).loc Cert.Kernel18Ideal.main_arg34)
          ∧ r.2.mem ((c.tc : Thread Cert.Kernel18Ideal.nD Cert.Kernel18Ideal.τ).loc Cert.Kernel18Ideal.main_arg35) = m ((c.tc : Thread Cert.Kernel18Ideal.nD Cert.Kernel18Ideal.τ).loc Cert.Kernel18Ideal.main_arg35)
          ∧ r.2.mem ((c.tc : Thread Cert.Kernel18Ideal.nD Cert.Kernel18Ideal.τ).loc Cert.Kernel18Ideal.main_arg36) = m ((c.tc : Thread Cert.Kernel18Ideal.nD Cert.Kernel18Ideal.τ).loc Cert.Kernel18Ideal.main_arg36)
          ∧ r.2.mem ((c.tc : Thread Cert.Kernel18Ideal.nD Cert.Kernel18Ideal.τ).loc Cert.Kernel18Ideal.main_arg37) = m ((c.tc : Thread Cert.Kernel18Ideal.nD Cert.Kernel18Ideal.τ).loc Cert.Kernel18Ideal.main_arg37)
          ∧ r.2.mem ((c.tc : Thread Cert.Kernel18Ideal.nD Cert.Kernel18Ideal.τ).loc Cert.Kernel18Ideal.main_arg38) = m ((c.tc : Thread Cert.Kernel18Ideal.nD Cert.Kernel18Ideal.τ).loc Cert.Kernel18Ideal.main_arg38)
          ∧ r.2.mem ((c.tc : Thread Cert.Kernel18Ideal.nD Cert.Kernel18Ideal.τ).loc Cert.Kernel18Ideal.main_arg39) = m ((c.tc : Thread Cert.Kernel18Ideal.nD Cert.Kernel18Ideal.τ).loc Cert.Kernel18Ideal.main_arg39))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_v25) = v4 c
          ∧ r.2.mem ((c.tc : Thread Cert.Reference18Ideal.nD Cert.Reference18Ideal.τ).loc Cert.Reference18Ideal.main_v49) = v5 c
          ∧ r.2.mem ((c.tc : Thread Cert.Reference18Ideal.nD Cert.Reference18Ideal.τ).loc Cert.Reference18Ideal.main_v30) = v6 c
          ∧ r.2.mem ((c.tc : Thread Cert.Reference18Ideal.nD Cert.Reference18Ideal.τ).loc Cert.Reference18Ideal.main_v36) = v7 c
          ∧ r.2.mem ((c.tc : Thread Cert.Reference18Ideal.nD Cert.Reference18Ideal.τ).loc Cert.Reference18Ideal.main_v50) = v8 c
          ∧ r.2.mem ((c.tc : Thread Cert.Reference18Ideal.nD Cert.Reference18Ideal.τ).loc Cert.Reference18Ideal.main_v74) = v9 c
          ∧ r.2.mem ((c.tc : Thread Cert.Reference18Ideal.nD Cert.Reference18Ideal.τ).loc Cert.Reference18Ideal.main_v55) = v10 c
          ∧ r.2.mem ((c.tc : Thread Cert.Reference18Ideal.nD Cert.Reference18Ideal.τ).loc Cert.Reference18Ideal.main_v61) = v11 c
          ∧ r.2.mem ((c.tc : Thread Cert.Reference18Ideal.nD Cert.Reference18Ideal.τ).loc Cert.Reference18Ideal.main_v75) = v12 c
          ∧ r.2.mem ((c.tc : Thread Cert.Reference18Ideal.nD Cert.Reference18Ideal.τ).loc Cert.Reference18Ideal.main_v99) = v13 c
          ∧ r.2.mem ((c.tc : Thread Cert.Reference18Ideal.nD Cert.Reference18Ideal.τ).loc Cert.Reference18Ideal.main_v80) = v14 c
          ∧ r.2.mem ((c.tc : Thread Cert.Reference18Ideal.nD Cert.Reference18Ideal.τ).loc Cert.Reference18Ideal.main_v86) = v15 c
          ∧ r.2.mem ((c.tc : Thread Cert.Reference18Ideal.nD Cert.Reference18Ideal.τ).loc Cert.Reference18Ideal.main_v100) = v16 c
          ∧ r.2.mem ((c.tc : Thread Cert.Reference18Ideal.nD Cert.Reference18Ideal.τ).loc Cert.Reference18Ideal.main_v124) = v17 c
          ∧ r.2.mem ((c.tc : Thread Cert.Reference18Ideal.nD Cert.Reference18Ideal.τ).loc Cert.Reference18Ideal.main_v105) = v18 c
          ∧ r.2.mem ((c.tc : Thread Cert.Reference18Ideal.nD Cert.Reference18Ideal.τ).loc Cert.Reference18Ideal.main_v111) = v19 c
          ∧ r.2.mem ((c.tc : Thread Cert.Reference18Ideal.nD Cert.Reference18Ideal.τ).loc Cert.Reference18Ideal.main_v125) = v20 c
          ∧ r.2.mem ((c.tc : Thread Cert.Reference18Ideal.nD Cert.Reference18Ideal.τ).loc Cert.Reference18Ideal.main_v149) = v21 c
          ∧ r.2.mem ((c.tc : Thread Cert.Reference18Ideal.nD Cert.Reference18Ideal.τ).loc Cert.Reference18Ideal.main_v130) = v22 c
          ∧ r.2.mem ((c.tc : Thread Cert.Reference18Ideal.nD Cert.Reference18Ideal.τ).loc Cert.Reference18Ideal.main_v136) = v23 c
          ∧ r.2.mem ((c.tc : Thread Cert.Reference18Ideal.nD Cert.Reference18Ideal.τ).loc Cert.Reference18Ideal.main_v150) = v24 c
          ∧ r.2.mem ((c.tc : Thread Cert.Reference18Ideal.nD Cert.Reference18Ideal.τ).loc Cert.Reference18Ideal.main_v174) = v25 c
          ∧ r.2.mem ((c.tc : Thread Cert.Reference18Ideal.nD Cert.Reference18Ideal.τ).loc Cert.Reference18Ideal.main_v155) = v26 c
          ∧ r.2.mem ((c.tc : Thread Cert.Reference18Ideal.nD Cert.Reference18Ideal.τ).loc Cert.Reference18Ideal.main_v161) = v27 c
          ∧ r.2.mem ((c.tc : Thread Cert.Reference18Ideal.nD Cert.Reference18Ideal.τ).loc Cert.Reference18Ideal.main_v175) = v28 c
          ∧ r.2.mem ((c.tc : Thread Cert.Reference18Ideal.nD Cert.Reference18Ideal.τ).loc Cert.Reference18Ideal.main_v199) = v29 c
          ∧ r.2.mem ((c.tc : Thread Cert.Reference18Ideal.nD Cert.Reference18Ideal.τ).loc Cert.Reference18Ideal.main_v180) = v30 c
          ∧ r.2.mem ((c.tc : Thread Cert.Reference18Ideal.nD Cert.Reference18Ideal.τ).loc Cert.Reference18Ideal.main_v186) = v31 c
          ∧ r.2.mem ((c.tc : Thread Cert.Reference18Ideal.nD Cert.Reference18Ideal.τ).loc Cert.Reference18Ideal.main_v200) = v32 c
          ∧ r.2.mem ((c.tc : Thread Cert.Reference18Ideal.nD Cert.Reference18Ideal.τ).loc Cert.Reference18Ideal.main_v224) = v33 c
          ∧ r.2.mem ((c.tc : Thread Cert.Reference18Ideal.nD Cert.Reference18Ideal.τ).loc Cert.Reference18Ideal.main_v205) = v34 c
          ∧ r.2.mem ((c.tc : Thread Cert.Reference18Ideal.nD Cert.Reference18Ideal.τ).loc Cert.Reference18Ideal.main_v211) = v35 c
          ∧ r.2.mem ((c.tc : Thread Cert.Reference18Ideal.nD Cert.Reference18Ideal.τ).loc Cert.Reference18Ideal.main_v225) = v36 c
          ∧ r.2.mem ((c.tc : Thread Cert.Reference18Ideal.nD Cert.Reference18Ideal.τ).loc Cert.Reference18Ideal.main_v249) = v37 c
          ∧ r.2.mem ((c.tc : Thread Cert.Reference18Ideal.nD Cert.Reference18Ideal.τ).loc Cert.Reference18Ideal.main_v230) = v38 c
          ∧ r.2.mem ((c.tc : Thread Cert.Reference18Ideal.nD Cert.Reference18Ideal.τ).loc Cert.Reference18Ideal.main_v236) = v39 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11)
          ∧ r.2.mem ((c.tc : Thread Cert.Reference18Ideal.nD Cert.Reference18Ideal.τ).loc Cert.Reference18Ideal.main_arg12) = m' ((c.tc : Thread Cert.Reference18Ideal.nD Cert.Reference18Ideal.τ).loc Cert.Reference18Ideal.main_arg12)
          ∧ r.2.mem ((c.tc : Thread Cert.Reference18Ideal.nD Cert.Reference18Ideal.τ).loc Cert.Reference18Ideal.main_arg13) = m' ((c.tc : Thread Cert.Reference18Ideal.nD Cert.Reference18Ideal.τ).loc Cert.Reference18Ideal.main_arg13)
          ∧ r.2.mem ((c.tc : Thread Cert.Reference18Ideal.nD Cert.Reference18Ideal.τ).loc Cert.Reference18Ideal.main_arg14) = m' ((c.tc : Thread Cert.Reference18Ideal.nD Cert.Reference18Ideal.τ).loc Cert.Reference18Ideal.main_arg14)
          ∧ r.2.mem ((c.tc : Thread Cert.Reference18Ideal.nD Cert.Reference18Ideal.τ).loc Cert.Reference18Ideal.main_arg15) = m' ((c.tc : Thread Cert.Reference18Ideal.nD Cert.Reference18Ideal.τ).loc Cert.Reference18Ideal.main_arg15)
          ∧ r.2.mem ((c.tc : Thread Cert.Reference18Ideal.nD Cert.Reference18Ideal.τ).loc Cert.Reference18Ideal.main_arg16) = m' ((c.tc : Thread Cert.Reference18Ideal.nD Cert.Reference18Ideal.τ).loc Cert.Reference18Ideal.main_arg16)
          ∧ r.2.mem ((c.tc : Thread Cert.Reference18Ideal.nD Cert.Reference18Ideal.τ).loc Cert.Reference18Ideal.main_arg17) = m' ((c.tc : Thread Cert.Reference18Ideal.nD Cert.Reference18Ideal.τ).loc Cert.Reference18Ideal.main_arg17)
          ∧ r.2.mem ((c.tc : Thread Cert.Reference18Ideal.nD Cert.Reference18Ideal.τ).loc Cert.Reference18Ideal.main_arg18) = m' ((c.tc : Thread Cert.Reference18Ideal.nD Cert.Reference18Ideal.τ).loc Cert.Reference18Ideal.main_arg18)
          ∧ r.2.mem ((c.tc : Thread Cert.Reference18Ideal.nD Cert.Reference18Ideal.τ).loc Cert.Reference18Ideal.main_arg19) = m' ((c.tc : Thread Cert.Reference18Ideal.nD Cert.Reference18Ideal.τ).loc Cert.Reference18Ideal.main_arg19)
          ∧ r.2.mem ((c.tc : Thread Cert.Reference18Ideal.nD Cert.Reference18Ideal.τ).loc Cert.Reference18Ideal.main_arg20) = m' ((c.tc : Thread Cert.Reference18Ideal.nD Cert.Reference18Ideal.τ).loc Cert.Reference18Ideal.main_arg20)
          ∧ r.2.mem ((c.tc : Thread Cert.Reference18Ideal.nD Cert.Reference18Ideal.τ).loc Cert.Reference18Ideal.main_arg21) = m' ((c.tc : Thread Cert.Reference18Ideal.nD Cert.Reference18Ideal.τ).loc Cert.Reference18Ideal.main_arg21)
          ∧ r.2.mem ((c.tc : Thread Cert.Reference18Ideal.nD Cert.Reference18Ideal.τ).loc Cert.Reference18Ideal.main_arg22) = m' ((c.tc : Thread Cert.Reference18Ideal.nD Cert.Reference18Ideal.τ).loc Cert.Reference18Ideal.main_arg22)
          ∧ r.2.mem ((c.tc : Thread Cert.Reference18Ideal.nD Cert.Reference18Ideal.τ).loc Cert.Reference18Ideal.main_arg23) = m' ((c.tc : Thread Cert.Reference18Ideal.nD Cert.Reference18Ideal.τ).loc Cert.Reference18Ideal.main_arg23)
          ∧ r.2.mem ((c.tc : Thread Cert.Reference18Ideal.nD Cert.Reference18Ideal.τ).loc Cert.Reference18Ideal.main_arg24) = m' ((c.tc : Thread Cert.Reference18Ideal.nD Cert.Reference18Ideal.τ).loc Cert.Reference18Ideal.main_arg24)
          ∧ r.2.mem ((c.tc : Thread Cert.Reference18Ideal.nD Cert.Reference18Ideal.τ).loc Cert.Reference18Ideal.main_arg25) = m' ((c.tc : Thread Cert.Reference18Ideal.nD Cert.Reference18Ideal.τ).loc Cert.Reference18Ideal.main_arg25)
          ∧ r.2.mem ((c.tc : Thread Cert.Reference18Ideal.nD Cert.Reference18Ideal.τ).loc Cert.Reference18Ideal.main_arg26) = m' ((c.tc : Thread Cert.Reference18Ideal.nD Cert.Reference18Ideal.τ).loc Cert.Reference18Ideal.main_arg26)
          ∧ r.2.mem ((c.tc : Thread Cert.Reference18Ideal.nD Cert.Reference18Ideal.τ).loc Cert.Reference18Ideal.main_arg27) = m' ((c.tc : Thread Cert.Reference18Ideal.nD Cert.Reference18Ideal.τ).loc Cert.Reference18Ideal.main_arg27)
          ∧ r.2.mem ((c.tc : Thread Cert.Reference18Ideal.nD Cert.Reference18Ideal.τ).loc Cert.Reference18Ideal.main_arg28) = m' ((c.tc : Thread Cert.Reference18Ideal.nD Cert.Reference18Ideal.τ).loc Cert.Reference18Ideal.main_arg28)
          ∧ r.2.mem ((c.tc : Thread Cert.Reference18Ideal.nD Cert.Reference18Ideal.τ).loc Cert.Reference18Ideal.main_arg29) = m' ((c.tc : Thread Cert.Reference18Ideal.nD Cert.Reference18Ideal.τ).loc Cert.Reference18Ideal.main_arg29)
          ∧ r.2.mem ((c.tc : Thread Cert.Reference18Ideal.nD Cert.Reference18Ideal.τ).loc Cert.Reference18Ideal.main_arg30) = m' ((c.tc : Thread Cert.Reference18Ideal.nD Cert.Reference18Ideal.τ).loc Cert.Reference18Ideal.main_arg30)
          ∧ r.2.mem ((c.tc : Thread Cert.Reference18Ideal.nD Cert.Reference18Ideal.τ).loc Cert.Reference18Ideal.main_arg31) = m' ((c.tc : Thread Cert.Reference18Ideal.nD Cert.Reference18Ideal.τ).loc Cert.Reference18Ideal.main_arg31)
          ∧ r.2.mem ((c.tc : Thread Cert.Reference18Ideal.nD Cert.Reference18Ideal.τ).loc Cert.Reference18Ideal.main_arg32) = m' ((c.tc : Thread Cert.Reference18Ideal.nD Cert.Reference18Ideal.τ).loc Cert.Reference18Ideal.main_arg32)
          ∧ r.2.mem ((c.tc : Thread Cert.Reference18Ideal.nD Cert.Reference18Ideal.τ).loc Cert.Reference18Ideal.main_arg33) = m' ((c.tc : Thread Cert.Reference18Ideal.nD Cert.Reference18Ideal.τ).loc Cert.Reference18Ideal.main_arg33)
          ∧ r.2.mem ((c.tc : Thread Cert.Reference18Ideal.nD Cert.Reference18Ideal.τ).loc Cert.Reference18Ideal.main_arg34) = m' ((c.tc : Thread Cert.Reference18Ideal.nD Cert.Reference18Ideal.τ).loc Cert.Reference18Ideal.main_arg34)
          ∧ r.2.mem ((c.tc : Thread Cert.Reference18Ideal.nD Cert.Reference18Ideal.τ).loc Cert.Reference18Ideal.main_arg35) = m' ((c.tc : Thread Cert.Reference18Ideal.nD Cert.Reference18Ideal.τ).loc Cert.Reference18Ideal.main_arg35)
          ∧ r.2.mem ((c.tc : Thread Cert.Reference18Ideal.nD Cert.Reference18Ideal.τ).loc Cert.Reference18Ideal.main_arg36) = m' ((c.tc : Thread Cert.Reference18Ideal.nD Cert.Reference18Ideal.τ).loc Cert.Reference18Ideal.main_arg36)
          ∧ r.2.mem ((c.tc : Thread Cert.Reference18Ideal.nD Cert.Reference18Ideal.τ).loc Cert.Reference18Ideal.main_arg37) = m' ((c.tc : Thread Cert.Reference18Ideal.nD Cert.Reference18Ideal.τ).loc Cert.Reference18Ideal.main_arg37)
          ∧ r.2.mem ((c.tc : Thread Cert.Reference18Ideal.nD Cert.Reference18Ideal.τ).loc Cert.Reference18Ideal.main_arg38) = m' ((c.tc : Thread Cert.Reference18Ideal.nD Cert.Reference18Ideal.τ).loc Cert.Reference18Ideal.main_arg38)
          ∧ r.2.mem ((c.tc : Thread Cert.Reference18Ideal.nD Cert.Reference18Ideal.τ).loc Cert.Reference18Ideal.main_arg39) = m' ((c.tc : Thread Cert.Reference18Ideal.nD Cert.Reference18Ideal.τ).loc Cert.Reference18Ideal.main_arg39))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S4x256x256 : S_.BroadcastsInDim S4x256x256 (![] : Fin 0 → Fin S4x256x256.rank)

variable [Facts]

def fn {F : FTy → Type} [FloatOps F] (main_arg0 : FVec F S4096x1024 .f32) (main_arg1 : FVec F S1x1024 .f32) (main_arg2 : FVec F S4x256x256 .f32) (main_arg3 : FVec F S1x1024 .f32) (main_arg4 : FVec F S4096x1024 .f32) : IVec S4096x1024 1 × IVec S1x1024 1 × IVec S4x256x256 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S2x256 : Shape := ⟨2, ![2, 256]⟩
abbrev S4094x256 : Shape := ⟨2, ![4094, 256]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4096x1x256 : Shape := ⟨3, ![4096, 1, 256]⟩
abbrev S4096x4x256 : Shape := ⟨3, ![4096, 4, 256]⟩
abbrev S4x256x4096 : Shape := ⟨3, ![4, 256, 4096]⟩
abbrev S512x1024 : Shape := ⟨2, ![512, 1024]⟩
abbrev S32x1024 : Shape := ⟨2, ![32, 1024]⟩
abbrev S544x1024 : Shape := ⟨2, ![544, 1024]⟩
abbrev S1024 : Shape := ⟨1, ![1024]⟩
abbrev S512x256 : Shape := ⟨2, ![512, 256]⟩
abbrev S1x256 : Shape := ⟨2, ![1, 256]⟩
abbrev S1x256x256 : Shape := ⟨3, ![1, 256, 256]⟩
abbrev S256x256 : Shape := ⟨2, ![256, 256]⟩
abbrev S512x1 : Shape := ⟨2, ![512, 1]⟩
abbrev S32x256 : Shape := ⟨2, ![32, 256]⟩
abbrev S32x1 : Shape := ⟨2, ![32, 1]⟩
abbrev S8x1024 : Shape := ⟨2, ![8, 1024]⟩
abbrev S536x256 : Shape := ⟨2, ![536, 256]⟩
abbrev S512 : Shape := ⟨1, ![512]⟩

abbrev nBuf : Space → Nat
  | .hbm => 95
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x256x256, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S_, .f32⟩
  | .hbm, ⟨22, _⟩ => ⟨S4096x1024, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096x1, .f32⟩
  | .hbm, ⟨28, _⟩ => ⟨S4096x256, .f32⟩
  | .hbm, ⟨29, _⟩ => ⟨S_, .f32⟩
  | .hbm, ⟨30, _⟩ => ⟨S2x256, .f32⟩
  | .hbm, ⟨31, _⟩ => ⟨S4094x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4x256, .f32⟩
  | .hbm, ⟨44, _⟩ => ⟨S4092x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S8x256, .f32⟩
  | .hbm, ⟨57, _⟩ => ⟨S4088x256, .f32⟩
  | .hbm, ⟨58, _⟩ => ⟨S4096x256, .f32⟩
  | .hbm, ⟨59, _⟩ => ⟨S4096x256, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S16x256, .f32⟩
  | .hbm, ⟨70, _⟩ => ⟨S4080x256, .f32⟩
  | .hbm, ⟨71, _⟩ => ⟨S4096x256, .f32⟩
  | .hbm, ⟨72, _⟩ => ⟨S4096x256, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x1x256, .f32⟩
  | .hbm, ⟨81, _⟩ => ⟨S4096x1x256, .f32⟩
  | .hbm, ⟨82, _⟩ => ⟨S4096x1x256, .f32⟩
  | .hbm, ⟨83, _⟩ => ⟨S4096x1x256, .f32⟩
  | .hbm, ⟨84, _⟩ => ⟨S4096x4x256, .f32⟩
  | .hbm, ⟨85, _⟩ => ⟨S4x256x4096, .f32⟩
  | .hbm, ⟨86, _⟩ => ⟨S4096x4x256, .f32⟩
  | .hbm, ⟨87, _⟩ => ⟨S4096x1024, .f32⟩
  | .hbm, ⟨88, _⟩ => ⟨S4096x1024, .bf16⟩
  | .hbm, ⟨89, _⟩ => ⟨S4x256x256, .bf16⟩
  | .hbm, ⟨90, _⟩ => ⟨S4096x1024, .f32⟩
  | .hbm, ⟨91, _⟩ => ⟨S4096x1024, .bf16⟩
  | .hbm, ⟨92, _⟩ => ⟨S1x1024, .f32⟩
  | .hbm, ⟨93, _⟩ => ⟨S4096x1024, .bf16⟩
  | .hbm, ⟨94, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S544x1024, .f32⟩
  | .local _ .vmem, ⟨20, _⟩ => ⟨S512x1024, .f32⟩
  | .local _ .vmem, ⟨21, _⟩ => ⟨S544x1024, .f32⟩
  | .local _ .vmem, ⟨22, _⟩ => ⟨S544x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_cst : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71_0 : Ref sig .tc := ⟨.hbm, 90, rfl⟩
abbrev main_v71_1 : Ref sig .tc := ⟨.hbm, 91, rfl⟩
abbrev main_v71_2 : Ref sig .tc := ⟨.hbm, 92, rfl⟩
abbrev main_v71_3 : Ref sig .tc := ⟨.hbm, 93, rfl⟩
abbrev main_v71_4 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1x1024 : Shape := ⟨2, ![1, 1024]⟩
abbrev S4x256x256 : Shape := ⟨3, ![4, 256, 256]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S2x256 : Shape := ⟨2, ![2, 256]⟩
abbrev S4094x256 : Shape := ⟨2, ![4094, 256]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4096x1x256 : Shape := ⟨3, ![4096, 1, 256]⟩
abbrev S4096x4x256 : Shape := ⟨3, ![4096, 4, 256]⟩
abbrev S4x256x4096 : Shape := ⟨3, ![4, 256, 4096]⟩
abbrev S1024 : Shape := ⟨1, ![1024]⟩
abbrev S4x4096x256 : Shape := ⟨3, ![4, 4096, 256]⟩

abbrev nBuf : Space → Nat
  | .hbm => 214
  | .vmem => 0
  | .smem => 0
  | _ => 0

abbrev hbmTy0_0 (i : Nat) : BufTy := match i % 128 with
  | 0 => ⟨S4096x1024, .f32⟩
  | 1 => ⟨S1x1024, .f32⟩
  | 2 => ⟨S4x256x256, .f32⟩
  | 3 => ⟨S1x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S_, .f32⟩
  | 26 => ⟨S4096x1024, .f32⟩
  | 27 => ⟨S4096, .f32⟩
  | 28 => ⟨S_, .f32⟩
  | 29 => ⟨S4096, .f32⟩
  | 30 => ⟨S4096, .f32⟩
  | 31 => ⟨S4096x1, .f32⟩
  | 32 => ⟨S4096x256, .f32⟩
  | 33 => ⟨S_, .f32⟩
  | 34 => ⟨S2x256, .f32⟩
  | 35 => ⟨S4094x256, .f32⟩
  | 36 => ⟨S4096x256, .f32⟩
  | 37 => ⟨S_, .f32⟩
  | 38 => ⟨S2x256, .f32⟩
  | 39 => ⟨S4096x256, .f32⟩
  | 40 => ⟨S_, .f32⟩
  | 41 => ⟨S4096x1, .f32⟩
  | 42 => ⟨S4096x1, .f32⟩
  | 43 => ⟨S4096x256, .f32⟩
  | 44 => ⟨S4096x256, .f32⟩
  | 45 => ⟨S4096x256, .f32⟩
  | 46 => ⟨S4096x256, .f32⟩
  | 47 => ⟨S4096x256, .f32⟩
  | 48 => ⟨S_, .f32⟩
  | 49 => ⟨S4x256, .f32⟩
  | 50 => ⟨S4092x256, .f32⟩
  | 51 => ⟨S4096x256, .f32⟩
  | 52 => ⟨S_, .f32⟩
  | 53 => ⟨S4x256, .f32⟩
  | 54 => ⟨S4096x256, .f32⟩
  | 55 => ⟨S_, .f32⟩
  | 56 => ⟨S4096x1, .f32⟩
  | 57 => ⟨S4096x1, .f32⟩
  | 58 => ⟨S4096x256, .f32⟩
  | 59 => ⟨S4096x256, .f32⟩
  | 60 => ⟨S4096x256, .f32⟩
  | 61 => ⟨S4096x256, .f32⟩
  | 62 => ⟨S4096x256, .f32⟩
  | 63 => ⟨S_, .f32⟩
  | 64 => ⟨S8x256, .f32⟩
  | 65 => ⟨S4088x256, .f32⟩
  | 66 => ⟨S4096x256, .f32⟩
  | 67 => ⟨S_, .f32⟩
  | 68 => ⟨S8x256, .f32⟩
  | 69 => ⟨S4096x256, .f32⟩
  | 70 => ⟨S_, .f32⟩
  | 71 => ⟨S4096x1, .f32⟩
  | 72 => ⟨S4096x1, .f32⟩
  | 73 => ⟨S4096x256, .f32⟩
  | 74 => ⟨S4096x256, .f32⟩
  | 75 => ⟨S4096x256, .f32⟩
  | 76 => ⟨S4096x256, .f32⟩
  | 77 => ⟨S4096x256, .f32⟩
  | 78 => ⟨S_, .f32⟩
  | 79 => ⟨S16x256, .f32⟩
  | 80 => ⟨S4080x256, .f32⟩
  | 81 => ⟨S4096x256, .f32⟩
  | 82 => ⟨S_, .f32⟩
  | 83 => ⟨S16x256, .f32⟩
  | 84 => ⟨S4096x256, .f32⟩
  | 85 => ⟨S_, .f32⟩
  | 86 => ⟨S4096x1, .f32⟩
  | 87 => ⟨S4096x1, .f32⟩
  | 88 => ⟨S4096x256, .f32⟩
  | 89 => ⟨S4096x256, .f32⟩
  | 90 => ⟨S4096x256, .f32⟩
  | 91 => ⟨S4096x256, .f32⟩
  | 92 => ⟨S4096x1x256, .f32⟩
  | 93 => ⟨S4096x1x256, .f32⟩
  | 94 => ⟨S4096x1x256, .f32⟩
  | 95 => ⟨S4096x1x256, .f32⟩
  | 96 => ⟨S4096x4x256, .f32⟩
  | 97 => ⟨S4x256x4096, .f32⟩
  | 98 => ⟨S4096x4x256, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S4096x4x256, .f32⟩
  | 111 => ⟨S4x256x4096, .f32⟩
  | 112 => ⟨S4x4096x256, .f32⟩
  | 113 => ⟨S4096x4x256, .f32⟩
  | 114 => ⟨S4x256x256, .f32⟩
  | 115 => ⟨S4x256x256, .f32⟩
  | 116 => ⟨S4096x1x256, .f32⟩
  | 117 => ⟨S4096x256, .f32⟩
  | 118 => ⟨S4096x1x256, .f32⟩
  | 119 => ⟨S4096x256, .f32⟩
  | 120 => ⟨S4096x1x256, .f32⟩
  | 121 => ⟨S4096x256, .f32⟩
  | 122 => ⟨S4096x1x256, .f32⟩
  | 123 => ⟨S4096x256, .f32⟩
  | 124 => ⟨S4096x256, .f32⟩
  | 125 => ⟨S_, .f32⟩
  | 126 => ⟨S4096x1024, .f32⟩
  | 127 => ⟨S4096x256, .f32⟩
  | _ => ⟨S4096x1024, .f32⟩

abbrev hbmTy0_1 (i : Nat) : BufTy := match i % 128 with
  | 0 => ⟨S4096x256, .f32⟩
  | 1 => ⟨S4096x256, .f32⟩
  | 2 => ⟨S16x256, .f32⟩
  | 3 => ⟨S4080x256, .f32⟩
  | 4 => ⟨S_, .f32⟩
  | 5 => ⟨S4096x256, .f32⟩
  | 6 => ⟨S4096x256, .f32⟩
  | 7 => ⟨S_, .f32⟩
  | 8 => ⟨S4096x1024, .f32⟩
  | 9 => ⟨S4096x256, .f32⟩
  | 10 => ⟨S_, .f32⟩
  | 11 => ⟨S4096x1024, .f32⟩
  | 12 => ⟨S4096x1024, .f32⟩
  | 13 => ⟨S4096x256, .f32⟩
  | 14 => ⟨S4096x256, .f32⟩
  | 15 => ⟨S4096x256, .f32⟩
  | 16 => ⟨S8x256, .f32⟩
  | 17 => ⟨S4088x256, .f32⟩
  | 18 => ⟨S_, .f32⟩
  | 19 => ⟨S4096x256, .f32⟩
  | 20 => ⟨S4096x256, .f32⟩
  | 21 => ⟨S_, .f32⟩
  | 22 => ⟨S4096x1024, .f32⟩
  | 23 => ⟨S4096x1024, .f32⟩
  | 24 => ⟨S4096x256, .f32⟩
  | 25 => ⟨S_, .f32⟩
  | 26 => ⟨S4096x1024, .f32⟩
  | 27 => ⟨S4096x1024, .f32⟩
  | 28 => ⟨S4096x256, .f32⟩
  | 29 => ⟨S4096x256, .f32⟩
  | 30 => ⟨S4096x256, .f32⟩
  | 31 => ⟨S4x256, .f32⟩
  | 32 => ⟨S4092x256, .f32⟩
  | 33 => ⟨S_, .f32⟩
  | 34 => ⟨S4096x256, .f32⟩
  | 35 => ⟨S4096x256, .f32⟩
  | 36 => ⟨S_, .f32⟩
  | 37 => ⟨S4096x1024, .f32⟩
  | 38 => ⟨S4096x1024, .f32⟩
  | 39 => ⟨S4096x256, .f32⟩
  | 40 => ⟨S_, .f32⟩
  | 41 => ⟨S4096x1024, .f32⟩
  | 42 => ⟨S4096x1024, .f32⟩
  | 43 => ⟨S4096x256, .f32⟩
  | 44 => ⟨S4096x256, .f32⟩
  | 45 => ⟨S4096x256, .f32⟩
  | 46 => ⟨S2x256, .f32⟩
  | 47 => ⟨S4094x256, .f32⟩
  | 48 => ⟨S_, .f32⟩
  | 49 => ⟨S4096x256, .f32⟩
  | 50 => ⟨S4096x256, .f32⟩
  | 51 => ⟨S_, .f32⟩
  | 52 => ⟨S4096x1024, .f32⟩
  | 53 => ⟨S4096x1024, .f32⟩
  | 54 => ⟨S_, .f32⟩
  | 55 => ⟨S_, .f32⟩
  | 56 => ⟨S4096x1024, .f32⟩
  | 57 => ⟨S4096x1024, .f32⟩
  | 58 => ⟨S4096x1024, .f32⟩
  | 59 => ⟨S_, .f32⟩
  | 60 => ⟨S1024, .f32⟩
  | 61 => ⟨S1x1024, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S4096x1024, .f32⟩
  | 69 => ⟨S4096x1024, .f32⟩
  | 70 => ⟨S4096x1024, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .bf16⟩
  | 85 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_call0_cst : Ref sig .tc := ⟨.hbm, 24, rfl⟩
abbrev main_call0_call0_v0 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_16 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_17 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_18 : Ref sig .tc := ⟨.hbm, 132, rfl⟩
abbrev main_v106 : Ref sig .tc := ⟨.hbm, 133, rfl⟩
abbrev main_v107 : Ref sig .tc := ⟨.hbm, 134, rfl⟩
abbrev main_cst_19 : Ref sig .tc := ⟨.hbm, 135, rfl⟩
abbrev main_v108 : Ref sig .tc := ⟨.hbm, 136, rfl⟩
abbrev main_v109 : Ref sig .tc := ⟨.hbm, 137, rfl⟩
abbrev main_cst_20 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_21 : Ref sig .tc := ⟨.hbm, 146, rfl⟩
abbrev main_v117 : Ref sig .tc := ⟨.hbm, 147, rfl⟩
abbrev main_v118 : Ref sig .tc := ⟨.hbm, 148, rfl⟩
abbrev main_cst_22 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_24 : Ref sig .tc := ⟨.hbm, 161, rfl⟩
abbrev main_v129 : Ref sig .tc := ⟨.hbm, 162, rfl⟩
abbrev main_v130 : Ref sig .tc := ⟨.hbm, 163, rfl⟩
abbrev main_cst_25 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_26 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_27 : Ref sig .tc := ⟨.hbm, 176, rfl⟩
abbrev main_v141 : Ref sig .tc := ⟨.hbm, 177, rfl⟩
abbrev main_v142 : Ref sig .tc := ⟨.hbm, 178, rfl⟩
abbrev main_cst_28 : Ref sig .tc := ⟨.hbm, 179, rfl⟩
abbrev main_v143 : Ref sig .tc := ⟨.hbm, 180, rfl⟩
abbrev main_v144 : Ref sig .tc := ⟨.hbm, 181, rfl⟩
abbrev main_call1_call0_cst : Ref sig .tc := ⟨.hbm, 182, rfl⟩
abbrev main_call1_call0_v0 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_29 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_30 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_31 : Ref sig .tc := ⟨.hbm, 200, rfl⟩
abbrev main_v159 : Ref sig .tc := ⟨.hbm, 201, rfl⟩
abbrev main_v160 : Ref sig .tc := ⟨.hbm, 202, rfl⟩
abbrev main_cst_32 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S4096x8x704 : Shape := ⟨3, ![4096, 8, 704]⟩
abbrev S8x4096x704 : Shape := ⟨3, ![8, 4096, 704]⟩
abbrev S4x4096x704 : Shape := ⟨3, ![4, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 26
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x8x704, .f32⟩
  | .hbm, ⟨21, _⟩ => ⟨S8x4096x704, .f32⟩
  | .hbm, ⟨22, _⟩ => ⟨S8x4096x704, .bf16⟩
  | .hbm, ⟨23, _⟩ => ⟨S4x4096x704, .bf16⟩
  | .hbm, ⟨24, _⟩ => ⟨S4x4096x704, .bf16⟩
  | .hbm, ⟨25, _⟩ => ⟨S8x704x1024, .bf16⟩
  | .local _ .vmem, ⟨0, _⟩ => ⟨S4096x1024, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x4096x704, .bf16⟩
  | .local _ .vmem, ⟨5, _⟩ => ⟨S1x704x1024, .bf16⟩
  | .local _ .vmem, ⟨6, _⟩ => ⟨S1x704x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S5632x1024 : Shape := ⟨2, ![5632, 1024]⟩
abbrev S8x704x1024 : Shape := ⟨3, ![8, 704, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S5632x1024, .f32⟩
  | .hbm, ⟨21, _⟩ => ⟨S1024x5632, .f32⟩
  | .hbm, ⟨22, _⟩ => ⟨S5632x1024, .f32⟩
  | .hbm, ⟨23, _⟩ => ⟨S8x704x1024, .f32⟩
  | .hbm, ⟨24, _⟩ => ⟨S8x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S4x1024x704 : Shape := ⟨3, ![4, 1024, 704]⟩
abbrev S1024x2816 : Shape := ⟨2, ![1024, 2816]⟩
abbrev S1024x704 : Shape := ⟨2, ![1024, 704]⟩
abbrev S1x1024x704 : Shape := ⟨3, ![1, 1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S4x704x1024, .f32⟩
  | .hbm, ⟨5, _⟩ => ⟨S4x704x1024, .bf16⟩
  | .hbm, ⟨6, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S4x704x1024, .bf16⟩
  | .local _ .vmem, ⟨3, _⟩ => ⟨S4x1024x704, .bf16⟩
  | .local _ .vmem, ⟨4, _⟩ => ⟨S4x1024x704, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x1024, .bf16⟩
  | .hbm, ⟨19, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S4x704x1024 : Shape := ⟨3, ![4, 704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x1024, .f32⟩
  | .hbm, ⟨16, _⟩ => ⟨S1024x2816, .f32⟩
  | .hbm, ⟨17, _⟩ => ⟨S2816x1024, .f32⟩
  | .hbm, ⟨18, _⟩ => ⟨S4x704x1024, .f32⟩
  | .hbm, ⟨19, _⟩ => ⟨S4x704x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x5632 : Shape := ⟨2, ![1024, 5632]⟩
abbrev S5632x1024 : Shape := ⟨2, ![5632, 1024]⟩
abbrev S8x704x1024 : Shape := ⟨3, ![8, 704, 1024]⟩
abbrev S8x4096x704 : Shape := ⟨3, ![8, 4096, 704]⟩
abbrev S1024x1024 : Shape := ⟨2, ![1024, 1024]⟩
abbrev S4x704x1024 : Shape := ⟨3, ![4, 704, 1024]⟩
abbrev S4x1024x704 : Shape := ⟨3, ![4, 1024, 704]⟩
abbrev S1024 : Shape := ⟨1, ![1024]⟩
abbrev S1024x1 : Shape := ⟨2, ![1024, 1]⟩
abbrev S2816x1024 : Shape := ⟨2, ![2816, 1024]⟩
abbrev S1024x2816 : Shape := ⟨2, ![1024, 2816]⟩
abbrev S1024x704 : Shape := ⟨2, ![1024, 704]⟩
abbrev S1x1024x704 : Shape := ⟨3, ![1, 1024, 704]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S5632x1024, .f32⟩
  | .hbm, ⟨4, _⟩ => ⟨S8x704x1024, .f32⟩
  | .hbm, ⟨5, _⟩ => ⟨S8x704x1024, .bf16⟩
  | .hbm, ⟨6, _⟩ => ⟨S4096x1024, .bf16⟩
  | .hbm, ⟨7, _⟩ => ⟨S8x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S1024x1024, .bf16⟩
  | .local _ .vmem, ⟨6, _⟩ => ⟨S1024x1024, .bf16⟩
  | .local _ .vmem, ⟨7, _⟩ => ⟨S4x1024x704, .bf16⟩
  | .local _ .vmem, ⟨8, _⟩ => ⟨S4x1024x704, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x8x704 : Shape := ⟨3, ![4096, 8, 704]⟩
abbrev S8x4096x704 : Shape := ⟨3, ![8, 4096, 704]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x5632, .f32⟩
  | .hbm, ⟨20, _⟩ => ⟨S4096x8x704, .f32⟩
  | .hbm, ⟨21, _⟩ => ⟨S8x4096x704, .f32⟩
  | .hbm, ⟨22, _⟩ => ⟨S8x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x2560 : Shape := ⟨2, ![1024, 2560]⟩
abbrev S2560x1024 : Shape := ⟨2, ![2560, 1024]⟩
abbrev S4096x2560 : Shape := ⟨2, ![4096, 2560]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S2560x1024, .f32⟩
  | .hbm, ⟨4, _⟩ => ⟨S2560x1024, .bf16⟩
  | .hbm, ⟨5, _⟩ => ⟨S4096x1024, .bf16⟩
  | .hbm, ⟨6, _⟩ => ⟨S4096x2560, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2560, .f32⟩
  | .local _ .vmem, ⟨7, _⟩ => ⟨S1024x2560, .f32⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S1x1024 : Shape := ⟨2, ![1, 1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x512 : Shape := ⟨2, ![1024, 512]⟩

abbrev nBuf : Space → Nat
  | .hbm => 46
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x1024, .f32⟩
  | .hbm, ⟨43, _⟩ => ⟨S4096x1024, .bf16⟩
  | .hbm, ⟨44, _⟩ => ⟨S4096x1024, .bf16⟩
  | .hbm, ⟨45, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x1024, .f32⟩
  | .hbm, ⟨43, _⟩ => ⟨S4096x1024, .f32⟩
  | .hbm, ⟨44, _⟩ => ⟨S1024x1024, .f32⟩
  | .hbm, ⟨45, _⟩ => ⟨S1024x1024, .f32⟩
  | .hbm, ⟨46, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S2560x1024 : Shape := ⟨2, ![2560, 1024]⟩
abbrev S4096x512 : Shape := ⟨2, ![4096, 512]⟩
abbrev S512x1024 : Shape := ⟨2, ![512, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x2560, .f32⟩
  | .hbm, ⟨4, _⟩ => ⟨S4096x2560, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S2560x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1x1024 : Shape := ⟨2, ![1, 1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x2560, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2560, .f32⟩
  | .hbm, ⟨20, _⟩ => ⟨S2560x1024, .f32⟩
  | .hbm, ⟨21, _⟩ => ⟨S1024x2560, .f32⟩
  | .hbm, ⟨22, _⟩ => ⟨S2560x1024, .f32⟩
  | .hbm, ⟨23, _⟩ => ⟨S2560x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S5632x1024 : Shape := ⟨2, ![5632, 1024]⟩
abbrev S8x704x1024 : Shape := ⟨3, ![8, 704, 1024]⟩
abbrev S4x4096x704 : Shape := ⟨3, ![4, 4096, 704]⟩
abbrev S_ : Shape := ⟨0, ![]⟩
abbrev S8x128 : Shape := ⟨2, ![8, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S512x2816 : Shape := ⟨2, ![512, 2816]⟩
abbrev S4x704x1024 : Shape := ⟨3, ![4, 704, 1024]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S5632x1024, .f32⟩
  | .hbm, ⟨9, _⟩ => ⟨S8x704x1024, .f32⟩
  | .hbm, ⟨10, _⟩ => ⟨S8x704x1024, .bf16⟩
  | .hbm, ⟨11, _⟩ => ⟨S4x4096x704, .bf16⟩
  | .hbm, ⟨12, _⟩ => ⟨S4x4096x704, .bf16⟩
  | .hbm, ⟨13, _⟩ => ⟨S_, .f32⟩
  | .hbm, ⟨14, _⟩ => ⟨S8x128, .f32⟩
  | .hbm, ⟨15, _⟩ => ⟨S4096x1024, .f32⟩
  | .hbm, ⟨16, _⟩ => ⟨S4096x1024, .bf16⟩
  | .hbm, ⟨17, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S8x704x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x2560 : Shape := ⟨2, ![1024, 2560]⟩
abbrev S4096x2560 : Shape := ⟨2, ![4096, 2560]⟩
abbrev S2560x1024 : Shape := ⟨2, ![2560, 1024]⟩
abbrev S_ : Shape := ⟨0, ![]⟩
abbrev S8x128 : Shape := ⟨2, ![8, 128]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x2560, .f32⟩
  | .hbm, ⟨4, _⟩ => ⟨S4096x1024, .f32⟩
  | .hbm, ⟨5, _⟩ => ⟨S4096x2560, .bf16⟩
  | .hbm, ⟨6, _⟩ => ⟨S2560x1024, .f32⟩
  | .hbm, ⟨7, _⟩ => ⟨S2560x1024, .bf16⟩
  | .hbm, ⟨8, _⟩ => ⟨S_, .f32⟩
  | .hbm, ⟨9, _⟩ => ⟨S8x128, .f32⟩
  | .hbm, ⟨10, _⟩ => ⟨S4096x1024, .f32⟩
  | .hbm, ⟨11, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4096x1024 : Shape := ⟨2, ![4096, 1024]⟩
abbrev S1x1024 : Shape := ⟨2, ![1, 1024]⟩
abbrev S1024x2560 : Shape := ⟨2, ![1024, 2560]⟩
abbrev S4096x2560 : Shape := ⟨2, ![4096, 2560]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x2560, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2560, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel12.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S3x8x704 : Shape := ⟨3, ![3, 8, 704]⟩
abbrev S8x3x704 : Shape := ⟨3, ![8, 3, 704]⟩
abbrev S_ : Shape := ⟨0, ![]⟩
abbrev S8x8x704 : Shape := ⟨3, ![8, 8, 704]⟩
abbrev S4096x8x704 : Shape := ⟨3, ![4096, 8, 704]⟩
abbrev S8x4096x704 : Shape := ⟨3, ![8, 4096, 704]⟩
abbrev S4x704x1024 : Shape := ⟨3, ![4, 704, 1024]⟩
abbrev S4x4096x704 : Shape := ⟨3, ![4, 4096, 704]⟩
abbrev S8x256x704 : Shape := ⟨3, ![8, 256, 704]⟩
abbrev S8x16x704 : Shape := ⟨3, ![8, 16, 704]⟩
abbrev S256x1024 : Shape := ⟨2, ![256, 1024]⟩
abbrev S4x256x704 : Shape := ⟨3, ![4, 256, 704]⟩
abbrev S4x272x704 : Shape := ⟨3, ![4, 272, 704]⟩
abbrev S1x16x704 : Shape := ⟨3, ![1, 16, 704]⟩
abbrev S16x704 : Shape := ⟨2, ![16, 704]⟩
abbrev S1x272x704 : Shape := ⟨3, ![1, 272, 704]⟩
abbrev S272x704 : Shape := ⟨2, ![272, 704]⟩
abbrev S1x256x704 : Shape := ⟨3, ![1, 256, 704]⟩
abbrev S256x704 : Shape := ⟨2, ![256, 704]⟩
abbrev S1x8x704 : Shape := ⟨3, ![1, 8, 704]⟩
abbrev S8x704 : Shape := ⟨2, ![8, 704]⟩
abbrev S1x704 : Shape := ⟨2, ![1, 704]⟩
abbrev S1x704x1024 : Shape := ⟨3, ![1, 704, 1024]⟩
abbrev S704x1024 : Shape := ⟨2, ![704, 1024]⟩

abbrev nBuf : Space → Nat
  | .hbm => 18
  | .vmem => 17
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2816x1024, .f32⟩
  | .hbm, ⟨3, _⟩ => ⟨S4096x1024, .f32⟩
  | .hbm, ⟨4, _⟩ => ⟨S3x8x704, .f32⟩
  | .hbm, ⟨5, _⟩ => ⟨S8x3x704, .f32⟩
  | .hbm, ⟨6, _⟩ => ⟨S_, .i32⟩
  | .hbm, ⟨7, _⟩ => ⟨S_, .f32⟩
  | .hbm, ⟨8, _⟩ => ⟨S8x8x704, .f32⟩
  | .hbm, ⟨9, _⟩ => ⟨S4096x8x704, .f32⟩
  | .hbm, ⟨10, _⟩ => ⟨S8x4096x704, .f32⟩
  | .hbm, ⟨11, _⟩ => ⟨S8x4096x704, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S4x4096x704, .bf16⟩
  | .hbm, ⟨16, _⟩ => ⟨S4x4096x704, .bf16⟩
  | .hbm, ⟨17, _⟩ => ⟨S4x4096x704, .bf16⟩
  | .local _ .vmem, ⟨0, _⟩ => ⟨S8x256x704, .bf16⟩
  | .local _ .vmem, ⟨1, _⟩ => ⟨S8x256x704, .bf16⟩
  | .local _ .vmem, ⟨2, _⟩ => ⟨S8x16x704, .bf16⟩
  | .local _ .vmem, ⟨3, _⟩ => ⟨S8x16x704, .bf16⟩
  | .local _ .vmem, ⟨4, _⟩ => ⟨S8x8x704, .f32⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x256x704, .bf16⟩
  | .local _ .vmem, ⟨11, _⟩ => ⟨S4x256x704, .bf16⟩
  | .local _ .vmem, ⟨12, _⟩ => ⟨S4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S4x272x704, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x8x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 52
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2816x1024, .f32⟩
  | .hbm, ⟨3, _⟩ => ⟨S4096x1024, .f32⟩
  | .hbm, ⟨4, _⟩ => ⟨S1x5632, .f32⟩
  | .hbm, ⟨5, _⟩ => ⟨S5632, .f32⟩
  | .hbm, ⟨6, _⟩ => ⟨S1x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S2x5632, .f32⟩
  | .hbm, ⟨11, _⟩ => ⟨S4094x5632, .f32⟩
  | .hbm, ⟨12, _⟩ => ⟨S4096x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S1x5632, .f32⟩
  | .hbm, ⟨21, _⟩ => ⟨S4095x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S4096x1024, .f32⟩
  | .hbm, ⟨43, _⟩ => ⟨S4096x4x704, .f32⟩
  | .hbm, ⟨44, _⟩ => ⟨S4x4096x704, .f32⟩
  | .hbm, ⟨45, _⟩ => ⟨S4x4096x704, .bf16⟩
  | .hbm, ⟨46, _⟩ => ⟨S4096x4x704, .f32⟩
  | .hbm, ⟨47, _⟩ => ⟨S4x4096x704, .f32⟩
  | .hbm, ⟨48, _⟩ => ⟨S4x4096x704, .bf16⟩
  | .hbm, ⟨49, _⟩ => ⟨S4096x4x704, .f32⟩
  | .hbm, ⟨50, _⟩ => ⟨S4x4096x704, .f32⟩
  | .hbm, ⟨51, _⟩ => ⟨S4x4096x704, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel13.lean ====
abbrev S8x320x1024 : Shape := ⟨3, ![8, 320, 1024]⟩
abbrev S1x1024x320 : Shape := ⟨3, ![1, 1024, 320]⟩
abbrev S1x320x1024 : Shape := ⟨3, ![1, 320, 1024]⟩
abbrev S320x1024 : Shape := ⟨2, ![320, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8x320x1024, .bf16⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S1x320x1024, .f32⟩
  | .hbm, ⟨5, _⟩ => ⟨S1x320x1024, .f32⟩
  | .hbm, ⟨6, _⟩ => ⟨S1x320x1024, .f32⟩
  | .hbm, ⟨7, _⟩ => ⟨S1x320x1024, .f32⟩
  | .hbm, ⟨8, _⟩ => ⟨S1x320x1024, .f32⟩
  | .hbm, ⟨9, _⟩ => ⟨S1x320x1024, .f32⟩
  | .hbm, ⟨10, _⟩ => ⟨S1x320x1024, .f32⟩
  | .hbm, ⟨11, _⟩ => ⟨S1x1024x320, .f32⟩
  | .hbm, ⟨12, _⟩ => ⟨S1x1024x320, .f32⟩
  | .hbm, ⟨13, _⟩ => ⟨S1x1024x320, .f32⟩
  | .hbm, ⟨14, _⟩ => ⟨S1x1024x320, .f32⟩
  | .local _ .vmem, ⟨0, _⟩ => ⟨S8x320x1024, .bf16⟩
  | .local _ .vmem, ⟨1, _⟩ => ⟨S1x320x1024, .f32⟩
  | .local _ .vmem, ⟨2, _⟩ => ⟨S1x320x1024, .f32⟩
  | .local _ .vmem, ⟨3, _⟩ => ⟨S1x320x1024, .f32⟩
  | .local _ .vmem, ⟨4, _⟩ => ⟨S1x320x1024, .f32⟩
  | .local _ .vmem, ⟨5, _⟩ => ⟨S1x320x1024, .f32⟩
  | .local _ .vmem, ⟨6, _⟩ => ⟨S1x320x1024, .f32⟩
  | .local _ .vmem, ⟨7, _⟩ => ⟨S1x320x1024, .f32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c0_i32_1 : BitVec 32 := 0#32
  let v2 : BitVec 32 := Scalar.select v1 c0_i32_1 arg1
  let c0_i32_2 : BitVec 32 := 0#32
  let v3 : BitVec 32 := Scalar.select v0 c0_i32_2 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x320x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference13Ideal.lean ====
abbrev S8x320x1024 : Shape := ⟨3, ![8, 320, 1024]⟩
abbrev S1x1024x320 : Shape := ⟨3, ![1, 1024, 320]⟩
abbrev S_ : Shape := ⟨0, ![]⟩
abbrev S320x1024 : Shape := ⟨2, ![320, 1024]⟩
abbrev S1024x320 : Shape := ⟨2, ![1024, 320]⟩

abbrev nBuf : Space → Nat
  | .hbm => 42
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S8x320x1024, .f32⟩
  | .hbm, ⟨5, _⟩ => ⟨S_, .f32⟩
  | .hbm, ⟨6, _⟩ => ⟨S320x1024, .f32⟩
  | .hbm, ⟨7, _⟩ => ⟨S1024x320, .f32⟩
  | .hbm, ⟨8, _⟩ => ⟨S1x1024x320, .f32⟩
  | .hbm, ⟨9, _⟩ => ⟨S_, .f32⟩
  | .hbm, ⟨10, _⟩ => ⟨S1x1024x320, .f32⟩
  | .hbm, ⟨11, _⟩ => ⟨S1x1024x320, .f32⟩
  | .hbm, ⟨12, _⟩ => ⟨S_, .f32⟩
  | .hbm, ⟨13, _⟩ => ⟨S1x1024x320, .f32⟩
  | .hbm, ⟨14, _⟩ => ⟨S1x1024x320, .f32⟩
  | .hbm, ⟨15, _⟩ => ⟨S1x1024x320, .f32⟩
  | .hbm, ⟨16, _⟩ => ⟨S_, .f32⟩
  | .hbm, ⟨17, _⟩ => ⟨S1x1024x320, .f32⟩
  | .hbm, ⟨18, _⟩ => ⟨S1x1024x320, .f32⟩
  | .hbm, ⟨19, _⟩ => ⟨S1x1024x320, .f32⟩
  | .hbm, ⟨20, _⟩ => ⟨S_, .f32⟩
  | .hbm, ⟨21, _⟩ => ⟨S1x1024x320, .f32⟩
  | .hbm, ⟨22, _⟩ => ⟨S1x1024x320, .f32⟩
  | .hbm, ⟨23, _⟩ => ⟨S1x1024x320, .f32⟩
  | .hbm, ⟨24, _⟩ => ⟨S_, .f32⟩
  | .hbm, ⟨25, _⟩ => ⟨S1x1024x320, .f32⟩
  | .hbm, ⟨26, _⟩ => ⟨S1x1024x320, .f32⟩
  | .hbm, ⟨27, _⟩ => ⟨S_, .f32⟩
  | .hbm, ⟨28, _⟩ => ⟨S1x1024x320, .f32⟩
  | .hbm, ⟨29, _⟩ => ⟨S1x1024x320, .f32⟩
  | .hbm, ⟨30, _⟩ => ⟨S1x1024x320, .f32⟩
  | .hbm, ⟨31, _⟩ => ⟨S_, .f32⟩
  | .hbm, ⟨32, _⟩ => ⟨S1x1024x320, .f32⟩
  | .hbm, ⟨33, _⟩ => ⟨S1x1024x320, .f32⟩
  | .hbm, ⟨34, _⟩ => ⟨S1x1024x320, .f32⟩
  | .hbm, ⟨35, _⟩ => ⟨S_, .f32⟩
  | .hbm, ⟨36, _⟩ => ⟨S1x1024x320, .f32⟩
  | .hbm, ⟨37, _⟩ => ⟨S1x1024x320, .f32⟩
  | .hbm, ⟨38, _⟩ => ⟨S1x1024x320, .f32⟩
  | .hbm, ⟨39, _⟩ => ⟨S_, .f32⟩
  | .hbm, ⟨40, _⟩ => ⟨S1x1024x320, .f32⟩
  | .hbm, ⟨41, _⟩ => ⟨S1x1024x320, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel14.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c0_i32_1 : BitVec 32 := 0#32
  let v2 : BitVec 32 := Scalar.select v1 c0_i32_1 arg1
  let c0_i32_2 : BitVec 32 := 0#32
  let v3 : BitVec 32 := Scalar.select v0 c0_i32_2 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x128x256 : Shape := ⟨3, ![8, 128, 256]⟩
abbrev S1x4x32x256 : Shape := ⟨4, ![1, 4, 32, 256]⟩
abbrev S1x128x256 : Shape := ⟨3, ![1, 128, 256]⟩
abbrev S128x256 : Shape := ⟨2, ![128, 256]⟩

abbrev nBuf : Space → Nat
  | .hbm => 15
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S1x128x256, .f32⟩
  | .hbm, ⟨5, _⟩ => ⟨S1x128x256, .f32⟩
  | .hbm, ⟨6, _⟩ => ⟨S1x128x256, .f32⟩
  | .hbm, ⟨7, _⟩ => ⟨S1x128x256, .f32⟩
  | .hbm, ⟨8, _⟩ => ⟨S1x128x256, .f32⟩
  | .hbm, ⟨9, _⟩ => ⟨S1x128x256, .f32⟩
  | .hbm, ⟨10, _⟩ => ⟨S1x128x256, .f32⟩
  | .hbm, ⟨11, _⟩ => ⟨S1x4x32x256, .f32⟩
  | .hbm, ⟨12, _⟩ => ⟨S1x4x32x256, .f32⟩
  | .hbm, ⟨13, _⟩ => ⟨S1x4x32x256, .f32⟩
  | .hbm, ⟨14, _⟩ => ⟨S1x4x32x256, .f32⟩
  | .local _ .vmem, ⟨0, _⟩ => ⟨S8x128x256, .bf16⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c0_i32_1 : BitVec 32 := 0#32
  let v2 : BitVec 32 := Scalar.select v1 c0_i32_1 arg1
  let c0_i32_2 : BitVec 32 := 0#32
  let v3 : BitVec 32 := Scalar.select v0 c0_i32_2 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S8x128x256 : Shape := ⟨3, ![8, 128, 256]⟩
abbrev S1x4x32x256 : Shape := ⟨4, ![1, 4, 32, 256]⟩
abbrev S_ : Shape := ⟨0, ![]⟩
abbrev S128x256 : Shape := ⟨2, ![128, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S1x4x32x256, .f32⟩
  | .hbm, ⟨2, _⟩ => ⟨S1x4x32x256, .f32⟩
  | .hbm, ⟨3, _⟩ => ⟨S1x4x32x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S1x4x32x256, .f32⟩
  | .hbm, ⟨8, _⟩ => ⟨S_, .f32⟩
  | .hbm, ⟨9, _⟩ => ⟨S1x4x32x256, .f32⟩
  | .hbm, ⟨10, _⟩ => ⟨S1x4x32x256, .f32⟩
  | .hbm, ⟨11, _⟩ => ⟨S_, .f32⟩
  | .hbm, ⟨12, _⟩ => ⟨S1x4x32x256, .f32⟩
  | .hbm, ⟨13, _⟩ => ⟨S1x4x32x256, .f32⟩
  | .hbm, ⟨14, _⟩ => ⟨S1x4x32x256, .f32⟩
  | .hbm, ⟨15, _⟩ => ⟨S_, .f32⟩
  | .hbm, ⟨16, _⟩ => ⟨S1x4x32x256, .f32⟩
  | .hbm, ⟨17, _⟩ => ⟨S1x4x32x256, .f32⟩
  | .hbm, ⟨18, _⟩ => ⟨S1x4x32x256, .f32⟩
  | .hbm, ⟨19, _⟩ => ⟨S_, .f32⟩
  | .hbm, ⟨20, _⟩ => ⟨S1x4x32x256, .f32⟩
  | .hbm, ⟨21, _⟩ => ⟨S1x4x32x256, .f32⟩
  | .hbm, ⟨22, _⟩ => ⟨S1x4x32x256, .f32⟩
  | .hbm, ⟨23, _⟩ => ⟨S_, .f32⟩
  | .hbm, ⟨24, _⟩ => ⟨S1x4x32x256, .f32⟩
  | .hbm, ⟨25, _⟩ => ⟨S1x4x32x256, .f32⟩
  | .hbm, ⟨26, _⟩ => ⟨S_, .f32⟩
  | .hbm, ⟨27, _⟩ => ⟨S1x4x32x256, .f32⟩
  | .hbm, ⟨28, _⟩ => ⟨S1x4x32x256, .f32⟩
  | .hbm, ⟨29, _⟩ => ⟨S1x4x32x256, .f32⟩
  | .hbm, ⟨30, _⟩ => ⟨S_, .f32⟩
  | .hbm, ⟨31, _⟩ => ⟨S1x4x32x256, .f32⟩
  | .hbm, ⟨32, _⟩ => ⟨S1x4x32x256, .f32⟩
  | .hbm, ⟨33, _⟩ => ⟨S1x4x32x256, .f32⟩
  | .hbm, ⟨34, _⟩ => ⟨S_, .f32⟩
  | .hbm, ⟨35, _⟩ => ⟨S1x4x32x256, .f32⟩
  | .hbm, ⟨36, _⟩ => ⟨S1x4x32x256, .f32⟩
  | .hbm, ⟨37, _⟩ => ⟨S1x4x32x256, .f32⟩
  | .hbm, ⟨38, _⟩ => ⟨S_, .f32⟩
  | .hbm, ⟨39, _⟩ => ⟨S1x4x32x256, .f32⟩
  | .hbm, ⟨40, _⟩ => ⟨S1x4x32x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S2x1024x704, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c1_i32_1 : BitVec 32 := 1#32
  let v2 : BitVec 32 := Scalar.select v1 c1_i32_1 arg1
  let c0_i32 : BitVec 32 := 0#32
  let v3 : BitVec 32 := Scalar.select v0 c0_i32 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1024x704 : Shape := ⟨2, ![1024, 704]⟩
abbrev S1x1024x704 : Shape := ⟨3, ![1, 1024, 704]⟩

abbrev nBuf : Space → Nat
  | .hbm => 49
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S1024x704, .f32⟩
  | .hbm, ⟨9, _⟩ => ⟨S8x704x1024, .f32⟩
  | .hbm, ⟨10, _⟩ => ⟨S_, .f32⟩
  | .hbm, ⟨11, _⟩ => ⟨S704x1024, .f32⟩
  | .hbm, ⟨12, _⟩ => ⟨S1024x704, .f32⟩
  | .hbm, ⟨13, _⟩ => ⟨S1x1024x704, .f32⟩
  | .hbm, ⟨14, _⟩ => ⟨S1x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S_, .f32⟩
  | .hbm, ⟨47, _⟩ => ⟨S2x1024x704, .f32⟩
  | .hbm, ⟨48, _⟩ => ⟨S2x1024x704, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel17.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c0_i32_1 : BitVec 32 := 0#32
  let v2 : BitVec 32 := Scalar.select v1 c0_i32_1 arg1
  let c0_i32_2 : BitVec 32 := 0#32
  let v3 : BitVec 32 := Scalar.select v0 c0_i32_2 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c0_i32 : BitVec 32 := 0#32
  let v2 : BitVec 32 := Scalar.select v1 c0_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel18.lean ====
abbrev S8x31x64 : Shape := ⟨3, ![8, 31, 64]⟩
abbrev S8x3x64 : Shape := ⟨3, ![8, 3, 64]⟩
abbrev S8x1x128 : Shape := ⟨3, ![8, 1, 128]⟩
abbrev S8x6x704 : Shape := ⟨3, ![8, 6, 704]⟩
abbrev S8x1x1024 : Shape := ⟨3, ![8, 1, 1024]⟩
abbrev S8x1x512 : Shape := ⟨3, ![8, 1, 512]⟩
abbrev S8x2x1024 : Shape := ⟨3, ![8, 2, 1024]⟩
abbrev S31x64 : Shape := ⟨2, ![31, 64]⟩
abbrev S3x64 : Shape := ⟨2, ![3, 64]⟩
abbrev S1x128 : Shape := ⟨2, ![1, 128]⟩
abbrev S6x704 : Shape := ⟨2, ![6, 704]⟩
abbrev S1x1024 : Shape := ⟨2, ![1, 1024]⟩
abbrev S1x512 : Shape := ⟨2, ![1, 512]⟩
abbrev S2x1024 : Shape := ⟨2, ![2, 1024]⟩
abbrev S1x31x64 : Shape := ⟨3, ![1, 31, 64]⟩
abbrev S1x3x64 : Shape := ⟨3, ![1, 3, 64]⟩
abbrev S1x1x128 : Shape := ⟨3, ![1, 1, 128]⟩
abbrev S1x6x704 : Shape := ⟨3, ![1, 6, 704]⟩
abbrev S1x1x1024 : Shape := ⟨3, ![1, 1, 1024]⟩
abbrev S1x1x512 : Shape := ⟨3, ![1, 1, 512]⟩
abbrev S1x2x1024 : Shape := ⟨3, ![1, 2, 1024]⟩

abbrev nBuf : Space → Nat
  | .hbm => 80
  | .vmem => 80
  | .smem => 0
  | _ => 0

abbrev bufTy : (tb : Table) → Fin (tcTables nBuf tb) → BufTy
  | .hbm, ⟨0, _⟩ => ⟨S8x31x64, .f32⟩
  | .hbm, ⟨1, _⟩ => ⟨S8x3x64, .f32⟩
  | .hbm, ⟨2, _⟩ => ⟨S8x1x128, .f32⟩
  | .hbm, ⟨3, _⟩ => ⟨S8x1x128, .f32⟩
  | .hbm, ⟨4, _⟩ => ⟨S8x6x704, .f32⟩
  | .hbm, ⟨5, _⟩ => ⟨S8x1x1024, .f32⟩
  | .hbm, ⟨6, _⟩ => ⟨S8x1x512, .f32⟩
  | .hbm, ⟨7, _⟩ => ⟨S8x1x512, .f32⟩
  | .hbm, ⟨8, _⟩ => ⟨S8x2x1024, .f32⟩
  | .hbm, ⟨9, _⟩ => ⟨S8x1x1024, .f32⟩
  | .hbm, ⟨10, _⟩ => ⟨S31x64, .f32⟩
  | .hbm, ⟨11, _⟩ => ⟨S3x64, .f32⟩
  | .hbm, ⟨12, _⟩ => ⟨S1x128, .f32⟩
  | .hbm, ⟨13, _⟩ => ⟨S1x128, .f32⟩
  | .hbm, ⟨14, _⟩ => ⟨S6x704, .f32⟩
  | .hbm, ⟨15, _⟩ => ⟨S1x1024, .f32⟩
  | .hbm, ⟨16, _⟩ => ⟨S1x512, .f32⟩
  | .hbm, ⟨17, _⟩ => ⟨S1x512, .f32⟩
  | .hbm, ⟨18, _⟩ => ⟨S2x1024, .f32⟩
  | .hbm, ⟨19, _⟩ => ⟨S1x1024, .f32⟩
  | .hbm, ⟨20, _⟩ => ⟨S31x64, .f32⟩
  | .hbm, ⟨21, _⟩ => ⟨S3x64, .f32⟩
  | .hbm, ⟨22, _⟩ => ⟨S1x128, .f32⟩
  | .hbm, ⟨23, _⟩ => ⟨S1x128, .f32⟩
  | .hbm, ⟨24, _⟩ => ⟨S6x704, .f32⟩
  | .hbm, ⟨25, _⟩ => ⟨S1x1024, .f32⟩
  | .hbm, ⟨26, _⟩ => ⟨S1x512, .f32⟩
  | .hbm, ⟨27, _⟩ => ⟨S1x512, .f32⟩
  | .hbm, ⟨28, _⟩ => ⟨S2x1024, .f32⟩
  | .hbm, ⟨29, _⟩ => ⟨S1x1024, .f32⟩
  | .hbm, ⟨30, _⟩ => ⟨S31x64, .f32⟩
  | .hbm, ⟨31, _⟩ => ⟨S3x64, .f32⟩
  | .hbm, ⟨32, _⟩ => ⟨S1x128, .f32⟩
  | .hbm, ⟨33, _⟩ => ⟨S1x128, .f32⟩
  | .hbm, ⟨34, _⟩ => ⟨S6x704, .f32⟩
  | .hbm, ⟨35, _⟩ => ⟨S1x1024, .f32⟩
  | .hbm, ⟨36, _⟩ => ⟨S1x512, .f32⟩
  | .hbm, ⟨37, _⟩ => ⟨S1x512, .f32⟩
  | .hbm, ⟨38, _⟩ => ⟨S2x1024, .f32⟩
  | .hbm, ⟨39, _⟩ => ⟨S1x1024, .f32⟩
  | .hbm, ⟨40, _⟩ => ⟨S31x64, .f32⟩
  | .hbm, ⟨41, _⟩ => ⟨S31x64, .f32⟩
  | .hbm, ⟨42, _⟩ => ⟨S31x64, .f32⟩
  | .hbm, ⟨43, _⟩ => ⟨S31x64, .f32⟩
  | .hbm, ⟨44, _⟩ => ⟨S3x64, .f32⟩
  | .hbm, ⟨45, _⟩ => ⟨S3x64, .f32⟩
  | .hbm, ⟨46, _⟩ => ⟨S3x64, .f32⟩
  | .hbm, ⟨47, _⟩ => ⟨S3x64, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S6x704, .f32⟩
  | .hbm, ⟨57, _⟩ => ⟨S6x704, .f32⟩
  | .hbm, ⟨58, _⟩ => ⟨S6x704, .f32⟩
  | .hbm, ⟨59, _⟩ => ⟨S6x704, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S2x1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | .local _ .vmem, ⟨0, _⟩ => ⟨S8x31x64, .f32⟩
  | .local _ .vmem, ⟨1, _⟩ => ⟨S8x3x64, .f32⟩
  | .local _ .vmem, ⟨2, _⟩ => ⟨S8x1x128, .f32⟩
  | .local _ .vmem, ⟨3, _⟩ => ⟨S8x1x128, .f32⟩
  | .local _ .vmem, ⟨4, _⟩ => ⟨S8x6x704, .f32⟩
  | .local _ .vmem, ⟨5, _⟩ => ⟨S8x1x1024, .f32⟩
  | .local _ .vmem, ⟨6, _⟩ => ⟨S8x1x512, .f32⟩
  | .local _ .vmem, ⟨7, _⟩ => ⟨S8x1x512, .f32⟩
  | .local _ .vmem, ⟨8, _⟩ => ⟨S8x2x1024, .f32⟩
  | .local _ .vmem, ⟨9, _⟩ => ⟨S8x1x1024, .f32⟩
  | .local _ .vmem, ⟨10, _⟩ => ⟨S31x64, .f32⟩
  | .local _ .vmem, ⟨11, _⟩ => ⟨S3x64, .f32⟩
  | .local _ .vmem, ⟨12, _⟩ => ⟨S1x128, .f32⟩
  | .local _ .vmem, ⟨13, _⟩ => ⟨S1x128, .f32⟩
  | .local _ .vmem, ⟨14, _⟩ => ⟨S6x704, .f32⟩
  | .local _ .vmem, ⟨15, _⟩ => ⟨S1x1024, .f32⟩
  | .local _ .vmem, ⟨16, _⟩ => ⟨S1x512, .f32⟩
  | .local _ .vmem, ⟨17, _⟩ => ⟨S1x512, .f32⟩
  | .local _ .vmem, ⟨18, _⟩ => ⟨S2x1024, .f32⟩
  | .local _ .vmem, ⟨19, _⟩ => ⟨S1x1024, .f32⟩
  | .local _ .vmem, ⟨20, _⟩ => ⟨S31x64, .f32⟩
  | .local _ .vmem, ⟨21, _⟩ => ⟨S3x64, .f32⟩
  | .local _ .vmem, ⟨22, _⟩ => ⟨S1x128, .f32⟩
  | .local _ .vmem, ⟨23, _⟩ => ⟨S1x128, .f32⟩
  | .local _ .vmem, ⟨24, _⟩ => ⟨S6x704, .f32⟩
  | .local _ .vmem, ⟨25, _⟩ => ⟨S1x1024, .f32⟩
  | .local _ .vmem, ⟨26, _⟩ => ⟨S1x512, .f32⟩
  | .local _ .vmem, ⟨27, _⟩ => ⟨S1x512, .f32⟩
  | .local _ .vmem, ⟨28, _⟩ => ⟨S2x1024, .f32⟩
  | .local _ .vmem, ⟨29, _⟩ => ⟨S1x1024, .f32⟩
  | .local _ .vmem, ⟨30, _⟩ => ⟨S31x64, .f32⟩
  | .local _ .vmem, ⟨31, _⟩ => ⟨S3x64, .f32⟩
  | .local _ .vmem, ⟨32, _⟩ => ⟨S1x128, .f32⟩
  | .local _ .vmem, ⟨33, _⟩ => ⟨S1x128, .f32⟩
  | .local _ .vmem, ⟨34, _⟩ => ⟨S6x704, .f32⟩
  | .local _ .vmem, ⟨35, _⟩ => ⟨S1x1024, .f32⟩
  | .local _ .vmem, ⟨36, _⟩ => ⟨S1x512, .f32⟩
  | .local _ .vmem, ⟨37, _⟩ => ⟨S1x512, .f32⟩
  | .local _ .vmem, ⟨38, _⟩ => ⟨S2x1024, .f32⟩
  | .local _ .vmem, ⟨39, _⟩ => ⟨S1x1024, .f32⟩
  | .local _ .vmem, ⟨40, _⟩ => ⟨S31x64, .f32⟩
  | .local _ .vmem, ⟨41, _⟩ => ⟨S31x64, .f32⟩
  | .local _ .vmem, ⟨42, _⟩ => ⟨S31x64, .f32⟩
  | .local _ .vmem, ⟨43, _⟩ => ⟨S31x64, .f32⟩
  | .local _ .vmem, ⟨44, _⟩ => ⟨S3x64, .f32⟩
  | .local _ .vmem, ⟨45, _⟩ => ⟨S3x64, .f32⟩
  | .local _ .vmem, ⟨46, _⟩ => ⟨S3x64, .f32⟩
  | .local _ .vmem, ⟨47, _⟩ => ⟨S3x64, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S6x704, .f32⟩
  | .local _ .vmem, ⟨57, _⟩ => ⟨S6x704, .f32⟩
  | .local _ .vmem, ⟨58, _⟩ => ⟨S6x704, .f32⟩
  | .local _ .vmem, ⟨59, _⟩ => ⟨S6x704, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S1x512, .f32⟩
  | .local _ .vmem, ⟨65, _⟩ => ⟨S1x512, .f32⟩
  | .local _ .vmem, ⟨66, _⟩ => ⟨S1x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S1x512, .f32⟩
  | .local _ .vmem, ⟨71, _⟩ => ⟨S1x512, .f32⟩
  | .local _ .vmem, ⟨72, _⟩ => ⟨S2x1024, .f32⟩
  | .local _ .vmem, ⟨73, _⟩ => ⟨S2x1024, .f32⟩
  | .local _ .vmem, ⟨74, _⟩ => ⟨S2x1024, .f32⟩
  | .local _ .vmem, ⟨75, _⟩ => ⟨S2x1024, .f32⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S1x1024, .f32⟩
  | _, _ => ⟨S8x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v0_4 : Ref sig .tc := ⟨.hbm, 44, rfl⟩
abbrev main_v0_5 : Ref sig .tc := ⟨.hbm, 45, rfl⟩
abbrev main_v0_6 : Ref sig .tc := ⟨.hbm, 46, rfl⟩
abbrev main_v0_7 : Ref sig .tc := ⟨.hbm, 47, rfl⟩
abbrev main_v0_8 : Ref sig .tc := ⟨.hbm, 48, rfl⟩
abbrev main_v0_9 : Ref sig .tc := ⟨.hbm, 49, rfl⟩
abbrev main_v0_10 : Ref sig .tc := ⟨.hbm, 50, rfl⟩
abbrev main_v0_11 : Ref sig .tc := ⟨.hbm, 51, rfl⟩
abbrev main_v0_12 : Ref sig .tc := ⟨.hbm, 52, rfl⟩
abbrev main_v0_13 : Ref sig .tc := ⟨.hbm, 53, rfl⟩
abbrev main_v0_14 : Ref sig .tc := ⟨.hbm, 54, rfl⟩
abbrev main_v0_15 : Ref sig .tc := ⟨.hbm, 55, rfl⟩
abbrev main_v0_16 : Ref sig .tc := ⟨.hbm, 56, rfl⟩
abbrev main_v0_17 : Ref sig .tc := ⟨.hbm, 57, rfl⟩
abbrev main_v0_18 : Ref sig .tc := ⟨.hbm, 58, rfl⟩
abbrev main_v0_19 : Ref sig .tc := ⟨.hbm, 59, rfl⟩
abbrev main_v0_20 : Ref sig .tc := ⟨.hbm, 60, rfl⟩
abbrev main_v0_21 : Ref sig .tc := ⟨.hbm, 61, rfl⟩
abbrev main_v0_22 : Ref sig .tc := ⟨.hbm, 62, rfl⟩
abbrev main_v0_23 : Ref sig .tc := ⟨.hbm, 63, rfl⟩
abbrev main_v0_24 : Ref sig .tc := ⟨.hbm, 64, rfl⟩
abbrev main_v0_25 : Ref sig .tc := ⟨.hbm, 65, rfl⟩
abbrev main_v0_26 : Ref sig .tc := ⟨.hbm, 66, rfl⟩
abbrev main_v0_27 : Ref sig .tc := ⟨.hbm, 67, rfl⟩
abbrev main_v0_28 : Ref sig .tc := ⟨.hbm, 68, rfl⟩
abbrev main_v0_29 : Ref sig .tc := ⟨.hbm, 69, rfl⟩
abbrev main_v0_30 : Ref sig .tc := ⟨.hbm, 70, rfl⟩
abbrev main_v0_31 : Ref sig .tc := ⟨.hbm, 71, rfl⟩
abbrev main_v0_32 : Ref sig .tc := ⟨.hbm, 72, rfl⟩
abbrev main_v0_33 : Ref sig .tc := ⟨.hbm, 73, rfl⟩
abbrev main_v0_34 : Ref sig .tc := ⟨.hbm, 74, rfl⟩
abbrev main_v0_35 : Ref sig .tc := ⟨.hbm, 75, rfl⟩
abbrev main_v0_36 : Ref sig .tc := ⟨.hbm, 76, rfl⟩
abbrev main_v0_37 : Ref sig .tc := ⟨.hbm, 77, rfl⟩
abbrev main_v0_38 : Ref sig .tc := ⟨.hbm, 78, rfl⟩
abbrev main_v0_39 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79

abbrev nD : Nat := 1
abbrev τ : Topo := Topo.v7x

variable {F : FTy → Type} [FloatOps F]

abbrev grid0 : Pipeline.Grid := .none

abbrev stage0_0 : Fin 1 → Memref sig .tc .vmem S8x31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x6x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S31x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S31x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S6x704 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S31x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S3x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S6x704 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x512 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S31x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S31x64 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S31x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S31x64 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S3x64 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S3x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S3x64 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S3x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S6x704 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S6x704 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S6x704 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S6x704 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x512 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x512 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x512 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x512 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x512 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x512 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x512 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x512 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S2x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S2x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S2x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S2x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x1024 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x1024 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))
-- ==== Reference18Ideal.lean ====
abbrev S8x31x64 : Shape := ⟨3, ![8, 31, 64]⟩
abbrev S8x3x64 : Shape := ⟨3, ![8, 3, 64]⟩
abbrev S8x1x128 : Shape := ⟨3, ![8, 1, 128]⟩
abbrev S8x6x704 : Shape := ⟨3, ![8, 6, 704]⟩
abbrev S8x1x1024 : Shape := ⟨3, ![8, 1, 1024]⟩
abbrev S8x1x512 : Shape := ⟨3, ![8, 1, 512]⟩
abbrev S8x2x1024 : Shape := ⟨3, ![8, 2, 1024]⟩
abbrev S31x64 : Shape := ⟨2, ![31, 64]⟩
abbrev S3x64 : Shape := ⟨2, ![3, 64]⟩
abbrev S1x128 : Shape := ⟨2, ![1, 128]⟩
abbrev S6x704 : Shape := ⟨2, ![6, 704]⟩
abbrev S1x1024 : Shape := ⟨2, ![1, 1024]⟩
abbrev S1x512 : Shape := ⟨2, ![1, 512]⟩
abbrev S2x1024 : Shape := ⟨2, ![2, 1024]⟩
abbrev S_ : Shape := ⟨0, ![]⟩

abbrev nBuf : Space → Nat
  | .hbm => 390
  | .vmem => 0
  | .smem => 0
  | _ => 0

abbrev hbmTy0_0 (i : Nat) : BufTy := match i % 128 with
  | 0 => ⟨S8x31x64, .f32⟩
  | 1 => ⟨S8x3x64, .f32⟩
  | 2 => ⟨S8x1x128, .f32⟩
  | 3 => ⟨S8x1x128, .f32⟩
  | 4 => ⟨S8x6x704, .f32⟩
  | 5 => ⟨S8x1x1024, .f32⟩
  | 6 => ⟨S8x1x512, .f32⟩
  | 7 => ⟨S8x1x512, .f32⟩
  | 8 => ⟨S8x2x1024, .f32⟩
  | 9 => ⟨S8x1x1024, .f32⟩
  | 10 => ⟨S31x64, .f32⟩
  | 11 => ⟨S3x64, .f32⟩
  | 12 => ⟨S1x128, .f32⟩
  | 13 => ⟨S1x128, .f32⟩
  | 14 => ⟨S6x704, .f32⟩
  | 15 => ⟨S1x1024, .f32⟩
  | 16 => ⟨S1x512, .f32⟩
  | 17 => ⟨S1x512, .f32⟩
  | 18 => ⟨S2x1024, .f32⟩
  | 19 => ⟨S1x1024, .f32⟩
  | 20 => ⟨S31x64, .f32⟩
  | 21 => ⟨S3x64, .f32⟩
  | 22 => ⟨S1x128, .f32⟩
  | 23 => ⟨S1x128, .f32⟩
  | 24 => ⟨S6x704, .f32⟩
  | 25 => ⟨S1x1024, .f32⟩
  | 26 => ⟨S1x512, .f32⟩
  | 27 => ⟨S1x512, .f32⟩
  | 28 => ⟨S2x1024, .f32⟩
  | 29 => ⟨S1x1024, .f32⟩
  | 30 => ⟨S31x64, .f32⟩
  | 31 => ⟨S3x64, .f32⟩
  | 32 => ⟨S1x128, .f32⟩
  | 33 => ⟨S1x128, .f32⟩
  | 34 => ⟨S6x704, .f32⟩
  | 35 => ⟨S1x1024, .f32⟩
  | 36 => ⟨S1x512, .f32⟩
  | 37 => ⟨S1x512, .f32⟩
  | 38 => ⟨S2x1024, .f32⟩
  | 39 => ⟨S1x1024, .f32⟩
  | 40 => ⟨S_, .f32⟩
  | 41 => ⟨S31x64, .f32⟩
  | 42 => ⟨S_, .f32⟩
  | 43 => ⟨S31x64, .f32⟩
  | 44 => ⟨S31x64, .f32⟩
  | 45 => ⟨S_, .f32⟩
  | 46 => ⟨S31x64, .f32⟩
  | 47 => ⟨S31x64, .f32⟩
  | 48 => ⟨S31x64, .f32⟩
  | 49 => ⟨S_, .f32⟩
  | 50 => ⟨S31x64, .f32⟩
  | 51 => ⟨S31x64, .f32⟩
  | 52 => ⟨S31x64, .f32⟩
  | 53 => ⟨S_, .f32⟩
  | 54 => ⟨S31x64, .f32⟩
  | 55 => ⟨S31x64, .f32⟩
  | 56 => ⟨S31x64, .f32⟩
  | 57 => ⟨S_, .f32⟩
  | 58 => ⟨S31x64, .f32⟩
  | 59 => ⟨S31x64, .f32⟩
  | 60 => ⟨S_, .f32⟩
  | 61 => ⟨S31x64, .f32⟩
  | 62 => ⟨S31x64, .f32⟩
  | 63 => ⟨S31x64, .f32⟩
  | 64 => ⟨S_, .f32⟩
  | 65 => ⟨S31x64, .f32⟩
  | 66 => ⟨S31x64, .f32⟩
  | 67 => ⟨S31x64, .f32⟩
  | 68 => ⟨S_, .f32⟩
  | 69 => ⟨S31x64, .f32⟩
  | 70 => ⟨S31x64, .f32⟩
  | 71 => ⟨S31x64, .f32⟩
  | 72 => ⟨S_, .f32⟩
  | 73 => ⟨S31x64, .f32⟩
  | 74 => ⟨S31x64, .f32⟩
  | 75 => ⟨S_, .f32⟩
  | 76 => ⟨S3x64, .f32⟩
  | 77 => ⟨S_, .f32⟩
  | 78 => ⟨S3x64, .f32⟩
  | 79 => ⟨S3x64, .f32⟩
  | 80 => ⟨S_, .f32⟩
  | 81 => ⟨S3x64, .f32⟩
  | 82 => ⟨S3x64, .f32⟩
  | 83 => ⟨S3x64, .f32⟩
  | 84 => ⟨S_, .f32⟩
  | 85 => ⟨S3x64, .f32⟩
  | 86 => ⟨S3x64, .f32⟩
  | 87 => ⟨S3x64, .f32⟩
  | 88 => ⟨S_, .f32⟩
  | 89 => ⟨S3x64, .f32⟩
  | 90 => ⟨S3x64, .f32⟩
  | 91 => ⟨S3x64, .f32⟩
  | 92 => ⟨S_, .f32⟩
  | 93 => ⟨S3x64, .f32⟩
  | 94 => ⟨S3x64, .f32⟩
  | 95 => ⟨S_, .f32⟩
  | 96 => ⟨S3x64, .f32⟩
  | 97 => ⟨S3x64, .f32⟩
  | 98 => ⟨S3x64, .f32⟩
  | 99 => ⟨S_, .f32⟩
  | 100 => ⟨S3x64, .f32⟩
  | 101 => ⟨S3x64, .f32⟩
  | 102 => ⟨S3x64, .f32⟩
  | 103 => ⟨S_, .f32⟩
  | 104 => ⟨S3x64, .f32⟩
  | 105 => ⟨S3x64, .f32⟩
  | 106 => ⟨S3x64, .f32⟩
  | 107 => ⟨S_, .f32⟩
  | 108 => ⟨S3x64, .f32⟩
  | 109 => ⟨S3x64, .f32⟩
  | 110 => ⟨S_, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S_, .f32⟩
  | _ => ⟨S8x31x64, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S_, .f32⟩
  | 18 => ⟨S1x128, .f32⟩
  | 19 => ⟨S_, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S_, .f32⟩
  | 53 => ⟨S6x704, .f32⟩
  | 54 => ⟨S_, .f32⟩
  | 55 => ⟨S6x704, .f32⟩
  | 56 => ⟨S6x704, .f32⟩
  | 57 => ⟨S_, .f32⟩
  | 58 => ⟨S6x704, .f32⟩
  | 59 => ⟨S6x704, .f32⟩
  | 60 => ⟨S6x704, .f32⟩
  | 61 => ⟨S_, .f32⟩
  | 62 => ⟨S6x704, .f32⟩
  | 63 => ⟨S6x704, .f32⟩
  | 64 => ⟨S6x704, .f32⟩
  | 65 => ⟨S_, .f32⟩
  | 66 => ⟨S6x704, .f32⟩
  | 67 => ⟨S6x704, .f32⟩
  | 68 => ⟨S6x704, .f32⟩
  | 69 => ⟨S_, .f32⟩
  | 70 => ⟨S6x704, .f32⟩
  | 71 => ⟨S6x704, .f32⟩
  | 72 => ⟨S_, .f32⟩
  | 73 => ⟨S6x704, .f32⟩
  | 74 => ⟨S6x704, .f32⟩
  | 75 => ⟨S6x704, .f32⟩
  | 76 => ⟨S_, .f32⟩
  | 77 => ⟨S6x704, .f32⟩
  | 78 => ⟨S6x704, .f32⟩
  | 79 => ⟨S6x704, .f32⟩
  | 80 => ⟨S_, .f32⟩
  | 81 => ⟨S6x704, .f32⟩
  | 82 => ⟨S6x704, .f32⟩
  | 83 => ⟨S6x704, .f32⟩
  | 84 => ⟨S_, .f32⟩
  | 85 => ⟨S6x704, .f32⟩
  | 86 => ⟨S6x704, .f32⟩
  | 87 => ⟨S_, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S_, .f32⟩
  | 123 => ⟨S1x512, .f32⟩
  | 124 => ⟨S_, .f32⟩
  | 125 => ⟨S1x512, .f32⟩
  | 126 => ⟨S1x512, .f32⟩
  | 127 => ⟨S_, .f32⟩
  | _ => ⟨S8x31x64, .f32⟩

abbrev hbmTy0_2 (i : Nat) : BufTy := match i % 128 with
  | 0 => ⟨S1x512, .f32⟩
  | 1 => ⟨S1x512, .f32⟩
  | 2 => ⟨S1x512, .f32⟩
  | 3 => ⟨S_, .f32⟩
  | 4 => ⟨S1x512, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S_, .f32⟩
  | 30 => ⟨S1x512, .f32⟩
  | 31 => ⟨S_, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S1x512, .f32⟩
  | 61 => ⟨S_, .f32⟩
  | 62 => ⟨S1x512, .f32⟩
  | 63 => ⟨S1x512, .f32⟩
  | 64 => ⟨S_, .f32⟩
  | 65 => ⟨S2x1024, .f32⟩
  | 66 => ⟨S_, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S2x1024, .f32⟩
  | 73 => ⟨S_, .f32⟩
  | 74 => ⟨S2x1024, .f32⟩
  | 75 => ⟨S2x1024, .f32⟩
  | 76 => ⟨S2x1024, .f32⟩
  | 77 => ⟨S_, .f32⟩
  | 78 => ⟨S2x1024, .f32⟩
  | 79 => ⟨S2x1024, .f32⟩
  | 80 => ⟨S2x1024, .f32⟩
  | 81 => ⟨S_, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S_, .f32⟩
  | 100 => ⟨S1x1024, .f32⟩
  | 101 => ⟨S_, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x31x64, .f32⟩

abbrev hbmTy0_3 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | _ => ⟨S8x31x64, .f32⟩

abbrev hbmTy (i : Nat) : BufTy := match i / 128 with
  | 0 => hbmTy0_0 i
  | 1 => hbmTy0_1 i
  | 2 => hbmTy0_2 i
  | 3 => hbmTy0_3 i
  | _ => ⟨S8x31x64, .f32⟩

abbrev bufTy : (tb : Table) → Fin (tcTables nBuf tb) → BufTy
  | .hbm, ⟨i, _⟩ => hbmTy i
  | _, _ => ⟨S8x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_cst_0 : Ref sig .tc := ⟨.hbm, 42, rfl⟩
abbrev main_v1 : Ref sig .tc := ⟨.hbm, 43, rfl⟩
abbrev main_v2 : Ref sig .tc := ⟨.hbm, 44, rfl⟩
abbrev main_cst_1 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst_2 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst_3 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst_4 : Ref sig .tc := ⟨.hbm, 57, rfl⟩
abbrev main_v12 : Ref sig .tc := ⟨.hbm, 58, rfl⟩
abbrev main_v13 : Ref sig .tc := ⟨.hbm, 59, rfl⟩
abbrev main_cst_5 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_cst_6 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_cst_7 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_8 : Ref sig .tc := ⟨.hbm, 72, rfl⟩
abbrev main_v23 : Ref sig .tc := ⟨.hbm, 73, rfl⟩
abbrev main_v24 : Ref sig .tc := ⟨.hbm, 74, rfl⟩
abbrev main_cst_9 : Ref sig .tc := ⟨.hbm, 75, rfl⟩
abbrev main_v25 : Ref sig .tc := ⟨.hbm, 76, rfl⟩
abbrev main_cst_10 : Ref sig .tc := ⟨.hbm, 77, rfl⟩
abbrev main_v26 : Ref sig .tc := ⟨.hbm, 78, rfl⟩
abbrev main_v27 : Ref sig .tc := ⟨.hbm, 79, rfl⟩
abbrev main_cst_11 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_12 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_13 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_14 : Ref sig .tc := ⟨.hbm, 92, rfl⟩
abbrev main_v37 : Ref sig .tc := ⟨.hbm, 93, rfl⟩
abbrev main_v38 : Ref sig .tc := ⟨.hbm, 94, rfl⟩
abbrev main_cst_15 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_16 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_cst_17 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_18 : Ref sig .tc := ⟨.hbm, 107, rfl⟩
abbrev main_v48 : Ref sig .tc := ⟨.hbm, 108, rfl⟩
abbrev main_v49 : Ref sig .tc := ⟨.hbm, 109, rfl⟩
abbrev main_cst_19 : Ref sig .tc := ⟨.hbm, 110, rfl⟩
abbrev main_v50 : Ref sig .tc := ⟨.hbm, 111, rfl⟩
abbrev main_cst_20 : Ref sig .tc := ⟨.hbm, 112, rfl⟩
abbrev main_v51 : Ref sig .tc := ⟨.hbm, 113, rfl⟩
abbrev main_v52 : Ref sig .tc := ⟨.hbm, 114, rfl⟩
abbrev main_cst_21 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_22 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_23 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_24 : Ref sig .tc := ⟨.hbm, 127, rfl⟩
abbrev main_v62 : Ref sig .tc := ⟨.hbm, 128, rfl⟩
abbrev main_v63 : Ref sig .tc := ⟨.hbm, 129, rfl⟩
abbrev main_cst_25 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_26 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_27 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_28 : Ref sig .tc := ⟨.hbm, 142, rfl⟩
abbrev main_v73 : Ref sig .tc := ⟨.hbm, 143, rfl⟩
abbrev main_v74 : Ref sig .tc := ⟨.hbm, 144, rfl⟩
abbrev main_cst_29 : Ref sig .tc := ⟨.hbm, 145, rfl⟩
abbrev main_v75 : Ref sig .tc := ⟨.hbm, 146, rfl⟩
abbrev main_cst_30 : Ref sig .tc := ⟨.hbm, 147, rfl⟩
abbrev main_v76 : Ref sig .tc := ⟨.hbm, 148, rfl⟩
abbrev main_v77 : Ref sig .tc := ⟨.hbm, 149, rfl⟩
abbrev main_cst_31 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_cst_32 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_cst_33 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_34 : Ref sig .tc := ⟨.hbm, 162, rfl⟩
abbrev main_v87 : Ref sig .tc := ⟨.hbm, 163, rfl⟩
abbrev main_v88 : Ref sig .tc := ⟨.hbm, 164, rfl⟩
abbrev main_cst_35 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_cst_36 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_cst_37 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_cst_38 : Ref sig .tc := ⟨.hbm, 177, rfl⟩
abbrev main_v98 : Ref sig .tc := ⟨.hbm, 178, rfl⟩
abbrev main_v99 : Ref sig .tc := ⟨.hbm, 179, rfl⟩
abbrev main_cst_39 : Ref sig .tc := ⟨.hbm, 180, rfl⟩
abbrev main_v100 : Ref sig .tc := ⟨.hbm, 181, rfl⟩
abbrev main_cst_40 : Ref sig .tc := ⟨.hbm, 182, rfl⟩
abbrev main_v101 : Ref sig .tc := ⟨.hbm, 183, rfl⟩
abbrev main_v102 : Ref sig .tc := ⟨.hbm, 184, rfl⟩
abbrev main_cst_41 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_42 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_43 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_44 : Ref sig .tc := ⟨.hbm, 197, rfl⟩
abbrev main_v112 : Ref sig .tc := ⟨.hbm, 198, rfl⟩
abbrev main_v113 : Ref sig .tc := ⟨.hbm, 199, rfl⟩
abbrev main_cst_45 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_46 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_cst_47 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_48 : Ref sig .tc := ⟨.hbm, 212, rfl⟩
abbrev main_v123 : Ref sig .tc := ⟨.hbm, 213, rfl⟩
abbrev main_v124 : Ref sig .tc := ⟨.hbm, 214, rfl⟩
abbrev main_cst_49 : Ref sig .tc := ⟨.hbm, 215, rfl⟩
abbrev main_v125 : Ref sig .tc := ⟨.hbm, 216, rfl⟩
abbrev main_cst_50 : Ref sig .tc := ⟨.hbm, 217, rfl⟩
abbrev main_v126 : Ref sig .tc := ⟨.hbm, 218, rfl⟩
abbrev main_v127 : Ref sig .tc := ⟨.hbm, 219, rfl⟩
abbrev main_cst_51 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_52 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_cst_53 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_cst_54 : Ref sig .tc := ⟨.hbm, 232, rfl⟩
abbrev main_v137 : Ref sig .tc := ⟨.hbm, 233, rfl⟩
abbrev main_v138 : Ref sig .tc := ⟨.hbm, 234, rfl⟩
abbrev main_cst_55 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_56 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_cst_57 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_cst_58 : Ref sig .tc := ⟨.hbm, 247, rfl⟩
abbrev main_v148 : Ref sig .tc := ⟨.hbm, 248, rfl⟩
abbrev main_v149 : Ref sig .tc := ⟨.hbm, 249, rfl⟩
abbrev main_cst_59 : Ref sig .tc := ⟨.hbm, 250, rfl⟩
abbrev main_v150 : Ref sig .tc := ⟨.hbm, 251, rfl⟩
abbrev main_cst_60 : Ref sig .tc := ⟨.hbm, 252, rfl⟩
abbrev main_v151 : Ref sig .tc := ⟨.hbm, 253, rfl⟩
abbrev main_v152 : Ref sig .tc := ⟨.hbm, 254, rfl⟩
abbrev main_cst_61 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_cst_62 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_cst_63 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_cst_64 : Ref sig .tc := ⟨.hbm, 267, rfl⟩
abbrev main_v162 : Ref sig .tc := ⟨.hbm, 268, rfl⟩
abbrev main_v163 : Ref sig .tc := ⟨.hbm, 269, rfl⟩
abbrev main_cst_65 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_cst_66 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_cst_67 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_68 : Ref sig .tc := ⟨.hbm, 282, rfl⟩
abbrev main_v173 : Ref sig .tc := ⟨.hbm, 283, rfl⟩
abbrev main_v174 : Ref sig .tc := ⟨.hbm, 284, rfl⟩
abbrev main_cst_69 : Ref sig .tc := ⟨.hbm, 285, rfl⟩
abbrev main_v175 : Ref sig .tc := ⟨.hbm, 286, rfl⟩
abbrev main_cst_70 : Ref sig .tc := ⟨.hbm, 287, rfl⟩
abbrev main_v176 : Ref sig .tc := ⟨.hbm, 288, rfl⟩
abbrev main_v177 : Ref sig .tc := ⟨.hbm, 289, rfl⟩
abbrev main_cst_71 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_cst_72 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_cst_73 : Ref sig .tc := ⟨.hbm, 298, rfl⟩
abbrev main_v184 : Ref sig .tc := ⟨.hbm, 299, rfl⟩
abbrev main_v185 : Ref sig .tc := ⟨.hbm, 300, rfl⟩
abbrev main_v186 : Ref sig .tc := ⟨.hbm, 301, rfl⟩
abbrev main_cst_74 : Ref sig .tc := ⟨.hbm, 302, rfl⟩
abbrev main_v187 : Ref sig .tc := ⟨.hbm, 303, rfl⟩
abbrev main_v188 : Ref sig .tc := ⟨.hbm, 304, rfl⟩
abbrev main_cst_75 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_cst_76 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_cst_77 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_cst_78 : Ref sig .tc := ⟨.hbm, 317, rfl⟩
abbrev main_v198 : Ref sig .tc := ⟨.hbm, 318, rfl⟩
abbrev main_v199 : Ref sig .tc := ⟨.hbm, 319, rfl⟩
abbrev main_cst_79 : Ref sig .tc := ⟨.hbm, 320, rfl⟩
abbrev main_v200 : Ref sig .tc := ⟨.hbm, 321, rfl⟩
abbrev main_cst_80 : Ref sig .tc := ⟨.hbm, 322, rfl⟩
abbrev main_v201 : Ref sig .tc := ⟨.hbm, 323, rfl⟩
abbrev main_v202 : Ref sig .tc := ⟨.hbm, 324, rfl⟩
abbrev main_cst_81 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_cst_82 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_cst_83 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_cst_84 : Ref sig .tc := ⟨.hbm, 337, rfl⟩
abbrev main_v212 : Ref sig .tc := ⟨.hbm, 338, rfl⟩
abbrev main_v213 : Ref sig .tc := ⟨.hbm, 339, rfl⟩
abbrev main_cst_85 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_cst_86 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_cst_87 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_cst_88 : Ref sig .tc := ⟨.hbm, 352, rfl⟩
abbrev main_v223 : Ref sig .tc := ⟨.hbm, 353, rfl⟩
abbrev main_v224 : Ref sig .tc := ⟨.hbm, 354, rfl⟩
abbrev main_cst_89 : Ref sig .tc := ⟨.hbm, 355, rfl⟩
abbrev main_v225 : Ref sig .tc := ⟨.hbm, 356, rfl⟩
abbrev main_cst_90 : Ref sig .tc := ⟨.hbm, 357, rfl⟩
abbrev main_v226 : Ref sig .tc := ⟨.hbm, 358, rfl⟩
abbrev main_v227 : Ref sig .tc := ⟨.hbm, 359, rfl⟩
abbrev main_cst_91 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩
abbrev main_cst_92 : Ref sig .tc := ⟨.hbm, 364, rfl⟩
abbrev main_v231 : Ref sig .tc := ⟨.hbm, 365, rfl⟩
abbrev main_v232 : Ref sig .tc := ⟨.hbm, 366, rfl⟩
abbrev main_v233 : Ref sig .tc := ⟨.hbm, 367, rfl⟩
abbrev main_cst_93 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_cst_94 : Ref sig .tc := ⟨.hbm, 372, rfl⟩
abbrev main_v237 : Ref sig .tc := ⟨.hbm, 373, rfl⟩
abbrev main_v238 : Ref sig .tc := ⟨.hbm, 374, rfl⟩
abbrev main_cst_95 : Ref sig .tc := ⟨.hbm, 375, rfl⟩
abbrev main_v239 : Ref sig .tc := ⟨.hbm, 376, rfl⟩
abbrev main_v240 : Ref sig .tc := ⟨.hbm, 377, rfl⟩
abbrev main_v241 : Ref sig .tc := ⟨.hbm, 378, rfl⟩
abbrev main_cst_96 : Ref sig .tc := ⟨.hbm, 379, rfl⟩
abbrev main_v242 : Ref sig .tc := ⟨.hbm, 380, rfl⟩
abbrev main_v243 : Ref sig .tc := ⟨.hbm, 381, rfl⟩
abbrev main_v244 : Ref sig .tc := ⟨.hbm, 382, rfl⟩
abbrev main_cst_97 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_cst_98 : Ref sig .tc := ⟨.hbm, 387, rfl⟩
abbrev main_v248 : Ref sig .tc := ⟨.hbm, 388, rfl⟩
abbrev main_v249 : Ref sig .tc := ⟨.hbm, 389, rfl⟩

abbrev nD : Nat := 1
abbrev τ : Topo := Topo.v7x

variable {F : FTy → Type} [FloatOps F]
-- ==== Proof.PoolSum.lean ====
/- Sums over the rows ahead: a window sum from a row to the last one, and the difference of two of them. -/
module

public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe
open scoped BigOperators

namespace Cert.PoolSum

/-- A left fold of additions is the start plus the sum. -/
theorem foldl_add_eq {ι : Type} (g : ι → EReal) : ∀ (l : List ι) (a : EReal),
    l.foldl (fun r n => r + g n) a = a + (l.map g).sum
  | [], a => by simp
  | n :: l, a => by simp [foldl_add_eq g l, add_assoc]

/-- The window sum that runs from a row to the last row, at row `t` and column `q`: the rows `t + k` that exist. -/
theorem sumAhead (x : FVec Ideal ⟨2, ![4096, 1024]⟩ .f32) (init : FVec Ideal ⟨0, ![]⟩ .f32)
    (h : (⟨2, ![4096, 1024]⟩ : Shape).ReduceWindows (![4096, 1] : Fin 2 → Nat) ![1, 1] ![0, 0] ![4095, 0] ⟨2, ![4096, 1024]⟩)
    (hu : 0 < (⟨0, ![]⟩ : Shape).numel) (h0 : init (Shape.Idx.first hu) = 0) (t : Fin 4096) (q : Fin 1024) :
    Host.reduceWindowAdd (F := Ideal) ![4096, 1] ![1, 1] ![0, 0] ![4095, 0] x init h hu (ix2 t q)
      = ∑ k : Fin 4096, if hk : t.val + k.val < 4096 then x (ix2 ⟨t.val + k.val, hk⟩ q) else (0 : EReal) := by
  unfold Host.reduceWindowAdd
  rw [Ideal.hostReduceWindowAdd_def, h0]
  unfold Ideal.hostReduceWindowAdd Host.reduceWindow
  refine (foldl_add_eq _ _ _).trans ?_
  rw [zero_add, ← Fin.sum_univ_def]
  refine (Finset.sum_congr rfl fun i _ => ?_).trans
    ((Equiv.sum_comp (Shape.rowMajor (⟨2, ![4096, 1]⟩ : Shape)).symm (fun p : (⟨2, ![4096, 1]⟩ : Shape).Idx =>
      if hk : t.val + (p 0).val < 4096 then x (ix2 ⟨t.val + (p 0).val, hk⟩ q) else (0 : EReal))).trans ?_)
  · have hp1 : ((Shape.rowMajor (⟨2, ![4096, 1]⟩ : Shape)).symm i 1).val = 0 := by
      have : ((Shape.rowMajor (⟨2, ![4096, 1]⟩ : Shape)).symm i 1).val < 1 := ((Shape.rowMajor (⟨2, ![4096, 1]⟩ : Shape)).symm i 1).isLt
      omega
    by_cases hk : t.val + (((Shape.rowMajor (⟨2, ![4096, 1]⟩ : Shape)).symm i 0).val) < 4096
    · rw [dif_pos hk, dif_pos]
      · refine congrArg x (funext fun a => ?_)
        fin_cases a
        · exact Fin.ext (by show t.val * 1 + ((Shape.rowMajor (⟨2, ![4096, 1]⟩ : Shape)).symm i 0).val - 0 = t.val + ((Shape.rowMajor (⟨2, ![4096, 1]⟩ : Shape)).symm i 0).val; omega)
        · exact Fin.ext (by show q.val * 1 + ((Shape.rowMajor (⟨2, ![4096, 1]⟩ : Shape)).symm i 1).val - 0 = q.val; omega)
      · intro a
        fin_cases a
        · show 0 ≤ t.val * 1 + ((Shape.rowMajor (⟨2, ![4096, 1]⟩ : Shape)).symm i 0).val ∧ t.val * 1 + ((Shape.rowMajor (⟨2, ![4096, 1]⟩ : Shape)).symm i 0).val - 0 < 4096
          omega
        · show 0 ≤ q.val * 1 + ((Shape.rowMajor (⟨2, ![4096, 1]⟩ : Shape)).symm i 1).val ∧ q.val * 1 + ((Shape.rowMajor (⟨2, ![4096, 1]⟩ : Shape)).symm i 1).val - 0 < 1024
          omega
    · rw [dif_neg hk, dif_neg]
      intro hin
      have h2 : t.val * 1 + ((Shape.rowMajor (⟨2, ![4096, 1]⟩ : Shape)).symm i 0).val - 0 < 4096 := (hin 0).2
      omega
  · rw [sum_idx2]
    exact Finset.sum_congr rfl fun k _ => Fin.sum_univ_one _

/-- A sum of differences at distance `w` keeps the first `w` terms, where the terms vanish from `N` on. -/
theorem sum_diff (E : ℕ → ℝ) (N w t : ℕ) (hE : ∀ s, N ≤ s → E s = 0) :
    ∑ k ∈ Finset.range N, (E (t + k) - E (t + k + w)) = ∑ k ∈ Finset.range w, E (t + k) := by
  have h1 : ∑ k ∈ Finset.range (N + w), E (t + k) = ∑ k ∈ Finset.range N, E (t + k) := by
    rw [Finset.sum_range_add, Finset.sum_eq_zero (s := Finset.range w), add_zero]
    intro k _
    exact hE _ (by omega)
  have h2 : ∑ k ∈ Finset.range (w + N), E (t + k)
      = ∑ k ∈ Finset.range w, E (t + k) + ∑ k ∈ Finset.range N, E (t + k + w) := by
    rw [Finset.sum_range_add]
    refine congrArg _ (Finset.sum_congr rfl fun k _ => congrArg E (by omega))
  rw [Finset.sum_sub_distrib, ← h1, Nat.add_comm N w, h2]
  ring

/-- A finite sum of finite extended reals is finite. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- An extended real whose absolute value is below the top one is a real. -/
theorem exists_coe_of_abs_lt_top {x : EReal} (h : max x (-x) < ⊤) : ∃ r : ℝ, x = (r : EReal) := by
  induction x using EReal.rec with
  | bot => simp at h
  | coe r => exact ⟨r, rfl⟩
  | top => simp at h

end Cert.PoolSum
-- ==== Proof.PoolLocal.lean ====
/- One block of the pooling branch's backward call: what its scratch arrays hold, and the gradient it forms from them. -/
module

public import proofs.«01_k».proof.Proof.Gen.KernelIdeal.Frame
public import proofs.«01_k».proof.Proof.PoolSum
public import Idealize.ShloMosaic.Lib.Pipeline.ValueKit
public import Idealize.ShloMosaic.Lib.WordArith
public import Idealize.ShloMosaic.Lib.PlanTiles.Rows

@[expose] public section

set_option maxRecDepth 16384

noncomputable section

open Idealize.ShloMosaic Idealize.ShloMosaic.TcCoe Idealize.SL.Sem
open scoped BigOperators

namespace Cert.KernelIdeal.Math

open Cert.KernelIdeal Cert.KernelIdeal.Gen

/-- A read of the array at rows below `n` of the 256 columns from `c` on is `f`. -/
def Reads (A : Vec Ideal S544x1024 .f32) (c n : ℕ) (f : ℕ → Fin 256 → EReal) : Prop :=
  ∀ (r : ℕ) (_ : r < n) (q : Fin 256) (hr : r < 544) (hc : c + q.val < 1024), A (ix2 ⟨r, hr⟩ ⟨c + q.val, hc⟩) = f r q

/-- A read inside the rectangle stored last is the stored value there. -/
theorem canon_hit {e : EltTy} {R C a b : ℕ} (o0 o1 : ℕ) {inb : ∀ x, (![o0, o1] : Fin 2 → ℕ) x + (![a, b] : Fin 2 → ℕ) x ≤ (⟨2, ![R, C]⟩ : Shape).size x}
    {P : Vec Ideal (⟨2, ![a, b]⟩ : Shape) e} {L : List (View.Piece (Elt Ideal) (⟨2, ![R, C]⟩ : Shape) e)} (r : Fin R) (j : Fin C) (x : Fin a) (y : Fin b)
    (hx : o0 + x.val = r.val) (hy : o1 + y.val = j.val) :
    View.canon ((⟨Rect.unit (s := (⟨2, ![R, C]⟩ : Shape)) ![o0, o1] ![a, b] inb, P⟩ : View.Piece (Elt Ideal) (⟨2, ![R, C]⟩ : Shape) e) :: L) (ix2 r j)
      = P (ix2 x y) := by
  have h := View.canon_cons_emb (Val := Elt Ideal) (e := e) (Rect.unit (s := (⟨2, ![R, C]⟩ : Shape)) ![o0, o1] ![a, b] inb) P L (ix2 x y)
  refine Eq.trans (congrArg _ ?_) h
  funext k
  refine Fin.ext ?_
  rw [Rect.emb_apply]
  match k with
  | ⟨0, _⟩ => show r.val = o0 + 1 * x.val; omega
  | ⟨1, _⟩ => show j.val = o1 + 1 * y.val; omega

/-- A read outside the rectangle stored last is a read of what was stored before. -/
theorem canon_miss {e : EltTy} {R C a b : ℕ} {o0 o1 : ℕ} {inb : ∀ x, (![o0, o1] : Fin 2 → ℕ) x + (![a, b] : Fin 2 → ℕ) x ≤ (⟨2, ![R, C]⟩ : Shape).size x}
    {P : Vec Ideal (⟨2, ![a, b]⟩ : Shape) e} {L : List (View.Piece (Elt Ideal) (⟨2, ![R, C]⟩ : Shape) e)} (r : Fin R) (j : Fin C)
    (h : r.val < o0 ∨ o0 + a ≤ r.val ∨ j.val < o1 ∨ o1 + b ≤ j.val) :
    View.canon ((⟨Rect.unit (s := (⟨2, ![R, C]⟩ : Shape)) ![o0, o1] ![a, b] inb, P⟩ : View.Piece (Elt Ideal) (⟨2, ![R, C]⟩ : Shape) e) :: L) (ix2 r j)
      = View.canon L (ix2 r j) := by
  refine View.canon_cons_of_not_mem (Val := Elt Ideal) _ L fun hm => ?_
  have hm' := (Rect.mem_set_unit (inb := inb)).mp hm
  have h0 : o0 ≤ r.val ∧ r.val < o0 + a := hm' (0 : Fin 2)
  have h1 : o1 ≤ j.val ∧ j.val < o1 + b := hm' (1 : Fin 2)
  omega

/-- A load of a box out of an array known by its stores, read at a row and a column of the box. -/
theorem readCov_at {sp : Space} {R C a b : ℕ} (o0 o1 : ℕ) (v : View sig .tc sp (⟨2, ![R, C]⟩ : Shape) .f32) (L : List (View.Piece (Elt Ideal) (⟨2, ![R, C]⟩ : Shape) .f32))
    {inb : ∀ x, (![o0, o1] : Fin 2 → ℕ) x + (![a, b] : Fin 2 → ℕ) x ≤ (⟨2, ![R, C]⟩ : Shape).size x}
    (x : Fin a) (y : Fin b) (hr : o0 + x.val < R) (hj : o1 + y.val < C) :
    v.readCov L (Rect.unit (s := (⟨2, ![R, C]⟩ : Shape)) ![o0, o1] ![a, b] inb).toLoadRect (ix2 x y) = View.canon L (ix2 ⟨o0 + x.val, hr⟩ ⟨o1 + y.val, hj⟩) := by
  rw [View.readCov_eq_canon']
  refine congrArg (View.canon L) (funext fun k => Fin.ext ?_)
  match k with
  | ⟨0, _⟩ => show o0 + 1 * x.val = o0 + x.val; omega
  | ⟨1, _⟩ => show o1 + 1 * y.val = o1 + y.val; omega

/-- Storing the sum of an array and the array `k` rows further down leaves that sum in the stored columns. -/
theorem Reads.dbl {sp : Space} {v : View sig .tc sp S544x1024 .f32} {M : List (View.Piece (Elt Ideal) S544x1024 .f32)} {c n : ℕ} {f : ℕ → Fin 256 → EReal}
    (hA : Reads (View.canon M) c n f) (m k : ℕ)
    (op : Vec Ideal S536x256 .f32 → Vec Ideal S536x256 .f32 → Vec Ideal S536x256 .f32) (hop : ∀ U V x, op U V x = (U x : EReal) + V x)
    {inb0 : ∀ a, (![0, c] : Fin 2 → ℕ) a + (![536, 256] : Fin 2 → ℕ) a ≤ S544x1024.size a}
    {inb1 : ∀ a, (![0, c] : Fin 2 → ℕ) a + (![536, 256] : Fin 2 → ℕ) a ≤ S544x1024.size a}
    {inb2 : ∀ a, (![k, c] : Fin 2 → ℕ) a + (![536, 256] : Fin 2 → ℕ) a ≤ S544x1024.size a}
    {L : List (View.Piece (Elt Ideal) S544x1024 .f32)} (hm : m ≤ 536) (hmk : m + k ≤ n) (hn : n ≤ 544) :
    Reads (View.canon ((⟨Rect.unit (s := S544x1024) ![0, c] ![536, 256] inb0,
      op (v.readCov M (Rect.unit (s := S544x1024) ![0, c] ![536, 256] inb1).toLoadRect) (v.readCov M (Rect.unit (s := S544x1024) ![k, c] ![536, 256] inb2).toLoadRect)⟩ :
        View.Piece (Elt Ideal) S544x1024 .f32) :: L)) c m (fun r q => f r q + f (r + k) q) := by
  intro r h q hr hc
  rw [canon_hit 0 c _ _ (⟨r, by omega⟩ : Fin 536) q (by simp) rfl]
  refine (hop _ _ _).trans ?_
  refine congrArg₂ (fun a b : EReal => a + b) ?_ ?_
  · refine (readCov_at 0 c v M _ _ (by simp; omega) (by omega)).trans (Eq.trans ?_ (hA r (by omega) q hr hc))
    exact congrArg (View.canon M) (congrArg₂ ix2 (Fin.ext (by simp)) rfl)
  · refine (readCov_at k c v M _ _ (by simp; omega) (by omega)).trans (Eq.trans ?_ (hA (r + k) (by omega) q (by omega) hc))
    exact congrArg (View.canon M) (congrArg₂ ix2 (Fin.ext (by simp; omega)) rfl)

/-- Reading the summed columns and taking the unsummed ones away. -/
theorem Reads.fin {sp sp' : Space} {v : View sig .tc sp S544x1024 .f32} {u : View sig .tc sp' S512x1024 .f32} {M : List (View.Piece (Elt Ideal) S544x1024 .f32)}
    {B : List (View.Piece (Elt Ideal) S512x1024 .f32)} {c n : ℕ} {f : ℕ → Fin 256 → EReal} {g : Fin 512 → Fin 256 → EReal} (hA : Reads (View.canon M) c n f)
    (op : Vec Ideal S512x256 .f32 → Vec Ideal S512x256 .f32 → Vec Ideal S512x256 .f32) (hop : ∀ U V x, op U V x = (U x : EReal) - V x)
    (hB : ∀ (r : Fin 512) (q : Fin 256) (hc : c + q.val < 1024), View.canon B (ix2 r ⟨c + q.val, hc⟩) = g r q)
    {inb1 : ∀ a, (![0, c] : Fin 2 → ℕ) a + (![512, 256] : Fin 2 → ℕ) a ≤ S544x1024.size a}
    {inb2 : ∀ a, (![0, c] : Fin 2 → ℕ) a + (![512, 256] : Fin 2 → ℕ) a ≤ S512x1024.size a}
    (hn : 512 ≤ n) (hcc : c + 256 ≤ 1024) (r : Fin 512) (q : Fin 256) :
    op (v.readCov M (Rect.unit (s := S544x1024) ![0, c] ![512, 256] inb1).toLoadRect) (u.readCov B (Rect.unit (s := S512x1024) ![0, c] ![512, 256] inb2).toLoadRect) (ix2 r q)
      = f r.val q - g r q := by
  refine (hop _ _ _).trans ?_
  refine congrArg₂ (fun a b : EReal => a - b) ?_ ?_
  · refine (readCov_at 0 c v M r q (by omega) (by omega)).trans (Eq.trans ?_ (hA r.val (by omega) q (by omega) (by omega)))
    exact congrArg (View.canon M) (congrArg₂ ix2 (Fin.ext (by simp)) rfl)
  · refine (readCov_at 0 c u B r q (by omega) (by omega)).trans (Eq.trans ?_ (hB r q (by omega)))
    exact congrArg (View.canon B) (congrArg₂ ix2 (Fin.ext (by simp)) rfl)

/-- Four column blocks of 256, stored one after another, read at a row of a column group. -/
theorem cols4 {e : EltTy} (f : Fin 512 → Fin 4 → Fin 256 → Elt Ideal e) {P0 P1 P2 P3 : Vec Ideal S512x256 e}
    {i0 : ∀ a, (![0, 0] : Fin 2 → ℕ) a + (![512, 256] : Fin 2 → ℕ) a ≤ S512x1024.size a}
    {i1 : ∀ a, (![0, 256] : Fin 2 → ℕ) a + (![512, 256] : Fin 2 → ℕ) a ≤ S512x1024.size a}
    {i2 : ∀ a, (![0, 512] : Fin 2 → ℕ) a + (![512, 256] : Fin 2 → ℕ) a ≤ S512x1024.size a}
    {i3 : ∀ a, (![0, 768] : Fin 2 → ℕ) a + (![512, 256] : Fin 2 → ℕ) a ≤ S512x1024.size a}
    (h0 : ∀ r q, P0 (ix2 r q) = f r 0 q) (h1 : ∀ r q, P1 (ix2 r q) = f r 1 q) (h2 : ∀ r q, P2 (ix2 r q) = f r 2 q) (h3 : ∀ r q, P3 (ix2 r q) = f r 3 q)
    (r : Fin 512) (g : Fin 4) (q : Fin 256) :
    View.canon ([⟨Rect.unit (s := S512x1024) ![0, 768] ![512, 256] i3, P3⟩, ⟨Rect.unit (s := S512x1024) ![0, 512] ![512, 256] i2, P2⟩,
      ⟨Rect.unit (s := S512x1024) ![0, 256] ![512, 256] i1, P1⟩, ⟨Rect.unit (s := S512x1024) ![0, 0] ![512, 256] i0, P0⟩] :
        List (View.Piece (Elt Ideal) S512x1024 e)) (ix2 r (⟨256 * g.val + q.val, by omega⟩ : Fin 1024))
      = f r g q := by
  match g with
  | 0 =>
    rw [canon_miss _ _ (by simp <;> omega), canon_miss _ _ (by simp <;> omega), canon_miss _ _ (by simp <;> omega),
      canon_hit 0 0 _ _ r q (by omega) (by simp)]
    exact h0 r q
  | 1 =>
    rw [canon_miss _ _ (by simp <;> omega), canon_miss _ _ (by simp <;> omega), canon_hit 0 256 _ _ r q (by omega) (by simp)]
    exact h1 r q
  | 2 =>
    rw [canon_miss _ _ (by simp <;> omega), canon_hit 0 512 _ _ r q (by omega) (by simp)]
    exact h2 r q
  | 3 =>
    rw [canon_hit 0 768 _ _ r q (by omega) (by simp)]
    exact h3 r q

/-- A row of a scaled block against a row of one group's weights. -/
def dot {n : ℕ} (A : Vec Ideal (⟨2, ![n, 256]⟩ : Shape) .f32) (S : Vec Ideal S1x256 .f32) (W : Vec Ideal S1x256x256 .bf16) (r : Fin n) (q : Fin 256) : EReal :=
  ∑ x : Fin 256, A (ix2 r x) * S (ix2 0 x) * W (ix3 0 q x)

/-- The number of rows a window of `w` holds at row `r` after row `b`, as the kernel counts it. -/
def cnt (b : BitVec 32) (w : BitVec 32) (r : ℕ) : EReal :=
  FloatOps.sitofp (F := Ideal) .f32 (IntOp.minsi (IntOp.addi (IntOp.addi (BitVec.ofNat 32 r) b) 1#32) w)

section payloads

variable (a : BitVec 32) (k : EReal) (A : Vec Ideal S512x256 .f32) (H : Vec Ideal S32x256 .f32) (S : Vec Ideal S1x256 .f32) (W : Vec Ideal S1x256x256 .bf16)

/-- Column group 0 of the gradient before pooling. -/
theorem dp0 (r : Fin 512) (q : Fin 256) : k0_pay10 A S W (ix2 r q) = dot A S W r q := by
  pointwise [k0_pay10, k0_pay9, k0_pay8, dot]
/-- Column group 1 of the gradient before pooling. -/
theorem dp1 (r : Fin 512) (q : Fin 256) : k0_pay15 A S W (ix2 r q) = dot A S W r q := by
  pointwise [k0_pay15, k0_pay14, k0_pay13, dot]
/-- Column group 2 of the gradient before pooling. -/
theorem dp2 (r : Fin 512) (q : Fin 256) : k0_pay22 A S W (ix2 r q) = dot A S W r q := by
  pointwise [k0_pay22, k0_pay21, k0_pay20, dot]
/-- Column group 3 of the gradient before pooling. -/
theorem dp3 (r : Fin 512) (q : Fin 256) : k0_pay28 (k0_pay26 A S) W (ix2 r q) = dot A S W r q := by
  pointwise [k0_pay28, k0_pay27, k0_pay26, dot]

/-- Column group 0 of that gradient over its row counts, in the block's own rows. -/
theorem main0 (r : Fin 512) (q : Fin 256) : k0_pay11 a (k0_pay9 A S W) (iota .tc S512x1 32 [0] iota_S512x1_d0_w32) (ix2 r q)
    = Ideal.div (dot A S W r q) (cnt (Scalar.muli a 512#32) 2#32 r.val) := by
  pointwise [k0_pay11, k0_pay9, k0_pay8, dot, cnt]
/-- Column group 1 of that gradient over its row counts, in the block's own rows. -/
theorem main1 (r : Fin 512) (q : Fin 256) : k0_pay16 a A S W (ix2 r q)
    = Ideal.div (dot A S W r q) (cnt (Scalar.muli a 512#32) 4#32 r.val) := by
  pointwise [k0_pay16, k0_pay14, k0_pay13, dot, cnt]
/-- Column group 2 of that gradient over its row counts, in the block's own rows. -/
theorem main2 (r : Fin 512) (q : Fin 256) : k0_pay24 (k0_pay21 A S W) (k0_pay23 a) 8#32 (ix2 r q)
    = Ideal.div (dot A S W r q) (cnt (Scalar.muli a 512#32) 8#32 r.val) := by
  pointwise [k0_pay24, k0_pay23, k0_pay21, k0_pay20, dot, cnt]
/-- Column group 3 of that gradient over its row counts, in the block's own rows. -/
theorem main3 (r : Fin 512) (q : Fin 256) : k0_pay29 a (k0_pay26 A S) W (ix2 r q)
    = Ideal.div (dot A S W r q) (cnt (Scalar.muli a 512#32) 16#32 r.val) := by
  pointwise [k0_pay29, k0_pay27, k0_pay26, dot, cnt]

/-- Column group 0 of that gradient over its row counts, in the rows after the block. -/
theorem halo0 (r : Fin 32) (q : Fin 256) : k0_pay12 a k H S W (ix2 r q)
    = Ideal.div (dot H S W r q) (cnt (Scalar.muli (Scalar.addi a 1#32) 512#32) 2#32 r.val) * k := by
  pointwise [k0_pay12, dot, cnt]
/-- Column group 1 of that gradient over its row counts, in the rows after the block. -/
theorem halo1 (r : Fin 32) (q : Fin 256) : k0_pay19 a k (k0_pay17 H S) (k0_pay18 W) (constant S32x256 .f32 0x00000000#32) (ix2 r q)
    = Ideal.div (dot H S W r q) (cnt (Scalar.muli (Scalar.addi a 1#32) 512#32) 4#32 r.val) * k := by
  pointwise [k0_pay19, k0_pay17, k0_pay18, dot, cnt]
/-- Column group 2 of that gradient over its row counts, in the rows after the block. -/
theorem halo2 (r : Fin 32) (q : Fin 256) : k0_pay25 a k H S W (ix2 r q)
    = Ideal.div (dot H S W r q) (cnt (Scalar.muli (Scalar.addi a 1#32) 512#32) 8#32 r.val) * k := by
  pointwise [k0_pay25, dot, cnt]
/-- Column group 3 of that gradient over its row counts, in the rows after the block. -/
theorem halo3 (r : Fin 32) (q : Fin 256) : k0_pay32 k (k0_pay30 H S W) (k0_pay31 a) (ix2 r q)
    = Ideal.div (dot H S W r q) (cnt (Scalar.muli (Scalar.addi a 1#32) 512#32) 16#32 r.val) * k := by
  pointwise [k0_pay32, k0_pay30, k0_pay31, dot, cnt]

/-- The stored array is the sum of the two read. -/
theorem add35 (U V : Vec Ideal S536x256 .f32) (x) : k0_pay35 U V x = (U x : EReal) + V x := by pointwise [k0_pay35]
/-- The stored array is the sum of the two read. -/
theorem add37 (U V : Vec Ideal S536x256 .f32) (x) : k0_pay37 U V x = (U x : EReal) + V x := by pointwise [k0_pay37]
/-- The stored array is the sum of the two read. -/
theorem add38 (U V : Vec Ideal S536x256 .f32) (x) : k0_pay38 U V x = (U x : EReal) + V x := by pointwise [k0_pay38]
/-- The stored array is the sum of the two read. -/
theorem add40 (U V : Vec Ideal S536x256 .f32) (x) : k0_pay40 U V x = (U x : EReal) + V x := by pointwise [k0_pay40]
/-- The stored array is the sum of the two read. -/
theorem add42 (U V : Vec Ideal S536x256 .f32) (x) : k0_pay42 (k0_pay41 U V) x = (U x : EReal) + V x := by pointwise [k0_pay42, k0_pay41]
/-- The stored array is the sum of the two read. -/
theorem add43 (U V : Vec Ideal S536x256 .f32) (x) : k0_pay43 U V x = (U x : EReal) + V x := by pointwise [k0_pay43]
/-- The stored array is the sum of the two read. -/
theorem add45 (U V : Vec Ideal S536x256 .f32) (x) : k0_pay45 U V x = (U x : EReal) + V x := by pointwise [k0_pay45]
/-- The stored array is the sum of the two read. -/
theorem add46 (U V : Vec Ideal S536x256 .f32) (x) : k0_pay46 U V x = (U x : EReal) + V x := by pointwise [k0_pay46]
/-- The stored array is the sum of the two read. -/
theorem add47 (U V : Vec Ideal S536x256 .f32) (x) : k0_pay47 U V x = (U x : EReal) + V x := by pointwise [k0_pay47]
/-- The stored array is the sum of the two read. -/
theorem add48 (U V : Vec Ideal S536x256 .f32) (x) : k0_pay48 U V x = (U x : EReal) + V x := by pointwise [k0_pay48]
/-- The stored array is the difference of the two read. -/
theorem sub36 (U V : Vec Ideal S512x256 .f32) (x) : k0_pay36 U V x = (U x : EReal) - V x := by pointwise [k0_pay36]
/-- The stored array is the difference of the two read. -/
theorem sub39 (U V : Vec Ideal S512x256 .f32) (x) : k0_pay39 U V x = (U x : EReal) - V x := by pointwise [k0_pay39]
/-- The stored array is the difference of the two read. -/
theorem sub44 (U V : Vec Ideal S512x256 .f32) (x) : k0_pay44 U V x = (U x : EReal) - V x := by pointwise [k0_pay44]
/-- The stored array is the difference of the two read. -/
theorem sub49 (U V : Vec Ideal S512x256 .f32) (x) : k0_pay49 U V x = (U x : EReal) - V x := by pointwise [k0_pay49]
end payloads

/-- A row of a block's column group, scaled, against a row of the group's weights. -/
def dotM {n : ℕ} (X : Vec Ideal (⟨2, ![n, 1024]⟩ : Shape) .f32) (S : Vec Ideal S1x1024 .f32) (W : Vec Ideal S4x256x256 .bf16) (r : Fin n) (g : Fin 4) (q : Fin 256) : EReal :=
  ∑ x : Fin 256, X (ix2 r ⟨256 * g.val + x.val, by omega⟩) * S (ix2 0 ⟨256 * g.val + x.val, by omega⟩) * W (ix3 g q x)

/-- The columns of one group, read out of the blocks, give that row product. -/
theorem dot_ld {n o p : ℕ} (X : Vec Ideal (⟨2, ![n, 1024]⟩ : Shape) .f32) (S : Vec Ideal S1x1024 .f32) (W : Vec Ideal S4x256x256 .bf16) (g : Fin 4)
    {i0 : ∀ a, (![0, o] : Fin 2 → ℕ) a + (![n, 256] : Fin 2 → ℕ) a ≤ (⟨2, ![n, 1024]⟩ : Shape).size a}
    {i1 : ∀ a, (![0, o] : Fin 2 → ℕ) a + (![1, 256] : Fin 2 → ℕ) a ≤ S1x1024.size a}
    {i2 : ∀ a, (![p, 0, 0] : Fin 3 → ℕ) a + (![1, 256, 256] : Fin 3 → ℕ) a ≤ S4x256x256.size a}
    (ho : o = 256 * g.val) (hp : p = g.val) (r : Fin n) (q : Fin 256) :
    dot (View.ld X (Rect.unit (s := (⟨2, ![n, 1024]⟩ : Shape)) ![0, o] ![n, 256] i0)) (View.ld S (Rect.unit (s := S1x1024) ![0, o] ![1, 256] i1))
        (View.ld W (Rect.unit (s := S4x256x256) ![p, 0, 0] ![1, 256, 256] i2)) r q
      = dotM X S W r g q := by
  refine Finset.sum_congr rfl fun x _ => ?_
  refine congrArg₂ (fun u v : EReal => u * v) (congrArg₂ (fun u v : EReal => u * v) ?_ ?_) ?_
  · refine congrArg X (funext fun a => Fin.ext ?_)
    match a with
    | ⟨0, _⟩ => show 0 + 1 * r.val = r.val; omega
    | ⟨1, _⟩ => show o + 1 * x.val = 256 * g.val + x.val; omega
  · refine congrArg S (funext fun a => Fin.ext ?_)
    match a with
    | ⟨0, _⟩ => show 0 + 1 * 0 = 0; omega
    | ⟨1, _⟩ => show o + 1 * x.val = 256 * g.val + x.val; omega
  · refine congrArg W (funext fun a => Fin.ext ?_)
    match a with
    | ⟨0, _⟩ => show p + 1 * 0 = g.val; omega
    | ⟨1, _⟩ => show 0 + 1 * q.val = q.val; omega
    | ⟨2, _⟩ => show 0 + 1 * x.val = x.val; omega

/-- The array the windowed sums start from, when each of its eight pieces is `f` of its group: 512 rows and the 32 after them. -/
theorem ext_reads (f : Fin 4 → ℕ → Fin 256 → EReal) {P0 P1 P2 P3 : Vec Ideal S512x256 .f32} {Q0 Q1 Q2 Q3 : Vec Ideal S32x256 .f32}
    {i0 : ∀ a, (![0, 0] : Fin 2 → ℕ) a + (![512, 256] : Fin 2 → ℕ) a ≤ S544x1024.size a}
    {i1 : ∀ a, (![0, 256] : Fin 2 → ℕ) a + (![512, 256] : Fin 2 → ℕ) a ≤ S544x1024.size a}
    {i2 : ∀ a, (![0, 512] : Fin 2 → ℕ) a + (![512, 256] : Fin 2 → ℕ) a ≤ S544x1024.size a}
    {i3 : ∀ a, (![0, 768] : Fin 2 → ℕ) a + (![512, 256] : Fin 2 → ℕ) a ≤ S544x1024.size a}
    {j0 : ∀ a, (![512, 0] : Fin 2 → ℕ) a + (![32, 256] : Fin 2 → ℕ) a ≤ S544x1024.size a}
    {j1 : ∀ a, (![512, 256] : Fin 2 → ℕ) a + (![32, 256] : Fin 2 → ℕ) a ≤ S544x1024.size a}
    {j2 : ∀ a, (![512, 512] : Fin 2 → ℕ) a + (![32, 256] : Fin 2 → ℕ) a ≤ S544x1024.size a}
    {j3 : ∀ a, (![512, 768] : Fin 2 → ℕ) a + (![32, 256] : Fin 2 → ℕ) a ≤ S544x1024.size a}
    (h0 : ∀ r q, P0 (ix2 r q) = f 0 r.val q) (h1 : ∀ r q, P1 (ix2 r q) = f 1 r.val q) (h2 : ∀ r q, P2 (ix2 r q) = f 2 r.val q) (h3 : ∀ r q, P3 (ix2 r q) = f 3 r.val q)
    (e0 : ∀ r q, Q0 (ix2 r q) = f 0 (512 + r.val) q) (e1 : ∀ r q, Q1 (ix2 r q) = f 1 (512 + r.val) q) (e2 : ∀ r q, Q2 (ix2 r q) = f 2 (512 + r.val) q)
    (e3 : ∀ r q, Q3 (ix2 r q) = f 3 (512 + r.val) q) (g : Fin 4) :
    Reads (View.canon ([⟨Rect.unit (s := S544x1024) ![512, 768] ![32, 256] j3, Q3⟩, ⟨Rect.unit (s := S544x1024) ![0, 768] ![512, 256] i3, P3⟩,
      ⟨Rect.unit (s := S544x1024) ![512, 512] ![32, 256] j2, Q2⟩, ⟨Rect.unit (s := S544x1024) ![0, 512] ![512, 256] i2, P2⟩,
      ⟨Rect.unit (s := S544x1024) ![512, 256] ![32, 256] j1, Q1⟩, ⟨Rect.unit (s := S544x1024) ![0, 256] ![512, 256] i1, P1⟩,
      ⟨Rect.unit (s := S544x1024) ![512, 0] ![32, 256] j0, Q0⟩, ⟨Rect.unit (s := S544x1024) ![0, 0] ![512, 256] i0, P0⟩] :
        List (View.Piece (Elt Ideal) S544x1024 .f32))) (256 * g.val) 544 (f g) := by
  intro r hr q hr' hc
  by_cases h : r < 512
  · match g with
    | 0 =>
      iterate 7 rw [canon_miss _ _ (by simp <;> omega)]
      rw [canon_hit 0 0 _ _ (⟨r, h⟩ : Fin 512) q (by simp) (by simp)]
      exact h0 ⟨r, h⟩ q
    | 1 =>
      iterate 5 rw [canon_miss _ _ (by simp <;> omega)]
      rw [canon_hit 0 256 _ _ (⟨r, h⟩ : Fin 512) q (by simp) (by simp)]
      exact h1 ⟨r, h⟩ q
    | 2 =>
      iterate 3 rw [canon_miss _ _ (by simp <;> omega)]
      rw [canon_hit 0 512 _ _ (⟨r, h⟩ : Fin 512) q (by simp) (by simp)]
      exact h2 ⟨r, h⟩ q
    | 3 =>
      rw [canon_miss _ _ (by simp <;> omega)]
      rw [canon_hit 0 768 _ _ (⟨r, h⟩ : Fin 512) q (by simp) (by simp)]
      exact h3 ⟨r, h⟩ q
  · obtain ⟨s, rfl⟩ : ∃ s, r = 512 + s := ⟨r - 512, by omega⟩
    have hs : s < 32 := by omega
    match g with
    | 0 =>
      iterate 6 rw [canon_miss _ _ (by simp <;> omega)]
      rw [canon_hit 512 0 _ _ (⟨s, hs⟩ : Fin 32) q (by simp) (by simp)]
      exact e0 ⟨s, hs⟩ q
    | 1 =>
      iterate 4 rw [canon_miss _ _ (by simp <;> omega)]
      rw [canon_hit 512 256 _ _ (⟨s, hs⟩ : Fin 32) q (by simp) (by simp)]
      exact e1 ⟨s, hs⟩ q
    | 2 =>
      iterate 2 rw [canon_miss _ _ (by simp <;> omega)]
      rw [canon_hit 512 512 _ _ (⟨s, hs⟩ : Fin 32) q (by simp) (by simp)]
      exact e2 ⟨s, hs⟩ q
    | 3 =>
      rw [canon_hit 512 768 _ _ (⟨s, hs⟩ : Fin 32) q (by simp) (by simp)]
      exact e3 ⟨s, hs⟩ q

/-- The word a group's row counts are cut off at. -/
def cap (g : Fin 4) : BitVec 32 := BitVec.ofNat 32 (2 ^ (g.val + 1))

/-- The gradient over its row counts, in a block's rows and the 32 rows after it. -/
def extB (a : BitVec 32) (k : EReal) (X : Vec Ideal S512x1024 .f32) (Y : Vec Ideal S32x1024 .f32) (S : Vec Ideal S1x1024 .f32) (W : Vec Ideal S4x256x256 .bf16)
    (g : Fin 4) (r : ℕ) (q : Fin 256) : EReal :=
  if h : r < 512 then Ideal.div (dotM (n := 512) X S W ⟨r, h⟩ g q) (cnt (Scalar.muli a 512#32) (cap g) r)
  else if h' : r - 512 < 32 then Ideal.div (dotM (n := 32) Y S W ⟨r - 512, h'⟩ g q) (cnt (Scalar.muli (Scalar.addi a 1#32) 512#32) (cap g) (r - 512)) * k
  else 0

/-- The gradient before the normalisation, as a block forms it: sums of two, four, eight and sixteen rows, less the row's own. -/
def dhB (f : ℕ → EReal) (g : Fin 4) (r : ℕ) : EReal :=
  match g with
  | 0 => f r + f (r + 1)
  | 1 => f r + f (r + 1) + (f (r + 2) + f (r + 2 + 1))
  | 2 => f r + f (r + 1) + (f (r + 2) + f (r + 2 + 1)) + (f (r + 4) + f (r + 4 + 1) + (f (r + 4 + 2) + f (r + 4 + 2 + 1)))
  | 3 => f r + f (r + 1) + (f (r + 2) + f (r + 2 + 1)) + (f (r + 4) + f (r + 4 + 1) + (f (r + 4 + 2) + f (r + 4 + 2 + 1)))
      + (f (r + 8) + f (r + 8 + 1) + (f (r + 8 + 2) + f (r + 8 + 2 + 1)) + (f (r + 8 + 4) + f (r + 8 + 4 + 1) + (f (r + 8 + 4 + 2) + f (r + 8 + 4 + 2 + 1))))

theorem extB_lo (a : BitVec 32) (k : EReal) (X : Vec Ideal S512x1024 .f32) (Y : Vec Ideal S32x1024 .f32) (S : Vec Ideal S1x1024 .f32) (W : Vec Ideal S4x256x256 .bf16)
    (g : Fin 4) (r : Fin 512) (q : Fin 256) :
    Ideal.div (dotM (n := 512) X S W r g q) (cnt (Scalar.muli a 512#32) (cap g) r.val) = extB a k X Y S W g r.val q := by
  rw [extB, dif_pos r.isLt]

theorem extB_hi (a : BitVec 32) (k : EReal) (X : Vec Ideal S512x1024 .f32) (Y : Vec Ideal S32x1024 .f32) (S : Vec Ideal S1x1024 .f32) (W : Vec Ideal S4x256x256 .bf16)
    (g : Fin 4) (r : Fin 32) (q : Fin 256) :
    Ideal.div (dotM (n := 32) Y S W r g q) (cnt (Scalar.muli (Scalar.addi a 1#32) 512#32) (cap g) r.val) * k = extB a k X Y S W g (512 + r.val) q := by
  have h : 512 + r.val - 512 = r.val := by omega
  rw [extB, dif_neg (by omega), dif_pos (by omega)]
  simp only [h]

section pieces

variable (a : BitVec 32) (k : EReal) (X : Vec Ideal S512x1024 .f32) (Y : Vec Ideal S32x1024 .f32) (S : Vec Ideal S1x1024 .f32) (W : Vec Ideal S4x256x256 .bf16)

/-- The pieces a block stores before its windowed sums, last one first. -/
def extL : List (View.Piece (Elt Ideal) S544x1024 .f32) :=
    [⟨Rect.unit (s := S544x1024) ![512, 768] ![32, 256] inb_S544x1024_S32x256_512_768, k0_pay32 k (k0_pay30 (View.ld Y (Rect.unit (s := S32x1024) ![0, 768] ![32, 256] inb_S32x1024_S32x256_0_768)) (View.ld S (Rect.unit (s := S1x1024) ![0, 768] ![1, 256] inb_S1x1024_S1x256_0_768)) (View.ld W (Rect.unit (s := S4x256x256) ![3, 0, 0] ![1, 256, 256] inb_S4x256x256_S1x256x256_3_0_0))) (k0_pay31 a)⟩,
      ⟨Rect.unit (s := S544x1024) ![0, 768] ![512, 256] inb_S544x1024_S512x256_0_768, k0_pay29 a (k0_pay26 (View.ld X (Rect.unit (s := S512x1024) ![0, 768] ![512, 256] inb_S512x1024_S512x256_0_768)) (View.ld S (Rect.unit (s := S1x1024) ![0, 768] ![1, 256] inb_S1x1024_S1x256_0_768))) (View.ld W (Rect.unit (s := S4x256x256) ![3, 0, 0] ![1, 256, 256] inb_S4x256x256_S1x256x256_3_0_0))⟩,
      ⟨Rect.unit (s := S544x1024) ![512, 512] ![32, 256] inb_S544x1024_S32x256_512_512, k0_pay25 a k (View.ld Y (Rect.unit (s := S32x1024) ![0, 512] ![32, 256] inb_S32x1024_S32x256_0_512)) (View.ld S (Rect.unit (s := S1x1024) ![0, 512] ![1, 256] inb_S1x1024_S1x256_0_512)) (View.ld W (Rect.unit (s := S4x256x256) ![2, 0, 0] ![1, 256, 256] inb_S4x256x256_S1x256x256_2_0_0))⟩,
      ⟨Rect.unit (s := S544x1024) ![0, 512] ![512, 256] inb_S544x1024_S512x256_0_512, k0_pay24 (k0_pay21 (View.ld X (Rect.unit (s := S512x1024) ![0, 512] ![512, 256] inb_S512x1024_S512x256_0_512)) (View.ld S (Rect.unit (s := S1x1024) ![0, 512] ![1, 256] inb_S1x1024_S1x256_0_512)) (View.ld W (Rect.unit (s := S4x256x256) ![2, 0, 0] ![1, 256, 256] inb_S4x256x256_S1x256x256_2_0_0))) (k0_pay23 a) 8#32⟩,
      ⟨Rect.unit (s := S544x1024) ![512, 256] ![32, 256] inb_S544x1024_S32x256_512_256, k0_pay19 a k (k0_pay17 (View.ld Y (Rect.unit (s := S32x1024) ![0, 256] ![32, 256] inb_S32x1024_S32x256_0_256)) (View.ld S (Rect.unit (s := S1x1024) ![0, 256] ![1, 256] inb_S1x1024_S1x256_0_256))) (k0_pay18 (View.ld W (Rect.unit (s := S4x256x256) ![1, 0, 0] ![1, 256, 256] inb_S4x256x256_S1x256x256_1_0_0))) (constant S32x256 .f32 0x00000000#32)⟩,
      ⟨Rect.unit (s := S544x1024) ![0, 256] ![512, 256] inb_S544x1024_S512x256_0_256, k0_pay16 a (View.ld X (Rect.unit (s := S512x1024) ![0, 256] ![512, 256] inb_S512x1024_S512x256_0_256)) (View.ld S (Rect.unit (s := S1x1024) ![0, 256] ![1, 256] inb_S1x1024_S1x256_0_256)) (View.ld W (Rect.unit (s := S4x256x256) ![1, 0, 0] ![1, 256, 256] inb_S4x256x256_S1x256x256_1_0_0))⟩,
      ⟨Rect.unit (s := S544x1024) ![512, 0] ![32, 256] inb_S544x1024_S32x256_512_0, k0_pay12 a k (View.ld Y (Rect.unit (s := S32x1024) ![0, 0] ![32, 256] inb_S32x1024_S32x256_0_0)) (View.ld S (Rect.unit (s := S1x1024) ![0, 0] ![1, 256] inb_S1x1024_S1x256_0_0)) (View.ld W (Rect.unit (s := S4x256x256) ![0, 0, 0] ![1, 256, 256] inb_S4x256x256_S1x256x256_0_0_0))⟩,
      ⟨Rect.unit (s := S544x1024) ![0, 0] ![512, 256] inb_S544x1024_S512x256_0_0, k0_pay11 a (k0_pay9 (View.ld X (Rect.unit (s := S512x1024) ![0, 0] ![512, 256] inb_S512x1024_S512x256_0_0)) (View.ld S (Rect.unit (s := S1x1024) ![0, 0] ![1, 256] inb_S1x1024_S1x256_0_0)) (View.ld W (Rect.unit (s := S4x256x256) ![0, 0, 0] ![1, 256, 256] inb_S4x256x256_S1x256x256_0_0_0))) (iota .tc S512x1 32 [0] iota_S512x1_d0_w32)⟩]

/-- The pieces of the unsummed gradient, last one first. -/
def dpL : List (View.Piece (Elt Ideal) S512x1024 .f32) :=
    [⟨Rect.unit (s := S512x1024) ![0, 768] ![512, 256] inb_S512x1024_S512x256_0_768, k0_pay28 (k0_pay26 (View.ld X (Rect.unit (s := S512x1024) ![0, 768] ![512, 256] inb_S512x1024_S512x256_0_768)) (View.ld S (Rect.unit (s := S1x1024) ![0, 768] ![1, 256] inb_S1x1024_S1x256_0_768))) (View.ld W (Rect.unit (s := S4x256x256) ![3, 0, 0] ![1, 256, 256] inb_S4x256x256_S1x256x256_3_0_0))⟩,
      ⟨Rect.unit (s := S512x1024) ![0, 512] ![512, 256] inb_S512x1024_S512x256_0_512, k0_pay22 (View.ld X (Rect.unit (s := S512x1024) ![0, 512] ![512, 256] inb_S512x1024_S512x256_0_512)) (View.ld S (Rect.unit (s := S1x1024) ![0, 512] ![1, 256] inb_S1x1024_S1x256_0_512)) (View.ld W (Rect.unit (s := S4x256x256) ![2, 0, 0] ![1, 256, 256] inb_S4x256x256_S1x256x256_2_0_0))⟩,
      ⟨Rect.unit (s := S512x1024) ![0, 256] ![512, 256] inb_S512x1024_S512x256_0_256, k0_pay15 (View.ld X (Rect.unit (s := S512x1024) ![0, 256] ![512, 256] inb_S512x1024_S512x256_0_256)) (View.ld S (Rect.unit (s := S1x1024) ![0, 256] ![1, 256] inb_S1x1024_S1x256_0_256)) (View.ld W (Rect.unit (s := S4x256x256) ![1, 0, 0] ![1, 256, 256] inb_S4x256x256_S1x256x256_1_0_0))⟩,
      ⟨Rect.unit (s := S512x1024) ![0, 0] ![512, 256] inb_S512x1024_S512x256_0_0, k0_pay10 (View.ld X (Rect.unit (s := S512x1024) ![0, 0] ![512, 256] inb_S512x1024_S512x256_0_0)) (View.ld S (Rect.unit (s := S1x1024) ![0, 0] ![1, 256] inb_S1x1024_S1x256_0_0)) (View.ld W (Rect.unit (s := S4x256x256) ![0, 0, 0] ![1, 256, 256] inb_S4x256x256_S1x256x256_0_0_0))⟩]

/-- What the windowed sums of one group start from. -/
theorem extL_reads (g : Fin 4) : Reads (View.canon (extL a k X Y S W)) (256 * g.val) 544 (extB a k X Y S W g) := by
  refine ext_reads (extB a k X Y S W) ?_ ?_ ?_ ?_ ?_ ?_ ?_ ?_ g
  · exact fun r q => (main0 _ _ _ _ r q).trans ((congrArg (fun d => Ideal.div d _) (dot_ld X S W 0 rfl rfl r q)).trans (extB_lo a k X Y S W 0 r q))
  · exact fun r q => (main1 _ _ _ _ r q).trans ((congrArg (fun d => Ideal.div d _) (dot_ld X S W 1 rfl rfl r q)).trans (extB_lo a k X Y S W 1 r q))
  · exact fun r q => (main2 _ _ _ _ r q).trans ((congrArg (fun d => Ideal.div d _) (dot_ld X S W 2 rfl rfl r q)).trans (extB_lo a k X Y S W 2 r q))
  · exact fun r q => (main3 _ _ _ _ r q).trans ((congrArg (fun d => Ideal.div d _) (dot_ld X S W 3 rfl rfl r q)).trans (extB_lo a k X Y S W 3 r q))
  · exact fun r q => (halo0 _ _ _ _ _ r q).trans ((congrArg (fun d => Ideal.div d _ * k) (dot_ld Y S W 0 rfl rfl r q)).trans (extB_hi a k X Y S W 0 r q))
  · exact fun r q => (halo1 _ _ _ _ _ r q).trans ((congrArg (fun d => Ideal.div d _ * k) (dot_ld Y S W 1 rfl rfl r q)).trans (extB_hi a k X Y S W 1 r q))
  · exact fun r q => (halo2 _ _ _ _ _ r q).trans ((congrArg (fun d => Ideal.div d _ * k) (dot_ld Y S W 2 rfl rfl r q)).trans (extB_hi a k X Y S W 2 r q))
  · exact fun r q => (halo3 _ _ _ _ _ r q).trans ((congrArg (fun d => Ideal.div d _ * k) (dot_ld Y S W 3 rfl rfl r q)).trans (extB_hi a k X Y S W 3 r q))

/-- The unsummed gradient at a row of a group. -/
theorem dpL_reads (r : Fin 512) (g : Fin 4) (q : Fin 256) :
    View.canon (dpL X S W) (ix2 r (⟨256 * g.val + q.val, by omega⟩ : Fin 1024)) = dotM (n := 512) X S W r g q := by
  refine cols4 (e := .f32) (dotM (n := 512) X S W) ?_ ?_ ?_ ?_ r g q
  · exact fun r q => (dp0 _ _ _ r q).trans (dot_ld _ _ _ 0 rfl rfl r q)
  · exact fun r q => (dp1 _ _ _ r q).trans (dot_ld _ _ _ 1 rfl rfl r q)
  · exact fun r q => (dp2 _ _ _ r q).trans (dot_ld _ _ _ 2 rfl rfl r q)
  · exact fun r q => (dp3 _ _ _ r q).trans (dot_ld _ _ _ 3 rfl rfl r q)

/-- One entry of the gradient before the normalisation. -/
def dhv (r : Fin 512) (g : Fin 4) (q : Fin 256) : EReal :=
  dhB (fun s => extB a k X Y S W g s q) g r.val - dotM (n := 512) X S W r g q

/-- The pieces of the buffer of sums after the sum of two rows in group 0, last one first. -/
def sa0 : List (View.Piece (Elt Ideal) S544x1024 .f32) :=
  ⟨Rect.unit (s := S544x1024) ![0, 0] ![536, 256] inb_S544x1024_S536x256_0_0,
    k0_pay35 ((View.whole cc0_scratch0).readCov (extL a k X Y S W) (Rect.unit (s := S544x1024) ![0, 0] ![536, 256] inb_S544x1024_S536x256_0_0).toLoadRect) ((View.whole cc0_scratch0).readCov (extL a k X Y S W) (Rect.unit (s := S544x1024) ![1, 0] ![536, 256] inb_S544x1024_S536x256_1_0).toLoadRect)⟩ ::
    [⟨Rect.unit (s := S544x1024) ![536, 0] ![8, 1024] inb_S544x1024_S8x1024_536_0, k0_pay33 (F := Ideal)⟩]

/-- The pieces of the buffer of sums after the sum of two rows in group 1, last one first. -/
def sa1 : List (View.Piece (Elt Ideal) S544x1024 .f32) :=
  ⟨Rect.unit (s := S544x1024) ![0, 256] ![536, 256] inb_S544x1024_S536x256_0_256,
    k0_pay37 ((View.whole cc0_scratch0).readCov (extL a k X Y S W) (Rect.unit (s := S544x1024) ![0, 256] ![536, 256] inb_S544x1024_S536x256_0_256).toLoadRect) ((View.whole cc0_scratch0).readCov (extL a k X Y S W) (Rect.unit (s := S544x1024) ![1, 256] ![536, 256] inb_S544x1024_S536x256_1_256).toLoadRect)⟩ ::
    sa0 a k X Y S W

/-- The pieces of the buffer of second sums after the sum of four rows in group 1, last one first. -/
def sb1 : List (View.Piece (Elt Ideal) S544x1024 .f32) :=
  ⟨Rect.unit (s := S544x1024) ![0, 256] ![536, 256] inb_S544x1024_S536x256_0_256,
    k0_pay38 ((View.whole cc0_scratch2).readCov (sa1 a k X Y S W) (Rect.unit (s := S544x1024) ![0, 256] ![536, 256] inb_S544x1024_S536x256_0_256).toLoadRect) ((View.whole cc0_scratch2).readCov (sa1 a k X Y S W) (Rect.unit (s := S544x1024) ![2, 256] ![536, 256] inb_S544x1024_S536x256_2_256).toLoadRect)⟩ ::
    [⟨Rect.unit (s := S544x1024) ![536, 0] ![8, 1024] inb_S544x1024_S8x1024_536_0, k0_pay34 (F := Ideal)⟩]

/-- The pieces of the buffer of sums after the sum of two rows in group 2, last one first. -/
def sa2 : List (View.Piece (Elt Ideal) S544x1024 .f32) :=
  ⟨Rect.unit (s := S544x1024) ![0, 512] ![536, 256] inb_S544x1024_S536x256_0_512,
    k0_pay40 ((View.whole cc0_scratch0).readCov (extL a k X Y S W) (Rect.unit (s := S544x1024) ![0, 512] ![536, 256] inb_S544x1024_S536x256_0_512).toLoadRect) ((View.whole cc0_scratch0).readCov (extL a k X Y S W) (Rect.unit (s := S544x1024) ![1, 512] ![536, 256] inb_S544x1024_S536x256_1_512).toLoadRect)⟩ ::
    sa1 a k X Y S W

/-- The pieces of the buffer of second sums after the sum of four rows in group 2, last one first. -/
def sb2 : List (View.Piece (Elt Ideal) S544x1024 .f32) :=
  ⟨Rect.unit (s := S544x1024) ![0, 512] ![536, 256] inb_S544x1024_S536x256_0_512,
    k0_pay42 (k0_pay41 ((View.whole cc0_scratch2).readCov (sa2 a k X Y S W) (Rect.unit (s := S544x1024) ![0, 512] ![536, 256] inb_S544x1024_S536x256_0_512).toLoadRect) ((View.whole cc0_scratch2).readCov (sa2 a k X Y S W) (Rect.unit (s := S544x1024) ![2, 512] ![536, 256] inb_S544x1024_S536x256_2_512).toLoadRect))⟩ ::
    sb1 a k X Y S W

/-- The pieces of the buffer of sums after the sum of eight rows in group 2, last one first. -/
def sa2' : List (View.Piece (Elt Ideal) S544x1024 .f32) :=
  ⟨Rect.unit (s := S544x1024) ![0, 512] ![536, 256] inb_S544x1024_S536x256_0_512,
    k0_pay43 ((View.whole cc0_scratch3).readCov (sb2 a k X Y S W) (Rect.unit (s := S544x1024) ![0, 512] ![536, 256] inb_S544x1024_S536x256_0_512).toLoadRect) ((View.whole cc0_scratch3).readCov (sb2 a k X Y S W) (Rect.unit (s := S544x1024) ![4, 512] ![536, 256] inb_S544x1024_S536x256_4_512).toLoadRect)⟩ ::
    sa2 a k X Y S W

/-- The pieces of the buffer of sums after the sum of two rows in group 3, last one first. -/
def sa3 : List (View.Piece (Elt Ideal) S544x1024 .f32) :=
  ⟨Rect.unit (s := S544x1024) ![0, 768] ![536, 256] inb_S544x1024_S536x256_0_768,
    k0_pay45 ((View.whole cc0_scratch0).readCov (extL a k X Y S W) (Rect.unit (s := S544x1024) ![0, 768] ![536, 256] inb_S544x1024_S536x256_0_768).toLoadRect) ((View.whole cc0_scratch0).readCov (extL a k X Y S W) (Rect.unit (s := S544x1024) ![1, 768] ![536, 256] inb_S544x1024_S536x256_1_768).toLoadRect)⟩ ::
    sa2' a k X Y S W

/-- The pieces of the buffer of second sums after the sum of four rows in group 3, last one first. -/
def sb3 : List (View.Piece (Elt Ideal) S544x1024 .f32) :=
  ⟨Rect.unit (s := S544x1024) ![0, 768] ![536, 256] inb_S544x1024_S536x256_0_768,
    k0_pay46 ((View.whole cc0_scratch2).readCov (sa3 a k X Y S W) (Rect.unit (s := S544x1024) ![0, 768] ![536, 256] inb_S544x1024_S536x256_0_768).toLoadRect) ((View.whole cc0_scratch2).readCov (sa3 a k X Y S W) (Rect.unit (s := S544x1024) ![2, 768] ![536, 256] inb_S544x1024_S536x256_2_768).toLoadRect)⟩ ::
    sb2 a k X Y S W

/-- The pieces of the buffer of sums after the sum of eight rows in group 3, last one first. -/
def sa3' : List (View.Piece (Elt Ideal) S544x1024 .f32) :=
  ⟨Rect.unit (s := S544x1024) ![0, 768] ![536, 256] inb_S544x1024_S536x256_0_768,
    k0_pay47 ((View.whole cc0_scratch3).readCov (sb3 a k X Y S W) (Rect.unit (s := S544x1024) ![0, 768] ![536, 256] inb_S544x1024_S536x256_0_768).toLoadRect) ((View.whole cc0_scratch3).readCov (sb3 a k X Y S W) (Rect.unit (s := S544x1024) ![4, 768] ![536, 256] inb_S544x1024_S536x256_4_768).toLoadRect)⟩ ::
    sa3 a k X Y S W

/-- The pieces of the buffer of second sums after the sum of sixteen rows in group 3, last one first. -/
def sb3' : List (View.Piece (Elt Ideal) S544x1024 .f32) :=
  ⟨Rect.unit (s := S544x1024) ![0, 768] ![536, 256] inb_S544x1024_S536x256_0_768,
    k0_pay48 ((View.whole cc0_scratch2).readCov (sa3' a k X Y S W) (Rect.unit (s := S544x1024) ![0, 768] ![536, 256] inb_S544x1024_S536x256_0_768).toLoadRect) ((View.whole cc0_scratch2).readCov (sa3' a k X Y S W) (Rect.unit (s := S544x1024) ![8, 768] ![536, 256] inb_S544x1024_S536x256_8_768).toLoadRect)⟩ ::
    sb3 a k X Y S W

/-- The pieces of the gradient before the normalisation, last one first. -/
def dhL : List (View.Piece (Elt Ideal) S512x1024 .f32) :=
    [⟨Rect.unit (s := S512x1024) ![0, 768] ![512, 256] inb_S512x1024_S512x256_0_768,
      k0_pay49 ((View.whole cc0_scratch3).readCov (sb3' a k X Y S W) (Rect.unit (s := S544x1024) ![0, 768] ![512, 256] inb_S544x1024_S512x256_0_768).toLoadRect)
        ((View.whole cc0_scratch4).readCov (dpL X S W) (Rect.unit (s := S512x1024) ![0, 768] ![512, 256] inb_S512x1024_S512x256_0_768).toLoadRect)⟩,
    ⟨Rect.unit (s := S512x1024) ![0, 512] ![512, 256] inb_S512x1024_S512x256_0_512,
      k0_pay44 ((View.whole cc0_scratch2).readCov (sa2' a k X Y S W) (Rect.unit (s := S544x1024) ![0, 512] ![512, 256] inb_S544x1024_S512x256_0_512).toLoadRect)
        ((View.whole cc0_scratch4).readCov (dpL X S W) (Rect.unit (s := S512x1024) ![0, 512] ![512, 256] inb_S512x1024_S512x256_0_512).toLoadRect)⟩,
    ⟨Rect.unit (s := S512x1024) ![0, 256] ![512, 256] inb_S512x1024_S512x256_0_256,
      k0_pay39 ((View.whole cc0_scratch3).readCov (sb1 a k X Y S W) (Rect.unit (s := S544x1024) ![0, 256] ![512, 256] inb_S544x1024_S512x256_0_256).toLoadRect)
        ((View.whole cc0_scratch4).readCov (dpL X S W) (Rect.unit (s := S512x1024) ![0, 256] ![512, 256] inb_S512x1024_S512x256_0_256).toLoadRect)⟩,
    ⟨Rect.unit (s := S512x1024) ![0, 0] ![512, 256] inb_S512x1024_S512x256_0_0,
      k0_pay36 ((View.whole cc0_scratch2).readCov (sa0 a k X Y S W) (Rect.unit (s := S544x1024) ![0, 0] ![512, 256] inb_S544x1024_S512x256_0_0).toLoadRect)
        ((View.whole cc0_scratch4).readCov (dpL X S W) (Rect.unit (s := S512x1024) ![0, 0] ![512, 256] inb_S512x1024_S512x256_0_0).toLoadRect)⟩]

/-- The gradient before the normalisation at a row of a group. -/
theorem dhL_reads (r : Fin 512) (g : Fin 4) (q : Fin 256) :
    View.canon (dhL a k X Y S W) (ix2 r (⟨256 * g.val + q.val, by omega⟩ : Fin 1024)) = dhv a k X Y S W r g q := by
  refine cols4 (e := .f32) (dhv a k X Y S W) ?_ ?_ ?_ ?_ r g q
  · exact fun r q => ((extL_reads a k X Y S W 0).dbl 536 1 k0_pay35 add35 (by norm_num) (by norm_num) (by norm_num)).fin k0_pay36 sub36
      (fun r q _ => dpL_reads X S W r 0 q) (by norm_num) (by norm_num) r q
  · exact fun r q => (((extL_reads a k X Y S W 1).dbl 536 1 k0_pay37 add37 (by norm_num) (by norm_num) (by norm_num)).dbl 534 2 k0_pay38 add38 (by norm_num) (by norm_num)
      (by norm_num)).fin k0_pay39 sub39 (fun r q _ => dpL_reads X S W r 1 q) (by norm_num) (by norm_num) r q
  · exact fun r q => ((((extL_reads a k X Y S W 2).dbl 536 1 k0_pay40 add40 (by norm_num) (by norm_num) (by norm_num)).dbl 534 2 (fun U V => k0_pay42 (k0_pay41 U V)) add42
      (by norm_num) (by norm_num) (by norm_num)).dbl 530 4 k0_pay43 add43 (by norm_num) (by norm_num) (by norm_num)).fin k0_pay44 sub44
      (fun r q _ => dpL_reads X S W r 2 q) (by norm_num) (by norm_num) r q
  · exact fun r q => (((((extL_reads a k X Y S W 3).dbl 536 1 k0_pay45 add45 (by norm_num) (by norm_num) (by norm_num)).dbl 534 2 k0_pay46 add46
      (by norm_num) (by norm_num) (by norm_num)).dbl 530 4 k0_pay47 add47 (by norm_num) (by norm_num) (by norm_num)).dbl 522 8 k0_pay48 add48 (by norm_num) (by norm_num)
      (by norm_num)).fin k0_pay49 sub49 (fun r q _ => dpL_reads X S W r 3 q) (by norm_num) (by norm_num) r q

end pieces

end Cert.KernelIdeal.Math
-- ==== Proof.Pool.lean ====
/- The pooling branch's backward call: what each block leaves in the call's five results, entry by entry. -/
module

public import proofs.«01_k».proof.Proof.PoolLocal

@[expose] public section

set_option maxRecDepth 16384

noncomputable section

open Idealize.ShloMosaic Idealize.ShloMosaic.TcCoe Idealize.SL.Sem
open scoped BigOperators

namespace Cert.KernelIdeal.Math

open Cert.KernelIdeal Cert.KernelIdeal.Gen

variable (m : (ℓ : Loc nD τ sig) → Buf (Elt Ideal) ℓ)

/-- The reciprocal root mean square of a block's row. -/
def rB (X : Vec Ideal S512x1024 .f32) (r : Fin 512) : EReal :=
  Ideal.rsqrt (Ideal.div (∑ x : Fin 1024, X (ix2 r x) * X (ix2 r x)) (Ideal.ofBits .f32 0x44800000#32) + Ideal.ofBits .f32 0x358637BD#32)

theorem pay50 (X : Vec Ideal S512x1024 .f32) (r : Fin 512) : k0_pay50 X (ix2 r 0) = rB X r := by
  pointwise [k0_pay50, rB]

/-- The gradient of a block's row of the normalisation's input, from the gradient `D` after it. -/
def dxB (X : Vec Ideal S512x1024 .f32) (g : Vec Ideal S1x1024 .f32) (D : Fin 512 → Fin 1024 → EReal) (ct : Vec Ideal S512x1024 .f32) (r : Fin 512) (j : Fin 1024) : EReal :=
  ct (ix2 r j) + rB X r * (D r j * g (ix2 0 j) - X (ix2 r j) * rB X r *
          Ideal.div (∑ x : Fin 1024, D r x * g (ix2 0 x) * (X (ix2 r x) * rB X r)) (Ideal.ofBits .f32 0x44800000#32))

theorem pay1_eq (X : Vec Ideal S512x1024 .f32) (g : Vec Ideal S1x1024 .f32) (D ct : Vec Ideal S512x1024 .f32) (Dv : Fin 512 → Fin 1024 → EReal)
    (hD : ∀ r j, D (ix2 r j) = Dv r j) (r : Fin 512) (j : Fin 1024) :
    k0_pay1 (k0_pay50 X) (k0_pay51 X) (k0_pay52 g D) (k0_pay53 X g D) ct (ix2 r j) = dxB X g Dv ct r j := by
  pointwise [k0_pay1, k0_pay50, k0_pay51, k0_pay52, k0_pay53, rB, dxB]
  simp only [hD]

theorem pay2_eq (X : Vec Ideal S512x1024 .f32) (g : Vec Ideal S1x1024 .f32) (D ct : Vec Ideal S512x1024 .f32) (Dv : Fin 512 → Fin 1024 → EReal)
    (hD : ∀ r j, D (ix2 r j) = Dv r j) (r : Fin 512) (j : Fin 1024) :
    k0_pay2 (k0_pay50 X) (k0_pay51 X) (k0_pay52 g D) (k0_pay53 X g D) ct (ix2 r j) = dxB X g Dv ct r j :=
  pay1_eq X g D ct Dv hD r j

theorem pay3_eq (X : Vec Ideal S512x1024 .f32) (D : Vec Ideal S512x1024 .f32) (p : Vec Ideal S1x1024 .f32) (Dv : Fin 512 → Fin 1024 → EReal)
    (hD : ∀ r j, D (ix2 r j) = Dv r j) (j : Fin 1024) :
    k0_pay3 D (k0_pay51 X) p (ix2 0 j) = p (ix2 0 j) + ∑ x : Fin 512, Dv x j * (X (ix2 x j) * rB X x) := by
  pointwise [k0_pay3, k0_pay51]
  simp only [hD, pay50]

theorem pay7_eq (X : Vec Ideal S512x1024 .f32) (Y : Vec Ideal S512x1024 .bf16) (p : Vec Ideal S1x1024 .f32) (j : Fin 1024) :
    k0_pay7 p X Y (ix2 0 j) = p (ix2 0 j) + ∑ x : Fin 512, X (ix2 x j) * Y (ix2 x j) := by
  pointwise [k0_pay7]

/-- The gradient before the normalisation in block `t`. -/
def dhT (c : Dev nD) (t : Fin cfg0.N) (r : Fin 512) (j : Fin 1024) : EReal :=
  dhv (BitVec.ofNat 32 (grid0.coords t 0).val) (k0_pay4 (F := Ideal) (grid0.coords t)) (iblk m c 0 t) (iblk m c 1 t) (iblk m c 3 t) (iblk m c 2 t) r
    ⟨j.val / 256, by omega⟩ ⟨j.val % 256, by omega⟩

/-- The buffer of that gradient read back whole. -/
theorem dh_read {sp : Space} (c : Dev nD) (t : Fin cfg0.N) (v : View sig .tc sp S512x1024 .f32)
    {inb : ∀ a, (![0, 0] : Fin 2 → ℕ) a + (![512, 1024] : Fin 2 → ℕ) a ≤ S512x1024.size a} (r : Fin 512) (j : Fin 1024) :
    v.readCov (dhL (BitVec.ofNat 32 (grid0.coords t 0).val) (k0_pay4 (F := Ideal) (grid0.coords t)) (iblk m c 0 t) (iblk m c 1 t) (iblk m c 3 t) (iblk m c 2 t))
      (Rect.unit (s := S512x1024) ![0, 0] ![512, 1024] inb).toLoadRect (ix2 r j) = dhT m c t r j := by
  refine (readCov_at 0 0 v _ r j (by omega) (by omega)).trans ?_
  refine Eq.trans ?_ (dhL_reads _ _ _ _ _ _ r ⟨j.val / 256, by omega⟩ ⟨j.val % 256, by omega⟩)
  exact congrArg _ (congrArg₂ ix2 (Fin.ext (by simp)) (Fin.ext (by simp; omega)))

theorem pay5_eq (j : Fin 1024) : k0_pay5 (F := Ideal) (ix2 0 j) = 0 := by
  pointwise [k0_pay5]
theorem pay6_eq (j : Fin 1024) : k0_pay6 (F := Ideal) (ix2 0 j) = 0 := by
  pointwise [k0_pay6]

/-- Result 0 of block `t` at a row and a column. -/
theorem point7 (c : Dev nD) (t : Fin cfg0.N) (r : Fin 512) (j : Fin 1024) :
    (outsAt0 m c t.val t.isLt).1 (ix2 r j) = dxB (iblk m c 5 t) (iblk m c 6 t) (dhT m c t) (iblk m c 0 t) r j := by
  by_cases h : t.val % 8 = 0
  · rw [outsAt0_A m c t h]
    frame_out
    exact pay1_eq _ _ _ _ (dhT m c t) (fun r j => dh_read m c t _ r j) r j
  · rw [outsAt0_B m c t h]
    frame_out
    exact pay1_eq _ _ _ _ (dhT m c t) (fun r j => dh_read m c t _ r j) r j

/-- Result 1 of block `t` at a row and a column. -/
theorem point8 (c : Dev nD) (t : Fin cfg0.N) (r : Fin 512) (j : Fin 1024) :
    (outsAt0 m c t.val t.isLt).2.1 (ix2 r j) = dxB (iblk m c 5 t) (iblk m c 6 t) (dhT m c t) (iblk m c 0 t) r j := by
  by_cases h : t.val % 8 = 0
  · rw [outsAt0_A m c t h]
    frame_out
    exact pay2_eq _ _ _ _ (dhT m c t) (fun r j => dh_read m c t _ r j) r j
  · rw [outsAt0_B m c t h]
    frame_out
    exact pay2_eq _ _ _ _ (dhT m c t) (fun r j => dh_read m c t _ r j) r j

/-- One entry of the gradient of the pooled values, scaled. -/
def dycB (X : Vec Ideal S512x1024 .f32) (S : Vec Ideal S1x1024 .f32) (r : Fin 512) (g : Fin 4) (q : Fin 256) : EReal :=
  X (ix2 r ⟨256 * g.val + q.val, by omega⟩) * S (ix2 0 ⟨256 * g.val + q.val, by omega⟩)

theorem mul_ld {o : ℕ} (X : Vec Ideal S512x1024 .f32) (S : Vec Ideal S1x1024 .f32) (g : Fin 4)
    {i0 : ∀ a, (![0, o] : Fin 2 → ℕ) a + (![512, 256] : Fin 2 → ℕ) a ≤ S512x1024.size a}
    {i1 : ∀ a, (![0, o] : Fin 2 → ℕ) a + (![1, 256] : Fin 2 → ℕ) a ≤ S1x1024.size a} (ho : o = 256 * g.val) (r : Fin 512) (q : Fin 256) :
    (View.ld X (Rect.unit (s := S512x1024) ![0, o] ![512, 256] i0) (ix2 r q) : EReal) * View.ld S (Rect.unit (s := S1x1024) ![0, o] ![1, 256] i1) (ix2 0 q)
      = dycB X S r g q := by
  refine congrArg₂ (fun u v : EReal => u * v) ?_ ?_
  · refine congrArg X (funext fun a => Fin.ext ?_)
    match a with
    | ⟨0, _⟩ => show 0 + 1 * r.val = r.val; omega
    | ⟨1, _⟩ => show o + 1 * q.val = 256 * g.val + q.val; omega
  · refine congrArg S (funext fun a => Fin.ext ?_)
    match a with
    | ⟨0, _⟩ => show 0 + 1 * 0 = 0; omega
    | ⟨1, _⟩ => show o + 1 * q.val = 256 * g.val + q.val; omega

theorem pay8_eq (A : Vec Ideal S512x256 .f32) (S : Vec Ideal S1x256 .f32) (r : Fin 512) (q : Fin 256) : k0_pay8 A S (ix2 r q) = (A (ix2 r q) : EReal) * S (ix2 0 q) := by
  pointwise [k0_pay8]
theorem pay13_eq (A : Vec Ideal S512x256 .f32) (S : Vec Ideal S1x256 .f32) (r : Fin 512) (q : Fin 256) : k0_pay13 A S (ix2 r q) = (A (ix2 r q) : EReal) * S (ix2 0 q) := by
  pointwise [k0_pay13]
theorem pay20_eq (A : Vec Ideal S512x256 .f32) (S : Vec Ideal S1x256 .f32) (r : Fin 512) (q : Fin 256) : k0_pay20 A S (ix2 r q) = (A (ix2 r q) : EReal) * S (ix2 0 q) := by
  pointwise [k0_pay20]
theorem pay26_eq (A : Vec Ideal S512x256 .f32) (S : Vec Ideal S1x256 .f32) (r : Fin 512) (q : Fin 256) : k0_pay26 A S (ix2 r q) = (A (ix2 r q) : EReal) * S (ix2 0 q) := by
  pointwise [k0_pay26]

/-- Result 3 of block `t` at a row and a column. -/
theorem point10 (c : Dev nD) (t : Fin cfg0.N) (r : Fin 512) (g : Fin 4) (q : Fin 256) :
    (outsAt0 m c t.val t.isLt).2.2.2.1 (ix2 r (⟨256 * g.val + q.val, by omega⟩ : Fin 1024)) = dycB (iblk m c 0 t) (iblk m c 3 t) r g q := by
  by_cases h : t.val % 8 = 0
  · rw [outsAt0_A m c t h]
    frame_out
    refine cols4 (e := .bf16) (dycB (iblk m c 0 t) (iblk m c 3 t)) ?_ ?_ ?_ ?_ r g q
    · exact fun r q => (pay8_eq _ _ r q).trans (mul_ld _ _ 0 rfl r q)
    · exact fun r q => (pay13_eq _ _ r q).trans (mul_ld _ _ 1 rfl r q)
    · exact fun r q => (pay20_eq _ _ r q).trans (mul_ld _ _ 2 rfl r q)
    · exact fun r q => (pay26_eq _ _ r q).trans (mul_ld _ _ 3 rfl r q)
  · rw [outsAt0_B m c t h]
    frame_out
    refine cols4 (e := .bf16) (dycB (iblk m c 0 t) (iblk m c 3 t)) ?_ ?_ ?_ ?_ r g q
    · exact fun r q => (pay8_eq _ _ r q).trans (mul_ld _ _ 0 rfl r q)
    · exact fun r q => (pay13_eq _ _ r q).trans (mul_ld _ _ 1 rfl r q)
    · exact fun r q => (pay20_eq _ _ r q).trans (mul_ld _ _ 2 rfl r q)
    · exact fun r q => (pay26_eq _ _ r q).trans (mul_ld _ _ 3 rfl r q)

/-- A block's part of result 2. -/
def sum9 (X : Vec Ideal S512x1024 .f32) (D : Fin 512 → Fin 1024 → EReal) (j : Fin 1024) : EReal :=
  ∑ x : Fin 512, D x j * (X (ix2 x j) * rB X x)

/-- A block's part of result 4. -/
def sum11 (X : Vec Ideal S512x1024 .f32) (Y : Vec Ideal S512x1024 .bf16) (j : Fin 1024) : EReal :=
  ∑ x : Fin 512, X (ix2 x j) * Y (ix2 x j)

/-- Block `t`'s part of result 2. -/
def part9 (c : Dev nD) (t : Fin cfg0.N) (j : Fin 1024) : EReal := sum9 (iblk m c 5 t) (dhT m c t) j

/-- Block `t`'s part of result 4. -/
def part11 (c : Dev nD) (t : Fin cfg0.N) (j : Fin 1024) : EReal := sum11 (iblk m c 0 t) (iblk m c 4 t) j

theorem step9_A (c : Dev nD) (t : Fin cfg0.N) (h : t.val % 8 = 0) (j : Fin 1024) : (outsAt0 m c t.val t.isLt).2.2.1 (ix2 0 j) = 0 + part9 m c t j := by
  rw [outsAt0_A m c t h]
  frame_out
  refine (pay3_eq _ _ _ (dhT m c t) (fun r j => dh_read m c t _ r j) j).trans ?_
  exact congrArg (fun a : EReal => a + part9 m c t j) (pay5_eq j)

theorem step11_A (c : Dev nD) (t : Fin cfg0.N) (h : t.val % 8 = 0) (j : Fin 1024) : (outsAt0 m c t.val t.isLt).2.2.2.2 (ix2 0 j) = 0 + part11 m c t j := by
  rw [outsAt0_A m c t h]
  frame_out
  refine (pay7_eq _ _ _ j).trans ?_
  exact congrArg (fun a : EReal => a + part11 m c t j) (pay6_eq j)

theorem step9_B (c : Dev nD) (t : Fin cfg0.N) (h : ¬t.val % 8 = 0) (j : Fin 1024) :
    (outsAt0 m c t.val t.isLt).2.2.1 (ix2 0 j) = (outsAt0 m c (t.val - 1) (Nat.lt_of_le_of_lt (Nat.sub_le _ _) t.isLt)).2.2.1 (ix2 0 j) + part9 m c t j := by
  rw [outsAt0_B m c t h]
  frame_out
  exact (pay3_eq _ _ _ (dhT m c t) (fun r j => dh_read m c t _ r j) j)

theorem step11_B (c : Dev nD) (t : Fin cfg0.N) (h : ¬t.val % 8 = 0) (j : Fin 1024) :
    (outsAt0 m c t.val t.isLt).2.2.2.2 (ix2 0 j) = (outsAt0 m c (t.val - 1) (Nat.lt_of_le_of_lt (Nat.sub_le _ _) t.isLt)).2.2.2.2 (ix2 0 j) + part11 m c t j := by
  rw [outsAt0_B m c t h]
  frame_out
  exact pay7_eq _ _ _ j

end Cert.KernelIdeal.Math
-- ==== Proof.PoolReal.lean ====
/- The pooling branch's backward pass over the reals: what the call and the reference both come to on finite inputs. -/
module

public import proofs.«01_k».proof.Proof.PoolSum
public import Idealize.ShloMosaic.Lib.WordArith
public import Idealize.ShloMosaic.Lib.PlanTiles.Rows

@[expose] public section

noncomputable section

open Idealize.ShloMosaic
open scoped BigOperators

namespace Cert.PoolReal

variable (xr : Fin 4096 → Fin 1024 → ℝ) (gr : Fin 1024 → ℝ) (wr : Fin 4 → Fin 256 → Fin 256 → ℝ) (sr : Fin 1024 → ℝ) (cr : Fin 4096 → Fin 1024 → ℝ)

/-- The gradient of the pooled values: the scaled cotangent through one group's weights. -/
def dp (t : Fin 4096) (g : Fin 4) (q : Fin 256) : ℝ :=
  ∑ x : Fin 256, cr t ⟨256 * g.val + x.val, by omega⟩ * sr ⟨256 * g.val + x.val, by omega⟩ * wr g q x

/-- The number of rows a window of `w` holds at row `t`. -/
def cnt (w t : ℕ) : ℝ := ((min (t + 1) w : ℕ) : ℝ)

/-- That gradient over the row's count, zero past the last row. -/
def ext (g : Fin 4) (q : Fin 256) (t : ℕ) : ℝ :=
  if h : t < 4096 then dp wr sr cr ⟨t, h⟩ g q / cnt (2 ^ (g.val + 1)) t else 0

/-- The gradient of the normalised values: a sum over the rows whose window holds this one, less the row's own part. -/
def dh (t : Fin 4096) (g : Fin 4) (q : Fin 256) : ℝ :=
  ∑ k ∈ Finset.range (2 ^ (g.val + 1)), ext wr sr cr g q (t.val + k) - dp wr sr cr t g q

/-- The same by column. -/
def dhc (t : Fin 4096) (j : Fin 1024) : ℝ := dh wr sr cr t ⟨j.val / 256, by omega⟩ ⟨j.val % 256, by omega⟩

/-- The constant added to a row's mean square. -/
def eps : ℝ := 8796093 / 8796093022208

/-- A row's mean square with that constant. -/
def ms (t : Fin 4096) : ℝ := (∑ j : Fin 1024, xr t j * xr t j) / 1024 + eps

/-- Its reciprocal square root. -/
def rr (t : Fin 4096) : ℝ := (√(ms xr t))⁻¹

/-- The gradient of the branch's input. -/
def dx (t : Fin 4096) (j : Fin 1024) : ℝ :=
  cr t j + rr xr t * (dhc wr sr cr t j * gr j - xr t j * rr xr t * ((∑ x : Fin 1024, dhc wr sr cr t x * gr x * (xr t x * rr xr t)) / 1024))

theorem ext_of_le (g : Fin 4) (q : Fin 256) (t : ℕ) (h : 4096 ≤ t) : ext wr sr cr g q t = 0 := dif_neg (by omega)

theorem cnt_pos (w t : ℕ) (hw : 0 < w) : 0 < cnt w t := by
  unfold cnt
  exact_mod_cast (by omega : 0 < min (t + 1) w)

theorem eps_bits : Ideal.ofBits .f32 0x358637BD#32 = ((eps : ℝ) : EReal) := by
  simp [Ideal.ofBits, Ideal.ieee, eps]
  rw [← EReal.coe_mul]
  norm_num

theorem bits_1024 : Ideal.ofBits .f32 0x44800000#32 = ((1024 : ℝ) : EReal) := by
  simp [Ideal.ofBits, Ideal.ieee]
  rw [← EReal.coe_mul]
  norm_num

theorem bits_neg_half : Ideal.ofBits .f32 0xBF000000#32 = ((-(1 / 2) : ℝ) : EReal) := by
  simp [Ideal.ofBits, Ideal.ieee]
  rw [← EReal.coe_mul]
  norm_num

theorem bits_2 : Ideal.ofBits .f32 0x40000000#32 = (((2 : ℕ) : ℝ) : EReal) := by
  simp [Ideal.ofBits, Ideal.ieee]
  rw [← EReal.coe_mul]
  norm_num

theorem bits_4 : Ideal.ofBits .f32 0x40800000#32 = (((4 : ℕ) : ℝ) : EReal) := by
  simp [Ideal.ofBits, Ideal.ieee]
  rw [← EReal.coe_mul]
  norm_num

theorem bits_8 : Ideal.ofBits .f32 0x41000000#32 = (((8 : ℕ) : ℝ) : EReal) := by
  simp [Ideal.ofBits, Ideal.ieee]
  rw [← EReal.coe_mul]
  norm_num

theorem bits_16 : Ideal.ofBits .f32 0x41800000#32 = (((16 : ℕ) : ℝ) : EReal) := by
  simp [Ideal.ofBits, Ideal.ieee]
  rw [← EReal.coe_mul]
  norm_num

theorem ms_pos (t : Fin 4096) : 0 < ms xr t := by
  have h : 0 ≤ ∑ j : Fin 1024, xr t j * xr t j := Finset.sum_nonneg fun j _ => mul_self_nonneg _
  have he : (0 : ℝ) < eps := by unfold eps; norm_num
  unfold ms
  positivity

/-- The square of the reciprocal root, over the reals. -/
theorem rr_sq (t : Fin 4096) : rr xr t * rr xr t = 1 / ms xr t := by
  unfold rr
  rw [← mul_inv, Real.mul_self_sqrt (ms_pos xr t).le, one_div]

theorem rsqrt_ms (t : Fin 4096) : Ideal.rsqrt ((ms xr t : ℝ) : EReal) = ((rr xr t : ℝ) : EReal) := by
  rw [Ideal.rsqrt_coe, if_neg (ms_pos xr t).not_gt, if_neg (ms_pos xr t).ne']
  rfl

theorem div_real {y : ℝ} (h : y ≠ 0) (x : ℝ) : Ideal.div ((x : ℝ) : EReal) ((y : ℝ) : EReal) = ((x / y : ℝ) : EReal) := by
  rw [Ideal.div_coe h, ← EReal.coe_mul, mul_one_div]

/-- The reference's form of the input's gradient is the same real number. -/
theorem dx_eq (t : Fin 4096) (j : Fin 1024) (D : Fin 1024 → ℝ) (hD : ∀ x, D x = dhc wr sr cr t x) :
    cr t j + D j * gr j * rr xr t + xr t j * ((∑ x : Fin 1024, xr t x * (D x * gr x)) * (-(1 / 2) * (rr xr t / ms xr t)) / 1024)
        + (∑ x : Fin 1024, xr t x * (D x * gr x)) * (-(1 / 2) * (rr xr t / ms xr t)) / 1024 * xr t j
      = dx xr gr wr sr cr t j := by
  have hs : ∑ x : Fin 1024, dhc wr sr cr t x * gr x * (xr t x * rr xr t) = (∑ x : Fin 1024, xr t x * (D x * gr x)) * rr xr t := by
    rw [Finset.sum_mul]
    exact Finset.sum_congr rfl fun x _ => by rw [hD]; ring
  unfold dx
  rw [hs, ← hD, div_eq_mul_one_div (rr xr t) (ms xr t), ← rr_sq]
  ring

/-- The row count as the kernel forms it, in words: `b + r + 1`, cut off at `w`. -/
theorem cnt_word (b r w : ℕ) (hb : b + r + 1 < 2 ^ 31) (hw : w < 2 ^ 31) :
    FloatOps.sitofp (F := Ideal) .f32 (IntOp.minsi (IntOp.addi (IntOp.addi (BitVec.ofNat 32 r) (BitVec.ofNat 32 b)) 1#32) (BitVec.ofNat 32 w))
      = ((cnt w (b + r) : ℝ) : EReal) := by
  have h1 : IntOp.addi (IntOp.addi (BitVec.ofNat 32 r) (BitVec.ofNat 32 b)) 1#32 = BitVec.ofNat 32 (b + r + 1) := by
    simp only [IntOp.addi]
    apply BitVec.eq_of_toNat_eq
    simp [BitVec.toNat_add]
    omega
  rw [h1, PlanTiles.minsi_word hb hw]
  have h2 : (BitVec.ofNat 32 (min w (b + r + 1))).toInt = ((min (b + r + 1) w : ℕ) : ℤ) := by
    rw [BitVec.toInt_eq_toNat_of_lt (by simp; omega)]
    simp
    omega
  show (((BitVec.ofNat 32 (min w (b + r + 1))).toInt : ℝ) : EReal) = _
  rw [h2]
  simp [cnt]

/-- The row count as the reference forms it. -/
theorem cnt_host (t w : ℕ) (ht : t < 4096) : min (1 + FloatOps.sitofp (F := Ideal) .f32 (BitVec.ofNat 32 t)) (((w : ℕ) : ℝ) : EReal) = ((cnt w t : ℝ) : EReal) := by
  have h2 : (BitVec.ofNat 32 t).toInt = (t : ℤ) := by
    rw [BitVec.toInt_eq_toNat_of_lt (by simp; omega)]
    simp
    omega
  have h3 : FloatOps.sitofp (F := Ideal) .f32 (BitVec.ofNat 32 t) = ((t : ℝ) : EReal) := by
    show (((BitVec.ofNat 32 t).toInt : ℝ) : EReal) = _
    rw [h2]
    simp
  have h4 : (1 : EReal) + ((t : ℝ) : EReal) = (((t + 1 : ℕ) : ℝ) : EReal) := by
    rw [← EReal.coe_one, ← EReal.coe_add]
    push_cast
    rw [add_comm]
  rw [h3, h4, ← EReal.coe_strictMono.monotone.map_min]
  unfold cnt
  rw [Nat.cast_min]

end Cert.PoolReal
-- ==== Proof.PoolRef.lean ====
/- The pooling branch's reference: each of its five results, entry by entry. -/
module

public import proofs.«01_k».proof.Proof.Gen.ReferenceIdeal.Read
public import Idealize.ShloMosaic.Lib.Pipeline.ValueKit
public import proofs.«01_k».proof.Proof.PoolReal

@[expose] public section

set_option maxRecDepth 16384

noncomputable section

open Idealize.ShloMosaic Idealize.ShloMosaic.TcCoe Idealize.SL.Sem
open scoped BigOperators

namespace Cert.ReferenceIdeal.Math

open Cert.ReferenceIdeal Cert.ReferenceIdeal.Read
open Cert.PoolSum Cert

variable (x : Vec Ideal S4096x1024 .f32) (g : Vec Ideal S1x1024 .f32) (w : Vec Ideal S4x256x256 .f32) (s : Vec Ideal S1x1024 .f32) (ct : Vec Ideal S4096x1024 .f32)

/-- The gradient of the pooled values at a row of a group. -/
def dpG (t : Fin 4096) (g : Fin 4) (q : Fin 256) : EReal :=
  ∑ x : Fin 256, ct (ix2 t ⟨256 * g.val + x.val, by omega⟩) * s (ix2 0 ⟨256 * g.val + x.val, by omega⟩) * w (ix3 g q x)

theorem v88 (t : Fin 4096) (g : Fin 4) (q : Fin 256) : val_main_v88 (F := Ideal) w s ct (ix3 t g q) = dpG w s ct t g q := by
  pointwise [val_main_v88, val_main_v87, val_main_v86, val_main_v85, val_main_v84, val_main_v83, val_main_v79, dpG]
  simp only [Nat.mul_comm]

section reals

variable {xr : Fin 4096 → Fin 1024 → ℝ} {gr : Fin 1024 → ℝ} {wr : Fin 4 → Fin 256 → Fin 256 → ℝ} {sr : Fin 1024 → ℝ} {cr : Fin 4096 → Fin 1024 → ℝ}
  (hx : ∀ t j, x (ix2 t j) = ((xr t j : ℝ) : EReal)) (hg : ∀ j, g (ix2 0 j) = ((gr j : ℝ) : EReal)) (hw : ∀ g q p, w (ix3 g q p) = ((wr g q p : ℝ) : EReal))
  (hs : ∀ j, s (ix2 0 j) = ((sr j : ℝ) : EReal)) (hc : ∀ t j, ct (ix2 t j) = ((cr t j : ℝ) : EReal))

include hw hs hc in
theorem dpG_real (t : Fin 4096) (g : Fin 4) (q : Fin 256) : dpG w s ct t g q = ((PoolReal.dp wr sr cr t g q : ℝ) : EReal) := by
  unfold dpG PoolReal.dp
  rw [← coe_sum]
  refine Finset.sum_congr rfl fun x _ => ?_
  rw [hw, hs, hc, ← EReal.coe_mul, ← EReal.coe_mul]

theorem v92 (t : Fin 4096) (q : Fin 256) : val_main_v92 (F := Ideal) w s ct (ix2 t q) = dpG w s ct t 0 q := by
  pointwise [val_main_v92, val_main_v91]
  exact v88 w s ct t 0 q

theorem v27 (t : Fin 4096) : val_main_v27 (F := Ideal) (ix2 t 0) = ((PoolReal.cnt 2 t.val : ℝ) : EReal) := by
  pointwise [val_main_v27, val_main_v26, val_main_cst_6, val_main_v19, val_main_v18, val_main_v17, val_main_v16, val_main_cst_3]
  rw [PoolReal.bits_2]
  exact PoolReal.cnt_host t.val 2 t.isLt

include hw hs hc in
theorem v137 (t : Fin 4096) (q : Fin 256) : val_main_v137 (F := Ideal) w s ct (ix2 t q) = ((PoolReal.ext wr sr cr 0 q t.val : ℝ) : EReal) := by
  pointwise [val_main_v137, val_main_v136]
  rw [v92, v27, dpG_real w s ct hw hs hc, PoolReal.div_real (PoolReal.cnt_pos 2 t.val (by norm_num)).ne', PoolReal.ext, dif_pos t.isLt]
  rfl

include hw hs hc in
theorem v142 (t : Fin 4096) (q : Fin 256) :
    val_main_v142 (F := Ideal) w s ct (ix2 t q) = ((PoolReal.ext wr sr cr 0 q t.val - PoolReal.ext wr sr cr 0 q (t.val + 2) : ℝ) : EReal) := by
  pointwise [val_main_v142, val_main_v141, val_main_v140, val_main_v138, val_main_cst_27]
  rw [v137 w s ct hw hs hc]
  split
  · rw [v137 w s ct hw hs hc, sub_eq_add_neg, EReal.coe_add, EReal.coe_neg]
    exact congrArg (fun n : ℕ => (_ : EReal) + -((PoolReal.ext wr sr cr _ q n : ℝ) : EReal)) (Nat.add_comm 2 t.val)
  · rw [PoolReal.ext_of_le wr sr cr 0 q (t.val + 2) (by omega), sub_zero, add_zero]

include hw hs hc in
theorem v144_0 (t : Fin 4096) (q : Fin 256) : val_main_v144 (F := Ideal) w s ct (ix2 t (⟨256 * 0 + q.val, by omega⟩ : Fin 1024))
    = ((PoolReal.ext wr sr cr 0 q t.val - PoolReal.ext wr sr cr 0 q (t.val + 2) : ℝ) : EReal) := by
  have h : val_main_v144 (F := Ideal) w s ct (ix2 t (⟨0 + q.val, by omega⟩ : Fin 1024)) = val_main_v142 (F := Ideal) w s ct (ix2 t q) := by
    pointwise [val_main_v144, val_main_v132, val_main_v120, val_main_v108, val_main_v119, val_main_v131, val_main_v143, val_main_cst_19, val_main_cst_22, val_main_cst_25, val_main_cst_28]
    repeat rw [dif_neg (by omega)]
    simp only [false_and, dite_false, zero_add, add_zero]
  exact h.trans (v142 w s ct hw hs hc t q)

include hw hs hc in
theorem v135_0 (t : Fin 4096) (q : Fin 256) : val_main_v135 (F := Ideal) w s ct (ix2 t (⟨256 * 0 + q.val, by omega⟩ : Fin 1024)) = ((-PoolReal.dp wr sr cr t 0 q : ℝ) : EReal) := by
  have h : val_main_v135 (F := Ideal) w s ct (ix2 t (⟨0 + q.val, by omega⟩ : Fin 1024)) = -val_main_v92 (F := Ideal) w s ct (ix2 t q) := by
    pointwise [val_main_v135, val_main_v134, val_main_v133, val_main_v123, val_main_v122, val_main_v121, val_main_v111, val_main_v110, val_main_v109, val_main_v100, val_main_v99,
      val_main_cst_17, val_main_cst_20, val_main_cst_23, val_main_cst_26]
    repeat rw [dif_neg (by omega)]
    simp only [false_and, dite_false, zero_add, add_zero]
  rw [EReal.coe_neg, ← dpG_real w s ct hw hs hc, ← v92]
  exact h

theorem v94 (t : Fin 4096) (q : Fin 256) : val_main_v94 (F := Ideal) w s ct (ix2 t q) = dpG w s ct t 1 q := by
  pointwise [val_main_v94, val_main_v93]
  exact v88 w s ct t 1 q

theorem v39 (t : Fin 4096) : val_main_v39 (F := Ideal) (ix2 t 0) = ((PoolReal.cnt 4 t.val : ℝ) : EReal) := by
  pointwise [val_main_v39, val_main_v38, val_main_cst_9, val_main_v19, val_main_v18, val_main_v17, val_main_v16, val_main_cst_3]
  rw [PoolReal.bits_4]
  exact PoolReal.cnt_host t.val 4 t.isLt

include hw hs hc in
theorem v125 (t : Fin 4096) (q : Fin 256) : val_main_v125 (F := Ideal) w s ct (ix2 t q) = ((PoolReal.ext wr sr cr 1 q t.val : ℝ) : EReal) := by
  pointwise [val_main_v125, val_main_v124]
  rw [v94, v39, dpG_real w s ct hw hs hc, PoolReal.div_real (PoolReal.cnt_pos 4 t.val (by norm_num)).ne', PoolReal.ext, dif_pos t.isLt]
  rfl

include hw hs hc in
theorem v130 (t : Fin 4096) (q : Fin 256) :
    val_main_v130 (F := Ideal) w s ct (ix2 t q) = ((PoolReal.ext wr sr cr 1 q t.val - PoolReal.ext wr sr cr 1 q (t.val + 4) : ℝ) : EReal) := by
  pointwise [val_main_v130, val_main_v129, val_main_v128, val_main_v126, val_main_cst_24]
  rw [v125 w s ct hw hs hc]
  split
  · rw [v125 w s ct hw hs hc, sub_eq_add_neg, EReal.coe_add, EReal.coe_neg]
    exact congrArg (fun n : ℕ => (_ : EReal) + -((PoolReal.ext wr sr cr _ q n : ℝ) : EReal)) (Nat.add_comm 4 t.val)
  · rw [PoolReal.ext_of_le wr sr cr 1 q (t.val + 4) (by omega), sub_zero, add_zero]

include hw hs hc in
theorem v144_1 (t : Fin 4096) (q : Fin 256) : val_main_v144 (F := Ideal) w s ct (ix2 t (⟨256 * 1 + q.val, by omega⟩ : Fin 1024))
    = ((PoolReal.ext wr sr cr 1 q t.val - PoolReal.ext wr sr cr 1 q (t.val + 4) : ℝ) : EReal) := by
  have h : val_main_v144 (F := Ideal) w s ct (ix2 t (⟨256 + q.val, by omega⟩ : Fin 1024)) = val_main_v130 (F := Ideal) w s ct (ix2 t q) := by
    pointwise [val_main_v144, val_main_v132, val_main_v120, val_main_v108, val_main_v119, val_main_v131, val_main_v143, val_main_cst_19, val_main_cst_22, val_main_cst_25, val_main_cst_28]
    repeat rw [dif_neg (by omega)]
    simp only [false_and, dite_false, zero_add, add_zero]
  exact h.trans (v130 w s ct hw hs hc t q)

include hw hs hc in
theorem v135_1 (t : Fin 4096) (q : Fin 256) : val_main_v135 (F := Ideal) w s ct (ix2 t (⟨256 * 1 + q.val, by omega⟩ : Fin 1024)) = ((-PoolReal.dp wr sr cr t 1 q : ℝ) : EReal) := by
  have h : val_main_v135 (F := Ideal) w s ct (ix2 t (⟨256 + q.val, by omega⟩ : Fin 1024)) = -val_main_v94 (F := Ideal) w s ct (ix2 t q) := by
    pointwise [val_main_v135, val_main_v134, val_main_v133, val_main_v123, val_main_v122, val_main_v121, val_main_v111, val_main_v110, val_main_v109, val_main_v100, val_main_v99,
      val_main_cst_17, val_main_cst_20, val_main_cst_23, val_main_cst_26]
    repeat rw [dif_neg (by omega)]
    simp only [false_and, dite_false, zero_add, add_zero]
  rw [EReal.coe_neg, ← dpG_real w s ct hw hs hc, ← v94]
  exact h

theorem v96 (t : Fin 4096) (q : Fin 256) : val_main_v96 (F := Ideal) w s ct (ix2 t q) = dpG w s ct t 2 q := by
  pointwise [val_main_v96, val_main_v95]
  exact v88 w s ct t 2 q

theorem v51 (t : Fin 4096) : val_main_v51 (F := Ideal) (ix2 t 0) = ((PoolReal.cnt 8 t.val : ℝ) : EReal) := by
  pointwise [val_main_v51, val_main_v50, val_main_cst_12, val_main_v19, val_main_v18, val_main_v17, val_main_v16, val_main_cst_3]
  rw [PoolReal.bits_8]
  exact PoolReal.cnt_host t.val 8 t.isLt

include hw hs hc in
theorem v113 (t : Fin 4096) (q : Fin 256) : val_main_v113 (F := Ideal) w s ct (ix2 t q) = ((PoolReal.ext wr sr cr 2 q t.val : ℝ) : EReal) := by
  pointwise [val_main_v113, val_main_v112]
  rw [v96, v51, dpG_real w s ct hw hs hc, PoolReal.div_real (PoolReal.cnt_pos 8 t.val (by norm_num)).ne', PoolReal.ext, dif_pos t.isLt]
  rfl

include hw hs hc in
theorem v118 (t : Fin 4096) (q : Fin 256) :
    val_main_v118 (F := Ideal) w s ct (ix2 t q) = ((PoolReal.ext wr sr cr 2 q t.val - PoolReal.ext wr sr cr 2 q (t.val + 8) : ℝ) : EReal) := by
  pointwise [val_main_v118, val_main_v117, val_main_v116, val_main_v114, val_main_cst_21]
  rw [v113 w s ct hw hs hc]
  split
  · rw [v113 w s ct hw hs hc, sub_eq_add_neg, EReal.coe_add, EReal.coe_neg]
    exact congrArg (fun n : ℕ => (_ : EReal) + -((PoolReal.ext wr sr cr _ q n : ℝ) : EReal)) (Nat.add_comm 8 t.val)
  · rw [PoolReal.ext_of_le wr sr cr 2 q (t.val + 8) (by omega), sub_zero, add_zero]

include hw hs hc in
theorem v144_2 (t : Fin 4096) (q : Fin 256) : val_main_v144 (F := Ideal) w s ct (ix2 t (⟨256 * 2 + q.val, by omega⟩ : Fin 1024))
    = ((PoolReal.ext wr sr cr 2 q t.val - PoolReal.ext wr sr cr 2 q (t.val + 8) : ℝ) : EReal) := by
  have h : val_main_v144 (F := Ideal) w s ct (ix2 t (⟨512 + q.val, by omega⟩ : Fin 1024)) = val_main_v118 (F := Ideal) w s ct (ix2 t q) := by
    pointwise [val_main_v144, val_main_v132, val_main_v120, val_main_v108, val_main_v119, val_main_v131, val_main_v143, val_main_cst_19, val_main_cst_22, val_main_cst_25, val_main_cst_28]
    repeat rw [dif_neg (by omega)]
    simp only [false_and, dite_false, zero_add, add_zero]
  exact h.trans (v118 w s ct hw hs hc t q)

include hw hs hc in
theorem v135_2 (t : Fin 4096) (q : Fin 256) : val_main_v135 (F := Ideal) w s ct (ix2 t (⟨256 * 2 + q.val, by omega⟩ : Fin 1024)) = ((-PoolReal.dp wr sr cr t 2 q : ℝ) : EReal) := by
  have h : val_main_v135 (F := Ideal) w s ct (ix2 t (⟨512 + q.val, by omega⟩ : Fin 1024)) = -val_main_v96 (F := Ideal) w s ct (ix2 t q) := by
    pointwise [val_main_v135, val_main_v134, val_main_v133, val_main_v123, val_main_v122, val_main_v121, val_main_v111, val_main_v110, val_main_v109, val_main_v100, val_main_v99,
      val_main_cst_17, val_main_cst_20, val_main_cst_23, val_main_cst_26]
    repeat rw [dif_neg (by omega)]
    simp only [false_and, dite_false, zero_add, add_zero]
  rw [EReal.coe_neg, ← dpG_real w s ct hw hs hc, ← v96]
  exact h

theorem v98 (t : Fin 4096) (q : Fin 256) : val_main_v98 (F := Ideal) w s ct (ix2 t q) = dpG w s ct t 3 q := by
  pointwise [val_main_v98, val_main_v97]
  exact v88 w s ct t 3 q

theorem v63 (t : Fin 4096) : val_main_v63 (F := Ideal) (ix2 t 0) = ((PoolReal.cnt 16 t.val : ℝ) : EReal) := by
  pointwise [val_main_v63, val_main_v62, val_main_cst_15, val_main_v19, val_main_v18, val_main_v17, val_main_v16, val_main_cst_3]
  rw [PoolReal.bits_16]
  exact PoolReal.cnt_host t.val 16 t.isLt

include hw hs hc in
theorem v102 (t : Fin 4096) (q : Fin 256) : val_main_v102 (F := Ideal) w s ct (ix2 t q) = ((PoolReal.ext wr sr cr 3 q t.val : ℝ) : EReal) := by
  pointwise [val_main_v102, val_main_v101]
  rw [v98, v63, dpG_real w s ct hw hs hc, PoolReal.div_real (PoolReal.cnt_pos 16 t.val (by norm_num)).ne', PoolReal.ext, dif_pos t.isLt]
  rfl

include hw hs hc in
theorem v107 (t : Fin 4096) (q : Fin 256) :
    val_main_v107 (F := Ideal) w s ct (ix2 t q) = ((PoolReal.ext wr sr cr 3 q t.val - PoolReal.ext wr sr cr 3 q (t.val + 16) : ℝ) : EReal) := by
  pointwise [val_main_v107, val_main_v106, val_main_v105, val_main_v103, val_main_cst_18]
  rw [v102 w s ct hw hs hc]
  split
  · rw [v102 w s ct hw hs hc, sub_eq_add_neg, EReal.coe_add, EReal.coe_neg]
    exact congrArg (fun n : ℕ => (_ : EReal) + -((PoolReal.ext wr sr cr _ q n : ℝ) : EReal)) (Nat.add_comm 16 t.val)
  · rw [PoolReal.ext_of_le wr sr cr 3 q (t.val + 16) (by omega), sub_zero, add_zero]

include hw hs hc in
theorem v144_3 (t : Fin 4096) (q : Fin 256) : val_main_v144 (F := Ideal) w s ct (ix2 t (⟨256 * 3 + q.val, by omega⟩ : Fin 1024))
    = ((PoolReal.ext wr sr cr 3 q t.val - PoolReal.ext wr sr cr 3 q (t.val + 16) : ℝ) : EReal) := by
  have h : val_main_v144 (F := Ideal) w s ct (ix2 t (⟨768 + q.val, by omega⟩ : Fin 1024)) = val_main_v107 (F := Ideal) w s ct (ix2 t q) := by
    pointwise [val_main_v144, val_main_v132, val_main_v120, val_main_v108, val_main_v119, val_main_v131, val_main_v143, val_main_cst_19, val_main_cst_22, val_main_cst_25, val_main_cst_28]
    repeat rw [dif_neg (by omega)]
    simp only [false_and, dite_false, zero_add, add_zero]
  exact h.trans (v107 w s ct hw hs hc t q)

include hw hs hc in
theorem v135_3 (t : Fin 4096) (q : Fin 256) : val_main_v135 (F := Ideal) w s ct (ix2 t (⟨256 * 3 + q.val, by omega⟩ : Fin 1024)) = ((-PoolReal.dp wr sr cr t 3 q : ℝ) : EReal) := by
  have h : val_main_v135 (F := Ideal) w s ct (ix2 t (⟨768 + q.val, by omega⟩ : Fin 1024)) = -val_main_v98 (F := Ideal) w s ct (ix2 t q) := by
    pointwise [val_main_v135, val_main_v134, val_main_v133, val_main_v123, val_main_v122, val_main_v121, val_main_v111, val_main_v110, val_main_v109, val_main_v100, val_main_v99,
      val_main_cst_17, val_main_cst_20, val_main_cst_23, val_main_cst_26]
    repeat rw [dif_neg (by omega)]
    simp only [false_and, dite_false, zero_add, add_zero]
  rw [EReal.coe_neg, ← dpG_real w s ct hw hs hc, ← v98]
  exact h

include hw hs hc in
/-- The reference's gradient of the normalised values at a row of a group. -/
theorem v146 (t : Fin 4096) (g : Fin 4) (q : Fin 256) :
    val_main_v146 (F := Ideal) w s ct (ix2 t (⟨256 * g.val + q.val, by omega⟩ : Fin 1024)) = ((PoolReal.dh wr sr cr t g q : ℝ) : EReal) := by
  have h144 : ∀ t : Fin 4096, val_main_v144 (F := Ideal) w s ct (ix2 t (⟨256 * g.val + q.val, by omega⟩ : Fin 1024))
      = ((PoolReal.ext wr sr cr g q t.val - PoolReal.ext wr sr cr g q (t.val + 2 ^ (g.val + 1)) : ℝ) : EReal) := by
    intro t
    match g with
    | 0 => exact v144_0 w s ct hw hs hc t q
    | 1 => exact v144_1 w s ct hw hs hc t q
    | 2 => exact v144_2 w s ct hw hs hc t q
    | 3 => exact v144_3 w s ct hw hs hc t q
  have h135 : val_main_v135 (F := Ideal) w s ct (ix2 t (⟨256 * g.val + q.val, by omega⟩ : Fin 1024)) = ((-PoolReal.dp wr sr cr t g q : ℝ) : EReal) := by
    match g with
    | 0 => exact v135_0 w s ct hw hs hc t q
    | 1 => exact v135_1 w s ct hw hs hc t q
    | 2 => exact v135_2 w s ct hw hs hc t q
    | 3 => exact v135_3 w s ct hw hs hc t q
  have h145 : val_main_v145 (F := Ideal) w s ct (ix2 t (⟨256 * g.val + q.val, by omega⟩ : Fin 1024))
      = ((∑ k ∈ Finset.range (2 ^ (g.val + 1)), PoolReal.ext wr sr cr g q (t.val + k) : ℝ) : EReal) := by
    refine (sumAhead _ _ _ _ ?_ t _).trans ?_
    · pointwise [val_main_call1_call0_v0, val_main_call1_call0_cst]
    · rw [← sum_diff (PoolReal.ext wr sr cr g q) 4096 (2 ^ (g.val + 1)) t.val (PoolReal.ext_of_le wr sr cr g q), Finset.sum_range, ← coe_sum]
      refine Finset.sum_congr rfl fun k _ => ?_
      split
      · exact h144 _
      · rw [PoolReal.ext_of_le wr sr cr g q _ (by omega), PoolReal.ext_of_le wr sr cr g q _ ((by omega : 4096 ≤ t.val + k.val).trans (Nat.le_add_right _ _)), sub_zero]
        rfl
  have h146 : val_main_v146 (F := Ideal) w s ct (ix2 t (⟨256 * g.val + q.val, by omega⟩ : Fin 1024))
      = val_main_v135 (F := Ideal) w s ct (ix2 t (⟨256 * g.val + q.val, by omega⟩ : Fin 1024)) + val_main_v145 (F := Ideal) w s ct (ix2 t (⟨256 * g.val + q.val, by omega⟩ : Fin 1024)) := rfl
  rw [h146, h135, h145, ← EReal.coe_add, PoolReal.dh, neg_add_eq_sub]

include hw hs hc in
/-- The same by column. -/
theorem v146c (t : Fin 4096) (j : Fin 1024) : val_main_v146 (F := Ideal) w s ct (ix2 t j) = ((PoolReal.dhc wr sr cr t j : ℝ) : EReal) := by
  refine Eq.trans ?_ (v146 w s ct hw hs hc t ⟨j.val / 256, by omega⟩ ⟨j.val % 256, by omega⟩)
  exact congrArg _ (congrArg (ix2 t) (Fin.ext (by simp; omega)))

include hx in
/-- A row's mean square with its constant. -/
theorem v6 (t : Fin 4096) : val_main_v6 (F := Ideal) x (ix2 t 0) = ((PoolReal.ms xr t : ℝ) : EReal) := by
  pointwise [val_main_v6, val_main_v5, val_main_v4, val_main_v3, val_main_v2, val_main_v1, val_main_v0, val_main_cst_1, val_main_cst_0, val_main_cst]
  simp only [hx, ← EReal.coe_mul, coe_sum, PoolReal.bits_1024, PoolReal.eps_bits]
  rw [PoolReal.div_real (by norm_num), ← EReal.coe_add]
  rfl

include hx in
/-- Its reciprocal square root. -/
theorem v7 (t : Fin 4096) : val_main_v7 (F := Ideal) x (ix2 t 0) = ((PoolReal.rr xr t : ℝ) : EReal) := by
  rw [← PoolReal.rsqrt_ms, ← v6 x hx]
  rfl

include hx hg hw hs hc in
/-- The reference's gradient of the branch's input. -/
theorem v166 (t : Fin 4096) (j : Fin 1024) : val_main_v166 (F := Ideal) x g w s ct (ix2 t j) = ((PoolReal.dx xr gr wr sr cr t j : ℝ) : EReal) := by
  have hm := v6 x hx t
  have hr := v7 x hx t
  pointwise [val_main_v166, val_main_v165, val_main_v164, val_main_v163, val_main_v162, val_main_v161, val_main_v160, val_main_v159, val_main_v158, val_main_v157, val_main_v156,
    val_main_v155, val_main_v154, val_main_v153, val_main_v152, val_main_v151, val_main_v150, val_main_v10, val_main_v9, val_main_v8, val_main_cst_2, val_main_cst_31, val_main_cst_32,
    val_main_cst_30]
  rw [← PoolReal.dx_eq xr gr wr sr cr t j (PoolReal.dhc wr sr cr t) fun _ => rfl]
  simp only [hm, hr, hx, hg, hc, v146c w s ct hw hs hc, PoolReal.bits_neg_half, PoolReal.bits_1024, PoolReal.div_real (PoolReal.ms_pos xr t).ne',
    PoolReal.div_real (by norm_num : (1024 : ℝ) ≠ 0), ← EReal.coe_mul, ← EReal.coe_add, coe_sum, Fin.sum_univ_one]

end reals

end Cert.ReferenceIdeal.Math
-- ==== Proof.PoolHost.lean ====
/- The pooling branch's backward call: the host lines before it leave in its fifth operand what the reference's lines form. -/
module

public import proofs.«01_k».proof.Proof.Pool
public import proofs.«01_k».proof.Proof.Gen.ReferenceIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Math

open Cert.KernelIdeal Cert.KernelIdeal.Gen
open Cert.ReferenceIdeal.Read (val_main_v14 val_main_v15 val_main_v31 val_main_v43 val_main_v55 val_main_v67 val_main_v75 val_main_v72)

/-- The normalised input. -/
theorem v11 (W : Valuation τ sig (Elt Ideal)) : StableHlo.after hostOps0 W (Proc.devRef .tc main_v11) = val_main_v14 (F := Ideal) (W (Proc.devRef .tc main_arg0)) (W (Proc.devRef .tc main_arg1)) := by
  entry_read
  rfl

/-- Its running sums over the rows. -/
theorem v12 (W : Valuation τ sig (Elt Ideal)) (x g) (h : W (Proc.devRef .tc main_v11) = val_main_v14 (F := Ideal) x g) :
    StableHlo.after hostOps0_1 W (Proc.devRef .tc main_v12) = val_main_v15 (F := Ideal) x g := by
  entry_read
  rw [h]
  rfl

/-- Two lines run one after the other. -/
theorem after_append (l₁ l₂ : List (HloOp τ sig (Elt Ideal))) (W : Valuation τ sig (Elt Ideal)) : StableHlo.after (l₁ ++ l₂) W = StableHlo.after l₂ (StableHlo.after l₁ W) := by
  induction l₁ generalizing W with
  | nil => rfl
  | cons op l ih => exact ih _

/-- The lines that form the four window means less the row itself. -/
def opsG : List (HloOp τ sig (Elt Ideal)) := List.take 61 hostOps0_2
/-- The lines after them. -/
def opsE : List (HloOp τ sig (Elt Ideal)) := List.drop 61 hostOps0_2

section groups
variable (W : Valuation τ sig (Elt Ideal)) (x : FVec Ideal S4096x1024 .f32) (g : FVec Ideal S1x1024 .f32) (h : W (Proc.devRef .tc main_v11) = val_main_v14 (F := Ideal) x g)
   (h' : W (Proc.devRef .tc main_v12) = val_main_v15 (F := Ideal) x g)
include h h'

/-- Column group 0 of the pooled values. -/
theorem g61 : StableHlo.after opsG W (Proc.devRef .tc main_v61) = Cert.ReferenceIdeal.Read.val_main_v68 (F := Ideal) x g := by
  unfold opsG
  simp only [List.take_succ_cons, List.take_zero]
  entry_read
  rw [h, h']
  rfl
/-- Column group 1 of the pooled values. -/
theorem g62 : StableHlo.after opsG W (Proc.devRef .tc main_v62) = Cert.ReferenceIdeal.Read.val_main_v69 (F := Ideal) x g := by
  unfold opsG
  simp only [List.take_succ_cons, List.take_zero]
  entry_read
  rw [h, h']
  rfl
/-- Column group 2 of the pooled values. -/
theorem g63 : StableHlo.after opsG W (Proc.devRef .tc main_v63) = Cert.ReferenceIdeal.Read.val_main_v70 (F := Ideal) x g := by
  unfold opsG
  simp only [List.take_succ_cons, List.take_zero]
  entry_read
  rw [h, h']
  rfl
/-- Column group 3 of the pooled values. -/
theorem g64 : StableHlo.after opsG W (Proc.devRef .tc main_v64) = Cert.ReferenceIdeal.Read.val_main_v71 (F := Ideal) x g := by
  unfold opsG
  simp only [List.take_succ_cons, List.take_zero]
  entry_read
  rw [h, h']
  rfl
end groups

/-- The mixed values in the narrow format. -/
theorem tail (W : Valuation τ sig (Elt Ideal)) (x : FVec Ideal S4096x1024 .f32) (g : FVec Ideal S1x1024 .f32)
   (h1 : W (Proc.devRef .tc main_v61) = Cert.ReferenceIdeal.Read.val_main_v68 (F := Ideal) x g)
   (h2 : W (Proc.devRef .tc main_v62) = Cert.ReferenceIdeal.Read.val_main_v69 (F := Ideal) x g)
   (h3 : W (Proc.devRef .tc main_v63) = Cert.ReferenceIdeal.Read.val_main_v70 (F := Ideal) x g)
   (h4 : W (Proc.devRef .tc main_v64) = Cert.ReferenceIdeal.Read.val_main_v71 (F := Ideal) x g) :
   StableHlo.after opsE W (Proc.devRef .tc main_v69) = (truncf .bf16 (Cert.ReferenceIdeal.Read.val_main_v75 (F := Ideal) x g (W (Proc.devRef .tc main_arg2))) bitsLt_bf16_f32 : FVec Ideal S4096x1024 .bf16) := by
  unfold opsE
  simp only [List.drop_succ_cons, List.drop_zero]
  after_results_simp
  dsimp only [Matrix.cons_val]
  rw [h1, h2, h3, h4]
  rfl

/-- The host hands the call the branch's output before its scale, formed by the reference's own lines. -/
theorem V_yu (m : (ℓ : Loc nD τ sig) → Buf (Elt Ideal) ℓ) (c : Dev nD) : V m c main_v69 = (truncf .bf16 (Cert.ReferenceIdeal.Read.val_main_v75 (F := Ideal) (m ((c : Thread nD τ).loc main_arg0))
    (m ((c : Thread nD τ).loc main_arg1)) (m ((c : Thread nD τ).loc main_arg2))) bitsLt_bf16_f32 : FVec Ideal S4096x1024 .bf16) := by
  have e : (List.flatten [hostOps0, hostOps0_1, hostOps0_2] : List (HloOp τ sig (Elt Ideal))) = hostOps0 ++ (hostOps0_1 ++ (opsG ++ opsE)) := by
    rw [opsG, opsE, List.take_append_drop]
    simp only [List.flatten_cons, List.flatten_nil, List.append_nil]
  show StableHlo.after (List.flatten [hostOps0, hostOps0_1, hostOps0_2]) (fun b => m (c, b)) (Proc.devRef .tc main_v69) = _
  rw [e, after_append, after_append, after_append]
  have h0 := v11 (fun b => m (c, b))
  have h1 : StableHlo.after hostOps0_1 (StableHlo.after hostOps0 fun b => m (c, b)) (Proc.devRef .tc main_v11) = _ := (by entry_read; rfl : _ = StableHlo.after hostOps0 (fun b => m (c, b)) (Proc.devRef .tc main_v11)).trans h0
  have h2 := v12 _ _ _ h0
  refine (tail _ _ _ (g61 _ _ _ h1 h2) (g62 _ _ _ h1 h2) (g63 _ _ _ h1 h2) (g64 _ _ _ h1 h2)).trans ?_
  congr 2

end Cert.KernelIdeal.Math

end
-- ==== Proof.PoolBlocks.lean ====
/- The pooling branch's backward call: which rows of the arrays each block reads, and the gradient before the normalisation as a real number where the arrays hold finite numbers. -/
module

public import proofs.«01_k».proof.Proof.Pool
public import proofs.«01_k».proof.Proof.PoolRef
public import proofs.«01_k».proof.Proof.PoolHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelIdeal.Math

open Cert.KernelIdeal Cert.KernelIdeal.Gen
open Cert.PoolSum (coe_sum)

variable (m : (ℓ : Loc nD τ sig) → Buf (Elt Ideal) ℓ)

/-- The block indices that move with the grid point. -/
theorem idx : ∀ t : Fin cfg0.N, win0_0.index t = ![t.val, 0] ∧ win0_1.index t = ![min (16 * (t.val + 1)) 127, 0] ∧ win0_2.index t = ![0, 0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![t.val, 0] ∧ win0_11.index t = ![0, 0]
    ∧ (grid0.coords t 0).val = t.val ∧ t.val < 8 :=
  (by decide +kernel : ∀ t : Fin grid0.N, _)

/-- The array row a block's row is. -/
abbrev row (t : Fin cfg0.N) (r : Fin 512) : Fin 4096 := ⟨512 * t.val + r.val, by have := (idx t).2.2.2.2.2.2.2.2.2.2.2.2.2; omega⟩

/-- The pooling weights as the call takes them. -/
def wCast (w : FVec Ideal S4x256x256 .f32) : FVec Ideal S4x256x256 .bf16 := truncf .bf16 w bitsLt_bf16_f32

/-- The host hands the call the pooling weights. -/
theorem V_w (c : Dev nD) : V m c main_v70 = wCast (m ((c : Thread nD τ).loc main_arg2)) := by
  entry_read
  rfl

/-- The cotangent's block. -/
theorem blk0 (c : Dev nD) (t : Fin cfg0.N) (r : Fin 512) (j : Fin 1024) : iblk m c 0 t (ix2 r j) = m ((c : Thread nD τ).loc main_arg4) (ix2 (row t r) j) := by
  blk_simp [iblk]
  rw [V_main_arg4]
  blk_point [idx t]

/-- The cotangent's 32 rows after the block. -/
theorem blk1 (c : Dev nD) (t : Fin cfg0.N) (r : Fin 32) (j : Fin 1024) :
    iblk m c 1 t (ix2 r j) = m ((c : Thread nD τ).loc main_arg4) (ix2 (⟨32 * min (16 * (t.val + 1)) 127 + r.val, by omega⟩ : Fin 4096) j) := by
  blk_simp [iblk]
  rw [V_main_arg4]
  blk_point [idx t]

/-- The weights' block. -/
theorem blk2 (c : Dev nD) (t : Fin cfg0.N) (g : Fin 4) (q p : Fin 256) : iblk m c 2 t (ix3 g q p) = m ((c : Thread nD τ).loc main_arg2) (ix3 g q p) := by
  blk_simp [iblk]
  rw [V_w]
  pointwise [wCast]
  blk_point [idx t]

/-- The scale's block. -/
theorem blk3 (c : Dev nD) (t : Fin cfg0.N) (j : Fin 1024) : iblk m c 3 t (ix2 0 j) = m ((c : Thread nD τ).loc main_arg3) (ix2 0 j) := by
  blk_simp [iblk]
  rw [V_main_arg3]
  blk_point [idx t]

/-- The block of the branch's output before its scale. -/
theorem blk4 (c : Dev nD) (t : Fin cfg0.N) (r : Fin 512) (j : Fin 1024) :
    iblk m c 4 t (ix2 r j) = Cert.ReferenceIdeal.Read.val_main_v75 (F := Ideal) (m ((c : Thread nD τ).loc main_arg0))
      (m ((c : Thread nD τ).loc main_arg1)) (m ((c : Thread nD τ).loc main_arg2)) (ix2 (row t r) j) := by
  blk_simp [iblk]
  rw [V_yu]
  refine congrArg (Cert.ReferenceIdeal.Read.val_main_v75 (F := Ideal) (m ((c : Thread nD τ).loc main_arg0)) (m ((c : Thread nD τ).loc main_arg1)) (m ((c : Thread nD τ).loc main_arg2))) ?_
  blk_point [idx t]

/-- The input's block. -/
theorem blk5 (c : Dev nD) (t : Fin cfg0.N) (r : Fin 512) (j : Fin 1024) : iblk m c 5 t (ix2 r j) = m ((c : Thread nD τ).loc main_arg0) (ix2 (row t r) j) := by
  blk_simp [iblk]
  rw [V_main_arg0]
  blk_point [idx t]

/-- The gain's block. -/
theorem blk6 (c : Dev nD) (t : Fin cfg0.N) (j : Fin 1024) : iblk m c 6 t (ix2 0 j) = m ((c : Thread nD τ).loc main_arg1) (ix2 0 j) := by
  blk_simp [iblk]
  rw [V_main_arg1]
  blk_point [idx t]

/-- The row offset of a block as the body computes it. -/
theorem off (t : Fin cfg0.N) : Scalar.muli (BitVec.ofNat 32 (grid0.coords t 0).val) 512#32 = BitVec.ofNat 32 (512 * t.val) := by
  rw [(idx t).2.2.2.2.2.2.2.2.2.2.2.2.1]
  have h := (idx t).2.2.2.2.2.2.2.2.2.2.2.2.2
  apply BitVec.eq_of_toNat_eq
  simp [Scalar.muli, IntOp.muli]
  omega

/-- The row offset of the block after it. -/
theorem off1 (t : Fin cfg0.N) : Scalar.muli (Scalar.addi (BitVec.ofNat 32 (grid0.coords t 0).val) 1#32) 512#32 = BitVec.ofNat 32 (512 * (t.val + 1)) := by
  rw [(idx t).2.2.2.2.2.2.2.2.2.2.2.2.1]
  have h := (idx t).2.2.2.2.2.2.2.2.2.2.2.2.2
  apply BitVec.eq_of_toNat_eq
  simp [Scalar.muli, IntOp.muli, Scalar.addi, IntOp.addi]
  omega

/-- The factor of the rows after the block: one, and zero at the last block. -/
theorem factor (t : Fin cfg0.N) : (k0_pay4 (F := Ideal) (grid0.coords t) : EReal) = if t.val < 7 then 1 else 0 := by
  have h : k0_pay4 (F := Ideal) (grid0.coords t) = if t.val < 7 then (Ideal.ofBits .f32 0x3F800000#32) else (Ideal.ofBits .f32 0x00000000#32) := by
    have h1 : ∀ t : Fin cfg0.N, Scalar.cmpi .slt (BitVec.ofNat 32 (grid0.coords t 0).val) 7#32 = if t.val < 7 then 1#1 else 0#1 := (by decide +kernel : ∀ t : Fin grid0.N, _)
    unfold k0_pay4
    show Scalar.select (Scalar.cmpi .slt (BitVec.ofNat 32 (grid0.coords t 0).val) 7#32) _ _ = _
    rw [h1 t]
    split <;> rfl
  rw [h]
  split
  · simp [Ideal.ofBits, Ideal.ieee]
    rw [← EReal.coe_mul]
    norm_num
  · simp [Ideal.ofBits, Ideal.ieee]

/-- A row's count as the body computes it. -/
theorem cnt_real (g : Fin 4) (b r : ℕ) (h : b + r < 5000) : cnt (BitVec.ofNat 32 b) (cap g) r = ((PoolReal.cnt (2 ^ (g.val + 1)) (b + r) : ℝ) : EReal) := by
  have hg : 2 ^ (g.val + 1) ≤ 2 ^ 4 := Nat.pow_le_pow_right (by norm_num) (by omega)
  exact PoolReal.cnt_word b r _ (by omega) (by omega)

/-- The sum inside a row's gradient through the normalisation. -/
def inB (X : Vec Ideal S512x1024 .f32) (g : Vec Ideal S1x1024 .f32) (D : Fin 512 → Fin 1024 → EReal) (r : Fin 512) : EReal :=
  ∑ x : Fin 1024, D r x * g (ix2 0 x) * (X (ix2 r x) * rB X r)

/-- A row's gradient over that sum. -/
theorem dxB_eq (X : Vec Ideal S512x1024 .f32) (g : Vec Ideal S1x1024 .f32) (D : Fin 512 → Fin 1024 → EReal) (ct : Vec Ideal S512x1024 .f32) (r : Fin 512) (j : Fin 1024) :
    dxB X g D ct r j = ct (ix2 r j) + rB X r * (D r j * g (ix2 0 j) - X (ix2 r j) * rB X r * Ideal.div (inB X g D r) (Ideal.ofBits .f32 0x44800000#32)) := rfl

section reals

variable (c : Dev nD) (xr : Fin 4096 → Fin 1024 → ℝ) (gr : Fin 1024 → ℝ) (wr : Fin 4 → Fin 256 → Fin 256 → ℝ) (sr : Fin 1024 → ℝ) (cr : Fin 4096 → Fin 1024 → ℝ)
  (hx : ∀ t j, m ((c : Thread nD τ).loc main_arg0) (ix2 t j) = ((xr t j : ℝ) : EReal))
  (hg : ∀ j, m ((c : Thread nD τ).loc main_arg1) (ix2 0 j) = ((gr j : ℝ) : EReal))
  (hw : ∀ g q p, m ((c : Thread nD τ).loc main_arg2) (ix3 g q p) = ((wr g q p : ℝ) : EReal))
  (hs : ∀ j, m ((c : Thread nD τ).loc main_arg3) (ix2 0 j) = ((sr j : ℝ) : EReal))
  (hc : ∀ t j, m ((c : Thread nD τ).loc main_arg4) (ix2 t j) = ((cr t j : ℝ) : EReal))

include hw hs hc in
/-- A row of a block times the weights. -/
theorem dot0 (t : Fin cfg0.N) (r : Fin 512) (g : Fin 4) (q : Fin 256) :
    dotM (n := 512) (iblk m c 0 t) (iblk m c 3 t) (iblk m c 2 t) r g q = ((PoolReal.dp wr sr cr (row t r) g q : ℝ) : EReal) := by
  refine Eq.trans (Finset.sum_congr rfl fun x _ => ?_) (coe_sum _)
  rw [blk0 m c t r, blk3 m c t, blk2 m c t g q x, hc, hs, hw, ← EReal.coe_mul, ← EReal.coe_mul]

include hw hs hc in
/-- A row after the block times the weights. -/
theorem dot1 (t : Fin cfg0.N) (ht : t.val < 7) (r : Fin 32) (g : Fin 4) (q : Fin 256) :
    dotM (n := 32) (iblk m c 1 t) (iblk m c 3 t) (iblk m c 2 t) r g q = ((PoolReal.dp wr sr cr (⟨512 * (t.val + 1) + r.val, by omega⟩ : Fin 4096) g q : ℝ) : EReal) := by
  refine Eq.trans (Finset.sum_congr rfl fun x _ => ?_) (coe_sum _)
  rw [blk1 m c t r, blk3 m c t, blk2 m c t g q x, hc, hs, hw, ← EReal.coe_mul, ← EReal.coe_mul]
  have e : (⟨32 * min (16 * (t.val + 1)) 127 + r.val, by omega⟩ : Fin 4096) = ⟨512 * (t.val + 1) + r.val, by omega⟩ := Fin.ext (by simp; omega)
  rw [e]

include hw hs hc in
/-- The gradient over its row counts, in a block's rows and the 32 after them. -/
theorem ext_real (t : Fin cfg0.N) (g : Fin 4) (q : Fin 256) (r : ℕ) (hr : r < 544) :
    extB (BitVec.ofNat 32 (grid0.coords t 0).val) (k0_pay4 (F := Ideal) (grid0.coords t)) (iblk m c 0 t) (iblk m c 1 t) (iblk m c 3 t) (iblk m c 2 t) g r q
      = ((PoolReal.ext wr sr cr g q (512 * t.val + r) : ℝ) : EReal) := by
  have ht := (idx t).2.2.2.2.2.2.2.2.2.2.2.2.2
  have hp : ∀ n, PoolReal.cnt (2 ^ (g.val + 1)) n ≠ 0 := fun n => (PoolReal.cnt_pos _ n (Nat.two_pow_pos _)).ne'
  unfold extB
  rw [off, off1, factor]
  by_cases h : r < 512
  · rw [dif_pos h, dot0 m c wr sr cr hw hs hc, cnt_real _ _ _ (by omega), PoolReal.div_real (hp _), PoolReal.ext, dif_pos (by omega)]
  · rw [dif_neg h, dif_pos (by omega)]
    by_cases h7 : t.val < 7
    · rw [if_pos h7, mul_one, dot1 m c wr sr cr hw hs hc t h7, cnt_real _ _ _ (by omega), PoolReal.div_real (hp _)]
      have e : 512 * t.val + r = 512 * (t.val + 1) + (r - 512) := by omega
      rw [e, PoolReal.ext, dif_pos (by omega)]
    · rw [if_neg h7, mul_zero, PoolReal.ext_of_le _ _ _ _ _ _ (by omega)]
      rfl

/-- Two, four, eight or sixteen rows ahead summed as the body sums them. -/
theorem dhB_real (f : ℕ → EReal) (u : ℕ → ℝ) (g : Fin 4) (r : ℕ) (h : ∀ k < 16, f (r + k) = ((u k : ℝ) : EReal)) :
    dhB f g r = ((∑ k ∈ Finset.range (2 ^ (g.val + 1)), u k : ℝ) : EReal) := by
  have h0 : f r = ((u 0 : ℝ) : EReal) := h 0 (by norm_num)
  match g with
  | 0 =>
    simp only [dhB, Nat.add_assoc, Nat.reduceAdd]
    rw [h0, h 1 (by norm_num)]
    simp only [← EReal.coe_add]
    refine congrArg _ ?_
    show _ = ∑ k ∈ Finset.range 2, u k
    simp only [Finset.sum_range_succ, Finset.sum_range_zero]
    ring
  | 1 =>
    simp only [dhB, Nat.add_assoc, Nat.reduceAdd]
    rw [h0, h 1 (by norm_num), h 2 (by norm_num), h 3 (by norm_num)]
    simp only [← EReal.coe_add]
    refine congrArg _ ?_
    show _ = ∑ k ∈ Finset.range 4, u k
    simp only [Finset.sum_range_succ, Finset.sum_range_zero]
    ring
  | 2 =>
    simp only [dhB, Nat.add_assoc, Nat.reduceAdd]
    rw [h0, h 1 (by norm_num), h 2 (by norm_num), h 3 (by norm_num), h 4 (by norm_num), h 5 (by norm_num), h 6 (by norm_num), h 7 (by norm_num)]
    simp only [← EReal.coe_add]
    refine congrArg _ ?_
    show _ = ∑ k ∈ Finset.range 8, u k
    simp only [Finset.sum_range_succ, Finset.sum_range_zero]
    ring
  | 3 =>
    simp only [dhB, Nat.add_assoc, Nat.reduceAdd]
    rw [h0, h 1 (by norm_num), h 2 (by norm_num), h 3 (by norm_num), h 4 (by norm_num), h 5 (by norm_num), h 6 (by norm_num), h 7 (by norm_num), h 8 (by norm_num), h 9 (by norm_num), h 10 (by norm_num), h 11 (by norm_num), h 12 (by norm_num), h 13 (by norm_num), h 14 (by norm_num), h 15 (by norm_num)]
    simp only [← EReal.coe_add]
    refine congrArg _ ?_
    show _ = ∑ k ∈ Finset.range 16, u k
    simp only [Finset.sum_range_succ, Finset.sum_range_zero]
    ring

include hw hs hc in
/-- The gradient before the normalisation in a block. -/
theorem dhT_real (t : Fin cfg0.N) (r : Fin 512) (j : Fin 1024) : dhT m c t r j = ((PoolReal.dhc wr sr cr (row t r) j : ℝ) : EReal) := by
  unfold dhT dhv
  rw [dot0 m c wr sr cr hw hs hc, dhB_real _ (fun k => PoolReal.ext wr sr cr ⟨j.val / 256, by omega⟩ ⟨j.val % 256, by omega⟩ (512 * t.val + r.val + k)), ← EReal.coe_sub]
  · rfl
  · intro k hk
    rw [ext_real m c wr sr cr hw hs hc t _ _ _ (by omega), Nat.add_assoc]

include hx in
/-- The reciprocal root mean square of a block's row. -/
theorem rB_real (t : Fin cfg0.N) (r : Fin 512) : rB (iblk m c 5 t) r = ((PoolReal.rr xr (row t r) : ℝ) : EReal) := by
  rw [← PoolReal.rsqrt_ms, PoolReal.ms, EReal.coe_add, ← PoolReal.div_real (by norm_num : (1024 : ℝ) ≠ 0), ← coe_sum, ← PoolReal.eps_bits, ← PoolReal.bits_1024]
  unfold rB
  congr 3
  refine Finset.sum_congr rfl fun x _ => ?_
  rw [blk5 m c t r, hx, ← EReal.coe_mul]

include hx hg hw hs hc in
/-- The gradient of the branch's input in a block. -/
theorem dx_real (t : Fin cfg0.N) (r : Fin 512) (j : Fin 1024) :
    dxB (iblk m c 5 t) (iblk m c 6 t) (dhT m c t) (iblk m c 0 t) r j = ((PoolReal.dx xr gr wr sr cr (row t r) j : ℝ) : EReal) := by
  have hsum : inB (iblk m c 5 t) (iblk m c 6 t) (dhT m c t) r
      = ((∑ x : Fin 1024, PoolReal.dhc wr sr cr (row t r) x * gr x * (xr (row t r) x * PoolReal.rr xr (row t r)) : ℝ) : EReal) := by
    refine Eq.trans (Finset.sum_congr rfl fun x _ => ?_) (coe_sum _)
    rw [dhT_real m c wr sr cr hw hs hc, blk6 m c t, blk5 m c t r, hg, hx, rB_real m c xr hx, ← EReal.coe_mul, ← EReal.coe_mul, ← EReal.coe_mul]
  rw [dxB_eq, hsum, blk0 m c t r, hc, rB_real m c xr hx, dhT_real m c wr sr cr hw hs hc, blk6 m c t, hg, blk5 m c t r, hx, PoolReal.bits_1024, PoolReal.div_real (by norm_num)]
  simp only [← EReal.coe_mul, ← EReal.coe_sub, ← EReal.coe_add]
  rfl

end reals

end Cert.KernelIdeal.Math

end
-- ==== Proof.PoolFinal.lean ====
/- The pooling branch's backward call: its five result arrays, and the claim that kernel and reference agree where the arguments are finite. -/
module

public import proofs.«01_k».proof.Proof.PoolBlocks
public import proofs.«01_k».proof.Proof.Gen.ReferenceIdeal.Read
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelIdeal.Math

open Cert.KernelIdeal Cert.KernelIdeal.Gen
open Cert.ReferenceIdeal.Read (val_main_v7 val_main_v11 val_main_v12 val_main_v75 val_main_v79 val_main_v80 val_main_v81 val_main_v82 val_main_cst_16
  val_main_v146 val_main_v147 val_main_v148 val_main_v149 val_main_cst_29 val_main_v166 val_main_v167 val_main_v168 val_main_v169 val_main_v170)

variable (m : (ℓ : Loc nD τ sig) → Buf (Elt Ideal) ℓ)

section reals

variable (c : Dev nD) (xr : Fin 4096 → Fin 1024 → ℝ) (gr : Fin 1024 → ℝ) (wr : Fin 4 → Fin 256 → Fin 256 → ℝ) (sr : Fin 1024 → ℝ) (cr : Fin 4096 → Fin 1024 → ℝ)
  (hx : ∀ t j, m ((c : Thread nD τ).loc main_arg0) (ix2 t j) = ((xr t j : ℝ) : EReal))
  (hg : ∀ j, m ((c : Thread nD τ).loc main_arg1) (ix2 0 j) = ((gr j : ℝ) : EReal))
  (hw : ∀ g q p, m ((c : Thread nD τ).loc main_arg2) (ix3 g q p) = ((wr g q p : ℝ) : EReal))
  (hs : ∀ j, m ((c : Thread nD τ).loc main_arg3) (ix2 0 j) = ((sr j : ℝ) : EReal))
  (hc : ∀ t j, m ((c : Thread nD τ).loc main_arg4) (ix2 t j) = ((cr t j : ℝ) : EReal))

include hx hg hw hs hc in
/-- The first result array. -/
theorem final7 : (dats m 0 c).arrAt 7 (cfgs 0).N = val_main_v166 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  have e : ((cfg0.win 7).blk t).view.emb y = ix2 (row t (y 0)) (y 1) := by blk_ext [idx t]
  rw [e, eq_ix2 y]
  exact (point7 m c t (y 0) (y 1)).trans ((dx_real m c xr gr wr sr cr hx hg hw hs hc t (y 0) (y 1)).trans
    (Cert.ReferenceIdeal.Math.v166 _ _ _ _ _ hx hg hw hs hc (row t (y 0)) (y 1)).symm)

include hx hg hw hs hc in
/-- The second result array, the first in the narrow format. -/
theorem final8 : (dats m 0 c).arrAt 8 (cfgs 0).N = val_main_v169 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp; rw [after0_8]
  have e : ((cfg0.win 8).blk t).view.emb y = ix2 (row t (y 0)) (y 1) := by blk_ext [idx t]
  rw [e, eq_ix2 y]
  exact (point8 m c t (y 0) (y 1)).trans ((dx_real m c xr gr wr sr cr hx hg hw hs hc t (y 0) (y 1)).trans
    (Cert.ReferenceIdeal.Math.v166 _ _ _ _ _ hx hg hw hs hc (row t (y 0)) (y 1)).symm)

include hx hw hs hc in
/-- A block's part of the gain's gradient. -/
theorem part9_real (t : Fin cfg0.N) (j : Fin 1024) :
    part9 m c t j = ∑ r : Fin 512, ((PoolReal.dhc wr sr cr (row t r) j * (xr (row t r) j * PoolReal.rr xr (row t r)) : ℝ) : EReal) := by
  refine Fin.sum_fin_congr fun r => ?_
  rw [dhT_real m c wr sr cr hw hs hc, blk5 m c t r, hx, rB_real m c xr hx, ← EReal.coe_mul, ← EReal.coe_mul]

include hx hw hs hc in
/-- The reference's gain gradient, a sum over all rows. -/
theorem ref9 (j : Fin 1024) : val_main_v149 (F := Ideal) (m ((c : Thread nD τ).loc main_arg0)) (m ((c : Thread nD τ).loc main_arg2)) (m ((c : Thread nD τ).loc main_arg3))
    (m ((c : Thread nD τ).loc main_arg4)) (ix2 0 j) = ∑ t : Fin 4096, ((PoolReal.dhc wr sr cr t j * (xr t j * PoolReal.rr xr t) : ℝ) : EReal) := by
  pointwise [val_main_v149, val_main_v148, val_main_v147, val_main_v12, val_main_v11, val_main_cst_29]
  refine Finset.sum_congr rfl fun t _ => ?_
  rw [Cert.ReferenceIdeal.Math.v146c _ _ _ hw hs hc, Cert.ReferenceIdeal.Math.v7 _ hx, hx, ← EReal.coe_mul, ← EReal.coe_mul, mul_comm]

end reals

/-- The cotangent times the scale in a block. -/
theorem point10c (c : Dev nD) (t : Fin cfg0.N) (r : Fin 512) (j : Fin 1024) : (outsAt0 m c t.val t.isLt).2.2.2.1 (ix2 r j)
    = @HMul.hMul EReal EReal EReal _ (m ((c : Thread nD τ).loc main_arg4) (ix2 (row t r) j)) (m ((c : Thread nD τ).loc main_arg3) (ix2 0 j)) := by
  have e : (⟨256 * (j.val / 256) + j.val % 256, by omega⟩ : Fin 1024) = j := Fin.ext (by simp; omega)
  have h := point10 m c t r ⟨j.val / 256, by omega⟩ ⟨j.val % 256, by omega⟩
  unfold dycB at h
  rw [blk0 m c t r, blk3 m c t] at h
  simp only [e] at h
  exact h

/-- The fourth result array. -/
theorem final10 (c : Dev nD) : (dats m 0 c).arrAt 10 (cfgs 0).N = val_main_v170 (F := Ideal) (m ((c : Thread nD τ).loc main_arg3)) (m ((c : Thread nD τ).loc main_arg4)) := by
  refine (dats m 0 c).arrAt_eq_of_covers 10 _ (by decide +kernel) fun t hf y => ?_
  blk_simp; rw [after0_10]
  have e : ((cfg0.win 10).blk t).view.emb y = ix2 (row t (y 0)) (y 1) := by blk_ext [idx t]
  rw [e, eq_ix2 y]
  refine (point10c m c t (y 0) (y 1)).trans ?_
  have h : ∀ (r : Fin 4096) (j : Fin 1024), val_main_v170 (F := Ideal) (m ((c : Thread nD τ).loc main_arg3)) (m ((c : Thread nD τ).loc main_arg4)) (ix2 r j)
      = @HMul.hMul EReal EReal EReal _ (m ((c : Thread nD τ).loc main_arg4) (ix2 r j)) (m ((c : Thread nD τ).loc main_arg3) (ix2 0 j)) := fun r j => by
    pointwise [val_main_v170, val_main_v168, val_main_v167]
  exact (h _ _).symm

/-- The third result's block after the last point: the sum of every block's part. -/
theorem acc9 (c : Dev nD) (j : S1x1024.Idx) : (outsAt0 m c t0_7.val t0_7.isLt).2.2.1 j = ∑ p : Fin cfg0.N, part9 m c p (j 1) := by
  rw [Pipeline.eq_sum_fin_of_reset_step_apply_last (fun n h => (outsAt0 m c n h).2.2.1) 8 (fun _ => 0) (fun t i => part9 m c t (i 1))
    (fun t h i => by rw [eq_ix2 i, Fin.fin_one_eq_zero (i 0)]; exact step9_A m c t h (i 1)) (fun t h i => by rw [eq_ix2 i, Fin.fin_one_eq_zero (i 0)]; exact step9_B m c t h (i 1))
    (le_of_eq N_0) t0_7 rfl j, zero_add]

/-- The fifth result's block after the last point. -/
theorem acc11 (c : Dev nD) (j : S1x1024.Idx) : (outsAt0 m c t0_7.val t0_7.isLt).2.2.2.2 j = ∑ p : Fin cfg0.N, part11 m c p (j 1) := by
  rw [Pipeline.eq_sum_fin_of_reset_step_apply_last (fun n h => (outsAt0 m c n h).2.2.2.2) 8 (fun _ => 0) (fun t i => part11 m c t (i 1))
    (fun t h i => by rw [eq_ix2 i, Fin.fin_one_eq_zero (i 0)]; exact step11_A m c t h (i 1)) (fun t h i => by rw [eq_ix2 i, Fin.fin_one_eq_zero (i 0)]; exact step11_B m c t h (i 1))
    (le_of_eq N_0) t0_7 rfl j, zero_add]

/-- The sum of every block's part is the reference's gradient of the scale. -/
theorem sum_part11 (c : Dev nD) (j : Fin 1024) : (∑ p : Fin cfg0.N, part11 m c p j) = val_main_v82 (F := Ideal) (m ((c : Thread nD τ).loc main_arg0)) (m ((c : Thread nD τ).loc main_arg1))
      (m ((c : Thread nD τ).loc main_arg2)) (m ((c : Thread nD τ).loc main_arg4)) (ix2 0 j) := by
  have h : val_main_v82 (F := Ideal) (m ((c : Thread nD τ).loc main_arg0)) (m ((c : Thread nD τ).loc main_arg1))
      (m ((c : Thread nD τ).loc main_arg2)) (m ((c : Thread nD τ).loc main_arg4)) (ix2 0 j)
        = ∑ t : Fin 4096, @HMul.hMul EReal EReal EReal _ (m ((c : Thread nD τ).loc main_arg4) (ix2 t j)) (val_main_v75 (F := Ideal) (m ((c : Thread nD τ).loc main_arg0)) (m ((c : Thread nD τ).loc main_arg1))
      (m ((c : Thread nD τ).loc main_arg2)) (ix2 t j)) := by
    pointwise [val_main_v82, val_main_v81, val_main_v80, val_main_v79, val_main_cst_16]
    exact Finset.sum_congr rfl fun t _ => mul_comm _ _
  refine Eq.trans ?_ h.symm
  refine Fin.sum_mul_add_congr fun p r hl => ?_
  have e : (⟨p.val * 512 + r.val, hl⟩ : Fin 4096) = row p r := Fin.ext (by simp; omega)
  rw [blk0 m c p r, blk4 m c p r, e]

/-- The fifth result array. -/
theorem final11 (c : Dev nD) : (dats m 0 c).arrAt 11 (cfgs 0).N = val_main_v82 (F := Ideal) (m ((c : Thread nD τ).loc main_arg0)) (m ((c : Thread nD τ).loc main_arg1))
    (m ((c : Thread nD τ).loc main_arg2)) (m ((c : Thread nD τ).loc main_arg4)) := by
  refine (dats m 0 c).arrAt_eq_of_after_last 11 t0_7 (by decide +kernel) _ fun j => ?_
  blk_simp
  rw [after0_11]
  refine (acc11 m c j).trans ?_
  rw [eq_ix2 j, Fin.fin_one_eq_zero (j 0)]
  exact sum_part11 m c (j 1)

section reals

variable (c : Dev nD) (xr : Fin 4096 → Fin 1024 → ℝ) (gr : Fin 1024 → ℝ) (wr : Fin 4 → Fin 256 → Fin 256 → ℝ) (sr : Fin 1024 → ℝ) (cr : Fin 4096 → Fin 1024 → ℝ)
  (hx : ∀ t j, m ((c : Thread nD τ).loc main_arg0) (ix2 t j) = ((xr t j : ℝ) : EReal))
  (hw : ∀ g q p, m ((c : Thread nD τ).loc main_arg2) (ix3 g q p) = ((wr g q p : ℝ) : EReal))
  (hs : ∀ j, m ((c : Thread nD τ).loc main_arg3) (ix2 0 j) = ((sr j : ℝ) : EReal))
  (hc : ∀ t j, m ((c : Thread nD τ).loc main_arg4) (ix2 t j) = ((cr t j : ℝ) : EReal))

include hx hw hs hc in
/-- The sum of every block's part is the reference's gradient of the gain. -/
theorem sum_part9 (j : Fin 1024) : (∑ p : Fin cfg0.N, part9 m c p j) = val_main_v149 (F := Ideal) (m ((c : Thread nD τ).loc main_arg0))
    (m ((c : Thread nD τ).loc main_arg2)) (m ((c : Thread nD τ).loc main_arg3)) (m ((c : Thread nD τ).loc main_arg4)) (ix2 0 j) := by
  refine Eq.trans ?_ (ref9 m c xr wr sr cr hx hw hs hc j).symm
  refine (Fin.sum_fin_congr fun p => part9_real m c xr wr sr cr hx hw hs hc p j).trans ?_
  refine Fin.sum_mul_add_congr fun p r hl => ?_
  have e : (⟨p.val * 512 + r.val, hl⟩ : Fin 4096) = row p r := Fin.ext (by simp; omega)
  rw [e]

include hx hw hs hc in
/-- The third result array. -/
theorem final9 : (dats m 0 c).arrAt 9 (cfgs 0).N = val_main_v149 (F := Ideal) (m ((c : Thread nD τ).loc main_arg0))
    (m ((c : Thread nD τ).loc main_arg2)) (m ((c : Thread nD τ).loc main_arg3)) (m ((c : Thread nD τ).loc main_arg4)) := by
  refine (dats m 0 c).arrAt_eq_of_after_last 9 t0_7 (by decide +kernel) _ fun j => ?_
  blk_simp
  rw [after0_9]
  refine (acc9 m c j).trans ?_
  rw [eq_ix2 j, Fin.fin_one_eq_zero (j 0)]
  exact sum_part9 m c xr wr sr cr hx hw hs hc (j 1)

end reals

end Cert.KernelIdeal.Math

end
-- ==== Proof.PoolAlg.lean ====
/- The pooling branch's backward call: kernel and reference end with equal results where every argument is finite. -/
module

public import proofs.«01_k».proof.Proof.PoolFinal
public import proofs.«01_k».proof.Proof.Gen.Pre_finite

@[expose] public section

set_option maxRecDepth 16384

noncomputable section

open Idealize.ShloMosaic Idealize.ShloMosaic.TcCoe Idealize.SL.Sem
open Idealize.ShloMosaic.Pipeline (Dat)

namespace Cert.KernelIdeal.Math

open Cert.KernelIdeal Cert.KernelIdeal.Gen
open Cert.ReferenceIdeal.Read (val_main_v82 val_main_v149 val_main_v166 val_main_v169 val_main_v170
  val_main_v82_eq val_main_v149_eq val_main_v166_eq val_main_v169_eq val_main_v170_eq)

/-- A function of two, four or five arguments agrees at equal arguments. -/
theorem congr2 {α β δ : Type} (f : α → β → δ) {a a' : α} {b b' : β} (ha : a = a') (hb : b = b') : f a b = f a' b' := by rw [ha, hb]

theorem congr4 {α β γ δ ε : Type} (f : α → β → γ → δ → ε) {a a' : α} {b b' : β} {c c' : γ} {d d' : δ} (ha : a = a') (hb : b = b') (hc : c = c') (hd : d = d') :
    f a b c d = f a' b' c' d' := by rw [ha, hb, hc, hd]

theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by rw [ha, hb, hc, hd, he]

/-- A value whose absolute value compares below infinity is a real number. -/
theorem real_of_olt (x : Ideal .f32) (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  obtain ⟨h1, h2⟩ := max_lt_iff.mp hlt
  refine ⟨EReal.toReal x, (EReal.coe_toReal h1.ne ?_).symm⟩
  intro hb
  rw [hb] at h2
  simp at h2

/-- The same of an array, at an index. -/
theorem real_of_ones {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = (fun _ => 1#1)) (j : s.Idx) :
    ∃ r : ℝ, (x j : EReal) = (r : EReal) :=
  real_of_olt (x j) (congrFun h j)

variable (m : (ℓ : Loc nD τ sig) → Buf (Elt Ideal) ℓ)

/-- Under the precondition each argument is an array of real numbers. -/
theorem reals_of_pre (h : Cert.Pre_KernelIdeal_finite m) (c : Dev nD) :
    (∃ xr : Fin 4096 → Fin 1024 → ℝ, ∀ t j, m ((c : Thread nD τ).loc main_arg0) (ix2 t j) = ((xr t j : ℝ) : EReal))
    ∧ (∃ gr : Fin 1024 → ℝ, ∀ j, m ((c : Thread nD τ).loc main_arg1) (ix2 0 j) = ((gr j : ℝ) : EReal))
    ∧ (∃ wr : Fin 4 → Fin 256 → Fin 256 → ℝ, ∀ g q p, m ((c : Thread nD τ).loc main_arg2) (ix3 g q p) = ((wr g q p : ℝ) : EReal))
    ∧ (∃ sr : Fin 1024 → ℝ, ∀ j, m ((c : Thread nD τ).loc main_arg3) (ix2 0 j) = ((sr j : ℝ) : EReal))
    ∧ (∃ cr : Fin 4096 → Fin 1024 → ℝ, ∀ t j, m ((c : Thread nD τ).loc main_arg4) (ix2 t j) = ((cr t j : ℝ) : EReal)) := by
  obtain ⟨h0, h1, h2, h3, h4⟩ := h c
  have k0 := real_of_ones _ _ h0
  have k1 := real_of_ones _ _ h1
  have k2 := real_of_ones _ _ h2
  have k3 := real_of_ones _ _ h3
  have k4 := real_of_ones _ _ h4
  choose f0 k0 using k0
  choose f1 k1 using k1
  choose f2 k2 using k2
  choose f3 k3 using k3
  choose f4 k4 using k4
  exact ⟨⟨fun t j => f0 (ix2 t j), fun t j => k0 _⟩, ⟨fun j => f1 (ix2 0 j), fun j => k1 _⟩, ⟨fun g q p => f2 (ix3 g q p), fun g q p => k2 _⟩,
    ⟨fun j => f3 (ix2 0 j), fun j => k3 _⟩, ⟨fun t j => f4 (ix2 t j), fun t j => k4 _⟩⟩

set_option maxHeartbeats 1000000 in
/-- The kernel's run: each result array ends at the reference's term over the kernel's arguments, and the arguments end unchanged. -/
theorem results (g : Dev nD → PrngReg) (hpre : Cert.Pre_KernelIdeal_finite m) :
    θ_run defs (onTc (τ := τ) (main (F := Ideal))) ⟨m, fun _ => 0, g⟩ (fun r => ∀ c : Dev nD,
      r.2.mem ((c.tc : Thread nD τ).loc main_v71_0) = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v71_1) = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v71_2) = val_main_v149 (F := Ideal) (m ((c : Thread nD τ).loc main_arg0)) (m ((c : Thread nD τ).loc main_arg2)) (m ((c : Thread nD τ).loc main_arg3)) (m ((c : Thread nD τ).loc main_arg4))
      ∧ r.2.mem ((c.tc : Thread nD τ).loc main_v71_3) = val_main_v170 (F := Ideal) (m ((c : Thread nD τ).loc main_arg3)) (m ((c : Thread nD τ).loc main_arg4))
      ∧ r.2.mem ((c.tc : Thread nD τ).loc main_v71_4) = val_main_v82 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m g) (unchanged m g))
  obtain ⟨⟨xr, hx⟩, ⟨gr, hg⟩, ⟨wr, hw⟩, ⟨sr, hs⟩, ⟨cr, hc⟩⟩ := reals_of_pre m hpre c
  have p7 : r.2.mem ((c.tc : Thread nD τ).loc main_v71_0) = (dats m 0 c).arrAt 7 (cfgs 0).N := (h.1 c).1 7
  have p8 : r.2.mem ((c.tc : Thread nD τ).loc main_v71_1) = (dats m 0 c).arrAt 8 (cfgs 0).N := (h.1 c).1 8
  have p9 : r.2.mem ((c.tc : Thread nD τ).loc main_v71_2) = (dats m 0 c).arrAt 9 (cfgs 0).N := (h.1 c).1 9
  have p10 : r.2.mem ((c.tc : Thread nD τ).loc main_v71_3) = (dats m 0 c).arrAt 10 (cfgs 0).N := (h.1 c).1 10
  have p11 : r.2.mem ((c.tc : Thread nD τ).loc main_v71_4) = (dats m 0 c).arrAt 11 (cfgs 0).N := (h.1 c).1 11
  refine ⟨p7.trans ?_, p8.trans ?_, p9.trans ?_, p10.trans ?_, p11.trans ?_, h.2 c⟩
  · exact final7 m c xr gr wr sr cr hx hg hw hs hc
  · exact final8 m c xr gr wr sr cr hx hg hw hs hc
  · exact final9 m c xr wr sr cr hx hw hs hc
  · exact final10 m c
  · exact final11 m c

/-- Kernel and reference of the pooling branch's backward call end with equal results where the arguments are finite. -/
theorem algebraic : Cert.algebraic_KernelIdeal_ReferenceIdeal_pre_finite := by
  intro m g m' g' hpre hagree
  refine ⟨_, _, _, _, _, results m g hpre, ?_⟩
  refine (θ_run _ _ _).mono (fun r h c => ?_) (Cert.ReferenceIdeal.Value.run m' g')
  obtain ⟨e0, e1, e2, e3, e4⟩ := hagree c
  obtain ⟨h7, h8, h9, h10, h11, ha⟩ := h c
  refine ⟨h7.trans ((val_main_v166_eq _).trans ?_), h8.trans ((val_main_v169_eq _).trans ?_), h9.trans ((val_main_v149_eq _).trans ?_),
    h10.trans ((val_main_v170_eq _).trans ?_), h11.trans ((val_main_v82_eq _).trans ?_), ha⟩
  · exact congr5 val_main_v166 e0 e1 e2 e3 e4
  · exact congr5 val_main_v169 e0 e1 e2 e3 e4
  · exact congr4 val_main_v149 e0 e2 e3 e4
  · exact congr2 val_main_v170 e3 e4
  · exact congr4 val_main_v82 e0 e1 e2 e4

end Cert.KernelIdeal.Math

end
-- ==== Proof.Dwup.lean ====
/- The gradient of the up-projection's weight: the array `Kernel2Ideal` writes is the reference's result. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Math

open Cert.Kernel2Ideal Cert.Kernel2Ideal.Gen

variable (m : (ℓ : Loc nD τ sig) → Buf (Elt Ideal) ℓ)

/-- The block index of the first operand and of the result at every grid point. -/
theorem idx : ∀ t : Fin cfg0.N, win0_0.index t = ![0, 0] ∧ win0_3.index t = ![t.val, 0, 0] :=
  (by decide +kernel : ∀ t : Fin grid0.N, _)

/-- At the first four points the second operand's window is at the point's own block. -/
theorem idx1 : ∀ t : Fin cfg0.N, t.val < 4 → win0_1.index t = ![t.val, 0, 0] :=
  (by decide +kernel : ∀ t : Fin grid0.N, _)

/-- At the last four points the third operand's window is at the point's block counted from the fourth. -/
theorem idx2 : ∀ t : Fin cfg0.N, 4 ≤ t.val → win0_2.index t = ![t.val - 4, 0, 0] :=
  (by decide +kernel : ∀ t : Fin grid0.N, _)

/-- The normalised layer input, as the host hands it to the call. -/
def hCast (x : FVec Ideal S4096x1024 .f32) (g : FVec Ideal S1x1024 .f32) : FVec Ideal S4096x1024 .bf16 :=
  truncf .bf16 (Cert.Reference2Ideal.Read.val_main_v11 (F := Ideal) x g) bitsLt_bf16_f32

/-- The cotangent's columns cut into eight blocks of 704. -/
def ctBlocks (ct : FVec Ideal S4096x5632 .f32) : FVec Ideal S8x4096x704 .bf16 :=
  truncf .bf16 (transpose S8x4096x704 [1, 0, 2] (shapeCast S4096x8x704 ct shapeCasts_S4096x5632_S4096x8x704)
    transposes_S4096x8x704_S8x4096x704_1_0_2) bitsLt_bf16_f32

/-- The first four blocks of the cotangent. -/
def ctLo (ct : FVec Ideal S4096x5632 .f32) : FVec Ideal S4x4096x704 .bf16 :=
  extractStridedSlice S4x4096x704 ![0, 0, 0] (ctBlocks ct) slices_S8x4096x704_S4x4096x704_0_0_0

/-- The last four blocks of the cotangent. -/
def ctHi (ct : FVec Ideal S4096x5632 .f32) : FVec Ideal S4x4096x704 .bf16 :=
  extractStridedSlice S4x4096x704 ![4, 0, 0] (ctBlocks ct) slices_S8x4096x704_S4x4096x704_4_0_0

/-- The call's first operand is the normalised layer input. -/
theorem V_h (c : Dev nD) : V m c main_v12
    = hCast (m ((c : Thread nD τ).loc main_arg0)) (m ((c : Thread nD τ).loc main_arg1)) := by
  entry_read
  rfl

/-- The call's second operand is the first half of the cotangent's blocks. -/
theorem V_lo (c : Dev nD) : V m c main_v16 = ctLo (m ((c : Thread nD τ).loc main_arg3)) := by
  entry_read
  rfl

/-- The call's third operand is the second half of the cotangent's blocks. -/
theorem V_hi (c : Dev nD) : V m c main_v17 = ctHi (m ((c : Thread nD τ).loc main_arg3)) := by
  entry_read
  rfl

/-- The reference's result over the normalised input `h` and the cotangent: the cotangent's transpose times `h`, its
    rows cut into eight blocks. -/
abbrev REF (h : FVec Ideal S4096x1024 .f32) (ct : FVec Ideal S4096x5632 .f32) : FVec Ideal S8x704x1024 .bf16 :=
  truncf .bf16 (shapeCast Cert.Reference2Ideal.S8x704x1024 (transpose Cert.Reference2Ideal.S5632x1024 [1, 0]
    (transpose Cert.Reference2Ideal.S1024x5632 [1, 0]
      (Host.dotGeneral Cert.Reference2Ideal.dot_S4096x5632_S4096x1024_S5632x1024_0_0_1_1_n_n none ct h)
      Cert.Reference2Ideal.Gen.transposes_S5632x1024_S1024x5632_1_0)
    Cert.Reference2Ideal.Gen.transposes_S1024x5632_S5632x1024_1_0)
    Cert.Reference2Ideal.Gen.shapeCasts_S5632x1024_S8x704x1024) Cert.Reference2Ideal.Gen.bitsLt_bf16_f32

/-- The normalised layer input on the reference's side. -/
abbrev hRef (c : Dev nD) : FVec Ideal S4096x1024 .f32 :=
  Cert.Reference2Ideal.Read.val_main_v11 (F := Ideal) (m ((c : Thread nD τ).loc main_arg0)) (m ((c : Thread nD τ).loc main_arg1))

/-- A point of the first half stores the reference's block. -/
theorem point_A (c : Dev nD) (t : Fin cfg0.N) (h : t.val < 4) (y) :
    k0_pay1 (F := Ideal) (iblk m c 1 t) (iblk m c 0 t) y
      = REF (hRef m c) (m ((c : Thread nD τ).loc main_arg3)) (((cfg0.win 3).blk t).view.emb y) := by
  pointwise [k0_pay1, REF]
  refine Fin.sum_fin_congr fun k => ?_
  blk_simp [iblk]
  rw [V_h, V_lo]
  pointwise [hCast, ctLo, ctBlocks]
  blk_point [idx t, idx1 t h]

/-- A point of the second half stores the reference's block. -/
theorem point_B (c : Dev nD) (t : Fin cfg0.N) (h : 4 ≤ t.val) (y) :
    k0_pay2 (F := Ideal) (iblk m c 2 t) (iblk m c 0 t) y
      = REF (hRef m c) (m ((c : Thread nD τ).loc main_arg3)) (((cfg0.win 3).blk t).view.emb y) := by
  pointwise [k0_pay2, REF]
  refine Fin.sum_fin_congr fun k => ?_
  blk_simp [iblk]
  rw [V_h, V_hi]
  pointwise [hCast, ctHi, ctBlocks]
  blk_point [idx t, idx2 t h]

/-- The result array after the run is the reference's result. -/
theorem final (c : Dev nD) : (dats m 0 c).arrAt 3 (cfgs 0).N
    = REF (hRef m c) (m ((c : Thread nD τ).loc main_arg3)) := by
  refine (dats m 0 c).arrAt_eq_of_covers 3 _ (by decide +kernel) fun t hf y => ?_
  blk_simp; rw [after0_3]
  rcases Nat.lt_or_ge t.val 4 with h | h
  · rw [outsAt0_A m c t h (by omega)]; frame_out
    exact point_A m c t h y
  · rw [outsAt0_B m c t (by omega) h]; frame_out
    exact point_B m c t h y

/-- Kernel and reference of the up-projection's weight gradient end with equal results. -/
theorem algebraic : Cert.algebraic_Kernel2Ideal_Reference2Ideal := by
  pair_intro
  · run_from Cert.Kernel2Ideal.Gen.run_main m g
    all_goals first | exact V_main_arg0 m c | exact V_main_arg1 m c | exact V_main_arg2 m c | exact V_main_arg3 m c
  · run_from Cert.Reference2Ideal.Value.run m' g'
    exact (final m c).symm

end Cert.Kernel2Ideal.Math

end
-- ==== Proof.Dact.lean ====
/- The gradient of the down-projection's input: the array `Kernel3Ideal` writes is the reference's result. -/
module

public import proofs.«01_k».proof.Proof.Gen.Kernel3Ideal.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Math

open Cert.Kernel3Ideal Cert.Kernel3Ideal.Gen

variable (m : (ℓ : Loc nD τ sig) → Buf (Elt Ideal) ℓ)

/-- Every window's block index at every grid point. -/
theorem idx : ∀ t : Fin cfg0.N, win0_0.index t = ![t.val, 0]
    ∧ win0_1.index t = ![0, 0, 0]
    ∧ win0_2.index t = ![0, t.val, 0] :=
  (by decide +kernel : ∀ t : Fin grid0.N, _)

/-- The cotangent as the call takes it. -/
def ctCast (ct : FVec Ideal S4096x1024 .f32) : FVec Ideal S4096x1024 .bf16 := truncf .bf16 ct bitsLt_bf16_f32

/-- The down-projection's weight cut into four blocks of 704 rows. -/
def wBlocks (w : FVec Ideal S2816x1024 .f32) : FVec Ideal S4x704x1024 .bf16 :=
  truncf .bf16 (shapeCast S4x704x1024 w shapeCasts_S2816x1024_S4x704x1024) bitsLt_bf16_f32

/-- The host hands the call the cotangent as its first operand. -/
theorem V_ct (c : Dev nD) : V m c main_v0 = ctCast (m ((c : Thread nD τ).loc main_arg2)) := by
  entry_read
  rfl

/-- The host hands the call the weight's blocks as its second operand. -/
theorem V_w (c : Dev nD) : V m c main_v2 = wBlocks (m ((c : Thread nD τ).loc main_arg1)) := by
  entry_read
  rfl

/-- The reference's result over arrays: the cotangent times the weight's transpose, cut into blocks of columns. -/
abbrev REF (w : FVec Ideal S2816x1024 .f32) (ct : FVec Ideal S4096x1024 .f32) : FVec Ideal S4x4096x704 .bf16 :=
  truncf .bf16 (transpose Cert.Reference3Ideal.S4x4096x704 [1, 0, 2] (shapeCast Cert.Reference3Ideal.S4096x4x704 (Host.dotGeneral Cert.Reference3Ideal.dot_S4096x1024_S2816x1024_S4096x2816_1_1_0_0_n_n none ct w)
    Cert.Reference3Ideal.Gen.shapeCasts_S4096x2816_S4096x4x704) Cert.Reference3Ideal.Gen.transposes_S4096x4x704_S4x4096x704_1_0_2) Cert.Reference3Ideal.Gen.bitsLt_bf16_f32

/-- The product the body computes at point `t`, at index `i`, is the reference at the array index `j` whose coordinates
    are those of `i`: `j`'s block and column make up `i`'s column, and `j`'s row is `i`'s row of the point's rows. -/
theorem core (c : Dev nD) (t : Fin cfg0.N) (y : S4x1024x704.Idx) (i : S1024x2816.Idx) (j : S4x4096x704.Idx)
    (hi0 : (i 0 : ℕ) = y 1) (hi1 : (i 1 : ℕ) = (y 0 : ℕ) * 704 + y 2)
    (hj0 : (j 0 : ℕ) = y 0) (hj1 : (j 1 : ℕ) = t.val * 1024 + y 1) (hj2 : (j 2 : ℕ) = y 2) :
    k0_pay1 (F := Ideal) (View.ld (iblk m c 0 t) r0_0) (View.ld (iblk m c 1 t) r0_1) i
      = REF (m ((c : Thread nD τ).loc main_arg1)) (m ((c : Thread nD τ).loc main_arg2)) j := by
  pointwise [k0_pay1, REF]
  refine Fin.sum_fin_congr fun k => ?_
  blk_simp [iblk]
  rw [V_w, V_ct]
  pointwise [wBlocks, ctCast]
  blk_point [idx t]

/-- What the body stores at block index `y` of point `t` is the reference at the array index `y` sits at. -/
theorem point (c : Dev nD) (t : Fin cfg0.N) (y) :
    out0_2 (iblk m c 0 t) (iblk m c 1 t) y
      = REF (m ((c : Thread nD τ).loc main_arg1)) (m ((c : Thread nD τ).loc main_arg2)) (((cfg0.win 2).blk t).view.emb y) := by
  unfold out0_2
  rw [Cert.Kernel3Ideal.Value.canon2_eq]
  refine core m c t y _ _ rfl rfl ?_ ?_ ?_
  all_goals (blk_simp [idx t] <;> try omega)

/-- The result array after the run is the reference's result. -/
theorem final (c : Dev nD) : (dats m 0 c).arrAt 2 (cfgs 0).N
    = REF (m ((c : Thread nD τ).loc main_arg1)) (m ((c : Thread nD τ).loc main_arg2)) := by
  refine (dats m 0 c).arrAt_eq_of_covers 2 _ (by decide +kernel) fun t hf y => ?_
  blk_simp; rw [after0_2]
  exact point m c t y

/-- Kernel and reference of the down-projection's input gradient end with equal results. -/
theorem algebraic : Cert.algebraic_Kernel3Ideal_Reference3Ideal := by
  pair_intro
  · run_from Cert.Kernel3Ideal.Gen.run_main m g
    all_goals first | exact V_main_arg0 m c | exact V_main_arg1 m c | exact V_main_arg2 m c
  · run_from Cert.Reference3Ideal.Value.run m' g'
    exact (final m c).symm

end Cert.Kernel3Ideal.Math

end
-- ==== Proof.Dwdown.lean ====
/- The gradient of the down-projection's weight: the array `Kernel4Ideal` writes is the reference's result. -/
module

public import proofs.«01_k».proof.Proof.Gen.Kernel4Ideal.Frame
public import proofs.«01_k».proof.Proof.Gen.Reference4Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Math

open Cert.Kernel4Ideal Cert.Kernel4Ideal.Gen

variable (m : (ℓ : Loc nD τ sig) → Buf (Elt Ideal) ℓ)

/-- Every window's block index at every grid point. -/
theorem idx : ∀ t : Fin cfg0.N, win0_0.index t = ![t.val, 0, 0]
    ∧ win0_1.index t = ![0, 0]
    ∧ win0_2.index t = ![t.val, 0, 0] :=
  (by decide +kernel : ∀ t : Fin grid0.N, _)

/-- The gated activation laid out block by block of 704 columns. -/
def actBlocks (u : FVec Ideal S4096x5632 .f32) : FVec Ideal S4x4096x704 .bf16 :=
  truncf .bf16 (transpose S4x4096x704 [1, 0, 2]
    (shapeCast S4096x4x704 (Cert.Reference4Ideal.Read.val_main_v3 (F := Ideal) u : FVec Ideal S4096x2816 .f32) shapeCasts_S4096x2816_S4096x4x704)
    transposes_S4096x4x704_S4x4096x704_1_0_2) bitsLt_bf16_f32

/-- The cotangent as the call takes it. -/
def ctCast (ct : FVec Ideal S4096x1024 .f32) : FVec Ideal S4096x1024 .bf16 := truncf .bf16 ct bitsLt_bf16_f32

/-- The host hands the call the gated activation's blocks as its first operand. -/
theorem V_act (c : Dev nD) : V m c main_v6 = actBlocks (m ((c : Thread nD τ).loc main_arg0)) := by
  entry_read
  rfl

/-- The host hands the call the cotangent as its second operand. -/
theorem V_ct (c : Dev nD) : V m c main_v7 = ctCast (m ((c : Thread nD τ).loc main_arg2)) := by
  entry_read
  rfl

/-- The reference's result over arrays: the cotangent's transpose times the gated activation, cut into blocks. -/
abbrev REF (act : FVec Ideal S4096x2816 .f32) (ct : FVec Ideal S4096x1024 .f32) : FVec Ideal Cert.Reference4Ideal.S4x704x1024 .bf16 :=
  truncf .bf16 (shapeCast Cert.Reference4Ideal.S4x704x1024 (transpose Cert.Reference4Ideal.S2816x1024 [1, 0] (Host.dotGeneral Cert.Reference4Ideal.dot_S4096x1024_S4096x2816_S1024x2816_0_0_1_1_n_n none ct act)
    Cert.Reference4Ideal.Gen.transposes_S1024x2816_S2816x1024_1_0) Cert.Reference4Ideal.Gen.shapeCasts_S2816x1024_S4x704x1024) Cert.Reference4Ideal.Gen.bitsLt_bf16_f32

set_option maxHeartbeats 1600000 in
/-- What the body stores at block index `y` of point `t` is the reference at the array index `y` sits at. -/
theorem point (c : Dev nD) (t : Fin cfg0.N) (y) :
    k0_pay1 (iblk m c 0 t) (iblk m c 1 t) y
      = REF (Cert.Reference4Ideal.Read.val_main_v3 (F := Ideal) (m ((c : Thread nD τ).loc main_arg0))) (m ((c : Thread nD τ).loc main_arg2)) (((cfg0.win 2).blk t).view.emb y) := by
  pointwise [k0_pay1, REF]
  refine Fin.sum_fin_congr fun k => ?_
  blk_simp [iblk]
  rw [V_act, V_ct]
  pointwise [actBlocks, ctCast]
  rw [mul_comm]
  blk_point [idx t]

/-- The result array after the run is the reference's result. -/
theorem final (c : Dev nD) : (dats m 0 c).arrAt 2 (cfgs 0).N
    = REF (Cert.Reference4Ideal.Read.val_main_v3 (F := Ideal) (m ((c : Thread nD τ).loc main_arg0))) (m ((c : Thread nD τ).loc main_arg2)) := by
  refine (dats m 0 c).arrAt_eq_of_covers 2 _ (by decide +kernel) fun t hf y => ?_
  blk_simp; rw [after0_2]; frame_out
  exact point m c t y

/-- Kernel and reference of the down-projection's weight gradient end with equal results. -/
theorem algebraic : Cert.algebraic_Kernel4Ideal_Reference4Ideal := by
  pair_intro
  · run_from Cert.Kernel4Ideal.Gen.run_main m g
    · exact V_main_arg0 m c
    · exact V_main_arg1 m c
    · exact V_main_arg2 m c
  · run_from Cert.Reference4Ideal.Value.run m' g'
    exact (final m c).symm

end Cert.Kernel4Ideal.Math

end
-- ==== Proof.UpFrameIdeal.lean ====
/- The frame of Kernel5Ideal: the body of the normalisation and up-projection run at both kinds of grid point, the data of its pipeline, and the run of
   the whole program.

   The grid has four row blocks of two points each. The first point of a row block normalises the block's rows and stores them twice, into the
   first output and into a scratch buffer; both points multiply the scratch buffer by a half of the weight and store the product into the second
   output. At a second point the first output is written back although the body stores nothing into it there: what is written back is what the
   first point left. -/
module

public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two kinds of point -/

/-- The condition under which the body normalises its rows. -/
abbrev First (i : grid0.Coords) : Prop := k0_cond1 i = 1#1

/-- It holds at the even points. -/
theorem first_iff : ∀ t : Fin cfg0.N, First (grid0.coords t) ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [First, k0_cond1, e0, e1]
    word_cmp
   : ∀ t : Fin grid0.N, First (grid0.coords t) ↔ t.val % 2 = 0)

/-- At an even point the first output is stored into. -/
theorem live_even : ∀ t : Fin cfg0.N, t.val % 2 = 0 → cfg0.idle 3 (grid0.coords t) = false := by decide +kernel

/-- At an odd point it is not. -/
theorem idle_odd : ∀ t : Fin cfg0.N, ¬t.val % 2 = 0 → cfg0.idle 3 (grid0.coords t) = true := by decide +kernel

/-- At an odd point the first output is written back. -/
theorem flush_odd (t : Fin cfg0.N) (h : ¬t.val % 2 = 0) : (cfg0.win 3).flush t = true := (flush0_3 t).mpr (by omega)

/-- At an even point it is not. -/
theorem flush_even (t : Fin cfg0.N) (h : t.val % 2 = 0) : (cfg0.win 3).flush t = false :=
  Bool.eq_false_iff.mpr fun hf => by have := (flush0_3 t).mp hf; omega

/-- At an odd point the first output's buffer holds what the body stored. -/
theorem stored_odd (t : Fin cfg0.N) (h : ¬t.val % 2 = 0) : cfg0.fresh 3 t.val = false := by
  obtain ⟨n, hn⟩ := t
  cases n with
  | zero => exact absurd (Nat.zero_mod 2) h
  | succ n =>
    have he : n % 2 = 0 := by simp only at h; omega
    have hl : n < cfg0.N := Nat.lt_of_succ_lt hn
    rw [Cfg.fresh_succ cfg0 3 n hl, flush_even ⟨n, hl⟩ he,
      show cfg0.idle 3 (cfg0.grid.coords ⟨n, hl⟩) = false from live_even ⟨n, hl⟩ he]
    rfl

/-! ## The body on any buffers -/

section Body

variable (c : Dev nD) (i : grid0.Coords)
  (b2 : Memref sig .tc .vmem S1024x1024 .f32) (h2 : b2.IsWhole) (b3 : Memref sig .tc .vmem S1x1024 .f32) (h3 : b3.IsWhole)
  (b4 : Memref sig .tc .vmem S4x704x1024 .bf16) (h4 : b4.IsWhole) (b5 : Memref sig .tc .vmem S1024x1024 .bf16) (h5 : b5.IsWhole)
  (b6 : Memref sig .tc .vmem S4x1024x704 .bf16) (h6 : b6.IsWhole) (b7 : Memref sig .tc .vmem S1024x1024 .bf16) (h7 : b7.IsWhole)

set_option maxHeartbeats 1000000 in
/-- The body at a first point: from the three inputs at `x0`, `x1`, `x2` it ends with the inputs as they were and with stores into the first
    output, the second output and the scratch buffer; the lists of these stores are the data of this definition. -/
def runFirst (hc : First i) (x0 : Vec F S1024x1024 .f32) (x1 : Vec F S1x1024 .f32) (x2 : Vec F S4x704x1024 .bf16) :
    Σ' (L3 : List (View.Piece (Elt F) S1024x1024 .bf16)), Σ' (L4 : List (View.Piece (Elt F) S4x1024x704 .bf16)),
    { LS : List (View.Piece (Elt F) S1024x1024 .bf16) //
      ∀ (E : Set ℕ) (K : PUnit → sProp 𝕄),
        iprop(owns (c : Thread nD τ) b2 fullShare x0 ∗ owns (c : Thread nD τ) b3 fullShare x1 ∗ owns (c : Thread nD τ) b4 fullShare x2
            ∗ (∃ d, owns (c : Thread nD τ) b5 fullShare d) ∗ (∃ d, owns (c : Thread nD τ) b6 fullShare d)
            ∗ (∃ d, owns (c : Thread nD τ) b7 fullShare d)
            ∗ (iprop(owns (c : Thread nD τ) b2 fullShare x0 ∗ owns (c : Thread nD τ) b3 fullShare x1 ∗ owns (c : Thread nD τ) b4 fullShare x2
              ∗ (∃ f, b5.view.loc (c : Thread nD τ) ↦[b5.view.set]{fullShare} b5.view.writes (Elt F) f L3)
              ∗ (∃ f, b6.view.loc (c : Thread nD τ) ↦[b6.view.set]{fullShare} b6.view.writes (Elt F) f L4)
              ∗ (∃ f, b7.view.loc (c : Thread nD τ) ↦[b7.view.set]{fullShare} b7.view.writes (Elt F) f LS)) -∗ K ⟨⟩))
          ⊢ wp frame (wpE (defs₀ (F := F)) Variants.none c none) E (cc0_ffn_up i b2 h2 b3 h3 b4 h4 b5 h5 b6 h6 b7 h7) K } := by
  refine ⟨?_, ?_, ?_, fun E K => ?run⟩
  case run =>
    simp only [cc0_ffn_up_eq_skeleton]; unfold cc0_ffn_up_skel
    unfold owns
    iintro ⟨⟨%f0, %e0, H0⟩, ⟨%f1, %e1, H1⟩, ⟨%f2, %e2, H2⟩, ⟨%d3, %f3, -, H3⟩, ⟨%d4, %f4, -, H4⟩, ⟨%ds, %fs, -, HS⟩, Hk⟩
    obtain rfl := h2.eq_unread e0; obtain rfl := h3.eq_unread e1; obtain rfl := h4.eq_unread e2
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    iexists _; iexact HS

set_option maxHeartbeats 1000000 in
/-- The body at a second point: from the weight's half at `x2` and the scratch buffer at `xs` it ends with both as they were and with stores
    into the second output; the list of these stores is the data of this definition. The other buffers are not used. -/
def runSecond (hc : ¬First i) (x2 : Vec F S4x704x1024 .bf16) (xs : Vec F S1024x1024 .bf16) :
    { L4 : List (View.Piece (Elt F) S4x1024x704 .bf16) //
      ∀ (E : Set ℕ) (K : PUnit → sProp 𝕄),
        iprop(owns (c : Thread nD τ) b4 fullShare x2 ∗ (∃ d, owns (c : Thread nD τ) b6 fullShare d) ∗ owns (c : Thread nD τ) b7 fullShare xs
            ∗ (iprop(owns (c : Thread nD τ) b4 fullShare x2
              ∗ (∃ f, b6.view.loc (c : Thread nD τ) ↦[b6.view.set]{fullShare} b6.view.writes (Elt F) f L4)
              ∗ owns (c : Thread nD τ) b7 fullShare xs) -∗ K ⟨⟩))
          ⊢ wp frame (wpE (defs₀ (F := F)) Variants.none c none) E (cc0_ffn_up i b2 h2 b3 h3 b4 h4 b5 h5 b6 h6 b7 h7) K } := by
  refine ⟨?_, fun E K => ?run⟩
  case run =>
    simp only [cc0_ffn_up_eq_skeleton]; unfold cc0_ffn_up_skel
    unfold owns
    iintro ⟨⟨%f2, %e2, H2⟩, ⟨%d4, %f4, -, H4⟩, ⟨%fs, %es, HS⟩, Hk⟩
    obtain rfl := h4.eq_unread e2; obtain rfl := h7.eq_unread es
    sl_exec (disch := first | sl_exact hc)
    sl_step
    iapply Hk
    isplitl [H2]
    · iexists _; isplitr; · ipureintro; exact h4.read_unread _
      iexact H2
    isplitl [H4]; · iexists _; iexact H4
    iexists _; isplitr; · ipureintro; exact h7.read_unread _
    iexact HS

/-- The stores into the first output at a first point cover it. -/
theorem cover_rows (hc : First i) (x0 : Vec F S1024x1024 .f32) (x1 : Vec F S1x1024 .f32) (x2 : Vec F S4x704x1024 .bf16) (y : S1024x1024.Idx) :
    ∃ pc ∈ (runFirst c i b2 h2 b3 h3 b4 h4 b5 h5 b6 h6 b7 h7 hc x0 x1 x2).1, y ∈ pc.1.set :=
  View.cover_of_tiledL (runFirst c i b2 h2 b3 h3 b4 h4 b5 h5 b6 h6 b7 h7 hc x0 x1 x2).1 S1024x1024.size (by sl_kernel_rfl) y

/-- The stores into the second output at a first point cover it. -/
theorem cover_first (hc : First i) (x0 : Vec F S1024x1024 .f32) (x1 : Vec F S1x1024 .f32) (x2 : Vec F S4x704x1024 .bf16) (y : S4x1024x704.Idx) :
    ∃ pc ∈ (runFirst c i b2 h2 b3 h3 b4 h4 b5 h5 b6 h6 b7 h7 hc x0 x1 x2).2.1, y ∈ pc.1.set :=
  View.cover_of_tiledL (runFirst c i b2 h2 b3 h3 b4 h4 b5 h5 b6 h6 b7 h7 hc x0 x1 x2).2.1 S1x1024x704.size (by sl_kernel_rfl) y

/-- The stores into the scratch buffer at a first point cover it. -/
theorem cover_kept (hc : First i) (x0 : Vec F S1024x1024 .f32) (x1 : Vec F S1x1024 .f32) (x2 : Vec F S4x704x1024 .bf16) (y : S1024x1024.Idx) :
    ∃ pc ∈ (runFirst c i b2 h2 b3 h3 b4 h4 b5 h5 b6 h6 b7 h7 hc x0 x1 x2).2.2.1, y ∈ pc.1.set :=
  View.cover_of_tiledL (runFirst c i b2 h2 b3 h3 b4 h4 b5 h5 b6 h6 b7 h7 hc x0 x1 x2).2.2.1 S1024x1024.size (by sl_kernel_rfl) y

/-- The stores into the second output at a second point cover it. -/
theorem cover_second (hc : ¬First i) (x2 : Vec F S4x704x1024 .bf16) (xs : Vec F S1024x1024 .bf16) (y : S4x1024x704.Idx) :
    ∃ pc ∈ (runSecond c i b2 h2 b3 h3 b4 h4 b5 h5 b6 h6 b7 h7 hc x2 xs).1, y ∈ pc.1.set :=
  View.cover_of_tiledL (runSecond c i b2 h2 b3 h3 b4 h4 b5 h5 b6 h6 b7 h7 hc x2 xs).1 S1x1024x704.size (by sl_kernel_rfl) y

end Body

/-! ## What the buffers hold after each point -/

/-- Window 0's current buffer at point `t`. -/
abbrev buf0 (t : Fin cfg0.N) : Memref sig .tc .vmem S1024x1024 .f32 := win0_0.stage (cfg0.slots t 0)
/-- Window 1's current buffer at point `t`. -/
abbrev buf1 (t : Fin cfg0.N) : Memref sig .tc .vmem S1x1024 .f32 := win0_1.stage (cfg0.slots t 1)
/-- Window 2's current buffer at point `t`. -/
abbrev buf2 (t : Fin cfg0.N) : Memref sig .tc .vmem S4x704x1024 .bf16 := win0_2.stage (cfg0.slots t 2)
/-- Window 3's current buffer at point `t`. -/
abbrev buf3 (t : Fin cfg0.N) : Memref sig .tc .vmem S1024x1024 .bf16 := win0_3.stage (cfg0.slots t 3)
/-- Window 4's current buffer at point `t`. -/
abbrev buf4 (t : Fin cfg0.N) : Memref sig .tc .vmem S4x1024x704 .bf16 := win0_4.stage (cfg0.slots t 4)

/-- Window 0's buffer is a whole one. -/
abbrev whole0 (t : Fin cfg0.N) : (buf0 t).IsWhole := hstage0_0 ((cfg0.slots t 0).cast nbuf0_0)
/-- Window 1's buffer is a whole one. -/
abbrev whole1 (t : Fin cfg0.N) : (buf1 t).IsWhole := hstage0_1 ((cfg0.slots t 1).cast nbuf0_1)
/-- Window 2's buffer is a whole one. -/
abbrev whole2 (t : Fin cfg0.N) : (buf2 t).IsWhole := hstage0_2 ((cfg0.slots t 2).cast nbuf0_2)
/-- Window 3's buffer is a whole one. -/
abbrev whole3 (t : Fin cfg0.N) : (buf3 t).IsWhole := hstage0_3 ((cfg0.slots t 3).cast nbuf0_3)
/-- Window 4's buffer is a whole one. -/
abbrev whole4 (t : Fin cfg0.N) : (buf4 t).IsWhole := hstage0_4 ((cfg0.slots t 4).cast nbuf0_4)

/-- The scratch buffer. -/
abbrev scratch : Memref sig .tc .vmem S1024x1024 .bf16 := Memref.whole cc0_scratch0

/-- A buffer through which the first output's contents are stated; which one does not matter. -/
abbrev view3 : View sig .tc .vmem S1024x1024 .bf16 := (Memref.whole cc0_stg3_0 : Memref sig .tc .vmem S1024x1024 .bf16).view
/-- A buffer through which the second output's contents are stated; which one does not matter. -/
abbrev view4 : View sig .tc .vmem S4x1024x704 .bf16 := (Memref.whole cc0_stg4_0 : Memref sig .tc .vmem S4x1024x704 .bf16).view

variable (m : (ℓ : Loc nD τ sig) → Buf (Elt F) ℓ) (ρ : Dev nD → PrngReg)

/-- The run of the body at an even point, on that point's buffers and blocks. -/
abbrev runEven (c : Dev nD) (t : Fin cfg0.N) (h : t.val % 2 = 0) :=
  runFirst c (grid0.coords t) (buf0 t) (whole0 t) (buf1 t) (whole1 t) (buf2 t) (whole2 t) (buf3 t) (whole3 t) (buf4 t) (whole4 t) scratch
    (Memref.isWhole_whole _) ((first_iff t).mpr h) (iblk m c 0 t) (iblk m c 1 t) (iblk m c 2 t)

/-- The run of the body at an odd point, from the scratch buffer at `xs`. -/
abbrev runOdd (c : Dev nD) (t : Fin cfg0.N) (h : ¬t.val % 2 = 0) (xs : Vec F S1024x1024 .bf16) :=
  runSecond c (grid0.coords t) (buf0 t) (whole0 t) (buf1 t) (whole1 t) (buf2 t) (whole2 t) (buf3 t) (whole3 t) (buf4 t) (whole4 t) scratch
    (Memref.isWhole_whole _) (fun e => h ((first_iff t).mp e)) (iblk m c 2 t) xs

/-- What an even point leaves in the first output's buffer. -/
def rows (c : Dev nD) (t : Fin cfg0.N) (h : t.val % 2 = 0) : Vec F S1024x1024 .bf16 :=
  view3.read (Elt F) (view3.writes (Elt F) view3.junk (runEven m c t h).1)

/-- What an even point leaves in the scratch buffer. -/
def kept (c : Dev nD) (t : Fin cfg0.N) (h : t.val % 2 = 0) : Vec F S1024x1024 .bf16 :=
  scratch.view.read (Elt F) (scratch.view.writes (Elt F) scratch.view.junk (runEven m c t h).2.2.1)

/-- What an even point leaves in the second output's buffer. -/
def prodEven (c : Dev nD) (t : Fin cfg0.N) (h : t.val % 2 = 0) : Vec F S4x1024x704 .bf16 :=
  view4.read (Elt F) (view4.writes (Elt F) view4.junk (runEven m c t h).2.1)

/-- What an odd point leaves in the second output's buffer. -/
def prodOdd (c : Dev nD) (t : Fin cfg0.N) (h : ¬t.val % 2 = 0) (xs : Vec F S1024x1024 .bf16) : Vec F S4x1024x704 .bf16 :=
  view4.read (Elt F) (view4.writes (Elt F) view4.junk (runOdd m c t h xs).1)

/-- The even point of `t`'s row block. -/
abbrev even (t : Fin cfg0.N) : Fin cfg0.N := ⟨t.val - t.val % 2, Nat.lt_of_le_of_lt (Nat.sub_le _ _) t.isLt⟩

/-- It is even. -/
theorem even_mod (t : Fin cfg0.N) : (even t).val % 2 = 0 := by show (t.val - t.val % 2) % 2 = 0; omega

/-- What the first output's buffer holds after point `t`. -/
def rowsAt (c : Dev nD) (t : Fin cfg0.N) : Vec F S1024x1024 .bf16 := rows m c (even t) (even_mod t)

/-- What the scratch buffer holds after point `t`. -/
def keptAt (c : Dev nD) (t : Fin cfg0.N) : Vec F S1024x1024 .bf16 := kept m c (even t) (even_mod t)

/-- What the second output's buffer holds after point `t`. -/
def prodAt (c : Dev nD) (t : Fin cfg0.N) : Vec F S4x1024x704 .bf16 :=
  if h : t.val % 2 = 0 then prodEven m c t h else prodOdd m c t h (keptAt m c t)

/-- Contents stated at two even points agree where the points do. -/
theorem at_congr {β : Type} (f : (t : Fin cfg0.N) → t.val % 2 = 0 → β) {s t : Fin cfg0.N} (e : s = t) (hs ht) : f s hs = f t ht := by
  subst e; rfl

/-- An even point is its row block's even point. -/
theorem even_eq (t : Fin cfg0.N) (h : t.val % 2 = 0) : even t = t := Fin.ext (by show t.val - t.val % 2 = t.val; omega)

/-- The first output's buffer after an even point. -/
theorem rowsAt_even (c : Dev nD) (t : Fin cfg0.N) (h : t.val % 2 = 0) : rowsAt m c t = rows m c t h := at_congr (rows m c) (even_eq t h) _ _

/-- The scratch buffer after an even point. -/
theorem keptAt_even (c : Dev nD) (t : Fin cfg0.N) (h : t.val % 2 = 0) : keptAt m c t = kept m c t h := at_congr (kept m c) (even_eq t h) _ _

/-- The second output's buffer after an even point. -/
theorem prodAt_even (c : Dev nD) (t : Fin cfg0.N) (h : t.val % 2 = 0) : prodAt m c t = prodEven m c t h := dif_pos h

/-- The second output's buffer after an odd point. -/
theorem prodAt_odd (c : Dev nD) (t : Fin cfg0.N) (h : ¬t.val % 2 = 0) : prodAt m c t = prodOdd m c t h (keptAt m c t) := dif_neg h

/-- The point before `t`. -/
abbrev pred (t : Fin cfg0.N) : Fin cfg0.N := ⟨t.val - 1, Nat.lt_of_le_of_lt (Nat.sub_le _ _) t.isLt⟩

/-- The point before an odd point belongs to the same row block. -/
theorem even_pred (t : Fin cfg0.N) (h : ¬t.val % 2 = 0) : even (pred t) = even t :=
  Fin.ext (by show t.val - 1 - (t.val - 1) % 2 = t.val - t.val % 2; omega)

/-- An odd point leaves the first output as the point before did. -/
theorem rowsAt_odd (c : Dev nD) (t : Fin cfg0.N) (h : ¬t.val % 2 = 0) : rowsAt m c t = rowsAt m c (pred t) :=
  (at_congr (rows m c) (even_pred t h) _ _).symm

/-- An odd point leaves the scratch buffer as the point before did. -/
theorem keptAt_odd (c : Dev nD) (t : Fin cfg0.N) (h : ¬t.val % 2 = 0) : keptAt m c t = keptAt m c (pred t) :=
  (at_congr (kept m c) (even_pred t h) _ _).symm

/-! ## The pipeline's data -/

/-- What the core holds between the points besides the windows' buffers: before the first point the scratch buffer at anything, after a point
    the scratch buffer at what that point left; the generator register at any state. -/
def between (c : Dev nD) : (n : ℕ) → n ≤ cfg0.N → sProp 𝕄
  | 0, _ => Pipeline.ΦA spec0 c
  | n + 1, hn => iprop(owns (c : Thread nD τ) scratch fullShare (keptAt m c ⟨n, hn⟩) ∗ (∃ r, prngReg c r))

/-- Before the first point: the scratch buffer at anything. -/
theorem start_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- After a point: the scratch buffer at what the point left. -/
theorem between_pos (c : Dev nD) (n : ℕ) (h : n ≤ cfg0.N) (hz : n ≠ 0) :
    between m c n h = iprop(owns (c : Thread nD τ) scratch fullShare (keptAt m c ⟨n - 1, by omega⟩) ∗ (∃ r, prngReg c r)) := by
  cases n with
  | zero => exact absurd rfl hz
  | succ n => rfl

/-- At any point the scratch buffer is held at some contents. -/
theorem between_any (c : Dev nD) (n : ℕ) (h : n ≤ cfg0.N) : between m c n h ⊢ Pipeline.ΦA spec0 c := by
  by_cases hz : n = 0
  · subst hz; exact Idealize.SL.BI.Entails.refl _
  · rw [between_pos m c n h hz, start_eq]
    iintro ⟨HS, Hg⟩
    isplitl [HS]
    · iexists _; iexact HS
    iexact Hg

/-- The pipeline's data: the arrays as the call finds them, an input's buffer at its block, the outputs' buffers at `rowsAt` and `prodAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowsAt m c t
    | ⟨4, _⟩ => prodAt m c t
  Φ t := between m c t.val (Nat.le_of_lt_succ t.isLt)
  q _ := fullShare
  owed _ := 0

/-- The arrays' contents before the call. -/
theorem A_eq (c : Dev nD) (w : Fin cfg0.W) : (dats m 0 c).A w = V m c (Pipeline.arrRef spec0 w) := by dsimp only [dats]
/-- The first input's buffer after a point. -/
theorem after_0 (c : Dev nD) (t : Fin cfg0.N) : (dats m 0 c).after 0 t = iblk m c 0 t := by dsimp only [dats]
/-- The second input's buffer after a point. -/
theorem after_1 (c : Dev nD) (t : Fin cfg0.N) : (dats m 0 c).after 1 t = iblk m c 1 t := by dsimp only [dats]
/-- The third input's buffer after a point. -/
theorem after_2 (c : Dev nD) (t : Fin cfg0.N) : (dats m 0 c).after 2 t = iblk m c 2 t := by dsimp only [dats]
/-- The first output's buffer after a point. -/
theorem after_3 (c : Dev nD) (t : Fin cfg0.N) : (dats m 0 c).after 3 t = rowsAt m c t := by dsimp only [dats]
/-- The second output's buffer after a point. -/
theorem after_4 (c : Dev nD) (t : Fin cfg0.N) : (dats m 0 c).after 4 t = prodAt m c t := by dsimp only [dats]

/-- The first input's buffer holds its block when the body runs. -/
theorem before_0 (c : Dev nD) (t : Fin cfg0.N) (d) : (dats m 0 c).before 0 t d = iblk m c 0 t :=
  before0_0_of m (dats m 0 c) (A_eq m c 0) (after_0 m c) t d
/-- The second input's buffer holds its block when the body runs. -/
theorem before_1 (c : Dev nD) (t : Fin cfg0.N) (d) : (dats m 0 c).before 1 t d = iblk m c 1 t :=
  before0_1_of m (dats m 0 c) (A_eq m c 1) (after_1 m c) t d
/-- The third input's buffer holds its block when the body runs. -/
theorem before_2 (c : Dev nD) (t : Fin cfg0.N) (d) : (dats m 0 c).before 2 t d = iblk m c 2 t :=
  before0_2_of m (dats m 0 c) (A_eq m c 2) (after_2 m c) t d

/-- At an odd point the body finds in the first output's buffer what it is to leave there. -/
theorem before_3 (c : Dev nD) (t : Fin cfg0.N) (h : ¬t.val % 2 = 0) (d) : (dats m 0 c).before 3 t d = rowsAt m c t := by
  rw [Dat.before_out_traj _ 3 rfl (fun _ _ => rfl) (fun s hs hi _ => ?_) t.val t rfl d, if_neg (by rw [stored_odd t h]; exact Bool.false_ne_true)]
  · rw [after_3]; exact (rowsAt_odd m c t h).symm
  · have ho : ¬s.val % 2 = 0 := fun he => by rw [show cfg0.idle 3 (cfg0.grid.coords s) = false from live_even s he] at hi; exact Bool.false_ne_true hi
    rw [after_3, after_3]; exact rowsAt_odd m c s ho

/-! ## The body at every point -/

/-- What the body starts from at point `t`. -/
def bodyFrom (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- What it ends with. -/
def bodyTo (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- What it ends with, spelt out. -/
theorem bodyTo_eq (c : Dev nD) (t : Fin cfg0.N) :
    bodyTo m c t = iprop((owns (c : Thread nD τ) scratch fullShare (keptAt m c t) ∗ (∃ r, prngReg c r)) ∗ (dats m 0 c).owesAt () t.castSucc
      ∗ owns (c : Thread nD τ) (buf0 t) fullShare (iblk m c 0 t) ∗ owns (c : Thread nD τ) (buf1 t) fullShare (iblk m c 1 t)
      ∗ owns (c : Thread nD τ) (buf2 t) fullShare (iblk m c 2 t) ∗ owns (c : Thread nD τ) (buf3 t) fullShare (rowsAt m c t)
      ∗ owns (c : Thread nD τ) (buf4 t) fullShare (prodAt m c t)) := by
  unfold bodyTo
  rw [show (dats m 0 c).leavesExact 0 t = owns (c : Thread nD τ) (buf0 t) fullShare ((dats m 0 c).after 0 t) from by
    unfold Dat.leavesExact; rw [show cfg0.idle 0 (cfg0.grid.coords t) = false from rfl], after_0]
  rw [show (dats m 0 c).leavesExact 1 t = owns (c : Thread nD τ) (buf1 t) fullShare ((dats m 0 c).after 1 t) from by
    unfold Dat.leavesExact; rw [show cfg0.idle 1 (cfg0.grid.coords t) = false from rfl], after_1]
  rw [show (dats m 0 c).leavesExact 2 t = owns (c : Thread nD τ) (buf2 t) fullShare ((dats m 0 c).after 2 t) from by
    unfold Dat.leavesExact; rw [show cfg0.idle 2 (cfg0.grid.coords t) = false from rfl], after_2]
  rw [show (dats m 0 c).leavesExact 3 t = owns (c : Thread nD τ) (buf3 t) fullShare ((dats m 0 c).after 3 t) from by
    unfold Dat.leavesExact
    by_cases h : t.val % 2 = 0
    · rw [show cfg0.idle 3 (cfg0.grid.coords t) = false from live_even t h]
    · rw [show cfg0.idle 3 (cfg0.grid.coords t) = true from idle_odd t h, flush_odd t h], after_3]
  rw [show (dats m 0 c).leavesExact 4 t = owns (c : Thread nD τ) (buf4 t) fullShare ((dats m 0 c).after 4 t) from by
    unfold Dat.leavesExact; rw [show cfg0.idle 4 (cfg0.grid.coords t) = false from rfl], after_4]
  rfl

/-- The body at an even point. -/
theorem body_even (c : Dev nD) (t : Fin cfg0.N) (h : t.val % 2 = 0) :
    bodyFrom m c t ⊢ wp frame (wpE (defs₀ (F := F)) Variants.none c none) Set.univ (bodyAt0 t) (fun _ => bodyTo m c t) := by
  rw [show (fun _ : PUnit => bodyTo m c t) = fun _ => _ from funext fun _ => bodyTo_eq m c t]
  rw [rowsAt_even m c t h, prodAt_even m c t h, keptAt_even m c t h]
  unfold bodyFrom bodyAt0
  simp only [before_0, before_1, before_2]
  rw [show (dats m 0 c).Φ t.castSucc = between m c t.val (Nat.le_of_lt t.isLt) from rfl]
  refine BIBase.Entails.trans (BIClass.sep_mono (between_any m c t.val _) (Idealize.SL.BI.Entails.refl _)) ?_
  rw [start_eq]
  unfold rows prodEven kept
  iintro ⟨⟨HS, Hg⟩, Ho, ⟨%d0, H0⟩, ⟨%d1, H1⟩, ⟨%d2, H2⟩, ⟨%d3, H3⟩, ⟨%d4, H4⟩⟩
  iapply ((runEven m c t h).2.2.2 Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, ⟨%e3, H3⟩, ⟨%e4, H4⟩, ⟨%es, HS⟩⟩
  isplitl [HS Hg]
  · isplitl [HS]
    · unfold owns; iexists _; isplitr
      swap; · iexact HS
      ipureintro; exact View.read_writes_of_cover _ _ _ _ _ (cover_kept c _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover_rows c _ _ _ _ _ _ _ _ _ _ _ _ _ _ _ _ _)
  unfold owns; iexists _; isplitr
  swap; · iexact H4
  ipureintro; exact View.read_writes_of_cover _ _ _ _ _ (cover_first c _ _ _ _ _ _ _ _ _ _ _ _ _ _ _ _ _)

/-- The body at an odd point. -/
theorem body_odd (c : Dev nD) (t : Fin cfg0.N) (h : ¬t.val % 2 = 0) :
    bodyFrom m c t ⊢ wp frame (wpE (defs₀ (F := F)) Variants.none c none) Set.univ (bodyAt0 t) (fun _ => bodyTo m c t) := by
  rw [show (fun _ : PUnit => bodyTo m c t) = fun _ => _ from funext fun _ => bodyTo_eq m c t]
  rw [prodAt_odd m c t h]
  unfold bodyFrom bodyAt0
  simp only [before_0, before_1, before_2, before_3 m c t h]
  rw [show (dats m 0 c).Φ t.castSucc = between m c t.val (Nat.le_of_lt t.isLt) from rfl,
    between_pos m c t.val _ (fun e => h (by rw [e])), show (⟨t.val - 1, _⟩ : Fin cfg0.N) = pred t from rfl, ← keptAt_odd m c t h]
  unfold prodOdd
  iintro ⟨⟨HS, Hg⟩, Ho, ⟨%d0, H0⟩, ⟨%d1, H1⟩, ⟨%d2, H2⟩, ⟨%d3, H3⟩, ⟨%d4, H4⟩⟩
  iapply ((runOdd m c t h (keptAt m c t)).2 Set.univ _)
  isplitl [H2]; · iexact H2
  isplitl [H4]; · iexists _; iexact H4
  isplitl [HS]; · iexact HS
  iintro ⟨H2, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover_second c _ _ _ _ _ _ _ _ _ _ _ _ _ _ _ _)

/-- The body table's row at point `t`. -/
theorem row_eq (t : Fin cfg0.N) : defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, row_eq]
  by_cases h : t.val % 2 = 0
  · exact triple_restated (body_even m c t h) rfl .rfl fun _ => .rfl
  · exact triple_restated (body_odd m c t h) rfl .rfl fun _ => .rfl

/-! ## The run and the frame -/

/-- The invariant holds before the first point. -/
theorem hin (c : Dev nD) : Pipeline.ΦA spec0 c ⊢ (dats m 0 c).Φ 0 := Idealize.SL.BI.Entails.refl _

/-- After the last point it gives back what it was set up from. -/
theorem hout (c : Dev nD) : (dats m 0 c).Φ (Fin.last cfg0.N) ⊢ Pipeline.ΦA spec0 c :=
  between_any m c cfg0.N (Nat.le_refl _)

set_option backward.isDefEq.respectTransparency.types false in
/-- Every run of the program ends, with every array of the call at what its data say and no semaphore counter left. -/
theorem run_quiescent :
    θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run of the program ends with every array of the call at what its data say. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and no semaphore counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel5Ideal.Up

end
-- ==== Proof.UpFrame.lean ====
/- The frame of Kernel5: the program is the idealised program's text, so its frame is the idealised program's at any values. -/
module

public import proofs.«01_k».proof.Proof.UpFrameIdeal
public import proofs.«01_k».proof.Proof.Gen.Kernel5.Launch

@[expose] public section

set_option maxRecDepth 100000
set_option maxHeartbeats 4000000

noncomputable section

namespace Cert.Kernel5.Up

open Cert.Kernel5 Cert.Kernel5.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The two programs have the same bodies. -/
theorem bodies : (Cert.Kernel5.defs₀ (F := F)) = Cert.Kernel5Ideal.defs₀ (F := F) := by
  unfold Cert.Kernel5.defs₀ Cert.Kernel5Ideal.defs₀
  refine congrArg Defs.onTc (funext fun l => funext fun a => ?_)
  match l, a with
  | 0, (t, s) => rfl

/-- The two programs have the same definitions. -/
theorem definitions : (Cert.Kernel5.defs (F := F)) = Cert.Kernel5Ideal.defs (F := F) := by
  unfold Cert.Kernel5.defs Cert.Kernel5Ideal.defs
  exact congrArg (Pipeline.defs Cert.Kernel5Ideal.pcfgs) bodies

/-- The frame: the arguments end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [definitions]
  exact Cert.Kernel5Ideal.Up.frame (F := F) m ρ

end Cert.Kernel5.Up

end
-- ==== Proof.Up.lean ====
/- The normalisation and the feed-forward layer's up-projection: the two arrays `Kernel5Ideal` writes are the reference's results. -/
module

public import proofs.«01_k».proof.Proof.UpFrame
public import proofs.«01_k».proof.Proof.UpFrameIdeal
public import proofs.«01_k».proof.Proof.Gen.Reference5Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Math

open Cert.Kernel5Ideal Cert.Kernel5Ideal.Gen Cert.Kernel5Ideal.Up

open Cert.Reference5Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_cst val_main_cst_0 val_main_cst_1)

variable (m : (ℓ : Loc nD τ sig) → Buf (Elt Ideal) ℓ)

/-- Every window's block index at every grid point. -/
theorem idx : ∀ t : Fin cfg0.N, win0_0.index t = ![t.val / 2, 0] ∧ win0_1.index t = ![0, 0] ∧ win0_2.index t = ![t.val % 2, 0, 0]
    ∧ win0_3.index t = ![t.val / 2, 0] ∧ win0_4.index t = ![t.val % 2, t.val / 2, 0] ∧ t.val < 8 :=
  (by decide +kernel : ∀ t : Fin grid0.N, _)

/-- Row `r` of the row block of point `t`. -/
abbrev row (t : Fin cfg0.N) (r : Fin 1024) : Fin 4096 := ⟨1024 * (t.val / 2) + r.val, by have := (idx t).2.2.2.2.2; omega⟩

/-- Slab `b` of the weight's half at point `t`, as a slab of the whole weight. -/
abbrev slab (t : Fin cfg0.N) (b : Fin 4) : Fin 8 := ⟨4 * (t.val % 2) + b.val, by omega⟩

/-- Column `j` of slab `b`, as a column of the weight. -/
abbrev col (b : Fin 8) (j : Fin 704) : Fin 5632 := ⟨b.val * 704 + j.val, by omega⟩

/-- The rows to normalise. -/
abbrev X (c : Dev nD) : FVec Ideal S4096x1024 .f32 := m ((c : Thread nD τ).loc main_arg0)
/-- The gain. -/
abbrev G (c : Dev nD) : FVec Ideal S1x1024 .f32 := m ((c : Thread nD τ).loc main_arg1)
/-- The weight. -/
abbrev W (c : Dev nD) : FVec Ideal S1024x5632 .f32 := m ((c : Thread nD τ).loc main_arg2)

/-- The weight as the call takes it. -/
def wCast (w : FVec Ideal S1024x5632 .f32) : FVec Ideal S8x704x1024 .bf16 :=
  truncf .bf16 (shapeCast S8x704x1024 (transpose S5632x1024 [1, 0] w transposes_S1024x5632_S5632x1024_1_0) shapeCasts_S5632x1024_S8x704x1024) bitsLt_bf16_f32

/-- The call's third operand is the weight. -/
theorem V_w (c : Dev nD) : V m c main_v2 = wCast (W m c) := by
  entry_read
  rfl

/-- The weight as the call takes it, at an index. -/
theorem wCast_pt (w : FVec Ideal S1024x5632 .f32) (b : Fin 8) (j : Fin 704) (k : Fin 1024) : wCast w (ix3 b j k) = w (ix2 k (col b j)) := by
  pointwise [wCast]

/-- A block's normalised rows are the reference's. -/
theorem norm (c : Dev nD) (t : Fin cfg0.N) (r j : Fin 1024) : k0_pay1 (F := Ideal) (iblk m c 0 t) (iblk m c 1 t) (ix2 r j)
    = val_main_v11 (F := Ideal) (X m c) (G m c) (ix2 (row t r) j) := by
  have e0 : ∀ k : Fin 1024, iblk m c 0 t (ix2 r k) = X m c (ix2 (row t r) k) := fun k => by
    blk_simp [iblk]
    rw [V_main_arg0]
    blk_point [idx t]
  have e1 : ∀ k : Fin 1024, iblk m c 1 t (ix2 0 k) = G m c (ix2 0 k) := fun k => by
    blk_simp [iblk]
    rw [V_main_arg1]
    blk_point [idx t]
  pointwise [k0_pay1, val_main_v0, val_main_v1, val_main_v2, val_main_v3, val_main_v4, val_main_v5, val_main_v6, val_main_v7, val_main_v8, val_main_v9, val_main_v10, val_main_v11, val_main_cst, val_main_cst_0, val_main_cst_1]
  simp only [e0, e1]

/-- The weight's block at an index. -/
theorem w_pt (c : Dev nD) (t : Fin cfg0.N) (b : Fin 4) (j : Fin 704) (k : Fin 1024) : iblk m c 2 t (ix3 b j k) = W m c (ix2 k (col (slab t b) j)) := by
  blk_simp [iblk]
  rw [V_w]
  refine Eq.trans ?_ (wCast_pt _ _ _ _)
  blk_point [idx t]

/-- The scratch buffer's rows as copied are the rows stored. -/
theorem pay2_pt {x : Vec Ideal S1024x1024 .f32} {g : Vec Ideal S1x1024 .f32} (r k : Fin 1024) : k0_pay2 (F := Ideal) x g (ix2 r k) = k0_pay1 x g (ix2 r k) := by
  pointwise [k0_pay2]

/-- The product of the rows and slab 0 of the weight's block, as stored. -/
theorem pay4_pt (R : Vec Ideal S1024x1024 .bf16) (V : Vec Ideal S4x704x1024 .bf16) (r : Fin 1024) (j : Fin 704) :
    k0_pay4 (F := Ideal) R V (ix3 0 r j) = ∑ k, R (ix2 r k) * V (ix3 0 j k) := by
  pointwise [k0_pay4, k0_pay3]
  refine Fin.sum_fin_congr fun k => ?_
  exact congrArg (fun x : EReal => R (ix2 r k) * x) (congrArg₂ (fun a b => V (ix3 a b k)) (Fin.ext (Nat.div_eq_of_lt j.isLt)) (Fin.ext (Nat.mod_eq_of_lt j.isLt)))

/-- The product of the rows and slab 1 of the weight's block, as stored. -/
theorem pay5_pt (R : Vec Ideal S1024x1024 .bf16) (V : Vec Ideal S4x704x1024 .bf16) (r : Fin 1024) (j : Fin 704) :
    k0_pay5 (F := Ideal) R V (ix3 0 r j) = ∑ k, R (ix2 r k) * V (ix3 1 j k) := by
  pointwise [k0_pay5, k0_pay3]
  refine Fin.sum_fin_congr fun k => ?_
  exact congrArg (fun x : EReal => R (ix2 r k) * x) (congrArg (fun a => V (ix3 a j k)) (Fin.ext (by show (704 + j.val) / 704 = 1; omega)))

/-- The product of the rows and slab 2 of the weight's block, as stored. -/
theorem pay6_pt (R : Vec Ideal S1024x1024 .bf16) (V : Vec Ideal S4x704x1024 .bf16) (r : Fin 1024) (j : Fin 704) :
    k0_pay6 (F := Ideal) R V (ix3 0 r j) = ∑ k, R (ix2 r k) * V (ix3 2 j k) := by
  pointwise [k0_pay6, k0_pay3]
  refine Fin.sum_fin_congr fun k => ?_
  exact congrArg (fun x : EReal => R (ix2 r k) * x) (congrArg (fun a => V (ix3 a j k)) (Fin.ext (by show (1408 + j.val) / 704 = 2; omega)))

/-- The product of the rows and slab 3 of the weight's block, as stored. -/
theorem pay7_pt (R : Vec Ideal S1024x1024 .bf16) (V : Vec Ideal S4x704x1024 .bf16) (r : Fin 1024) (j : Fin 704) :
    k0_pay7 (F := Ideal) R V (ix3 0 r j) = ∑ k, R (ix2 r k) * V (ix3 3 j k) := by
  pointwise [k0_pay7, k0_pay3]
  refine Fin.sum_fin_congr fun k => ?_
  exact congrArg (fun x : EReal => R (ix2 r k) * x) (congrArg (fun a => V (ix3 a j k)) (Fin.ext (by show (2112 + j.val) / 704 = 3; omega)))

/-- A stored slab read at one of its indices. -/
theorem slab_hit {s : ℕ} {i : ∀ a, (![s, 0, 0] : Fin 3 → ℕ) a + (![1, 1024, 704] : Fin 3 → ℕ) a ≤ S4x1024x704.size a} (P : Vec Ideal S1x1024x704 .bf16)
    (L : List (View.Piece (Elt Ideal) S4x1024x704 .bf16)) (a : Fin 4) (ha : a.val = s) (r : Fin 1024) (j : Fin 704) :
    View.canon (⟨Rect.unit (s := S4x1024x704) ![s, 0, 0] ![1, 1024, 704] i, P⟩ :: L) (ix3 a r j) = P (ix3 0 r j) := by
  refine Eq.trans (congrArg _ (funext fun k => Fin.ext ?_)) (View.canon_cons_emb (Val := Elt Ideal) (e := .bf16) (Rect.unit (s := S4x1024x704) ![s, 0, 0] ![1, 1024, 704] i) P L (ix3 0 r j))
  fin_cases k
  · show a.val = s + 1 * 0
    omega
  · show r.val = 0 + 1 * r.val
    omega
  · show j.val = 0 + 1 * j.val
    omega

/-- A stored slab read at an index of another slab. -/
theorem slab_miss {s : ℕ} {i : ∀ a, (![s, 0, 0] : Fin 3 → ℕ) a + (![1, 1024, 704] : Fin 3 → ℕ) a ≤ S4x1024x704.size a} (P : Vec Ideal S1x1024x704 .bf16)
    (L : List (View.Piece (Elt Ideal) S4x1024x704 .bf16)) (a : Fin 4) (ha : a.val ≠ s) (r : Fin 1024) (j : Fin 704) :
    View.canon (⟨Rect.unit (s := S4x1024x704) ![s, 0, 0] ![1, 1024, 704] i, P⟩ :: L) (ix3 a r j) = View.canon L (ix3 a r j) := by
  refine View.canon_cons_of_not_mem (Val := Elt Ideal) _ L fun hm => absurd hm ?_
  exact Rect.not_mem_set_of_axis _ _ (0 : Fin 3) s 1 rfl rfl rfl (by show a.val < s ∨ s + 1 ≤ a.val; omega)

/-- The four stored products, read at an index: the product of the rows and the weight's block. -/
theorem stored_pt {R : Vec Ideal S1024x1024 .bf16} {V : Vec Ideal S4x704x1024 .bf16} {i0 i1 i2 i3} (b : Fin 4) (r : Fin 1024) (j : Fin 704) :
    View.canon (Val := Elt Ideal) (s := S4x1024x704) (e := .bf16) [⟨Rect.unit (s := S4x1024x704) ![3, 0, 0] ![1, 1024, 704] i3, k0_pay7 R V⟩,
      ⟨Rect.unit (s := S4x1024x704) ![2, 0, 0] ![1, 1024, 704] i2, k0_pay6 R V⟩, ⟨Rect.unit (s := S4x1024x704) ![1, 0, 0] ![1, 1024, 704] i1, k0_pay5 R V⟩,
      ⟨Rect.unit (s := S4x1024x704) ![0, 0, 0] ![1, 1024, 704] i0, k0_pay4 R V⟩] (ix3 b r j) = ∑ k, R (ix2 r k) * V (ix3 b j k) := by
  match b with
  | 3 => exact (slab_hit (s := 3) _ _ 3 rfl r j).trans (pay7_pt R V r j)
  | 2 => exact (slab_miss (s := 3) _ _ 2 (by decide) r j).trans ((slab_hit (s := 2) _ _ 2 rfl r j).trans (pay6_pt R V r j))
  | 1 => exact (slab_miss (s := 3) _ _ 1 (by decide) r j).trans ((slab_miss (s := 2) _ _ 1 (by decide) r j).trans ((slab_hit (s := 1) _ _ 1 rfl r j).trans (pay5_pt R V r j)))
  | 0 => exact (slab_miss (s := 3) _ _ 0 (by decide) r j).trans ((slab_miss (s := 2) _ _ 0 (by decide) r j).trans ((slab_miss (s := 1) _ _ 0 (by decide) r j).trans ((slab_hit (s := 0) _ _ 0 rfl r j).trans (pay4_pt R V r j))))

/-- The rows an even point leaves in the first output are the reference's. -/
theorem rows_pt (c : Dev nD) (t : Fin cfg0.N) (h : t.val % 2 = 0) (r k : Fin 1024) :
    rows m c t h (ix2 r k) = val_main_v11 (F := Ideal) (X m c) (G m c) (ix2 (row t r) k) := by
  unfold rows runEven
  frame_out
  exact norm m c t r k

/-- The rows an even point leaves in the scratch buffer are the reference's. -/
theorem kept_pt (c : Dev nD) (t : Fin cfg0.N) (h : t.val % 2 = 0) (r k : Fin 1024) :
    kept m c t h (ix2 r k) = val_main_v11 (F := Ideal) (X m c) (G m c) (ix2 (row t r) k) := by
  unfold kept runEven
  frame_out
  exact (pay2_pt r k).trans (norm m c t r k)

/-- Both points of a row block have the same rows. -/
theorem row_even (t : Fin cfg0.N) (r : Fin 1024) : row (even t) r = row t r :=
  Fin.ext (by show 1024 * ((t.val - t.val % 2) / 2) + r.val = 1024 * (t.val / 2) + r.val; omega)

/-- The first output's rows after any point. -/
theorem rowsAt_pt (c : Dev nD) (t : Fin cfg0.N) (r k : Fin 1024) : rowsAt m c t (ix2 r k) = val_main_v11 (F := Ideal) (X m c) (G m c) (ix2 (row t r) k) :=
  (rows_pt m c (even t) _ r k).trans (by rw [row_even])

/-- The scratch buffer's rows after any point. -/
theorem keptAt_pt (c : Dev nD) (t : Fin cfg0.N) (r k : Fin 1024) : keptAt m c t (ix2 r k) = val_main_v11 (F := Ideal) (X m c) (G m c) (ix2 (row t r) k) :=
  (kept_pt m c (even t) _ r k).trans (by rw [row_even])

/-- The reference's second result at an index. -/
theorem ref_pt (x : FVec Ideal S4096x1024 .f32) (g : FVec Ideal S1x1024 .f32) (w : FVec Ideal S1024x5632 .f32) (b : Fin 8) (n : Fin 4096) (j : Fin 704) :
    val_main_v16 (F := Ideal) x g w (ix3 b n j) = ∑ k, val_main_v11 (F := Ideal) x g (ix2 n k) * w (ix2 k (col b j)) := by
  pointwise [val_main_v16, val_main_v15, val_main_v14, val_main_v13]

/-- A product of the reference's rows and the weight's block is the reference's second result. -/
theorem prod_pt (c : Dev nD) (t : Fin cfg0.N) {R : Vec Ideal S1024x1024 .bf16}
    (hR : ∀ r k, R (ix2 r k) = val_main_v11 (F := Ideal) (X m c) (G m c) (ix2 (row t r) k)) (b : Fin 4) (r : Fin 1024) (j : Fin 704) :
    (∑ k, R (ix2 r k) * iblk m c 2 t (ix3 b j k) : EReal) = val_main_v16 (F := Ideal) (X m c) (G m c) (W m c) (ix3 (slab t b) (row t r) j) := by
  rw [ref_pt]
  exact Fin.sum_fin_congr fun k => by rw [hR, w_pt]

/-- The second output after any point. -/
theorem prodAt_pt (c : Dev nD) (t : Fin cfg0.N) (b : Fin 4) (r : Fin 1024) (j : Fin 704) :
    prodAt m c t (ix3 b r j) = val_main_v16 (F := Ideal) (X m c) (G m c) (W m c) (ix3 (slab t b) (row t r) j) := by
  by_cases h : t.val % 2 = 0
  · rw [prodAt_even m c t h]
    unfold prodEven runEven
    frame_out
    exact (stored_pt b r j).trans (prod_pt m c t (fun r k => (pay2_pt r k).trans (norm m c t r k)) b r j)
  · rw [prodAt_odd m c t h]
    unfold prodOdd runOdd
    frame_out
    refine (stored_pt b r j).trans (prod_pt m c t (fun r k => ?_) b r j)
    exact (congrFun ((Memref.isWhole_whole _).read_unread _) _).trans (keptAt_pt m c t r k)

/-- The first result array. -/
theorem final3 (c : Dev nD) : (dats m 0 c).arrAt 3 (cfgs 0).N = val_main_v12 (F := Ideal) (X m c) (G m c) := by
  refine (dats m 0 c).arrAt_eq_of_covers 3 _ (by decide +kernel) fun t hf y => ?_
  blk_simp; rw [after_3]
  have e : ((cfg0.win 3).blk t).view.emb y = ix2 (row t (y 0)) (y 1) := by blk_ext [idx t]
  rw [e, eq_ix2 y]
  exact rowsAt_pt m c t (y 0) (y 1)

/-- The second result array. -/
theorem final4 (c : Dev nD) : (dats m 0 c).arrAt 4 (cfgs 0).N = val_main_v16 (F := Ideal) (X m c) (G m c) (W m c) := by
  refine (dats m 0 c).arrAt_eq_of_covers 4 _ (by decide +kernel) fun t hf y => ?_
  blk_simp; rw [after_4]
  have e : ((cfg0.win 4).blk t).view.emb y = ix3 (slab t (y 0)) (row t (y 1)) (y 2) := by blk_ext [idx t]
  rw [e, eq_ix3 y]
  exact prodAt_pt m c t (y 0) (y 1) (y 2)

/-- Kernel and reference of the normalisation and up-projection end with equal results. -/
theorem algebraic : Cert.algebraic_Kernel5Ideal_Reference5Ideal := by
  pair_intro
  · run_from Cert.Kernel5Ideal.Up.run_main m g
    all_goals first | exact V_main_arg0 m c | exact V_main_arg1 m c | exact V_main_arg2 m c
  · run_from Cert.Reference5Ideal.Value.run m' g'
    · exact (final3 m c).symm
    · exact (final4 m c).symm

end Cert.Kernel5Ideal.Math

end
-- ==== Proof.MixIn.lean ====
/- The normalisation and the mixer's input projection: the two arrays `Kernel6Ideal` writes are the reference's results. -/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Math

open Cert.Kernel6Ideal Cert.Kernel6Ideal.Gen

open Cert.Reference6Ideal.Read (val_main_v0 val_main_v1 val_main_v2 val_main_v3 val_main_v4 val_main_v5 val_main_v6 val_main_v7 val_main_v8 val_main_v9 val_main_v10 val_main_v11 val_main_v12 val_main_v13 val_main_cst val_main_cst_0 val_main_cst_1)

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 4 :=
  (by decide +kernel : ∀ t : Fin grid0.N, _)

/-- Row `r` of block `t`. -/
abbrev row (t : Fin cfg0.N) (r : Fin 1024) : Fin 4096 := ⟨1024 * t.val + r.val, by have := (idx t).2.2.2.2.2; omega⟩

/-- The weight as the call takes it. -/
def wCast (w : FVec Ideal S1024x2560 .f32) : FVec Ideal S2560x1024 .bf16 :=
  truncf .bf16 (transpose S2560x1024 [1, 0] w transposes_S1024x2560_S2560x1024_1_0) bitsLt_bf16_f32

/-- The call's third operand is the weight. -/
theorem V_w (c : Dev nD) : V m c main_v1 = wCast (m ((c : Thread nD τ).loc main_arg2)) := by
  entry_read
  rfl

/-- A block's normalised rows are the reference's. -/
theorem norm (c : Dev nD) (t : Fin cfg0.N) (r j : Fin 1024) : k0_pay1 (F := Ideal) (iblk m c 0 t) (iblk m c 1 t) (ix2 r j)
    = val_main_v11 (F := Ideal) (m ((c : Thread nD τ).loc main_arg0)) (m ((c : Thread nD τ).loc main_arg1)) (ix2 (row t r) j) := by
  have e0 : ∀ k : Fin 1024, iblk m c 0 t (ix2 r k) = (m ((c : Thread nD τ).loc main_arg0)) (ix2 (row t r) k) := fun k => by
    blk_simp [iblk]
    rw [V_main_arg0]
    blk_point [idx t]
  have e1 : ∀ k : Fin 1024, iblk m c 1 t (ix2 0 k) = (m ((c : Thread nD τ).loc main_arg1)) (ix2 0 k) := fun k => by
    blk_simp [iblk]
    rw [V_main_arg1]
    blk_point [idx t]
  pointwise [k0_pay1, val_main_v0, val_main_v1, val_main_v2, val_main_v3, val_main_v4, val_main_v5, val_main_v6, val_main_v7, val_main_v8, val_main_v9, val_main_v10, val_main_v11, val_main_cst, val_main_cst_0, val_main_cst_1]
  simp only [e0, e1]

/-- The second result's block. -/
theorem point4 (c : Dev nD) (t : Fin cfg0.N) (r : Fin 1024) (j : Fin 2560) :
    k0_pay3 (F := Ideal) (k0_pay2 (iblk m c 0 t) (iblk m c 1 t)) (iblk m c 2 t) (ix2 r j)
    = val_main_v13 (F := Ideal) (m ((c : Thread nD τ).loc main_arg0)) (m ((c : Thread nD τ).loc main_arg1)) (m ((c : Thread nD τ).loc main_arg2)) (ix2 (row t r) j) := by
  pointwise [k0_pay3, k0_pay2, val_main_v13]
  refine Fin.sum_fin_congr fun k => ?_
  rw [norm]
  blk_simp [iblk]
  rw [V_w]
  pointwise [wCast]
  blk_point [idx t]

/-- The first result array. -/
theorem final3 (c : Dev nD) : (dats m 0 c).arrAt 3 (cfgs 0).N = val_main_v12 (F := Ideal) (m ((c : Thread nD τ).loc main_arg0)) (m ((c : Thread nD τ).loc main_arg1)) := by
  refine (dats m 0 c).arrAt_eq_of_covers 3 _ (by decide +kernel) fun t hf y => ?_
  blk_simp; rw [after0_3]
  unfold outsAt0
  frame_out
  have e : ((cfg0.win 3).blk t).view.emb y = ix2 (row t (y 0)) (y 1) := by blk_ext [idx t]
  rw [e, eq_ix2 y]
  exact norm m c t (y 0) (y 1)

/-- The second result array. -/
theorem final4 (c : Dev nD) : (dats m 0 c).arrAt 4 (cfgs 0).N = val_main_v13 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]
  unfold outsAt0
  frame_out
  have e : ((cfg0.win 4).blk t).view.emb y = ix2 (row t (y 0)) (y 1) := by blk_ext [idx t]
  rw [e, eq_ix2 y]
  exact point4 m c t (y 0) (y 1)

/-- Kernel and reference of the normalisation and input projection end with equal results. -/
theorem algebraic : Cert.algebraic_Kernel6Ideal_Reference6Ideal := by
  pair_intro
  · run_from Cert.Kernel6Ideal.Gen.run_main m g
    all_goals first | exact V_main_arg0 m c | exact V_main_arg1 m c | exact V_main_arg2 m c
  · run_from Cert.Reference6Ideal.Value.run m' g'
    · exact (final3 m c).symm
    · exact (final4 m c).symm

end Cert.Kernel6Ideal.Math

end
-- ==== Proof.Dab.lean ====
/- The gradient of the mixer's output projection's input: the array `Kernel7Ideal` writes is the reference's result. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Math

open Cert.Kernel7Ideal Cert.Kernel7Ideal.Gen

open Cert.Reference7Ideal.Read (val_main_v1)

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] :=
  (by decide +kernel : ∀ t : Fin grid0.N, _)

/-- The cotangent as the call takes it. -/
def ctCast (ct : FVec Ideal S4096x1024 .f32) : FVec Ideal S4096x1024 .bf16 := truncf .bf16 ct bitsLt_bf16_f32

/-- The weight as the call takes it. -/
def wCast (w : FVec Ideal S1024x1024 .f32) : FVec Ideal S1024x1024 .bf16 := truncf .bf16 w bitsLt_bf16_f32

/-- The call's first operand is the cotangent. -/
theorem V_ct (c : Dev nD) : V m c main_v0 = ctCast (m ((c : Thread nD τ).loc main_arg2)) := by
  entry_read
  rfl

/-- The call's second operand is the weight. -/
theorem V_w (c : Dev nD) : V m c main_v1 = wCast (m ((c : Thread nD τ).loc main_arg1)) := by
  entry_read
  rfl

/-- What the body stores at block index `y` of point `t` is the reference at the array index `y` sits at. -/
theorem point (c : Dev nD) (t : Fin cfg0.N) (y) : k0_pay1 (iblk m c 0 t) (iblk m c 1 t) y
    = val_main_v1 (F := Ideal) (m ((c : Thread nD τ).loc main_arg1)) (m ((c : Thread nD τ).loc main_arg2)) (((cfg0.win 2).blk t).view.emb y) := by
  pointwise [k0_pay1, val_main_v1]
  refine Fin.sum_fin_congr fun k => ?_
  blk_simp [iblk]
  rw [V_ct, V_w]
  pointwise [ctCast, wCast]
  blk_point [idx t]

/-- The result array after the run is the reference's result. -/
theorem final (c : Dev nD) : (dats m 0 c).arrAt 2 (cfgs 0).N = val_main_v1 (F := Ideal) (m ((c : Thread nD τ).loc main_arg1)) (m ((c : Thread nD τ).loc main_arg2)) := by
  refine (dats m 0 c).arrAt_eq_of_covers 2 _ (by decide +kernel) fun t hf y => ?_
  blk_simp; rw [after0_2]; frame_out
  exact point m c t y

/-- Kernel and reference of the output projection's input gradient end with equal results. -/
theorem algebraic : Cert.algebraic_Kernel7Ideal_Reference7Ideal := by
  pair_intro
  · run_from Cert.Kernel7Ideal.Gen.run_main m g
    all_goals first | exact V_main_arg0 m c | exact V_main_arg1 m c | exact V_main_arg2 m c
  · run_from Cert.Reference7Ideal.Value.run m' g'
    exact (final m c).symm

end Cert.Kernel7Ideal.Math

end
-- ==== Proof.Dwout.lean ====
/- The gradient of the mixer's output projection's weight: the array `Kernel8Ideal` writes is the reference's result. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Math

open Cert.Kernel8Ideal Cert.Kernel8Ideal.Gen

open Cert.Reference8Ideal.Read (val_main_v22 val_main_v24 val_main_v25 val_main_v26)

variable (m : (ℓ : Loc nD τ sig) → Buf (Elt Ideal) ℓ)

/-- Every window's block index at every grid point. -/
theorem idx : ∀ t : Fin cfg0.N, win0_0.index t = ![0, 0] ∧ win0_1.index t = ![0, t.val] ∧ win0_2.index t = ![0, t.val] :=
  (by decide +kernel : ∀ t : Fin grid0.N, _)

/-- The cotangent as the call takes it. -/
def ctCast (ct : FVec Ideal S4096x1024 .f32) : FVec Ideal S4096x1024 .bf16 := truncf .bf16 ct bitsLt_bf16_f32

/-- The two branches' joined values, as the host hands them to the call. -/
def abCast (ca : FVec Ideal S4096x512 .f32) (g b : FVec Ideal S1x512 .f32) (bg cb : FVec Ideal S4096x512 .f32) : FVec Ideal S4096x1024 .bf16 :=
  truncf .bf16 (val_main_v22 (F := Ideal) ca g b bg cb) bitsLt_bf16_f32

/-- The call's first operand is the joined values. -/
theorem V_ab (c : Dev nD) : V m c main_v23 = abCast (m ((c : Thread nD τ).loc main_arg0)) (m ((c : Thread nD τ).loc main_arg1)) (m ((c : Thread nD τ).loc main_arg2)) (m ((c : Thread nD τ).loc main_arg3)) (m ((c : Thread nD τ).loc main_arg4)) := by
  entry_read
  rfl

/-- The call's second operand is the cotangent. -/
theorem V_ct (c : Dev nD) : V m c main_v24 = ctCast (m ((c : Thread nD τ).loc main_arg6)) := by
  entry_read
  rfl

/-- What the body stores at block index `y` of point `t` is the reference at the array index `y` sits at. -/
theorem point (c : Dev nD) (t : Fin cfg0.N) (y) : k0_pay1 (iblk m c 0 t) (iblk m c 1 t) y
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (((cfg0.win 2).blk t).view.emb y) := by
  pointwise [k0_pay1, val_main_v26, val_main_v25, val_main_v24]
  refine Fin.sum_fin_congr fun k => ?_
  blk_simp [iblk]
  rw [V_ct, V_ab]
  pointwise [ctCast, abCast]
  rw [mul_comm]
  blk_point [idx t]

/-- The result array after the run is the reference's result. -/
theorem final (c : Dev nD) : (dats m 0 c).arrAt 2 (cfgs 0).N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 2 _ (by decide +kernel) fun t hf y => ?_
  blk_simp; rw [after0_2]; frame_out
  exact point m c t y

/-- Equal arguments give equal values of a function of six arguments. -/
theorem congr6 {α β γ δ ε ζ η : Type} (f : α → β → γ → δ → ε → ζ → η) {a a' b b' c c' d d' e e' k k'} (h0 : a = a') (h1 : b = b') (h2 : c = c')
    (h3 : d = d') (h4 : e = e') (h5 : k = k') : f a b c d e k = f a' b' c' d' e' k' := by
  subst h0 h1 h2 h3 h4 h5
  rfl

/-- Kernel and reference of the output projection's weight gradient end with equal results. -/
theorem algebraic : Cert.algebraic_Kernel8Ideal_Reference8Ideal := by
  pair_intro
  · run_from Cert.Kernel8Ideal.Gen.run_main m g
    · exact V_main_arg0 m c
    · exact V_main_arg1 m c
    · exact V_main_arg2 m c
    · exact V_main_arg3 m c
    · exact V_main_arg4 m c
    · exact V_main_arg5 m c
    · exact V_main_arg6 m c
  · run_from Cert.Reference8Ideal.Value.run m' g'
    obtain ⟨e0, e1, e2, e3, e4, e5, e6⟩ := hagree c
    refine (Cert.Reference8Ideal.Read.val_main_v26_eq m' c).trans (.trans ?_ (final m c).symm)
    exact congr6 val_main_v26 e0 e1 e2 e3 e4 e6

end Cert.Kernel8Ideal.Math

end
-- ==== Proof.Dwin.lean ====
/- The gradient of the mixer's input projection's weight: the array `Kernel9Ideal` writes is the reference's result. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Math

open Cert.Kernel9Ideal Cert.Kernel9Ideal.Gen

open Cert.Reference9Ideal.Read (val_main_v11 val_main_v13 val_main_v14 val_main_v15 val_main_v16)

variable (m : (ℓ : Loc nD τ sig) → Buf (Elt Ideal) ℓ)

/-- Every window's block index at every grid point. -/
theorem idx : ∀ t : Fin cfg0.N, win0_0.index t = ![0, t.val] ∧ win0_1.index t = ![0, 0] ∧ win0_2.index t = ![t.val, 0] :=
  (by decide +kernel : ∀ t : Fin grid0.N, _)

/-- The cotangent as the call takes it. -/
def ctCast (ct : FVec Ideal S4096x2560 .f32) : FVec Ideal S4096x2560 .bf16 := truncf .bf16 ct bitsLt_bf16_f32

/-- The normalised layer input, as the host hands it to the call. -/
def hCast (x : FVec Ideal S4096x1024 .f32) (g : FVec Ideal S1x1024 .f32) : FVec Ideal S4096x1024 .bf16 :=
  truncf .bf16 (val_main_v11 (F := Ideal) x g) bitsLt_bf16_f32

/-- The call's first operand is the cotangent. -/
theorem V_ct (c : Dev nD) : V m c main_v0 = ctCast (m ((c : Thread nD τ).loc main_arg3)) := by
  entry_read
  rfl

/-- The call's second operand is the normalised layer input. -/
theorem V_h (c : Dev nD) : V m c main_v13 = hCast (m ((c : Thread nD τ).loc main_arg0)) (m ((c : Thread nD τ).loc main_arg1)) := by
  entry_read
  rfl

/-- What the body stores at block index `y` of point `t` is the reference at the array index `y` sits at. -/
theorem point (c : Dev nD) (t : Fin cfg0.N) (y) : k0_pay1 (iblk m c 0 t) (iblk m c 1 t) y
    = val_main_v16 (F := Ideal) (m ((c : Thread nD τ).loc main_arg0)) (m ((c : Thread nD τ).loc main_arg1)) (m ((c : Thread nD τ).loc main_arg3)) (((cfg0.win 2).blk t).view.emb y) := by
  pointwise [k0_pay1, val_main_v16, val_main_v15, val_main_v14, val_main_v13]
  refine Fin.sum_fin_congr fun k => ?_
  blk_simp [iblk]
  rw [V_ct, V_h]
  pointwise [ctCast, hCast]
  blk_point [idx t]

/-- The result array after the run is the reference's result. -/
theorem final (c : Dev nD) : (dats m 0 c).arrAt 2 (cfgs 0).N = val_main_v16 (F := Ideal) (m ((c : Thread nD τ).loc main_arg0)) (m ((c : Thread nD τ).loc main_arg1)) (m ((c : Thread nD τ).loc main_arg3)) := by
  refine (dats m 0 c).arrAt_eq_of_covers 2 _ (by decide +kernel) fun t hf y => ?_
  blk_simp; rw [after0_2]; frame_out
  exact point m c t y

/-- Kernel and reference of the input projection's weight gradient end with equal results. -/
theorem algebraic : Cert.algebraic_Kernel9Ideal_Reference9Ideal := by
  pair_intro
  · run_from Cert.Kernel9Ideal.Gen.run_main m g
    all_goals first | exact V_main_arg0 m c | exact V_main_arg1 m c | exact V_main_arg2 m c | exact V_main_arg3 m c
  · run_from Cert.Reference9Ideal.Value.run m' g'
    exact (final m c).symm

end Cert.Kernel9Ideal.Math

end
-- ==== Proof.RmsBwd.lean ====
/- The gradient through a row's root mean square normalisation: two ways of writing it are one extended real number, whatever the arguments hold. -/
module

public import proofs.«01_k».proof.Proof.PoolReal

@[expose] public section

noncomputable section

open Idealize.ShloMosaic
open scoped BigOperators

namespace Cert.RmsBwd

/-- A sum of products with one nonnegative real factor. -/
theorem sum_mul_real (n : ℕ) (f : Fin n → EReal) (r : ℝ) (hr : 0 ≤ r) : ∑ i, f i * (r : EReal) = (∑ i, f i) * (r : EReal) := by
  have h : ∀ s : Finset (Fin n), ∑ i ∈ s, f i * (r : EReal) = (∑ i ∈ s, f i) * (r : EReal) := fun s => by
    induction s using Finset.induction_on with
    | empty => simp
    | insert a s ha ih =>
      rw [Finset.sum_insert ha, Finset.sum_insert ha, ih, mul_comm (f a + _), EReal.left_distrib_of_nonneg_of_ne_top (by exact_mod_cast hr) (EReal.coe_ne_top r), mul_comm (f a),
        mul_comm (∑ i ∈ s, f i)]
  exact h Finset.univ

/-- The square of an extended real number is not negative. -/
theorem mul_self_nonneg (a : EReal) : 0 ≤ a * a := by
  rcases le_total 0 a with h | h
  · exact mul_nonneg h h
  · have : 0 ≤ -a := EReal.neg_nonneg.2 h
    have := mul_nonneg this this
    rwa [neg_mul_neg] at this

/-- A row's mean square with the small constant, and its reciprocal root: infinite and zero, or both positive real numbers. -/
theorem mean_square (x : Fin 1024 → EReal) (M : EReal) (hM : M = Ideal.div (∑ i, x i * x i) (Ideal.ofBits .f32 0x44800000#32) + Ideal.ofBits .f32 0x358637BD#32) :
    (M = ⊤ ∧ Ideal.rsqrt M = 0) ∨ ∃ a r : ℝ, 0 < a ∧ 0 < r ∧ r * r = 1 / a ∧ M = (a : EReal) ∧ Ideal.rsqrt M = (r : EReal) := by
  have hs : 0 ≤ ∑ i, x i * x i := Finset.sum_nonneg fun i _ => mul_self_nonneg (x i)
  rw [PoolReal.bits_1024, PoolReal.eps_bits, Ideal.div_coe (by norm_num)] at hM
  generalize (∑ i, x i * x i) = S at hM hs
  induction S with
  | bot => exact absurd hs (by simp)
  | top =>
    left
    have : M = ⊤ := by
      rw [hM, EReal.top_mul_coe_of_pos (by norm_num), EReal.top_add_coe]
    exact ⟨this, by rw [this]; rfl⟩
  | coe s =>
    right
    have hs' : (0 : ℝ) ≤ s := by exact_mod_cast hs
    have he : (0 : ℝ) < PoolReal.eps := by unfold PoolReal.eps; norm_num
    have ha : 0 < s * (1 / 1024) + PoolReal.eps := by positivity
    refine ⟨s * (1 / 1024) + PoolReal.eps, (√(s * (1 / 1024) + PoolReal.eps))⁻¹, ha, by positivity, ?_, ?_, ?_⟩
    · rw [← mul_inv, Real.mul_self_sqrt ha.le]
      exact (one_div _).symm
    · rw [hM]
      norm_cast
    · rw [hM, ← EReal.coe_mul, ← EReal.coe_add, Ideal.rsqrt_coe, if_neg ha.not_gt, if_neg ha.ne']

/-- The gradient of a row's entry: the direct part and the part through the root added up term by term, or the row's root times their difference. -/
theorem grad (x : Fin 1024 → EReal) (M : EReal) (hM : M = Ideal.div (∑ i, x i * x i) (Ideal.ofBits .f32 0x44800000#32) + Ideal.ofBits .f32 0x358637BD#32)
    (D g : Fin 1024 → EReal) (c : EReal) (j : Fin 1024) :
    c + D j * g j * Ideal.rsqrt M
        + x j * Ideal.div ((∑ i, x i * (D i * g i)) * (Ideal.ofBits .f32 0xBF000000#32 * Ideal.div (Ideal.rsqrt M) M)) (Ideal.ofBits .f32 0x44800000#32)
        + Ideal.div ((∑ i, x i * (D i * g i)) * (Ideal.ofBits .f32 0xBF000000#32 * Ideal.div (Ideal.rsqrt M) M)) (Ideal.ofBits .f32 0x44800000#32) * x j
      = c + Ideal.rsqrt M * (D j * g j - x j * Ideal.rsqrt M * Ideal.div (∑ i, D i * g i * (x i * Ideal.rsqrt M)) (Ideal.ofBits .f32 0x44800000#32)) := by
  rcases mean_square x M hM with ⟨h, hr⟩ | ⟨a, r, ha, hr0, hrr, h, hr⟩
  · rw [hr, h]
    have e : Ideal.div 0 ⊤ = 0 := by
      unfold Ideal.div
      rw [if_neg (by simp), zero_mul]
    rw [e, PoolReal.bits_1024, Ideal.div_coe (by norm_num), mul_zero, mul_zero, mul_zero, zero_mul, mul_zero, zero_mul, zero_mul, add_zero, add_zero, add_zero]
  · rw [hr, h, PoolReal.bits_1024, PoolReal.bits_neg_half, PoolReal.div_real ha.ne', Ideal.div_coe (by norm_num), Ideal.div_coe (by norm_num), ← EReal.coe_mul]
    have hs : ∑ i, D i * g i * (x i * (r : EReal)) = (∑ i, x i * (D i * g i)) * (r : EReal) := by
      rw [← sum_mul_real _ _ r hr0.le]
      exact Finset.sum_congr rfl fun i _ => by rw [← mul_assoc, mul_comm (D i * g i)]
    rw [hs]
    generalize ∑ i, x i * (D i * g i) = S
    have hk : ((-(1 / 2) * (r / a) : ℝ) : EReal) * ((1 / 1024 : ℝ) : EReal) = -((r * r * r / 2048 : ℝ) : EReal) := by
      rw [← EReal.coe_mul, ← EReal.coe_neg]
      congr 1
      rw [hrr]
      ring
    have hp : (0 : EReal) ≤ ((r * r * r / 2048 : ℝ) : EReal) := by exact_mod_cast (by positivity : (0 : ℝ) ≤ r * r * r / 2048)
    rw [mul_assoc S, hk, mul_neg, mul_neg, neg_mul, sub_eq_add_neg, EReal.left_distrib_of_nonneg_of_ne_top (by exact_mod_cast hr0.le) (EReal.coe_ne_top r), mul_comm _ (x j), add_assoc,
      mul_comm (D j * g j), add_assoc, mul_neg]
    congr 2
    have h2 : ∀ y : EReal, -(y * ((r * r * r / 2048 : ℝ) : EReal)) + -(y * ((r * r * r / 2048 : ℝ) : EReal)) = -(y * ((r * r * r / 1024 : ℝ) : EReal)) := fun y => by
      have hy : y * ((r * r * r / 1024 : ℝ) : EReal) = y * ((r * r * r / 2048 : ℝ) : EReal) + y * ((r * r * r / 2048 : ℝ) : EReal) := by
        rw [← EReal.left_distrib_of_nonneg hp hp, ← EReal.coe_add]
        congr 2
        ring
      generalize ((r * r * r / 2048 : ℝ) : EReal) = p at hy
      rw [hy]
      generalize y * p = z
      induction z with
      | bot => rfl
      | top => rfl
      | coe z => norm_cast; ring
    rw [← mul_assoc (x j) S, h2]
    have h3 : ((r * r * r / 1024 : ℝ) : EReal) = (r : EReal) * ((r : EReal) * ((r : EReal) * ((1 / 1024 : ℝ) : EReal))) := by
      norm_cast
      ring
    rw [h3]
    congr 1
    ac_rfl

end Cert.RmsBwd
-- ==== Proof.Args.lean ====
/- A function of several arguments takes equal values at equal arguments. -/
module

@[expose] public section

namespace Cert.Args

/-- Equal arguments, three of them. -/
theorem congr3 {α β γ η : Type} (f : α → β → γ → η) {a a' b b' c c'} (h0 : a = a') (h1 : b = b') (h2 : c = c') : f a b c = f a' b' c' := by
  subst h0 h1 h2
  rfl

/-- Equal arguments, four of them. -/
theorem congr4 {α β γ δ η : Type} (f : α → β → γ → δ → η) {a a' b b' c c' d d'} (h0 : a = a') (h1 : b = b') (h2 : c = c') (h3 : d = d') :
    f a b c d = f a' b' c' d' := by
  subst h0 h1 h2 h3
  rfl

/-- Equal arguments, five of them. -/
theorem congr5 {α β γ δ ε η : Type} (f : α → β → γ → δ → ε → η) {a a' b b' c c' d d' e e'} (h0 : a = a') (h1 : b = b') (h2 : c = c') (h3 : d = d')
    (h4 : e = e') : f a b c d e = f a' b' c' d' e' := by
  subst h0 h1 h2 h3 h4
  rfl

end Cert.Args
-- ==== Proof.Dh.lean ====
/- The gradient of the feed-forward layer's input and of its gain: the three arrays `Kernel10Ideal` writes are the reference's results. -/
module

public import proofs.«01_k».proof.Proof.Gen.Kernel10Ideal.Frame
public import proofs.«01_k».proof.Proof.Gen.Reference10Ideal.Read
public import proofs.«01_k».proof.Proof.RmsBwd
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Math

open Cert.Kernel10Ideal Cert.Kernel10Ideal.Gen

open Cert.Reference10Ideal.Read (val_main_v0 val_main_v1 val_main_v2 val_main_v3 val_main_v4 val_main_v5 val_main_v6 val_main_v7 val_main_v8 val_main_v9 val_main_v10 val_main_v11 val_main_v12 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_v35 val_main_v36 val_main_v37 val_main_cst val_main_cst_0 val_main_cst_1 val_main_cst_2 val_main_cst_3 val_main_cst_4 val_main_cst_5 val_main_cst_6)

variable (m : (ℓ : Loc nD τ sig) → Buf (Elt Ideal) ℓ)

/-- Every window's block index at every grid point. -/
theorem idx : ∀ t : Fin cfg0.N, win0_0.index t = ![0, t.val, 0] ∧ win0_1.index t = ![0, t.val, 0] ∧ win0_2.index t = ![0, 0, 0] ∧ win0_3.index t = ![t.val, 0]
    ∧ win0_4.index t = ![0, 0] ∧ win0_5.index t = ![t.val, 0] ∧ win0_6.index t = ![t.val, 0] ∧ win0_7.index t = ![t.val, 0] ∧ win0_8.index t = ![0, 0] ∧ t.val < 8 :=
  (by decide +kernel : ∀ t : Fin grid0.N, _)

/-- Row `r` of block `t`. -/
abbrev row (t : Fin cfg0.N) (r : Fin 512) : Fin 4096 := ⟨512 * t.val + r.val, by have := (idx t).2.2.2.2.2.2.2.2.2; omega⟩

/-- The cotangent's columns cut into eight blocks of 704. -/
def ctBlocks (ct : FVec Ideal S4096x5632 .f32) : FVec Ideal S8x4096x704 .bf16 :=
  truncf .bf16 (transpose S8x4096x704 [1, 0, 2] (shapeCast S4096x8x704 ct shapeCasts_S4096x5632_S4096x8x704)
    transposes_S4096x8x704_S8x4096x704_1_0_2) bitsLt_bf16_f32

/-- The first four blocks of the cotangent. -/
def ctLo (ct : FVec Ideal S4096x5632 .f32) : FVec Ideal S4x4096x704 .bf16 :=
  extractStridedSlice S4x4096x704 ![0, 0, 0] (ctBlocks ct) slices_S8x4096x704_S4x4096x704_0_0_0

/-- The last four blocks of the cotangent. -/
def ctHi (ct : FVec Ideal S4096x5632 .f32) : FVec Ideal S4x4096x704 .bf16 :=
  extractStridedSlice S4x4096x704 ![4, 0, 0] (ctBlocks ct) slices_S8x4096x704_S4x4096x704_4_0_0

/-- The weight as the call takes it. -/
def wCast (w : FVec Ideal S1024x5632 .f32) : FVec Ideal S8x704x1024 .bf16 :=
  truncf .bf16 (shapeCast S8x704x1024 (transpose S5632x1024 [1, 0] w transposes_S1024x5632_S5632x1024_1_0) shapeCasts_S5632x1024_S8x704x1024) bitsLt_bf16_f32

/-- The call's first operand is the first half of the cotangent's blocks. -/
theorem V_lo (c : Dev nD) : V m c main_v6 = ctLo (m ((c : Thread nD τ).loc main_arg3)) := by
  entry_read
  rfl

/-- The call's second operand is the second half of the cotangent's blocks. -/
theorem V_hi (c : Dev nD) : V m c main_v7 = ctHi (m ((c : Thread nD τ).loc main_arg3)) := by
  entry_read
  rfl

/-- The call's third operand is the weight. -/
theorem V_w (c : Dev nD) : V m c main_v5 = wCast (m ((c : Thread nD τ).loc main_arg2)) := by
  entry_read
  rfl

/-- The block of the cotangent's columns from column `0` on. -/
theorem blkLo (c : Dev nD) (t : Fin cfg0.N) (q : Fin 4) (r : Fin 512) (k : Fin 704) : iblk m c 0 t (ix3 q r k) = (m ((c : Thread nD τ).loc main_arg3)) (ix2 (row t r) ⟨0 + 704 * q.val + k.val, by omega⟩) := by
  blk_simp [iblk]
  rw [V_lo]
  pointwise [ctLo, ctBlocks]
  blk_point [idx t]

/-- The block of the cotangent's columns from column `2816` on. -/
theorem blkHi (c : Dev nD) (t : Fin cfg0.N) (q : Fin 4) (r : Fin 512) (k : Fin 704) : iblk m c 1 t (ix3 q r k) = (m ((c : Thread nD τ).loc main_arg3)) (ix2 (row t r) ⟨2816 + 704 * q.val + k.val, by omega⟩) := by
  blk_simp [iblk]
  rw [V_hi]
  pointwise [ctHi, ctBlocks]
  blk_point [idx t]

/-- The block of the weight. -/
theorem blkW (c : Dev nD) (t : Fin cfg0.N) (q : Fin 8) (k : Fin 704) (j : Fin 1024) : iblk m c 2 t (ix3 q k j) = (m ((c : Thread nD τ).loc main_arg2)) (ix2 j ⟨704 * q.val + k.val, by omega⟩) := by
  blk_simp [iblk]
  rw [V_w]
  pointwise [wCast]
  blk_point [idx t]

/-- Block `0` of the cotangent's columns. -/
theorem ct0 (c : Dev nD) (t : Fin cfg0.N) (r : Fin 512) (k : Fin 704) : (View.ld (iblk m c 0 t) (Rect.unit ![0, 0, 0] ![1, 512, 704] inb_S4x512x704_S1x512x704_0_0_0)) (ix3 0 r k) = (m ((c : Thread nD τ).loc main_arg3)) (ix2 (row t r) ⟨0 + k.val, by omega⟩) := by
  have h : (View.ld (iblk m c 0 t) (Rect.unit ![0, 0, 0] ![1, 512, 704] inb_S4x512x704_S1x512x704_0_0_0)) (ix3 0 r k) = iblk m c 0 t (ix3 0 r k) := by pointwise
  rw [h, blkLo]
  rfl

/-- Block `1` of the cotangent's columns. -/
theorem ct1 (c : Dev nD) (t : Fin cfg0.N) (r : Fin 512) (k : Fin 704) : (View.ld (iblk m c 0 t) (Rect.unit ![1, 0, 0] ![1, 512, 704] inb_S4x512x704_S1x512x704_1_0_0)) (ix3 0 r k) = (m ((c : Thread nD τ).loc main_arg3)) (ix2 (row t r) ⟨704 + k.val, by omega⟩) := by
  have h : (View.ld (iblk m c 0 t) (Rect.unit ![1, 0, 0] ![1, 512, 704] inb_S4x512x704_S1x512x704_1_0_0)) (ix3 0 r k) = iblk m c 0 t (ix3 1 r k) := by pointwise
  rw [h, blkLo]
  rfl

/-- Block `2` of the cotangent's columns. -/
theorem ct2 (c : Dev nD) (t : Fin cfg0.N) (r : Fin 512) (k : Fin 704) : (View.ld (iblk m c 0 t) (Rect.unit ![2, 0, 0] ![1, 512, 704] inb_S4x512x704_S1x512x704_2_0_0)) (ix3 0 r k) = (m ((c : Thread nD τ).loc main_arg3)) (ix2 (row t r) ⟨1408 + k.val, by omega⟩) := by
  have h : (View.ld (iblk m c 0 t) (Rect.unit ![2, 0, 0] ![1, 512, 704] inb_S4x512x704_S1x512x704_2_0_0)) (ix3 0 r k) = iblk m c 0 t (ix3 2 r k) := by pointwise
  rw [h, blkLo]
  rfl

/-- Block `3` of the cotangent's columns. -/
theorem ct3 (c : Dev nD) (t : Fin cfg0.N) (r : Fin 512) (k : Fin 704) : (View.ld (iblk m c 0 t) (Rect.unit ![3, 0, 0] ![1, 512, 704] inb_S4x512x704_S1x512x704_3_0_0)) (ix3 0 r k) = (m ((c : Thread nD τ).loc main_arg3)) (ix2 (row t r) ⟨2112 + k.val, by omega⟩) := by
  have h : (View.ld (iblk m c 0 t) (Rect.unit ![3, 0, 0] ![1, 512, 704] inb_S4x512x704_S1x512x704_3_0_0)) (ix3 0 r k) = iblk m c 0 t (ix3 3 r k) := by pointwise
  rw [h, blkLo]
  rfl

/-- Block `4` of the cotangent's columns. -/
theorem ct4 (c : Dev nD) (t : Fin cfg0.N) (r : Fin 512) (k : Fin 704) : (View.ld (iblk m c 1 t) (Rect.unit ![0, 0, 0] ![1, 512, 704] inb_S4x512x704_S1x512x704_0_0_0)) (ix3 0 r k) = (m ((c : Thread nD τ).loc main_arg3)) (ix2 (row t r) ⟨2816 + k.val, by omega⟩) := by
  have h : (View.ld (iblk m c 1 t) (Rect.unit ![0, 0, 0] ![1, 512, 704] inb_S4x512x704_S1x512x704_0_0_0)) (ix3 0 r k) = iblk m c 1 t (ix3 0 r k) := by pointwise
  rw [h, blkHi]
  rfl

/-- Block `5` of the cotangent's columns. -/
theorem ct5 (c : Dev nD) (t : Fin cfg0.N) (r : Fin 512) (k : Fin 704) : (View.ld (iblk m c 1 t) (Rect.unit ![1, 0, 0] ![1, 512, 704] inb_S4x512x704_S1x512x704_1_0_0)) (ix3 0 r k) = (m ((c : Thread nD τ).loc main_arg3)) (ix2 (row t r) ⟨3520 + k.val, by omega⟩) := by
  have h : (View.ld (iblk m c 1 t) (Rect.unit ![1, 0, 0] ![1, 512, 704] inb_S4x512x704_S1x512x704_1_0_0)) (ix3 0 r k) = iblk m c 1 t (ix3 1 r k) := by pointwise
  rw [h, blkHi]
  rfl

/-- Block `6` of the cotangent's columns. -/
theorem ct6 (c : Dev nD) (t : Fin cfg0.N) (r : Fin 512) (k : Fin 704) : (View.ld (iblk m c 1 t) (Rect.unit ![2, 0, 0] ![1, 512, 704] inb_S4x512x704_S1x512x704_2_0_0)) (ix3 0 r k) = (m ((c : Thread nD τ).loc main_arg3)) (ix2 (row t r) ⟨4224 + k.val, by omega⟩) := by
  have h : (View.ld (iblk m c 1 t) (Rect.unit ![2, 0, 0] ![1, 512, 704] inb_S4x512x704_S1x512x704_2_0_0)) (ix3 0 r k) = iblk m c 1 t (ix3 2 r k) := by pointwise
  rw [h, blkHi]
  rfl

/-- Block `7` of the cotangent's columns. -/
theorem ct7 (c : Dev nD) (t : Fin cfg0.N) (r : Fin 512) (k : Fin 704) : (View.ld (iblk m c 1 t) (Rect.unit ![3, 0, 0] ![1, 512, 704] inb_S4x512x704_S1x512x704_3_0_0)) (ix3 0 r k) = (m ((c : Thread nD τ).loc main_arg3)) (ix2 (row t r) ⟨4928 + k.val, by omega⟩) := by
  have h : (View.ld (iblk m c 1 t) (Rect.unit ![3, 0, 0] ![1, 512, 704] inb_S4x512x704_S1x512x704_3_0_0)) (ix3 0 r k) = iblk m c 1 t (ix3 3 r k) := by pointwise
  rw [h, blkHi]
  rfl

/-- The weight's blocks from block `0` on. -/
theorem wLo (c : Dev nD) (t : Fin cfg0.N) (p : Fin 4) (k : Fin 704) (j : Fin 1024) : (View.ld (iblk m c 2 t) (Rect.unit ![0, 0, 0] ![4, 704, 1024] inb_S8x704x1024_S4x704x1024_0_0_0)) (ix3 p k j) = (m ((c : Thread nD τ).loc main_arg2)) (ix2 j ⟨0 + 704 * p.val + k.val, by omega⟩) := by
  have h : (View.ld (iblk m c 2 t) (Rect.unit ![0, 0, 0] ![4, 704, 1024] inb_S8x704x1024_S4x704x1024_0_0_0)) (ix3 p k j) = iblk m c 2 t (ix3 ⟨0 + p.val, by omega⟩ k j) := by pointwise
  rw [h, blkW]
  exact congrArg (m ((c : Thread nD τ).loc main_arg2)) (congrArg (ix2 j) (Fin.ext (by show 704 * (0 + p.val) + k.val = 0 + 704 * p.val + k.val; omega)))

/-- The weight's blocks from block `4` on. -/
theorem wHi (c : Dev nD) (t : Fin cfg0.N) (p : Fin 4) (k : Fin 704) (j : Fin 1024) : (View.ld (iblk m c 2 t) (Rect.unit ![4, 0, 0] ![4, 704, 1024] inb_S8x704x1024_S4x704x1024_4_0_0)) (ix3 p k j) = (m ((c : Thread nD τ).loc main_arg2)) (ix2 j ⟨2816 + 704 * p.val + k.val, by omega⟩) := by
  have h : (View.ld (iblk m c 2 t) (Rect.unit ![4, 0, 0] ![4, 704, 1024] inb_S8x704x1024_S4x704x1024_4_0_0)) (ix3 p k j) = iblk m c 2 t (ix3 ⟨4 + p.val, by omega⟩ k j) := by pointwise
  rw [h, blkW]
  exact congrArg (m ((c : Thread nD τ).loc main_arg2)) (congrArg (ix2 j) (Fin.ext (by show 704 * (4 + p.val) + k.val = 2816 + 704 * p.val + k.val; omega)))

/-- The reference's gradient of the normalised rows. -/
abbrev dhR (c : Dev nD) (t : Fin 4096) (j : Fin 1024) : EReal := val_main_v16 (F := Ideal) (m ((c : Thread nD τ).loc main_arg2)) (m ((c : Thread nD τ).loc main_arg3)) (ix2 t j)

/-- A block's first product. -/
abbrev dLo (c : Dev nD) (t : Fin cfg0.N) : FVec Ideal S512x1024 .f32 := (k0_pay3 (F := Ideal) (View.ld (iblk m c 0 t) (Rect.unit ![0, 0, 0] ![1, 512, 704] inb_S4x512x704_S1x512x704_0_0_0)) (View.ld (iblk m c 0 t) (Rect.unit ![1, 0, 0] ![1, 512, 704] inb_S4x512x704_S1x512x704_1_0_0)) (View.ld (iblk m c 0 t) (Rect.unit ![2, 0, 0] ![1, 512, 704] inb_S4x512x704_S1x512x704_2_0_0)) (View.ld (iblk m c 0 t) (Rect.unit ![3, 0, 0] ![1, 512, 704] inb_S4x512x704_S1x512x704_3_0_0)) (View.ld (iblk m c 2 t) (Rect.unit ![0, 0, 0] ![4, 704, 1024] inb_S8x704x1024_S4x704x1024_0_0_0)))

/-- The cotangent's columns of a block's second product. -/
abbrev cHi (c : Dev nD) (t : Fin cfg0.N) : FVec Ideal S512x2816 .bf16 := (k0_pay4 (F := Ideal) (View.ld (iblk m c 1 t) (Rect.unit ![0, 0, 0] ![1, 512, 704] inb_S4x512x704_S1x512x704_0_0_0)) (View.ld (iblk m c 1 t) (Rect.unit ![1, 0, 0] ![1, 512, 704] inb_S4x512x704_S1x512x704_1_0_0)) (View.ld (iblk m c 1 t) (Rect.unit ![2, 0, 0] ![1, 512, 704] inb_S4x512x704_S1x512x704_2_0_0)) (View.ld (iblk m c 1 t) (Rect.unit ![3, 0, 0] ![1, 512, 704] inb_S4x512x704_S1x512x704_3_0_0)))

/-- The weight of a block's second product. -/
abbrev uHi (c : Dev nD) (t : Fin cfg0.N) : FVec Ideal S4x704x1024 .bf16 := (View.ld (iblk m c 2 t) (Rect.unit ![4, 0, 0] ![4, 704, 1024] inb_S8x704x1024_S4x704x1024_4_0_0))

/-- A sum of 5632 terms, cut in half. -/
theorem sum_half (f : Fin 5632 → EReal) : ∑ k, f k = (∑ k : Fin 2816, f ⟨k.val, by omega⟩) + ∑ k : Fin 2816, f ⟨2816 + k.val, by omega⟩ :=
  Fin.sum_univ_add (a := 2816) (b := 2816) f

/-- Four pieces of 704 entries side by side, read at an entry. -/
def cat (v0 v1 v2 v3 : Fin 704 → EReal) (x : Fin 2816) : EReal :=
  if h : x.val < 704 then v0 ⟨x.val, h⟩ else if h : x.val - 704 < 704 then v1 ⟨x.val - 704, h⟩
    else if h : x.val - 704 - 704 < 704 then v2 ⟨x.val - 704 - 704, h⟩ else v3 ⟨x.val - 704 - 704 - 704, by omega⟩

/-- Where the four pieces are consecutive runs of `f` from `o` on, so is the whole. -/
theorem cat_eq (v0 v1 v2 v3 : Fin 704 → EReal) (o : ℕ) (ho : o + 2816 ≤ 5632) (f : Fin 5632 → EReal) (g0 : ∀ k, v0 k = f ⟨o + k.val, by omega⟩)
    (g1 : ∀ k, v1 k = f ⟨o + 704 + k.val, by omega⟩) (g2 : ∀ k, v2 k = f ⟨o + 1408 + k.val, by omega⟩) (g3 : ∀ k, v3 k = f ⟨o + 2112 + k.val, by omega⟩)
    (x : Fin 2816) : cat v0 v1 v2 v3 x = f ⟨o + x.val, by omega⟩ := by
  unfold cat
  split_ifs with h0 h1 h2
  · exact (g0 _).trans (congrArg f (Fin.ext rfl))
  · exact (g1 _).trans (congrArg f (Fin.ext (by show o + 704 + (x.val - 704) = o + x.val; omega)))
  · exact (g2 _).trans (congrArg f (Fin.ext (by show o + 1408 + (x.val - 704 - 704) = o + x.val; omega)))
  · exact (g3 _).trans (congrArg f (Fin.ext (by show o + 2112 + (x.val - 704 - 704 - 704) = o + x.val; omega)))

/-- A block's two products, entry by entry. -/
theorem product_sum (v0 v1 v2 v3 v4 v5 v6 v7 : Vec Ideal S1x512x704 .bf16) (a b : Vec Ideal S4x704x1024 .bf16) (r : Fin 512) (j : Fin 1024) :
    k0_pay5 (F := Ideal) (k0_pay3 v0 v1 v2 v3 a) (k0_pay4 v4 v5 v6 v7) b (ix2 r j)
      = (∑ x : Fin 2816, cat (fun k => v0 (ix3 0 r k)) (fun k => v1 (ix3 0 r k)) (fun k => v2 (ix3 0 r k)) (fun k => v3 (ix3 0 r k)) x
          * @id EReal (a (ix3 ⟨x.val / 704, by omega⟩ ⟨x.val % 704, by omega⟩ j)))
        + ∑ x : Fin 2816, cat (fun k => v4 (ix3 0 r k)) (fun k => v5 (ix3 0 r k)) (fun k => v6 (ix3 0 r k)) (fun k => v7 (ix3 0 r k)) x
          * @id EReal (b (ix3 ⟨x.val / 704, by omega⟩ ⟨x.val % 704, by omega⟩ j)) := by
  pointwise [k0_pay5, k0_pay3, k0_pay4]
  rfl

/-- The two products of a block, its operands given entry by entry, are the reference's product. -/
theorem product (v0 v1 v2 v3 v4 v5 v6 v7 : Vec Ideal S1x512x704 .bf16) (a b : Vec Ideal S4x704x1024 .bf16) (w : FVec Ideal S1024x5632 .f32) (ct : FVec Ideal S4096x5632 .f32) (r : Fin 512) (R : Fin 4096) (j : Fin 1024)
    (g0 : ∀ k : Fin 704, v0 (ix3 0 r k) = ct (ix2 R ⟨0 + k.val, by omega⟩))
    (g1 : ∀ k : Fin 704, v1 (ix3 0 r k) = ct (ix2 R ⟨704 + k.val, by omega⟩))
    (g2 : ∀ k : Fin 704, v2 (ix3 0 r k) = ct (ix2 R ⟨1408 + k.val, by omega⟩))
    (g3 : ∀ k : Fin 704, v3 (ix3 0 r k) = ct (ix2 R ⟨2112 + k.val, by omega⟩))
    (g4 : ∀ k : Fin 704, v4 (ix3 0 r k) = ct (ix2 R ⟨2816 + k.val, by omega⟩))
    (g5 : ∀ k : Fin 704, v5 (ix3 0 r k) = ct (ix2 R ⟨3520 + k.val, by omega⟩))
    (g6 : ∀ k : Fin 704, v6 (ix3 0 r k) = ct (ix2 R ⟨4224 + k.val, by omega⟩))
    (g7 : ∀ k : Fin 704, v7 (ix3 0 r k) = ct (ix2 R ⟨4928 + k.val, by omega⟩))
    (gl : ∀ (p : Fin 4) (k : Fin 704), a (ix3 p k j) = w (ix2 j ⟨0 + 704 * p.val + k.val, by omega⟩))
    (gh : ∀ (p : Fin 4) (k : Fin 704), b (ix3 p k j) = w (ix2 j ⟨2816 + 704 * p.val + k.val, by omega⟩)) :
    k0_pay5 (F := Ideal) (k0_pay3 v0 v1 v2 v3 a) (k0_pay4 v4 v5 v6 v7) b (ix2 r j) = val_main_v16 (F := Ideal) w ct (ix2 R j) := by
  rw [product_sum]
  have h : val_main_v16 (F := Ideal) w ct (ix2 R j) = ∑ k : Fin 5632, @HMul.hMul EReal EReal EReal _ (ct (ix2 R k)) (w (ix2 j k)) := by
    pointwise [val_main_v16]
  rw [h, sum_half]
  refine congrArg₂ (fun a b : EReal => a + b) (Fin.sum_fin_congr fun x => ?_) (Fin.sum_fin_congr fun x => ?_)
  · rw [cat_eq _ _ _ _ 0 (by omega) (fun k => ct (ix2 R k)) g0 g1 g2 g3 x]
    refine congrArg₂ (fun a b : EReal => a * b) (congrArg ct (congrArg (ix2 R) (Fin.ext (Nat.zero_add _)))) ((gl _ _).trans (congrArg w (congrArg (ix2 j) (Fin.ext ?_))))
    show 0 + 704 * (x.val / 704) + x.val % 704 = x.val
    omega
  · rw [cat_eq _ _ _ _ 2816 (by omega) (fun k => ct (ix2 R k)) g4 g5 g6 g7 x]
    refine congrArg₂ (fun a b : EReal => a * b) rfl ((gh _ _).trans (congrArg w (congrArg (ix2 j) (Fin.ext ?_))))
    show 2816 + 704 * (x.val / 704) + x.val % 704 = 2816 + x.val
    omega

/-- A block's gradient of the normalised rows is the reference's. -/
theorem dh (c : Dev nD) (t : Fin cfg0.N) (r : Fin 512) (j : Fin 1024) : k0_pay5 (F := Ideal) (dLo m c t) (cHi m c t) (uHi m c t) (ix2 r j) = dhR m c (row t r) j :=
  product _ _ _ _ _ _ _ _ _ _ _ _ r (row t r) j (ct0 m c t r) (ct1 m c t r) (ct2 m c t r) (ct3 m c t r) (ct4 m c t r) (ct5 m c t r) (ct6 m c t r) (ct7 m c t r) (fun p k => wLo m c t p k j) fun p k => wHi m c t p k j

/-- The input's block. -/
theorem blk2 (c : Dev nD) (t : Fin cfg0.N) (r : Fin 512) (j : Fin 1024) : iblk m c 3 t (ix2 r j) = (m ((c : Thread nD τ).loc main_arg0)) (ix2 (row t r) j) := by
  blk_simp [iblk]
  rw [V_main_arg0]
  blk_point [idx t]

/-- The gain's block. -/
theorem blk3 (c : Dev nD) (t : Fin cfg0.N) (j : Fin 1024) : iblk m c 4 t (ix2 0 j) = (m ((c : Thread nD τ).loc main_arg1)) (ix2 0 j) := by
  blk_simp [iblk]
  rw [V_main_arg1]
  blk_point [idx t]

/-- The block of the gradient that passes the normalisation by. -/
theorem blk4 (c : Dev nD) (t : Fin cfg0.N) (r : Fin 512) (j : Fin 1024) : iblk m c 5 t (ix2 r j) = (m ((c : Thread nD τ).loc main_arg4)) (ix2 (row t r) j) := by
  blk_simp [iblk]
  rw [V_main_arg4]
  blk_point [idx t]

/-- A row's mean square with the small constant. -/
abbrev msq (X : Fin 1024 → EReal) : EReal := Ideal.div (∑ i, X i * X i) (Ideal.ofBits .f32 0x44800000#32) + Ideal.ofBits .f32 0x358637BD#32

/-- The reciprocal root of a row of a block. -/
theorem root (X : FVec Ideal S512x1024 .f32) (r : Fin 512) : k0_pay6 (F := Ideal) X (ix2 r 0) = Ideal.rsqrt (msq fun i => X (ix2 r i)) := by
  pointwise [k0_pay6]

/-- The normalised row of a block, before its gain. -/
theorem xn (X : FVec Ideal S512x1024 .f32) (r : Fin 512) (j : Fin 1024) :
    k0_pay7 (F := Ideal) X (ix2 r j) = @HMul.hMul EReal EReal EReal _ (X (ix2 r j)) (Ideal.rsqrt (msq fun i => X (ix2 r i))) := by
  have h := root X r
  pointwise [k0_pay7]
  rw [h]

/-- The gradient of a block's entry. -/
theorem pay8 (a : FVec Ideal S512x1024 .f32) (u : FVec Ideal S512x2816 .bf16) (b : FVec Ideal S4x704x1024 .bf16) (X : FVec Ideal S512x1024 .f32) (g : FVec Ideal S1x1024 .f32) (d : FVec Ideal S512x1024 .f32)
    (r : Fin 512) (j : Fin 1024) (D G x : Fin 1024 → EReal) (e : EReal) (hD : ∀ j, k0_pay5 (F := Ideal) a u b (ix2 r j) = D j) (hG : ∀ j, g (ix2 0 j) = G j) (hx : ∀ j, X (ix2 r j) = x j)
    (he : d (ix2 r j) = e) :
    k0_pay8 (F := Ideal) a u b X g d (ix2 r j)
      = e + Ideal.rsqrt (msq x) * (D j * G j - x j * Ideal.rsqrt (msq x) * Ideal.div (∑ i, D i * G i * (x i * Ideal.rsqrt (msq x))) (Ideal.ofBits .f32 0x44800000#32)) := by
  have h1 := root X r
  have h2 := xn X r
  have h3 : (fun i => X (ix2 r i)) = x := funext hx
  rw [h3] at h1 h2
  pointwise [k0_pay8]
  simp only [h1, h2, hD, hG, hx, he]

/-- A row's mean square in the reference. -/
theorem v6 (x : FVec Ideal S4096x1024 .f32) (t : Fin 4096) : val_main_v6 (F := Ideal) x (ix2 t 0) = msq fun i => x (ix2 t i) := by
  pointwise [val_main_v6, val_main_v5, val_main_v4, val_main_v3, val_main_v2, val_main_v1, val_main_v0, val_main_cst_1, val_main_cst_0, val_main_cst]

/-- Its reciprocal root. -/
theorem v7 (x : FVec Ideal S4096x1024 .f32) (t : Fin 4096) : val_main_v7 (F := Ideal) x (ix2 t 0) = Ideal.rsqrt (msq fun i => x (ix2 t i)) := by
  rw [← v6]
  rfl

/-- The reference's gradient of the input, entry by entry. -/
theorem v36 (x : FVec Ideal S4096x1024 .f32) (g : FVec Ideal S1x1024 .f32) (w : FVec Ideal S1024x5632 .f32) (ct : FVec Ideal S4096x5632 .f32) (d : FVec Ideal S4096x1024 .f32)
    (t : Fin 4096) (j : Fin 1024) (D G X : Fin 1024 → EReal) (hD : ∀ j, val_main_v16 (F := Ideal) w ct (ix2 t j) = D j) (hG : ∀ j, g (ix2 0 j) = G j) (hX : ∀ j, x (ix2 t j) = X j) :
    val_main_v36 (F := Ideal) x g w ct d (ix2 t j)
      = d (ix2 t j) + Ideal.rsqrt (msq X) * (D j * G j - X j * Ideal.rsqrt (msq X) * Ideal.div (∑ i, D i * G i * (X i * Ideal.rsqrt (msq X))) (Ideal.ofBits .f32 0x44800000#32)) := by
  rw [← RmsBwd.grad X _ rfl D G]
  have h1 := v6 x t
  have h2 := v7 x t
  have h3 : (fun i => x (ix2 t i)) = X := funext hX
  rw [h3] at h1 h2
  pointwise [val_main_v36, val_main_v35, val_main_v34, val_main_v33, val_main_v32, val_main_v31, val_main_v30, val_main_v29, val_main_v28, val_main_v27, val_main_v26, val_main_v25,
    val_main_v24, val_main_v23, val_main_v22, val_main_v21, val_main_v20, val_main_v10, val_main_v9, val_main_v8, val_main_cst_2, val_main_cst_4, val_main_cst_5, val_main_cst_6]
  simp only [h1, h2, hD, hG, hX, Fin.sum_univ_one]

/-- A block's gradient of the input is the reference's. -/
theorem key (c : Dev nD) (t : Fin cfg0.N) (r : Fin 512) (j : Fin 1024) : k0_pay8 (F := Ideal) (dLo m c t) (cHi m c t) (uHi m c t) (iblk m c 3 t) (iblk m c 4 t) (iblk m c 5 t) (ix2 r j)
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) :=
  (pay8 _ _ _ _ _ _ r j _ _ _ _ (dh m c t r) (blk3 m c t) (blk2 m c t r) (blk4 m c t r j)).trans (v36 _ _ _ _ _ (row t r) j _ _ _ (fun _ => rfl) (fun _ => rfl) fun _ => rfl).symm

/-- The first result array. -/
theorem final6 (c : Dev nD) : (dats m 0 c).arrAt 6 (cfgs 0).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have e : ((cfg0.win 6).blk t).view.emb y = ix2 (row t (y 0)) (y 1) := by blk_ext [idx t]
  rw [e, eq_ix2 y]
  rcases Nat.eq_zero_or_pos (t.val % 8) with h | h
  · rw [outsAt0_A m c t h]
    frame_out
    exact key m c t (y 0) (y 1)
  · rw [outsAt0_B m c t (by omega)]
    frame_out
    exact key m c t (y 0) (y 1)

/-- The second result array. -/
theorem final7 (c : Dev nD) : (dats m 0 c).arrAt 7 (cfgs 0).N = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  have e : ((cfg0.win 7).blk t).view.emb y = ix2 (row t (y 0)) (y 1) := by blk_ext [idx t]
  rw [e, eq_ix2 y]
  rcases Nat.eq_zero_or_pos (t.val % 8) with h | h
  · rw [outsAt0_A m c t h]
    frame_out
    refine Eq.trans ?_ ((key m c t (y 0) (y 1)).trans ?_)
    · pointwise [k0_pay9]
      rfl
    · pointwise [val_main_v37]
  · rw [outsAt0_B m c t (by omega)]
    frame_out
    refine Eq.trans ?_ ((key m c t (y 0) (y 1)).trans ?_)
    · pointwise [k0_pay9]
      rfl
    · pointwise [val_main_v37]

/-- Block `t`'s part of the gain's gradient. -/
def part (c : Dev nD) (t : Fin cfg0.N) (j : Fin 1024) : EReal :=
  ∑ r : Fin 512, dhR m c (row t r) j * @HMul.hMul EReal EReal EReal _ ((m ((c : Thread nD τ).loc main_arg0)) (ix2 (row t r) j)) (Ideal.rsqrt (msq fun i => (m ((c : Thread nD τ).loc main_arg0)) (ix2 (row t r) i)))

/-- What a point adds to the gain's gradient. -/
theorem pay1 (c : Dev nD) (t : Fin cfg0.N) (v : FVec Ideal S1x1024 .f32) (j : Fin 1024) :
    k0_pay1 (F := Ideal) (k0_pay10 v) (k0_pay11 (dLo m c t) (cHi m c t) (uHi m c t) (iblk m c 3 t)) (ix2 0 j) = @HAdd.hAdd EReal EReal EReal _ (v (ix2 0 j)) (part m c t j) := by
  have h1 := fun r => xn (iblk m c 3 t) r j
  have h2 := fun r => dh m c t r j
  unfold part
  pointwise [k0_pay1, k0_pay10, k0_pay11]
  simp only [h1, h2, blk2]

theorem stepA (c : Dev nD) (t : Fin cfg0.N) (h : t.val % 8 = 0) (j : Fin 1024) : (outsAt0 m c t.val t.isLt).2.2 (ix2 0 j) = 0 + part m c t j := by
  rw [outsAt0_A m c t h]
  frame_out
  refine (pay1 m c t _ j).trans ?_
  exact congrArg (fun a : EReal => a + part m c t j) (by pointwise [k0_pay2])

theorem stepB (c : Dev nD) (t : Fin cfg0.N) (h : ¬t.val % 8 = 0) (j : Fin 1024) :
    (outsAt0 m c t.val t.isLt).2.2 (ix2 0 j) = (outsAt0 m c (t.val - 1) (Nat.lt_of_le_of_lt (Nat.sub_le _ _) t.isLt)).2.2 (ix2 0 j) + part m c t j := by
  rw [outsAt0_B m c t h]
  frame_out
  exact pay1 m c t _ j

/-- The second result's block after the last point. -/
theorem acc (c : Dev nD) (j : S1x1024.Idx) : (outsAt0 m c t0_7.val t0_7.isLt).2.2 j = ∑ p : Fin cfg0.N, part m c p (j 1) := by
  rw [Pipeline.eq_sum_fin_of_reset_step_apply_last (fun n h => (outsAt0 m c n h).2.2) 8 (fun _ => 0) (fun t i => part m c t (i 1))
    (fun t h i => by rw [eq_ix2 i, Fin.fin_one_eq_zero (i 0)]; exact stepA m c t h (i 1)) (fun t h i => by rw [eq_ix2 i, Fin.fin_one_eq_zero (i 0)]; exact stepB m c t h (i 1))
    (le_of_eq N_0) t0_7 rfl j, zero_add]

/-- The sum of every block's part is the reference's gradient of the gain. -/
theorem sum_part (c : Dev nD) (j : Fin 1024) : (∑ p : Fin cfg0.N, part m c p j) = val_main_v19 (F := Ideal) (m ((c : Thread nD τ).loc main_arg0)) (m ((c : Thread nD τ).loc main_arg2)) (m ((c : Thread nD τ).loc main_arg3)) (ix2 0 j) := by
  have h1 := fun t => v7 (m ((c : Thread nD τ).loc main_arg0)) t
  have h : val_main_v19 (F := Ideal) (m ((c : Thread nD τ).loc main_arg0)) (m ((c : Thread nD τ).loc main_arg2)) (m ((c : Thread nD τ).loc main_arg3)) (ix2 0 j)
      = ∑ t : Fin 4096, dhR m c t j * @HMul.hMul EReal EReal EReal _ ((m ((c : Thread nD τ).loc main_arg0)) (ix2 t j)) (Ideal.rsqrt (msq fun i => (m ((c : Thread nD τ).loc main_arg0)) (ix2 t i))) := by
    unfold dhR
    pointwise [val_main_v19, val_main_v18, val_main_v17, val_main_v12, val_main_v11, val_main_cst_3]
    simp only [h1]
    exact Finset.sum_congr rfl fun t _ => mul_comm _ _
  rw [h]
  exact Fin.sum_mul_add_congr fun p r hl => by
    have e : (⟨p.val * 512 + r.val, hl⟩ : Fin 4096) = row p r := Fin.ext (by simp; omega)
    rw [e]

/-- The third result array. -/
theorem final8 (c : Dev nD) : (dats m 0 c).arrAt 8 (cfgs 0).N = val_main_v19 (F := Ideal) (m ((c : Thread nD τ).loc main_arg0)) (m ((c : Thread nD τ).loc main_arg2)) (m ((c : Thread nD τ).loc main_arg3)) := by
  refine (dats m 0 c).arrAt_eq_of_after_last 8 t0_7 (by decide +kernel) _ fun j => ?_
  blk_simp
  rw [after0_8]
  refine (acc m c j).trans ?_
  rw [eq_ix2 j, Fin.fin_one_eq_zero (j 0)]
  exact sum_part m c (j 1)

/-- Kernel and reference of the feed-forward layer's input gradient end with equal results. -/
theorem algebraic : Cert.algebraic_Kernel10Ideal_Reference10Ideal := by
  pair_intro
  · run_from Cert.Kernel10Ideal.Gen.run_main m g
    all_goals first | exact V_main_arg0 m c | exact V_main_arg1 m c | exact V_main_arg2 m c | exact V_main_arg3 m c | exact V_main_arg4 m c
  · refine (θ_run _ _ _).mono (fun r h c => ?_) (Cert.Reference10Ideal.Value.run m' g')
    obtain ⟨e0, e1, e2, e3, e4⟩ := hagree c
    obtain ⟨h0, h1, h2, ha⟩ := h c
    refine ⟨h0.trans ((Cert.Reference10Ideal.Read.val_main_v36_eq _ _).trans (.trans ?_ (final6 m c).symm)), h1.trans ((Cert.Reference10Ideal.Read.val_main_v37_eq _ _).trans (.trans ?_ (final7 m c).symm)), h2.trans ((Cert.Reference10Ideal.Read.val_main_v19_eq _ _ _).trans (.trans ?_ (final8 m c).symm)), ha⟩
    · exact Args.congr5 val_main_v36 e0 e1 e2 e3 e4
    · exact Args.congr5 val_main_v37 e0 e1 e2 e3 e4
    · exact Args.congr3 val_main_v19 e0 e2 e3

end Cert.Kernel10Ideal.Math

end
-- ==== Proof.MixDh.lean ====
/- The gradient of the step's input and of the first gain: the two arrays `Kernel11Ideal` writes are the reference's results. -/
module

public import proofs.«01_k».proof.Proof.Gen.Kernel11Ideal.Frame
public import proofs.«01_k».proof.Proof.Gen.Reference11Ideal.Read
public import proofs.«01_k».proof.Proof.RmsBwd
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Math

open Cert.Kernel11Ideal Cert.Kernel11Ideal.Gen

open Cert.Reference11Ideal.Read (val_main_v0 val_main_v1 val_main_v2 val_main_v3 val_main_v4 val_main_v5 val_main_v6 val_main_v7 val_main_v8 val_main_v9 val_main_v10 val_main_v11 val_main_v12 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_v35 val_main_v36 val_main_cst val_main_cst_0 val_main_cst_1 val_main_cst_2 val_main_cst_3 val_main_cst_4 val_main_cst_5 val_main_cst_6)

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ t.val < 8 :=
  (by decide +kernel : ∀ t : Fin grid0.N, _)

/-- Row `r` of block `t`. -/
abbrev row (t : Fin cfg0.N) (r : Fin 512) : Fin 4096 := ⟨512 * t.val + r.val, by have := (idx t).2.2.2.2.2.2.2; omega⟩

/-- The cotangent as the call takes it. -/
def ctCast (ct : FVec Ideal S4096x2560 .f32) : FVec Ideal S4096x2560 .bf16 := truncf .bf16 ct bitsLt_bf16_f32

/-- The weight as the call takes it. -/
def wCast (w : FVec Ideal S1024x2560 .f32) : FVec Ideal S2560x1024 .bf16 :=
  truncf .bf16 (transpose S2560x1024 [1, 0] w transposes_S1024x2560_S2560x1024_1_0) bitsLt_bf16_f32

/-- The call's first operand is the cotangent. -/
theorem V_ct (c : Dev nD) : V m c main_v0 = ctCast (m ((c : Thread nD τ).loc main_arg3)) := by
  entry_read
  rfl

/-- The call's second operand is the weight. -/
theorem V_w (c : Dev nD) : V m c main_v2 = wCast (m ((c : Thread nD τ).loc main_arg2)) := by
  entry_read
  rfl

/-- The reference's gradient of the normalised rows. -/
abbrev dhR (c : Dev nD) (t : Fin 4096) (j : Fin 1024) : EReal := val_main_v16 (F := Ideal) (m ((c : Thread nD τ).loc main_arg2)) (m ((c : Thread nD τ).loc main_arg3)) (ix2 t j)

/-- A block's gradient of the normalised rows is the reference's. -/
theorem dh (c : Dev nD) (t : Fin cfg0.N) (r : Fin 512) (j : Fin 1024) : k0_pay3 (F := Ideal) (iblk m c 0 t) (iblk m c 1 t) (ix2 r j) = dhR m c (row t r) j := by
  unfold dhR
  pointwise [k0_pay3, val_main_v16]
  refine Fin.sum_fin_congr fun k => ?_
  blk_simp [iblk]
  rw [V_ct, V_w]
  pointwise [ctCast, wCast]
  blk_point [idx t]

/-- The input's block. -/
theorem blk2 (c : Dev nD) (t : Fin cfg0.N) (r : Fin 512) (j : Fin 1024) : iblk m c 2 t (ix2 r j) = (m ((c : Thread nD τ).loc main_arg0)) (ix2 (row t r) j) := by
  blk_simp [iblk]
  rw [V_main_arg0]
  blk_point [idx t]

/-- The gain's block. -/
theorem blk3 (c : Dev nD) (t : Fin cfg0.N) (j : Fin 1024) : iblk m c 3 t (ix2 0 j) = (m ((c : Thread nD τ).loc main_arg1)) (ix2 0 j) := by
  blk_simp [iblk]
  rw [V_main_arg1]
  blk_point [idx t]

/-- The block of the gradient that passes the normalisation by. -/
theorem blk4 (c : Dev nD) (t : Fin cfg0.N) (r : Fin 512) (j : Fin 1024) : iblk m c 4 t (ix2 r j) = (m ((c : Thread nD τ).loc main_arg4)) (ix2 (row t r) j) := by
  blk_simp [iblk]
  rw [V_main_arg4]
  blk_point [idx t]

/-- A row's mean square with the small constant. -/
abbrev msq (X : Fin 1024 → EReal) : EReal := Ideal.div (∑ i, X i * X i) (Ideal.ofBits .f32 0x44800000#32) + Ideal.ofBits .f32 0x358637BD#32

/-- The reciprocal root of a row of a block. -/
theorem root (X : FVec Ideal S512x1024 .f32) (r : Fin 512) : k0_pay4 (F := Ideal) X (ix2 r 0) = Ideal.rsqrt (msq fun i => X (ix2 r i)) := by
  pointwise [k0_pay4]

/-- The normalised row of a block, before its gain. -/
theorem xn (X : FVec Ideal S512x1024 .f32) (r : Fin 512) (j : Fin 1024) :
    k0_pay5 (F := Ideal) X (ix2 r j) = @HMul.hMul EReal EReal EReal _ (X (ix2 r j)) (Ideal.rsqrt (msq fun i => X (ix2 r i))) := by
  have h := root X r
  pointwise [k0_pay5]
  rw [h]

/-- The gradient of a block's entry. -/
theorem pay7 (a : FVec Ideal S512x2560 .bf16) (b : FVec Ideal S2560x1024 .bf16) (X : FVec Ideal S512x1024 .f32) (g : FVec Ideal S1x1024 .f32) (d : FVec Ideal S512x1024 .f32)
    (r : Fin 512) (j : Fin 1024) (D G x : Fin 1024 → EReal) (e : EReal) (hD : ∀ j, k0_pay3 (F := Ideal) a b (ix2 r j) = D j) (hG : ∀ j, g (ix2 0 j) = G j) (hx : ∀ j, X (ix2 r j) = x j)
    (he : d (ix2 r j) = e) :
    k0_pay7 (F := Ideal) a b X g d (ix2 r j)
      = e + Ideal.rsqrt (msq x) * (D j * G j - x j * Ideal.rsqrt (msq x) * Ideal.div (∑ i, D i * G i * (x i * Ideal.rsqrt (msq x))) (Ideal.ofBits .f32 0x44800000#32)) := by
  have h1 := root X r
  have h2 := xn X r
  have h3 : (fun i => X (ix2 r i)) = x := funext hx
  rw [h3] at h1 h2
  pointwise [k0_pay7]
  simp only [h1, h2, hD, hG, hx, he]

/-- A row's mean square in the reference. -/
theorem v6 (x : FVec Ideal S4096x1024 .f32) (t : Fin 4096) : val_main_v6 (F := Ideal) x (ix2 t 0) = msq fun i => x (ix2 t i) := by
  pointwise [val_main_v6, val_main_v5, val_main_v4, val_main_v3, val_main_v2, val_main_v1, val_main_v0, val_main_cst_1, val_main_cst_0, val_main_cst]

/-- Its reciprocal root. -/
theorem v7 (x : FVec Ideal S4096x1024 .f32) (t : Fin 4096) : val_main_v7 (F := Ideal) x (ix2 t 0) = Ideal.rsqrt (msq fun i => x (ix2 t i)) := by
  rw [← v6]
  rfl

/-- The reference's gradient of the input, entry by entry. -/
theorem v36 (x : FVec Ideal S4096x1024 .f32) (g : FVec Ideal S1x1024 .f32) (w : FVec Ideal S1024x2560 .f32) (ct : FVec Ideal S4096x2560 .f32) (d : FVec Ideal S4096x1024 .f32)
    (t : Fin 4096) (j : Fin 1024) (D G X : Fin 1024 → EReal) (hD : ∀ j, val_main_v16 (F := Ideal) w ct (ix2 t j) = D j) (hG : ∀ j, g (ix2 0 j) = G j) (hX : ∀ j, x (ix2 t j) = X j) :
    val_main_v36 (F := Ideal) x g w ct d (ix2 t j)
      = d (ix2 t j) + Ideal.rsqrt (msq X) * (D j * G j - X j * Ideal.rsqrt (msq X) * Ideal.div (∑ i, D i * G i * (X i * Ideal.rsqrt (msq X))) (Ideal.ofBits .f32 0x44800000#32)) := by
  rw [← RmsBwd.grad X _ rfl D G]
  have h1 := v6 x t
  have h2 := v7 x t
  have h3 : (fun i => x (ix2 t i)) = X := funext hX
  rw [h3] at h1 h2
  pointwise [val_main_v36, val_main_v35, val_main_v34, val_main_v33, val_main_v32, val_main_v31, val_main_v30, val_main_v29, val_main_v28, val_main_v27, val_main_v26, val_main_v25,
    val_main_v24, val_main_v23, val_main_v22, val_main_v21, val_main_v20, val_main_v10, val_main_v9, val_main_v8, val_main_cst_2, val_main_cst_4, val_main_cst_5, val_main_cst_6]
  simp only [h1, h2, hD, hG, hX, Fin.sum_univ_one]

/-- The first result array. -/
theorem final5 (c : Dev nD) : (dats m 0 c).arrAt 5 (cfgs 0).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have key : ∀ (t : Fin cfg0.N) (r : Fin 512) (j : Fin 1024), k0_pay7 (F := Ideal) (iblk m c 0 t) (iblk m c 1 t) (iblk m c 2 t) (iblk m c 3 t) (iblk m c 4 t) (ix2 r j)
      = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := fun t r j =>
    (pay7 _ _ _ _ _ r j _ _ _ _ (dh m c t r) (blk3 m c t) (blk2 m c t r) (blk4 m c t r j)).trans (v36 _ _ _ _ _ (row t r) j _ _ _ (fun _ => rfl) (fun _ => rfl) fun _ => rfl).symm
  refine (dats m 0 c).arrAt_eq_of_covers 5 _ (by decide +kernel) fun t hf y => ?_
  blk_simp; rw [after0_5]
  have e : ((cfg0.win 5).blk t).view.emb y = ix2 (row t (y 0)) (y 1) := by blk_ext [idx t]
  rw [e, eq_ix2 y]
  rcases Nat.eq_zero_or_pos (t.val % 8) with h | h
  · rw [outsAt0_A m c t h]
    frame_out
    exact key t (y 0) (y 1)
  · rw [outsAt0_B m c t (by omega)]
    frame_out
    exact key t (y 0) (y 1)

/-- Block `t`'s part of the gain's gradient. -/
def part (c : Dev nD) (t : Fin cfg0.N) (j : Fin 1024) : EReal :=
  ∑ r : Fin 512, dhR m c (row t r) j * @HMul.hMul EReal EReal EReal _ ((m ((c : Thread nD τ).loc main_arg0)) (ix2 (row t r) j)) (Ideal.rsqrt (msq fun i => (m ((c : Thread nD τ).loc main_arg0)) (ix2 (row t r) i)))

/-- What a point adds to the gain's gradient. -/
theorem pay1 (c : Dev nD) (t : Fin cfg0.N) (v : FVec Ideal S1x1024 .f32) (j : Fin 1024) :
    k0_pay1 (F := Ideal) (k0_pay6 (iblk m c 0 t) (iblk m c 1 t) (iblk m c 2 t)) v (ix2 0 j) = @HAdd.hAdd EReal EReal EReal _ (v (ix2 0 j)) (part m c t j) := by
  have h1 := fun r => xn (iblk m c 2 t) r j
  have h2 := fun r => dh m c t r j
  unfold part
  pointwise [k0_pay1, k0_pay6]
  simp only [h1, h2, blk2]

theorem stepA (c : Dev nD) (t : Fin cfg0.N) (h : t.val % 8 = 0) (j : Fin 1024) : (outsAt0 m c t.val t.isLt).2 (ix2 0 j) = 0 + part m c t j := by
  rw [outsAt0_A m c t h]
  frame_out
  refine (pay1 m c t _ j).trans ?_
  exact congrArg (fun a : EReal => a + part m c t j) (by pointwise [k0_pay2])

theorem stepB (c : Dev nD) (t : Fin cfg0.N) (h : ¬t.val % 8 = 0) (j : Fin 1024) :
    (outsAt0 m c t.val t.isLt).2 (ix2 0 j) = (outsAt0 m c (t.val - 1) (Nat.lt_of_le_of_lt (Nat.sub_le _ _) t.isLt)).2 (ix2 0 j) + part m c t j := by
  rw [outsAt0_B m c t h]
  frame_out
  exact pay1 m c t _ j

/-- The second result's block after the last point. -/
theorem acc (c : Dev nD) (j : S1x1024.Idx) : (outsAt0 m c t0_7.val t0_7.isLt).2 j = ∑ p : Fin cfg0.N, part m c p (j 1) := by
  rw [Pipeline.eq_sum_fin_of_reset_step_apply_last (fun n h => (outsAt0 m c n h).2) 8 (fun _ => 0) (fun t i => part m c t (i 1))
    (fun t h i => by rw [eq_ix2 i, Fin.fin_one_eq_zero (i 0)]; exact stepA m c t h (i 1)) (fun t h i => by rw [eq_ix2 i, Fin.fin_one_eq_zero (i 0)]; exact stepB m c t h (i 1))
    (le_of_eq N_0) t0_7 rfl j, zero_add]

/-- The sum of every block's part is the reference's gradient of the gain. -/
theorem sum_part (c : Dev nD) (j : Fin 1024) : (∑ p : Fin cfg0.N, part m c p j) = val_main_v19 (F := Ideal) (m ((c : Thread nD τ).loc main_arg0)) (m ((c : Thread nD τ).loc main_arg2)) (m ((c : Thread nD τ).loc main_arg3)) (ix2 0 j) := by
  have h1 := fun t => v7 (m ((c : Thread nD τ).loc main_arg0)) t
  have h : val_main_v19 (F := Ideal) (m ((c : Thread nD τ).loc main_arg0)) (m ((c : Thread nD τ).loc main_arg2)) (m ((c : Thread nD τ).loc main_arg3)) (ix2 0 j)
      = ∑ t : Fin 4096, dhR m c t j * @HMul.hMul EReal EReal EReal _ ((m ((c : Thread nD τ).loc main_arg0)) (ix2 t j)) (Ideal.rsqrt (msq fun i => (m ((c : Thread nD τ).loc main_arg0)) (ix2 t i))) := by
    unfold dhR
    pointwise [val_main_v19, val_main_v18, val_main_v17, val_main_v12, val_main_v11, val_main_cst_3]
    simp only [h1]
    exact Finset.sum_congr rfl fun t _ => mul_comm _ _
  rw [h]
  exact Fin.sum_mul_add_congr fun p r hl => by
    have e : (⟨p.val * 512 + r.val, hl⟩ : Fin 4096) = row p r := Fin.ext (by simp; omega)
    rw [e]

/-- The second result array. -/
theorem final6 (c : Dev nD) : (dats m 0 c).arrAt 6 (cfgs 0).N = val_main_v19 (F := Ideal) (m ((c : Thread nD τ).loc main_arg0)) (m ((c : Thread nD τ).loc main_arg2)) (m ((c : Thread nD τ).loc main_arg3)) := by
  refine (dats m 0 c).arrAt_eq_of_after_last 6 t0_7 (by decide +kernel) _ fun j => ?_
  blk_simp
  rw [after0_6]
  refine (acc m c j).trans ?_
  rw [eq_ix2 j, Fin.fin_one_eq_zero (j 0)]
  exact sum_part m c (j 1)

/-- Kernel and reference of the input's gradient end with equal results. -/
theorem algebraic : Cert.algebraic_Kernel11Ideal_Reference11Ideal := by
  pair_intro
  · run_from Cert.Kernel11Ideal.Gen.run_main m g
    all_goals first | exact V_main_arg0 m c | exact V_main_arg1 m c | exact V_main_arg2 m c | exact V_main_arg3 m c | exact V_main_arg4 m c
  · refine (θ_run _ _ _).mono (fun r h c => ?_) (Cert.Reference11Ideal.Value.run m' g')
    obtain ⟨e0, e1, e2, e3, e4⟩ := hagree c
    obtain ⟨h0, h1, ha⟩ := h c
    refine ⟨h0.trans ((Cert.Reference11Ideal.Read.val_main_v36_eq _ _).trans (.trans ?_ (final5 m c).symm)), h1.trans ((Cert.Reference11Ideal.Read.val_main_v19_eq _ _ _).trans (.trans ?_ (final6 m c).symm)), ha⟩
    · exact Args.congr5 val_main_v36 e0 e1 e2 e3 e4
    · exact Args.congr3 val_main_v19 e0 e2 e3

end Cert.Kernel11Ideal.Math

end
-- ==== Proof.MidDown.lean ====
/- The convolution, the gate and the down-projection: the four arrays `Kernel12Ideal` writes are the reference's results. -/
module

public import proofs.«01_k».proof.Proof.Gen.Kernel12Ideal.Frame
public import proofs.«01_k».proof.Proof.Gen.Kernel12Ideal.Value
public import proofs.«01_k».proof.Proof.Gen.Reference12Ideal.Read
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.Math

open Cert.Kernel12Ideal Cert.Kernel12Ideal.Gen

/-- The rows from `o` on of `Q` followed by `P`. -/
def rows (o : ℕ) (Q : FVec Ideal S16x704 .f32) (P : FVec Ideal S256x704 .f32) : FVec Ideal S256x704 .f32 := fun i =>
  if h : o + (i 0).val < 16 then Q (ix2 ⟨o + (i 0).val, h⟩ (i 1))
  else if h' : o + (i 0).val - 16 < 256 then P (ix2 ⟨o + (i 0).val - 16, h'⟩ (i 1)) else (0 : EReal)

section scratch

variable {e : EltTy} {s s0 s1 o n : ℕ}

/-- A store of rows into a slot, read at one of these rows. -/
theorem canon_hit {inb : ∀ a, (![s, 0, 0] : Fin 3 → ℕ) a + (![1, 272, 704] : Fin 3 → ℕ) a ≤ S4x272x704.size a}
    {inb' : ∀ a, (![o, 0] : Fin 2 → ℕ) a + (![n, 704] : Fin 2 → ℕ) a ≤ S272x704.size a} {h0 hs pf hR}
    (P : (⟨2, ![n, 704]⟩ : Shape).Idx → Elt Ideal e) (L : List (View.Piece (Elt Ideal) S4x272x704 e)) (a : Fin 4) (r : Fin 272) (x : Fin n) (j : Fin 704)
    (ha : a.val = s) (hr : r.val = o + x.val) :
    View.canon (⟨(Rect.unit (s := S4x272x704) ![s, 0, 0] ![1, 272, 704] inb).within ((Rect.unit (s := S272x704) ![o, 0] ![n, 704] inb').consLift ![1, 272, 704] h0 hs) pf,
      Rect.payAlong (r := Rect.unit (s := S272x704) ![o, 0] ![n, 704] inb') (V := Elt Ideal e) hR P⟩ :: L) (ix3 a r j) = P (ix2 x j) := by
  have h := View.canon_cons_emb (Val := Elt Ideal) (e := e) ((Rect.unit (s := S4x272x704) ![s, 0, 0] ![1, 272, 704] inb).within ((Rect.unit (s := S272x704) ![o, 0] ![n, 704] inb').consLift ![1, 272, 704] h0 hs) pf)
    (Rect.payAlong (r := Rect.unit (s := S272x704) ![o, 0] ![n, 704] inb') (V := Elt Ideal e) hR P) L (Fin.cons ⟨0, Nat.one_pos⟩ (ix2 x j))
  refine Eq.trans (congrArg _ ?_) (h.trans ?_)
  · funext k
    refine Fin.ext ?_
    fin_cases k
    · show a.val = s + 0 + 1 * 0
      omega
    · show r.val = 0 + o + 1 * x.val
      omega
    · show j.val = 0 + 0 + 1 * j.val
      omega
  · exact Rect.payAlong_consLift (Rect.unit (s := S272x704) ![o, 0] ![n, 704] inb') ![1, 272, 704] h0 hs P hR (Fin.cons ⟨0, Nat.one_pos⟩ (ix2 x j)) (ix2 x j) fun i => rfl

/-- A store of rows into a slot, read elsewhere. -/
theorem canon_miss {inb : ∀ a, (![s, 0, 0] : Fin 3 → ℕ) a + (![1, 272, 704] : Fin 3 → ℕ) a ≤ S4x272x704.size a}
    {inb' : ∀ a, (![o, 0] : Fin 2 → ℕ) a + (![n, 704] : Fin 2 → ℕ) a ≤ S272x704.size a} {h0 hs pf}
    (P) (L : List (View.Piece (Elt Ideal) S4x272x704 e)) (a : Fin 4) (r : Fin 272) (j : Fin 704)
    (h : a.val ≠ s ∨ r.val < o ∨ o + n ≤ r.val) :
    View.canon (⟨(Rect.unit (s := S4x272x704) ![s, 0, 0] ![1, 272, 704] inb).within ((Rect.unit (s := S272x704) ![o, 0] ![n, 704] inb').consLift ![1, 272, 704] h0 hs) pf,
      P⟩ :: L) (ix3 a r j) = View.canon L (ix3 a r j) := by
  refine View.canon_cons_of_not_mem (Val := Elt Ideal) _ L fun hm => ?_
  refine absurd hm ?_
  rcases h with h | h
  · exact Rect.not_mem_set_of_axis _ _ (0 : Fin 3) s 1 rfl rfl rfl (by show a.val < s ∨ s + 1 ≤ a.val; omega)
  · exact Rect.not_mem_set_of_axis _ _ (1 : Fin 3) o n (Nat.zero_add o) rfl rfl h

/-- What a load of rows of a slot reads. -/
theorem load_rows {inb : ∀ a, (![s, 0, 0] : Fin 3 → ℕ) a + (![1, 272, 704] : Fin 3 → ℕ) a ≤ S4x272x704.size a}
    {inb' : ∀ a, (![o, 0] : Fin 2 → ℕ) a + (![256, 704] : Fin 2 → ℕ) a ≤ S272x704.size a} {h0 hs pf hR}
    (L : List (View.Piece (Elt Ideal) S4x272x704 .f32)) (r : Fin 256) (j : Fin 704) (ha : s < 4) (hr : o + r.val < 272) :
    LoadRect.valAlong (lr := (Rect.unit (s := S272x704) ![o, 0] ![256, 704] inb').toLoadRect) hR ((View.whole cc0_scratch0).readCov L ((Rect.unit (s := S4x272x704) ![s, 0, 0] ![1, 272, 704] inb).withinL ((Rect.unit (s := S272x704) ![o, 0] ![256, 704] inb').toLoadRect.consLift ![1, 272, 704] h0 hs) pf)) (ix2 r j)
      = View.canon L (ix3 ⟨s, ha⟩ ⟨o + r.val, hr⟩ j) := by
  rw [View.readCov_eq_canon']
  refine congrArg (View.canon L) ?_
  have hx := Shape.reshapeEquiv_cons_one (d := ![256, 704]) hR (ix2 r j)
  refine Eq.trans (congrArg _ hx) ?_
  funext k
  refine Fin.ext ?_
  fin_cases k
  · show s + 0 + 1 * 0 = s
    omega
  · show 0 + o + 1 * r.val = o + r.val
    omega
  · show 0 + 0 + 1 * j.val = j.val
    omega

/-- A load of rows of the first of the two slots written last. -/
theorem tap_first {is0 : ∀ a, (![s0, 0, 0] : Fin 3 → ℕ) a + (![1, 272, 704] : Fin 3 → ℕ) a ≤ S4x272x704.size a} {is1 : ∀ a, (![s1, 0, 0] : Fin 3 → ℕ) a + (![1, 272, 704] : Fin 3 → ℕ) a ≤ S4x272x704.size a}
    {j0 : ∀ a, (![0, 0] : Fin 2 → ℕ) a + (![16, 704] : Fin 2 → ℕ) a ≤ S272x704.size a} {j16 : ∀ a, (![16, 0] : Fin 2 → ℕ) a + (![256, 704] : Fin 2 → ℕ) a ≤ S272x704.size a}
    {jo : ∀ a, (![o, 0] : Fin 2 → ℕ) a + (![256, 704] : Fin 2 → ℕ) a ≤ S272x704.size a} {a1 b1 c1 d1 a2 b2 c2 d2 a3 b3 c3 d3 a4 b4 c4 d4 h0 hs pf hR}
    (L : List (View.Piece (Elt Ideal) S4x272x704 .f32)) (P0 P1 : FVec Ideal S256x704 .f32) (Q0 Q1 : FVec Ideal S16x704 .f32) (h0' : s0 < 4) (h1' : s1 < 4) (hn : s0 ≠ s1) (ho : o ≤ 16) :
    LoadRect.valAlong (V := Elt Ideal .f32) (lr := (Rect.unit (s := S272x704) ![o, 0] ![256, 704] jo).toLoadRect) hR ((View.whole cc0_scratch0).readCov (⟨((Rect.unit (s := S4x272x704) ![s1, 0, 0] ![1, 272, 704] is1).within ((Rect.unit (s := S272x704) ![16, 0] ![256, 704] j16).consLift ![1, 272, 704] a1 b1) c1), Rect.payAlong (r := Rect.unit (s := S272x704) ![16, 0] ![256, 704] j16) (V := Elt Ideal .f32) d1 P1⟩ :: ⟨((Rect.unit (s := S4x272x704) ![s0, 0, 0] ![1, 272, 704] is0).within ((Rect.unit (s := S272x704) ![16, 0] ![256, 704] j16).consLift ![1, 272, 704] a2 b2) c2), Rect.payAlong (r := Rect.unit (s := S272x704) ![16, 0] ![256, 704] j16) (V := Elt Ideal .f32) d2 P0⟩ :: ⟨((Rect.unit (s := S4x272x704) ![s1, 0, 0] ![1, 272, 704] is1).within ((Rect.unit (s := S272x704) ![0, 0] ![16, 704] j0).consLift ![1, 272, 704] a3 b3) c3), Rect.payAlong (r := Rect.unit (s := S272x704) ![0, 0] ![16, 704] j0) (V := Elt Ideal .f32) d3 Q1⟩ :: ⟨((Rect.unit (s := S4x272x704) ![s0, 0, 0] ![1, 272, 704] is0).within ((Rect.unit (s := S272x704) ![0, 0] ![16, 704] j0).consLift ![1, 272, 704] a4 b4) c4), Rect.payAlong (r := Rect.unit (s := S272x704) ![0, 0] ![16, 704] j0) (V := Elt Ideal .f32) d4 Q0⟩ :: L) ((Rect.unit (s := S4x272x704) ![s0, 0, 0] ![1, 272, 704] is0).withinL ((Rect.unit (s := S272x704) ![o, 0] ![256, 704] jo).toLoadRect.consLift ![1, 272, 704] h0 hs) pf))
      = rows o Q0 P0 := by
  funext y
  rw [eq_ix2 y]
  have hy : (y 0).val < 256 := (y 0).isLt
  refine (load_rows _ (y 0) (y 1) h0' (by omega)).trans ?_
  by_cases h : o + (y 0).val < 16
  · refine (canon_miss (e := .f32) (s := s1) (o := 16) (n := 256) _ _ _ _ _ (by right; left; exact h)).trans ((canon_miss (e := .f32) (s := s0) (o := 16) (n := 256) _ _ _ _ _ (by right; left; exact h)).trans ?_)
    refine (canon_miss (e := .f32) (s := s1) (o := 0) (n := 16) _ _ _ _ _ (by left; exact hn)).trans ?_
    refine (canon_hit (e := .f32) (s := s0) (o := 0) (n := 16) Q0 _ _ _ (⟨o + (y 0).val, h⟩ : Fin 16) _ rfl (by simp)).trans ?_
    simp only [rows]
    rw [dif_pos (show o + ((ix2 (y 0) (y 1) : S256x704.Idx) 0).val < 16 from h)]
    rfl
  · have h' : o + (y 0).val - 16 < 256 := by omega
    refine (canon_miss (e := .f32) (s := s1) (o := 16) (n := 256) _ _ _ _ _ (by left; exact hn)).trans ?_
    refine (canon_hit (e := .f32) (s := s0) (o := 16) (n := 256) P0 _ _ _ (⟨o + (y 0).val - 16, h'⟩ : Fin 256) _ rfl (by simp; omega)).trans ?_
    simp only [rows]
    exact ((dif_neg h).trans (dif_pos h')).symm

/-- A load of rows of the second of the two slots written last. -/
theorem tap_second {is0 : ∀ a, (![s0, 0, 0] : Fin 3 → ℕ) a + (![1, 272, 704] : Fin 3 → ℕ) a ≤ S4x272x704.size a} {is1 : ∀ a, (![s1, 0, 0] : Fin 3 → ℕ) a + (![1, 272, 704] : Fin 3 → ℕ) a ≤ S4x272x704.size a}
    {j0 : ∀ a, (![0, 0] : Fin 2 → ℕ) a + (![16, 704] : Fin 2 → ℕ) a ≤ S272x704.size a} {j16 : ∀ a, (![16, 0] : Fin 2 → ℕ) a + (![256, 704] : Fin 2 → ℕ) a ≤ S272x704.size a}
    {jo : ∀ a, (![o, 0] : Fin 2 → ℕ) a + (![256, 704] : Fin 2 → ℕ) a ≤ S272x704.size a} {a1 b1 c1 d1 a2 b2 c2 d2 a3 b3 c3 d3 a4 b4 c4 d4 h0 hs pf hR}
    (L : List (View.Piece (Elt Ideal) S4x272x704 .f32)) (P0 P1 : FVec Ideal S256x704 .f32) (Q0 Q1 : FVec Ideal S16x704 .f32) (h0' : s0 < 4) (h1' : s1 < 4) (hn : s0 ≠ s1) (ho : o ≤ 16) :
    LoadRect.valAlong (V := Elt Ideal .f32) (lr := (Rect.unit (s := S272x704) ![o, 0] ![256, 704] jo).toLoadRect) hR ((View.whole cc0_scratch0).readCov (⟨((Rect.unit (s := S4x272x704) ![s1, 0, 0] ![1, 272, 704] is1).within ((Rect.unit (s := S272x704) ![16, 0] ![256, 704] j16).consLift ![1, 272, 704] a1 b1) c1), Rect.payAlong (r := Rect.unit (s := S272x704) ![16, 0] ![256, 704] j16) (V := Elt Ideal .f32) d1 P1⟩ :: ⟨((Rect.unit (s := S4x272x704) ![s0, 0, 0] ![1, 272, 704] is0).within ((Rect.unit (s := S272x704) ![16, 0] ![256, 704] j16).consLift ![1, 272, 704] a2 b2) c2), Rect.payAlong (r := Rect.unit (s := S272x704) ![16, 0] ![256, 704] j16) (V := Elt Ideal .f32) d2 P0⟩ :: ⟨((Rect.unit (s := S4x272x704) ![s1, 0, 0] ![1, 272, 704] is1).within ((Rect.unit (s := S272x704) ![0, 0] ![16, 704] j0).consLift ![1, 272, 704] a3 b3) c3), Rect.payAlong (r := Rect.unit (s := S272x704) ![0, 0] ![16, 704] j0) (V := Elt Ideal .f32) d3 Q1⟩ :: ⟨((Rect.unit (s := S4x272x704) ![s0, 0, 0] ![1, 272, 704] is0).within ((Rect.unit (s := S272x704) ![0, 0] ![16, 704] j0).consLift ![1, 272, 704] a4 b4) c4), Rect.payAlong (r := Rect.unit (s := S272x704) ![0, 0] ![16, 704] j0) (V := Elt Ideal .f32) d4 Q0⟩ :: L) ((Rect.unit (s := S4x272x704) ![s1, 0, 0] ![1, 272, 704] is1).withinL ((Rect.unit (s := S272x704) ![o, 0] ![256, 704] jo).toLoadRect.consLift ![1, 272, 704] h0 hs) pf))
      = rows o Q1 P1 := by
  funext y
  rw [eq_ix2 y]
  have hy : (y 0).val < 256 := (y 0).isLt
  refine (load_rows _ (y 0) (y 1) h1' (by omega)).trans ?_
  by_cases h : o + (y 0).val < 16
  · refine (canon_miss (e := .f32) (s := s1) (o := 16) (n := 256) _ _ _ _ _ (by right; left; exact h)).trans ((canon_miss (e := .f32) (s := s0) (o := 16) (n := 256) _ _ _ _ _ (by right; left; exact h)).trans ?_)
    refine (canon_hit (e := .f32) (s := s1) (o := 0) (n := 16) Q1 _ _ _ (⟨o + (y 0).val, h⟩ : Fin 16) _ rfl (by simp)).trans ?_
    simp only [rows]
    rw [dif_pos (show o + ((ix2 (y 0) (y 1) : S256x704.Idx) 0).val < 16 from h)]
    rfl
  · have h' : o + (y 0).val - 16 < 256 := by omega
    refine (canon_hit (e := .f32) (s := s1) (o := 16) (n := 256) P1 _ _ _ (⟨o + (y 0).val - 16, h'⟩ : Fin 256) _ rfl (by simp; omega)).trans ?_
    simp only [rows]
    exact ((dif_neg h).trans (dif_pos h')).symm

/-- A load of a row of the convolution's weights. -/
theorem weight_row {k b : ℕ} {i : ∀ a, (![b, 0, 0] : Fin 3 → ℕ) a + (![1, 8, 704] : Fin 3 → ℕ) a ≤ S8x8x704.size a} {j : ∀ a, (![k, 0] : Fin 2 → ℕ) a + (![1, 704] : Fin 2 → ℕ) a ≤ S8x704.size a}
    {h0 hs pf hR} {M : Memref sig .tc .vmem S8x8x704 .f32} (h : M.IsWhole) (X : FVec Ideal S8x8x704 .f32) (hb : b < 8) (hk : k < 8) :
    LoadRect.valAlong (V := Elt Ideal .f32) (lr := (Rect.unit (s := S8x704) ![k, 0] ![1, 704] j).toLoadRect) hR (View.readAt (Elt Ideal) M.view ((Rect.unit (s := S8x8x704) ![b, 0, 0] ![1, 8, 704] i).withinL ((Rect.unit (s := S8x704) ![k, 0] ![1, 704] j).toLoadRect.consLift ![1, 8, 704] h0 hs) pf) (h.unread X))
      = (fun y : S1x704.Idx => X (ix3 ⟨b, hb⟩ ⟨k, hk⟩ (y 1))) := by
  funext y
  show M.view.read (Elt Ideal) (h.unread X) _ = _
  rw [h.read_unread]
  refine congrArg X ?_
  have hx := Shape.reshapeEquiv_cons_one (d := ![1, 704]) hR y
  refine Eq.trans (congrArg _ hx) ?_
  funext q
  refine Fin.ext ?_
  have h1 : (y 0).val < 1 := (y 0).isLt
  fin_cases q
  · show b + 0 + 1 * 0 = b
    omega
  · show 0 + k + 1 * (y 0).val = k
    omega
  · show 0 + 0 + 1 * (y 1).val = (y 1).val
    omega

end scratch

section fourSlabs

/-- A stored slab read at one of its indices. -/
theorem slab_hit {s : ℕ} {i : ∀ a, (![s, 0, 0] : Fin 3 → ℕ) a + (![1, 256, 704] : Fin 3 → ℕ) a ≤ S4x256x704.size a} (P : Vec Ideal S1x256x704 .bf16)
    (L : List (View.Piece (Elt Ideal) S4x256x704 .bf16)) (a : Fin 4) (ha : a.val = s) (r : Fin 256) (j : Fin 704) :
    View.canon (⟨Rect.unit (s := S4x256x704) ![s, 0, 0] ![1, 256, 704] i, P⟩ :: L) (ix3 a r j) = P (ix3 0 r j) := by
  refine Eq.trans (congrArg _ ?_) (View.canon_cons_emb (Val := Elt Ideal) (e := .bf16) (Rect.unit (s := S4x256x704) ![s, 0, 0] ![1, 256, 704] i) P L (ix3 0 r j))
  funext k
  refine Fin.ext ?_
  fin_cases k
  · show a.val = s + 1 * 0
    omega
  · show r.val = 0 + 1 * r.val
    omega
  · show j.val = 0 + 1 * j.val
    omega

/-- A stored slab read at an index of another slab. -/
theorem slab_miss {s : ℕ} {i : ∀ a, (![s, 0, 0] : Fin 3 → ℕ) a + (![1, 256, 704] : Fin 3 → ℕ) a ≤ S4x256x704.size a} (P : Vec Ideal S1x256x704 .bf16)
    (L : List (View.Piece (Elt Ideal) S4x256x704 .bf16)) (a : Fin 4) (ha : a.val ≠ s) (r : Fin 256) (j : Fin 704) :
    View.canon (⟨Rect.unit (s := S4x256x704) ![s, 0, 0] ![1, 256, 704] i, P⟩ :: L) (ix3 a r j) = View.canon L (ix3 a r j) := by
  refine View.canon_cons_of_not_mem (Val := Elt Ideal) _ L fun hm => ?_
  refine absurd hm ?_
  exact Rect.not_mem_set_of_axis _ _ (0 : Fin 3) s 1 rfl rfl rfl (by show a.val < s ∨ s + 1 ≤ a.val; omega)

/-- Four slabs stored one after another, read at an index of one of them. -/
theorem slabs {A B C D : Vec Ideal S1x256x704 .bf16} {f : Fin 4 → EReal} {i0 i1 i2 i3} (r : Fin 256) (j : Fin 704) (hA : A (ix3 0 r j) = f 0) (hB : B (ix3 0 r j) = f 1) (hC : C (ix3 0 r j) = f 2) (hD : D (ix3 0 r j) = f 3) (b : Fin 4) :
    View.canon (Val := Elt Ideal) (s := S4x256x704) (e := .bf16) [⟨Rect.unit (s := S4x256x704) ![3, 0, 0] ![1, 256, 704] i3, D⟩, ⟨Rect.unit (s := S4x256x704) ![2, 0, 0] ![1, 256, 704] i2, C⟩,
      ⟨Rect.unit (s := S4x256x704) ![1, 0, 0] ![1, 256, 704] i1, B⟩, ⟨Rect.unit (s := S4x256x704) ![0, 0, 0] ![1, 256, 704] i0, A⟩] (ix3 b r j) = f b := by
  match b with
  | 3 => exact (slab_hit (s := 3) D _ 3 rfl r j).trans hD
  | 2 => exact (slab_miss (s := 3) D _ 2 (by decide) r j).trans ((slab_hit (s := 2) C _ 2 rfl r j).trans hC)
  | 1 => exact (slab_miss (s := 3) D _ 1 (by decide) r j).trans ((slab_miss (s := 2) C _ 1 (by decide) r j).trans ((slab_hit (s := 1) B _ 1 rfl r j).trans hB))
  | 0 => exact (slab_miss (s := 3) D _ 0 (by decide) r j).trans ((slab_miss (s := 2) C _ 0 (by decide) r j).trans ((slab_miss (s := 1) B _ 0 (by decide) r j).trans ((slab_hit (s := 0) A _ 0 rfl r j).trans hA)))

end fourSlabs

/-- A load of a slab just stored is the slab stored. -/
theorem slab_back {s : ℕ} {sp : Space} {κ : Kind} {sg : RefSig} (v : View sg κ sp S4x256x704 .bf16) {i : ∀ a, (![s, 0, 0] : Fin 3 → ℕ) a + (![1, 256, 704] : Fin 3 → ℕ) a ≤ S4x256x704.size a} (P : Vec Ideal S1x256x704 .bf16)
    (L : List (View.Piece (Elt Ideal) S4x256x704 .bf16)) :
    v.readCov (⟨Rect.unit (s := S4x256x704) ![s, 0, 0] ![1, 256, 704] i, P⟩ :: L) (Rect.unit (s := S4x256x704) ![s, 0, 0] ![1, 256, 704] i).toLoadRect = P := by
  rw [View.readCov_eq_canon']
  funext y
  exact View.canon_cons_emb (Val := Elt Ideal) (e := .bf16) (Rect.unit (s := S4x256x704) ![s, 0, 0] ![1, 256, 704] i) P L y

/-- The gate's factor, by the hyperbolic tangent, is the logistic function. -/
theorem gate_eq (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe x =>
    rw [Ideal.logistic_coe, ← EReal.coe_mul, Ideal.tanh_coe]
    norm_cast
    rw [Real.tanh_eq_sinh_div_cosh, Real.sinh_eq, Real.cosh_eq]
    have h : Real.exp (-x) = Real.exp (-(1 / 2 * x)) * Real.exp (-(1 / 2 * x)) := by rw [← Real.exp_add]; congr 1; ring
    have h1 : Real.exp (1 / 2 * x) * Real.exp (-(1 / 2 * x)) = 1 := by rw [← Real.exp_add]; simp
    have p1 := Real.exp_pos (1 / 2 * x)
    have p2 := Real.exp_pos (-(1 / 2 * x))
    have p3 := Real.exp_pos (-x)
    rw [h]
    generalize Real.exp (1 / 2 * x) = a at h1 p1
    generalize Real.exp (-(1 / 2 * x)) = b at h1 p2
    field_simp
    linear_combination 2 * b * h1

/-- The constant of the gate is a half. -/
theorem half : Ideal.ofBits .f32 0x3F000000#32 = ((1 / 2 : ℝ) : EReal) := by
  simp [Ideal.ofBits, Ideal.ieee]
  rw [← EReal.coe_mul]
  congr 1
  norm_num

variable (m : (ℓ : Loc nD τ sig) → Buf (Elt Ideal) ℓ)

/-- Every window's block index at every grid point. -/
theorem idx : ∀ t : Fin cfg0.N, win0_0.index t = ![0, t.val, 0] ∧ win0_1.index t = ![0, 16 * t.val - 1, 0] ∧ win0_2.index t = ![0, 0, 0] ∧ win0_3.index t = ![0, 0, 0]
    ∧ win0_4.index t = ![t.val, 0] ∧ win0_5.index t = ![t.val, 0] ∧ win0_6.index t = ![0, t.val, 0] ∧ win0_7.index t = ![0, t.val, 0] ∧ win0_8.index t = ![0, t.val, 0]
    ∧ t.val < 16 ∧ (grid0.coords t 0).val = t.val :=
  (by decide +kernel : ∀ t : Fin grid0.N, _)

/-- Row `r` of block `t`. -/
abbrev row (t : Fin cfg0.N) (r : Fin 256) : Fin 4096 := ⟨256 * t.val + r.val, by have := (idx t).2.2.2.2.2.2.2.2.2.1; omega⟩
/-- Column `j` of slab `b` of the first operand. -/
abbrev col (b : Fin 8) (j : Fin 704) : Fin 5632 := ⟨b.val * 704 + j.val, by omega⟩

/-- Column `j` of row `n - d`, zero before the first row. -/
def sh (A : FVec Ideal S4096x5632 .f32) (d : ℕ) (n : Fin 4096) (j : Fin 5632) : EReal := if d ≤ n.val then A (ix2 ⟨n.val - d, by omega⟩ j) else 0

/-- The convolution at a row and a column. -/
def cv (A : FVec Ideal S4096x5632 .f32) (W : FVec Ideal S3x5632 .f32) (n : Fin 4096) (j : Fin 5632) : EReal :=
  W (ix2 0 j) * sh A 2 n j + W (ix2 1 j) * sh A 1 n j + W (ix2 2 j) * sh A 0 n j

/-- The activation at a row and a column. -/
def ac (A : FVec Ideal S4096x5632 .f32) (W : FVec Ideal S3x5632 .f32) (n : Fin 4096) (b b' : Fin 8) (j : Fin 704) : EReal :=
  cv A W n (col b j) * Ideal.logistic (cv A W n (col b j)) * cv A W n (col b' j)

/-- The first operand of the call. -/
def upT (A : FVec Ideal S4096x5632 .f32) : FVec Ideal S8x4096x704 .bf16 :=
  truncf .bf16 (transpose S8x4096x704 [1, 0, 2] (shapeCast S4096x8x704 A shapeCasts_S4096x5632_S4096x8x704) transposes_S4096x8x704_S8x4096x704_1_0_2) bitsLt_bf16_f32
/-- The weights of the convolution as the call takes them, before the rows of zeros. -/
def wcT (W : FVec Ideal S3x5632 .f32) : FVec Ideal S8x3x704 .f32 :=
  transpose S8x3x704 [1, 0, 2] (shapeCast S3x8x704 W shapeCasts_S3x5632_S3x8x704) transposes_S3x8x704_S8x3x704_1_0_2
/-- The down-projection's weights as the call takes them. -/
def wdT (D : FVec Ideal S2816x1024 .f32) : FVec Ideal S4x704x1024 .bf16 :=
  truncf .bf16 (shapeCast S4x704x1024 D shapeCasts_S2816x1024_S4x704x1024) bitsLt_bf16_f32

/-- The call's first operand. -/
theorem V_up (c : Dev nD) : V m c main_v5 = upT (m ((c : Thread nD τ).loc main_arg0)) := by
  entry_read
  rfl
/-- The call's fourth operand. -/
theorem V_wd (c : Dev nD) : V m c main_v7 = wdT (m ((c : Thread nD τ).loc main_arg2)) := by
  entry_read
  rfl
/-- The call's third operand. -/
theorem V_wc (c : Dev nD) : ∃ z, V m c main_v2 = pad S8x8x704 ![0, 0, 0] ![0, 5, 0] ![0, 0, 0] (wcT (m ((c : Thread nD τ).loc main_arg1))) z pads_S8x3x704_S8x8x704_000_050_000 h_S_ := by
  entry_read
  exact ⟨_, rfl⟩

/-- The first operand at an index. -/
theorem up_pt (A : FVec Ideal S4096x5632 .f32) (b : Fin 8) (n : Fin 4096) (j : Fin 704) : upT A (ix3 b n j) = A (ix2 n (col b j)) := by
  pointwise [upT]
/-- The convolution's weights at an index. -/
theorem wc_pt (W : FVec Ideal S3x5632 .f32) (b : Fin 8) (k : Fin 3) (j : Fin 704) : wcT W (ix3 b k j) = W (ix2 k (col b j)) := by
  pointwise [wcT]
/-- The down-projection's weights at an index. -/
theorem wd_pt (D : FVec Ideal S2816x1024 .f32) (b : Fin 4) (k : Fin 704) (j : Fin 1024) : wdT D (ix3 b k j) = D (ix2 ⟨b.val * 704 + k.val, by omega⟩ j) := by
  pointwise [wdT]

variable {A : FVec Ideal S4096x5632 .f32} {W : FVec Ideal S3x5632 .f32} {X : FVec Ideal S8x8x704 .f32} {Q Q' : FVec Ideal S16x704 .f32} {P P' : FVec Ideal S256x704 .f32} {t : Fin cfg0.N} {b b' : Fin 8}
  {R0 R1 R2 R0' R1' R2' : Vec Ideal S256x704 .f32} {W0 W1 W2 W0' W1' W2' : Vec Ideal S1x704 .f32}

/-- The rows a tap reads are the shifted rows of the operand. -/
theorem rows_eq (hQ : ∀ x j, Q (ix2 x j) = if 0 < t.val then A (ix2 ⟨256 * t.val - 16 + x.val, by have := (idx t).2.2.2.2.2.2.2.2.2.1; omega⟩ (col b j)) else (0 : EReal))
    (hP : ∀ x j, P (ix2 x j) = A (ix2 (row t x) (col b j))) (d : ℕ) (hd : d ≤ 16) (r : Fin 256) (j : Fin 704) : rows (16 - d) Q P (ix2 r j) = sh A d (row t r) (col b j) := by
  have ht := (idx t).2.2.2.2.2.2.2.2.2.1
  simp only [rows, sh]
  by_cases h : 16 - d + r.val < 16
  · refine (dif_pos (show 16 - d + ((ix2 r j : S256x704.Idx) 0).val < 16 from h)).trans ((hQ _ _).trans ?_)
    by_cases h0 : 0 < t.val
    · rw [if_pos h0, if_pos (by show d ≤ 256 * t.val + r.val; omega)]
      refine congrArg A (congrArg (ix2 · _) (Fin.ext ?_))
      show 256 * t.val - 16 + (16 - d + r.val) = 256 * t.val + r.val - d
      omega
    · rw [if_neg h0, if_neg (by show ¬ d ≤ 256 * t.val + r.val; omega)]
  · have h' : 16 - d + r.val - 16 < 256 := by omega
    refine (dif_neg (show ¬ 16 - d + ((ix2 r j : S256x704.Idx) 0).val < 16 from h)).trans ((dif_pos (show 16 - d + ((ix2 r j : S256x704.Idx) 0).val - 16 < 256 from h')).trans ((hP _ _).trans ?_))
    rw [if_pos (by show d ≤ 256 * t.val + r.val; omega)]
    refine congrArg A (congrArg (ix2 · _) (Fin.ext ?_))
    show 256 * t.val + (16 - d + r.val - 16) = 256 * t.val + r.val - d
    omega

/-- The three taps of a slab sum to the convolution. -/
theorem conv_pt (hQ : ∀ x j, Q (ix2 x j) = if 0 < t.val then A (ix2 ⟨256 * t.val - 16 + x.val, by have := (idx t).2.2.2.2.2.2.2.2.2.1; omega⟩ (col b j)) else (0 : EReal))
    (hP : ∀ x j, P (ix2 x j) = A (ix2 (row t x) (col b j))) (hX : ∀ (k : Fin 3) j, X (ix3 b ⟨k.val, by omega⟩ j) = W (ix2 k (col b j)))
    (h0 : R0 = rows 14 Q P) (h1 : R1 = rows 15 Q P) (h2 : R2 = rows 16 Q P)
    (g0 : W0 = fun y => X (ix3 b 0 (y 1))) (g1 : W1 = fun y => X (ix3 b 1 (y 1))) (g2 : W2 = fun y => X (ix3 b 2 (y 1))) (r : Fin 256) (j : Fin 704) :
    k0_pay9 (F := Ideal) (k0_pay8 W0 R0 W1 R1) W2 R2 (ix2 r j) = cv A W (row t r) (col b j) := by
  subst h0 h1 h2 g0 g1 g2
  pointwise [k0_pay9, k0_pay8]
  rw [rows_eq hQ hP 2 (by norm_num), rows_eq hQ hP 1 (by norm_num), rows_eq hQ hP 0 (by norm_num)]
  rw [show X (ix3 b 0 j) = _ from hX 0 j, show X (ix3 b 1 j) = _ from hX 1 j, show X (ix3 b 2 j) = _ from hX 2 j]
  rfl

/-- The activation of a slab. -/
theorem act_pt {G Y : FVec Ideal S256x704 .f32} {n : Fin 256 → Fin 4096} (hG : ∀ r j, G (ix2 r j) = cv A W (n r) (col b j)) (r : Fin 256) (j : Fin 704) (hv : k0_pay11 (F := Ideal) Y W2 R2 (ix2 r j) = cv A W (n r) (col b' j)) :
    k0_pay14 (F := Ideal) G Y W2 R2 (ix3 0 r j) = ac A W (n r) b b' j := by
  pointwise [k0_pay14]
  rw [hG, hv, half, gate_eq]
  rfl

/-- The three taps of a slab sum to the convolution, for the gated values. -/
theorem conv_pt' (hQ : ∀ x j, Q (ix2 x j) = if 0 < t.val then A (ix2 ⟨256 * t.val - 16 + x.val, by have := (idx t).2.2.2.2.2.2.2.2.2.1; omega⟩ (col b j)) else (0 : EReal))
    (hP : ∀ x j, P (ix2 x j) = A (ix2 (row t x) (col b j))) (hX : ∀ (k : Fin 3) j, X (ix3 b ⟨k.val, by omega⟩ j) = W (ix2 k (col b j)))
    (h0 : R0 = rows 14 Q P) (h1 : R1 = rows 15 Q P) (h2 : R2 = rows 16 Q P)
    (g0 : W0 = fun y => X (ix3 b 0 (y 1))) (g1 : W1 = fun y => X (ix3 b 1 (y 1))) (g2 : W2 = fun y => X (ix3 b 2 (y 1))) (r : Fin 256) (j : Fin 704) :
    k0_pay11 (F := Ideal) (k0_pay10 W0 R0 W1 R1) W2 R2 (ix2 r j) = cv A W (row t r) (col b j) := conv_pt hQ hP hX h0 h1 h2 g0 g1 g2 r j

/-- The stored slab of the gate's input. -/
theorem ug_pt (h0 : R0 = rows 14 Q P) (h1 : R1 = rows 15 Q P) (h2 : R2 = rows 16 Q P)
    (g0 : W0 = fun y => X (ix3 b 0 (y 1))) (g1 : W1 = fun y => X (ix3 b 1 (y 1))) (g2 : W2 = fun y => X (ix3 b 2 (y 1)))
    (hQ : ∀ x j, Q (ix2 x j) = if 0 < t.val then A (ix2 ⟨256 * t.val - 16 + x.val, by have := (idx t).2.2.2.2.2.2.2.2.2.1; omega⟩ (col b j)) else (0 : EReal))
    (hP : ∀ x j, P (ix2 x j) = A (ix2 (row t x) (col b j))) (hX : ∀ (b : Fin 8) (k : Fin 3) j, X (ix3 b ⟨k.val, by omega⟩ j) = W (ix2 k (col b j))) (r : Fin 256) (j : Fin 704) :
    k0_pay12 (F := Ideal) (k0_pay9 (k0_pay8 W0 R0 W1 R1) W2 R2) (ix3 0 r j) = cv A W (row t r) (col b j) := by
  pointwise [k0_pay12]
  exact conv_pt hQ hP (hX b) h0 h1 h2 g0 g1 g2 r j

/-- The stored slab of the gated values. -/
theorem uv_pt (h0 : R0 = rows 14 Q P) (h1 : R1 = rows 15 Q P) (h2 : R2 = rows 16 Q P)
    (g0 : W0 = fun y => X (ix3 b 0 (y 1))) (g1 : W1 = fun y => X (ix3 b 1 (y 1))) (g2 : W2 = fun y => X (ix3 b 2 (y 1)))
    (hQ : ∀ x j, Q (ix2 x j) = if 0 < t.val then A (ix2 ⟨256 * t.val - 16 + x.val, by have := (idx t).2.2.2.2.2.2.2.2.2.1; omega⟩ (col b j)) else (0 : EReal))
    (hP : ∀ x j, P (ix2 x j) = A (ix2 (row t x) (col b j))) (hX : ∀ (b : Fin 8) (k : Fin 3) j, X (ix3 b ⟨k.val, by omega⟩ j) = W (ix2 k (col b j))) (r : Fin 256) (j : Fin 704) :
    k0_pay13 (F := Ideal) (k0_pay10 W0 R0 W1 R1) W2 R2 (ix3 0 r j) = cv A W (row t r) (col b j) := by
  pointwise [k0_pay13]
  exact conv_pt' hQ hP (hX b) h0 h1 h2 g0 g1 g2 r j

/-- The stored slab of the activation. -/
theorem ac_pt (h0 : R0 = rows 14 Q P) (h1 : R1 = rows 15 Q P) (h2 : R2 = rows 16 Q P)
    (g0 : W0 = fun y => X (ix3 b 0 (y 1))) (g1 : W1 = fun y => X (ix3 b 1 (y 1))) (g2 : W2 = fun y => X (ix3 b 2 (y 1)))
    (h0' : R0' = rows 14 Q' P') (h1' : R1' = rows 15 Q' P') (h2' : R2' = rows 16 Q' P')
    (g0' : W0' = fun y => X (ix3 b' 0 (y 1))) (g1' : W1' = fun y => X (ix3 b' 1 (y 1))) (g2' : W2' = fun y => X (ix3 b' 2 (y 1)))
    (hQ : ∀ x j, Q (ix2 x j) = if 0 < t.val then A (ix2 ⟨256 * t.val - 16 + x.val, by have := (idx t).2.2.2.2.2.2.2.2.2.1; omega⟩ (col b j)) else (0 : EReal))
    (hP : ∀ x j, P (ix2 x j) = A (ix2 (row t x) (col b j)))
    (hQ' : ∀ x j, Q' (ix2 x j) = if 0 < t.val then A (ix2 ⟨256 * t.val - 16 + x.val, by have := (idx t).2.2.2.2.2.2.2.2.2.1; omega⟩ (col b' j)) else (0 : EReal))
    (hP' : ∀ x j, P' (ix2 x j) = A (ix2 (row t x) (col b' j)))
    (hX : ∀ (b : Fin 8) (k : Fin 3) j, X (ix3 b ⟨k.val, by omega⟩ j) = W (ix2 k (col b j))) (r : Fin 256) (j : Fin 704) :
    k0_pay14 (F := Ideal) (k0_pay9 (k0_pay8 W0 R0 W1 R1) W2 R2) (k0_pay10 W0' R0' W1' R1') W2' R2' (ix3 0 r j) = ac A W (row t r) b b' j :=
  act_pt (fun r j => conv_pt hQ hP (hX b) h0 h1 h2 g0 g1 g2 r j) r j (conv_pt' hQ' hP' (hX b') h0' h1' h2' g0' g1' g2' r j)

/-- The rows before a block count from the second block on. -/
theorem keep : ∀ t : Fin cfg0.N, Scalar.cmpi .sgt (BitVec.ofNat 32 (grid0.coords t 0).val) 0#32 = if 0 < t.val then 1#1 else 0#1 :=
  (by decide +kernel : ∀ t : Fin grid0.N, _)

/-- The block of the first operand, at an index. -/
theorem b0 (c : Dev nD) (t : Fin cfg0.N) (b : Fin 8) (r : Fin 256) (j : Fin 704) : iblk m c 0 t (ix3 b r j) = (m ((c : Thread nD τ).loc main_arg0)) (ix2 (row t r) (col b j)) := by
  blk_simp [iblk]
  rw [V_up]
  refine Eq.trans ?_ (up_pt _ b (row t r) j)
  blk_point [idx t]

/-- The block of the rows before, at an index. -/
theorem b1 (c : Dev nD) (t : Fin cfg0.N) (h : 0 < t.val) (b : Fin 8) (r : Fin 16) (j : Fin 704) :
    iblk m c 1 t (ix3 b r j) = (m ((c : Thread nD τ).loc main_arg0)) (ix2 ⟨256 * t.val - 16 + r.val, by have := (idx t).2.2.2.2.2.2.2.2.2.1; omega⟩ (col b j)) := by
  blk_simp [iblk]
  rw [V_up]
  refine Eq.trans ?_ (up_pt _ b _ j)
  blk_point [idx t]

/-- The convolution's weights, at an index. -/
theorem b2 (c : Dev nD) (t : Fin cfg0.N) (b : Fin 8) (k : Fin 3) (j : Fin 704) : iblk m c 2 t (ix3 b ⟨k.val, by omega⟩ j) = (m ((c : Thread nD τ).loc main_arg1)) (ix2 k (col b j)) := by
  obtain ⟨z, hz⟩ := V_wc m c
  blk_simp [iblk]
  rw [hz]
  refine Eq.trans ?_ (wc_pt _ b k j)
  have e : ((cfg0.win 2).blk t).view.emb (ix3 b ⟨k.val, by omega⟩ j) = ix3 b ⟨k.val, by omega⟩ j := by blk_ext [idx t]
  rw [e]
  pointwise

/-- The down-projection's weights, at an index. -/
theorem b3 (c : Dev nD) (t : Fin cfg0.N) (b : Fin 4) (k : Fin 704) (j : Fin 1024) : iblk m c 3 t (ix3 b k j) = (m ((c : Thread nD τ).loc main_arg2)) (ix2 ⟨b.val * 704 + k.val, by omega⟩ j) := by
  blk_simp [iblk]
  rw [V_wd]
  refine Eq.trans ?_ (wd_pt _ b k j)
  blk_point [idx t]

/-- The residual's block, at an index. -/
theorem b4 (c : Dev nD) (t : Fin cfg0.N) (r : Fin 256) (j : Fin 1024) : iblk m c 4 t (ix2 r j) = (m ((c : Thread nD τ).loc main_arg3)) (ix2 (row t r) j) := by
  blk_simp [iblk]
  rw [V_main_arg3]
  blk_point [idx t]

/-- The rows before a block as a slot keeps them. -/
theorem q_pt (c : Dev nD) {b : ℕ} (hb : b < 8) {i} (x : Fin 16) (j : Fin 704) :
    k0_pay3 (F := Ideal) (grid0.coords t) (View.ld (iblk m c 1 t) (Rect.unit (s := S8x16x704) ![b, 0, 0] ![1, 16, 704] i)) (ix2 x j)
      = if 0 < t.val then (m ((c : Thread nD τ).loc main_arg0)) (ix2 ⟨256 * t.val - 16 + x.val, by have := (idx t).2.2.2.2.2.2.2.2.2.1; omega⟩ (col ⟨b, hb⟩ j)) else (0 : EReal) := by
  pointwise [k0_pay3, k0_pay2]
  rw [keep]
  by_cases h : 0 < t.val
  · rw [if_pos h, if_pos h]
    exact b1 m c t h ⟨b, hb⟩ x j
  · rw [if_neg h, if_neg h]
    rfl

/-- A block's rows as a slot keeps them. -/
theorem p_pt (c : Dev nD) {b : ℕ} (hb : b < 8) {i} (x : Fin 256) (j : Fin 704) :
    k0_pay7 (F := Ideal) (View.ld (iblk m c 0 t) (Rect.unit (s := S8x256x704) ![b, 0, 0] ![1, 256, 704] i)) (ix2 x j)
      = (m ((c : Thread nD τ).loc main_arg0)) (ix2 (row t x) (col ⟨b, hb⟩ j)) := by
  pointwise [k0_pay7]
  exact b0 m c t ⟨b, hb⟩ x j

/-- A sum over all columns, slab by slab. -/
theorem quarters (f : Fin 2816 → EReal) : ∑ k, f k = (∑ k : Fin 704, f ⟨k.val, by omega⟩) + (∑ k : Fin 704, f ⟨704 + k.val, by omega⟩) + (∑ k : Fin 704, f ⟨1408 + k.val, by omega⟩)
    + ∑ k : Fin 704, f ⟨2112 + k.val, by omega⟩ := by
  rw [Fin.sum_univ_add (a := 2112) (b := 704) f, Fin.sum_univ_add (a := 1408) (b := 704), Fin.sum_univ_add (a := 704) (b := 704)]
  rfl

/-- The first argument. -/
abbrev A0 (c : Dev nD) : FVec Ideal S4096x5632 .f32 := m ((c : Thread nD τ).loc main_arg0)
/-- The convolution's weights. -/
abbrev A1 (c : Dev nD) : FVec Ideal S3x5632 .f32 := m ((c : Thread nD τ).loc main_arg1)
/-- The down-projection's weights. -/
abbrev A2 (c : Dev nD) : FVec Ideal S2816x1024 .f32 := m ((c : Thread nD τ).loc main_arg2)
/-- The residual. -/
abbrev A3 (c : Dev nD) : FVec Ideal S4096x1024 .f32 := m ((c : Thread nD τ).loc main_arg3)

/-- A block of the gate's input. -/
theorem pt7 (c : Dev nD) (t : Fin cfg0.N) (b : Fin 4) (r : Fin 256) (j : Fin 704) : (outsAt0 m c t).2.2.1 (ix3 b r j) = cv (A0 m c) (A1 m c) (row t r) (col ⟨b.val, by omega⟩ j) := by
  unfold outsAt0
  frame_out
  refine slabs (f := fun b => cv (A0 m c) (A1 m c) (row t r) (col ⟨b.val, by omega⟩ j)) r j ?_ ?_ ?_ ?_ b
  · exact ug_pt (b := 0) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j
  · exact ug_pt (b := 1) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j
  · exact ug_pt (b := 2) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j
  · exact ug_pt (b := 3) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j

/-- A block of the gated values. -/
theorem pt8 (c : Dev nD) (t : Fin cfg0.N) (b : Fin 4) (r : Fin 256) (j : Fin 704) : (outsAt0 m c t).2.2.2 (ix3 b r j) = cv (A0 m c) (A1 m c) (row t r) (col ⟨b.val + 4, by omega⟩ j) := by
  unfold outsAt0
  frame_out
  refine slabs (f := fun b => cv (A0 m c) (A1 m c) (row t r) (col ⟨b.val + 4, by omega⟩ j)) r j ?_ ?_ ?_ ?_ b
  · exact uv_pt (b := 4) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j
  · exact uv_pt (b := 5) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j
  · exact uv_pt (b := 6) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j
  · exact uv_pt (b := 7) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (b2 m c t) r j

/-- A block of the activation. -/
theorem pt6 (c : Dev nD) (t : Fin cfg0.N) (b : Fin 4) (r : Fin 256) (j : Fin 704) : (outsAt0 m c t).2.1 (ix3 b r j) = ac (A0 m c) (A1 m c) (row t r) ⟨b.val, by omega⟩ ⟨b.val + 4, by omega⟩ j := by
  unfold outsAt0
  frame_out
  refine slabs (f := fun b => ac (A0 m c) (A1 m c) (row t r) ⟨b.val, by omega⟩ ⟨b.val + 4, by omega⟩ j) r j ?_ ?_ ?_ ?_ b
  · exact ac_pt (b := 0) (b' := 4) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r j
  · exact ac_pt (b := 1) (b' := 5) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r j
  · exact ac_pt (b := 2) (b' := 6) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r j
  · exact ac_pt (b := 3) (b' := 7) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r j

/-- A slab of the down-projection's weights, at an index. -/
theorem d_pt (c : Dev nD) {b : ℕ} (hb : b < 4) {i} (k : Fin 704) (n : Fin 1024) :
    View.ld (iblk m c 3 t) (Rect.unit (s := S4x704x1024) ![b, 0, 0] ![1, 704, 1024] i) (ix3 0 k n) = (m ((c : Thread nD τ).loc main_arg2)) (ix2 ⟨b * 704 + k.val, by omega⟩ n) := by
  pointwise
  exact b3 m c t ⟨b, hb⟩ k n

/-- The residual plus the four slabs' products. -/
theorem out_pt {V : Vec Ideal S256x1024 .f32} {B0 B1 B2 B3 E0 E1 E2 E3 : Vec Ideal S1x256x704 .bf16} {D0 D1 D2 D3 : Vec Ideal S1x704x1024 .bf16} {f0 f1 f2 f3 g0 g1 g2 g3 : Fin 704 → EReal} (r : Fin 256) (n : Fin 1024)
    (hB0 : B0 = E0) (hB1 : B1 = E1) (hB2 : B2 = E2) (hB3 : B3 = E3) (hE0 : ∀ k, E0 (ix3 0 r k) = f0 k) (hE1 : ∀ k, E1 (ix3 0 r k) = f1 k) (hE2 : ∀ k, E2 (ix3 0 r k) = f2 k) (hE3 : ∀ k, E3 (ix3 0 r k) = f3 k)
    (hD0 : ∀ k, D0 (ix3 0 k n) = g0 k) (hD1 : ∀ k, D1 (ix3 0 k n) = g1 k) (hD2 : ∀ k, D2 (ix3 0 k n) = g2 k) (hD3 : ∀ k, D3 (ix3 0 k n) = g3 k) :
    k0_pay1 (F := Ideal) (k0_pay44 (k0_pay30 (k0_pay16 V (k0_pay15 B0) D0) (k0_pay29 B1) D1) (k0_pay43 B2) D2) (k0_pay56 B3) D3 (ix2 r n)
      = V (ix2 r n) + ((∑ k, f0 k * g0 k) + (∑ k, f1 k * g1 k) + (∑ k, f2 k * g2 k) + ∑ k, f3 k * g3 k) := by
  subst hB0 hB1 hB2 hB3
  pointwise [k0_pay1, k0_pay44, k0_pay30, k0_pay16, k0_pay15, k0_pay29, k0_pay43, k0_pay56]
  simp only [hE0, hE1, hE2, hE3, hD0, hD1, hD2, hD3, add_assoc]

/-- The activation's columns, in the order of the down-projection's rows. -/
def acRow (A : FVec Ideal S4096x5632 .f32) (W : FVec Ideal S3x5632 .f32) (n : Fin 4096) (k : Fin 2816) : EReal :=
  cv A W n ⟨k.val, by omega⟩ * Ideal.logistic (cv A W n ⟨k.val, by omega⟩) * cv A W n ⟨2816 + k.val, by omega⟩

/-- The activation of a slab, as a column of all. -/
theorem acs (A : FVec Ideal S4096x5632 .f32) (W : FVec Ideal S3x5632 .f32) (n : Fin 4096) (b : Fin 4) (j : Fin 704) (k : Fin 2816) (h : k.val = b.val * 704 + j.val) :
    ac A W n ⟨b.val, by omega⟩ ⟨b.val + 4, by omega⟩ j = acRow A W n k := by
  have e1 : col ⟨b.val, by omega⟩ j = ⟨k.val, by omega⟩ := Fin.ext h.symm
  have e2 : col ⟨b.val + 4, by omega⟩ j = ⟨2816 + k.val, by omega⟩ := Fin.ext (by show (b.val + 4) * 704 + j.val = 2816 + k.val; omega)
  simp only [ac, acRow, e1, e2]

/-- A block of the first result. -/
theorem pt5 (c : Dev nD) (t : Fin cfg0.N) (r : Fin 256) (n : Fin 1024) : (outsAt0 m c t).1 (ix2 r n)
    = A3 m c (ix2 (row t r) n) + ∑ k : Fin 2816, acRow (A0 m c) (A1 m c) (row t r) k * A2 m c (ix2 k n) := by
  unfold outsAt0
  frame_out
  refine (out_pt r n (slab_back _ _ _) (slab_back _ _ _) (slab_back _ _ _) (slab_back _ _ _)
    (fun k => ac_pt (b := 0) (b' := 4) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r k)
    (fun k => ac_pt (b := 1) (b' := 5) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r k)
    (fun k => ac_pt (b := 2) (b' := 6) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r k)
    (fun k => ac_pt (b := 3) (b' := 7) (tap_first _ _ _ _ _ (by decide) (by decide) (by decide) (by decide)) (tap_first _ _ _ _ _ (by decide) (by decide) (by decide) (by decide)) (tap_first _ _ _ _ _ (by decide) (by decide) (by decide) (by decide)) (weight_row _ _ (by decide) (by decide)) (weight_row _ _ (by decide) (by decide)) (weight_row _ _ (by decide) (by decide)) (tap_second _ _ _ _ _ (by decide) (by decide) (by decide) (by decide)) (tap_second _ _ _ _ _ (by decide) (by decide) (by decide) (by decide)) (tap_second _ _ _ _ _ (by decide) (by decide) (by decide) (by decide)) (weight_row _ _ (by decide) (by decide)) (weight_row _ _ (by decide) (by decide)) (weight_row _ _ (by decide) (by decide)) (q_pt m c (by decide)) (p_pt m c (by decide)) (q_pt m c (by decide)) (p_pt m c (by decide)) (b2 m c t) r k)
    (fun k => d_pt m c (by decide) k n) (fun k => d_pt m c (by decide) k n) (fun k => d_pt m c (by decide) k n) (fun k => d_pt m c (by decide) k n)).trans ?_
  rw [quarters, b4]
  refine congrArg₂ (fun a b : EReal => a + b) rfl ?_
  refine congrArg₂ (fun a b : EReal => a + b) (congrArg₂ (fun a b : EReal => a + b) (congrArg₂ (fun a b : EReal => a + b) ?_ ?_) ?_) ?_
  · refine Fin.sum_fin_congr fun k => ?_
    exact congrArg₂ (fun a b : EReal => a * b) (acs _ _ _ 0 k _ (by show k.val = 0 * 704 + k.val; omega)) (congrArg (fun i => A2 m c (ix2 i n)) (Fin.ext (by show 0 * 704 + k.val = _; simp)))
  · refine Fin.sum_fin_congr fun k => ?_
    exact congrArg₂ (fun a b : EReal => a * b) (acs _ _ _ 1 k _ (by show 704 + k.val = 1 * 704 + k.val; omega)) (congrArg (fun i => A2 m c (ix2 i n)) (Fin.ext (by show 1 * 704 + k.val = _; simp)))
  · refine Fin.sum_fin_congr fun k => ?_
    exact congrArg₂ (fun a b : EReal => a * b) (acs _ _ _ 2 k _ (by show 1408 + k.val = 2 * 704 + k.val; omega)) (congrArg (fun i => A2 m c (ix2 i n)) (Fin.ext (by show 2 * 704 + k.val = _; simp)))
  · refine Fin.sum_fin_congr fun k => ?_
    exact congrArg₂ (fun a b : EReal => a * b) (acs _ _ _ 3 k _ (by show 2112 + k.val = 3 * 704 + k.val; omega)) (congrArg (fun i => A2 m c (ix2 i n)) (Fin.ext (by show 3 * 704 + k.val = _; simp)))

open Cert.Reference12Ideal.Read

/-- The reference's convolution at an index. -/
theorem ref_cv (A : FVec Ideal S4096x5632 .f32) (W : FVec Ideal S3x5632 .f32) (n : Fin 4096) (j : Fin 5632) : val_main_v22 (F := Ideal) A W (ix2 n j) = cv A W n j := by
  pointwise [val_main_v0, val_main_v1, val_main_v2, val_main_v3, val_main_v4, val_main_cst, val_main_v5, val_main_v6, val_main_v7, val_main_v8, val_main_v9, val_main_v10, val_main_v11, val_main_v12, val_main_v13, val_main_cst_0, val_main_v14, val_main_v15, val_main_v16, val_main_v17, val_main_v18, val_main_v19, val_main_v20, val_main_v21, val_main_v22]
  have e0 : sh A 0 n j = A (ix2 n j) := if_pos (Nat.zero_le _)
  have e1 : (if h : n.val < 1 then (0 : EReal) else A (ix2 ⟨n.val - 1, by omega⟩ j)) = sh A 1 n j := by
    by_cases h : n.val < 1
    · exact (dif_pos h).trans (if_neg (by omega)).symm
    · exact (dif_neg h).trans (if_pos (by omega)).symm
  have e2 : (if h : n.val < 2 then (0 : EReal) else A (ix2 ⟨n.val - 2, by omega⟩ j)) = sh A 2 n j := by
    by_cases h : n.val < 2
    · exact (dif_pos h).trans (if_neg (by omega)).symm
    · exact (dif_neg h).trans (if_pos (by omega)).symm
  refine (congrArg₂ (fun a b : EReal => a + b) (congrArg₂ (fun a b : EReal => a + b) rfl (congrArg (fun a : EReal => a * W (ix2 0 j)) e2)) (congrArg (fun a : EReal => a * W (ix2 1 j)) e1)).trans ?_
  rw [cv, e0, mul_comm (W (ix2 0 j)), mul_comm (W (ix2 1 j)), mul_comm (W (ix2 2 j)), add_comm _ (A (ix2 n j) * W (ix2 2 j)), add_assoc]

/-- The reference's gate input, slab by slab. -/
theorem ref_ug (A : FVec Ideal S4096x5632 .f32) (W : FVec Ideal S3x5632 .f32) (b : Fin 4) (n : Fin 4096) (j : Fin 704) :
    val_main_v34 (F := Ideal) A W (ix3 b n j) = cv A W n (col ⟨b.val, by omega⟩ j) := by
  refine Eq.trans ?_ (ref_cv A W n _)
  pointwise [val_main_v34, val_main_v33, val_main_v32, val_main_v23]

/-- The reference's gated values, slab by slab. -/
theorem ref_uv (A : FVec Ideal S4096x5632 .f32) (W : FVec Ideal S3x5632 .f32) (b : Fin 4) (n : Fin 4096) (j : Fin 704) :
    val_main_v37 (F := Ideal) A W (ix3 b n j) = cv A W n (col ⟨b.val + 4, by omega⟩ j) := by
  refine Eq.trans ?_ (ref_cv A W n _)
  pointwise [val_main_v37, val_main_v36, val_main_v35, val_main_v24]
  refine congrArg (fun i => val_main_v22 (F := Ideal) A W (ix2 n i)) (Fin.ext ?_)
  show 2816 + (b.val * 704 + j.val) = (b.val + 4) * 704 + j.val
  omega

/-- The reference's activation at an index. -/
theorem ref_ac (A : FVec Ideal S4096x5632 .f32) (W : FVec Ideal S3x5632 .f32) (n : Fin 4096) (k : Fin 2816) :
    val_main_v26 (F := Ideal) A W (ix2 n k) = acRow A W n k := by
  pointwise [val_main_v26, val_main_v25, val_main_call0_v0, val_main_call0_v1, val_main_call0_cst, val_main_call0_v2, val_main_call0_v3, val_main_call0_cst_0, val_main_call0_v4, val_main_call0_v5, val_main_v23, val_main_v24]
  rw [ref_cv, ref_cv]
  rfl

/-- The reference's activation, slab by slab. -/
theorem ref_act (A : FVec Ideal S4096x5632 .f32) (W : FVec Ideal S3x5632 .f32) (b : Fin 4) (n : Fin 4096) (j : Fin 704) :
    val_main_v31 (F := Ideal) A W (ix3 b n j) = ac A W n ⟨b.val, by omega⟩ ⟨b.val + 4, by omega⟩ j := by
  rw [acs A W n b j ⟨b.val * 704 + j.val, by omega⟩ rfl, ← ref_ac]
  pointwise [val_main_v31, val_main_v30, val_main_v29]

/-- The reference's first result at an index. -/
theorem ref_out (A : FVec Ideal S4096x5632 .f32) (W : FVec Ideal S3x5632 .f32) (D : FVec Ideal S2816x1024 .f32) (x : FVec Ideal S4096x1024 .f32) (n : Fin 4096) (j : Fin 1024) :
    val_main_v28 (F := Ideal) A W D x (ix2 n j) = x (ix2 n j) + ∑ k : Fin 2816, acRow A W n k * D (ix2 k j) := by
  pointwise [val_main_v28, val_main_v27]
  simp only [ref_ac]

/-- Result array 1. -/
theorem final5 (c : Dev nD) : (dats m 0 c).arrAt 5 (cfgs 0).N = val_main_v28 (F := Ideal) (A0 m c) (A1 m c) (A2 m c) (A3 m c) := by
  refine (dats m 0 c).arrAt_eq_of_covers 5 _ (by decide +kernel) fun t hf y => ?_
  blk_simp; rw [after0_5]
  have e : ((cfg0.win 5).blk t).view.emb y = ix2 (row t (y 0)) (y 1) := by blk_ext [idx t]
  rw [e, eq_ix2 y]
  exact (pt5 m c t (y 0) (y 1)).trans (ref_out _ _ _ _ _ _).symm

/-- Result array 2. -/
theorem final6 (c : Dev nD) : (dats m 0 c).arrAt 6 (cfgs 0).N = val_main_v31 (F := Ideal) (A0 m c) (A1 m c) := by
  refine (dats m 0 c).arrAt_eq_of_covers 6 _ (by decide +kernel) fun t hf y => ?_
  blk_simp; rw [after0_6]
  have e : ((cfg0.win 6).blk t).view.emb y = ix3 (y 0) (row t (y 1)) (y 2) := by blk_ext [idx t]
  rw [e, eq_ix3 y]
  exact (pt6 m c t (y 0) (y 1) (y 2)).trans (ref_act _ _ _ _ _).symm

/-- Result array 3. -/
theorem final7 (c : Dev nD) : (dats m 0 c).arrAt 7 (cfgs 0).N = val_main_v34 (F := Ideal) (A0 m c) (A1 m c) := by
  refine (dats m 0 c).arrAt_eq_of_covers 7 _ (by decide +kernel) fun t hf y => ?_
  blk_simp; rw [after0_7]
  have e : ((cfg0.win 7).blk t).view.emb y = ix3 (y 0) (row t (y 1)) (y 2) := by blk_ext [idx t]
  rw [e, eq_ix3 y]
  exact (pt7 m c t (y 0) (y 1) (y 2)).trans (ref_ug _ _ _ _ _).symm

/-- Result array 4. -/
theorem final8 (c : Dev nD) : (dats m 0 c).arrAt 8 (cfgs 0).N = val_main_v37 (F := Ideal) (A0 m c) (A1 m c) := by
  refine (dats m 0 c).arrAt_eq_of_covers 8 _ (by decide +kernel) fun t hf y => ?_
  blk_simp; rw [after0_8]
  have e : ((cfg0.win 8).blk t).view.emb y = ix3 (y 0) (row t (y 1)) (y 2) := by blk_ext [idx t]
  rw [e, eq_ix3 y]
  exact (pt8 m c t (y 0) (y 1) (y 2)).trans (ref_uv _ _ _ _ _).symm

/-- Kernel and reference of the middle of the feed-forward layer end with equal results. -/
theorem algebraic : Cert.algebraic_Kernel12Ideal_Reference12Ideal := by
  pair_intro
  · run_from Cert.Kernel12Ideal.Gen.run_main m g
    all_goals first | exact V_main_arg0 m c | exact V_main_arg1 m c | exact V_main_arg2 m c | exact V_main_arg3 m c
  · refine (θ_run _ _ _).mono (fun r h c => ?_) (Cert.Reference12Ideal.Value.run m' g')
    obtain ⟨e0, e1, e2, e3⟩ := hagree c
    obtain ⟨h0, h1, h2, h3, ha⟩ := h c
    refine ⟨h0.trans ((Cert.Reference12Ideal.Read.val_main_v28_eq _ _).trans (.trans ?_ (final5 m c).symm)), h1.trans ((Cert.Reference12Ideal.Read.val_main_v31_eq _ _).trans (.trans ?_ (final6 m c).symm)), h2.trans ((Cert.Reference12Ideal.Read.val_main_v34_eq _ _).trans (.trans ?_ (final7 m c).symm)), h3.trans ((Cert.Reference12Ideal.Read.val_main_v37_eq _ _).trans (.trans ?_ (final8 m c).symm)), ha⟩
    · exact Args.congr4 val_main_v28 e0 e1 e2 e3
    · exact congrArg₂ val_main_v31 e0 e1
    · exact congrArg₂ val_main_v34 e0 e1
    · exact congrArg₂ val_main_v37 e0 e1

end Cert.Kernel12Ideal.Math

end
-- ==== Proof.AdamIn.lean ====
/- The update of the input projection's weight: the four arrays `Kernel13Ideal` returns are the reference's results. -/
module

public import proofs.«01_k».proof.Proof.Gen.Kernel13Ideal.Frame
public import proofs.«01_k».proof.Proof.Gen.Reference13Ideal.Read
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.Math

open Cert.Kernel13Ideal Cert.Kernel13Ideal.Gen

open Cert.Reference13Ideal.Read (val_main_v0 val_main_cst val_main_v1 val_main_v2 val_main_v3 val_main_cst_0 val_main_v4 val_main_v5 val_main_cst_1 val_main_v6 val_main_v7 val_main_v8 val_main_cst_2 val_main_v9 val_main_v10 val_main_v11 val_main_cst_3 val_main_v12 val_main_v13 val_main_v14 val_main_cst_4 val_main_v15 val_main_v16 val_main_cst_5 val_main_v17 val_main_v18 val_main_v19 val_main_cst_6 val_main_v20 val_main_v21 val_main_v22 val_main_cst_7 val_main_v23 val_main_v24 val_main_v25 val_main_cst_8 val_main_v26 val_main_v27)

variable (m : (ℓ : Loc nD τ sig) → Buf (Elt Ideal) ℓ)

/-- Every window's block index at the one grid point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- An array as the call takes and returns it. -/
def arrange (x : FVec Ideal S1x1024x320 .f32) : FVec Ideal S1x320x1024 .f32 := transpose S1x320x1024 [0, 2, 1] x transposes_S1x1024x320_S1x320x1024_0_2_1

/-- The array so arranged, brought back. -/
theorem arrange_back (x : FVec Ideal S1x1024x320 .f32) : transpose S1x1024x320 [0, 2, 1] (arrange x) transposes_S1x320x1024_S1x1024x320_0_2_1 = x := by
  funext i
  rw [eq_ix3 i, Fin.fin_one_eq_zero (i 0)]
  pointwise [arrange]

/-- The block of the eight partial gradients. -/
theorem blk0 (c : Dev nD) (t : Fin cfg0.N) (q : Fin 8) (r : Fin 320) (j : Fin 1024) : iblk m c 0 t (ix3 q r j) = (m ((c : Thread nD τ).loc main_arg0)) (ix3 q r j) := by
  blk_simp [iblk]
  rw [V_main_arg0]
  blk_point [idx t]

/-- The weight as the call takes it. -/
theorem V_1 (c : Dev nD) : V m c main_v0 = arrange (m ((c : Thread nD τ).loc main_arg1)) := by
  entry_read
  rfl

/-- The block of the weight. -/
theorem blk1 (c : Dev nD) (t : Fin cfg0.N) (r : Fin 320) (j : Fin 1024) : iblk m c 1 t (ix3 0 r j) = (m ((c : Thread nD τ).loc main_arg1)) (ix3 0 j r) := by
  blk_simp [iblk]
  rw [V_1]
  pointwise [arrange]
  blk_point [idx t]

/-- The first moment as the call takes it. -/
theorem V_2 (c : Dev nD) : V m c main_v1 = arrange (m ((c : Thread nD τ).loc main_arg2)) := by
  entry_read
  rfl

/-- The block of the first moment. -/
theorem blk2 (c : Dev nD) (t : Fin cfg0.N) (r : Fin 320) (j : Fin 1024) : iblk m c 2 t (ix3 0 r j) = (m ((c : Thread nD τ).loc main_arg2)) (ix3 0 j r) := by
  blk_simp [iblk]
  rw [V_2]
  pointwise [arrange]
  blk_point [idx t]

/-- The second moment as the call takes it. -/
theorem V_3 (c : Dev nD) : V m c main_v2 = arrange (m ((c : Thread nD τ).loc main_arg3)) := by
  entry_read
  rfl

/-- The block of the second moment. -/
theorem blk3 (c : Dev nD) (t : Fin cfg0.N) (r : Fin 320) (j : Fin 1024) : iblk m c 3 t (ix3 0 r j) = (m ((c : Thread nD τ).loc main_arg3)) (ix3 0 j r) := by
  blk_simp [iblk]
  rw [V_3]
  pointwise [arrange]
  blk_point [idx t]

/-- The sum of the eight partial gradients. -/
theorem grad (c : Dev nD) (t : Fin cfg0.N) (r : Fin 320) (j : Fin 1024) : (k0_pay8 (F := Ideal) (iblk m c 0 t) (iblk m c 1 t) (iblk m c 2 t) (iblk m c 3 t)) (ix2 r j) = @Finset.sum (Fin 8) EReal _ Finset.univ fun x => (m ((c : Thread nD τ).loc main_arg0)) (ix3 x r j) := by
  pointwise [k0_pay8, k0_pay3]
  rw [Fin.sum_univ_eight]
  simp only [blk0]

/-- An entry of the summed gradient. -/
theorem point4 (c : Dev nD) (t : Fin cfg0.N) (r : Fin 320) (j : Fin 1024) : k0_pay6 (F := Ideal) (k0_pay8 (F := Ideal) (iblk m c 0 t) (iblk m c 1 t) (iblk m c 2 t) (iblk m c 3 t)) (ix3 0 r j) = arrange (val_main_v3 (F := Ideal) (m ((c : Thread nD τ).loc main_arg0))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [h, h1, h2, h3]

/-- The array of the summed gradient. -/
theorem final4 (c : Dev nD) : (dats m 0 c).arrAt 4 (cfgs 0).N = arrange (val_main_v3 (F := Ideal) (m ((c : Thread nD τ).loc main_arg0))) := by
  refine (dats m 0 c).arrAt_eq_of_covers 4 _ (by decide +kernel) fun t hf y => ?_
  blk_simp; rw [after0_4]
  frame_out
  have e : ((cfg0.win 4).blk t).view.emb y = ix3 0 (y 1) (y 2) := by blk_ext [idx t]
  rw [e, eq_ix3 y, Fin.fin_one_eq_zero (y 0)]
  exact point4 m c t (y 1) (y 2)

/-- The summed gradient as the program returns it. -/
theorem result4 (c : Dev nD) : Pipeline.afterTail₀ cfgs (dats m) 0 (V0 m) [hostOps1] c main_v4 = val_main_v3 (F := Ideal) (m ((c : Thread nD τ).loc main_arg0)) := by
  have w : Pipeline.withArrays (cfgs 0).spec c (V0 m c) (fun w => (dats m 0 c).arrAt w (cfgs 0).N) (Proc.devRef .tc (Pipeline.arrRef spec0 4)) = (dats m 0 c).arrAt 4 (cfgs 0).N :=
    Pipeline.withArrays_arr spec0 (by decide) c (V0 m c) _ 4
  rw [final4] at w
  refine Eq.trans ?_ (arrange_back _)
  rw [← w]
  unfold Pipeline.afterTail₀
  after_results_simp <;> rfl

/-- An entry of the change of the weight. -/
theorem point5 (c : Dev nD) (t : Fin cfg0.N) (r : Fin 320) (j : Fin 1024) : k0_pay7 (F := Ideal) (k0_pay8 (F := Ideal) (iblk m c 0 t) (iblk m c 1 t) (iblk m c 2 t) (iblk m c 3 t)) (iblk m c 2 t) (iblk m c 3 t) (iblk m c 1 t) (ix3 0 r j) = arrange (val_main_v27 (F := Ideal) (m ((c : Thread nD τ).loc main_arg0)) (m ((c : Thread nD τ).loc main_arg1)) (m ((c : Thread nD τ).loc main_arg2)) (m ((c : Thread nD τ).loc main_arg3))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [h, h1, h2, h3]

/-- The array of the change of the weight. -/
theorem final5 (c : Dev nD) : (dats m 0 c).arrAt 5 (cfgs 0).N = arrange (val_main_v27 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp; rw [after0_5]
  frame_out
  have e : ((cfg0.win 5).blk t).view.emb y = ix3 0 (y 1) (y 2) := by blk_ext [idx t]
  rw [e, eq_ix3 y, Fin.fin_one_eq_zero (y 0)]
  exact point5 m c t (y 1) (y 2)

/-- The change of the weight as the program returns it. -/
theorem result5 (c : Dev nD) : Pipeline.afterTail₀ cfgs (dats m) 0 (V0 m) [hostOps1] c main_v5 = val_main_v27 (F := Ideal) (m ((c : Thread nD τ).loc main_arg0)) (m ((c : Thread nD τ).loc main_arg1)) (m ((c : Thread nD τ).loc main_arg2)) (m ((c : Thread nD τ).loc main_arg3)) := by
  have w : Pipeline.withArrays (cfgs 0).spec c (V0 m c) (fun w => (dats m 0 c).arrAt w (cfgs 0).N) (Proc.devRef .tc (Pipeline.arrRef spec0 5)) = (dats m 0 c).arrAt 5 (cfgs 0).N :=
    Pipeline.withArrays_arr spec0 (by decide) c (V0 m c) _ 5
  rw [final5] at w
  refine Eq.trans ?_ (arrange_back _)
  rw [← w]
  unfold Pipeline.afterTail₀
  after_results_simp <;> rfl

/-- An entry of the new first moment. -/
theorem point6 (c : Dev nD) (t : Fin cfg0.N) (r : Fin 320) (j : Fin 1024) : k0_pay1 (F := Ideal) (k0_pay4 (k0_pay8 (F := Ideal) (iblk m c 0 t) (iblk m c 1 t) (iblk m c 2 t) (iblk m c 3 t)) (iblk m c 2 t)) (ix3 0 r j) = arrange (val_main_v8 (F := Ideal) (m ((c : Thread nD τ).loc main_arg0)) (m ((c : Thread nD τ).loc main_arg2))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [h, h1, h2, h3]

/-- The array of the new first moment. -/
theorem final6 (c : Dev nD) : (dats m 0 c).arrAt 6 (cfgs 0).N = arrange (val_main_v8 (F := Ideal) (m ((c : Thread nD τ).loc main_arg0)) (m ((c : Thread nD τ).loc main_arg2))) := by
  refine (dats m 0 c).arrAt_eq_of_covers 6 _ (by decide +kernel) fun t hf y => ?_
  blk_simp; rw [after0_6]
  frame_out
  have e : ((cfg0.win 6).blk t).view.emb y = ix3 0 (y 1) (y 2) := by blk_ext [idx t]
  rw [e, eq_ix3 y, Fin.fin_one_eq_zero (y 0)]
  exact point6 m c t (y 1) (y 2)

/-- The new first moment as the program returns it. -/
theorem result6 (c : Dev nD) : Pipeline.afterTail₀ cfgs (dats m) 0 (V0 m) [hostOps1] c main_v6 = val_main_v8 (F := Ideal) (m ((c : Thread nD τ).loc main_arg0)) (m ((c : Thread nD τ).loc main_arg2)) := by
  have w : Pipeline.withArrays (cfgs 0).spec c (V0 m c) (fun w => (dats m 0 c).arrAt w (cfgs 0).N) (Proc.devRef .tc (Pipeline.arrRef spec0 6)) = (dats m 0 c).arrAt 6 (cfgs 0).N :=
    Pipeline.withArrays_arr spec0 (by decide) c (V0 m c) _ 6
  rw [final6] at w
  refine Eq.trans ?_ (arrange_back _)
  rw [← w]
  unfold Pipeline.afterTail₀
  after_results_simp <;> rfl

/-- An entry of the new second moment. -/
theorem point7 (c : Dev nD) (t : Fin cfg0.N) (r : Fin 320) (j : Fin 1024) : k0_pay2 (F := Ideal) (k0_pay5 (k0_pay8 (F := Ideal) (iblk m c 0 t) (iblk m c 1 t) (iblk m c 2 t) (iblk m c 3 t)) (iblk m c 3 t)) (ix3 0 r j) = arrange (val_main_v14 (F := Ideal) (m ((c : Thread nD τ).loc main_arg0)) (m ((c : Thread nD τ).loc main_arg3))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_v3, val_main_cst_0, val_main_v4, val_main_v5, val_main_cst_1, val_main_v6, val_main_v7, val_main_v8, val_main_cst_2, val_main_v9, val_main_v10, val_main_v11, val_main_cst_3, val_main_v12, val_main_v13, val_main_v14, val_main_cst_4, val_main_v15, val_main_v16, val_main_cst_5, val_main_v17, val_main_v18, val_main_v19, val_main_cst_6, val_main_v20, val_main_v21, val_main_v22, val_main_cst_7, val_main_v23, val_main_v24, val_main_v25, val_main_cst_8, val_main_v26, val_main_v27]
  simp only [h, h1, h2, h3]

/-- The array of the new second moment. -/
theorem final7 (c : Dev nD) : (dats m 0 c).arrAt 7 (cfgs 0).N = arrange (val_main_v14 (F := Ideal) (m ((c : Thread nD τ).loc main_arg0)) (m ((c : Thread nD τ).loc main_arg3))) := by
  refine (dats m 0 c).arrAt_eq_of_covers 7 _ (by decide +kernel) fun t hf y => ?_
  blk_simp; rw [after0_7]
  frame_out
  have e : ((cfg0.win 7).blk t).view.emb y = ix3 0 (y 1) (y 2) := by blk_ext [idx t]
  rw [e, eq_ix3 y, Fin.fin_one_eq_zero (y 0)]
  exact point7 m c t (y 1) (y 2)

/-- The new second moment as the program returns it. -/
theorem result7 (c : Dev nD) : Pipeline.afterTail₀ cfgs (dats m) 0 (V0 m) [hostOps1] c main_v7 = val_main_v14 (F := Ideal) (m ((c : Thread nD τ).loc main_arg0)) (m ((c : Thread nD τ).loc main_arg3)) := by
  have w : Pipeline.withArrays (cfgs 0).spec c (V0 m c) (fun w => (dats m 0 c).arrAt w (cfgs 0).N) (Proc.devRef .tc (Pipeline.arrRef spec0 7)) = (dats m 0 c).arrAt 7 (cfgs 0).N :=
    Pipeline.withArrays_arr spec0 (by decide) c (V0 m c) _ 7
  rw [final7] at w
  refine Eq.trans ?_ (arrange_back _)
  rw [← w]
  unfold Pipeline.afterTail₀
  after_results_simp <;> rfl

/-- Kernel and reference of the update of the input projection's weight end with equal results. -/
theorem algebraic : Cert.algebraic_Kernel13Ideal_Reference13Ideal := by
  pair_intro
  · run_from Cert.Kernel13Ideal.Gen.run_main m g
    all_goals first | exact W_main_arg1 m (dats m) c | exact W_main_arg2 m (dats m) c | exact W_main_arg3 m (dats m) c
  · refine (θ_run _ _ _).mono (fun r h c => ?_) (Cert.Reference13Ideal.Value.run m' g')
    obtain ⟨e0, e1, e2, e3⟩ := hagree c
    obtain ⟨h0, h1, h2, h3, ha⟩ := h c
    refine ⟨h0.trans ((Cert.Reference13Ideal.Read.val_main_v3_eq _).trans (.trans ?_ (result4 m c).symm)), h1.trans ((Cert.Reference13Ideal.Read.val_main_v27_eq _ _ _ _).trans (.trans ?_ (result5 m c).symm)), h2.trans ((Cert.Reference13Ideal.Read.val_main_v8_eq _ _).trans (.trans ?_ (result6 m c).symm)), h3.trans ((Cert.Reference13Ideal.Read.val_main_v14_eq _ _).trans (.trans ?_ (result7 m c).symm)), ha⟩
    · exact congrArg val_main_v3 e0
    · exact Args.congr4 val_main_v27 e0 e1 e2 e3
    · exact congrArg₂ val_main_v8 e0 e2
    · exact congrArg₂ val_main_v14 e0 e3

end Cert.Kernel13Ideal.Math

end
-- ==== Proof.AdamOut.lean ====
/- The update of the output projection's weight: the four arrays `Kernel14Ideal` writes are the reference's results. -/
module

public import proofs.«01_k».proof.Proof.Gen.Kernel14Ideal.Frame
public import proofs.«01_k».proof.Proof.Gen.Reference14Ideal.Read
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Math

open Cert.Kernel14Ideal Cert.Kernel14Ideal.Gen

open Cert.Reference14Ideal.Read (val_main_v0 val_main_cst val_main_v1 val_main_v2 val_main_cst_0 val_main_v3 val_main_v4 val_main_cst_1 val_main_v5 val_main_v6 val_main_v7 val_main_cst_2 val_main_v8 val_main_v9 val_main_v10 val_main_cst_3 val_main_v11 val_main_v12 val_main_v13 val_main_cst_4 val_main_v14 val_main_v15 val_main_cst_5 val_main_v16 val_main_v17 val_main_v18 val_main_cst_6 val_main_v19 val_main_v20 val_main_v21 val_main_cst_7 val_main_v22 val_main_v23 val_main_v24 val_main_cst_8 val_main_v25 val_main_v26)

variable (m : (ℓ : Loc nD τ sig) → Buf (Elt Ideal) ℓ)

/-- Every window's block index at the one grid point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The block of the eight partial gradients. -/
theorem blk0 (c : Dev nD) (t : Fin cfg0.N) (q : Fin 8) (r : Fin 128) (j : Fin 1024) : iblk m c 0 t (ix3 q r j) = (m ((c : Thread nD τ).loc main_arg0)) (ix3 q r j) := by
  blk_simp [iblk]
  rw [V_main_arg0]
  blk_point [idx t]

/-- The block of the weight. -/
theorem blk1 (c : Dev nD) (t : Fin cfg0.N) (r : Fin 128) (j : Fin 1024) : iblk m c 1 t (ix3 0 r j) = (m ((c : Thread nD τ).loc main_arg1)) (ix3 0 r j) := by
  blk_simp [iblk]
  rw [V_main_arg1]
  blk_point [idx t]

/-- The block of the first moment. -/
theorem blk2 (c : Dev nD) (t : Fin cfg0.N) (r : Fin 128) (j : Fin 1024) : iblk m c 2 t (ix3 0 r j) = (m ((c : Thread nD τ).loc main_arg2)) (ix3 0 r j) := by
  blk_simp [iblk]
  rw [V_main_arg2]
  blk_point [idx t]

/-- The block of the second moment. -/
theorem blk3 (c : Dev nD) (t : Fin cfg0.N) (r : Fin 128) (j : Fin 1024) : iblk m c 3 t (ix3 0 r j) = (m ((c : Thread nD τ).loc main_arg3)) (ix3 0 r j) := by
  blk_simp [iblk]
  rw [V_main_arg3]
  blk_point [idx t]

/-- The sum of the eight partial gradients. -/
theorem grad (c : Dev nD) (t : Fin cfg0.N) (r : Fin 128) (j : Fin 1024) : (k0_pay8 (F := Ideal) (iblk m c 0 t) (iblk m c 1 t) (iblk m c 2 t) (iblk m c 3 t)) (ix2 r j) = @Finset.sum (Fin 8) EReal _ Finset.univ fun x => (m ((c : Thread nD τ).loc main_arg0)) (ix3 x r j) := by
  pointwise [k0_pay8, k0_pay3]
  rw [Fin.sum_univ_eight]
  simp only [blk0]

/-- An entry of the summed gradient. -/
theorem point4 (c : Dev nD) (t : Fin cfg0.N) (r : Fin 128) (j : Fin 1024) : k0_pay6 (F := Ideal) (k0_pay8 (F := Ideal) (iblk m c 0 t) (iblk m c 1 t) (iblk m c 2 t) (iblk m c 3 t)) (ix3 0 r j) = val_main_v2 (F := Ideal) (m ((c : Thread nD τ).loc main_arg0)) (ix3 0 r j) := by
  have h := grad m c t r j
  have h1 := blk1 m c t r j
  have h2 := blk2 m c t r j
  have h3 := blk3 m c t r j
  pointwise [k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the summed gradient. -/
theorem final4 (c : Dev nD) : (dats m 0 c).arrAt 4 (cfgs 0).N = val_main_v2 (F := Ideal) (m ((c : Thread nD τ).loc main_arg0)) := by
  refine (dats m 0 c).arrAt_eq_of_covers 4 _ (by decide +kernel) fun t hf y => ?_
  blk_simp; rw [after0_4]
  frame_out
  have e : ((cfg0.win 4).blk t).view.emb y = ix3 0 (y 1) (y 2) := by blk_ext [idx t]
  rw [e, eq_ix3 y, Fin.fin_one_eq_zero (y 0)]
  exact point4 m c t (y 1) (y 2)

/-- An entry of the change of the weight. -/
theorem point5 (c : Dev nD) (t : Fin cfg0.N) (r : Fin 128) (j : Fin 1024) : k0_pay7 (F := Ideal) (k0_pay8 (F := Ideal) (iblk m c 0 t) (iblk m c 1 t) (iblk m c 2 t) (iblk m c 3 t)) (iblk m c 2 t) (iblk m c 3 t) (iblk m c 1 t) (ix3 0 r j) = val_main_v26 (F := Ideal) (m ((c : Thread nD τ).loc main_arg0)) (m ((c : Thread nD τ).loc main_arg1)) (m ((c : Thread nD τ).loc main_arg2)) (m ((c : Thread nD τ).loc main_arg3)) (ix3 0 r j) := by
  have h := grad m c t r j
  have h1 := blk1 m c t r j
  have h2 := blk2 m c t r j
  have h3 := blk3 m c t r j
  pointwise [k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the change of the weight. -/
theorem final5 (c : Dev nD) : (dats m 0 c).arrAt 5 (cfgs 0).N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  frame_out
  have e : ((cfg0.win 5).blk t).view.emb y = ix3 0 (y 1) (y 2) := by blk_ext [idx t]
  rw [e, eq_ix3 y, Fin.fin_one_eq_zero (y 0)]
  exact point5 m c t (y 1) (y 2)

/-- An entry of the new first moment. -/
theorem point6 (c : Dev nD) (t : Fin cfg0.N) (r : Fin 128) (j : Fin 1024) : k0_pay1 (F := Ideal) (k0_pay4 (k0_pay8 (F := Ideal) (iblk m c 0 t) (iblk m c 1 t) (iblk m c 2 t) (iblk m c 3 t)) (iblk m c 2 t)) (ix3 0 r j) = val_main_v7 (F := Ideal) (m ((c : Thread nD τ).loc main_arg0)) (m ((c : Thread nD τ).loc main_arg2)) (ix3 0 r j) := by
  have h := grad m c t r j
  have h1 := blk1 m c t r j
  have h2 := blk2 m c t r j
  have h3 := blk3 m c t r j
  pointwise [k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the new first moment. -/
theorem final6 (c : Dev nD) : (dats m 0 c).arrAt 6 (cfgs 0).N = val_main_v7 (F := Ideal) (m ((c : Thread nD τ).loc main_arg0)) (m ((c : Thread nD τ).loc main_arg2)) := by
  refine (dats m 0 c).arrAt_eq_of_covers 6 _ (by decide +kernel) fun t hf y => ?_
  blk_simp; rw [after0_6]
  frame_out
  have e : ((cfg0.win 6).blk t).view.emb y = ix3 0 (y 1) (y 2) := by blk_ext [idx t]
  rw [e, eq_ix3 y, Fin.fin_one_eq_zero (y 0)]
  exact point6 m c t (y 1) (y 2)

/-- An entry of the new second moment. -/
theorem point7 (c : Dev nD) (t : Fin cfg0.N) (r : Fin 128) (j : Fin 1024) : k0_pay2 (F := Ideal) (k0_pay5 (k0_pay8 (F := Ideal) (iblk m c 0 t) (iblk m c 1 t) (iblk m c 2 t) (iblk m c 3 t)) (iblk m c 3 t)) (ix3 0 r j) = val_main_v13 (F := Ideal) (m ((c : Thread nD τ).loc main_arg0)) (m ((c : Thread nD τ).loc main_arg3)) (ix3 0 r j) := by
  have h := grad m c t r j
  have h1 := blk1 m c t r j
  have h2 := blk2 m c t r j
  have h3 := blk3 m c t r j
  pointwise [k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the new second moment. -/
theorem final7 (c : Dev nD) : (dats m 0 c).arrAt 7 (cfgs 0).N = val_main_v13 (F := Ideal) (m ((c : Thread nD τ).loc main_arg0)) (m ((c : Thread nD τ).loc main_arg3)) := by
  refine (dats m 0 c).arrAt_eq_of_covers 7 _ (by decide +kernel) fun t hf y => ?_
  blk_simp; rw [after0_7]
  frame_out
  have e : ((cfg0.win 7).blk t).view.emb y = ix3 0 (y 1) (y 2) := by blk_ext [idx t]
  rw [e, eq_ix3 y, Fin.fin_one_eq_zero (y 0)]
  exact point7 m c t (y 1) (y 2)

/-- Kernel and reference of the output projection's update end with equal results. -/
theorem algebraic : Cert.algebraic_Kernel14Ideal_Reference14Ideal := by
  pair_intro
  · run_from Cert.Kernel14Ideal.Gen.run_main m g
    all_goals first | exact V_main_arg0 m c | exact V_main_arg1 m c | exact V_main_arg2 m c | exact V_main_arg3 m c
  · refine (θ_run _ _ _).mono (fun r h c => ?_) (Cert.Reference14Ideal.Value.run m' g')
    obtain ⟨e0, e1, e2, e3⟩ := hagree c
    obtain ⟨h0, h1, h2, h3, ha⟩ := h c
    refine ⟨h0.trans ((Cert.Reference14Ideal.Read.val_main_v2_eq _).trans (.trans ?_ (final4 m c).symm)), h1.trans ((Cert.Reference14Ideal.Read.val_main_v26_eq _ _ _ _).trans (.trans ?_ (final5 m c).symm)), h2.trans ((Cert.Reference14Ideal.Read.val_main_v7_eq _ _).trans (.trans ?_ (final6 m c).symm)), h3.trans ((Cert.Reference14Ideal.Read.val_main_v13_eq _ _).trans (.trans ?_ (final7 m c).symm)), ha⟩
    · exact congrArg val_main_v2 e0
    · exact Args.congr4 val_main_v26 e0 e1 e2 e3
    · exact congrArg₂ val_main_v7 e0 e2
    · exact congrArg₂ val_main_v13 e0 e3

end Cert.Kernel14Ideal.Math

end
-- ==== Proof.AdamPool.lean ====
/- The update of the pooling weight: the four arrays `Kernel15Ideal` returns are the reference's results. -/
module

public import proofs.«01_k».proof.Proof.Gen.Kernel15Ideal.Frame
public import proofs.«01_k».proof.Proof.Gen.Reference15Ideal.Read
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Math

open Cert.Kernel15Ideal Cert.Kernel15Ideal.Gen

open Cert.Reference15Ideal.Read (val_main_v0 val_main_cst val_main_v1 val_main_v2 val_main_cst_0 val_main_v3 val_main_v4 val_main_cst_1 val_main_v5 val_main_v6 val_main_v7 val_main_cst_2 val_main_v8 val_main_v9 val_main_v10 val_main_cst_3 val_main_v11 val_main_v12 val_main_v13 val_main_cst_4 val_main_v14 val_main_v15 val_main_cst_5 val_main_v16 val_main_v17 val_main_v18 val_main_cst_6 val_main_v19 val_main_v20 val_main_v21 val_main_cst_7 val_main_v22 val_main_v23 val_main_v24 val_main_cst_8 val_main_v25 val_main_v26)

variable (m : (ℓ : Loc nD τ sig) → Buf (Elt Ideal) ℓ)

/-- Every window's block index at the one grid point. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- An array as the call takes and returns it. -/
def arrange (x : FVec Ideal S1x4x32x256 .f32) : FVec Ideal S1x128x256 .f32 := shapeCast S1x128x256 x shapeCasts_S1x4x32x256_S1x128x256

/-- The array so arranged, brought back. -/
theorem arrange_back (x : FVec Ideal S1x4x32x256 .f32) : shapeCast S1x4x32x256 (arrange x) shapeCasts_S1x128x256_S1x4x32x256 = x := by
  funext i
  pointwise [arrange]

/-- The block of the eight partial gradients. -/
theorem blk0 (c : Dev nD) (t : Fin cfg0.N) (q : Fin 8) (r : Fin 128) (j : Fin 256) : iblk m c 0 t (ix3 q r j) = (m ((c : Thread nD τ).loc main_arg0)) (ix3 q r j) := by
  blk_simp [iblk]
  rw [V_main_arg0]
  blk_point [idx t]

/-- The weight as the call takes it. -/
theorem V_1 (c : Dev nD) : V m c main_v0 = arrange (m ((c : Thread nD τ).loc main_arg1)) := by
  entry_read
  rfl

/-- The block of the weight. -/
theorem blk1 (c : Dev nD) (t : Fin cfg0.N) (r : Fin 128) (j : Fin 256) : iblk m c 1 t (ix3 0 r j) = (m ((c : Thread nD τ).loc main_arg1)) (ix4 0 ⟨(r : Fin 128).val / 32, by omega⟩ ⟨(r : Fin 128).val % 32, by omega⟩ j) := by
  blk_simp [iblk]
  rw [V_1]
  pointwise [arrange]
  blk_point [idx t]

/-- The first moment as the call takes it. -/
theorem V_2 (c : Dev nD) : V m c main_v1 = arrange (m ((c : Thread nD τ).loc main_arg2)) := by
  entry_read
  rfl

/-- The block of the first moment. -/
theorem blk2 (c : Dev nD) (t : Fin cfg0.N) (r : Fin 128) (j : Fin 256) : iblk m c 2 t (ix3 0 r j) = (m ((c : Thread nD τ).loc main_arg2)) (ix4 0 ⟨(r : Fin 128).val / 32, by omega⟩ ⟨(r : Fin 128).val % 32, by omega⟩ j) := by
  blk_simp [iblk]
  rw [V_2]
  pointwise [arrange]
  blk_point [idx t]

/-- The second moment as the call takes it. -/
theorem V_3 (c : Dev nD) : V m c main_v2 = arrange (m ((c : Thread nD τ).loc main_arg3)) := by
  entry_read
  rfl

/-- The block of the second moment. -/
theorem blk3 (c : Dev nD) (t : Fin cfg0.N) (r : Fin 128) (j : Fin 256) : iblk m c 3 t (ix3 0 r j) = (m ((c : Thread nD τ).loc main_arg3)) (ix4 0 ⟨(r : Fin 128).val / 32, by omega⟩ ⟨(r : Fin 128).val % 32, by omega⟩ j) := by
  blk_simp [iblk]
  rw [V_3]
  pointwise [arrange]
  blk_point [idx t]

/-- The sum of the eight partial gradients. -/
theorem grad (c : Dev nD) (t : Fin cfg0.N) (r : Fin 128) (j : Fin 256) : (k0_pay8 (F := Ideal) (iblk m c 0 t) (iblk m c 1 t) (iblk m c 2 t) (iblk m c 3 t)) (ix2 r j) = @Finset.sum (Fin 8) EReal _ Finset.univ fun x => (m ((c : Thread nD τ).loc main_arg0)) (ix3 x r j) := by
  pointwise [k0_pay8, k0_pay3]
  rw [Fin.sum_univ_eight]
  simp only [blk0]

/-- An entry of the summed gradient. -/
theorem point4 (c : Dev nD) (t : Fin cfg0.N) (r : Fin 128) (j : Fin 256) : k0_pay6 (F := Ideal) (k0_pay8 (F := Ideal) (iblk m c 0 t) (iblk m c 1 t) (iblk m c 2 t) (iblk m c 3 t)) (ix3 0 r j) = arrange (val_main_v2 (F := Ideal) (m ((c : Thread nD τ).loc main_arg0))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the summed gradient. -/
theorem final4 (c : Dev nD) : (dats m 0 c).arrAt 4 (cfgs 0).N = arrange (val_main_v2 (F := Ideal) (m ((c : Thread nD τ).loc main_arg0))) := by
  refine (dats m 0 c).arrAt_eq_of_covers 4 _ (by decide +kernel) fun t hf y => ?_
  blk_simp; rw [after0_4]
  frame_out
  have e : ((cfg0.win 4).blk t).view.emb y = ix3 0 (y 1) (y 2) := by blk_ext [idx t]
  rw [e, eq_ix3 y, Fin.fin_one_eq_zero (y 0)]
  exact point4 m c t (y 1) (y 2)

/-- The summed gradient as the program returns it. -/
theorem result4 (c : Dev nD) : Pipeline.afterTail₀ cfgs (dats m) 0 (V0 m) [hostOps1] c main_v4 = val_main_v2 (F := Ideal) (m ((c : Thread nD τ).loc main_arg0)) := by
  have w : Pipeline.withArrays (cfgs 0).spec c (V0 m c) (fun w => (dats m 0 c).arrAt w (cfgs 0).N) (Proc.devRef .tc (Pipeline.arrRef spec0 4)) = (dats m 0 c).arrAt 4 (cfgs 0).N :=
    Pipeline.withArrays_arr spec0 (by decide) c (V0 m c) _ 4
  rw [final4] at w
  refine Eq.trans ?_ (arrange_back _)
  rw [← w]
  unfold Pipeline.afterTail₀
  after_results_simp <;> rfl

/-- An entry of the change of the weight. -/
theorem point5 (c : Dev nD) (t : Fin cfg0.N) (r : Fin 128) (j : Fin 256) : k0_pay7 (F := Ideal) (k0_pay8 (F := Ideal) (iblk m c 0 t) (iblk m c 1 t) (iblk m c 2 t) (iblk m c 3 t)) (iblk m c 2 t) (iblk m c 3 t) (iblk m c 1 t) (ix3 0 r j) = arrange (val_main_v26 (F := Ideal) (m ((c : Thread nD τ).loc main_arg0)) (m ((c : Thread nD τ).loc main_arg1)) (m ((c : Thread nD τ).loc main_arg2)) (m ((c : Thread nD τ).loc main_arg3))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the change of the weight. -/
theorem final5 (c : Dev nD) : (dats m 0 c).arrAt 5 (cfgs 0).N = arrange (val_main_v26 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp; rw [after0_5]
  frame_out
  have e : ((cfg0.win 5).blk t).view.emb y = ix3 0 (y 1) (y 2) := by blk_ext [idx t]
  rw [e, eq_ix3 y, Fin.fin_one_eq_zero (y 0)]
  exact point5 m c t (y 1) (y 2)

/-- The change of the weight as the program returns it. -/
theorem result5 (c : Dev nD) : Pipeline.afterTail₀ cfgs (dats m) 0 (V0 m) [hostOps1] c main_v5 = val_main_v26 (F := Ideal) (m ((c : Thread nD τ).loc main_arg0)) (m ((c : Thread nD τ).loc main_arg1)) (m ((c : Thread nD τ).loc main_arg2)) (m ((c : Thread nD τ).loc main_arg3)) := by
  have w : Pipeline.withArrays (cfgs 0).spec c (V0 m c) (fun w => (dats m 0 c).arrAt w (cfgs 0).N) (Proc.devRef .tc (Pipeline.arrRef spec0 5)) = (dats m 0 c).arrAt 5 (cfgs 0).N :=
    Pipeline.withArrays_arr spec0 (by decide) c (V0 m c) _ 5
  rw [final5] at w
  refine Eq.trans ?_ (arrange_back _)
  rw [← w]
  unfold Pipeline.afterTail₀
  after_results_simp <;> rfl

/-- An entry of the new first moment. -/
theorem point6 (c : Dev nD) (t : Fin cfg0.N) (r : Fin 128) (j : Fin 256) : k0_pay1 (F := Ideal) (k0_pay4 (k0_pay8 (F := Ideal) (iblk m c 0 t) (iblk m c 1 t) (iblk m c 2 t) (iblk m c 3 t)) (iblk m c 2 t)) (ix3 0 r j) = arrange (val_main_v7 (F := Ideal) (m ((c : Thread nD τ).loc main_arg0)) (m ((c : Thread nD τ).loc main_arg2))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the new first moment. -/
theorem final6 (c : Dev nD) : (dats m 0 c).arrAt 6 (cfgs 0).N = arrange (val_main_v7 (F := Ideal) (m ((c : Thread nD τ).loc main_arg0)) (m ((c : Thread nD τ).loc main_arg2))) := by
  refine (dats m 0 c).arrAt_eq_of_covers 6 _ (by decide +kernel) fun t hf y => ?_
  blk_simp; rw [after0_6]
  frame_out
  have e : ((cfg0.win 6).blk t).view.emb y = ix3 0 (y 1) (y 2) := by blk_ext [idx t]
  rw [e, eq_ix3 y, Fin.fin_one_eq_zero (y 0)]
  exact point6 m c t (y 1) (y 2)

/-- The new first moment as the program returns it. -/
theorem result6 (c : Dev nD) : Pipeline.afterTail₀ cfgs (dats m) 0 (V0 m) [hostOps1] c main_v6 = val_main_v7 (F := Ideal) (m ((c : Thread nD τ).loc main_arg0)) (m ((c : Thread nD τ).loc main_arg2)) := by
  have w : Pipeline.withArrays (cfgs 0).spec c (V0 m c) (fun w => (dats m 0 c).arrAt w (cfgs 0).N) (Proc.devRef .tc (Pipeline.arrRef spec0 6)) = (dats m 0 c).arrAt 6 (cfgs 0).N :=
    Pipeline.withArrays_arr spec0 (by decide) c (V0 m c) _ 6
  rw [final6] at w
  refine Eq.trans ?_ (arrange_back _)
  rw [← w]
  unfold Pipeline.afterTail₀
  after_results_simp <;> rfl

/-- An entry of the new second moment. -/
theorem point7 (c : Dev nD) (t : Fin cfg0.N) (r : Fin 128) (j : Fin 256) : k0_pay2 (F := Ideal) (k0_pay5 (k0_pay8 (F := Ideal) (iblk m c 0 t) (iblk m c 1 t) (iblk m c 2 t) (iblk m c 3 t)) (iblk m c 3 t)) (ix3 0 r j) = arrange (val_main_v13 (F := Ideal) (m ((c : Thread nD τ).loc main_arg0)) (m ((c : Thread nD τ).loc main_arg3))) (ix3 0 r j) := by
  have h := grad m c t r j
  have h1 := blk1 m c t r j
  have h2 := blk2 m c t r j
  have h3 := blk3 m c t r j
  pointwise [arrange, k0_pay1, k0_pay2, k0_pay4, k0_pay5, k0_pay6, k0_pay7, val_main_v0, val_main_cst, val_main_v1, val_main_v2, val_main_cst_0, val_main_v3, val_main_v4, val_main_cst_1, val_main_v5, val_main_v6, val_main_v7, val_main_cst_2, val_main_v8, val_main_v9, val_main_v10, val_main_cst_3, val_main_v11, val_main_v12, val_main_v13, val_main_cst_4, val_main_v14, val_main_v15, val_main_cst_5, val_main_v16, val_main_v17, val_main_v18, val_main_cst_6, val_main_v19, val_main_v20, val_main_v21, val_main_cst_7, val_main_v22, val_main_v23, val_main_v24, val_main_cst_8, val_main_v25, val_main_v26]
  simp only [h, h1, h2, h3]

/-- The array of the new second moment. -/
theorem final7 (c : Dev nD) : (dats m 0 c).arrAt 7 (cfgs 0).N = arrange (val_main_v13 (F := Ideal) (m ((c : Thread nD τ).loc main_arg0)) (m ((c : Thread nD τ).loc main_arg3))) := by
  refine (dats m 0 c).arrAt_eq_of_covers 7 _ (by decide +kernel) fun t hf y => ?_
  blk_simp; rw [after0_7]
  frame_out
  have e : ((cfg0.win 7).blk t).view.emb y = ix3 0 (y 1) (y 2) := by blk_ext [idx t]
  rw [e, eq_ix3 y, Fin.fin_one_eq_zero (y 0)]
  exact point7 m c t (y 1) (y 2)

/-- The new second moment as the program returns it. -/
theorem result7 (c : Dev nD) : Pipeline.afterTail₀ cfgs (dats m) 0 (V0 m) [hostOps1] c main_v7 = val_main_v13 (F := Ideal) (m ((c : Thread nD τ).loc main_arg0)) (m ((c : Thread nD τ).loc main_arg3)) := by
  have w : Pipeline.withArrays (cfgs 0).spec c (V0 m c) (fun w => (dats m 0 c).arrAt w (cfgs 0).N) (Proc.devRef .tc (Pipeline.arrRef spec0 7)) = (dats m 0 c).arrAt 7 (cfgs 0).N :=
    Pipeline.withArrays_arr spec0 (by decide) c (V0 m c) _ 7
  rw [final7] at w
  refine Eq.trans ?_ (arrange_back _)
  rw [← w]
  unfold Pipeline.afterTail₀
  after_results_simp <;> rfl

/-- Kernel and reference of the update of the pooling weight end with equal results. -/
theorem algebraic : Cert.algebraic_Kernel15Ideal_Reference15Ideal := by
  pair_intro
  · run_from Cert.Kernel15Ideal.Gen.run_main m g
    all_goals first | exact W_main_arg1 m (dats m) c | exact W_main_arg2 m (dats m) c | exact W_main_arg3 m (dats m) c
  · refine (θ_run _ _ _).mono (fun r h c => ?_) (Cert.Reference15Ideal.Value.run m' g')
    obtain ⟨e0, e1, e2, e3⟩ := hagree c
    obtain ⟨h0, h1, h2, h3, ha⟩ := h c
    refine ⟨h0.trans ((Cert.Reference15Ideal.Read.val_main_v2_eq _).trans (.trans ?_ (result4 m c).symm)), h1.trans ((Cert.Reference15Ideal.Read.val_main_v26_eq _ _ _ _).trans (.trans ?_ (result5 m c).symm)), h2.trans ((Cert.Reference15Ideal.Read.val_main_v7_eq _ _).trans (.trans ?_ (result6 m c).symm)), h3.trans ((Cert.Reference15Ideal.Read.val_main_v13_eq _ _).trans (.trans ?_ (result7 m c).symm)), ha⟩
    · exact congrArg val_main_v2 e0
    · exact Args.congr4 val_main_v26 e0 e1 e2 e3
    · exact congrArg₂ val_main_v7 e0 e2
    · exact congrArg₂ val_main_v13 e0 e3

end Cert.Kernel15Ideal.Math

end
-- ==== Proof.AdamUp.lean ====
/- The update of the up-projection's weights, two layers: the four arrays `Kernel16Ideal` returns are the reference's results. -/
module

public import proofs.«01_k».proof.Proof.Gen.Kernel16Ideal.Frame
public import proofs.«01_k».proof.Proof.Gen.Reference16Ideal.Read
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel16Ideal.Math

open Cert.Kernel16Ideal Cert.Kernel16Ideal.Gen

open Cert.Reference16Ideal.Read (val_main_v0 val_main_cst val_main_v1 val_main_v2 val_main_v3 val_main_cst_0 val_main_v4 val_main_v5 val_main_v6 val_main_v7 val_main_v8 val_main_cst_1 val_main_v9 val_main_v10 val_main_cst_2 val_main_v11 val_main_v12 val_main_v13 val_main_cst_3 val_main_v14 val_main_v15 val_main_v16 val_main_cst_4 val_main_v17 val_main_v18 val_main_v19 val_main_cst_5 val_main_v20 val_main_v21 val_main_cst_6 val_main_v22 val_main_v23 val_main_v24 val_main_cst_7 val_main_v25 val_main_v26 val_main_v27 val_main_cst_8 val_main_v28 val_main_v29 val_main_v30 val_main_cst_9 val_main_v31 val_main_v32)

variable (m : (ℓ : Loc nD τ sig) → Buf (Elt Ideal) ℓ)

/-- The block indices at the points of the first layer. -/
theorem idxA : ∀ t : Fin cfg0.N, t.val < 2 → win0_0.index t = ![0, t.val, 0] ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- The block indices at the points of the second layer. -/
theorem idxB : ∀ t : Fin cfg0.N, 2 ≤ t.val → win0_1.index t = ![0, (t.val - 2), 0] ∧ win0_2.index t = ![1, (t.val - 2), 0] ∧ win0_3.index t = ![1, (t.val - 2), 0] ∧ win0_4.index t = ![1, (t.val - 2), 0]
    ∧ win0_5.index t = ![1, (t.val - 2), 0] ∧ win0_6.index t = ![1, (t.val - 2), 0] ∧ win0_7.index t = ![1, (t.val - 2), 0] ∧ win0_8.index t = ![1, (t.val - 2), 0] :=
  (by decide +kernel : ∀ t : Fin grid0.N, _)

/-- Row `r` of a block of the first layer. -/
abbrev rowA (t : Fin cfg0.N) (h : t.val < 2) (r : Fin 352) : Fin 704 := ⟨352 * t.val + r.val, by have := h; omega⟩

/-- Row `r` of a block of the second layer. -/
abbrev rowB (t : Fin cfg0.N) (h : 2 ≤ t.val) (r : Fin 352) : Fin 704 := ⟨352 * (t.val - 2) + r.val, by have := h; have := (show t.val < cfg0.N from t.isLt); have : cfg0.N = 4 := N_0; omega⟩

/-- An array as the call takes and returns it. -/
def arrange (x : FVec Ideal S2x1024x704 .f32) : FVec Ideal S2x704x1024 .f32 := transpose S2x704x1024 [0, 2, 1] x transposes_S2x1024x704_S2x704x1024_0_2_1

/-- The array so arranged, brought back. -/
theorem arrange_back (x : FVec Ideal S2x1024x704 .f32) : transpose S2x1024x704 [0, 2, 1] (arrange x) transposes_S2x704x1024_S2x1024x704_0_2_1 = x := by
  funext i
  rw [eq_ix3 i]
  pointwise [arrange]

/-- The weights as the call takes them. -/
theorem V_2 (c : Dev nD) : V m c main_v0 = arrange (m ((c : Thread nD τ).loc main_arg2)) := by
  entry_read
  rfl

/-- The first moments as the call takes them. -/
theorem V_3 (c : Dev nD) : V m c main_v1 = arrange (m ((c : Thread nD τ).loc main_arg3)) := by
  entry_read
  rfl

/-- The second moments as the call takes them. -/
theorem V_4 (c : Dev nD) : V m c main_v2 = arrange (m ((c : Thread nD τ).loc main_arg4)) := by
  entry_read
  rfl

/-- The block of the eight partial gradients of the first layer. -/
theorem blk0A (c : Dev nD) (t : Fin cfg0.N) (h : t.val < 2) (q : Fin 8) (r : Fin 352) (j : Fin 1024) : iblk m c 0 t (ix3 q r j) = (m ((c : Thread nD τ).loc main_arg0)) (ix3 q (rowA t h r) j) := by
  blk_simp [iblk]
  rw [V_main_arg0]
  blk_point [idxA t h]

/-- The block of the first layer's weight. -/
theorem blk2A (c : Dev nD) (t : Fin cfg0.N) (h : t.val < 2) (r : Fin 352) (j : Fin 1024) : iblk m c 2 t (ix3 0 r j) = (m ((c : Thread nD τ).loc main_arg2)) (ix3 0 j (rowA t h r)) := by
  blk_simp [iblk]
  rw [V_2]
  pointwise [arrange]
  blk_point [idxA t h]

/-- The block of the first layer's first moment. -/
theorem blk3A (c : Dev nD) (t : Fin cfg0.N) (h : t.val < 2) (r : Fin 352) (j : Fin 1024) : iblk m c 3 t (ix3 0 r j) = (m ((c : Thread nD τ).loc main_arg3)) (ix3 0 j (rowA t h r)) := by
  blk_simp [iblk]
  rw [V_3]
  pointwise [arrange]
  blk_point [idxA t h]

/-- The block of the first layer's second moment. -/
theorem blk4A (c : Dev nD) (t : Fin cfg0.N) (h : t.val < 2) (r : Fin 352) (j : Fin 1024) : iblk m c 4 t (ix3 0 r j) = (m ((c : Thread nD τ).loc main_arg4)) (ix3 0 j (rowA t h r)) := by
  blk_simp [iblk]
  rw [V_4]
  pointwise [arrange]
  blk_point [idxA t h]

/-- The sum of the first layer's partial gradients. -/
abbrev sumA (c : Dev nD) (t : Fin cfg0.N) : FVec Ideal S352x1024 .f32 := k0_pay5 (F := Ideal) (View.ld (iblk m c 0 t) (Rect.unit ![0, 0, 0] ![1, 352, 1024] inb_S8x352x1024_S1x352x1024_0_0_0)) (View.ld (iblk m c 0 t) (Rect.unit ![1, 0, 0] ![1, 352, 1024] inb_S8x352x1024_S1x352x1024_1_0_0)) (View.ld (iblk m c 0 t) (Rect.unit ![2, 0, 0] ![1, 352, 1024] inb_S8x352x1024_S1x352x1024_2_0_0)) (View.ld (iblk m c 0 t) (Rect.unit ![3, 0, 0] ![1, 352, 1024] inb_S8x352x1024_S1x352x1024_3_0_0)) (View.ld (iblk m c 0 t) (Rect.unit ![4, 0, 0] ![1, 352, 1024] inb_S8x352x1024_S1x352x1024_4_0_0)) (View.ld (iblk m c 0 t) (Rect.unit ![5, 0, 0] ![1, 352, 1024] inb_S8x352x1024_S1x352x1024_5_0_0)) (View.ld (iblk m c 0 t) (Rect.unit ![6, 0, 0] ![1, 352, 1024] inb_S8x352x1024_S1x352x1024_6_0_0)) (View.ld (iblk m c 0 t) (Rect.unit ![7, 0, 0] ![1, 352, 1024] inb_S8x352x1024_S1x352x1024_7_0_0))

/-- Its entries. -/
theorem gradA (c : Dev nD) (t : Fin cfg0.N) (h : t.val < 2) (r : Fin 352) (j : Fin 1024) : sumA m c t (ix2 r j) = @Finset.sum (Fin 8) EReal _ Finset.univ fun x => (m ((c : Thread nD τ).loc main_arg0)) (ix3 x (rowA t h r) j) := by
  pointwise [sumA, k0_pay5]
  rw [Fin.sum_univ_eight]
  simp only [blk0A m c t h]

/-- An entry of the first layer's summed gradient. -/
theorem point5A (c : Dev nD) (t : Fin cfg0.N) (h : t.val < 2) (r : Fin 352) (j : Fin 1024) :
    k0_pay9 (F := Ideal) (sumA m c t) (ix3 0 r j) = arrange (val_main_v8 (F := Ideal) (m ((c : Thread nD τ).loc main_arg0)) (m ((c : Thread nD τ).loc main_arg1))) (ix3 0 (rowA t h r) j) := by
  have g := gradA m c t h r j
  have h2 := blk2A m c t h r j
  have h3 := blk3A m c t h r j
  have h4 := blk4A m c t h r j
  generalize sumA m c t = G at g ⊢
  pointwise [arrange, k0_pay1, k0_pay2, k0_pay6, k0_pay7, k0_pay8, k0_pay9, k0_pay10, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- An entry of the first layer's change of the weight. -/
theorem point6A (c : Dev nD) (t : Fin cfg0.N) (h : t.val < 2) (r : Fin 352) (j : Fin 1024) :
    k0_pay10 (F := Ideal) (sumA m c t) (k0_pay6 (iblk m c 3 t)) (iblk m c 4 t) (iblk m c 2 t) (ix3 0 r j) = arrange (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix3 0 (rowA t h r) j) := by
  have g := gradA m c t h r j
  have h2 := blk2A m c t h r j
  have h3 := blk3A m c t h r j
  have h4 := blk4A m c t h r j
  generalize sumA m c t = G at g ⊢
  pointwise [arrange, k0_pay1, k0_pay2, k0_pay6, k0_pay7, k0_pay8, k0_pay9, k0_pay10, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- An entry of the first layer's new first moment. -/
theorem point7A (c : Dev nD) (t : Fin cfg0.N) (h : t.val < 2) (r : Fin 352) (j : Fin 1024) :
    k0_pay1 (F := Ideal) (k0_pay7 (sumA m c t) (k0_pay6 (iblk m c 3 t))) (ix3 0 r j) = arrange (val_main_v13 (F := Ideal) (m ((c : Thread nD τ).loc main_arg0)) (m ((c : Thread nD τ).loc main_arg1)) (m ((c : Thread nD τ).loc main_arg3))) (ix3 0 (rowA t h r) j) := by
  have g := gradA m c t h r j
  have h2 := blk2A m c t h r j
  have h3 := blk3A m c t h r j
  have h4 := blk4A m c t h r j
  generalize sumA m c t = G at g ⊢
  pointwise [arrange, k0_pay1, k0_pay2, k0_pay6, k0_pay7, k0_pay8, k0_pay9, k0_pay10, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- An entry of the first layer's new second moment. -/
theorem point8A (c : Dev nD) (t : Fin cfg0.N) (h : t.val < 2) (r : Fin 352) (j : Fin 1024) :
    k0_pay2 (F := Ideal) (k0_pay8 (sumA m c t) (iblk m c 4 t)) (ix3 0 r j) = arrange (val_main_v19 (F := Ideal) (m ((c : Thread nD τ).loc main_arg0)) (m ((c : Thread nD τ).loc main_arg1)) (m ((c : Thread nD τ).loc main_arg4))) (ix3 0 (rowA t h r) j) := by
  have g := gradA m c t h r j
  have h2 := blk2A m c t h r j
  have h3 := blk3A m c t h r j
  have h4 := blk4A m c t h r j
  generalize sumA m c t = G at g ⊢
  pointwise [arrange, k0_pay1, k0_pay2, k0_pay6, k0_pay7, k0_pay8, k0_pay9, k0_pay10, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- The block of the eight partial gradients of the second layer. -/
theorem blk1B (c : Dev nD) (t : Fin cfg0.N) (h : 2 ≤ t.val) (q : Fin 8) (r : Fin 352) (j : Fin 1024) : iblk m c 1 t (ix3 q r j) = (m ((c : Thread nD τ).loc main_arg1)) (ix3 q (rowB t h r) j) := by
  blk_simp [iblk]
  rw [V_main_arg1]
  blk_point [idxB t h]

/-- The block of the second layer's weight. -/
theorem blk2B (c : Dev nD) (t : Fin cfg0.N) (h : 2 ≤ t.val) (r : Fin 352) (j : Fin 1024) : iblk m c 2 t (ix3 0 r j) = (m ((c : Thread nD τ).loc main_arg2)) (ix3 1 j (rowB t h r)) := by
  blk_simp [iblk]
  rw [V_2]
  pointwise [arrange]
  blk_point [idxB t h]

/-- The block of the second layer's first moment. -/
theorem blk3B (c : Dev nD) (t : Fin cfg0.N) (h : 2 ≤ t.val) (r : Fin 352) (j : Fin 1024) : iblk m c 3 t (ix3 0 r j) = (m ((c : Thread nD τ).loc main_arg3)) (ix3 1 j (rowB t h r)) := by
  blk_simp [iblk]
  rw [V_3]
  pointwise [arrange]
  blk_point [idxB t h]

/-- The block of the second layer's second moment. -/
theorem blk4B (c : Dev nD) (t : Fin cfg0.N) (h : 2 ≤ t.val) (r : Fin 352) (j : Fin 1024) : iblk m c 4 t (ix3 0 r j) = (m ((c : Thread nD τ).loc main_arg4)) (ix3 1 j (rowB t h r)) := by
  blk_simp [iblk]
  rw [V_4]
  pointwise [arrange]
  blk_point [idxB t h]

/-- The sum of the second layer's partial gradients. -/
abbrev sumB (c : Dev nD) (t : Fin cfg0.N) : FVec Ideal S352x1024 .f32 := k0_pay11 (F := Ideal) (View.ld (iblk m c 1 t) (Rect.unit ![0, 0, 0] ![1, 352, 1024] inb_S8x352x1024_S1x352x1024_0_0_0)) (View.ld (iblk m c 1 t) (Rect.unit ![1, 0, 0] ![1, 352, 1024] inb_S8x352x1024_S1x352x1024_1_0_0)) (View.ld (iblk m c 1 t) (Rect.unit ![2, 0, 0] ![1, 352, 1024] inb_S8x352x1024_S1x352x1024_2_0_0)) (View.ld (iblk m c 1 t) (Rect.unit ![3, 0, 0] ![1, 352, 1024] inb_S8x352x1024_S1x352x1024_3_0_0)) (View.ld (iblk m c 1 t) (Rect.unit ![4, 0, 0] ![1, 352, 1024] inb_S8x352x1024_S1x352x1024_4_0_0)) (View.ld (iblk m c 1 t) (Rect.unit ![5, 0, 0] ![1, 352, 1024] inb_S8x352x1024_S1x352x1024_5_0_0)) (View.ld (iblk m c 1 t) (Rect.unit ![6, 0, 0] ![1, 352, 1024] inb_S8x352x1024_S1x352x1024_6_0_0)) (View.ld (iblk m c 1 t) (Rect.unit ![7, 0, 0] ![1, 352, 1024] inb_S8x352x1024_S1x352x1024_7_0_0))

/-- Its entries. -/
theorem gradB (c : Dev nD) (t : Fin cfg0.N) (h : 2 ≤ t.val) (r : Fin 352) (j : Fin 1024) : sumB m c t (ix2 r j) = @Finset.sum (Fin 8) EReal _ Finset.univ fun x => (m ((c : Thread nD τ).loc main_arg1)) (ix3 x (rowB t h r) j) := by
  pointwise [sumB, k0_pay11]
  rw [Fin.sum_univ_eight]
  simp only [blk1B m c t h]

/-- An entry of the second layer's summed gradient. -/
theorem point5B (c : Dev nD) (t : Fin cfg0.N) (h : 2 ≤ t.val) (r : Fin 352) (j : Fin 1024) :
    k0_pay15 (F := Ideal) (sumB m c t) (ix3 0 r j) = arrange (val_main_v8 (F := Ideal) (m ((c : Thread nD τ).loc main_arg0)) (m ((c : Thread nD τ).loc main_arg1))) (ix3 1 (rowB t h r) j) := by
  have g := gradB m c t h r j
  have h2 := blk2B m c t h r j
  have h3 := blk3B m c t h r j
  have h4 := blk4B m c t h r j
  generalize sumB m c t = G at g ⊢
  pointwise [arrange, k0_pay3, k0_pay4, k0_pay12, k0_pay13, k0_pay14, k0_pay15, k0_pay16, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- An entry of the second layer's change of the weight. -/
theorem point6B (c : Dev nD) (t : Fin cfg0.N) (h : 2 ≤ t.val) (r : Fin 352) (j : Fin 1024) :
    k0_pay16 (F := Ideal) (sumB m c t) (k0_pay12 (iblk m c 3 t)) (iblk m c 4 t) (iblk m c 2 t) (ix3 0 r j) = arrange (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix3 1 (rowB t h r) j) := by
  have g := gradB m c t h r j
  have h2 := blk2B m c t h r j
  have h3 := blk3B m c t h r j
  have h4 := blk4B m c t h r j
  generalize sumB m c t = G at g ⊢
  pointwise [arrange, k0_pay3, k0_pay4, k0_pay12, k0_pay13, k0_pay14, k0_pay15, k0_pay16, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- An entry of the second layer's new first moment. -/
theorem point7B (c : Dev nD) (t : Fin cfg0.N) (h : 2 ≤ t.val) (r : Fin 352) (j : Fin 1024) :
    k0_pay3 (F := Ideal) (k0_pay13 (sumB m c t) (k0_pay12 (iblk m c 3 t))) (ix3 0 r j) = arrange (val_main_v13 (F := Ideal) (m ((c : Thread nD τ).loc main_arg0)) (m ((c : Thread nD τ).loc main_arg1)) (m ((c : Thread nD τ).loc main_arg3))) (ix3 1 (rowB t h r) j) := by
  have g := gradB m c t h r j
  have h2 := blk2B m c t h r j
  have h3 := blk3B m c t h r j
  have h4 := blk4B m c t h r j
  generalize sumB m c t = G at g ⊢
  pointwise [arrange, k0_pay3, k0_pay4, k0_pay12, k0_pay13, k0_pay14, k0_pay15, k0_pay16, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- An entry of the second layer's new second moment. -/
theorem point8B (c : Dev nD) (t : Fin cfg0.N) (h : 2 ≤ t.val) (r : Fin 352) (j : Fin 1024) :
    k0_pay4 (F := Ideal) (k0_pay14 (sumB m c t) (iblk m c 4 t)) (ix3 0 r j) = arrange (val_main_v19 (F := Ideal) (m ((c : Thread nD τ).loc main_arg0)) (m ((c : Thread nD τ).loc main_arg1)) (m ((c : Thread nD τ).loc main_arg4))) (ix3 1 (rowB t h r) j) := by
  have g := gradB m c t h r j
  have h2 := blk2B m c t h r j
  have h3 := blk3B m c t h r j
  have h4 := blk4B m c t h r j
  generalize sumB m c t = G at g ⊢
  pointwise [arrange, k0_pay3, k0_pay4, k0_pay12, k0_pay13, k0_pay14, k0_pay15, k0_pay16, val_main_v0, val_main_cst, val_main_v1, val_main_v2, val_main_v3, val_main_cst_0, val_main_v4, val_main_v5, val_main_v6, val_main_v7, val_main_v8, val_main_cst_1, val_main_v9, val_main_v10, val_main_cst_2, val_main_v11, val_main_v12, val_main_v13, val_main_cst_3, val_main_v14, val_main_v15, val_main_v16, val_main_cst_4, val_main_v17, val_main_v18, val_main_v19, val_main_cst_5, val_main_v20, val_main_v21, val_main_cst_6, val_main_v22, val_main_v23, val_main_v24, val_main_cst_7, val_main_v25, val_main_v26, val_main_v27, val_main_cst_8, val_main_v28, val_main_v29, val_main_v30, val_main_cst_9, val_main_v31, val_main_v32]
  simp only [g, h2, h3, h4]

/-- The array of the summed gradient. -/
theorem final5 (c : Dev nD) : (dats m 0 c).arrAt 5 (cfgs 0).N = arrange (val_main_v8 (F := Ideal) (m ((c : Thread nD τ).loc main_arg0)) (m ((c : Thread nD τ).loc main_arg1))) := by
  refine (dats m 0 c).arrAt_eq_of_covers 5 _ (by decide +kernel) fun t hf y => ?_
  blk_simp; rw [after0_5]
  by_cases h : t.val < 2
  · rw [outsAt0_A m c t h (by omega)]
    frame_out
    have e : ((cfg0.win 5).blk t).view.emb y = ix3 0 (rowA t h (y 1)) (y 2) := by blk_ext [idxA t h]
    rw [e, eq_ix3 y, Fin.fin_one_eq_zero (y 0)]
    exact point5A m c t h (y 1) (y 2)
  · have h' : 2 ≤ t.val := by omega
    rw [outsAt0_B m c t h h']
    frame_out
    have e : ((cfg0.win 5).blk t).view.emb y = ix3 1 (rowB t h' (y 1)) (y 2) := by blk_ext [idxB t h']
    rw [e, eq_ix3 y, Fin.fin_one_eq_zero (y 0)]
    exact point5B m c t h' (y 1) (y 2)

/-- The summed gradient as the program returns it. -/
theorem result5 (c : Dev nD) : Pipeline.afterTail₀ cfgs (dats m) 0 (V0 m) [hostOps1] c main_v4 = val_main_v8 (F := Ideal) (m ((c : Thread nD τ).loc main_arg0)) (m ((c : Thread nD τ).loc main_arg1)) := by
  have w : Pipeline.withArrays (cfgs 0).spec c (V0 m c) (fun w => (dats m 0 c).arrAt w (cfgs 0).N) (Proc.devRef .tc (Pipeline.arrRef spec0 5)) = (dats m 0 c).arrAt 5 (cfgs 0).N :=
    Pipeline.withArrays_arr spec0 (by decide) c (V0 m c) _ 5
  rw [final5] at w
  refine Eq.trans ?_ (arrange_back _)
  rw [← w]
  unfold Pipeline.afterTail₀
  after_results_simp <;> rfl

/-- The array of the change of the weight. -/
theorem final6 (c : Dev nD) : (dats m 0 c).arrAt 6 (cfgs 0).N = arrange (val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 6 _ (by decide +kernel) fun t hf y => ?_
  blk_simp; rw [after0_6]
  by_cases h : t.val < 2
  · rw [outsAt0_A m c t h (by omega)]
    frame_out
    have e : ((cfg0.win 6).blk t).view.emb y = ix3 0 (rowA t h (y 1)) (y 2) := by blk_ext [idxA t h]
    rw [e, eq_ix3 y, Fin.fin_one_eq_zero (y 0)]
    exact point6A m c t h (y 1) (y 2)
  · have h' : 2 ≤ t.val := by omega
    rw [outsAt0_B m c t h h']
    frame_out
    have e : ((cfg0.win 6).blk t).view.emb y = ix3 1 (rowB t h' (y 1)) (y 2) := by blk_ext [idxB t h']
    rw [e, eq_ix3 y, Fin.fin_one_eq_zero (y 0)]
    exact point6B m c t h' (y 1) (y 2)

/-- The change of the weight as the program returns it. -/
theorem result6 (c : Dev nD) : Pipeline.afterTail₀ cfgs (dats m) 0 (V0 m) [hostOps1] c main_v5 = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have w : Pipeline.withArrays (cfgs 0).spec c (V0 m c) (fun w => (dats m 0 c).arrAt w (cfgs 0).N) (Proc.devRef .tc (Pipeline.arrRef spec0 6)) = (dats m 0 c).arrAt 6 (cfgs 0).N :=
    Pipeline.withArrays_arr spec0 (by decide) c (V0 m c) _ 6
  rw [final6] at w
  refine Eq.trans ?_ (arrange_back _)
  rw [← w]
  unfold Pipeline.afterTail₀
  after_results_simp <;> rfl

/-- The array of the new first moment. -/
theorem final7 (c : Dev nD) : (dats m 0 c).arrAt 7 (cfgs 0).N = arrange (val_main_v13 (F := Ideal) (m ((c : Thread nD τ).loc main_arg0)) (m ((c : Thread nD τ).loc main_arg1)) (m ((c : Thread nD τ).loc main_arg3))) := by
  refine (dats m 0 c).arrAt_eq_of_covers 7 _ (by decide +kernel) fun t hf y => ?_
  blk_simp; rw [after0_7]
  by_cases h : t.val < 2
  · rw [outsAt0_A m c t h (by omega)]
    frame_out
    have e : ((cfg0.win 7).blk t).view.emb y = ix3 0 (rowA t h (y 1)) (y 2) := by blk_ext [idxA t h]
    rw [e, eq_ix3 y, Fin.fin_one_eq_zero (y 0)]
    exact point7A m c t h (y 1) (y 2)
  · have h' : 2 ≤ t.val := by omega
    rw [outsAt0_B m c t h h']
    frame_out
    have e : ((cfg0.win 7).blk t).view.emb y = ix3 1 (rowB t h' (y 1)) (y 2) := by blk_ext [idxB t h']
    rw [e, eq_ix3 y, Fin.fin_one_eq_zero (y 0)]
    exact point7B m c t h' (y 1) (y 2)

/-- The new first moment as the program returns it. -/
theorem result7 (c : Dev nD) : Pipeline.afterTail₀ cfgs (dats m) 0 (V0 m) [hostOps1] c main_v6 = val_main_v13 (F := Ideal) (m ((c : Thread nD τ).loc main_arg0)) (m ((c : Thread nD τ).loc main_arg1)) (m ((c : Thread nD τ).loc main_arg3)) := by
  have w : Pipeline.withArrays (cfgs 0).spec c (V0 m c) (fun w => (dats m 0 c).arrAt w (cfgs 0).N) (Proc.devRef .tc (Pipeline.arrRef spec0 7)) = (dats m 0 c).arrAt 7 (cfgs 0).N :=
    Pipeline.withArrays_arr spec0 (by decide) c (V0 m c) _ 7
  rw [final7] at w
  refine Eq.trans ?_ (arrange_back _)
  rw [← w]
  unfold Pipeline.afterTail₀
  after_results_simp <;> rfl

/-- The array of the new second moment. -/
theorem final8 (c : Dev nD) : (dats m 0 c).arrAt 8 (cfgs 0).N = arrange (val_main_v19 (F := Ideal) (m ((c : Thread nD τ).loc main_arg0)) (m ((c : Thread nD τ).loc main_arg1)) (m ((c : Thread nD τ).loc main_arg4))) := by
  refine (dats m 0 c).arrAt_eq_of_covers 8 _ (by decide +kernel) fun t hf y => ?_
  blk_simp; rw [after0_8]
  by_cases h : t.val < 2
  · rw [outsAt0_A m c t h (by omega)]
    frame_out
    have e : ((cfg0.win 8).blk t).view.emb y = ix3 0 (rowA t h (y 1)) (y 2) := by blk_ext [idxA t h]
    rw [e, eq_ix3 y, Fin.fin_one_eq_zero (y 0)]
    exact point8A m c t h (y 1) (y 2)
  · have h' : 2 ≤ t.val := by omega
    rw [outsAt0_B m c t h h']
    frame_out
    have e : ((cfg0.win 8).blk t).view.emb y = ix3 1 (rowB t h' (y 1)) (y 2) := by blk_ext [idxB t h']
    rw [e, eq_ix3 y, Fin.fin_one_eq_zero (y 0)]
    exact point8B m c t h' (y 1) (y 2)

/-- The new second moment as the program returns it. -/
theorem result8 (c : Dev nD) : Pipeline.afterTail₀ cfgs (dats m) 0 (V0 m) [hostOps1] c main_v7 = val_main_v19 (F := Ideal) (m ((c : Thread nD τ).loc main_arg0)) (m ((c : Thread nD τ).loc main_arg1)) (m ((c : Thread nD τ).loc main_arg4)) := by
  have w : Pipeline.withArrays (cfgs 0).spec c (V0 m c) (fun w => (dats m 0 c).arrAt w (cfgs 0).N) (Proc.devRef .tc (Pipeline.arrRef spec0 8)) = (dats m 0 c).arrAt 8 (cfgs 0).N :=
    Pipeline.withArrays_arr spec0 (by decide) c (V0 m c) _ 8
  rw [final8] at w
  refine Eq.trans ?_ (arrange_back _)
  rw [← w]
  unfold Pipeline.afterTail₀
  after_results_simp <;> rfl

/-- Kernel and reference of the update of the up-projection's weights end with equal results. -/
theorem algebraic : Cert.algebraic_Kernel16Ideal_Reference16Ideal := by
  pair_intro
  · run_from Cert.Kernel16Ideal.Gen.run_main m g
    all_goals first | exact V_main_arg0 m c | exact V_main_arg1 m c | exact W_main_arg2 m (dats m) c | exact W_main_arg3 m (dats m) c | exact W_main_arg4 m (dats m) c
  · refine (θ_run _ _ _).mono (fun r h c => ?_) (Cert.Reference16Ideal.Value.run m' g')
    obtain ⟨e0, e1, e2, e3, e4⟩ := hagree c
    obtain ⟨h0, h1, h2, h3, ha⟩ := h c
    refine ⟨h0.trans ((Cert.Reference16Ideal.Read.val_main_v8_eq _ _).trans (.trans ?_ (result5 m c).symm)), h1.trans ((Cert.Reference16Ideal.Read.val_main_v32_eq _ _ _ _ _).trans (.trans ?_ (result6 m c).symm)), h2.trans ((Cert.Reference16Ideal.Read.val_main_v13_eq _ _ _).trans (.trans ?_ (result7 m c).symm)), h3.trans ((Cert.Reference16Ideal.Read.val_main_v19_eq _ _ _).trans (.trans ?_ (result8 m c).symm)), ha⟩
    · exact congrArg₂ val_main_v8 e0 e1
    · exact Args.congr5 val_main_v32 e0 e1 e2 e3 e4
    · exact Args.congr3 val_main_v13 e0 e1 e3
    · exact Args.congr3 val_main_v19 e0 e1 e4

end Cert.Kernel16Ideal.Math

end
-- ==== Proof.AdamDown.lean ====
/- The update of the down-projection's weights, two layers: the four arrays `Kernel17Ideal` returns are the reference's results. -/
module

public import proofs.«01_k».proof.Proof.Gen.Kernel17Ideal.Frame
public import proofs.«01_k».proof.Proof.Gen.Reference17Ideal.Read
public import proofs.«01_k».proof.Proof.Args
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel17Ideal.Math

open Cert.Kernel17Ideal Cert.Kernel17Ideal.Gen

open Cert.Reference17Ideal.Read (val_main_v0 val_main_cst val_main_v1 val_main_v2 val_main_cst_0 val_main_v3 val_main_v4 val_main_v5 val_main_v6 val_main_cst_1 val_main_v7 val_main_v8 val_main_cst_2 val_main_v9 val_main_v10 val_main_v11 val_main_cst_3 val_main_v12 val_main_v13 val_main_v14 val_main_cst_4 val_main_v15 val_main_v16 val_main_v17 val_main_cst_5 val_main_v18 val_main_v19 val_main_cst_6 val_main_v20 val_main_v21 val_main_v22 val_main_cst_7 val_main_v23 val_main_v24 val_main_v25 val_main_cst_8 val_main_v26 val_main_v27 val_main_v28 val_main_cst_9 val_main_v29 val_main_v30)

variable (m : (ℓ : Loc nD τ sig) → Buf (Elt Ideal) ℓ)

/-- The block indices at the points of the first layer. -/
theorem idxA : ∀ t : Fin cfg0.N, t.val % 2 = 0 → win0_0.index t = ![0, 0, 0] ∧ win0_2.index t = ![0, 0, 0] ∧ win0_3.index t = ![0, 0, 0] ∧ win0_4.index t = ![0, 0, 0]
    ∧ win0_5.index t = ![0, 0, 0] ∧ win0_6.index t = ![0, 0, 0] ∧ win0_7.index t = ![0, 0, 0] ∧ win0_8.index t = ![0, 0, 0] :=
  (by decide +kernel : ∀ t : Fin grid0.N, _)

/-- The block indices at the points of the second layer. -/
theorem idxB : ∀ t : Fin cfg0.N, t.val % 2 = 1 → win0_1.index t = ![0, 0, 0] ∧ win0_2.index t = ![1, 0, 0] ∧ win0_3.index t = ![1, 0, 0] ∧ win0_4.index t = ![1, 0, 0]
    ∧ win0_5.index t = ![1, 0, 0] ∧ win0_6.index t = ![1, 0, 0] ∧ win0_7.index t = ![1, 0, 0] ∧ win0_8.index t = ![1, 0, 0] :=
  (by decide +kernel : ∀ t : Fin grid0.N, _)

/-- The block of the eight partial gradients of the first layer. -/
theorem blk0A (c : Dev nD) (t : Fin cfg0.N) (h : t.val % 2 = 0) (q : Fin 8) (r : Fin 352) (j : Fin 1024) : iblk m c 0 t (ix3 q r j) = (m ((c : Thread nD τ).loc main_arg0)) (ix3 q r j) := by
  blk_simp [iblk]
  rw [V_main_arg0]
  blk_point [idxA t h]

/-- The block of the first layer's weight. -/
theorem blk2A (c : Dev nD) (t : Fin cfg0.N) (h : t.val % 2 = 0) (r : Fin 352) (j : Fin 1024) : iblk m c 2 t (ix3 0 r j) = (m ((c : Thread nD τ).loc main_arg2)) (ix3 0 r j) := by
  blk_simp [iblk]
  rw [V_main_arg2]

  blk_point [idxA t h]

/-- The block of the first layer's first moment. -/
theorem blk3A (c : Dev nD) (t : Fin cfg0.N) (h : t.val % 2 = 0) (r : Fin 352) (j : Fin 1024) : iblk m c 3 t (ix3 0 r j) = (m ((c : Thread nD τ).loc main_arg3)) (ix3 0 r j) := by
  blk_simp [iblk]
  rw [V_main_arg3]

  blk_point [idxA t h]

/-- The block of the first layer's second moment. -/
theorem blk4A (c : Dev nD) (t : Fin cfg0.N) (h : t.val % 2 = 0) (r : Fin 352) (j : Fin 1024) : iblk m c 4 t (ix3 0 r j) = (m ((c : Thread nD τ).loc main_arg4)) (ix3 0 r j) := by
  blk_simp [iblk]
  rw [V_main_arg4]

  blk_point [idxA t h]

/-- The sum of the first layer's partial gradients. -/
abbrev sumA (c : Dev nD) (t : Fin cfg0.N) : FVec Ideal S352x1024 .f32 := k0_pay5 (F := Ideal) (View.ld (iblk m c 0 t) (Rect.unit ![0, 0, 0] ![1, 352, 1024] inb_S8x352x1024_S1x352x1024_0_0_0)) (View.ld (iblk m c 0 t) (Rect.unit ![1, 0, 0] ![1, 352, 1024] inb_S8x352x1024_S1x352x1024_1_0_0)) (View.ld (iblk m c 0 t) (Rect.unit ![2, 0, 0] ![1, 352, 1024] inb_S8x352x1024_S1x352x1024_2_0_0)) (View.ld (iblk m c 0 t) (Rect.unit ![3, 0, 0] ![1, 352, 1024] inb_S8x352x1024_S1x352x1024_3_0_0)) (View.ld (iblk m c 0 t) (Rect.unit ![4, 0, 0] ![1, 352, 1024] inb_S8x352x1024_S1x352x1024_4_0_0)) (View.ld (iblk m c 0 t) (Rect.unit ![5, 0, 0] ![1, 352, 1024] inb_S8x352x1024_S1x352x1024_5_0_0)) (View.ld (iblk m c 0 t) (Rect.unit ![6, 0, 0] ![1, 352, 1024] inb_S8x352x1024_S1x352x1024_6_0_0)) (View.ld (iblk m c 0 t) (Rect.unit ![7, 0, 0] ![1, 352, 1024] inb_S8x352x1024_S1x352x1024_7_0_0))

/-- Its entries. -/
theorem gradA (c : Dev nD) (t : Fin cfg0.N) (h : t.val % 2 = 0) (r : Fin 352) (j : Fin 1024) : sumA m c t (ix2 r j) = @Finset.sum (Fin 8) EReal _ Finset.univ fun x => (m ((c : Thread nD τ).loc main_arg0)) (ix3 x r j) := by
  pointwise [sumA, k0_pay5]
  rw [Fin.sum_univ_eight]
  simp only [blk0A m c t h]

/-- An entry of the first layer's summed gradient. -/
theorem point5A (c : Dev nD) (t : Fin cfg0.N) (h : t.val % 2 = 0) (r : Fin 352) (j : Fin 1024) :
    k0_pay9 (F := Ideal) (sumA m c t) (ix3 0 r j) = val_main_v6 (F := Ideal) (m ((c : Thread nD τ).loc main_arg0)) (m ((c : Thread nD τ).loc main_arg1)) (ix3 0 r j) := by
  have g := gradA m c t h r j
  have h2 := blk2A m c t h r j
  have h3 := blk3A m c t h r j
  have h4 := blk4A m c t h r j
  generalize sumA m c t = G at g ⊢
  pointwise [k0_pay1, k0_pay2, k0_pay6, k0_pay7, k0_pay8, k0_pay9, k0_pay10, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- An entry of the first layer's change of the weight. -/
theorem point6A (c : Dev nD) (t : Fin cfg0.N) (h : t.val % 2 = 0) (r : Fin 352) (j : Fin 1024) :
    k0_pay10 (F := Ideal) (sumA m c t) (k0_pay6 (iblk m c 3 t)) (iblk m c 4 t) (iblk m c 2 t) (ix3 0 r j) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 r j) := by
  have g := gradA m c t h r j
  have h2 := blk2A m c t h r j
  have h3 := blk3A m c t h r j
  have h4 := blk4A m c t h r j
  generalize sumA m c t = G at g ⊢
  pointwise [k0_pay1, k0_pay2, k0_pay6, k0_pay7, k0_pay8, k0_pay9, k0_pay10, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- An entry of the first layer's new first moment. -/
theorem point7A (c : Dev nD) (t : Fin cfg0.N) (h : t.val % 2 = 0) (r : Fin 352) (j : Fin 1024) :
    k0_pay1 (F := Ideal) (k0_pay7 (sumA m c t) (k0_pay6 (iblk m c 3 t))) (ix3 0 r j) = val_main_v11 (F := Ideal) (m ((c : Thread nD τ).loc main_arg0)) (m ((c : Thread nD τ).loc main_arg1)) (m ((c : Thread nD τ).loc main_arg3)) (ix3 0 r j) := by
  have g := gradA m c t h r j
  have h2 := blk2A m c t h r j
  have h3 := blk3A m c t h r j
  have h4 := blk4A m c t h r j
  generalize sumA m c t = G at g ⊢
  pointwise [k0_pay1, k0_pay2, k0_pay6, k0_pay7, k0_pay8, k0_pay9, k0_pay10, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- An entry of the first layer's new second moment. -/
theorem point8A (c : Dev nD) (t : Fin cfg0.N) (h : t.val % 2 = 0) (r : Fin 352) (j : Fin 1024) :
    k0_pay2 (F := Ideal) (k0_pay8 (sumA m c t) (iblk m c 4 t)) (ix3 0 r j) = val_main_v17 (F := Ideal) (m ((c : Thread nD τ).loc main_arg0)) (m ((c : Thread nD τ).loc main_arg1)) (m ((c : Thread nD τ).loc main_arg4)) (ix3 0 r j) := by
  have g := gradA m c t h r j
  have h2 := blk2A m c t h r j
  have h3 := blk3A m c t h r j
  have h4 := blk4A m c t h r j
  generalize sumA m c t = G at g ⊢
  pointwise [k0_pay1, k0_pay2, k0_pay6, k0_pay7, k0_pay8, k0_pay9, k0_pay10, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- The block of the eight partial gradients of the second layer. -/
theorem blk1B (c : Dev nD) (t : Fin cfg0.N) (h : t.val % 2 = 1) (q : Fin 8) (r : Fin 352) (j : Fin 1024) : iblk m c 1 t (ix3 q r j) = (m ((c : Thread nD τ).loc main_arg1)) (ix3 q r j) := by
  blk_simp [iblk]
  rw [V_main_arg1]
  blk_point [idxB t h]

/-- The block of the second layer's weight. -/
theorem blk2B (c : Dev nD) (t : Fin cfg0.N) (h : t.val % 2 = 1) (r : Fin 352) (j : Fin 1024) : iblk m c 2 t (ix3 0 r j) = (m ((c : Thread nD τ).loc main_arg2)) (ix3 1 r j) := by
  blk_simp [iblk]
  rw [V_main_arg2]

  blk_point [idxB t h]

/-- The block of the second layer's first moment. -/
theorem blk3B (c : Dev nD) (t : Fin cfg0.N) (h : t.val % 2 = 1) (r : Fin 352) (j : Fin 1024) : iblk m c 3 t (ix3 0 r j) = (m ((c : Thread nD τ).loc main_arg3)) (ix3 1 r j) := by
  blk_simp [iblk]
  rw [V_main_arg3]

  blk_point [idxB t h]

/-- The block of the second layer's second moment. -/
theorem blk4B (c : Dev nD) (t : Fin cfg0.N) (h : t.val % 2 = 1) (r : Fin 352) (j : Fin 1024) : iblk m c 4 t (ix3 0 r j) = (m ((c : Thread nD τ).loc main_arg4)) (ix3 1 r j) := by
  blk_simp [iblk]
  rw [V_main_arg4]

  blk_point [idxB t h]

/-- The sum of the second layer's partial gradients. -/
abbrev sumB (c : Dev nD) (t : Fin cfg0.N) : FVec Ideal S352x1024 .f32 := k0_pay11 (F := Ideal) (View.ld (iblk m c 1 t) (Rect.unit ![0, 0, 0] ![1, 352, 1024] inb_S8x352x1024_S1x352x1024_0_0_0)) (View.ld (iblk m c 1 t) (Rect.unit ![1, 0, 0] ![1, 352, 1024] inb_S8x352x1024_S1x352x1024_1_0_0)) (View.ld (iblk m c 1 t) (Rect.unit ![2, 0, 0] ![1, 352, 1024] inb_S8x352x1024_S1x352x1024_2_0_0)) (View.ld (iblk m c 1 t) (Rect.unit ![3, 0, 0] ![1, 352, 1024] inb_S8x352x1024_S1x352x1024_3_0_0)) (View.ld (iblk m c 1 t) (Rect.unit ![4, 0, 0] ![1, 352, 1024] inb_S8x352x1024_S1x352x1024_4_0_0)) (View.ld (iblk m c 1 t) (Rect.unit ![5, 0, 0] ![1, 352, 1024] inb_S8x352x1024_S1x352x1024_5_0_0)) (View.ld (iblk m c 1 t) (Rect.unit ![6, 0, 0] ![1, 352, 1024] inb_S8x352x1024_S1x352x1024_6_0_0)) (View.ld (iblk m c 1 t) (Rect.unit ![7, 0, 0] ![1, 352, 1024] inb_S8x352x1024_S1x352x1024_7_0_0))

/-- Its entries. -/
theorem gradB (c : Dev nD) (t : Fin cfg0.N) (h : t.val % 2 = 1) (r : Fin 352) (j : Fin 1024) : sumB m c t (ix2 r j) = @Finset.sum (Fin 8) EReal _ Finset.univ fun x => (m ((c : Thread nD τ).loc main_arg1)) (ix3 x r j) := by
  pointwise [sumB, k0_pay11]
  rw [Fin.sum_univ_eight]
  simp only [blk1B m c t h]

/-- An entry of the second layer's summed gradient. -/
theorem point5B (c : Dev nD) (t : Fin cfg0.N) (h : t.val % 2 = 1) (r : Fin 352) (j : Fin 1024) :
    k0_pay15 (F := Ideal) (sumB m c t) (ix3 0 r j) = val_main_v6 (F := Ideal) (m ((c : Thread nD τ).loc main_arg0)) (m ((c : Thread nD τ).loc main_arg1)) (ix3 1 r j) := by
  have g := gradB m c t h r j
  have h2 := blk2B m c t h r j
  have h3 := blk3B m c t h r j
  have h4 := blk4B m c t h r j
  generalize sumB m c t = G at g ⊢
  pointwise [k0_pay3, k0_pay4, k0_pay12, k0_pay13, k0_pay14, k0_pay15, k0_pay16, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- An entry of the second layer's change of the weight. -/
theorem point6B (c : Dev nD) (t : Fin cfg0.N) (h : t.val % 2 = 1) (r : Fin 352) (j : Fin 1024) :
    k0_pay16 (F := Ideal) (sumB m c t) (k0_pay12 (iblk m c 3 t)) (iblk m c 4 t) (iblk m c 2 t) (ix3 0 r j) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 1 r j) := by
  have g := gradB m c t h r j
  have h2 := blk2B m c t h r j
  have h3 := blk3B m c t h r j
  have h4 := blk4B m c t h r j
  generalize sumB m c t = G at g ⊢
  pointwise [k0_pay3, k0_pay4, k0_pay12, k0_pay13, k0_pay14, k0_pay15, k0_pay16, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- An entry of the second layer's new first moment. -/
theorem point7B (c : Dev nD) (t : Fin cfg0.N) (h : t.val % 2 = 1) (r : Fin 352) (j : Fin 1024) :
    k0_pay3 (F := Ideal) (k0_pay13 (sumB m c t) (k0_pay12 (iblk m c 3 t))) (ix3 0 r j) = val_main_v11 (F := Ideal) (m ((c : Thread nD τ).loc main_arg0)) (m ((c : Thread nD τ).loc main_arg1)) (m ((c : Thread nD τ).loc main_arg3)) (ix3 1 r j) := by
  have g := gradB m c t h r j
  have h2 := blk2B m c t h r j
  have h3 := blk3B m c t h r j
  have h4 := blk4B m c t h r j
  generalize sumB m c t = G at g ⊢
  pointwise [k0_pay3, k0_pay4, k0_pay12, k0_pay13, k0_pay14, k0_pay15, k0_pay16, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- An entry of the second layer's new second moment. -/
theorem point8B (c : Dev nD) (t : Fin cfg0.N) (h : t.val % 2 = 1) (r : Fin 352) (j : Fin 1024) :
    k0_pay4 (F := Ideal) (k0_pay14 (sumB m c t) (iblk m c 4 t)) (ix3 0 r j) = val_main_v17 (F := Ideal) (m ((c : Thread nD τ).loc main_arg0)) (m ((c : Thread nD τ).loc main_arg1)) (m ((c : Thread nD τ).loc main_arg4)) (ix3 1 r j) := by
  have g := gradB m c t h r j
  have h2 := blk2B m c t h r j
  have h3 := blk3B m c t h r j
  have h4 := blk4B m c t h r j
  generalize sumB m c t = G at g ⊢
  pointwise [k0_pay3, k0_pay4, k0_pay12, k0_pay13, k0_pay14, k0_pay15, k0_pay16, val_main_v0, val_main_cst, val_main_v1, val_main_v2, val_main_cst_0, val_main_v3, val_main_v4, val_main_v5, val_main_v6, val_main_cst_1, val_main_v7, val_main_v8, val_main_cst_2, val_main_v9, val_main_v10, val_main_v11, val_main_cst_3, val_main_v12, val_main_v13, val_main_v14, val_main_cst_4, val_main_v15, val_main_v16, val_main_v17, val_main_cst_5, val_main_v18, val_main_v19, val_main_cst_6, val_main_v20, val_main_v21, val_main_v22, val_main_cst_7, val_main_v23, val_main_v24, val_main_v25, val_main_cst_8, val_main_v26, val_main_v27, val_main_v28, val_main_cst_9, val_main_v29, val_main_v30]
  simp only [g, h2, h3, h4]

/-- The array of the summed gradient. -/
theorem final5 (c : Dev nD) : (dats m 0 c).arrAt 5 (cfgs 0).N = val_main_v6 (F := Ideal) (m ((c : Thread nD τ).loc main_arg0)) (m ((c : Thread nD τ).loc main_arg1)) := by
  refine (dats m 0 c).arrAt_eq_of_covers 5 _ (by decide +kernel) fun t hf y => ?_
  blk_simp; rw [after0_5]
  by_cases h : t.val % 2 = 0
  · rw [outsAt0_A m c t h (by omega)]
    frame_out
    have e : ((cfg0.win 5).blk t).view.emb y = ix3 0 (y 1) (y 2) := by blk_ext [idxA t h]
    rw [e, eq_ix3 y, Fin.fin_one_eq_zero (y 0)]
    exact point5A m c t h (y 1) (y 2)
  · have h' : t.val % 2 = 1 := by omega
    rw [outsAt0_B m c t h h']
    frame_out
    have e : ((cfg0.win 5).blk t).view.emb y = ix3 1 (y 1) (y 2) := by blk_ext [idxB t h']
    rw [e, eq_ix3 y, Fin.fin_one_eq_zero (y 0)]
    exact point5B m c t h' (y 1) (y 2)

/-- The array of the change of the weight. -/
theorem final6 (c : Dev nD) : (dats m 0 c).arrAt 6 (cfgs 0).N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  by_cases h : t.val % 2 = 0
  · rw [outsAt0_A m c t h (by omega)]
    frame_out
    have e : ((cfg0.win 6).blk t).view.emb y = ix3 0 (y 1) (y 2) := by blk_ext [idxA t h]
    rw [e, eq_ix3 y, Fin.fin_one_eq_zero (y 0)]
    exact point6A m c t h (y 1) (y 2)
  · have h' : t.val % 2 = 1 := by omega
    rw [outsAt0_B m c t h h']
    frame_out
    have e : ((cfg0.win 6).blk t).view.emb y = ix3 1 (y 1) (y 2) := by blk_ext [idxB t h']
    rw [e, eq_ix3 y, Fin.fin_one_eq_zero (y 0)]
    exact point6B m c t h' (y 1) (y 2)

/-- The array of the new first moment. -/
theorem final7 (c : Dev nD) : (dats m 0 c).arrAt 7 (cfgs 0).N = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]
  by_cases h : t.val % 2 = 0
  · rw [outsAt0_A m c t h (by omega)]
    frame_out
    have e : ((cfg0.win 7).blk t).view.emb y = ix3 0 (y 1) (y 2) := by blk_ext [idxA t h]
    rw [e, eq_ix3 y, Fin.fin_one_eq_zero (y 0)]
    exact point7A m c t h (y 1) (y 2)
  · have h' : t.val % 2 = 1 := by omega
    rw [outsAt0_B m c t h h']
    frame_out
    have e : ((cfg0.win 7).blk t).view.emb y = ix3 1 (y 1) (y 2) := by blk_ext [idxB t h']
    rw [e, eq_ix3 y, Fin.fin_one_eq_zero (y 0)]
    exact point7B m c t h' (y 1) (y 2)

/-- The array of the new second moment. -/
theorem final8 (c : Dev nD) : (dats m 0 c).arrAt 8 (cfgs 0).N = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp; rw [after0_8]
  by_cases h : t.val % 2 = 0
  · rw [outsAt0_A m c t h (by omega)]
    frame_out
    have e : ((cfg0.win 8).blk t).view.emb y = ix3 0 (y 1) (y 2) := by blk_ext [idxA t h]
    rw [e, eq_ix3 y, Fin.fin_one_eq_zero (y 0)]
    exact point8A m c t h (y 1) (y 2)
  · have h' : t.val % 2 = 1 := by omega
    rw [outsAt0_B m c t h h']
    frame_out
    have e : ((cfg0.win 8).blk t).view.emb y = ix3 1 (y 1) (y 2) := by blk_ext [idxB t h']
    rw [e, eq_ix3 y, Fin.fin_one_eq_zero (y 0)]
    exact point8B m c t h' (y 1) (y 2)

/-- Kernel and reference of the update of the down-projection's weights end with equal results. -/
theorem algebraic : Cert.algebraic_Kernel17Ideal_Reference17Ideal := by
  pair_intro
  · run_from Cert.Kernel17Ideal.Gen.run_main m g
    all_goals first | exact V_main_arg0 m c | exact V_main_arg1 m c | exact V_main_arg2 m c | exact V_main_arg3 m c | exact V_main_arg4 m c
  · refine (θ_run _ _ _).mono (fun r h c => ?_) (Cert.Reference17Ideal.Value.run m' g')
    obtain ⟨e0, e1, e2, e3, e4⟩ := hagree c
    obtain ⟨h0, h1, h2, h3, ha⟩ := h c
    refine ⟨h0.trans ((Cert.Reference17Ideal.Read.val_main_v6_eq _ _).trans (.trans ?_ (final5 m c).symm)), h1.trans ((Cert.Reference17Ideal.Read.val_main_v30_eq _ _ _ _ _).trans (.trans ?_ (final6 m c).symm)), h2.trans ((Cert.Reference17Ideal.Read.val_main_v11_eq _ _ _).trans (.trans ?_ (final7 m c).symm)), h3.trans ((Cert.Reference17Ideal.Read.val_main_v17_eq _ _ _).trans (.trans ?_ (final8 m c).symm)), ha⟩
    · exact congrArg₂ val_main_v6 e0 e1
    · exact Args.congr5 val_main_v30 e0 e1 e2 e3 e4
    · exact Args.congr3 val_main_v11 e0 e1 e3
    · exact Args.congr3 val_main_v17 e0 e1 e4

end Cert.Kernel17Ideal.Math

end
-- ==== Proof.SmallBody.lean ====
/- One run of the body of the small weights' update: what it stores in each of the forty output buffers. -/
module

public import proofs.«01_k».proof.Proof.Gen.Kernel18Ideal.Launch
public import proofs.«01_k».proof.Proof.Gen.Kernel18Ideal.Skeleton
public import proofs.«01_k».proof.Proof.Gen.Kernel18Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384
set_option maxHeartbeats 40000000
noncomputable section

namespace Cert.Kernel18Ideal.Small

open Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! The rectangles the body reads and writes: one of the eight partial gradients, or a whole array. -/

abbrev row31x64_0 : Rect S8x31x64 := Rect.unit (s := S8x31x64) ![0, 0, 0] S1x31x64.size inb_S8x31x64_S1x31x64_0_0_0
abbrev row31x64_1 : Rect S8x31x64 := Rect.unit (s := S8x31x64) ![1, 0, 0] S1x31x64.size inb_S8x31x64_S1x31x64_1_0_0
abbrev row31x64_2 : Rect S8x31x64 := Rect.unit (s := S8x31x64) ![2, 0, 0] S1x31x64.size inb_S8x31x64_S1x31x64_2_0_0
abbrev row31x64_3 : Rect S8x31x64 := Rect.unit (s := S8x31x64) ![3, 0, 0] S1x31x64.size inb_S8x31x64_S1x31x64_3_0_0
abbrev row31x64_4 : Rect S8x31x64 := Rect.unit (s := S8x31x64) ![4, 0, 0] S1x31x64.size inb_S8x31x64_S1x31x64_4_0_0
abbrev row31x64_5 : Rect S8x31x64 := Rect.unit (s := S8x31x64) ![5, 0, 0] S1x31x64.size inb_S8x31x64_S1x31x64_5_0_0
abbrev row31x64_6 : Rect S8x31x64 := Rect.unit (s := S8x31x64) ![6, 0, 0] S1x31x64.size inb_S8x31x64_S1x31x64_6_0_0
abbrev row31x64_7 : Rect S8x31x64 := Rect.unit (s := S8x31x64) ![7, 0, 0] S1x31x64.size inb_S8x31x64_S1x31x64_7_0_0
abbrev all31x64 : Rect S31x64 := Rect.unit (s := S31x64) ![0, 0] S31x64.size inb_S31x64_S31x64_0_0
abbrev row3x64_0 : Rect S8x3x64 := Rect.unit (s := S8x3x64) ![0, 0, 0] S1x3x64.size inb_S8x3x64_S1x3x64_0_0_0
abbrev row3x64_1 : Rect S8x3x64 := Rect.unit (s := S8x3x64) ![1, 0, 0] S1x3x64.size inb_S8x3x64_S1x3x64_1_0_0
abbrev row3x64_2 : Rect S8x3x64 := Rect.unit (s := S8x3x64) ![2, 0, 0] S1x3x64.size inb_S8x3x64_S1x3x64_2_0_0
abbrev row3x64_3 : Rect S8x3x64 := Rect.unit (s := S8x3x64) ![3, 0, 0] S1x3x64.size inb_S8x3x64_S1x3x64_3_0_0
abbrev row3x64_4 : Rect S8x3x64 := Rect.unit (s := S8x3x64) ![4, 0, 0] S1x3x64.size inb_S8x3x64_S1x3x64_4_0_0
abbrev row3x64_5 : Rect S8x3x64 := Rect.unit (s := S8x3x64) ![5, 0, 0] S1x3x64.size inb_S8x3x64_S1x3x64_5_0_0
abbrev row3x64_6 : Rect S8x3x64 := Rect.unit (s := S8x3x64) ![6, 0, 0] S1x3x64.size inb_S8x3x64_S1x3x64_6_0_0
abbrev row3x64_7 : Rect S8x3x64 := Rect.unit (s := S8x3x64) ![7, 0, 0] S1x3x64.size inb_S8x3x64_S1x3x64_7_0_0
abbrev all3x64 : Rect S3x64 := Rect.unit (s := S3x64) ![0, 0] S3x64.size inb_S3x64_S3x64_0_0
abbrev row1x128_0 : Rect S8x1x128 := Rect.unit (s := S8x1x128) ![0, 0, 0] S1x1x128.size inb_S8x1x128_S1x1x128_0_0_0
abbrev row1x128_1 : Rect S8x1x128 := Rect.unit (s := S8x1x128) ![1, 0, 0] S1x1x128.size inb_S8x1x128_S1x1x128_1_0_0
abbrev row1x128_2 : Rect S8x1x128 := Rect.unit (s := S8x1x128) ![2, 0, 0] S1x1x128.size inb_S8x1x128_S1x1x128_2_0_0
abbrev row1x128_3 : Rect S8x1x128 := Rect.unit (s := S8x1x128) ![3, 0, 0] S1x1x128.size inb_S8x1x128_S1x1x128_3_0_0
abbrev row1x128_4 : Rect S8x1x128 := Rect.unit (s := S8x1x128) ![4, 0, 0] S1x1x128.size inb_S8x1x128_S1x1x128_4_0_0
abbrev row1x128_5 : Rect S8x1x128 := Rect.unit (s := S8x1x128) ![5, 0, 0] S1x1x128.size inb_S8x1x128_S1x1x128_5_0_0
abbrev row1x128_6 : Rect S8x1x128 := Rect.unit (s := S8x1x128) ![6, 0, 0] S1x1x128.size inb_S8x1x128_S1x1x128_6_0_0
abbrev row1x128_7 : Rect S8x1x128 := Rect.unit (s := S8x1x128) ![7, 0, 0] S1x1x128.size inb_S8x1x128_S1x1x128_7_0_0
abbrev all1x128 : Rect S1x128 := Rect.unit (s := S1x128) ![0, 0] S1x128.size inb_S1x128_S1x128_0_0
abbrev row6x704_0 : Rect S8x6x704 := Rect.unit (s := S8x6x704) ![0, 0, 0] S1x6x704.size inb_S8x6x704_S1x6x704_0_0_0
abbrev row6x704_1 : Rect S8x6x704 := Rect.unit (s := S8x6x704) ![1, 0, 0] S1x6x704.size inb_S8x6x704_S1x6x704_1_0_0
abbrev row6x704_2 : Rect S8x6x704 := Rect.unit (s := S8x6x704) ![2, 0, 0] S1x6x704.size inb_S8x6x704_S1x6x704_2_0_0
abbrev row6x704_3 : Rect S8x6x704 := Rect.unit (s := S8x6x704) ![3, 0, 0] S1x6x704.size inb_S8x6x704_S1x6x704_3_0_0
abbrev row6x704_4 : Rect S8x6x704 := Rect.unit (s := S8x6x704) ![4, 0, 0] S1x6x704.size inb_S8x6x704_S1x6x704_4_0_0
abbrev row6x704_5 : Rect S8x6x704 := Rect.unit (s := S8x6x704) ![5, 0, 0] S1x6x704.size inb_S8x6x704_S1x6x704_5_0_0
abbrev row6x704_6 : Rect S8x6x704 := Rect.unit (s := S8x6x704) ![6, 0, 0] S1x6x704.size inb_S8x6x704_S1x6x704_6_0_0
abbrev row6x704_7 : Rect S8x6x704 := Rect.unit (s := S8x6x704) ![7, 0, 0] S1x6x704.size inb_S8x6x704_S1x6x704_7_0_0
abbrev all6x704 : Rect S6x704 := Rect.unit (s := S6x704) ![0, 0] S6x704.size inb_S6x704_S6x704_0_0
abbrev row1x1024_0 : Rect S8x1x1024 := Rect.unit (s := S8x1x1024) ![0, 0, 0] S1x1x1024.size inb_S8x1x1024_S1x1x1024_0_0_0
abbrev row1x1024_1 : Rect S8x1x1024 := Rect.unit (s := S8x1x1024) ![1, 0, 0] S1x1x1024.size inb_S8x1x1024_S1x1x1024_1_0_0
abbrev row1x1024_2 : Rect S8x1x1024 := Rect.unit (s := S8x1x1024) ![2, 0, 0] S1x1x1024.size inb_S8x1x1024_S1x1x1024_2_0_0
abbrev row1x1024_3 : Rect S8x1x1024 := Rect.unit (s := S8x1x1024) ![3, 0, 0] S1x1x1024.size inb_S8x1x1024_S1x1x1024_3_0_0
abbrev row1x1024_4 : Rect S8x1x1024 := Rect.unit (s := S8x1x1024) ![4, 0, 0] S1x1x1024.size inb_S8x1x1024_S1x1x1024_4_0_0
abbrev row1x1024_5 : Rect S8x1x1024 := Rect.unit (s := S8x1x1024) ![5, 0, 0] S1x1x1024.size inb_S8x1x1024_S1x1x1024_5_0_0
abbrev row1x1024_6 : Rect S8x1x1024 := Rect.unit (s := S8x1x1024) ![6, 0, 0] S1x1x1024.size inb_S8x1x1024_S1x1x1024_6_0_0
abbrev row1x1024_7 : Rect S8x1x1024 := Rect.unit (s := S8x1x1024) ![7, 0, 0] S1x1x1024.size inb_S8x1x1024_S1x1x1024_7_0_0
abbrev all1x1024 : Rect S1x1024 := Rect.unit (s := S1x1024) ![0, 0] S1x1024.size inb_S1x1024_S1x1024_0_0
abbrev row1x512_0 : Rect S8x1x512 := Rect.unit (s := S8x1x512) ![0, 0, 0] S1x1x512.size inb_S8x1x512_S1x1x512_0_0_0
abbrev row1x512_1 : Rect S8x1x512 := Rect.unit (s := S8x1x512) ![1, 0, 0] S1x1x512.size inb_S8x1x512_S1x1x512_1_0_0
abbrev row1x512_2 : Rect S8x1x512 := Rect.unit (s := S8x1x512) ![2, 0, 0] S1x1x512.size inb_S8x1x512_S1x1x512_2_0_0
abbrev row1x512_3 : Rect S8x1x512 := Rect.unit (s := S8x1x512) ![3, 0, 0] S1x1x512.size inb_S8x1x512_S1x1x512_3_0_0
abbrev row1x512_4 : Rect S8x1x512 := Rect.unit (s := S8x1x512) ![4, 0, 0] S1x1x512.size inb_S8x1x512_S1x1x512_4_0_0
abbrev row1x512_5 : Rect S8x1x512 := Rect.unit (s := S8x1x512) ![5, 0, 0] S1x1x512.size inb_S8x1x512_S1x1x512_5_0_0
abbrev row1x512_6 : Rect S8x1x512 := Rect.unit (s := S8x1x512) ![6, 0, 0] S1x1x512.size inb_S8x1x512_S1x1x512_6_0_0
abbrev row1x512_7 : Rect S8x1x512 := Rect.unit (s := S8x1x512) ![7, 0, 0] S1x1x512.size inb_S8x1x512_S1x1x512_7_0_0
abbrev all1x512 : Rect S1x512 := Rect.unit (s := S1x512) ![0, 0] S1x512.size inb_S1x512_S1x512_0_0
abbrev row2x1024_0 : Rect S8x2x1024 := Rect.unit (s := S8x2x1024) ![0, 0, 0] S1x2x1024.size inb_S8x2x1024_S1x2x1024_0_0_0
abbrev row2x1024_1 : Rect S8x2x1024 := Rect.unit (s := S8x2x1024) ![1, 0, 0] S1x2x1024.size inb_S8x2x1024_S1x2x1024_1_0_0
abbrev row2x1024_2 : Rect S8x2x1024 := Rect.unit (s := S8x2x1024) ![2, 0, 0] S1x2x1024.size inb_S8x2x1024_S1x2x1024_2_0_0
abbrev row2x1024_3 : Rect S8x2x1024 := Rect.unit (s := S8x2x1024) ![3, 0, 0] S1x2x1024.size inb_S8x2x1024_S1x2x1024_3_0_0
abbrev row2x1024_4 : Rect S8x2x1024 := Rect.unit (s := S8x2x1024) ![4, 0, 0] S1x2x1024.size inb_S8x2x1024_S1x2x1024_4_0_0
abbrev row2x1024_5 : Rect S8x2x1024 := Rect.unit (s := S8x2x1024) ![5, 0, 0] S1x2x1024.size inb_S8x2x1024_S1x2x1024_5_0_0
abbrev row2x1024_6 : Rect S8x2x1024 := Rect.unit (s := S8x2x1024) ![6, 0, 0] S1x2x1024.size inb_S8x2x1024_S1x2x1024_6_0_0
abbrev row2x1024_7 : Rect S8x2x1024 := Rect.unit (s := S8x2x1024) ![7, 0, 0] S1x2x1024.size inb_S8x2x1024_S1x2x1024_7_0_0
abbrev all2x1024 : Rect S2x1024 := Rect.unit (s := S2x1024) ![0, 0] S2x1024.size inb_S2x1024_S2x1024_0_0

/-! What the body leaves in the four output buffers of each weight. -/

/-- The summed gradient of weight 0, from its partial gradients. -/
def grad0 (g : Vec F S8x31x64 .f32) : Vec F S31x64 .f32 :=
  View.canon [⟨all31x64, k0_pay2 (View.ld g row31x64_0) (View.ld g row31x64_1) (View.ld g row31x64_2) (View.ld g row31x64_3) (View.ld g row31x64_4) (View.ld g row31x64_5) (View.ld g row31x64_6) (View.ld g row31x64_7)⟩]

/-- The change of weight 0. -/
def step0 (g : Vec F S8x31x64 .f32) (w : Vec F S31x64 .f32) (mu : Vec F S31x64 .f32) (nu : Vec F S31x64 .f32) : Vec F S31x64 .f32 :=
  View.canon [⟨all31x64, k0_pay5 (k0_pay2 (View.ld g row31x64_0) (View.ld g row31x64_1) (View.ld g row31x64_2) (View.ld g row31x64_3) (View.ld g row31x64_4) (View.ld g row31x64_5) (View.ld g row31x64_6) (View.ld g row31x64_7)) (k0_pay3 (View.ld g row31x64_0) (View.ld g row31x64_1) (View.ld g row31x64_2) (View.ld g row31x64_3) (View.ld g row31x64_4) (View.ld g row31x64_5) (View.ld g row31x64_6) (View.ld g row31x64_7) (View.ld mu all31x64)) (View.ld nu all31x64) (View.ld w all31x64)⟩]

/-- The new first moment of weight 0. -/
def first0 (g : Vec F S8x31x64 .f32) (mu : Vec F S31x64 .f32) : Vec F S31x64 .f32 :=
  View.canon [⟨all31x64, k0_pay3 (View.ld g row31x64_0) (View.ld g row31x64_1) (View.ld g row31x64_2) (View.ld g row31x64_3) (View.ld g row31x64_4) (View.ld g row31x64_5) (View.ld g row31x64_6) (View.ld g row31x64_7) (View.ld mu all31x64)⟩]

/-- The new second moment of weight 0. -/
def second0 (g : Vec F S8x31x64 .f32) (nu : Vec F S31x64 .f32) : Vec F S31x64 .f32 :=
  View.canon [⟨all31x64, k0_pay4 (k0_pay2 (View.ld g row31x64_0) (View.ld g row31x64_1) (View.ld g row31x64_2) (View.ld g row31x64_3) (View.ld g row31x64_4) (View.ld g row31x64_5) (View.ld g row31x64_6) (View.ld g row31x64_7)) (View.ld nu all31x64)⟩]

/-- The summed gradient of weight 1, from its partial gradients. -/
def grad1 (g : Vec F S8x3x64 .f32) : Vec F S3x64 .f32 :=
  View.canon [⟨all3x64, k0_pay7 (k0_pay6 (View.ld g row3x64_0) (View.ld g row3x64_1)) (View.ld g row3x64_2) (View.ld g row3x64_3) (View.ld g row3x64_4) (View.ld g row3x64_5) (View.ld g row3x64_6) (View.ld g row3x64_7)⟩]

/-- The change of weight 1. -/
def step1 (g : Vec F S8x3x64 .f32) (w : Vec F S3x64 .f32) (mu : Vec F S3x64 .f32) (nu : Vec F S3x64 .f32) : Vec F S3x64 .f32 :=
  View.canon [⟨all3x64, k0_pay12 (k0_pay10 (k0_pay6 (View.ld g row3x64_0) (View.ld g row3x64_1)) (View.ld g row3x64_2) (View.ld g row3x64_3) (View.ld g row3x64_4) (View.ld g row3x64_5) (View.ld g row3x64_6) (View.ld g row3x64_7) (View.ld mu all3x64)) (k0_pay11 (k0_pay6 (View.ld g row3x64_0) (View.ld g row3x64_1)) (View.ld g row3x64_2) (View.ld g row3x64_3) (View.ld g row3x64_4) (View.ld g row3x64_5) (View.ld g row3x64_6) (View.ld g row3x64_7) (View.ld nu all3x64)) (View.ld w all3x64)⟩]

/-- The new first moment of weight 1. -/
def first1 (g : Vec F S8x3x64 .f32) (mu : Vec F S3x64 .f32) : Vec F S3x64 .f32 :=
  View.canon [⟨all3x64, k0_pay8 (k0_pay6 (View.ld g row3x64_0) (View.ld g row3x64_1)) (View.ld g row3x64_2) (View.ld g row3x64_3) (View.ld g row3x64_4) (View.ld g row3x64_5) (View.ld g row3x64_6) (View.ld g row3x64_7) (View.ld mu all3x64)⟩]

/-- The new second moment of weight 1. -/
def second1 (g : Vec F S8x3x64 .f32) (nu : Vec F S3x64 .f32) : Vec F S3x64 .f32 :=
  View.canon [⟨all3x64, k0_pay9 (k0_pay6 (View.ld g row3x64_0) (View.ld g row3x64_1)) (View.ld g row3x64_2) (View.ld g row3x64_3) (View.ld g row3x64_4) (View.ld g row3x64_5) (View.ld g row3x64_6) (View.ld g row3x64_7) (View.ld nu all3x64)⟩]

/-- The summed gradient of weight 2, from its partial gradients. -/
def grad2 (g : Vec F S8x1x128 .f32) : Vec F S1x128 .f32 :=
  View.canon [⟨all1x128, k0_pay14 (k0_pay13 (View.ld g row1x128_0) (View.ld g row1x128_1) (View.ld g row1x128_2) (View.ld g row1x128_3) (View.ld g row1x128_4)) (View.ld g row1x128_5) (View.ld g row1x128_6) (View.ld g row1x128_7)⟩]

/-- The change of weight 2. -/
def step2 (g : Vec F S8x1x128 .f32) (w : Vec F S1x128 .f32) (mu : Vec F S1x128 .f32) (nu : Vec F S1x128 .f32) : Vec F S1x128 .f32 :=
  View.canon [⟨all1x128, k0_pay18 (k0_pay17 (k0_pay13 (View.ld g row1x128_0) (View.ld g row1x128_1) (View.ld g row1x128_2) (View.ld g row1x128_3) (View.ld g row1x128_4)) (View.ld g row1x128_5) (View.ld g row1x128_6) (View.ld g row1x128_7) (View.ld mu all1x128) (View.ld nu all1x128) (View.ld w all1x128))⟩]

/-- The new first moment of weight 2. -/
def first2 (g : Vec F S8x1x128 .f32) (mu : Vec F S1x128 .f32) : Vec F S1x128 .f32 :=
  View.canon [⟨all1x128, k0_pay15 (k0_pay13 (View.ld g row1x128_0) (View.ld g row1x128_1) (View.ld g row1x128_2) (View.ld g row1x128_3) (View.ld g row1x128_4)) (View.ld g row1x128_5) (View.ld g row1x128_6) (View.ld g row1x128_7) (View.ld mu all1x128)⟩]

/-- The new second moment of weight 2. -/
def second2 (g : Vec F S8x1x128 .f32) (nu : Vec F S1x128 .f32) : Vec F S1x128 .f32 :=
  View.canon [⟨all1x128, k0_pay16 (k0_pay13 (View.ld g row1x128_0) (View.ld g row1x128_1) (View.ld g row1x128_2) (View.ld g row1x128_3) (View.ld g row1x128_4)) (View.ld g row1x128_5) (View.ld g row1x128_6) (View.ld g row1x128_7) (View.ld nu all1x128)⟩]

/-- The summed gradient of weight 3, from its partial gradients. -/
def grad3 (g : Vec F S8x1x128 .f32) : Vec F S1x128 .f32 :=
  View.canon [⟨all1x128, k0_pay20 (k0_pay19 (View.ld g row1x128_0) (View.ld g row1x128_1) (View.ld g row1x128_2) (View.ld g row1x128_3) (View.ld g row1x128_4) (View.ld g row1x128_5) (View.ld g row1x128_6)) (View.ld g row1x128_7)⟩]

/-- The change of weight 3. -/
def step3 (g : Vec F S8x1x128 .f32) (w : Vec F S1x128 .f32) (mu : Vec F S1x128 .f32) (nu : Vec F S1x128 .f32) : Vec F S1x128 .f32 :=
  View.canon [⟨all1x128, k0_pay23 (k0_pay19 (View.ld g row1x128_0) (View.ld g row1x128_1) (View.ld g row1x128_2) (View.ld g row1x128_3) (View.ld g row1x128_4) (View.ld g row1x128_5) (View.ld g row1x128_6)) (View.ld g row1x128_7) (View.ld mu all1x128) (View.ld nu all1x128) (View.ld w all1x128)⟩]

/-- The new first moment of weight 3. -/
def first3 (g : Vec F S8x1x128 .f32) (mu : Vec F S1x128 .f32) : Vec F S1x128 .f32 :=
  View.canon [⟨all1x128, k0_pay21 (k0_pay19 (View.ld g row1x128_0) (View.ld g row1x128_1) (View.ld g row1x128_2) (View.ld g row1x128_3) (View.ld g row1x128_4) (View.ld g row1x128_5) (View.ld g row1x128_6)) (View.ld g row1x128_7) (View.ld mu all1x128)⟩]

/-- The new second moment of weight 3. -/
def second3 (g : Vec F S8x1x128 .f32) (nu : Vec F S1x128 .f32) : Vec F S1x128 .f32 :=
  View.canon [⟨all1x128, k0_pay22 (k0_pay19 (View.ld g row1x128_0) (View.ld g row1x128_1) (View.ld g row1x128_2) (View.ld g row1x128_3) (View.ld g row1x128_4) (View.ld g row1x128_5) (View.ld g row1x128_6)) (View.ld g row1x128_7) (View.ld nu all1x128)⟩]

/-- The summed gradient of weight 4, from its partial gradients. -/
def grad4 (g : Vec F S8x6x704 .f32) : Vec F S6x704 .f32 :=
  View.canon [⟨all6x704, k0_pay24 (View.ld g row6x704_0) (View.ld g row6x704_1) (View.ld g row6x704_2) (View.ld g row6x704_3) (View.ld g row6x704_4) (View.ld g row6x704_5) (View.ld g row6x704_6) (View.ld g row6x704_7)⟩]

/-- The change of weight 4. -/
def step4 (g : Vec F S8x6x704 .f32) (w : Vec F S6x704 .f32) (mu : Vec F S6x704 .f32) (nu : Vec F S6x704 .f32) : Vec F S6x704 .f32 :=
  View.canon [⟨all6x704, k0_pay27 (k0_pay24 (View.ld g row6x704_0) (View.ld g row6x704_1) (View.ld g row6x704_2) (View.ld g row6x704_3) (View.ld g row6x704_4) (View.ld g row6x704_5) (View.ld g row6x704_6) (View.ld g row6x704_7)) (k0_pay25 (View.ld g row6x704_0) (View.ld g row6x704_1) (View.ld g row6x704_2) (View.ld g row6x704_3) (View.ld g row6x704_4) (View.ld g row6x704_5) (View.ld g row6x704_6) (View.ld g row6x704_7) (View.ld mu all6x704)) (View.ld nu all6x704) (View.ld w all6x704)⟩]

/-- The new first moment of weight 4. -/
def first4 (g : Vec F S8x6x704 .f32) (mu : Vec F S6x704 .f32) : Vec F S6x704 .f32 :=
  View.canon [⟨all6x704, k0_pay25 (View.ld g row6x704_0) (View.ld g row6x704_1) (View.ld g row6x704_2) (View.ld g row6x704_3) (View.ld g row6x704_4) (View.ld g row6x704_5) (View.ld g row6x704_6) (View.ld g row6x704_7) (View.ld mu all6x704)⟩]

/-- The new second moment of weight 4. -/
def second4 (g : Vec F S8x6x704 .f32) (nu : Vec F S6x704 .f32) : Vec F S6x704 .f32 :=
  View.canon [⟨all6x704, k0_pay26 (k0_pay24 (View.ld g row6x704_0) (View.ld g row6x704_1) (View.ld g row6x704_2) (View.ld g row6x704_3) (View.ld g row6x704_4) (View.ld g row6x704_5) (View.ld g row6x704_6) (View.ld g row6x704_7)) (View.ld nu all6x704)⟩]

/-- The summed gradient of weight 5, from its partial gradients. -/
def grad5 (g : Vec F S8x1x1024 .f32) : Vec F S1x1024 .f32 :=
  View.canon [⟨all1x1024, k0_pay29 (k0_pay28 (View.ld g row1x1024_0) (View.ld g row1x1024_1)) (View.ld g row1x1024_2) (View.ld g row1x1024_3) (View.ld g row1x1024_4) (View.ld g row1x1024_5) (View.ld g row1x1024_6) (View.ld g row1x1024_7)⟩]

/-- The change of weight 5. -/
def step5 (g : Vec F S8x1x1024 .f32) (w : Vec F S1x1024 .f32) (mu : Vec F S1x1024 .f32) (nu : Vec F S1x1024 .f32) : Vec F S1x1024 .f32 :=
  View.canon [⟨all1x1024, k0_pay34 (k0_pay32 (k0_pay28 (View.ld g row1x1024_0) (View.ld g row1x1024_1)) (View.ld g row1x1024_2) (View.ld g row1x1024_3) (View.ld g row1x1024_4) (View.ld g row1x1024_5) (View.ld g row1x1024_6) (View.ld g row1x1024_7) (View.ld mu all1x1024)) (k0_pay33 (k0_pay28 (View.ld g row1x1024_0) (View.ld g row1x1024_1)) (View.ld g row1x1024_2) (View.ld g row1x1024_3) (View.ld g row1x1024_4) (View.ld g row1x1024_5) (View.ld g row1x1024_6) (View.ld g row1x1024_7) (View.ld nu all1x1024)) (View.ld w all1x1024)⟩]

/-- The new first moment of weight 5. -/
def first5 (g : Vec F S8x1x1024 .f32) (mu : Vec F S1x1024 .f32) : Vec F S1x1024 .f32 :=
  View.canon [⟨all1x1024, k0_pay30 (k0_pay28 (View.ld g row1x1024_0) (View.ld g row1x1024_1)) (View.ld g row1x1024_2) (View.ld g row1x1024_3) (View.ld g row1x1024_4) (View.ld g row1x1024_5) (View.ld g row1x1024_6) (View.ld g row1x1024_7) (View.ld mu all1x1024)⟩]

/-- The new second moment of weight 5. -/
def second5 (g : Vec F S8x1x1024 .f32) (nu : Vec F S1x1024 .f32) : Vec F S1x1024 .f32 :=
  View.canon [⟨all1x1024, k0_pay31 (k0_pay28 (View.ld g row1x1024_0) (View.ld g row1x1024_1)) (View.ld g row1x1024_2) (View.ld g row1x1024_3) (View.ld g row1x1024_4) (View.ld g row1x1024_5) (View.ld g row1x1024_6) (View.ld g row1x1024_7) (View.ld nu all1x1024)⟩]

/-- The summed gradient of weight 6, from its partial gradients. -/
def grad6 (g : Vec F S8x1x512 .f32) : Vec F S1x512 .f32 :=
  View.canon [⟨all1x512, k0_pay36 (k0_pay35 (View.ld g row1x512_0) (View.ld g row1x512_1) (View.ld g row1x512_2) (View.ld g row1x512_3) (View.ld g row1x512_4)) (View.ld g row1x512_5) (View.ld g row1x512_6) (View.ld g row1x512_7)⟩]

/-- The change of weight 6. -/
def step6 (g : Vec F S8x1x512 .f32) (w : Vec F S1x512 .f32) (mu : Vec F S1x512 .f32) (nu : Vec F S1x512 .f32) : Vec F S1x512 .f32 :=
  View.canon [⟨all1x512, k0_pay40 (k0_pay39 (k0_pay35 (View.ld g row1x512_0) (View.ld g row1x512_1) (View.ld g row1x512_2) (View.ld g row1x512_3) (View.ld g row1x512_4)) (View.ld g row1x512_5) (View.ld g row1x512_6) (View.ld g row1x512_7) (View.ld mu all1x512) (View.ld nu all1x512) (View.ld w all1x512))⟩]

/-- The new first moment of weight 6. -/
def first6 (g : Vec F S8x1x512 .f32) (mu : Vec F S1x512 .f32) : Vec F S1x512 .f32 :=
  View.canon [⟨all1x512, k0_pay37 (k0_pay35 (View.ld g row1x512_0) (View.ld g row1x512_1) (View.ld g row1x512_2) (View.ld g row1x512_3) (View.ld g row1x512_4)) (View.ld g row1x512_5) (View.ld g row1x512_6) (View.ld g row1x512_7) (View.ld mu all1x512)⟩]

/-- The new second moment of weight 6. -/
def second6 (g : Vec F S8x1x512 .f32) (nu : Vec F S1x512 .f32) : Vec F S1x512 .f32 :=
  View.canon [⟨all1x512, k0_pay38 (k0_pay35 (View.ld g row1x512_0) (View.ld g row1x512_1) (View.ld g row1x512_2) (View.ld g row1x512_3) (View.ld g row1x512_4)) (View.ld g row1x512_5) (View.ld g row1x512_6) (View.ld g row1x512_7) (View.ld nu all1x512)⟩]

/-- The summed gradient of weight 7, from its partial gradients. -/
def grad7 (g : Vec F S8x1x512 .f32) : Vec F S1x512 .f32 :=
  View.canon [⟨all1x512, k0_pay42 (k0_pay41 (View.ld g row1x512_0) (View.ld g row1x512_1) (View.ld g row1x512_2) (View.ld g row1x512_3) (View.ld g row1x512_4) (View.ld g row1x512_5) (View.ld g row1x512_6)) (View.ld g row1x512_7)⟩]

/-- The change of weight 7. -/
def step7 (g : Vec F S8x1x512 .f32) (w : Vec F S1x512 .f32) (mu : Vec F S1x512 .f32) (nu : Vec F S1x512 .f32) : Vec F S1x512 .f32 :=
  View.canon [⟨all1x512, k0_pay45 (k0_pay41 (View.ld g row1x512_0) (View.ld g row1x512_1) (View.ld g row1x512_2) (View.ld g row1x512_3) (View.ld g row1x512_4) (View.ld g row1x512_5) (View.ld g row1x512_6)) (View.ld g row1x512_7) (View.ld mu all1x512) (View.ld nu all1x512) (View.ld w all1x512)⟩]

/-- The new first moment of weight 7. -/
def first7 (g : Vec F S8x1x512 .f32) (mu : Vec F S1x512 .f32) : Vec F S1x512 .f32 :=
  View.canon [⟨all1x512, k0_pay43 (k0_pay41 (View.ld g row1x512_0) (View.ld g row1x512_1) (View.ld g row1x512_2) (View.ld g row1x512_3) (View.ld g row1x512_4) (View.ld g row1x512_5) (View.ld g row1x512_6)) (View.ld g row1x512_7) (View.ld mu all1x512)⟩]

/-- The new second moment of weight 7. -/
def second7 (g : Vec F S8x1x512 .f32) (nu : Vec F S1x512 .f32) : Vec F S1x512 .f32 :=
  View.canon [⟨all1x512, k0_pay44 (k0_pay41 (View.ld g row1x512_0) (View.ld g row1x512_1) (View.ld g row1x512_2) (View.ld g row1x512_3) (View.ld g row1x512_4) (View.ld g row1x512_5) (View.ld g row1x512_6)) (View.ld g row1x512_7) (View.ld nu all1x512)⟩]

/-- The summed gradient of weight 8, from its partial gradients. -/
def grad8 (g : Vec F S8x2x1024 .f32) : Vec F S2x1024 .f32 :=
  View.canon [⟨all2x1024, k0_pay46 (View.ld g row2x1024_0) (View.ld g row2x1024_1) (View.ld g row2x1024_2) (View.ld g row2x1024_3) (View.ld g row2x1024_4) (View.ld g row2x1024_5) (View.ld g row2x1024_6) (View.ld g row2x1024_7)⟩]

/-- The change of weight 8. -/
def step8 (g : Vec F S8x2x1024 .f32) (w : Vec F S2x1024 .f32) (mu : Vec F S2x1024 .f32) (nu : Vec F S2x1024 .f32) : Vec F S2x1024 .f32 :=
  View.canon [⟨all2x1024, k0_pay49 (k0_pay46 (View.ld g row2x1024_0) (View.ld g row2x1024_1) (View.ld g row2x1024_2) (View.ld g row2x1024_3) (View.ld g row2x1024_4) (View.ld g row2x1024_5) (View.ld g row2x1024_6) (View.ld g row2x1024_7)) (k0_pay47 (View.ld g row2x1024_0) (View.ld g row2x1024_1) (View.ld g row2x1024_2) (View.ld g row2x1024_3) (View.ld g row2x1024_4) (View.ld g row2x1024_5) (View.ld g row2x1024_6) (View.ld g row2x1024_7) (View.ld mu all2x1024)) (View.ld nu all2x1024) (View.ld w all2x1024)⟩]

/-- The new first moment of weight 8. -/
def first8 (g : Vec F S8x2x1024 .f32) (mu : Vec F S2x1024 .f32) : Vec F S2x1024 .f32 :=
  View.canon [⟨all2x1024, k0_pay47 (View.ld g row2x1024_0) (View.ld g row2x1024_1) (View.ld g row2x1024_2) (View.ld g row2x1024_3) (View.ld g row2x1024_4) (View.ld g row2x1024_5) (View.ld g row2x1024_6) (View.ld g row2x1024_7) (View.ld mu all2x1024)⟩]

/-- The new second moment of weight 8. -/
def second8 (g : Vec F S8x2x1024 .f32) (nu : Vec F S2x1024 .f32) : Vec F S2x1024 .f32 :=
  View.canon [⟨all2x1024, k0_pay48 (k0_pay46 (View.ld g row2x1024_0) (View.ld g row2x1024_1) (View.ld g row2x1024_2) (View.ld g row2x1024_3) (View.ld g row2x1024_4) (View.ld g row2x1024_5) (View.ld g row2x1024_6) (View.ld g row2x1024_7)) (View.ld nu all2x1024)⟩]

/-- The summed gradient of weight 9, from its partial gradients. -/
def grad9 (g : Vec F S8x1x1024 .f32) : Vec F S1x1024 .f32 :=
  View.canon [⟨all1x1024, k0_pay51 (k0_pay50 (View.ld g row1x1024_0) (View.ld g row1x1024_1)) (View.ld g row1x1024_2) (View.ld g row1x1024_3) (View.ld g row1x1024_4) (View.ld g row1x1024_5) (View.ld g row1x1024_6) (View.ld g row1x1024_7)⟩]

/-- The change of weight 9. -/
def step9 (g : Vec F S8x1x1024 .f32) (w : Vec F S1x1024 .f32) (mu : Vec F S1x1024 .f32) (nu : Vec F S1x1024 .f32) : Vec F S1x1024 .f32 :=
  View.canon [⟨all1x1024, k0_pay1 (k0_pay54 (k0_pay50 (View.ld g row1x1024_0) (View.ld g row1x1024_1)) (View.ld g row1x1024_2) (View.ld g row1x1024_3) (View.ld g row1x1024_4) (View.ld g row1x1024_5) (View.ld g row1x1024_6) (View.ld g row1x1024_7) (View.ld mu all1x1024)) (k0_pay55 (k0_pay50 (View.ld g row1x1024_0) (View.ld g row1x1024_1)) (View.ld g row1x1024_2) (View.ld g row1x1024_3) (View.ld g row1x1024_4) (View.ld g row1x1024_5) (View.ld g row1x1024_6) (View.ld g row1x1024_7) (View.ld nu all1x1024)) (View.ld w all1x1024)⟩]

/-- The new first moment of weight 9. -/
def first9 (g : Vec F S8x1x1024 .f32) (mu : Vec F S1x1024 .f32) : Vec F S1x1024 .f32 :=
  View.canon [⟨all1x1024, k0_pay52 (k0_pay50 (View.ld g row1x1024_0) (View.ld g row1x1024_1)) (View.ld g row1x1024_2) (View.ld g row1x1024_3) (View.ld g row1x1024_4) (View.ld g row1x1024_5) (View.ld g row1x1024_6) (View.ld g row1x1024_7) (View.ld mu all1x1024)⟩]

/-- The new second moment of weight 9. -/
def second9 (g : Vec F S8x1x1024 .f32) (nu : Vec F S1x1024 .f32) : Vec F S1x1024 .f32 :=
  View.canon [⟨all1x1024, k0_pay53 (k0_pay50 (View.ld g row1x1024_0) (View.ld g row1x1024_1)) (View.ld g row1x1024_2) (View.ld g row1x1024_3) (View.ld g row1x1024_4) (View.ld g row1x1024_5) (View.ld g row1x1024_6) (View.ld g row1x1024_7) (View.ld nu all1x1024)⟩]

/-! A store over a whole buffer covers it. -/

theorem cover31x64 (p : Vec F S31x64 .f32) (y : S31x64.Idx) : ∃ pc ∈ ([⟨all31x64, p⟩] : List (View.Piece (Elt F) S31x64 .f32)), y ∈ pc.1.set :=
  View.cover_of_tiled [⟨all31x64, p⟩] S31x64.size (by rfl) y
theorem cover3x64 (p : Vec F S3x64 .f32) (y : S3x64.Idx) : ∃ pc ∈ ([⟨all3x64, p⟩] : List (View.Piece (Elt F) S3x64 .f32)), y ∈ pc.1.set :=
  View.cover_of_tiled [⟨all3x64, p⟩] S3x64.size (by rfl) y
theorem cover1x128 (p : Vec F S1x128 .f32) (y : S1x128.Idx) : ∃ pc ∈ ([⟨all1x128, p⟩] : List (View.Piece (Elt F) S1x128 .f32)), y ∈ pc.1.set :=
  View.cover_of_tiled [⟨all1x128, p⟩] S1x128.size (by rfl) y
theorem cover6x704 (p : Vec F S6x704 .f32) (y : S6x704.Idx) : ∃ pc ∈ ([⟨all6x704, p⟩] : List (View.Piece (Elt F) S6x704 .f32)), y ∈ pc.1.set :=
  View.cover_of_tiled [⟨all6x704, p⟩] S6x704.size (by rfl) y
theorem cover1x1024 (p : Vec F S1x1024 .f32) (y : S1x1024.Idx) : ∃ pc ∈ ([⟨all1x1024, p⟩] : List (View.Piece (Elt F) S1x1024 .f32)), y ∈ pc.1.set :=
  View.cover_of_tiled [⟨all1x1024, p⟩] S1x1024.size (by rfl) y
theorem cover1x512 (p : Vec F S1x512 .f32) (y : S1x512.Idx) : ∃ pc ∈ ([⟨all1x512, p⟩] : List (View.Piece (Elt F) S1x512 .f32)), y ∈ pc.1.set :=
  View.cover_of_tiled [⟨all1x512, p⟩] S1x512.size (by rfl) y
theorem cover2x1024 (p : Vec F S2x1024 .f32) (y : S2x1024.Idx) : ∃ pc ∈ ([⟨all2x1024, p⟩] : List (View.Piece (Elt F) S2x1024 .f32)), y ∈ pc.1.set :=
  View.cover_of_tiled [⟨all2x1024, p⟩] S2x1024.size (by rfl) y

/-- The body on whole buffers, the inputs' with contents `x`, leaves the inputs as they were and each output with the contents named above. -/
theorem sound_kernel (c : Dev nD) (E : Set ℕ)
    (a0 : Memref sig .tc .vmem S8x31x64 .f32) (h0 : a0.IsWhole)
    (a1 : Memref sig .tc .vmem S8x3x64 .f32) (h1 : a1.IsWhole)
    (a2 : Memref sig .tc .vmem S8x1x128 .f32) (h2 : a2.IsWhole)
    (a3 : Memref sig .tc .vmem S8x1x128 .f32) (h3 : a3.IsWhole)
    (a4 : Memref sig .tc .vmem S8x6x704 .f32) (h4 : a4.IsWhole)
    (a5 : Memref sig .tc .vmem S8x1x1024 .f32) (h5 : a5.IsWhole)
    (a6 : Memref sig .tc .vmem S8x1x512 .f32) (h6 : a6.IsWhole)
    (a7 : Memref sig .tc .vmem S8x1x512 .f32) (h7 : a7.IsWhole)
    (a8 : Memref sig .tc .vmem S8x2x1024 .f32) (h8 : a8.IsWhole)
    (a9 : Memref sig .tc .vmem S8x1x1024 .f32) (h9 : a9.IsWhole)
    (a10 : Memref sig .tc .vmem S31x64 .f32) (h10 : a10.IsWhole)
    (a11 : Memref sig .tc .vmem S3x64 .f32) (h11 : a11.IsWhole)
    (a12 : Memref sig .tc .vmem S1x128 .f32) (h12 : a12.IsWhole)
    (a13 : Memref sig .tc .vmem S1x128 .f32) (h13 : a13.IsWhole)
    (a14 : Memref sig .tc .vmem S6x704 .f32) (h14 : a14.IsWhole)
    (a15 : Memref sig .tc .vmem S1x1024 .f32) (h15 : a15.IsWhole)
    (a16 : Memref sig .tc .vmem S1x512 .f32) (h16 : a16.IsWhole)
    (a17 : Memref sig .tc .vmem S1x512 .f32) (h17 : a17.IsWhole)
    (a18 : Memref sig .tc .vmem S2x1024 .f32) (h18 : a18.IsWhole)
    (a19 : Memref sig .tc .vmem S1x1024 .f32) (h19 : a19.IsWhole)
    (a20 : Memref sig .tc .vmem S31x64 .f32) (h20 : a20.IsWhole)
    (a21 : Memref sig .tc .vmem S3x64 .f32) (h21 : a21.IsWhole)
    (a22 : Memref sig .tc .vmem S1x128 .f32) (h22 : a22.IsWhole)
    (a23 : Memref sig .tc .vmem S1x128 .f32) (h23 : a23.IsWhole)
    (a24 : Memref sig .tc .vmem S6x704 .f32) (h24 : a24.IsWhole)
    (a25 : Memref sig .tc .vmem S1x1024 .f32) (h25 : a25.IsWhole)
    (a26 : Memref sig .tc .vmem S1x512 .f32) (h26 : a26.IsWhole)
    (a27 : Memref sig .tc .vmem S1x512 .f32) (h27 : a27.IsWhole)
    (a28 : Memref sig .tc .vmem S2x1024 .f32) (h28 : a28.IsWhole)
    (a29 : Memref sig .tc .vmem S1x1024 .f32) (h29 : a29.IsWhole)
    (a30 : Memref sig .tc .vmem S31x64 .f32) (h30 : a30.IsWhole)
    (a31 : Memref sig .tc .vmem S3x64 .f32) (h31 : a31.IsWhole)
    (a32 : Memref sig .tc .vmem S1x128 .f32) (h32 : a32.IsWhole)
    (a33 : Memref sig .tc .vmem S1x128 .f32) (h33 : a33.IsWhole)
    (a34 : Memref sig .tc .vmem S6x704 .f32) (h34 : a34.IsWhole)
    (a35 : Memref sig .tc .vmem S1x1024 .f32) (h35 : a35.IsWhole)
    (a36 : Memref sig .tc .vmem S1x512 .f32) (h36 : a36.IsWhole)
    (a37 : Memref sig .tc .vmem S1x512 .f32) (h37 : a37.IsWhole)
    (a38 : Memref sig .tc .vmem S2x1024 .f32) (h38 : a38.IsWhole)
    (a39 : Memref sig .tc .vmem S1x1024 .f32) (h39 : a39.IsWhole)
    (a40 : Memref sig .tc .vmem S31x64 .f32) (h40 : a40.IsWhole)
    (a41 : Memref sig .tc .vmem S31x64 .f32) (h41 : a41.IsWhole)
    (a42 : Memref sig .tc .vmem S31x64 .f32) (h42 : a42.IsWhole)
    (a43 : Memref sig .tc .vmem S31x64 .f32) (h43 : a43.IsWhole)
    (a44 : Memref sig .tc .vmem S3x64 .f32) (h44 : a44.IsWhole)
    (a45 : Memref sig .tc .vmem S3x64 .f32) (h45 : a45.IsWhole)
    (a46 : Memref sig .tc .vmem S3x64 .f32) (h46 : a46.IsWhole)
    (a47 : Memref sig .tc .vmem S3x64 .f32) (h47 : a47.IsWhole)
    (a48 : Memref sig .tc .vmem S1x128 .f32) (h48 : a48.IsWhole)
    (a49 : Memref sig .tc .vmem S1x128 .f32) (h49 : a49.IsWhole)
    (a50 : Memref sig .tc .vmem S1x128 .f32) (h50 : a50.IsWhole)
    (a51 : Memref sig .tc .vmem S1x128 .f32) (h51 : a51.IsWhole)
    (a52 : Memref sig .tc .vmem S1x128 .f32) (h52 : a52.IsWhole)
    (a53 : Memref sig .tc .vmem S1x128 .f32) (h53 : a53.IsWhole)
    (a54 : Memref sig .tc .vmem S1x128 .f32) (h54 : a54.IsWhole)
    (a55 : Memref sig .tc .vmem S1x128 .f32) (h55 : a55.IsWhole)
    (a56 : Memref sig .tc .vmem S6x704 .f32) (h56 : a56.IsWhole)
    (a57 : Memref sig .tc .vmem S6x704 .f32) (h57 : a57.IsWhole)
    (a58 : Memref sig .tc .vmem S6x704 .f32) (h58 : a58.IsWhole)
    (a59 : Memref sig .tc .vmem S6x704 .f32) (h59 : a59.IsWhole)
    (a60 : Memref sig .tc .vmem S1x1024 .f32) (h60 : a60.IsWhole)
    (a61 : Memref sig .tc .vmem S1x1024 .f32) (h61 : a61.IsWhole)
    (a62 : Memref sig .tc .vmem S1x1024 .f32) (h62 : a62.IsWhole)
    (a63 : Memref sig .tc .vmem S1x1024 .f32) (h63 : a63.IsWhole)
    (a64 : Memref sig .tc .vmem S1x512 .f32) (h64 : a64.IsWhole)
    (a65 : Memref sig .tc .vmem S1x512 .f32) (h65 : a65.IsWhole)
    (a66 : Memref sig .tc .vmem S1x512 .f32) (h66 : a66.IsWhole)
    (a67 : Memref sig .tc .vmem S1x512 .f32) (h67 : a67.IsWhole)
    (a68 : Memref sig .tc .vmem S1x512 .f32) (h68 : a68.IsWhole)
    (a69 : Memref sig .tc .vmem S1x512 .f32) (h69 : a69.IsWhole)
    (a70 : Memref sig .tc .vmem S1x512 .f32) (h70 : a70.IsWhole)
    (a71 : Memref sig .tc .vmem S1x512 .f32) (h71 : a71.IsWhole)
    (a72 : Memref sig .tc .vmem S2x1024 .f32) (h72 : a72.IsWhole)
    (a73 : Memref sig .tc .vmem S2x1024 .f32) (h73 : a73.IsWhole)
    (a74 : Memref sig .tc .vmem S2x1024 .f32) (h74 : a74.IsWhole)
    (a75 : Memref sig .tc .vmem S2x1024 .f32) (h75 : a75.IsWhole)
    (a76 : Memref sig .tc .vmem S1x1024 .f32) (h76 : a76.IsWhole)
    (a77 : Memref sig .tc .vmem S1x1024 .f32) (h77 : a77.IsWhole)
    (a78 : Memref sig .tc .vmem S1x1024 .f32) (h78 : a78.IsWhole)
    (a79 : Memref sig .tc .vmem S1x1024 .f32) (h79 : a79.IsWhole)
    (x0 : Vec F S8x31x64 .f32) (x1 : Vec F S8x3x64 .f32) (x2 : Vec F S8x1x128 .f32) (x3 : Vec F S8x1x128 .f32) (x4 : Vec F S8x6x704 .f32)
    (x5 : Vec F S8x1x1024 .f32) (x6 : Vec F S8x1x512 .f32) (x7 : Vec F S8x1x512 .f32) (x8 : Vec F S8x2x1024 .f32) (x9 : Vec F S8x1x1024 .f32)
    (x10 : Vec F S31x64 .f32) (x11 : Vec F S3x64 .f32) (x12 : Vec F S1x128 .f32) (x13 : Vec F S1x128 .f32) (x14 : Vec F S6x704 .f32)
    (x15 : Vec F S1x1024 .f32) (x16 : Vec F S1x512 .f32) (x17 : Vec F S1x512 .f32) (x18 : Vec F S2x1024 .f32) (x19 : Vec F S1x1024 .f32)
    (x20 : Vec F S31x64 .f32) (x21 : Vec F S3x64 .f32) (x22 : Vec F S1x128 .f32) (x23 : Vec F S1x128 .f32) (x24 : Vec F S6x704 .f32)
    (x25 : Vec F S1x1024 .f32) (x26 : Vec F S1x512 .f32) (x27 : Vec F S1x512 .f32) (x28 : Vec F S2x1024 .f32) (x29 : Vec F S1x1024 .f32)
    (x30 : Vec F S31x64 .f32) (x31 : Vec F S3x64 .f32) (x32 : Vec F S1x128 .f32) (x33 : Vec F S1x128 .f32) (x34 : Vec F S6x704 .f32)
    (x35 : Vec F S1x1024 .f32) (x36 : Vec F S1x512 .f32) (x37 : Vec F S1x512 .f32) (x38 : Vec F S2x1024 .f32) (x39 : Vec F S1x1024 .f32)
    (K : PUnit → sProp 𝕄) :
    iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare x4
    ∗ owns (c : Thread nD τ) a5 fullShare x5
    ∗ owns (c : Thread nD τ) a6 fullShare x6
    ∗ owns (c : Thread nD τ) a7 fullShare x7
    ∗ owns (c : Thread nD τ) a8 fullShare x8
    ∗ owns (c : Thread nD τ) a9 fullShare x9
    ∗ owns (c : Thread nD τ) a10 fullShare x10
    ∗ owns (c : Thread nD τ) a11 fullShare x11
    ∗ owns (c : Thread nD τ) a12 fullShare x12
    ∗ owns (c : Thread nD τ) a13 fullShare x13
    ∗ owns (c : Thread nD τ) a14 fullShare x14
    ∗ owns (c : Thread nD τ) a15 fullShare x15
    ∗ owns (c : Thread nD τ) a16 fullShare x16
    ∗ owns (c : Thread nD τ) a17 fullShare x17
    ∗ owns (c : Thread nD τ) a18 fullShare x18
    ∗ owns (c : Thread nD τ) a19 fullShare x19
    ∗ owns (c : Thread nD τ) a20 fullShare x20
    ∗ owns (c : Thread nD τ) a21 fullShare x21
    ∗ owns (c : Thread nD τ) a22 fullShare x22
    ∗ owns (c : Thread nD τ) a23 fullShare x23
    ∗ owns (c : Thread nD τ) a24 fullShare x24
    ∗ owns (c : Thread nD τ) a25 fullShare x25
    ∗ owns (c : Thread nD τ) a26 fullShare x26
    ∗ owns (c : Thread nD τ) a27 fullShare x27
    ∗ owns (c : Thread nD τ) a28 fullShare x28
    ∗ owns (c : Thread nD τ) a29 fullShare x29
    ∗ owns (c : Thread nD τ) a30 fullShare x30
    ∗ owns (c : Thread nD τ) a31 fullShare x31
    ∗ owns (c : Thread nD τ) a32 fullShare x32
    ∗ owns (c : Thread nD τ) a33 fullShare x33
    ∗ owns (c : Thread nD τ) a34 fullShare x34
    ∗ owns (c : Thread nD τ) a35 fullShare x35
    ∗ owns (c : Thread nD τ) a36 fullShare x36
    ∗ owns (c : Thread nD τ) a37 fullShare x37
    ∗ owns (c : Thread nD τ) a38 fullShare x38
    ∗ owns (c : Thread nD τ) a39 fullShare x39
    ∗ (∃ d, owns (c : Thread nD τ) a40 fullShare d)
    ∗ (∃ d, owns (c : Thread nD τ) a41 fullShare d)
    ∗ (∃ d, owns (c : Thread nD τ) a42 fullShare d)
    ∗ (∃ d, owns (c : Thread nD τ) a43 fullShare d)
    ∗ (∃ d, owns (c : Thread nD τ) a44 fullShare d)
    ∗ (∃ d, owns (c : Thread nD τ) a45 fullShare d)
    ∗ (∃ d, owns (c : Thread nD τ) a46 fullShare d)
    ∗ (∃ d, owns (c : Thread nD τ) a47 fullShare d)
    ∗ (∃ d, owns (c : Thread nD τ) a48 fullShare d)
    ∗ (∃ d, owns (c : Thread nD τ) a49 fullShare d)
    ∗ (∃ d, owns (c : Thread nD τ) a50 fullShare d)
    ∗ (∃ d, owns (c : Thread nD τ) a51 fullShare d)
    ∗ (∃ d, owns (c : Thread nD τ) a52 fullShare d)
    ∗ (∃ d, owns (c : Thread nD τ) a53 fullShare d)
    ∗ (∃ d, owns (c : Thread nD τ) a54 fullShare d)
    ∗ (∃ d, owns (c : Thread nD τ) a55 fullShare d)
    ∗ (∃ d, owns (c : Thread nD τ) a56 fullShare d)
    ∗ (∃ d, owns (c : Thread nD τ) a57 fullShare d)
    ∗ (∃ d, owns (c : Thread nD τ) a58 fullShare d)
    ∗ (∃ d, owns (c : Thread nD τ) a59 fullShare d)
    ∗ (∃ d, owns (c : Thread nD τ) a60 fullShare d)
    ∗ (∃ d, owns (c : Thread nD τ) a61 fullShare d)
    ∗ (∃ d, owns (c : Thread nD τ) a62 fullShare d)
    ∗ (∃ d, owns (c : Thread nD τ) a63 fullShare d)
    ∗ (∃ d, owns (c : Thread nD τ) a64 fullShare d)
    ∗ (∃ d, owns (c : Thread nD τ) a65 fullShare d)
    ∗ (∃ d, owns (c : Thread nD τ) a66 fullShare d)
    ∗ (∃ d, owns (c : Thread nD τ) a67 fullShare d)
    ∗ (∃ d, owns (c : Thread nD τ) a68 fullShare d)
    ∗ (∃ d, owns (c : Thread nD τ) a69 fullShare d)
    ∗ (∃ d, owns (c : Thread nD τ) a70 fullShare d)
    ∗ (∃ d, owns (c : Thread nD τ) a71 fullShare d)
    ∗ (∃ d, owns (c : Thread nD τ) a72 fullShare d)
    ∗ (∃ d, owns (c : Thread nD τ) a73 fullShare d)
    ∗ (∃ d, owns (c : Thread nD τ) a74 fullShare d)
    ∗ (∃ d, owns (c : Thread nD τ) a75 fullShare d)
    ∗ (∃ d, owns (c : Thread nD τ) a76 fullShare d)
    ∗ (∃ d, owns (c : Thread nD τ) a77 fullShare d)
    ∗ (∃ d, owns (c : Thread nD τ) a78 fullShare d)
    ∗ (∃ d, owns (c : Thread nD τ) a79 fullShare d)
    ∗ (iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare x4
    ∗ owns (c : Thread nD τ) a5 fullShare x5
    ∗ owns (c : Thread nD τ) a6 fullShare x6
    ∗ owns (c : Thread nD τ) a7 fullShare x7
    ∗ owns (c : Thread nD τ) a8 fullShare x8
    ∗ owns (c : Thread nD τ) a9 fullShare x9
    ∗ owns (c : Thread nD τ) a10 fullShare x10
    ∗ owns (c : Thread nD τ) a11 fullShare x11
    ∗ owns (c : Thread nD τ) a12 fullShare x12
    ∗ owns (c : Thread nD τ) a13 fullShare x13
    ∗ owns (c : Thread nD τ) a14 fullShare x14
    ∗ owns (c : Thread nD τ) a15 fullShare x15
    ∗ owns (c : Thread nD τ) a16 fullShare x16
    ∗ owns (c : Thread nD τ) a17 fullShare x17
    ∗ owns (c : Thread nD τ) a18 fullShare x18
    ∗ owns (c : Thread nD τ) a19 fullShare x19
    ∗ owns (c : Thread nD τ) a20 fullShare x20
    ∗ owns (c : Thread nD τ) a21 fullShare x21
    ∗ owns (c : Thread nD τ) a22 fullShare x22
    ∗ owns (c : Thread nD τ) a23 fullShare x23
    ∗ owns (c : Thread nD τ) a24 fullShare x24
    ∗ owns (c : Thread nD τ) a25 fullShare x25
    ∗ owns (c : Thread nD τ) a26 fullShare x26
    ∗ owns (c : Thread nD τ) a27 fullShare x27
    ∗ owns (c : Thread nD τ) a28 fullShare x28
    ∗ owns (c : Thread nD τ) a29 fullShare x29
    ∗ owns (c : Thread nD τ) a30 fullShare x30
    ∗ owns (c : Thread nD τ) a31 fullShare x31
    ∗ owns (c : Thread nD τ) a32 fullShare x32
    ∗ owns (c : Thread nD τ) a33 fullShare x33
    ∗ owns (c : Thread nD τ) a34 fullShare x34
    ∗ owns (c : Thread nD τ) a35 fullShare x35
    ∗ owns (c : Thread nD τ) a36 fullShare x36
    ∗ owns (c : Thread nD τ) a37 fullShare x37
    ∗ owns (c : Thread nD τ) a38 fullShare x38
    ∗ owns (c : Thread nD τ) a39 fullShare x39
    ∗ owns (c : Thread nD τ) a40 fullShare (grad0 x0)
    ∗ owns (c : Thread nD τ) a41 fullShare (step0 x0 x10 x20 x30)
    ∗ owns (c : Thread nD τ) a42 fullShare (first0 x0 x20)
    ∗ owns (c : Thread nD τ) a43 fullShare (second0 x0 x30)
    ∗ owns (c : Thread nD τ) a44 fullShare (grad1 x1)
    ∗ owns (c : Thread nD τ) a45 fullShare (step1 x1 x11 x21 x31)
    ∗ owns (c : Thread nD τ) a46 fullShare (first1 x1 x21)
    ∗ owns (c : Thread nD τ) a47 fullShare (second1 x1 x31)
    ∗ owns (c : Thread nD τ) a48 fullShare (grad2 x2)
    ∗ owns (c : Thread nD τ) a49 fullShare (step2 x2 x12 x22 x32)
    ∗ owns (c : Thread nD τ) a50 fullShare (first2 x2 x22)
    ∗ owns (c : Thread nD τ) a51 fullShare (second2 x2 x32)
    ∗ owns (c : Thread nD τ) a52 fullShare (grad3 x3)
    ∗ owns (c : Thread nD τ) a53 fullShare (step3 x3 x13 x23 x33)
    ∗ owns (c : Thread nD τ) a54 fullShare (first3 x3 x23)
    ∗ owns (c : Thread nD τ) a55 fullShare (second3 x3 x33)
    ∗ owns (c : Thread nD τ) a56 fullShare (grad4 x4)
    ∗ owns (c : Thread nD τ) a57 fullShare (step4 x4 x14 x24 x34)
    ∗ owns (c : Thread nD τ) a58 fullShare (first4 x4 x24)
    ∗ owns (c : Thread nD τ) a59 fullShare (second4 x4 x34)
    ∗ owns (c : Thread nD τ) a60 fullShare (grad5 x5)
    ∗ owns (c : Thread nD τ) a61 fullShare (step5 x5 x15 x25 x35)
    ∗ owns (c : Thread nD τ) a62 fullShare (first5 x5 x25)
    ∗ owns (c : Thread nD τ) a63 fullShare (second5 x5 x35)
    ∗ owns (c : Thread nD τ) a64 fullShare (grad6 x6)
    ∗ owns (c : Thread nD τ) a65 fullShare (step6 x6 x16 x26 x36)
    ∗ owns (c : Thread nD τ) a66 fullShare (first6 x6 x26)
    ∗ owns (c : Thread nD τ) a67 fullShare (second6 x6 x36)
    ∗ owns (c : Thread nD τ) a68 fullShare (grad7 x7)
    ∗ owns (c : Thread nD τ) a69 fullShare (step7 x7 x17 x27 x37)
    ∗ owns (c : Thread nD τ) a70 fullShare (first7 x7 x27)
    ∗ owns (c : Thread nD τ) a71 fullShare (second7 x7 x37)
    ∗ owns (c : Thread nD τ) a72 fullShare (grad8 x8)
    ∗ owns (c : Thread nD τ) a73 fullShare (step8 x8 x18 x28 x38)
    ∗ owns (c : Thread nD τ) a74 fullShare (first8 x8 x28)
    ∗ owns (c : Thread nD τ) a75 fullShare (second8 x8 x38)
    ∗ owns (c : Thread nD τ) a76 fullShare (grad9 x9)
    ∗ owns (c : Thread nD τ) a77 fullShare (step9 x9 x19 x29 x39)
    ∗ owns (c : Thread nD τ) a78 fullShare (first9 x9 x29)
    ∗ owns (c : Thread nD τ) a79 fullShare (second9 x9 x39)) -∗ K ⟨⟩))
    ⊢ wp frame (wpE (defs₀ (F := F)) Variants.none c none) E (cc0_adamw_small a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, ⟨%f34, %e34, H34⟩, ⟨%f35, %e35, H35⟩, ⟨%f36, %e36, H36⟩, ⟨%f37, %e37, H37⟩, ⟨%f38, %e38, H38⟩, ⟨%f39, %e39, H39⟩,
    ⟨%d40, %f40, %e40, H40⟩, ⟨%d41, %f41, %e41, H41⟩, ⟨%d42, %f42, %e42, H42⟩, ⟨%d43, %f43, %e43, H43⟩, ⟨%d44, %f44, %e44, H44⟩, ⟨%d45, %f45, %e45, H45⟩, ⟨%d46, %f46, %e46, H46⟩, ⟨%d47, %f47, %e47, H47⟩, ⟨%d48, %f48, %e48, H48⟩, ⟨%d49, %f49, %e49, H49⟩, ⟨%d50, %f50, %e50, H50⟩, ⟨%d51, %f51, %e51, H51⟩, ⟨%d52, %f52, %e52, H52⟩, ⟨%d53, %f53, %e53, H53⟩, ⟨%d54, %f54, %e54, H54⟩, ⟨%d55, %f55, %e55, H55⟩, ⟨%d56, %f56, %e56, H56⟩, ⟨%d57, %f57, %e57, H57⟩, ⟨%d58, %f58, %e58, H58⟩, ⟨%d59, %f59, %e59, H59⟩, ⟨%d60, %f60, %e60, H60⟩, ⟨%d61, %f61, %e61, H61⟩, ⟨%d62, %f62, %e62, H62⟩, ⟨%d63, %f63, %e63, H63⟩, ⟨%d64, %f64, %e64, H64⟩, ⟨%d65, %f65, %e65, H65⟩, ⟨%d66, %f66, %e66, H66⟩, ⟨%d67, %f67, %e67, H67⟩, ⟨%d68, %f68, %e68, H68⟩, ⟨%d69, %f69, %e69, H69⟩, ⟨%d70, %f70, %e70, H70⟩, ⟨%d71, %f71, %e71, H71⟩, ⟨%d72, %f72, %e72, H72⟩, ⟨%d73, %f73, %e73, H73⟩, ⟨%d74, %f74, %e74, H74⟩, ⟨%d75, %f75, %e75, H75⟩, ⟨%d76, %f76, %e76, H76⟩, ⟨%d77, %f77, %e77, H77⟩, ⟨%d78, %f78, %e78, H78⟩, ⟨%d79, %f79, %e79, H79⟩, Hk⟩
  subst e0 e1 e2 e3 e4 e5 e6 e7 e8 e9 e10 e11 e12 e13 e14 e15 e16 e17 e18 e19 e20 e21 e22 e23 e24 e25 e26 e27 e28 e29 e30 e31 e32 e33 e34 e35 e36 e37 e38 e39
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists _; isplitr; swap; · iexact H40
    ipureintro; exact View.read_writes_eq_canon _ _ _ (cover31x64 _)
  isplitl [H41]
  · iexists _; isplitr; swap; · iexact H41
    ipureintro; exact View.read_writes_eq_canon _ _ _ (cover31x64 _)
  isplitl [H42]
  · iexists _; isplitr; swap; · iexact H42
    ipureintro; exact View.read_writes_eq_canon _ _ _ (cover31x64 _)
  isplitl [H43]
  · iexists _; isplitr; swap; · iexact H43
    ipureintro; exact View.read_writes_eq_canon _ _ _ (cover31x64 _)
  isplitl [H44]
  · iexists _; isplitr; swap; · iexact H44
    ipureintro; exact View.read_writes_eq_canon _ _ _ (cover3x64 _)
  isplitl [H45]
  · iexists _; isplitr; swap; · iexact H45
    ipureintro; exact View.read_writes_eq_canon _ _ _ (cover3x64 _)
  isplitl [H46]
  · iexists _; isplitr; swap; · iexact H46
    ipureintro; exact View.read_writes_eq_canon _ _ _ (cover3x64 _)
  isplitl [H47]
  · iexists _; isplitr; swap; · iexact H47
    ipureintro; exact View.read_writes_eq_canon _ _ _ (cover3x64 _)
  isplitl [H48]
  · iexists _; isplitr; swap; · iexact H48
    ipureintro; exact View.read_writes_eq_canon _ _ _ (cover1x128 _)
  isplitl [H49]
  · iexists _; isplitr; swap; · iexact H49
    ipureintro; exact View.read_writes_eq_canon _ _ _ (cover1x128 _)
  isplitl [H50]
  · iexists _; isplitr; swap; · iexact H50
    ipureintro; exact View.read_writes_eq_canon _ _ _ (cover1x128 _)
  isplitl [H51]
  · iexists _; isplitr; swap; · iexact H51
    ipureintro; exact View.read_writes_eq_canon _ _ _ (cover1x128 _)
  isplitl [H52]
  · iexists _; isplitr; swap; · iexact H52
    ipureintro; exact View.read_writes_eq_canon _ _ _ (cover1x128 _)
  isplitl [H53]
  · iexists _; isplitr; swap; · iexact H53
    ipureintro; exact View.read_writes_eq_canon _ _ _ (cover1x128 _)
  isplitl [H54]
  · iexists _; isplitr; swap; · iexact H54
    ipureintro; exact View.read_writes_eq_canon _ _ _ (cover1x128 _)
  isplitl [H55]
  · iexists _; isplitr; swap; · iexact H55
    ipureintro; exact View.read_writes_eq_canon _ _ _ (cover1x128 _)
  isplitl [H56]
  · iexists _; isplitr; swap; · iexact H56
    ipureintro; exact View.read_writes_eq_canon _ _ _ (cover6x704 _)
  isplitl [H57]
  · iexists _; isplitr; swap; · iexact H57
    ipureintro; exact View.read_writes_eq_canon _ _ _ (cover6x704 _)
  isplitl [H58]
  · iexists _; isplitr; swap; · iexact H58
    ipureintro; exact View.read_writes_eq_canon _ _ _ (cover6x704 _)
  isplitl [H59]
  · iexists _; isplitr; swap; · iexact H59
    ipureintro; exact View.read_writes_eq_canon _ _ _ (cover6x704 _)
  isplitl [H60]
  · iexists _; isplitr; swap; · iexact H60
    ipureintro; exact View.read_writes_eq_canon _ _ _ (cover1x1024 _)
  isplitl [H61]
  · iexists _; isplitr; swap; · iexact H61
    ipureintro; exact View.read_writes_eq_canon _ _ _ (cover1x1024 _)
  isplitl [H62]
  · iexists _; isplitr; swap; · iexact H62
    ipureintro; exact View.read_writes_eq_canon _ _ _ (cover1x1024 _)
  isplitl [H63]
  · iexists _; isplitr; swap; · iexact H63
    ipureintro; exact View.read_writes_eq_canon _ _ _ (cover1x1024 _)
  isplitl [H64]
  · iexists _; isplitr; swap; · iexact H64
    ipureintro; exact View.read_writes_eq_canon _ _ _ (cover1x512 _)
  isplitl [H65]
  · iexists _; isplitr; swap; · iexact H65
    ipureintro; exact View.read_writes_eq_canon _ _ _ (cover1x512 _)
  isplitl [H66]
  · iexists _; isplitr; swap; · iexact H66
    ipureintro; exact View.read_writes_eq_canon _ _ _ (cover1x512 _)
  isplitl [H67]
  · iexists _; isplitr; swap; · iexact H67
    ipureintro; exact View.read_writes_eq_canon _ _ _ (cover1x512 _)
  isplitl [H68]
  · iexists _; isplitr; swap; · iexact H68
    ipureintro; exact View.read_writes_eq_canon _ _ _ (cover1x512 _)
  isplitl [H69]
  · iexists _; isplitr; swap; · iexact H69
    ipureintro; exact View.read_writes_eq_canon _ _ _ (cover1x512 _)
  isplitl [H70]
  · iexists _; isplitr; swap; · iexact H70
    ipureintro; exact View.read_writes_eq_canon _ _ _ (cover1x512 _)
  isplitl [H71]
  · iexists _; isplitr; swap; · iexact H71
    ipureintro; exact View.read_writes_eq_canon _ _ _ (cover1x512 _)
  isplitl [H72]
  · iexists _; isplitr; swap; · iexact H72
    ipureintro; exact View.read_writes_eq_canon _ _ _ (cover2x1024 _)
  isplitl [H73]
  · iexists _; isplitr; swap; · iexact H73
    ipureintro; exact View.read_writes_eq_canon _ _ _ (cover2x1024 _)
  isplitl [H74]
  · iexists _; isplitr; swap; · iexact H74
    ipureintro; exact View.read_writes_eq_canon _ _ _ (cover2x1024 _)
  isplitl [H75]
  · iexists _; isplitr; swap; · iexact H75
    ipureintro; exact View.read_writes_eq_canon _ _ _ (cover2x1024 _)
  isplitl [H76]
  · iexists _; isplitr; swap; · iexact H76
    ipureintro; exact View.read_writes_eq_canon _ _ _ (cover1x1024 _)
  isplitl [H77]
  · iexists _; isplitr; swap; · iexact H77
    ipureintro; exact View.read_writes_eq_canon _ _ _ (cover1x1024 _)
  isplitl [H78]
  · iexists _; isplitr; swap; · iexact H78
    ipureintro; exact View.read_writes_eq_canon _ _ _ (cover1x1024 _)
  iexists _; isplitr; swap; · iexact H79
  ipureintro; exact View.read_writes_eq_canon _ _ _ (cover1x1024 _)

end Cert.Kernel18Ideal.Small

end
-- ==== Proof.SmallFrame.lean ====
/- The run of the small weights' update: its pipeline, its frame, and the contents of every output array. -/
module

public import proofs.«01_k».proof.Proof.SmallBody

@[expose] public section

set_option maxRecDepth 16384
set_option maxHeartbeats 40000000
noncomputable section

namespace Cert.Kernel18Ideal.Small

open Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the one call is entered: as launched. -/
abbrev V (c : Dev nD) (b : Ref sig .tc) : Buf (Elt F) ((c : Thread nD τ).loc b) := m ((c : Thread nD τ).loc b)

/-- The program is the one call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of window `w` at point `t`, read off its array as launched. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pipeline's data: each input buffer keeps its block, each output buffer ends with the contents the body computes from the blocks. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => blk m c 16 t
    | ⟨17, _⟩ => blk m c 17 t
    | ⟨18, _⟩ => blk m c 18 t
    | ⟨19, _⟩ => blk m c 19 t
    | ⟨20, _⟩ => blk m c 20 t
    | ⟨21, _⟩ => blk m c 21 t
    | ⟨22, _⟩ => blk m c 22 t
    | ⟨23, _⟩ => blk m c 23 t
    | ⟨24, _⟩ => blk m c 24 t
    | ⟨25, _⟩ => blk m c 25 t
    | ⟨26, _⟩ => blk m c 26 t
    | ⟨27, _⟩ => blk m c 27 t
    | ⟨28, _⟩ => blk m c 28 t
    | ⟨29, _⟩ => blk m c 29 t
    | ⟨30, _⟩ => blk m c 30 t
    | ⟨31, _⟩ => blk m c 31 t
    | ⟨32, _⟩ => blk m c 32 t
    | ⟨33, _⟩ => blk m c 33 t
    | ⟨34, _⟩ => blk m c 34 t
    | ⟨35, _⟩ => blk m c 35 t
    | ⟨36, _⟩ => blk m c 36 t
    | ⟨37, _⟩ => blk m c 37 t
    | ⟨38, _⟩ => blk m c 38 t
    | ⟨39, _⟩ => blk m c 39 t
    | ⟨40, _⟩ => grad0 (blk m c 0 t)
    | ⟨41, _⟩ => step0 (blk m c 0 t) (blk m c 10 t) (blk m c 20 t) (blk m c 30 t)
    | ⟨42, _⟩ => first0 (blk m c 0 t) (blk m c 20 t)
    | ⟨43, _⟩ => second0 (blk m c 0 t) (blk m c 30 t)
    | ⟨44, _⟩ => grad1 (blk m c 1 t)
    | ⟨45, _⟩ => step1 (blk m c 1 t) (blk m c 11 t) (blk m c 21 t) (blk m c 31 t)
    | ⟨46, _⟩ => first1 (blk m c 1 t) (blk m c 21 t)
    | ⟨47, _⟩ => second1 (blk m c 1 t) (blk m c 31 t)
    | ⟨48, _⟩ => grad2 (blk m c 2 t)
    | ⟨49, _⟩ => step2 (blk m c 2 t) (blk m c 12 t) (blk m c 22 t) (blk m c 32 t)
    | ⟨50, _⟩ => first2 (blk m c 2 t) (blk m c 22 t)
    | ⟨51, _⟩ => second2 (blk m c 2 t) (blk m c 32 t)
    | ⟨52, _⟩ => grad3 (blk m c 3 t)
    | ⟨53, _⟩ => step3 (blk m c 3 t) (blk m c 13 t) (blk m c 23 t) (blk m c 33 t)
    | ⟨54, _⟩ => first3 (blk m c 3 t) (blk m c 23 t)
    | ⟨55, _⟩ => second3 (blk m c 3 t) (blk m c 33 t)
    | ⟨56, _⟩ => grad4 (blk m c 4 t)
    | ⟨57, _⟩ => step4 (blk m c 4 t) (blk m c 14 t) (blk m c 24 t) (blk m c 34 t)
    | ⟨58, _⟩ => first4 (blk m c 4 t) (blk m c 24 t)
    | ⟨59, _⟩ => second4 (blk m c 4 t) (blk m c 34 t)
    | ⟨60, _⟩ => grad5 (blk m c 5 t)
    | ⟨61, _⟩ => step5 (blk m c 5 t) (blk m c 15 t) (blk m c 25 t) (blk m c 35 t)
    | ⟨62, _⟩ => first5 (blk m c 5 t) (blk m c 25 t)
    | ⟨63, _⟩ => second5 (blk m c 5 t) (blk m c 35 t)
    | ⟨64, _⟩ => grad6 (blk m c 6 t)
    | ⟨65, _⟩ => step6 (blk m c 6 t) (blk m c 16 t) (blk m c 26 t) (blk m c 36 t)
    | ⟨66, _⟩ => first6 (blk m c 6 t) (blk m c 26 t)
    | ⟨67, _⟩ => second6 (blk m c 6 t) (blk m c 36 t)
    | ⟨68, _⟩ => grad7 (blk m c 7 t)
    | ⟨69, _⟩ => step7 (blk m c 7 t) (blk m c 17 t) (blk m c 27 t) (blk m c 37 t)
    | ⟨70, _⟩ => first7 (blk m c 7 t) (blk m c 27 t)
    | ⟨71, _⟩ => second7 (blk m c 7 t) (blk m c 37 t)
    | ⟨72, _⟩ => grad8 (blk m c 8 t)
    | ⟨73, _⟩ => step8 (blk m c 8 t) (blk m c 18 t) (blk m c 28 t) (blk m c 38 t)
    | ⟨74, _⟩ => first8 (blk m c 8 t) (blk m c 28 t)
    | ⟨75, _⟩ => second8 (blk m c 8 t) (blk m c 38 t)
    | ⟨76, _⟩ => grad9 (blk m c 9 t)
    | ⟨77, _⟩ => step9 (blk m c 9 t) (blk m c 19 t) (blk m c 29 t) (blk m c 39 t)
    | ⟨78, _⟩ => first9 (blk m c 9 t) (blk m c 29 t)
    | ⟨79, _⟩ => second9 (blk m c 9 t) (blk m c 39 t)
    | ⟨_ + 80, h⟩ => absurd h (Nat.not_lt.2 (Nat.le_add_left _ _))
  Φ _ := Pipeline.ΦA spec0 c
  q _ := fullShare
  owed _ := 0

/-- The data's arrays are the launched ones. -/
theorem A_eq (c : Dev nD) (w : Fin cfg0.W) : (dats m 0 c).A w = V m c (Pipeline.arrRef spec0 w) := by dsimp only [dats]

/-! What each window's buffer holds after the body. -/

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = blk m c 6 t := by dsimp only [dats]
theorem after_7 (c : Dev nD) (t : Fin cfg0.N) : (dats m 0 c).after 7 t = blk m c 7 t := by dsimp only [dats]
theorem after_8 (c : Dev nD) (t : Fin cfg0.N) : (dats m 0 c).after 8 t = blk m c 8 t := by dsimp only [dats]
theorem after_9 (c : Dev nD) (t : Fin cfg0.N) : (dats m 0 c).after 9 t = blk m c 9 t := by dsimp only [dats]
theorem after_10 (c : Dev nD) (t : Fin cfg0.N) : (dats m 0 c).after 10 t = blk m c 10 t := by dsimp only [dats]
theorem after_11 (c : Dev nD) (t : Fin cfg0.N) : (dats m 0 c).after 11 t = blk m c 11 t := by dsimp only [dats]
theorem after_12 (c : Dev nD) (t : Fin cfg0.N) : (dats m 0 c).after 12 t = blk m c 12 t := by dsimp only [dats]
theorem after_13 (c : Dev nD) (t : Fin cfg0.N) : (dats m 0 c).after 13 t = blk m c 13 t := by dsimp only [dats]
theorem after_14 (c : Dev nD) (t : Fin cfg0.N) : (dats m 0 c).after 14 t = blk m c 14 t := by dsimp only [dats]
theorem after_15 (c : Dev nD) (t : Fin cfg0.N) : (dats m 0 c).after 15 t = blk m c 15 t := by dsimp only [dats]
theorem after_16 (c : Dev nD) (t : Fin cfg0.N) : (dats m 0 c).after 16 t = blk m c 16 t := by dsimp only [dats]
theorem after_17 (c : Dev nD) (t : Fin cfg0.N) : (dats m 0 c).after 17 t = blk m c 17 t := by dsimp only [dats]
theorem after_18 (c : Dev nD) (t : Fin cfg0.N) : (dats m 0 c).after 18 t = blk m c 18 t := by dsimp only [dats]
theorem after_19 (c : Dev nD) (t : Fin cfg0.N) : (dats m 0 c).after 19 t = blk m c 19 t := by dsimp only [dats]
theorem after_20 (c : Dev nD) (t : Fin cfg0.N) : (dats m 0 c).after 20 t = blk m c 20 t := by dsimp only [dats]
theorem after_21 (c : Dev nD) (t : Fin cfg0.N) : (dats m 0 c).after 21 t = blk m c 21 t := by dsimp only [dats]
theorem after_22 (c : Dev nD) (t : Fin cfg0.N) : (dats m 0 c).after 22 t = blk m c 22 t := by dsimp only [dats]
theorem after_23 (c : Dev nD) (t : Fin cfg0.N) : (dats m 0 c).after 23 t = blk m c 23 t := by dsimp only [dats]
theorem after_24 (c : Dev nD) (t : Fin cfg0.N) : (dats m 0 c).after 24 t = blk m c 24 t := by dsimp only [dats]
theorem after_25 (c : Dev nD) (t : Fin cfg0.N) : (dats m 0 c).after 25 t = blk m c 25 t := by dsimp only [dats]
theorem after_26 (c : Dev nD) (t : Fin cfg0.N) : (dats m 0 c).after 26 t = blk m c 26 t := by dsimp only [dats]
theorem after_27 (c : Dev nD) (t : Fin cfg0.N) : (dats m 0 c).after 27 t = blk m c 27 t := by dsimp only [dats]
theorem after_28 (c : Dev nD) (t : Fin cfg0.N) : (dats m 0 c).after 28 t = blk m c 28 t := by dsimp only [dats]
theorem after_29 (c : Dev nD) (t : Fin cfg0.N) : (dats m 0 c).after 29 t = blk m c 29 t := by dsimp only [dats]
theorem after_30 (c : Dev nD) (t : Fin cfg0.N) : (dats m 0 c).after 30 t = blk m c 30 t := by dsimp only [dats]
theorem after_31 (c : Dev nD) (t : Fin cfg0.N) : (dats m 0 c).after 31 t = blk m c 31 t := by dsimp only [dats]
theorem after_32 (c : Dev nD) (t : Fin cfg0.N) : (dats m 0 c).after 32 t = blk m c 32 t := by dsimp only [dats]
theorem after_33 (c : Dev nD) (t : Fin cfg0.N) : (dats m 0 c).after 33 t = blk m c 33 t := by dsimp only [dats]
theorem after_34 (c : Dev nD) (t : Fin cfg0.N) : (dats m 0 c).after 34 t = blk m c 34 t := by dsimp only [dats]
theorem after_35 (c : Dev nD) (t : Fin cfg0.N) : (dats m 0 c).after 35 t = blk m c 35 t := by dsimp only [dats]
theorem after_36 (c : Dev nD) (t : Fin cfg0.N) : (dats m 0 c).after 36 t = blk m c 36 t := by dsimp only [dats]
theorem after_37 (c : Dev nD) (t : Fin cfg0.N) : (dats m 0 c).after 37 t = blk m c 37 t := by dsimp only [dats]
theorem after_38 (c : Dev nD) (t : Fin cfg0.N) : (dats m 0 c).after 38 t = blk m c 38 t := by dsimp only [dats]
theorem after_39 (c : Dev nD) (t : Fin cfg0.N) : (dats m 0 c).after 39 t = blk m c 39 t := by dsimp only [dats]
theorem after_40 (c : Dev nD) (t : Fin cfg0.N) : (dats m 0 c).after 40 t = grad0 (blk m c 0 t) := by dsimp only [dats]
theorem after_41 (c : Dev nD) (t : Fin cfg0.N) : (dats m 0 c).after 41 t = step0 (blk m c 0 t) (blk m c 10 t) (blk m c 20 t) (blk m c 30 t) := by dsimp only [dats]
theorem after_42 (c : Dev nD) (t : Fin cfg0.N) : (dats m 0 c).after 42 t = first0 (blk m c 0 t) (blk m c 20 t) := by dsimp only [dats]
theorem after_43 (c : Dev nD) (t : Fin cfg0.N) : (dats m 0 c).after 43 t = second0 (blk m c 0 t) (blk m c 30 t) := by dsimp only [dats]
theorem after_44 (c : Dev nD) (t : Fin cfg0.N) : (dats m 0 c).after 44 t = grad1 (blk m c 1 t) := by dsimp only [dats]
theorem after_45 (c : Dev nD) (t : Fin cfg0.N) : (dats m 0 c).after 45 t = step1 (blk m c 1 t) (blk m c 11 t) (blk m c 21 t) (blk m c 31 t) := by dsimp only [dats]
theorem after_46 (c : Dev nD) (t : Fin cfg0.N) : (dats m 0 c).after 46 t = first1 (blk m c 1 t) (blk m c 21 t) := by dsimp only [dats]
theorem after_47 (c : Dev nD) (t : Fin cfg0.N) : (dats m 0 c).after 47 t = second1 (blk m c 1 t) (blk m c 31 t) := by dsimp only [dats]
theorem after_48 (c : Dev nD) (t : Fin cfg0.N) : (dats m 0 c).after 48 t = grad2 (blk m c 2 t) := by dsimp only [dats]
theorem after_49 (c : Dev nD) (t : Fin cfg0.N) : (dats m 0 c).after 49 t = step2 (blk m c 2 t) (blk m c 12 t) (blk m c 22 t) (blk m c 32 t) := by dsimp only [dats]
theorem after_50 (c : Dev nD) (t : Fin cfg0.N) : (dats m 0 c).after 50 t = first2 (blk m c 2 t) (blk m c 22 t) := by dsimp only [dats]
theorem after_51 (c : Dev nD) (t : Fin cfg0.N) : (dats m 0 c).after 51 t = second2 (blk m c 2 t) (blk m c 32 t) := by dsimp only [dats]
theorem after_52 (c : Dev nD) (t : Fin cfg0.N) : (dats m 0 c).after 52 t = grad3 (blk m c 3 t) := by dsimp only [dats]
theorem after_53 (c : Dev nD) (t : Fin cfg0.N) : (dats m 0 c).after 53 t = step3 (blk m c 3 t) (blk m c 13 t) (blk m c 23 t) (blk m c 33 t) := by dsimp only [dats]
theorem after_54 (c : Dev nD) (t : Fin cfg0.N) : (dats m 0 c).after 54 t = first3 (blk m c 3 t) (blk m c 23 t) := by dsimp only [dats]
theorem after_55 (c : Dev nD) (t : Fin cfg0.N) : (dats m 0 c).after 55 t = second3 (blk m c 3 t) (blk m c 33 t) := by dsimp only [dats]
theorem after_56 (c : Dev nD) (t : Fin cfg0.N) : (dats m 0 c).after 56 t = grad4 (blk m c 4 t) := by dsimp only [dats]
theorem after_57 (c : Dev nD) (t : Fin cfg0.N) : (dats m 0 c).after 57 t = step4 (blk m c 4 t) (blk m c 14 t) (blk m c 24 t) (blk m c 34 t) := by dsimp only [dats]
theorem after_58 (c : Dev nD) (t : Fin cfg0.N) : (dats m 0 c).after 58 t = first4 (blk m c 4 t) (blk m c 24 t) := by dsimp only [dats]
theorem after_59 (c : Dev nD) (t : Fin cfg0.N) : (dats m 0 c).after 59 t = second4 (blk m c 4 t) (blk m c 34 t) := by dsimp only [dats]
theorem after_60 (c : Dev nD) (t : Fin cfg0.N) : (dats m 0 c).after 60 t = grad5 (blk m c 5 t) := by dsimp only [dats]
theorem after_61 (c : Dev nD) (t : Fin cfg0.N) : (dats m 0 c).after 61 t = step5 (blk m c 5 t) (blk m c 15 t) (blk m c 25 t) (blk m c 35 t) := by dsimp only [dats]
theorem after_62 (c : Dev nD) (t : Fin cfg0.N) : (dats m 0 c).after 62 t = first5 (blk m c 5 t) (blk m c 25 t) := by dsimp only [dats]
theorem after_63 (c : Dev nD) (t : Fin cfg0.N) : (dats m 0 c).after 63 t = second5 (blk m c 5 t) (blk m c 35 t) := by dsimp only [dats]
theorem after_64 (c : Dev nD) (t : Fin cfg0.N) : (dats m 0 c).after 64 t = grad6 (blk m c 6 t) := by dsimp only [dats]
theorem after_65 (c : Dev nD) (t : Fin cfg0.N) : (dats m 0 c).after 65 t = step6 (blk m c 6 t) (blk m c 16 t) (blk m c 26 t) (blk m c 36 t) := by dsimp only [dats]
theorem after_66 (c : Dev nD) (t : Fin cfg0.N) : (dats m 0 c).after 66 t = first6 (blk m c 6 t) (blk m c 26 t) := by dsimp only [dats]
theorem after_67 (c : Dev nD) (t : Fin cfg0.N) : (dats m 0 c).after 67 t = second6 (blk m c 6 t) (blk m c 36 t) := by dsimp only [dats]
theorem after_68 (c : Dev nD) (t : Fin cfg0.N) : (dats m 0 c).after 68 t = grad7 (blk m c 7 t) := by dsimp only [dats]
theorem after_69 (c : Dev nD) (t : Fin cfg0.N) : (dats m 0 c).after 69 t = step7 (blk m c 7 t) (blk m c 17 t) (blk m c 27 t) (blk m c 37 t) := by dsimp only [dats]
theorem after_70 (c : Dev nD) (t : Fin cfg0.N) : (dats m 0 c).after 70 t = first7 (blk m c 7 t) (blk m c 27 t) := by dsimp only [dats]
theorem after_71 (c : Dev nD) (t : Fin cfg0.N) : (dats m 0 c).after 71 t = second7 (blk m c 7 t) (blk m c 37 t) := by dsimp only [dats]
theorem after_72 (c : Dev nD) (t : Fin cfg0.N) : (dats m 0 c).after 72 t = grad8 (blk m c 8 t) := by dsimp only [dats]
theorem after_73 (c : Dev nD) (t : Fin cfg0.N) : (dats m 0 c).after 73 t = step8 (blk m c 8 t) (blk m c 18 t) (blk m c 28 t) (blk m c 38 t) := by dsimp only [dats]
theorem after_74 (c : Dev nD) (t : Fin cfg0.N) : (dats m 0 c).after 74 t = first8 (blk m c 8 t) (blk m c 28 t) := by dsimp only [dats]
theorem after_75 (c : Dev nD) (t : Fin cfg0.N) : (dats m 0 c).after 75 t = second8 (blk m c 8 t) (blk m c 38 t) := by dsimp only [dats]
theorem after_76 (c : Dev nD) (t : Fin cfg0.N) : (dats m 0 c).after 76 t = grad9 (blk m c 9 t) := by dsimp only [dats]
theorem after_77 (c : Dev nD) (t : Fin cfg0.N) : (dats m 0 c).after 77 t = step9 (blk m c 9 t) (blk m c 19 t) (blk m c 29 t) (blk m c 39 t) := by dsimp only [dats]
theorem after_78 (c : Dev nD) (t : Fin cfg0.N) : (dats m 0 c).after 78 t = first9 (blk m c 9 t) (blk m c 29 t) := by dsimp only [dats]
theorem after_79 (c : Dev nD) (t : Fin cfg0.N) : (dats m 0 c).after 79 t = second9 (blk m c 9 t) (blk m c 39 t) := by dsimp only [dats]

/-! What each input's buffer holds before the body: its block. -/

theorem before_0 (c : Dev nD) (t : Fin cfg0.N) (d) : (dats m 0 c).before 0 t d = blk m c 0 t :=
  ((dats m 0 c).before_in_eq_fetched 0 rfl (fun _ => rfl) (fun _ _ _ => rfl) (fun t => by rw [after_0]; unfold Dat.blockOf blk; rw [A_eq]; try rfl) t d).trans (by unfold Dat.fetched Dat.blockOf blk; rw [A_eq]; rfl)
theorem before_1 (c : Dev nD) (t : Fin cfg0.N) (d) : (dats m 0 c).before 1 t d = blk m c 1 t :=
  ((dats m 0 c).before_in_eq_fetched 1 rfl (fun _ => rfl) (fun _ _ _ => rfl) (fun t => by rw [after_1]; unfold Dat.blockOf blk; rw [A_eq]; try rfl) t d).trans (by unfold Dat.fetched Dat.blockOf blk; rw [A_eq]; rfl)
theorem before_2 (c : Dev nD) (t : Fin cfg0.N) (d) : (dats m 0 c).before 2 t d = blk m c 2 t :=
  ((dats m 0 c).before_in_eq_fetched 2 rfl (fun _ => rfl) (fun _ _ _ => rfl) (fun t => by rw [after_2]; unfold Dat.blockOf blk; rw [A_eq]; try rfl) t d).trans (by unfold Dat.fetched Dat.blockOf blk; rw [A_eq]; rfl)
theorem before_3 (c : Dev nD) (t : Fin cfg0.N) (d) : (dats m 0 c).before 3 t d = blk m c 3 t :=
  ((dats m 0 c).before_in_eq_fetched 3 rfl (fun _ => rfl) (fun _ _ _ => rfl) (fun t => by rw [after_3]; unfold Dat.blockOf blk; rw [A_eq]; try rfl) t d).trans (by unfold Dat.fetched Dat.blockOf blk; rw [A_eq]; rfl)
theorem before_4 (c : Dev nD) (t : Fin cfg0.N) (d) : (dats m 0 c).before 4 t d = blk m c 4 t :=
  ((dats m 0 c).before_in_eq_fetched 4 rfl (fun _ => rfl) (fun _ _ _ => rfl) (fun t => by rw [after_4]; unfold Dat.blockOf blk; rw [A_eq]; try rfl) t d).trans (by unfold Dat.fetched Dat.blockOf blk; rw [A_eq]; rfl)
theorem before_5 (c : Dev nD) (t : Fin cfg0.N) (d) : (dats m 0 c).before 5 t d = blk m c 5 t :=
  ((dats m 0 c).before_in_eq_fetched 5 rfl (fun _ => rfl) (fun _ _ _ => rfl) (fun t => by rw [after_5]; unfold Dat.blockOf blk; rw [A_eq]; try rfl) t d).trans (by unfold Dat.fetched Dat.blockOf blk; rw [A_eq]; rfl)
theorem before_6 (c : Dev nD) (t : Fin cfg0.N) (d) : (dats m 0 c).before 6 t d = blk m c 6 t :=
  ((dats m 0 c).before_in_eq_fetched 6 rfl (fun _ => rfl) (fun _ _ _ => rfl) (fun t => by rw [after_6]; unfold Dat.blockOf blk; rw [A_eq]; try rfl) t d).trans (by unfold Dat.fetched Dat.blockOf blk; rw [A_eq]; rfl)
theorem before_7 (c : Dev nD) (t : Fin cfg0.N) (d) : (dats m 0 c).before 7 t d = blk m c 7 t :=
  ((dats m 0 c).before_in_eq_fetched 7 rfl (fun _ => rfl) (fun _ _ _ => rfl) (fun t => by rw [after_7]; unfold Dat.blockOf blk; rw [A_eq]; try rfl) t d).trans (by unfold Dat.fetched Dat.blockOf blk; rw [A_eq]; rfl)
theorem before_8 (c : Dev nD) (t : Fin cfg0.N) (d) : (dats m 0 c).before 8 t d = blk m c 8 t :=
  ((dats m 0 c).before_in_eq_fetched 8 rfl (fun _ => rfl) (fun _ _ _ => rfl) (fun t => by rw [after_8]; unfold Dat.blockOf blk; rw [A_eq]; try rfl) t d).trans (by unfold Dat.fetched Dat.blockOf blk; rw [A_eq]; rfl)
theorem before_9 (c : Dev nD) (t : Fin cfg0.N) (d) : (dats m 0 c).before 9 t d = blk m c 9 t :=
  ((dats m 0 c).before_in_eq_fetched 9 rfl (fun _ => rfl) (fun _ _ _ => rfl) (fun t => by rw [after_9]; unfold Dat.blockOf blk; rw [A_eq]; try rfl) t d).trans (by unfold Dat.fetched Dat.blockOf blk; rw [A_eq]; rfl)
theorem before_10 (c : Dev nD) (t : Fin cfg0.N) (d) : (dats m 0 c).before 10 t d = blk m c 10 t :=
  ((dats m 0 c).before_in_eq_fetched 10 rfl (fun _ => rfl) (fun _ _ _ => rfl) (fun t => by rw [after_10]; unfold Dat.blockOf blk; rw [A_eq]; try rfl) t d).trans (by unfold Dat.fetched Dat.blockOf blk; rw [A_eq]; rfl)
theorem before_11 (c : Dev nD) (t : Fin cfg0.N) (d) : (dats m 0 c).before 11 t d = blk m c 11 t :=
  ((dats m 0 c).before_in_eq_fetched 11 rfl (fun _ => rfl) (fun _ _ _ => rfl) (fun t => by rw [after_11]; unfold Dat.blockOf blk; rw [A_eq]; try rfl) t d).trans (by unfold Dat.fetched Dat.blockOf blk; rw [A_eq]; rfl)
theorem before_12 (c : Dev nD) (t : Fin cfg0.N) (d) : (dats m 0 c).before 12 t d = blk m c 12 t :=
  ((dats m 0 c).before_in_eq_fetched 12 rfl (fun _ => rfl) (fun _ _ _ => rfl) (fun t => by rw [after_12]; unfold Dat.blockOf blk; rw [A_eq]; try rfl) t d).trans (by unfold Dat.fetched Dat.blockOf blk; rw [A_eq]; rfl)
theorem before_13 (c : Dev nD) (t : Fin cfg0.N) (d) : (dats m 0 c).before 13 t d = blk m c 13 t :=
  ((dats m 0 c).before_in_eq_fetched 13 rfl (fun _ => rfl) (fun _ _ _ => rfl) (fun t => by rw [after_13]; unfold Dat.blockOf blk; rw [A_eq]; try rfl) t d).trans (by unfold Dat.fetched Dat.blockOf blk; rw [A_eq]; rfl)
theorem before_14 (c : Dev nD) (t : Fin cfg0.N) (d) : (dats m 0 c).before 14 t d = blk m c 14 t :=
  ((dats m 0 c).before_in_eq_fetched 14 rfl (fun _ => rfl) (fun _ _ _ => rfl) (fun t => by rw [after_14]; unfold Dat.blockOf blk; rw [A_eq]; try rfl) t d).trans (by unfold Dat.fetched Dat.blockOf blk; rw [A_eq]; rfl)
theorem before_15 (c : Dev nD) (t : Fin cfg0.N) (d) : (dats m 0 c).before 15 t d = blk m c 15 t :=
  ((dats m 0 c).before_in_eq_fetched 15 rfl (fun _ => rfl) (fun _ _ _ => rfl) (fun t => by rw [after_15]; unfold Dat.blockOf blk; rw [A_eq]; try rfl) t d).trans (by unfold Dat.fetched Dat.blockOf blk; rw [A_eq]; rfl)
theorem before_16 (c : Dev nD) (t : Fin cfg0.N) (d) : (dats m 0 c).before 16 t d = blk m c 16 t :=
  ((dats m 0 c).before_in_eq_fetched 16 rfl (fun _ => rfl) (fun _ _ _ => rfl) (fun t => by rw [after_16]; unfold Dat.blockOf blk; rw [A_eq]; try rfl) t d).trans (by unfold Dat.fetched Dat.blockOf blk; rw [A_eq]; rfl)
theorem before_17 (c : Dev nD) (t : Fin cfg0.N) (d) : (dats m 0 c).before 17 t d = blk m c 17 t :=
  ((dats m 0 c).before_in_eq_fetched 17 rfl (fun _ => rfl) (fun _ _ _ => rfl) (fun t => by rw [after_17]; unfold Dat.blockOf blk; rw [A_eq]; try rfl) t d).trans (by unfold Dat.fetched Dat.blockOf blk; rw [A_eq]; rfl)
theorem before_18 (c : Dev nD) (t : Fin cfg0.N) (d) : (dats m 0 c).before 18 t d = blk m c 18 t :=
  ((dats m 0 c).before_in_eq_fetched 18 rfl (fun _ => rfl) (fun _ _ _ => rfl) (fun t => by rw [after_18]; unfold Dat.blockOf blk; rw [A_eq]; try rfl) t d).trans (by unfold Dat.fetched Dat.blockOf blk; rw [A_eq]; rfl)
theorem before_19 (c : Dev nD) (t : Fin cfg0.N) (d) : (dats m 0 c).before 19 t d = blk m c 19 t :=
  ((dats m 0 c).before_in_eq_fetched 19 rfl (fun _ => rfl) (fun _ _ _ => rfl) (fun t => by rw [after_19]; unfold Dat.blockOf blk; rw [A_eq]; try rfl) t d).trans (by unfold Dat.fetched Dat.blockOf blk; rw [A_eq]; rfl)
theorem before_20 (c : Dev nD) (t : Fin cfg0.N) (d) : (dats m 0 c).before 20 t d = blk m c 20 t :=
  ((dats m 0 c).before_in_eq_fetched 20 rfl (fun _ => rfl) (fun _ _ _ => rfl) (fun t => by rw [after_20]; unfold Dat.blockOf blk; rw [A_eq]; try rfl) t d).trans (by unfold Dat.fetched Dat.blockOf blk; rw [A_eq]; rfl)
theorem before_21 (c : Dev nD) (t : Fin cfg0.N) (d) : (dats m 0 c).before 21 t d = blk m c 21 t :=
  ((dats m 0 c).before_in_eq_fetched 21 rfl (fun _ => rfl) (fun _ _ _ => rfl) (fun t => by rw [after_21]; unfold Dat.blockOf blk; rw [A_eq]; try rfl) t d).trans (by unfold Dat.fetched Dat.blockOf blk; rw [A_eq]; rfl)
theorem before_22 (c : Dev nD) (t : Fin cfg0.N) (d) : (dats m 0 c).before 22 t d = blk m c 22 t :=
  ((dats m 0 c).before_in_eq_fetched 22 rfl (fun _ => rfl) (fun _ _ _ => rfl) (fun t => by rw [after_22]; unfold Dat.blockOf blk; rw [A_eq]; try rfl) t d).trans (by unfold Dat.fetched Dat.blockOf blk; rw [A_eq]; rfl)
theorem before_23 (c : Dev nD) (t : Fin cfg0.N) (d) : (dats m 0 c).before 23 t d = blk m c 23 t :=
  ((dats m 0 c).before_in_eq_fetched 23 rfl (fun _ => rfl) (fun _ _ _ => rfl) (fun t => by rw [after_23]; unfold Dat.blockOf blk; rw [A_eq]; try rfl) t d).trans (by unfold Dat.fetched Dat.blockOf blk; rw [A_eq]; rfl)
theorem before_24 (c : Dev nD) (t : Fin cfg0.N) (d) : (dats m 0 c).before 24 t d = blk m c 24 t :=
  ((dats m 0 c).before_in_eq_fetched 24 rfl (fun _ => rfl) (fun _ _ _ => rfl) (fun t => by rw [after_24]; unfold Dat.blockOf blk; rw [A_eq]; try rfl) t d).trans (by unfold Dat.fetched Dat.blockOf blk; rw [A_eq]; rfl)
theorem before_25 (c : Dev nD) (t : Fin cfg0.N) (d) : (dats m 0 c).before 25 t d = blk m c 25 t :=
  ((dats m 0 c).before_in_eq_fetched 25 rfl (fun _ => rfl) (fun _ _ _ => rfl) (fun t => by rw [after_25]; unfold Dat.blockOf blk; rw [A_eq]; try rfl) t d).trans (by unfold Dat.fetched Dat.blockOf blk; rw [A_eq]; rfl)
theorem before_26 (c : Dev nD) (t : Fin cfg0.N) (d) : (dats m 0 c).before 26 t d = blk m c 26 t :=
  ((dats m 0 c).before_in_eq_fetched 26 rfl (fun _ => rfl) (fun _ _ _ => rfl) (fun t => by rw [after_26]; unfold Dat.blockOf blk; rw [A_eq]; try rfl) t d).trans (by unfold Dat.fetched Dat.blockOf blk; rw [A_eq]; rfl)
theorem before_27 (c : Dev nD) (t : Fin cfg0.N) (d) : (dats m 0 c).before 27 t d = blk m c 27 t :=
  ((dats m 0 c).before_in_eq_fetched 27 rfl (fun _ => rfl) (fun _ _ _ => rfl) (fun t => by rw [after_27]; unfold Dat.blockOf blk; rw [A_eq]; try rfl) t d).trans (by unfold Dat.fetched Dat.blockOf blk; rw [A_eq]; rfl)
theorem before_28 (c : Dev nD) (t : Fin cfg0.N) (d) : (dats m 0 c).before 28 t d = blk m c 28 t :=
  ((dats m 0 c).before_in_eq_fetched 28 rfl (fun _ => rfl) (fun _ _ _ => rfl) (fun t => by rw [after_28]; unfold Dat.blockOf blk; rw [A_eq]; try rfl) t d).trans (by unfold Dat.fetched Dat.blockOf blk; rw [A_eq]; rfl)
theorem before_29 (c : Dev nD) (t : Fin cfg0.N) (d) : (dats m 0 c).before 29 t d = blk m c 29 t :=
  ((dats m 0 c).before_in_eq_fetched 29 rfl (fun _ => rfl) (fun _ _ _ => rfl) (fun t => by rw [after_29]; unfold Dat.blockOf blk; rw [A_eq]; try rfl) t d).trans (by unfold Dat.fetched Dat.blockOf blk; rw [A_eq]; rfl)
theorem before_30 (c : Dev nD) (t : Fin cfg0.N) (d) : (dats m 0 c).before 30 t d = blk m c 30 t :=
  ((dats m 0 c).before_in_eq_fetched 30 rfl (fun _ => rfl) (fun _ _ _ => rfl) (fun t => by rw [after_30]; unfold Dat.blockOf blk; rw [A_eq]; try rfl) t d).trans (by unfold Dat.fetched Dat.blockOf blk; rw [A_eq]; rfl)
theorem before_31 (c : Dev nD) (t : Fin cfg0.N) (d) : (dats m 0 c).before 31 t d = blk m c 31 t :=
  ((dats m 0 c).before_in_eq_fetched 31 rfl (fun _ => rfl) (fun _ _ _ => rfl) (fun t => by rw [after_31]; unfold Dat.blockOf blk; rw [A_eq]; try rfl) t d).trans (by unfold Dat.fetched Dat.blockOf blk; rw [A_eq]; rfl)
theorem before_32 (c : Dev nD) (t : Fin cfg0.N) (d) : (dats m 0 c).before 32 t d = blk m c 32 t :=
  ((dats m 0 c).before_in_eq_fetched 32 rfl (fun _ => rfl) (fun _ _ _ => rfl) (fun t => by rw [after_32]; unfold Dat.blockOf blk; rw [A_eq]; try rfl) t d).trans (by unfold Dat.fetched Dat.blockOf blk; rw [A_eq]; rfl)
theorem before_33 (c : Dev nD) (t : Fin cfg0.N) (d) : (dats m 0 c).before 33 t d = blk m c 33 t :=
  ((dats m 0 c).before_in_eq_fetched 33 rfl (fun _ => rfl) (fun _ _ _ => rfl) (fun t => by rw [after_33]; unfold Dat.blockOf blk; rw [A_eq]; try rfl) t d).trans (by unfold Dat.fetched Dat.blockOf blk; rw [A_eq]; rfl)
theorem before_34 (c : Dev nD) (t : Fin cfg0.N) (d) : (dats m 0 c).before 34 t d = blk m c 34 t :=
  ((dats m 0 c).before_in_eq_fetched 34 rfl (fun _ => rfl) (fun _ _ _ => rfl) (fun t => by rw [after_34]; unfold Dat.blockOf blk; rw [A_eq]; try rfl) t d).trans (by unfold Dat.fetched Dat.blockOf blk; rw [A_eq]; rfl)
theorem before_35 (c : Dev nD) (t : Fin cfg0.N) (d) : (dats m 0 c).before 35 t d = blk m c 35 t :=
  ((dats m 0 c).before_in_eq_fetched 35 rfl (fun _ => rfl) (fun _ _ _ => rfl) (fun t => by rw [after_35]; unfold Dat.blockOf blk; rw [A_eq]; try rfl) t d).trans (by unfold Dat.fetched Dat.blockOf blk; rw [A_eq]; rfl)
theorem before_36 (c : Dev nD) (t : Fin cfg0.N) (d) : (dats m 0 c).before 36 t d = blk m c 36 t :=
  ((dats m 0 c).before_in_eq_fetched 36 rfl (fun _ => rfl) (fun _ _ _ => rfl) (fun t => by rw [after_36]; unfold Dat.blockOf blk; rw [A_eq]; try rfl) t d).trans (by unfold Dat.fetched Dat.blockOf blk; rw [A_eq]; rfl)
theorem before_37 (c : Dev nD) (t : Fin cfg0.N) (d) : (dats m 0 c).before 37 t d = blk m c 37 t :=
  ((dats m 0 c).before_in_eq_fetched 37 rfl (fun _ => rfl) (fun _ _ _ => rfl) (fun t => by rw [after_37]; unfold Dat.blockOf blk; rw [A_eq]; try rfl) t d).trans (by unfold Dat.fetched Dat.blockOf blk; rw [A_eq]; rfl)
theorem before_38 (c : Dev nD) (t : Fin cfg0.N) (d) : (dats m 0 c).before 38 t d = blk m c 38 t :=
  ((dats m 0 c).before_in_eq_fetched 38 rfl (fun _ => rfl) (fun _ _ _ => rfl) (fun t => by rw [after_38]; unfold Dat.blockOf blk; rw [A_eq]; try rfl) t d).trans (by unfold Dat.fetched Dat.blockOf blk; rw [A_eq]; rfl)
theorem before_39 (c : Dev nD) (t : Fin cfg0.N) (d) : (dats m 0 c).before 39 t d = blk m c 39 t :=
  ((dats m 0 c).before_in_eq_fetched 39 rfl (fun _ => rfl) (fun _ _ _ => rfl) (fun t => by rw [after_39]; unfold Dat.blockOf blk; rw [A_eq]; try rfl) t d).trans (by unfold Dat.fetched Dat.blockOf blk; rw [A_eq]; rfl)

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d))
    ∗ (∃ d, owns (c : Thread nD τ) (st0_77 t) fullShare ((dats m 0 c).before 77 t d))
    ∗ (∃ d, owns (c : Thread nD τ) (st0_78 t) fullShare ((dats m 0 c).before 78 t d))
    ∗ (∃ d, owns (c : Thread nD τ) (st0_79 t) fullShare ((dats m 0 c).before 79 t d)))

/-- What the body returns with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t)
    ∗ owns (c : Thread nD τ) (st0_77 t) fullShare ((dats m 0 c).after 77 t)
    ∗ owns (c : Thread nD τ) (st0_78 t) fullShare ((dats m 0 c).after 78 t)
    ∗ owns (c : Thread nD τ) (st0_79 t) fullShare ((dats m 0 c).after 79 t))

/-- The body at a point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25, before_26, before_27, before_28, before_29, before_30, before_31, before_32, before_33, before_34, before_35, before_36, before_37, before_38, before_39]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30, after_31, after_32, after_33, after_34, after_35, after_36, after_37, after_38, after_39, after_40, after_41, after_42, after_43, after_44, after_45, after_46, after_47, after_48, after_49, after_50, after_51, after_52, after_53, after_54, after_55, after_56, after_57, after_58, after_59, after_60, after_61, after_62, after_63, after_64, after_65, after_66, after_67, after_68, after_69, after_70, after_71, after_72, after_73, after_74, after_75, after_76, after_77, after_78, after_79]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) (blk m c 14 t) (blk m c 15 t) (blk m c 16 t) (blk m c 17 t) (blk m c 18 t) (blk m c 19 t) (blk m c 20 t) (blk m c 21 t) (blk m c 22 t) (blk m c 23 t) (blk m c 24 t) (blk m c 25 t) (blk m c 26 t) (blk m c 27 t) (blk m c 28 t) (blk m c 29 t) (blk m c 30 t) (blk m c 31 t) (blk m c 32 t) (blk m c 33 t) (blk m c 34 t) (blk m c 35 t) (blk m c 36 t) (blk m c 37 t) (blk m c 38 t) (blk m c 39 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  iexact H79

/-- The body's entry in the table of bodies. -/
theorem defs₀_row (t : Fin cfg0.N) : defs₀ (F := F) .tc cfg0.body (cfg0.bodyArgs t (cfg0.slots t)) = bodyAt0 t := by
  unfold defs₀; rw [Defs.onTc_tc]

/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays as the data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays as the data says. -/
theorem run_main : θ_run defs (onTc (τ := τ) (main (F := F))) (s₀ m ρ) (Pipeline.FramePost cfgs (dats m) 0 (V m)) :=
  (θ_run defs _ _).mono (fun _ h => h.1) (run_quiescent m ρ)

/-- An input's array ends as launched. -/
theorem kept (c : Dev nD) (w : Fin cfg0.W) (hw : (cfg0.win w).isOut = false) : (dats m 0 c).arrAt w (cfgs 0).N = V m c (Pipeline.arrRef spec0 w) :=
  ((dats m 0 c).arrAt_in w hw _).trans (A_eq m c w)

/-- The frame: the arguments end as launched and every counter is zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39))
      ∧ r.2.sem = fun _ => 0) :=
  (θ_run defs _ _).mono (fun _ h => ⟨fun c => ⟨((h.1 c).1 0).trans (kept m c 0 rfl),
    ((h.1 c).1 1).trans (kept m c 1 rfl),
    ((h.1 c).1 2).trans (kept m c 2 rfl),
    ((h.1 c).1 3).trans (kept m c 3 rfl),
    ((h.1 c).1 4).trans (kept m c 4 rfl),
    ((h.1 c).1 5).trans (kept m c 5 rfl),
    ((h.1 c).1 6).trans (kept m c 6 rfl),
    ((h.1 c).1 7).trans (kept m c 7 rfl),
    ((h.1 c).1 8).trans (kept m c 8 rfl),
    ((h.1 c).1 9).trans (kept m c 9 rfl),
    ((h.1 c).1 10).trans (kept m c 10 rfl),
    ((h.1 c).1 11).trans (kept m c 11 rfl),
    ((h.1 c).1 12).trans (kept m c 12 rfl),
    ((h.1 c).1 13).trans (kept m c 13 rfl),
    ((h.1 c).1 14).trans (kept m c 14 rfl),
    ((h.1 c).1 15).trans (kept m c 15 rfl),
    ((h.1 c).1 16).trans (kept m c 16 rfl),
    ((h.1 c).1 17).trans (kept m c 17 rfl),
    ((h.1 c).1 18).trans (kept m c 18 rfl),
    ((h.1 c).1 19).trans (kept m c 19 rfl),
    ((h.1 c).1 20).trans (kept m c 20 rfl),
    ((h.1 c).1 21).trans (kept m c 21 rfl),
    ((h.1 c).1 22).trans (kept m c 22 rfl),
    ((h.1 c).1 23).trans (kept m c 23 rfl),
    ((h.1 c).1 24).trans (kept m c 24 rfl),
    ((h.1 c).1 25).trans (kept m c 25 rfl),
    ((h.1 c).1 26).trans (kept m c 26 rfl),
    ((h.1 c).1 27).trans (kept m c 27 rfl),
    ((h.1 c).1 28).trans (kept m c 28 rfl),
    ((h.1 c).1 29).trans (kept m c 29 rfl),
    ((h.1 c).1 30).trans (kept m c 30 rfl),
    ((h.1 c).1 31).trans (kept m c 31 rfl),
    ((h.1 c).1 32).trans (kept m c 32 rfl),
    ((h.1 c).1 33).trans (kept m c 33 rfl),
    ((h.1 c).1 34).trans (kept m c 34 rfl),
    ((h.1 c).1 35).trans (kept m c 35 rfl),
    ((h.1 c).1 36).trans (kept m c 36 rfl),
    ((h.1 c).1 37).trans (kept m c 37 rfl),
    ((h.1 c).1 38).trans (kept m c 38 rfl),
    ((h.1 c).1 39).trans (kept m c 39 rfl)⟩, h.2⟩)
    (run_quiescent m ρ)

end Cert.Kernel18Ideal.Small

end
-- ==== Proof.SmallBits.lean ====
/- The frame of the small weights' update at any kind of numbers: the program and its idealised form have the same text. -/
module

public import proofs.«01_k».proof.Proof.SmallFrame
public import proofs.«01_k».proof.Proof.Gen.Kernel18.Launch

@[expose] public section

set_option maxRecDepth 100000
set_option maxHeartbeats 40000000

noncomputable section

namespace Cert.Kernel18.Small

open Cert.Kernel18 Cert.Kernel18.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ) (ρ : Dev nD → PrngReg)

/-- The two programs have the same bodies. -/
theorem bodies : (Cert.Kernel18.defs₀ (F := F)) = Cert.Kernel18Ideal.defs₀ (F := F) := by
  unfold Cert.Kernel18.defs₀ Cert.Kernel18Ideal.defs₀
  refine congrArg Defs.onTc (funext fun l => funext fun a => ?_)
  match l, a with
  | 0, (t, s) => rfl

/-- The two programs have the same definitions. -/
theorem definitions : (Cert.Kernel18.defs (F := F)) = Cert.Kernel18Ideal.defs (F := F) := by
  unfold Cert.Kernel18.defs Cert.Kernel18Ideal.defs
  exact congrArg (Pipeline.defs Cert.Kernel18Ideal.pcfgs) bodies

/-- The frame: the arguments end as launched and every counter is zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39))
      ∧ r.2.sem = fun _ => 0) := by
  rw [definitions]
  exact Cert.Kernel18Ideal.Small.frame (F := F) m ρ

end Cert.Kernel18.Small

end
-- ==== Proof.SmallValue.lean ====
/- The contents of the forty output buffers of the small weights' update, over the reals: the reference's values. -/
module

public import proofs.«01_k».proof.Proof.SmallBody
public import proofs.«01_k».proof.Proof.Gen.Reference18Ideal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel18Ideal.Small

open Cert.Kernel18Ideal Cert.Kernel18Ideal.Gen Cert.Reference18Ideal.Read

/-- The summed gradient of weight 0. -/
theorem grad0_eq (g : FVec Ideal S8x31x64 .f32) : grad0 (F := Ideal) g = val_main_v0 (F := Ideal) g := by
  unfold grad0
  frame_out
  funext y
  rw [eq_ix2 y]
  pointwise [k0_pay2, val_main_cst, val_main_v0]
  simp only [Fin.sum_univ_eight]

/-- The change of weight 0. -/
theorem step0_eq (g : FVec Ideal S8x31x64 .f32) (w : FVec Ideal S31x64 .f32) (mu : FVec Ideal S31x64 .f32) (nu : FVec Ideal S31x64 .f32) : step0 (F := Ideal) g w mu nu = val_main_v24 (F := Ideal) g w mu nu := by
  unfold step0
  frame_out
  funext y
  rw [eq_ix2 y]
  pointwise [k0_pay5, k0_pay4, k0_pay2, k0_pay3, val_main_cst_8, val_main_v23, val_main_cst_0, val_main_v1, val_main_v2, val_main_cst_1, val_main_v3, val_main_cst, val_main_v0, val_main_v4, val_main_v5, val_main_cst_4, val_main_v12, val_main_v13, val_main_cst_2, val_main_v6, val_main_v7, val_main_cst_3, val_main_v9, val_main_v8, val_main_v10, val_main_v11, val_main_cst_5, val_main_v14, val_main_v15, val_main_v16, val_main_cst_6, val_main_v17, val_main_v18, val_main_v19, val_main_cst_7, val_main_v20, val_main_v21, val_main_v22, val_main_v24]
  simp only [Fin.sum_univ_eight]

/-- The new first moment of weight 0. -/
theorem first0_eq (g : FVec Ideal S8x31x64 .f32) (mu : FVec Ideal S31x64 .f32) : first0 (F := Ideal) g mu = val_main_v5 (F := Ideal) g mu := by
  unfold first0
  frame_out
  funext y
  rw [eq_ix2 y]
  pointwise [k0_pay3, k0_pay2, val_main_cst_0, val_main_v1, val_main_v2, val_main_cst_1, val_main_v3, val_main_cst, val_main_v0, val_main_v4, val_main_v5]
  simp only [Fin.sum_univ_eight]

/-- The new second moment of weight 0. -/
theorem second0_eq (g : FVec Ideal S8x31x64 .f32) (nu : FVec Ideal S31x64 .f32) : second0 (F := Ideal) g nu = val_main_v11 (F := Ideal) g nu := by
  unfold second0
  frame_out
  funext y
  rw [eq_ix2 y]
  pointwise [k0_pay4, k0_pay2, val_main_cst_2, val_main_v6, val_main_v7, val_main_cst_3, val_main_v9, val_main_cst, val_main_v0, val_main_v8, val_main_v10, val_main_v11]
  simp only [Fin.sum_univ_eight]

/-- The summed gradient of weight 1. -/
theorem grad1_eq (g : FVec Ideal S8x3x64 .f32) : grad1 (F := Ideal) g = val_main_v25 (F := Ideal) g := by
  unfold grad1
  frame_out
  funext y
  rw [eq_ix2 y]
  pointwise [k0_pay7, k0_pay6, val_main_cst_9, val_main_v25]
  simp only [Fin.sum_univ_eight]

/-- The change of weight 1. -/
theorem step1_eq (g : FVec Ideal S8x3x64 .f32) (w : FVec Ideal S3x64 .f32) (mu : FVec Ideal S3x64 .f32) (nu : FVec Ideal S3x64 .f32) : step1 (F := Ideal) g w mu nu = val_main_v49 (F := Ideal) g w mu nu := by
  unfold step1
  frame_out
  funext y
  rw [eq_ix2 y]
  pointwise [k0_pay12, k0_pay10, k0_pay8, k0_pay7, k0_pay6, k0_pay11, k0_pay9, val_main_cst_18, val_main_v48, val_main_cst_10, val_main_v26, val_main_v27, val_main_cst_11, val_main_v28, val_main_cst_9, val_main_v25, val_main_v29, val_main_v30, val_main_cst_14, val_main_v37, val_main_v38, val_main_cst_12, val_main_v31, val_main_v32, val_main_cst_13, val_main_v34, val_main_v33, val_main_v35, val_main_v36, val_main_cst_15, val_main_v39, val_main_v40, val_main_v41, val_main_cst_16, val_main_v42, val_main_v43, val_main_v44, val_main_cst_17, val_main_v45, val_main_v46, val_main_v47, val_main_v49]
  simp only [Fin.sum_univ_eight]

/-- The new first moment of weight 1. -/
theorem first1_eq (g : FVec Ideal S8x3x64 .f32) (mu : FVec Ideal S3x64 .f32) : first1 (F := Ideal) g mu = val_main_v30 (F := Ideal) g mu := by
  unfold first1
  frame_out
  funext y
  rw [eq_ix2 y]
  pointwise [k0_pay8, k0_pay7, k0_pay6, val_main_cst_10, val_main_v26, val_main_v27, val_main_cst_11, val_main_v28, val_main_cst_9, val_main_v25, val_main_v29, val_main_v30]
  simp only [Fin.sum_univ_eight]

/-- The new second moment of weight 1. -/
theorem second1_eq (g : FVec Ideal S8x3x64 .f32) (nu : FVec Ideal S3x64 .f32) : second1 (F := Ideal) g nu = val_main_v36 (F := Ideal) g nu := by
  unfold second1
  frame_out
  funext y
  rw [eq_ix2 y]
  pointwise [k0_pay9, k0_pay7, k0_pay6, val_main_cst_12, val_main_v31, val_main_v32, val_main_cst_13, val_main_v34, val_main_cst_9, val_main_v25, val_main_v33, val_main_v35, val_main_v36]
  simp only [Fin.sum_univ_eight]

/-- The summed gradient of weight 2. -/
theorem grad2_eq (g : FVec Ideal S8x1x128 .f32) : grad2 (F := Ideal) g = val_main_v50 (F := Ideal) g := by
  unfold grad2
  frame_out
  funext y
  rw [eq_ix2 y]
  pointwise [k0_pay14, k0_pay13, val_main_cst_19, val_main_v50]
  simp only [Fin.sum_univ_eight]

/-- The change of weight 2. -/
theorem step2_eq (g : FVec Ideal S8x1x128 .f32) (w : FVec Ideal S1x128 .f32) (mu : FVec Ideal S1x128 .f32) (nu : FVec Ideal S1x128 .f32) : step2 (F := Ideal) g w mu nu = val_main_v74 (F := Ideal) g w mu nu := by
  unfold step2
  frame_out
  funext y
  rw [eq_ix2 y]
  pointwise [k0_pay18, k0_pay17, k0_pay15, k0_pay14, k0_pay16, k0_pay13, val_main_cst_28, val_main_v73, val_main_cst_20, val_main_v51, val_main_v52, val_main_cst_21, val_main_v53, val_main_cst_19, val_main_v50, val_main_v54, val_main_v55, val_main_cst_24, val_main_v62, val_main_v63, val_main_cst_22, val_main_v56, val_main_v57, val_main_cst_23, val_main_v59, val_main_v58, val_main_v60, val_main_v61, val_main_cst_25, val_main_v64, val_main_v65, val_main_v66, val_main_cst_26, val_main_v67, val_main_v68, val_main_v69, val_main_cst_27, val_main_v70, val_main_v71, val_main_v72, val_main_v74]
  simp only [Fin.sum_univ_eight]

/-- The new first moment of weight 2. -/
theorem first2_eq (g : FVec Ideal S8x1x128 .f32) (mu : FVec Ideal S1x128 .f32) : first2 (F := Ideal) g mu = val_main_v55 (F := Ideal) g mu := by
  unfold first2
  frame_out
  funext y
  rw [eq_ix2 y]
  pointwise [k0_pay15, k0_pay14, k0_pay13, val_main_cst_20, val_main_v51, val_main_v52, val_main_cst_21, val_main_v53, val_main_cst_19, val_main_v50, val_main_v54, val_main_v55]
  simp only [Fin.sum_univ_eight]

/-- The new second moment of weight 2. -/
theorem second2_eq (g : FVec Ideal S8x1x128 .f32) (nu : FVec Ideal S1x128 .f32) : second2 (F := Ideal) g nu = val_main_v61 (F := Ideal) g nu := by
  unfold second2
  frame_out
  funext y
  rw [eq_ix2 y]
  pointwise [k0_pay16, k0_pay14, k0_pay13, val_main_cst_22, val_main_v56, val_main_v57, val_main_cst_23, val_main_v59, val_main_cst_19, val_main_v50, val_main_v58, val_main_v60, val_main_v61]
  simp only [Fin.sum_univ_eight]

/-- The summed gradient of weight 3. -/
theorem grad3_eq (g : FVec Ideal S8x1x128 .f32) : grad3 (F := Ideal) g = val_main_v75 (F := Ideal) g := by
  unfold grad3
  frame_out
  funext y
  rw [eq_ix2 y]
  pointwise [k0_pay20, k0_pay19, val_main_cst_29, val_main_v75]
  simp only [Fin.sum_univ_eight]

/-- The change of weight 3. -/
theorem step3_eq (g : FVec Ideal S8x1x128 .f32) (w : FVec Ideal S1x128 .f32) (mu : FVec Ideal S1x128 .f32) (nu : FVec Ideal S1x128 .f32) : step3 (F := Ideal) g w mu nu = val_main_v99 (F := Ideal) g w mu nu := by
  unfold step3
  frame_out
  funext y
  rw [eq_ix2 y]
  pointwise [k0_pay23, k0_pay21, k0_pay20, k0_pay22, k0_pay19, val_main_cst_38, val_main_v98, val_main_cst_30, val_main_v76, val_main_v77, val_main_cst_31, val_main_v78, val_main_cst_29, val_main_v75, val_main_v79, val_main_v80, val_main_cst_34, val_main_v87, val_main_v88, val_main_cst_32, val_main_v81, val_main_v82, val_main_cst_33, val_main_v84, val_main_v83, val_main_v85, val_main_v86, val_main_cst_35, val_main_v89, val_main_v90, val_main_v91, val_main_cst_36, val_main_v92, val_main_v93, val_main_v94, val_main_cst_37, val_main_v95, val_main_v96, val_main_v97, val_main_v99]
  simp only [Fin.sum_univ_eight]

/-- The new first moment of weight 3. -/
theorem first3_eq (g : FVec Ideal S8x1x128 .f32) (mu : FVec Ideal S1x128 .f32) : first3 (F := Ideal) g mu = val_main_v80 (F := Ideal) g mu := by
  unfold first3
  frame_out
  funext y
  rw [eq_ix2 y]
  pointwise [k0_pay21, k0_pay20, k0_pay19, val_main_cst_30, val_main_v76, val_main_v77, val_main_cst_31, val_main_v78, val_main_cst_29, val_main_v75, val_main_v79, val_main_v80]
  simp only [Fin.sum_univ_eight]

/-- The new second moment of weight 3. -/
theorem second3_eq (g : FVec Ideal S8x1x128 .f32) (nu : FVec Ideal S1x128 .f32) : second3 (F := Ideal) g nu = val_main_v86 (F := Ideal) g nu := by
  unfold second3
  frame_out
  funext y
  rw [eq_ix2 y]
  pointwise [k0_pay22, k0_pay20, k0_pay19, val_main_cst_32, val_main_v81, val_main_v82, val_main_cst_33, val_main_v84, val_main_cst_29, val_main_v75, val_main_v83, val_main_v85, val_main_v86]
  simp only [Fin.sum_univ_eight]

/-- The summed gradient of weight 4. -/
theorem grad4_eq (g : FVec Ideal S8x6x704 .f32) : grad4 (F := Ideal) g = val_main_v100 (F := Ideal) g := by
  unfold grad4
  frame_out
  funext y
  rw [eq_ix2 y]
  pointwise [k0_pay24, val_main_cst_39, val_main_v100]
  simp only [Fin.sum_univ_eight]

/-- The change of weight 4. -/
theorem step4_eq (g : FVec Ideal S8x6x704 .f32) (w : FVec Ideal S6x704 .f32) (mu : FVec Ideal S6x704 .f32) (nu : FVec Ideal S6x704 .f32) : step4 (F := Ideal) g w mu nu = val_main_v124 (F := Ideal) g w mu nu := by
  unfold step4
  frame_out
  funext y
  rw [eq_ix2 y]
  pointwise [k0_pay27, k0_pay26, k0_pay24, k0_pay25, val_main_cst_48, val_main_v123, val_main_cst_40, val_main_v101, val_main_v102, val_main_cst_41, val_main_v103, val_main_cst_39, val_main_v100, val_main_v104, val_main_v105, val_main_cst_44, val_main_v112, val_main_v113, val_main_cst_42, val_main_v106, val_main_v107, val_main_cst_43, val_main_v109, val_main_v108, val_main_v110, val_main_v111, val_main_cst_45, val_main_v114, val_main_v115, val_main_v116, val_main_cst_46, val_main_v117, val_main_v118, val_main_v119, val_main_cst_47, val_main_v120, val_main_v121, val_main_v122, val_main_v124]
  simp only [Fin.sum_univ_eight]

/-- The new first moment of weight 4. -/
theorem first4_eq (g : FVec Ideal S8x6x704 .f32) (mu : FVec Ideal S6x704 .f32) : first4 (F := Ideal) g mu = val_main_v105 (F := Ideal) g mu := by
  unfold first4
  frame_out
  funext y
  rw [eq_ix2 y]
  pointwise [k0_pay25, k0_pay24, val_main_cst_40, val_main_v101, val_main_v102, val_main_cst_41, val_main_v103, val_main_cst_39, val_main_v100, val_main_v104, val_main_v105]
  simp only [Fin.sum_univ_eight]

/-- The new second moment of weight 4. -/
theorem second4_eq (g : FVec Ideal S8x6x704 .f32) (nu : FVec Ideal S6x704 .f32) : second4 (F := Ideal) g nu = val_main_v111 (F := Ideal) g nu := by
  unfold second4
  frame_out
  funext y
  rw [eq_ix2 y]
  pointwise [k0_pay26, k0_pay24, val_main_cst_42, val_main_v106, val_main_v107, val_main_cst_43, val_main_v109, val_main_cst_39, val_main_v100, val_main_v108, val_main_v110, val_main_v111]
  simp only [Fin.sum_univ_eight]

/-- The summed gradient of weight 5. -/
theorem grad5_eq (g : FVec Ideal S8x1x1024 .f32) : grad5 (F := Ideal) g = val_main_v125 (F := Ideal) g := by
  unfold grad5
  frame_out
  funext y
  rw [eq_ix2 y]
  pointwise [k0_pay29, k0_pay28, val_main_cst_49, val_main_v125]
  simp only [Fin.sum_univ_eight]

/-- The change of weight 5. -/
theorem step5_eq (g : FVec Ideal S8x1x1024 .f32) (w : FVec Ideal S1x1024 .f32) (mu : FVec Ideal S1x1024 .f32) (nu : FVec Ideal S1x1024 .f32) : step5 (F := Ideal) g w mu nu = val_main_v149 (F := Ideal) g w mu nu := by
  unfold step5
  frame_out
  funext y
  rw [eq_ix2 y]
  pointwise [k0_pay34, k0_pay32, k0_pay30, k0_pay29, k0_pay28, k0_pay33, k0_pay31, val_main_cst_58, val_main_v148, val_main_cst_50, val_main_v126, val_main_v127, val_main_cst_51, val_main_v128, val_main_cst_49, val_main_v125, val_main_v129, val_main_v130, val_main_cst_54, val_main_v137, val_main_v138, val_main_cst_52, val_main_v131, val_main_v132, val_main_cst_53, val_main_v134, val_main_v133, val_main_v135, val_main_v136, val_main_cst_55, val_main_v139, val_main_v140, val_main_v141, val_main_cst_56, val_main_v142, val_main_v143, val_main_v144, val_main_cst_57, val_main_v145, val_main_v146, val_main_v147, val_main_v149]
  simp only [Fin.sum_univ_eight]

/-- The new first moment of weight 5. -/
theorem first5_eq (g : FVec Ideal S8x1x1024 .f32) (mu : FVec Ideal S1x1024 .f32) : first5 (F := Ideal) g mu = val_main_v130 (F := Ideal) g mu := by
  unfold first5
  frame_out
  funext y
  rw [eq_ix2 y]
  pointwise [k0_pay30, k0_pay29, k0_pay28, val_main_cst_50, val_main_v126, val_main_v127, val_main_cst_51, val_main_v128, val_main_cst_49, val_main_v125, val_main_v129, val_main_v130]
  simp only [Fin.sum_univ_eight]

/-- The new second moment of weight 5. -/
theorem second5_eq (g : FVec Ideal S8x1x1024 .f32) (nu : FVec Ideal S1x1024 .f32) : second5 (F := Ideal) g nu = val_main_v136 (F := Ideal) g nu := by
  unfold second5
  frame_out
  funext y
  rw [eq_ix2 y]
  pointwise [k0_pay31, k0_pay29, k0_pay28, val_main_cst_52, val_main_v131, val_main_v132, val_main_cst_53, val_main_v134, val_main_cst_49, val_main_v125, val_main_v133, val_main_v135, val_main_v136]
  simp only [Fin.sum_univ_eight]

/-- The summed gradient of weight 6. -/
theorem grad6_eq (g : FVec Ideal S8x1x512 .f32) : grad6 (F := Ideal) g = val_main_v150 (F := Ideal) g := by
  unfold grad6
  frame_out
  funext y
  rw [eq_ix2 y]
  pointwise [k0_pay36, k0_pay35, val_main_cst_59, val_main_v150]
  simp only [Fin.sum_univ_eight]

/-- The change of weight 6. -/
theorem step6_eq (g : FVec Ideal S8x1x512 .f32) (w : FVec Ideal S1x512 .f32) (mu : FVec Ideal S1x512 .f32) (nu : FVec Ideal S1x512 .f32) : step6 (F := Ideal) g w mu nu = val_main_v174 (F := Ideal) g w mu nu := by
  unfold step6
  frame_out
  funext y
  rw [eq_ix2 y]
  pointwise [k0_pay40, k0_pay39, k0_pay37, k0_pay36, k0_pay38, k0_pay35, val_main_cst_68, val_main_v173, val_main_cst_60, val_main_v151, val_main_v152, val_main_cst_61, val_main_v153, val_main_cst_59, val_main_v150, val_main_v154, val_main_v155, val_main_cst_64, val_main_v162, val_main_v163, val_main_cst_62, val_main_v156, val_main_v157, val_main_cst_63, val_main_v159, val_main_v158, val_main_v160, val_main_v161, val_main_cst_65, val_main_v164, val_main_v165, val_main_v166, val_main_cst_66, val_main_v167, val_main_v168, val_main_v169, val_main_cst_67, val_main_v170, val_main_v171, val_main_v172, val_main_v174]
  simp only [Fin.sum_univ_eight]

/-- The new first moment of weight 6. -/
theorem first6_eq (g : FVec Ideal S8x1x512 .f32) (mu : FVec Ideal S1x512 .f32) : first6 (F := Ideal) g mu = val_main_v155 (F := Ideal) g mu := by
  unfold first6
  frame_out
  funext y
  rw [eq_ix2 y]
  pointwise [k0_pay37, k0_pay36, k0_pay35, val_main_cst_60, val_main_v151, val_main_v152, val_main_cst_61, val_main_v153, val_main_cst_59, val_main_v150, val_main_v154, val_main_v155]
  simp only [Fin.sum_univ_eight]

/-- The new second moment of weight 6. -/
theorem second6_eq (g : FVec Ideal S8x1x512 .f32) (nu : FVec Ideal S1x512 .f32) : second6 (F := Ideal) g nu = val_main_v161 (F := Ideal) g nu := by
  unfold second6
  frame_out
  funext y
  rw [eq_ix2 y]
  pointwise [k0_pay38, k0_pay36, k0_pay35, val_main_cst_62, val_main_v156, val_main_v157, val_main_cst_63, val_main_v159, val_main_cst_59, val_main_v150, val_main_v158, val_main_v160, val_main_v161]
  simp only [Fin.sum_univ_eight]

/-- The summed gradient of weight 7. -/
theorem grad7_eq (g : FVec Ideal S8x1x512 .f32) : grad7 (F := Ideal) g = val_main_v175 (F := Ideal) g := by
  unfold grad7
  frame_out
  funext y
  rw [eq_ix2 y]
  pointwise [k0_pay42, k0_pay41, val_main_cst_69, val_main_v175]
  simp only [Fin.sum_univ_eight]

/-- The change of weight 7. -/
theorem step7_eq (g : FVec Ideal S8x1x512 .f32) (w : FVec Ideal S1x512 .f32) (mu : FVec Ideal S1x512 .f32) (nu : FVec Ideal S1x512 .f32) : step7 (F := Ideal) g w mu nu = val_main_v199 (F := Ideal) g w mu nu := by
  unfold step7
  frame_out
  funext y
  rw [eq_ix2 y]
  pointwise [k0_pay45, k0_pay43, k0_pay42, k0_pay44, k0_pay41, val_main_cst_78, val_main_v198, val_main_cst_70, val_main_v176, val_main_v177, val_main_cst_71, val_main_v178, val_main_cst_69, val_main_v175, val_main_v179, val_main_v180, val_main_cst_74, val_main_v187, val_main_v188, val_main_cst_72, val_main_v181, val_main_v182, val_main_cst_73, val_main_v184, val_main_v183, val_main_v185, val_main_v186, val_main_cst_75, val_main_v189, val_main_v190, val_main_v191, val_main_cst_76, val_main_v192, val_main_v193, val_main_v194, val_main_cst_77, val_main_v195, val_main_v196, val_main_v197, val_main_v199]
  simp only [Fin.sum_univ_eight]

/-- The new first moment of weight 7. -/
theorem first7_eq (g : FVec Ideal S8x1x512 .f32) (mu : FVec Ideal S1x512 .f32) : first7 (F := Ideal) g mu = val_main_v180 (F := Ideal) g mu := by
  unfold first7
  frame_out
  funext y
  rw [eq_ix2 y]
  pointwise [k0_pay43, k0_pay42, k0_pay41, val_main_cst_70, val_main_v176, val_main_v177, val_main_cst_71, val_main_v178, val_main_cst_69, val_main_v175, val_main_v179, val_main_v180]
  simp only [Fin.sum_univ_eight]

/-- The new second moment of weight 7. -/
theorem second7_eq (g : FVec Ideal S8x1x512 .f32) (nu : FVec Ideal S1x512 .f32) : second7 (F := Ideal) g nu = val_main_v186 (F := Ideal) g nu := by
  unfold second7
  frame_out
  funext y
  rw [eq_ix2 y]
  pointwise [k0_pay44, k0_pay42, k0_pay41, val_main_cst_72, val_main_v181, val_main_v182, val_main_cst_73, val_main_v184, val_main_cst_69, val_main_v175, val_main_v183, val_main_v185, val_main_v186]
  simp only [Fin.sum_univ_eight]

/-- The summed gradient of weight 8. -/
theorem grad8_eq (g : FVec Ideal S8x2x1024 .f32) : grad8 (F := Ideal) g = val_main_v200 (F := Ideal) g := by
  unfold grad8
  frame_out
  funext y
  rw [eq_ix2 y]
  pointwise [k0_pay46, val_main_cst_79, val_main_v200]
  simp only [Fin.sum_univ_eight]

/-- The change of weight 8. -/
theorem step8_eq (g : FVec Ideal S8x2x1024 .f32) (w : FVec Ideal S2x1024 .f32) (mu : FVec Ideal S2x1024 .f32) (nu : FVec Ideal S2x1024 .f32) : step8 (F := Ideal) g w mu nu = val_main_v224 (F := Ideal) g w mu nu := by
  unfold step8
  frame_out
  funext y
  rw [eq_ix2 y]
  pointwise [k0_pay49, k0_pay48, k0_pay46, k0_pay47, val_main_cst_88, val_main_v223, val_main_cst_80, val_main_v201, val_main_v202, val_main_cst_81, val_main_v203, val_main_cst_79, val_main_v200, val_main_v204, val_main_v205, val_main_cst_84, val_main_v212, val_main_v213, val_main_cst_82, val_main_v206, val_main_v207, val_main_cst_83, val_main_v209, val_main_v208, val_main_v210, val_main_v211, val_main_cst_85, val_main_v214, val_main_v215, val_main_v216, val_main_cst_86, val_main_v217, val_main_v218, val_main_v219, val_main_cst_87, val_main_v220, val_main_v221, val_main_v222, val_main_v224]
  simp only [Fin.sum_univ_eight]

/-- The new first moment of weight 8. -/
theorem first8_eq (g : FVec Ideal S8x2x1024 .f32) (mu : FVec Ideal S2x1024 .f32) : first8 (F := Ideal) g mu = val_main_v205 (F := Ideal) g mu := by
  unfold first8
  frame_out
  funext y
  rw [eq_ix2 y]
  pointwise [k0_pay47, k0_pay46, val_main_cst_80, val_main_v201, val_main_v202, val_main_cst_81, val_main_v203, val_main_cst_79, val_main_v200, val_main_v204, val_main_v205]
  simp only [Fin.sum_univ_eight]

/-- The new second moment of weight 8. -/
theorem second8_eq (g : FVec Ideal S8x2x1024 .f32) (nu : FVec Ideal S2x1024 .f32) : second8 (F := Ideal) g nu = val_main_v211 (F := Ideal) g nu := by
  unfold second8
  frame_out
  funext y
  rw [eq_ix2 y]
  pointwise [k0_pay48, k0_pay46, val_main_cst_82, val_main_v206, val_main_v207, val_main_cst_83, val_main_v209, val_main_cst_79, val_main_v200, val_main_v208, val_main_v210, val_main_v211]
  simp only [Fin.sum_univ_eight]

/-- The summed gradient of weight 9. -/
theorem grad9_eq (g : FVec Ideal S8x1x1024 .f32) : grad9 (F := Ideal) g = val_main_v225 (F := Ideal) g := by
  unfold grad9
  frame_out
  funext y
  rw [eq_ix2 y]
  pointwise [k0_pay51, k0_pay50, val_main_cst_89, val_main_v225]
  simp only [Fin.sum_univ_eight]

/-- The change of weight 9. -/
theorem step9_eq (g : FVec Ideal S8x1x1024 .f32) (w : FVec Ideal S1x1024 .f32) (mu : FVec Ideal S1x1024 .f32) (nu : FVec Ideal S1x1024 .f32) : step9 (F := Ideal) g w mu nu = val_main_v249 (F := Ideal) g w mu nu := by
  unfold step9
  frame_out
  funext y
  rw [eq_ix2 y]
  pointwise [k0_pay1, k0_pay54, k0_pay52, k0_pay51, k0_pay50, k0_pay55, k0_pay53, val_main_cst_98, val_main_v248, val_main_cst_90, val_main_v226, val_main_v227, val_main_cst_91, val_main_v228, val_main_cst_89, val_main_v225, val_main_v229, val_main_v230, val_main_cst_94, val_main_v237, val_main_v238, val_main_cst_92, val_main_v231, val_main_v232, val_main_cst_93, val_main_v234, val_main_v233, val_main_v235, val_main_v236, val_main_cst_95, val_main_v239, val_main_v240, val_main_v241, val_main_cst_96, val_main_v242, val_main_v243, val_main_v244, val_main_cst_97, val_main_v245, val_main_v246, val_main_v247, val_main_v249]
  simp only [Fin.sum_univ_eight]

/-- The new first moment of weight 9. -/
theorem first9_eq (g : FVec Ideal S8x1x1024 .f32) (mu : FVec Ideal S1x1024 .f32) : first9 (F := Ideal) g mu = val_main_v230 (F := Ideal) g mu := by
  unfold first9
  frame_out
  funext y
  rw [eq_ix2 y]
  pointwise [k0_pay52, k0_pay51, k0_pay50, val_main_cst_90, val_main_v226, val_main_v227, val_main_cst_91, val_main_v228, val_main_cst_89, val_main_v225, val_main_v229, val_main_v230]
  simp only [Fin.sum_univ_eight]

/-- The new second moment of weight 9. -/
theorem second9_eq (g : FVec Ideal S8x1x1024 .f32) (nu : FVec Ideal S1x1024 .f32) : second9 (F := Ideal) g nu = val_main_v236 (F := Ideal) g nu := by
  unfold second9
  frame_out
  funext y
  rw [eq_ix2 y]
  pointwise [k0_pay53, k0_pay51, k0_pay50, val_main_cst_92, val_main_v231, val_main_v232, val_main_cst_93, val_main_v234, val_main_cst_89, val_main_v225, val_main_v233, val_main_v235, val_main_v236]
  simp only [Fin.sum_univ_eight]

end Cert.Kernel18Ideal.Small

end
-- ==== Proof.SmallArrays.lean ====
/- The update of the small weights: each of the forty arrays `Kernel18Ideal` writes is the reference's value. -/
module

public import proofs.«01_k».proof.Proof.SmallFrame
public import proofs.«01_k».proof.Proof.SmallValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Kernel18Ideal.Math

open Cert.Kernel18Ideal Cert.Kernel18Ideal.Gen Cert.Kernel18Ideal.Small Cert.Reference18Ideal.Read

variable (m : (ℓ : Loc nD τ sig) → Buf (Elt Ideal) ℓ)

/-- What the call finds in a buffer is what the launch left there. -/
theorem V_eq (c : Dev nD) (b : Ref sig .tc) : V m c b = m ((c : Thread nD τ).loc b) := rfl

/-- The block indices of weight 0's windows at the one grid point. -/
theorem idx0 : ∀ t : Fin cfg0.N, win0_0.index t = ![0, 0, 0] ∧ win0_10.index t = ![0, 0] ∧ win0_20.index t = ![0, 0] ∧ win0_30.index t = ![0, 0] ∧ win0_40.index t = ![0, 0] ∧ win0_41.index t = ![0, 0] ∧ win0_42.index t = ![0, 0] ∧ win0_43.index t = ![0, 0] :=
  (by decide +kernel : ∀ t : Fin grid0.N, _)

/-- The block of weight 0's partial gradients is the whole array. -/
theorem blk0 (c : Dev nD) (t : Fin cfg0.N) : (blk m c 0 t : FVec Ideal S8x31x64 .f32) = (m ((c : Thread nD τ).loc main_arg0)) := by
  funext y
  rw [eq_ix3 y]
  blk_simp [blk]
  rw [V_eq]
  blk_point [idx0 t]

/-- The block of weight 0's values is the whole array. -/
theorem blk10 (c : Dev nD) (t : Fin cfg0.N) : (blk m c 10 t : FVec Ideal S31x64 .f32) = (m ((c : Thread nD τ).loc main_arg10)) := by
  funext y
  rw [eq_ix2 y]
  blk_simp [blk]
  rw [V_eq]
  blk_point [idx0 t]

/-- The block of weight 0's first moment is the whole array. -/
theorem blk20 (c : Dev nD) (t : Fin cfg0.N) : (blk m c 20 t : FVec Ideal S31x64 .f32) = (m ((c : Thread nD τ).loc main_arg20)) := by
  funext y
  rw [eq_ix2 y]
  blk_simp [blk]
  rw [V_eq]
  blk_point [idx0 t]

/-- The block of weight 0's second moment is the whole array. -/
theorem blk30 (c : Dev nD) (t : Fin cfg0.N) : (blk m c 30 t : FVec Ideal S31x64 .f32) = (m ((c : Thread nD τ).loc main_arg30)) := by
  funext y
  rw [eq_ix2 y]
  blk_simp [blk]
  rw [V_eq]
  blk_point [idx0 t]

/-- The block indices of weight 1's windows at the one grid point. -/
theorem idx1 : ∀ t : Fin cfg0.N, win0_1.index t = ![0, 0, 0] ∧ win0_11.index t = ![0, 0] ∧ win0_21.index t = ![0, 0] ∧ win0_31.index t = ![0, 0] ∧ win0_44.index t = ![0, 0] ∧ win0_45.index t = ![0, 0] ∧ win0_46.index t = ![0, 0] ∧ win0_47.index t = ![0, 0] :=
  (by decide +kernel : ∀ t : Fin grid0.N, _)

/-- The block of weight 1's partial gradients is the whole array. -/
theorem blk1 (c : Dev nD) (t : Fin cfg0.N) : (blk m c 1 t : FVec Ideal S8x3x64 .f32) = (m ((c : Thread nD τ).loc main_arg1)) := by
  funext y
  rw [eq_ix3 y]
  blk_simp [blk]
  rw [V_eq]
  blk_point [idx1 t]

/-- The block of weight 1's values is the whole array. -/
theorem blk11 (c : Dev nD) (t : Fin cfg0.N) : (blk m c 11 t : FVec Ideal S3x64 .f32) = (m ((c : Thread nD τ).loc main_arg11)) := by
  funext y
  rw [eq_ix2 y]
  blk_simp [blk]
  rw [V_eq]
  blk_point [idx1 t]

/-- The block of weight 1's first moment is the whole array. -/
theorem blk21 (c : Dev nD) (t : Fin cfg0.N) : (blk m c 21 t : FVec Ideal S3x64 .f32) = (m ((c : Thread nD τ).loc main_arg21)) := by
  funext y
  rw [eq_ix2 y]
  blk_simp [blk]
  rw [V_eq]
  blk_point [idx1 t]

/-- The block of weight 1's second moment is the whole array. -/
theorem blk31 (c : Dev nD) (t : Fin cfg0.N) : (blk m c 31 t : FVec Ideal S3x64 .f32) = (m ((c : Thread nD τ).loc main_arg31)) := by
  funext y
  rw [eq_ix2 y]
  blk_simp [blk]
  rw [V_eq]
  blk_point [idx1 t]

/-- The block indices of weight 2's windows at the one grid point. -/
theorem idx2 : ∀ t : Fin cfg0.N, win0_2.index t = ![0, 0, 0] ∧ win0_12.index t = ![0, 0] ∧ win0_22.index t = ![0, 0] ∧ win0_32.index t = ![0, 0] ∧ win0_48.index t = ![0, 0] ∧ win0_49.index t = ![0, 0] ∧ win0_50.index t = ![0, 0] ∧ win0_51.index t = ![0, 0] :=
  (by decide +kernel : ∀ t : Fin grid0.N, _)

/-- The block of weight 2's partial gradients is the whole array. -/
theorem blk2 (c : Dev nD) (t : Fin cfg0.N) : (blk m c 2 t : FVec Ideal S8x1x128 .f32) = (m ((c : Thread nD τ).loc main_arg2)) := by
  funext y
  rw [eq_ix3 y]
  blk_simp [blk]
  rw [V_eq]
  blk_point [idx2 t]

/-- The block of weight 2's values is the whole array. -/
theorem blk12 (c : Dev nD) (t : Fin cfg0.N) : (blk m c 12 t : FVec Ideal S1x128 .f32) = (m ((c : Thread nD τ).loc main_arg12)) := by
  funext y
  rw [eq_ix2 y]
  blk_simp [blk]
  rw [V_eq]
  blk_point [idx2 t]

/-- The block of weight 2's first moment is the whole array. -/
theorem blk22 (c : Dev nD) (t : Fin cfg0.N) : (blk m c 22 t : FVec Ideal S1x128 .f32) = (m ((c : Thread nD τ).loc main_arg22)) := by
  funext y
  rw [eq_ix2 y]
  blk_simp [blk]
  rw [V_eq]
  blk_point [idx2 t]

/-- The block of weight 2's second moment is the whole array. -/
theorem blk32 (c : Dev nD) (t : Fin cfg0.N) : (blk m c 32 t : FVec Ideal S1x128 .f32) = (m ((c : Thread nD τ).loc main_arg32)) := by
  funext y
  rw [eq_ix2 y]
  blk_simp [blk]
  rw [V_eq]
  blk_point [idx2 t]

/-- The block indices of weight 3's windows at the one grid point. -/
theorem idx3 : ∀ t : Fin cfg0.N, win0_3.index t = ![0, 0, 0] ∧ win0_13.index t = ![0, 0] ∧ win0_23.index t = ![0, 0] ∧ win0_33.index t = ![0, 0] ∧ win0_52.index t = ![0, 0] ∧ win0_53.index t = ![0, 0] ∧ win0_54.index t = ![0, 0] ∧ win0_55.index t = ![0, 0] :=
  (by decide +kernel : ∀ t : Fin grid0.N, _)

/-- The block of weight 3's partial gradients is the whole array. -/
theorem blk3 (c : Dev nD) (t : Fin cfg0.N) : (blk m c 3 t : FVec Ideal S8x1x128 .f32) = (m ((c : Thread nD τ).loc main_arg3)) := by
  funext y
  rw [eq_ix3 y]
  blk_simp [blk]
  rw [V_eq]
  blk_point [idx3 t]

/-- The block of weight 3's values is the whole array. -/
theorem blk13 (c : Dev nD) (t : Fin cfg0.N) : (blk m c 13 t : FVec Ideal S1x128 .f32) = (m ((c : Thread nD τ).loc main_arg13)) := by
  funext y
  rw [eq_ix2 y]
  blk_simp [blk]
  rw [V_eq]
  blk_point [idx3 t]

/-- The block of weight 3's first moment is the whole array. -/
theorem blk23 (c : Dev nD) (t : Fin cfg0.N) : (blk m c 23 t : FVec Ideal S1x128 .f32) = (m ((c : Thread nD τ).loc main_arg23)) := by
  funext y
  rw [eq_ix2 y]
  blk_simp [blk]
  rw [V_eq]
  blk_point [idx3 t]

/-- The block of weight 3's second moment is the whole array. -/
theorem blk33 (c : Dev nD) (t : Fin cfg0.N) : (blk m c 33 t : FVec Ideal S1x128 .f32) = (m ((c : Thread nD τ).loc main_arg33)) := by
  funext y
  rw [eq_ix2 y]
  blk_simp [blk]
  rw [V_eq]
  blk_point [idx3 t]

/-- The block indices of weight 4's windows at the one grid point. -/
theorem idx4 : ∀ t : Fin cfg0.N, win0_4.index t = ![0, 0, 0] ∧ win0_14.index t = ![0, 0] ∧ win0_24.index t = ![0, 0] ∧ win0_34.index t = ![0, 0] ∧ win0_56.index t = ![0, 0] ∧ win0_57.index t = ![0, 0] ∧ win0_58.index t = ![0, 0] ∧ win0_59.index t = ![0, 0] :=
  (by decide +kernel : ∀ t : Fin grid0.N, _)

/-- The block of weight 4's partial gradients is the whole array. -/
theorem blk4 (c : Dev nD) (t : Fin cfg0.N) : (blk m c 4 t : FVec Ideal S8x6x704 .f32) = (m ((c : Thread nD τ).loc main_arg4)) := by
  funext y
  rw [eq_ix3 y]
  blk_simp [blk]
  rw [V_eq]
  blk_point [idx4 t]

/-- The block of weight 4's values is the whole array. -/
theorem blk14 (c : Dev nD) (t : Fin cfg0.N) : (blk m c 14 t : FVec Ideal S6x704 .f32) = (m ((c : Thread nD τ).loc main_arg14)) := by
  funext y
  rw [eq_ix2 y]
  blk_simp [blk]
  rw [V_eq]
  blk_point [idx4 t]

/-- The block of weight 4's first moment is the whole array. -/
theorem blk24 (c : Dev nD) (t : Fin cfg0.N) : (blk m c 24 t : FVec Ideal S6x704 .f32) = (m ((c : Thread nD τ).loc main_arg24)) := by
  funext y
  rw [eq_ix2 y]
  blk_simp [blk]
  rw [V_eq]
  blk_point [idx4 t]

/-- The block of weight 4's second moment is the whole array. -/
theorem blk34 (c : Dev nD) (t : Fin cfg0.N) : (blk m c 34 t : FVec Ideal S6x704 .f32) = (m ((c : Thread nD τ).loc main_arg34)) := by
  funext y
  rw [eq_ix2 y]
  blk_simp [blk]
  rw [V_eq]
  blk_point [idx4 t]

/-- The block indices of weight 5's windows at the one grid point. -/
theorem idx5 : ∀ t : Fin cfg0.N, win0_5.index t = ![0, 0, 0] ∧ win0_15.index t = ![0, 0] ∧ win0_25.index t = ![0, 0] ∧ win0_35.index t = ![0, 0] ∧ win0_60.index t = ![0, 0] ∧ win0_61.index t = ![0, 0] ∧ win0_62.index t = ![0, 0] ∧ win0_63.index t = ![0, 0] :=
  (by decide +kernel : ∀ t : Fin grid0.N, _)

/-- The block of weight 5's partial gradients is the whole array. -/
theorem blk5 (c : Dev nD) (t : Fin cfg0.N) : (blk m c 5 t : FVec Ideal S8x1x1024 .f32) = (m ((c : Thread nD τ).loc main_arg5)) := by
  funext y
  rw [eq_ix3 y]
  blk_simp [blk]
  rw [V_eq]
  blk_point [idx5 t]

/-- The block of weight 5's values is the whole array. -/
theorem blk15 (c : Dev nD) (t : Fin cfg0.N) : (blk m c 15 t : FVec Ideal S1x1024 .f32) = (m ((c : Thread nD τ).loc main_arg15)) := by
  funext y
  rw [eq_ix2 y]
  blk_simp [blk]
  rw [V_eq]
  blk_point [idx5 t]

/-- The block of weight 5's first moment is the whole array. -/
theorem blk25 (c : Dev nD) (t : Fin cfg0.N) : (blk m c 25 t : FVec Ideal S1x1024 .f32) = (m ((c : Thread nD τ).loc main_arg25)) := by
  funext y
  rw [eq_ix2 y]
  blk_simp [blk]
  rw [V_eq]
  blk_point [idx5 t]

/-- The block of weight 5's second moment is the whole array. -/
theorem blk35 (c : Dev nD) (t : Fin cfg0.N) : (blk m c 35 t : FVec Ideal S1x1024 .f32) = (m ((c : Thread nD τ).loc main_arg35)) := by
  funext y
  rw [eq_ix2 y]
  blk_simp [blk]
  rw [V_eq]
  blk_point [idx5 t]

/-- The block indices of weight 6's windows at the one grid point. -/
theorem idx6 : ∀ t : Fin cfg0.N, win0_6.index t = ![0, 0, 0] ∧ win0_16.index t = ![0, 0] ∧ win0_26.index t = ![0, 0] ∧ win0_36.index t = ![0, 0] ∧ win0_64.index t = ![0, 0] ∧ win0_65.index t = ![0, 0] ∧ win0_66.index t = ![0, 0] ∧ win0_67.index t = ![0, 0] :=
  (by decide +kernel : ∀ t : Fin grid0.N, _)

/-- The block of weight 6's partial gradients is the whole array. -/
theorem blk6 (c : Dev nD) (t : Fin cfg0.N) : (blk m c 6 t : FVec Ideal S8x1x512 .f32) = (m ((c : Thread nD τ).loc main_arg6)) := by
  funext y
  rw [eq_ix3 y]
  blk_simp [blk]
  rw [V_eq]
  blk_point [idx6 t]

/-- The block of weight 6's values is the whole array. -/
theorem blk16 (c : Dev nD) (t : Fin cfg0.N) : (blk m c 16 t : FVec Ideal S1x512 .f32) = (m ((c : Thread nD τ).loc main_arg16)) := by
  funext y
  rw [eq_ix2 y]
  blk_simp [blk]
  rw [V_eq]
  blk_point [idx6 t]

/-- The block of weight 6's first moment is the whole array. -/
theorem blk26 (c : Dev nD) (t : Fin cfg0.N) : (blk m c 26 t : FVec Ideal S1x512 .f32) = (m ((c : Thread nD τ).loc main_arg26)) := by
  funext y
  rw [eq_ix2 y]
  blk_simp [blk]
  rw [V_eq]
  blk_point [idx6 t]

/-- The block of weight 6's second moment is the whole array. -/
theorem blk36 (c : Dev nD) (t : Fin cfg0.N) : (blk m c 36 t : FVec Ideal S1x512 .f32) = (m ((c : Thread nD τ).loc main_arg36)) := by
  funext y
  rw [eq_ix2 y]
  blk_simp [blk]
  rw [V_eq]
  blk_point [idx6 t]

/-- The block indices of weight 7's windows at the one grid point. -/
theorem idx7 : ∀ t : Fin cfg0.N, win0_7.index t = ![0, 0, 0] ∧ win0_17.index t = ![0, 0] ∧ win0_27.index t = ![0, 0] ∧ win0_37.index t = ![0, 0] ∧ win0_68.index t = ![0, 0] ∧ win0_69.index t = ![0, 0] ∧ win0_70.index t = ![0, 0] ∧ win0_71.index t = ![0, 0] :=
  (by decide +kernel : ∀ t : Fin grid0.N, _)

/-- The block of weight 7's partial gradients is the whole array. -/
theorem blk7 (c : Dev nD) (t : Fin cfg0.N) : (blk m c 7 t : FVec Ideal S8x1x512 .f32) = (m ((c : Thread nD τ).loc main_arg7)) := by
  funext y
  rw [eq_ix3 y]
  blk_simp [blk]
  rw [V_eq]
  blk_point [idx7 t]

/-- The block of weight 7's values is the whole array. -/
theorem blk17 (c : Dev nD) (t : Fin cfg0.N) : (blk m c 17 t : FVec Ideal S1x512 .f32) = (m ((c : Thread nD τ).loc main_arg17)) := by
  funext y
  rw [eq_ix2 y]
  blk_simp [blk]
  rw [V_eq]
  blk_point [idx7 t]

/-- The block of weight 7's first moment is the whole array. -/
theorem blk27 (c : Dev nD) (t : Fin cfg0.N) : (blk m c 27 t : FVec Ideal S1x512 .f32) = (m ((c : Thread nD τ).loc main_arg27)) := by
  funext y
  rw [eq_ix2 y]
  blk_simp [blk]
  rw [V_eq]
  blk_point [idx7 t]

/-- The block of weight 7's second moment is the whole array. -/
theorem blk37 (c : Dev nD) (t : Fin cfg0.N) : (blk m c 37 t : FVec Ideal S1x512 .f32) = (m ((c : Thread nD τ).loc main_arg37)) := by
  funext y
  rw [eq_ix2 y]
  blk_simp [blk]
  rw [V_eq]
  blk_point [idx7 t]

/-- The block indices of weight 8's windows at the one grid point. -/
theorem idx8 : ∀ t : Fin cfg0.N, win0_8.index t = ![0, 0, 0] ∧ win0_18.index t = ![0, 0] ∧ win0_28.index t = ![0, 0] ∧ win0_38.index t = ![0, 0] ∧ win0_72.index t = ![0, 0] ∧ win0_73.index t = ![0, 0] ∧ win0_74.index t = ![0, 0] ∧ win0_75.index t = ![0, 0] :=
  (by decide +kernel : ∀ t : Fin grid0.N, _)

/-- The block of weight 8's partial gradients is the whole array. -/
theorem blk8 (c : Dev nD) (t : Fin cfg0.N) : (blk m c 8 t : FVec Ideal S8x2x1024 .f32) = (m ((c : Thread nD τ).loc main_arg8)) := by
  funext y
  rw [eq_ix3 y]
  blk_simp [blk]
  rw [V_eq]
  blk_point [idx8 t]

/-- The block of weight 8's values is the whole array. -/
theorem blk18 (c : Dev nD) (t : Fin cfg0.N) : (blk m c 18 t : FVec Ideal S2x1024 .f32) = (m ((c : Thread nD τ).loc main_arg18)) := by
  funext y
  rw [eq_ix2 y]
  blk_simp [blk]
  rw [V_eq]
  blk_point [idx8 t]

/-- The block of weight 8's first moment is the whole array. -/
theorem blk28 (c : Dev nD) (t : Fin cfg0.N) : (blk m c 28 t : FVec Ideal S2x1024 .f32) = (m ((c : Thread nD τ).loc main_arg28)) := by
  funext y
  rw [eq_ix2 y]
  blk_simp [blk]
  rw [V_eq]
  blk_point [idx8 t]

/-- The block of weight 8's second moment is the whole array. -/
theorem blk38 (c : Dev nD) (t : Fin cfg0.N) : (blk m c 38 t : FVec Ideal S2x1024 .f32) = (m ((c : Thread nD τ).loc main_arg38)) := by
  funext y
  rw [eq_ix2 y]
  blk_simp [blk]
  rw [V_eq]
  blk_point [idx8 t]

/-- The block indices of weight 9's windows at the one grid point. -/
theorem idx9 : ∀ t : Fin cfg0.N, win0_9.index t = ![0, 0, 0] ∧ win0_19.index t = ![0, 0] ∧ win0_29.index t = ![0, 0] ∧ win0_39.index t = ![0, 0] ∧ win0_76.index t = ![0, 0] ∧ win0_77.index t = ![0, 0] ∧ win0_78.index t = ![0, 0] ∧ win0_79.index t = ![0, 0] :=
  (by decide +kernel : ∀ t : Fin grid0.N, _)

/-- The block of weight 9's partial gradients is the whole array. -/
theorem blk9 (c : Dev nD) (t : Fin cfg0.N) : (blk m c 9 t : FVec Ideal S8x1x1024 .f32) = (m ((c : Thread nD τ).loc main_arg9)) := by
  funext y
  rw [eq_ix3 y]
  blk_simp [blk]
  rw [V_eq]
  blk_point [idx9 t]

/-- The block of weight 9's values is the whole array. -/
theorem blk19 (c : Dev nD) (t : Fin cfg0.N) : (blk m c 19 t : FVec Ideal S1x1024 .f32) = (m ((c : Thread nD τ).loc main_arg19)) := by
  funext y
  rw [eq_ix2 y]
  blk_simp [blk]
  rw [V_eq]
  blk_point [idx9 t]

/-- The block of weight 9's first moment is the whole array. -/
theorem blk29 (c : Dev nD) (t : Fin cfg0.N) : (blk m c 29 t : FVec Ideal S1x1024 .f32) = (m ((c : Thread nD τ).loc main_arg29)) := by
  funext y
  rw [eq_ix2 y]
  blk_simp [blk]
  rw [V_eq]
  blk_point [idx9 t]

/-- The block of weight 9's second moment is the whole array. -/
theorem blk39 (c : Dev nD) (t : Fin cfg0.N) : (blk m c 39 t : FVec Ideal S1x1024 .f32) = (m ((c : Thread nD τ).loc main_arg39)) := by
  funext y
  rw [eq_ix2 y]
  blk_simp [blk]
  rw [V_eq]
  blk_point [idx9 t]

/-- The array of weight 0's summed gradient. -/
theorem final40 (c : Dev nD) : (dats m 0 c).arrAt 40 (cfgs 0).N = val_main_v0 (F := Ideal) (m ((c : Thread nD τ).loc main_arg0)) := by
  refine (dats m 0 c).arrAt_eq_of_covers 40 _ (by decide +kernel) fun t hf y => ?_
  blk_simp; rw [after_40, grad0_eq, blk0]
  have e : ((cfg0.win 40).blk t).view.emb y = ix2 (y 0) (y 1) := by blk_ext [idx0 t]
  rw [e]
  exact congrArg _ (eq_ix2 y)

/-- The array of weight 0's change. -/
theorem final41 (c : Dev nD) : (dats m 0 c).arrAt 41 (cfgs 0).N = val_main_v24 (F := Ideal) (m ((c : Thread nD τ).loc main_arg0)) (m ((c : Thread nD τ).loc main_arg10)) (m ((c : Thread nD τ).loc main_arg20)) (m ((c : Thread nD τ).loc main_arg30)) := by
  refine (dats m 0 c).arrAt_eq_of_covers 41 _ (by decide +kernel) fun t hf y => ?_
  blk_simp; rw [after_41, step0_eq, blk0, blk10, blk20, blk30]
  have e : ((cfg0.win 41).blk t).view.emb y = ix2 (y 0) (y 1) := by blk_ext [idx0 t]
  rw [e]
  exact congrArg _ (eq_ix2 y)

/-- The array of weight 0's new first moment. -/
theorem final42 (c : Dev nD) : (dats m 0 c).arrAt 42 (cfgs 0).N = val_main_v5 (F := Ideal) (m ((c : Thread nD τ).loc main_arg0)) (m ((c : Thread nD τ).loc main_arg20)) := by
  refine (dats m 0 c).arrAt_eq_of_covers 42 _ (by decide +kernel) fun t hf y => ?_
  blk_simp; rw [after_42, first0_eq, blk0, blk20]
  have e : ((cfg0.win 42).blk t).view.emb y = ix2 (y 0) (y 1) := by blk_ext [idx0 t]
  rw [e]
  exact congrArg _ (eq_ix2 y)

/-- The array of weight 0's new second moment. -/
theorem final43 (c : Dev nD) : (dats m 0 c).arrAt 43 (cfgs 0).N = val_main_v11 (F := Ideal) (m ((c : Thread nD τ).loc main_arg0)) (m ((c : Thread nD τ).loc main_arg30)) := by
  refine (dats m 0 c).arrAt_eq_of_covers 43 _ (by decide +kernel) fun t hf y => ?_
  blk_simp; rw [after_43, second0_eq, blk0, blk30]
  have e : ((cfg0.win 43).blk t).view.emb y = ix2 (y 0) (y 1) := by blk_ext [idx0 t]
  rw [e]
  exact congrArg _ (eq_ix2 y)

/-- The array of weight 1's summed gradient. -/
theorem final44 (c : Dev nD) : (dats m 0 c).arrAt 44 (cfgs 0).N = val_main_v25 (F := Ideal) (m ((c : Thread nD τ).loc main_arg1)) := by
  refine (dats m 0 c).arrAt_eq_of_covers 44 _ (by decide +kernel) fun t hf y => ?_
  blk_simp; rw [after_44, grad1_eq, blk1]
  have e : ((cfg0.win 44).blk t).view.emb y = ix2 (y 0) (y 1) := by blk_ext [idx1 t]
  rw [e]
  exact congrArg _ (eq_ix2 y)

/-- The array of weight 1's change. -/
theorem final45 (c : Dev nD) : (dats m 0 c).arrAt 45 (cfgs 0).N = val_main_v49 (F := Ideal) (m ((c : Thread nD τ).loc main_arg1)) (m ((c : Thread nD τ).loc main_arg11)) (m ((c : Thread nD τ).loc main_arg21)) (m ((c : Thread nD τ).loc main_arg31)) := by
  refine (dats m 0 c).arrAt_eq_of_covers 45 _ (by decide +kernel) fun t hf y => ?_
  blk_simp; rw [after_45, step1_eq, blk1, blk11, blk21, blk31]
  have e : ((cfg0.win 45).blk t).view.emb y = ix2 (y 0) (y 1) := by blk_ext [idx1 t]
  rw [e]
  exact congrArg _ (eq_ix2 y)

/-- The array of weight 1's new first moment. -/
theorem final46 (c : Dev nD) : (dats m 0 c).arrAt 46 (cfgs 0).N = val_main_v30 (F := Ideal) (m ((c : Thread nD τ).loc main_arg1)) (m ((c : Thread nD τ).loc main_arg21)) := by
  refine (dats m 0 c).arrAt_eq_of_covers 46 _ (by decide +kernel) fun t hf y => ?_
  blk_simp; rw [after_46, first1_eq, blk1, blk21]
  have e : ((cfg0.win 46).blk t).view.emb y = ix2 (y 0) (y 1) := by blk_ext [idx1 t]
  rw [e]
  exact congrArg _ (eq_ix2 y)

/-- The array of weight 1's new second moment. -/
theorem final47 (c : Dev nD) : (dats m 0 c).arrAt 47 (cfgs 0).N = val_main_v36 (F := Ideal) (m ((c : Thread nD τ).loc main_arg1)) (m ((c : Thread nD τ).loc main_arg31)) := by
  refine (dats m 0 c).arrAt_eq_of_covers 47 _ (by decide +kernel) fun t hf y => ?_
  blk_simp; rw [after_47, second1_eq, blk1, blk31]
  have e : ((cfg0.win 47).blk t).view.emb y = ix2 (y 0) (y 1) := by blk_ext [idx1 t]
  rw [e]
  exact congrArg _ (eq_ix2 y)

/-- The array of weight 2's summed gradient. -/
theorem final48 (c : Dev nD) : (dats m 0 c).arrAt 48 (cfgs 0).N = val_main_v50 (F := Ideal) (m ((c : Thread nD τ).loc main_arg2)) := by
  refine (dats m 0 c).arrAt_eq_of_covers 48 _ (by decide +kernel) fun t hf y => ?_
  blk_simp; rw [after_48, grad2_eq, blk2]
  have e : ((cfg0.win 48).blk t).view.emb y = ix2 (y 0) (y 1) := by blk_ext [idx2 t]
  rw [e]
  exact congrArg _ (eq_ix2 y)

/-- The array of weight 2's change. -/
theorem final49 (c : Dev nD) : (dats m 0 c).arrAt 49 (cfgs 0).N = val_main_v74 (F := Ideal) (m ((c : Thread nD τ).loc main_arg2)) (m ((c : Thread nD τ).loc main_arg12)) (m ((c : Thread nD τ).loc main_arg22)) (m ((c : Thread nD τ).loc main_arg32)) := by
  refine (dats m 0 c).arrAt_eq_of_covers 49 _ (by decide +kernel) fun t hf y => ?_
  blk_simp; rw [after_49, step2_eq, blk2, blk12, blk22, blk32]
  have e : ((cfg0.win 49).blk t).view.emb y = ix2 (y 0) (y 1) := by blk_ext [idx2 t]
  rw [e]
  exact congrArg _ (eq_ix2 y)

/-- The array of weight 2's new first moment. -/
theorem final50 (c : Dev nD) : (dats m 0 c).arrAt 50 (cfgs 0).N = val_main_v55 (F := Ideal) (m ((c : Thread nD τ).loc main_arg2)) (m ((c : Thread nD τ).loc main_arg22)) := by
  refine (dats m 0 c).arrAt_eq_of_covers 50 _ (by decide +kernel) fun t hf y => ?_
  blk_simp; rw [after_50, first2_eq, blk2, blk22]
  have e : ((cfg0.win 50).blk t).view.emb y = ix2 (y 0) (y 1) := by blk_ext [idx2 t]
  rw [e]
  exact congrArg _ (eq_ix2 y)

/-- The array of weight 2's new second moment. -/
theorem final51 (c : Dev nD) : (dats m 0 c).arrAt 51 (cfgs 0).N = val_main_v61 (F := Ideal) (m ((c : Thread nD τ).loc main_arg2)) (m ((c : Thread nD τ).loc main_arg32)) := by
  refine (dats m 0 c).arrAt_eq_of_covers 51 _ (by decide +kernel) fun t hf y => ?_
  blk_simp; rw [after_51, second2_eq, blk2, blk32]
  have e : ((cfg0.win 51).blk t).view.emb y = ix2 (y 0) (y 1) := by blk_ext [idx2 t]
  rw [e]
  exact congrArg _ (eq_ix2 y)

/-- The array of weight 3's summed gradient. -/
theorem final52 (c : Dev nD) : (dats m 0 c).arrAt 52 (cfgs 0).N = val_main_v75 (F := Ideal) (m ((c : Thread nD τ).loc main_arg3)) := by
  refine (dats m 0 c).arrAt_eq_of_covers 52 _ (by decide +kernel) fun t hf y => ?_
  blk_simp; rw [after_52, grad3_eq, blk3]
  have e : ((cfg0.win 52).blk t).view.emb y = ix2 (y 0) (y 1) := by blk_ext [idx3 t]
  rw [e]
  exact congrArg _ (eq_ix2 y)

/-- The array of weight 3's change. -/
theorem final53 (c : Dev nD) : (dats m 0 c).arrAt 53 (cfgs 0).N = val_main_v99 (F := Ideal) (m ((c : Thread nD τ).loc main_arg3)) (m ((c : Thread nD τ).loc main_arg13)) (m ((c : Thread nD τ).loc main_arg23)) (m ((c : Thread nD τ).loc main_arg33)) := by
  refine (dats m 0 c).arrAt_eq_of_covers 53 _ (by decide +kernel) fun t hf y => ?_
  blk_simp; rw [after_53, step3_eq, blk3, blk13, blk23, blk33]
  have e : ((cfg0.win 53).blk t).view.emb y = ix2 (y 0) (y 1) := by blk_ext [idx3 t]
  rw [e]
  exact congrArg _ (eq_ix2 y)

/-- The array of weight 3's new first moment. -/
theorem final54 (c : Dev nD) : (dats m 0 c).arrAt 54 (cfgs 0).N = val_main_v80 (F := Ideal) (m ((c : Thread nD τ).loc main_arg3)) (m ((c : Thread nD τ).loc main_arg23)) := by
  refine (dats m 0 c).arrAt_eq_of_covers 54 _ (by decide +kernel) fun t hf y => ?_
  blk_simp; rw [after_54, first3_eq, blk3, blk23]
  have e : ((cfg0.win 54).blk t).view.emb y = ix2 (y 0) (y 1) := by blk_ext [idx3 t]
  rw [e]
  exact congrArg _ (eq_ix2 y)

/-- The array of weight 3's new second moment. -/
theorem final55 (c : Dev nD) : (dats m 0 c).arrAt 55 (cfgs 0).N = val_main_v86 (F := Ideal) (m ((c : Thread nD τ).loc main_arg3)) (m ((c : Thread nD τ).loc main_arg33)) := by
  refine (dats m 0 c).arrAt_eq_of_covers 55 _ (by decide +kernel) fun t hf y => ?_
  blk_simp; rw [after_55, second3_eq, blk3, blk33]
  have e : ((cfg0.win 55).blk t).view.emb y = ix2 (y 0) (y 1) := by blk_ext [idx3 t]
  rw [e]
  exact congrArg _ (eq_ix2 y)

/-- The array of weight 4's summed gradient. -/
theorem final56 (c : Dev nD) : (dats m 0 c).arrAt 56 (cfgs 0).N = val_main_v100 (F := Ideal) (m ((c : Thread nD τ).loc main_arg4)) := by
  refine (dats m 0 c).arrAt_eq_of_covers 56 _ (by decide +kernel) fun t hf y => ?_
  blk_simp; rw [after_56, grad4_eq, blk4]
  have e : ((cfg0.win 56).blk t).view.emb y = ix2 (y 0) (y 1) := by blk_ext [idx4 t]
  rw [e]
  exact congrArg _ (eq_ix2 y)

/-- The array of weight 4's change. -/
theorem final57 (c : Dev nD) : (dats m 0 c).arrAt 57 (cfgs 0).N = val_main_v124 (F := Ideal) (m ((c : Thread nD τ).loc main_arg4)) (m ((c : Thread nD τ).loc main_arg14)) (m ((c : Thread nD τ).loc main_arg24)) (m ((c : Thread nD τ).loc main_arg34)) := by
  refine (dats m 0 c).arrAt_eq_of_covers 57 _ (by decide +kernel) fun t hf y => ?_
  blk_simp; rw [after_57, step4_eq, blk4, blk14, blk24, blk34]
  have e : ((cfg0.win 57).blk t).view.emb y = ix2 (y 0) (y 1) := by blk_ext [idx4 t]
  rw [e]
  exact congrArg _ (eq_ix2 y)

/-- The array of weight 4's new first moment. -/
theorem final58 (c : Dev nD) : (dats m 0 c).arrAt 58 (cfgs 0).N = val_main_v105 (F := Ideal) (m ((c : Thread nD τ).loc main_arg4)) (m ((c : Thread nD τ).loc main_arg24)) := by
  refine (dats m 0 c).arrAt_eq_of_covers 58 _ (by decide +kernel) fun t hf y => ?_
  blk_simp; rw [after_58, first4_eq, blk4, blk24]
  have e : ((cfg0.win 58).blk t).view.emb y = ix2 (y 0) (y 1) := by blk_ext [idx4 t]
  rw [e]
  exact congrArg _ (eq_ix2 y)

/-- The array of weight 4's new second moment. -/
theorem final59 (c : Dev nD) : (dats m 0 c).arrAt 59 (cfgs 0).N = val_main_v111 (F := Ideal) (m ((c : Thread nD τ).loc main_arg4)) (m ((c : Thread nD τ).loc main_arg34)) := by
  refine (dats m 0 c).arrAt_eq_of_covers 59 _ (by decide +kernel) fun t hf y => ?_
  blk_simp; rw [after_59, second4_eq, blk4, blk34]
  have e : ((cfg0.win 59).blk t).view.emb y = ix2 (y 0) (y 1) := by blk_ext [idx4 t]
  rw [e]
  exact congrArg _ (eq_ix2 y)

/-- The array of weight 5's summed gradient. -/
theorem final60 (c : Dev nD) : (dats m 0 c).arrAt 60 (cfgs 0).N = val_main_v125 (F := Ideal) (m ((c : Thread nD τ).loc main_arg5)) := by
  refine (dats m 0 c).arrAt_eq_of_covers 60 _ (by decide +kernel) fun t hf y => ?_
  blk_simp; rw [after_60, grad5_eq, blk5]
  have e : ((cfg0.win 60).blk t).view.emb y = ix2 (y 0) (y 1) := by blk_ext [idx5 t]
  rw [e]
  exact congrArg _ (eq_ix2 y)

/-- The array of weight 5's change. -/
theorem final61 (c : Dev nD) : (dats m 0 c).arrAt 61 (cfgs 0).N = val_main_v149 (F := Ideal) (m ((c : Thread nD τ).loc main_arg5)) (m ((c : Thread nD τ).loc main_arg15)) (m ((c : Thread nD τ).loc main_arg25)) (m ((c : Thread nD τ).loc main_arg35)) := by
  refine (dats m 0 c).arrAt_eq_of_covers 61 _ (by decide +kernel) fun t hf y => ?_
  blk_simp; rw [after_61, step5_eq, blk5, blk15, blk25, blk35]
  have e : ((cfg0.win 61).blk t).view.emb y = ix2 (y 0) (y 1) := by blk_ext [idx5 t]
  rw [e]
  exact congrArg _ (eq_ix2 y)

/-- The array of weight 5's new first moment. -/
theorem final62 (c : Dev nD) : (dats m 0 c).arrAt 62 (cfgs 0).N = val_main_v130 (F := Ideal) (m ((c : Thread nD τ).loc main_arg5)) (m ((c : Thread nD τ).loc main_arg25)) := by
  refine (dats m 0 c).arrAt_eq_of_covers 62 _ (by decide +kernel) fun t hf y => ?_
  blk_simp; rw [after_62, first5_eq, blk5, blk25]
  have e : ((cfg0.win 62).blk t).view.emb y = ix2 (y 0) (y 1) := by blk_ext [idx5 t]
  rw [e]
  exact congrArg _ (eq_ix2 y)

/-- The array of weight 5's new second moment. -/
theorem final63 (c : Dev nD) : (dats m 0 c).arrAt 63 (cfgs 0).N = val_main_v136 (F := Ideal) (m ((c : Thread nD τ).loc main_arg5)) (m ((c : Thread nD τ).loc main_arg35)) := by
  refine (dats m 0 c).arrAt_eq_of_covers 63 _ (by decide +kernel) fun t hf y => ?_
  blk_simp; rw [after_63, second5_eq, blk5, blk35]
  have e : ((cfg0.win 63).blk t).view.emb y = ix2 (y 0) (y 1) := by blk_ext [idx5 t]
  rw [e]
  exact congrArg _ (eq_ix2 y)

/-- The array of weight 6's summed gradient. -/
theorem final64 (c : Dev nD) : (dats m 0 c).arrAt 64 (cfgs 0).N = val_main_v150 (F := Ideal) (m ((c : Thread nD τ).loc main_arg6)) := by
  refine (dats m 0 c).arrAt_eq_of_covers 64 _ (by decide +kernel) fun t hf y => ?_
  blk_simp; rw [after_64, grad6_eq, blk6]
  have e : ((cfg0.win 64).blk t).view.emb y = ix2 (y 0) (y 1) := by blk_ext [idx6 t]
  rw [e]
  exact congrArg _ (eq_ix2 y)

/-- The array of weight 6's change. -/
theorem final65 (c : Dev nD) : (dats m 0 c).arrAt 65 (cfgs 0).N = val_main_v174 (F := Ideal) (m ((c : Thread nD τ).loc main_arg6)) (m ((c : Thread nD τ).loc main_arg16)) (m ((c : Thread nD τ).loc main_arg26)) (m ((c : Thread nD τ).loc main_arg36)) := by
  refine (dats m 0 c).arrAt_eq_of_covers 65 _ (by decide +kernel) fun t hf y => ?_
  blk_simp; rw [after_65, step6_eq, blk6, blk16, blk26, blk36]
  have e : ((cfg0.win 65).blk t).view.emb y = ix2 (y 0) (y 1) := by blk_ext [idx6 t]
  rw [e]
  exact congrArg _ (eq_ix2 y)

/-- The array of weight 6's new first moment. -/
theorem final66 (c : Dev nD) : (dats m 0 c).arrAt 66 (cfgs 0).N = val_main_v155 (F := Ideal) (m ((c : Thread nD τ).loc main_arg6)) (m ((c : Thread nD τ).loc main_arg26)) := by
  refine (dats m 0 c).arrAt_eq_of_covers 66 _ (by decide +kernel) fun t hf y => ?_
  blk_simp; rw [after_66, first6_eq, blk6, blk26]
  have e : ((cfg0.win 66).blk t).view.emb y = ix2 (y 0) (y 1) := by blk_ext [idx6 t]
  rw [e]
  exact congrArg _ (eq_ix2 y)

/-- The array of weight 6's new second moment. -/
theorem final67 (c : Dev nD) : (dats m 0 c).arrAt 67 (cfgs 0).N = val_main_v161 (F := Ideal) (m ((c : Thread nD τ).loc main_arg6)) (m ((c : Thread nD τ).loc main_arg36)) := by
  refine (dats m 0 c).arrAt_eq_of_covers 67 _ (by decide +kernel) fun t hf y => ?_
  blk_simp; rw [after_67, second6_eq, blk6, blk36]
  have e : ((cfg0.win 67).blk t).view.emb y = ix2 (y 0) (y 1) := by blk_ext [idx6 t]
  rw [e]
  exact congrArg _ (eq_ix2 y)

/-- The array of weight 7's summed gradient. -/
theorem final68 (c : Dev nD) : (dats m 0 c).arrAt 68 (cfgs 0).N = val_main_v175 (F := Ideal) (m ((c : Thread nD τ).loc main_arg7)) := by
  refine (dats m 0 c).arrAt_eq_of_covers 68 _ (by decide +kernel) fun t hf y => ?_
  blk_simp; rw [after_68, grad7_eq, blk7]
  have e : ((cfg0.win 68).blk t).view.emb y = ix2 (y 0) (y 1) := by blk_ext [idx7 t]
  rw [e]
  exact congrArg _ (eq_ix2 y)

/-- The array of weight 7's change. -/
theorem final69 (c : Dev nD) : (dats m 0 c).arrAt 69 (cfgs 0).N = val_main_v199 (F := Ideal) (m ((c : Thread nD τ).loc main_arg7)) (m ((c : Thread nD τ).loc main_arg17)) (m ((c : Thread nD τ).loc main_arg27)) (m ((c : Thread nD τ).loc main_arg37)) := by
  refine (dats m 0 c).arrAt_eq_of_covers 69 _ (by decide +kernel) fun t hf y => ?_
  blk_simp; rw [after_69, step7_eq, blk7, blk17, blk27, blk37]
  have e : ((cfg0.win 69).blk t).view.emb y = ix2 (y 0) (y 1) := by blk_ext [idx7 t]
  rw [e]
  exact congrArg _ (eq_ix2 y)

/-- The array of weight 7's new first moment. -/
theorem final70 (c : Dev nD) : (dats m 0 c).arrAt 70 (cfgs 0).N = val_main_v180 (F := Ideal) (m ((c : Thread nD τ).loc main_arg7)) (m ((c : Thread nD τ).loc main_arg27)) := by
  refine (dats m 0 c).arrAt_eq_of_covers 70 _ (by decide +kernel) fun t hf y => ?_
  blk_simp; rw [after_70, first7_eq, blk7, blk27]
  have e : ((cfg0.win 70).blk t).view.emb y = ix2 (y 0) (y 1) := by blk_ext [idx7 t]
  rw [e]
  exact congrArg _ (eq_ix2 y)

/-- The array of weight 7's new second moment. -/
theorem final71 (c : Dev nD) : (dats m 0 c).arrAt 71 (cfgs 0).N = val_main_v186 (F := Ideal) (m ((c : Thread nD τ).loc main_arg7)) (m ((c : Thread nD τ).loc main_arg37)) := by
  refine (dats m 0 c).arrAt_eq_of_covers 71 _ (by decide +kernel) fun t hf y => ?_
  blk_simp; rw [after_71, second7_eq, blk7, blk37]
  have e : ((cfg0.win 71).blk t).view.emb y = ix2 (y 0) (y 1) := by blk_ext [idx7 t]
  rw [e]
  exact congrArg _ (eq_ix2 y)

/-- The array of weight 8's summed gradient. -/
theorem final72 (c : Dev nD) : (dats m 0 c).arrAt 72 (cfgs 0).N = val_main_v200 (F := Ideal) (m ((c : Thread nD τ).loc main_arg8)) := by
  refine (dats m 0 c).arrAt_eq_of_covers 72 _ (by decide +kernel) fun t hf y => ?_
  blk_simp; rw [after_72, grad8_eq, blk8]
  have e : ((cfg0.win 72).blk t).view.emb y = ix2 (y 0) (y 1) := by blk_ext [idx8 t]
  rw [e]
  exact congrArg _ (eq_ix2 y)

/-- The array of weight 8's change. -/
theorem final73 (c : Dev nD) : (dats m 0 c).arrAt 73 (cfgs 0).N = val_main_v224 (F := Ideal) (m ((c : Thread nD τ).loc main_arg8)) (m ((c : Thread nD τ).loc main_arg18)) (m ((c : Thread nD τ).loc main_arg28)) (m ((c : Thread nD τ).loc main_arg38)) := by
  refine (dats m 0 c).arrAt_eq_of_covers 73 _ (by decide +kernel) fun t hf y => ?_
  blk_simp; rw [after_73, step8_eq, blk8, blk18, blk28, blk38]
  have e : ((cfg0.win 73).blk t).view.emb y = ix2 (y 0) (y 1) := by blk_ext [idx8 t]
  rw [e]
  exact congrArg _ (eq_ix2 y)

/-- The array of weight 8's new first moment. -/
theorem final74 (c : Dev nD) : (dats m 0 c).arrAt 74 (cfgs 0).N = val_main_v205 (F := Ideal) (m ((c : Thread nD τ).loc main_arg8)) (m ((c : Thread nD τ).loc main_arg28)) := by
  refine (dats m 0 c).arrAt_eq_of_covers 74 _ (by decide +kernel) fun t hf y => ?_
  blk_simp; rw [after_74, first8_eq, blk8, blk28]
  have e : ((cfg0.win 74).blk t).view.emb y = ix2 (y 0) (y 1) := by blk_ext [idx8 t]
  rw [e]
  exact congrArg _ (eq_ix2 y)

/-- The array of weight 8's new second moment. -/
theorem final75 (c : Dev nD) : (dats m 0 c).arrAt 75 (cfgs 0).N = val_main_v211 (F := Ideal) (m ((c : Thread nD τ).loc main_arg8)) (m ((c : Thread nD τ).loc main_arg38)) := by
  refine (dats m 0 c).arrAt_eq_of_covers 75 _ (by decide +kernel) fun t hf y => ?_
  blk_simp; rw [after_75, second8_eq, blk8, blk38]
  have e : ((cfg0.win 75).blk t).view.emb y = ix2 (y 0) (y 1) := by blk_ext [idx8 t]
  rw [e]
  exact congrArg _ (eq_ix2 y)

/-- The array of weight 9's summed gradient. -/
theorem final76 (c : Dev nD) : (dats m 0 c).arrAt 76 (cfgs 0).N = val_main_v225 (F := Ideal) (m ((c : Thread nD τ).loc main_arg9)) := by
  refine (dats m 0 c).arrAt_eq_of_covers 76 _ (by decide +kernel) fun t hf y => ?_
  blk_simp; rw [after_76, grad9_eq, blk9]
  have e : ((cfg0.win 76).blk t).view.emb y = ix2 (y 0) (y 1) := by blk_ext [idx9 t]
  rw [e]
  exact congrArg _ (eq_ix2 y)

/-- The array of weight 9's change. -/
theorem final77 (c : Dev nD) : (dats m 0 c).arrAt 77 (cfgs 0).N = val_main_v249 (F := Ideal) (m ((c : Thread nD τ).loc main_arg9)) (m ((c : Thread nD τ).loc main_arg19)) (m ((c : Thread nD τ).loc main_arg29)) (m ((c : Thread nD τ).loc main_arg39)) := by
  refine (dats m 0 c).arrAt_eq_of_covers 77 _ (by decide +kernel) fun t hf y => ?_
  blk_simp; rw [after_77, step9_eq, blk9, blk19, blk29, blk39]
  have e : ((cfg0.win 77).blk t).view.emb y = ix2 (y 0) (y 1) := by blk_ext [idx9 t]
  rw [e]
  exact congrArg _ (eq_ix2 y)

/-- The array of weight 9's new first moment. -/
theorem final78 (c : Dev nD) : (dats m 0 c).arrAt 78 (cfgs 0).N = val_main_v230 (F := Ideal) (m ((c : Thread nD τ).loc main_arg9)) (m ((c : Thread nD τ).loc main_arg29)) := by
  refine (dats m 0 c).arrAt_eq_of_covers 78 _ (by decide +kernel) fun t hf y => ?_
  blk_simp; rw [after_78, first9_eq, blk9, blk29]
  have e : ((cfg0.win 78).blk t).view.emb y = ix2 (y 0) (y 1) := by blk_ext [idx9 t]
  rw [e]
  exact congrArg _ (eq_ix2 y)

/-- The array of weight 9's new second moment. -/
theorem final79 (c : Dev nD) : (dats m 0 c).arrAt 79 (cfgs 0).N = val_main_v236 (F := Ideal) (m ((c : Thread nD τ).loc main_arg9)) (m ((c : Thread nD τ).loc main_arg39)) := by
  refine (dats m 0 c).arrAt_eq_of_covers 79 _ (by decide +kernel) fun t hf y => ?_
  blk_simp; rw [after_79, second9_eq, blk9, blk39]
  have e : ((cfg0.win 79).blk t).view.emb y = ix2 (y 0) (y 1) := by blk_ext [idx9 t]
  rw [e]
  exact congrArg _ (eq_ix2 y)

end Cert.Kernel18Ideal.Math

end
-- ==== Proof.AdamSmall.lean ====
/- The update of the small weights: the forty arrays `Kernel18Ideal` writes are the reference's results. -/
module

public import proofs.«01_k».proof.Proof.SmallArrays
public import proofs.«01_k».proof.Proof.Args
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.Kernel18Ideal.Math

open Cert.Kernel18Ideal Cert.Kernel18Ideal.Gen Cert.Kernel18Ideal.Small Cert.Reference18Ideal.Read

set_option maxHeartbeats 40000000 in
/-- Kernel and reference of the small weights' update end with equal results. -/
theorem algebraic : Cert.algebraic_Kernel18Ideal_Reference18Ideal := by
  intro m g m' g' hpre hagree
  refine ⟨fun c => val_main_v0 (F := Ideal) (m ((c : Thread nD τ).loc main_arg0)),
    fun c => val_main_v24 (F := Ideal) (m ((c : Thread nD τ).loc main_arg0)) (m ((c : Thread nD τ).loc main_arg10)) (m ((c : Thread nD τ).loc main_arg20)) (m ((c : Thread nD τ).loc main_arg30)),
    fun c => val_main_v5 (F := Ideal) (m ((c : Thread nD τ).loc main_arg0)) (m ((c : Thread nD τ).loc main_arg20)),
    fun c => val_main_v11 (F := Ideal) (m ((c : Thread nD τ).loc main_arg0)) (m ((c : Thread nD τ).loc main_arg30)),
    fun c => val_main_v25 (F := Ideal) (m ((c : Thread nD τ).loc main_arg1)),
    fun c => val_main_v49 (F := Ideal) (m ((c : Thread nD τ).loc main_arg1)) (m ((c : Thread nD τ).loc main_arg11)) (m ((c : Thread nD τ).loc main_arg21)) (m ((c : Thread nD τ).loc main_arg31)),
    fun c => val_main_v30 (F := Ideal) (m ((c : Thread nD τ).loc main_arg1)) (m ((c : Thread nD τ).loc main_arg21)),
    fun c => val_main_v36 (F := Ideal) (m ((c : Thread nD τ).loc main_arg1)) (m ((c : Thread nD τ).loc main_arg31)),
    fun c => val_main_v50 (F := Ideal) (m ((c : Thread nD τ).loc main_arg2)),
    fun c => val_main_v74 (F := Ideal) (m ((c : Thread nD τ).loc main_arg2)) (m ((c : Thread nD τ).loc main_arg12)) (m ((c : Thread nD τ).loc main_arg22)) (m ((c : Thread nD τ).loc main_arg32)),
    fun c => val_main_v55 (F := Ideal) (m ((c : Thread nD τ).loc main_arg2)) (m ((c : Thread nD τ).loc main_arg22)),
    fun c => val_main_v61 (F := Ideal) (m ((c : Thread nD τ).loc main_arg2)) (m ((c : Thread nD τ).loc main_arg32)),
    fun c => val_main_v75 (F := Ideal) (m ((c : Thread nD τ).loc main_arg3)),
    fun c => val_main_v99 (F := Ideal) (m ((c : Thread nD τ).loc main_arg3)) (m ((c : Thread nD τ).loc main_arg13)) (m ((c : Thread nD τ).loc main_arg23)) (m ((c : Thread nD τ).loc main_arg33)),
    fun c => val_main_v80 (F := Ideal) (m ((c : Thread nD τ).loc main_arg3)) (m ((c : Thread nD τ).loc main_arg23)),
    fun c => val_main_v86 (F := Ideal) (m ((c : Thread nD τ).loc main_arg3)) (m ((c : Thread nD τ).loc main_arg33)),
    fun c => val_main_v100 (F := Ideal) (m ((c : Thread nD τ).loc main_arg4)),
    fun c => val_main_v124 (F := Ideal) (m ((c : Thread nD τ).loc main_arg4)) (m ((c : Thread nD τ).loc main_arg14)) (m ((c : Thread nD τ).loc main_arg24)) (m ((c : Thread nD τ).loc main_arg34)),
    fun c => val_main_v105 (F := Ideal) (m ((c : Thread nD τ).loc main_arg4)) (m ((c : Thread nD τ).loc main_arg24)),
    fun c => val_main_v111 (F := Ideal) (m ((c : Thread nD τ).loc main_arg4)) (m ((c : Thread nD τ).loc main_arg34)),
    fun c => val_main_v125 (F := Ideal) (m ((c : Thread nD τ).loc main_arg5)),
    fun c => val_main_v149 (F := Ideal) (m ((c : Thread nD τ).loc main_arg5)) (m ((c : Thread nD τ).loc main_arg15)) (m ((c : Thread nD τ).loc main_arg25)) (m ((c : Thread nD τ).loc main_arg35)),
    fun c => val_main_v130 (F := Ideal) (m ((c : Thread nD τ).loc main_arg5)) (m ((c : Thread nD τ).loc main_arg25)),
    fun c => val_main_v136 (F := Ideal) (m ((c : Thread nD τ).loc main_arg5)) (m ((c : Thread nD τ).loc main_arg35)),
    fun c => val_main_v150 (F := Ideal) (m ((c : Thread nD τ).loc main_arg6)),
    fun c => val_main_v174 (F := Ideal) (m ((c : Thread nD τ).loc main_arg6)) (m ((c : Thread nD τ).loc main_arg16)) (m ((c : Thread nD τ).loc main_arg26)) (m ((c : Thread nD τ).loc main_arg36)),
    fun c => val_main_v155 (F := Ideal) (m ((c : Thread nD τ).loc main_arg6)) (m ((c : Thread nD τ).loc main_arg26)),
    fun c => val_main_v161 (F := Ideal) (m ((c : Thread nD τ).loc main_arg6)) (m ((c : Thread nD τ).loc main_arg36)),
    fun c => val_main_v175 (F := Ideal) (m ((c : Thread nD τ).loc main_arg7)),
    fun c => val_main_v199 (F := Ideal) (m ((c : Thread nD τ).loc main_arg7)) (m ((c : Thread nD τ).loc main_arg17)) (m ((c : Thread nD τ).loc main_arg27)) (m ((c : Thread nD τ).loc main_arg37)),
    fun c => val_main_v180 (F := Ideal) (m ((c : Thread nD τ).loc main_arg7)) (m ((c : Thread nD τ).loc main_arg27)),
    fun c => val_main_v186 (F := Ideal) (m ((c : Thread nD τ).loc main_arg7)) (m ((c : Thread nD τ).loc main_arg37)),
    fun c => val_main_v200 (F := Ideal) (m ((c : Thread nD τ).loc main_arg8)),
    fun c => val_main_v224 (F := Ideal) (m ((c : Thread nD τ).loc main_arg8)) (m ((c : Thread nD τ).loc main_arg18)) (m ((c : Thread nD τ).loc main_arg28)) (m ((c : Thread nD τ).loc main_arg38)),
    fun c => val_main_v205 (F := Ideal) (m ((c : Thread nD τ).loc main_arg8)) (m ((c : Thread nD τ).loc main_arg28)),
    fun c => val_main_v211 (F := Ideal) (m ((c : Thread nD τ).loc main_arg8)) (m ((c : Thread nD τ).loc main_arg38)),
    fun c => val_main_v225 (F := Ideal) (m ((c : Thread nD τ).loc main_arg9)),
    fun c => val_main_v249 (F := Ideal) (m ((c : Thread nD τ).loc main_arg9)) (m ((c : Thread nD τ).loc main_arg19)) (m ((c : Thread nD τ).loc main_arg29)) (m ((c : Thread nD τ).loc main_arg39)),
    fun c => val_main_v230 (F := Ideal) (m ((c : Thread nD τ).loc main_arg9)) (m ((c : Thread nD τ).loc main_arg29)),
    fun c => val_main_v236 (F := Ideal) (m ((c : Thread nD τ).loc main_arg9)) (m ((c : Thread nD τ).loc main_arg39)), ?_, ?_⟩
  · exact (θ_run _ _ _).mono (fun r h c => ⟨((h c).1 40).trans (final40 m c),
      ((h c).1 41).trans (final41 m c),
      ((h c).1 42).trans (final42 m c),
      ((h c).1 43).trans (final43 m c),
      ((h c).1 44).trans (final44 m c),
      ((h c).1 45).trans (final45 m c),
      ((h c).1 46).trans (final46 m c),
      ((h c).1 47).trans (final47 m c),
      ((h c).1 48).trans (final48 m c),
      ((h c).1 49).trans (final49 m c),
      ((h c).1 50).trans (final50 m c),
      ((h c).1 51).trans (final51 m c),
      ((h c).1 52).trans (final52 m c),
      ((h c).1 53).trans (final53 m c),
      ((h c).1 54).trans (final54 m c),
      ((h c).1 55).trans (final55 m c),
      ((h c).1 56).trans (final56 m c),
      ((h c).1 57).trans (final57 m c),
      ((h c).1 58).trans (final58 m c),
      ((h c).1 59).trans (final59 m c),
      ((h c).1 60).trans (final60 m c),
      ((h c).1 61).trans (final61 m c),
      ((h c).1 62).trans (final62 m c),
      ((h c).1 63).trans (final63 m c),
      ((h c).1 64).trans (final64 m c),
      ((h c).1 65).trans (final65 m c),
      ((h c).1 66).trans (final66 m c),
      ((h c).1 67).trans (final67 m c),
      ((h c).1 68).trans (final68 m c),
      ((h c).1 69).trans (final69 m c),
      ((h c).1 70).trans (final70 m c),
      ((h c).1 71).trans (final71 m c),
      ((h c).1 72).trans (final72 m c),
      ((h c).1 73).trans (final73 m c),
      ((h c).1 74).trans (final74 m c),
      ((h c).1 75).trans (final75 m c),
      ((h c).1 76).trans (final76 m c),
      ((h c).1 77).trans (final77 m c),
      ((h c).1 78).trans (final78 m c),
      ((h c).1 79).trans (final79 m c),
      ((h c).1 0).trans (kept m c 0 rfl),
      ((h c).1 1).trans (kept m c 1 rfl),
      ((h c).1 2).trans (kept m c 2 rfl),
      ((h c).1 3).trans (kept m c 3 rfl),
      ((h c).1 4).trans (kept m c 4 rfl),
      ((h c).1 5).trans (kept m c 5 rfl),
      ((h c).1 6).trans (kept m c 6 rfl),
      ((h c).1 7).trans (kept m c 7 rfl),
      ((h c).1 8).trans (kept m c 8 rfl),
      ((h c).1 9).trans (kept m c 9 rfl),
      ((h c).1 10).trans (kept m c 10 rfl),
      ((h c).1 11).trans (kept m c 11 rfl),
      ((h c).1 12).trans (kept m c 12 rfl),
      ((h c).1 13).trans (kept m c 13 rfl),
      ((h c).1 14).trans (kept m c 14 rfl),
      ((h c).1 15).trans (kept m c 15 rfl),
      ((h c).1 16).trans (kept m c 16 rfl),
      ((h c).1 17).trans (kept m c 17 rfl),
      ((h c).1 18).trans (kept m c 18 rfl),
      ((h c).1 19).trans (kept m c 19 rfl),
      ((h c).1 20).trans (kept m c 20 rfl),
      ((h c).1 21).trans (kept m c 21 rfl),
      ((h c).1 22).trans (kept m c 22 rfl),
      ((h c).1 23).trans (kept m c 23 rfl),
      ((h c).1 24).trans (kept m c 24 rfl),
      ((h c).1 25).trans (kept m c 25 rfl),
      ((h c).1 26).trans (kept m c 26 rfl),
      ((h c).1 27).trans (kept m c 27 rfl),
      ((h c).1 28).trans (kept m c 28 rfl),
      ((h c).1 29).trans (kept m c 29 rfl),
      ((h c).1 30).trans (kept m c 30 rfl),
      ((h c).1 31).trans (kept m c 31 rfl),
      ((h c).1 32).trans (kept m c 32 rfl),
      ((h c).1 33).trans (kept m c 33 rfl),
      ((h c).1 34).trans (kept m c 34 rfl),
      ((h c).1 35).trans (kept m c 35 rfl),
      ((h c).1 36).trans (kept m c 36 rfl),
      ((h c).1 37).trans (kept m c 37 rfl),
      ((h c).1 38).trans (kept m c 38 rfl),
      ((h c).1 39).trans (kept m c 39 rfl)⟩) (run_main m g)
  · refine (θ_run _ _ _).mono (fun r h c => ?_) (Cert.Reference18Ideal.Value.run m' g')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39⟩ := hagree c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, ha⟩ := h c
    exact ⟨h0.trans ((val_main_v0_eq _).trans (congrArg (val_main_v0 (F := Ideal)) e0)),
      h1.trans ((val_main_v24_eq _).trans (Args.congr4 (val_main_v24 (F := Ideal)) e0 e10 e20 e30)),
      h2.trans ((val_main_v5_eq _).trans (congrArg₂ (val_main_v5 (F := Ideal)) e0 e20)),
      h3.trans ((val_main_v11_eq _).trans (congrArg₂ (val_main_v11 (F := Ideal)) e0 e30)),
      h4.trans ((val_main_v25_eq _).trans (congrArg (val_main_v25 (F := Ideal)) e1)),
      h5.trans ((val_main_v49_eq _).trans (Args.congr4 (val_main_v49 (F := Ideal)) e1 e11 e21 e31)),
      h6.trans ((val_main_v30_eq _).trans (congrArg₂ (val_main_v30 (F := Ideal)) e1 e21)),
      h7.trans ((val_main_v36_eq _).trans (congrArg₂ (val_main_v36 (F := Ideal)) e1 e31)),
      h8.trans ((val_main_v50_eq _).trans (congrArg (val_main_v50 (F := Ideal)) e2)),
      h9.trans ((val_main_v74_eq _).trans (Args.congr4 (val_main_v74 (F := Ideal)) e2 e12 e22 e32)),
      h10.trans ((val_main_v55_eq _).trans (congrArg₂ (val_main_v55 (F := Ideal)) e2 e22)),
      h11.trans ((val_main_v61_eq _).trans (congrArg₂ (val_main_v61 (F := Ideal)) e2 e32)),
      h12.trans ((val_main_v75_eq _).trans (congrArg (val_main_v75 (F := Ideal)) e3)),
      h13.trans ((val_main_v99_eq _).trans (Args.congr4 (val_main_v99 (F := Ideal)) e3 e13 e23 e33)),
      h14.trans ((val_main_v80_eq _).trans (congrArg₂ (val_main_v80 (F := Ideal)) e3 e23)),
      h15.trans ((val_main_v86_eq _).trans (congrArg₂ (val_main_v86 (F := Ideal)) e3 e33)),
      h16.trans ((val_main_v100_eq _).trans (congrArg (val_main_v100 (F := Ideal)) e4)),
      h17.trans ((val_main_v124_eq _).trans (Args.congr4 (val_main_v124 (F := Ideal)) e4 e14 e24 e34)),
      h18.trans ((val_main_v105_eq _).trans (congrArg₂ (val_main_v105 (F := Ideal)) e4 e24)),
      h19.trans ((val_main_v111_eq _).trans (congrArg₂ (val_main_v111 (F := Ideal)) e4 e34)),
      h20.trans ((val_main_v125_eq _).trans (congrArg (val_main_v125 (F := Ideal)) e5)),
      h21.trans ((val_main_v149_eq _).trans (Args.congr4 (val_main_v149 (F := Ideal)) e5 e15 e25 e35)),
      h22.trans ((val_main_v130_eq _).trans (congrArg₂ (val_main_v130 (F := Ideal)) e5 e25)),
      h23.trans ((val_main_v136_eq _).trans (congrArg₂ (val_main_v136 (F := Ideal)) e5 e35)),
      h24.trans ((val_main_v150_eq _).trans (congrArg (val_main_v150 (F := Ideal)) e6)),
      h25.trans ((val_main_v174_eq _).trans (Args.congr4 (val_main_v174 (F := Ideal)) e6 e16 e26 e36)),
      h26.trans ((val_main_v155_eq _).trans (congrArg₂ (val_main_v155 (F := Ideal)) e6 e26)),
      h27.trans ((val_main_v161_eq _).trans (congrArg₂ (val_main_v161 (F := Ideal)) e6 e36)),
      h28.trans ((val_main_v175_eq _).trans (congrArg (val_main_v175 (F := Ideal)) e7)),
      h29.trans ((val_main_v199_eq _).trans (Args.congr4 (val_main_v199 (F := Ideal)) e7 e17 e27 e37)),
      h30.trans ((val_main_v180_eq _).trans (congrArg₂ (val_main_v180 (F := Ideal)) e7 e27)),
      h31.trans ((val_main_v186_eq _).trans (congrArg₂ (val_main_v186 (F := Ideal)) e7 e37)),
      h32.trans ((val_main_v200_eq _).trans (congrArg (val_main_v200 (F := Ideal)) e8)),
      h33.trans ((val_main_v224_eq _).trans (Args.congr4 (val_main_v224 (F := Ideal)) e8 e18 e28 e38)),
      h34.trans ((val_main_v205_eq _).trans (congrArg₂ (val_main_v205 (F := Ideal)) e8 e28)),
      h35.trans ((val_main_v211_eq _).trans (congrArg₂ (val_main_v211 (F := Ideal)) e8 e38)),
      h36.trans ((val_main_v225_eq _).trans (congrArg (val_main_v225 (F := Ideal)) e9)),
      h37.trans ((val_main_v249_eq _).trans (Args.congr4 (val_main_v249 (F := Ideal)) e9 e19 e29 e39)),
      h38.trans ((val_main_v230_eq _).trans (congrArg₂ (val_main_v230 (F := Ideal)) e9 e29)),
      h39.trans ((val_main_v236_eq _).trans (congrArg₂ (val_main_v236 (F := Ideal)) e9 e39)),
      ha⟩

end Cert.Kernel18Ideal.Math

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Launch
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Reference18Ideal
public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Pre_finite
public import proofs.«01_k».proof.Proof.PoolAlg
public import proofs.«01_k».proof.Proof.Dwup
public import proofs.«01_k».proof.Proof.Dact
public import proofs.«01_k».proof.Proof.Dwdown
public import proofs.«01_k».proof.Proof.UpFrame
public import proofs.«01_k».proof.Proof.UpFrameIdeal
public import proofs.«01_k».proof.Proof.Up
public import proofs.«01_k».proof.Proof.MixIn
public import proofs.«01_k».proof.Proof.Dab
public import proofs.«01_k».proof.Proof.Dwout
public import proofs.«01_k».proof.Proof.Dwin
public import proofs.«01_k».proof.Proof.Dh
public import proofs.«01_k».proof.Proof.MixDh
public import proofs.«01_k».proof.Proof.MidDown
public import proofs.«01_k».proof.Proof.AdamIn
public import proofs.«01_k».proof.Proof.AdamOut
public import proofs.«01_k».proof.Proof.AdamPool
public import proofs.«01_k».proof.Proof.AdamUp
public import proofs.«01_k».proof.Proof.AdamDown
public import proofs.«01_k».proof.Proof.SmallBits
public import proofs.«01_k».proof.Proof.AdamSmall
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m g _ => (θ_run _ _ _).mono (fun r h => ⟨fun c => (h c).2.2.2.2.2, sem_eq_zero_of_no_sems (by decide) r.2⟩)
    (Cert.ReferenceIdeal.Value.run m g),
  fun m g _ => (θ_run _ _ _).mono (fun r h => ⟨fun c => (h c).2.2.2.2.2, sem_eq_zero_of_no_sems (by decide) r.2⟩)
    (Cert.ReferenceIdeal.Value.run m g),
  fun m ρ _ => Cert.Kernel2.Gen.frame m ρ,
  fun m ρ _ => Cert.Kernel2Ideal.Gen.frame m ρ,
  fun m g _ => (θ_run _ _ _).mono (fun r h => ⟨fun c => (h c).2, sem_eq_zero_of_no_sems (by decide) r.2⟩)
    (Cert.Reference2Ideal.Value.run m g),
  fun m ρ _ => Cert.Kernel3.Gen.frame m ρ,
  fun m ρ _ => Cert.Kernel3Ideal.Gen.frame m ρ,
  fun m g _ => (θ_run _ _ _).mono (fun r h => ⟨fun c => (h c).2, sem_eq_zero_of_no_sems (by decide) r.2⟩)
    (Cert.Reference3Ideal.Value.run m g),
  fun m ρ _ => Cert.Kernel4.Gen.frame m ρ,
  fun m ρ _ => Cert.Kernel4Ideal.Gen.frame m ρ,
  fun m g _ => (θ_run _ _ _).mono (fun r h => ⟨fun c => (h c).2, sem_eq_zero_of_no_sems (by decide) r.2⟩)
    (Cert.Reference4Ideal.Value.run m g),
  fun m ρ _ => Cert.Kernel5.Up.frame m ρ,
  fun m ρ _ => Cert.Kernel5Ideal.Up.frame m ρ,
  fun m g _ => (θ_run _ _ _).mono (fun r h => ⟨fun c => (h c).2.2, sem_eq_zero_of_no_sems (by decide) r.2⟩)
    (Cert.Reference5Ideal.Value.run m g),
  fun m ρ _ => Cert.Kernel6.Gen.frame m ρ,
  fun m ρ _ => Cert.Kernel6Ideal.Gen.frame m ρ,
  fun m g _ => (θ_run _ _ _).mono (fun r h => ⟨fun c => (h c).2.2, sem_eq_zero_of_no_sems (by decide) r.2⟩)
    (Cert.Reference6Ideal.Value.run m g),
  fun m ρ _ => Cert.Kernel7.Gen.frame m ρ,
  fun m ρ _ => Cert.Kernel7Ideal.Gen.frame m ρ,
  fun m g _ => (θ_run _ _ _).mono (fun r h => ⟨fun c => (h c).2, sem_eq_zero_of_no_sems (by decide) r.2⟩)
    (Cert.Reference7Ideal.Value.run m g),
  fun m ρ _ => Cert.Kernel8.Gen.frame m ρ,
  fun m ρ _ => Cert.Kernel8Ideal.Gen.frame m ρ,
  fun m g _ => (θ_run _ _ _).mono (fun r h => ⟨fun c => (h c).2, sem_eq_zero_of_no_sems (by decide) r.2⟩)
    (Cert.Reference8Ideal.Value.run m g),
  fun m ρ _ => Cert.Kernel9.Gen.frame m ρ,
  fun m ρ _ => Cert.Kernel9Ideal.Gen.frame m ρ,
  fun m g _ => (θ_run _ _ _).mono (fun r h => ⟨fun c => (h c).2, sem_eq_zero_of_no_sems (by decide) r.2⟩)
    (Cert.Reference9Ideal.Value.run m g),
  fun m ρ _ => Cert.Kernel10.Gen.frame m ρ,
  fun m ρ _ => Cert.Kernel10Ideal.Gen.frame m ρ,
  fun m g _ => (θ_run _ _ _).mono (fun r h => ⟨fun c => (h c).2.2.2, sem_eq_zero_of_no_sems (by decide) r.2⟩)
    (Cert.Reference10Ideal.Value.run m g),
  fun m ρ _ => Cert.Kernel11.Gen.frame m ρ,
  fun m ρ _ => Cert.Kernel11Ideal.Gen.frame m ρ,
  fun m g _ => (θ_run _ _ _).mono (fun r h => ⟨fun c => (h c).2.2, sem_eq_zero_of_no_sems (by decide) r.2⟩)
    (Cert.Reference11Ideal.Value.run m g),
  fun m ρ _ => Cert.Kernel12.Gen.frame m ρ,
  fun m ρ _ => Cert.Kernel12Ideal.Gen.frame m ρ,
  fun m g _ => (θ_run _ _ _).mono (fun r h => ⟨fun c => (h c).2.2.2.2, sem_eq_zero_of_no_sems (by decide) r.2⟩)
    (Cert.Reference12Ideal.Value.run m g),
  fun m ρ _ => Cert.Kernel13.Gen.frame m ρ,
  fun m ρ _ => Cert.Kernel13Ideal.Gen.frame m ρ,
  fun m g _ => (θ_run _ _ _).mono (fun r h => ⟨fun c => (h c).2.2.2.2, sem_eq_zero_of_no_sems (by decide) r.2⟩)
    (Cert.Reference13Ideal.Value.run m g),
  fun m ρ _ => Cert.Kernel14.Gen.frame m ρ,
  fun m ρ _ => Cert.Kernel14Ideal.Gen.frame m ρ,
  fun m g _ => (θ_run _ _ _).mono (fun r h => ⟨fun c => (h c).2.2.2.2, sem_eq_zero_of_no_sems (by decide) r.2⟩)
    (Cert.Reference14Ideal.Value.run m g),
  fun m ρ _ => Cert.Kernel15.Gen.frame m ρ,
  fun m ρ _ => Cert.Kernel15Ideal.Gen.frame m ρ,
  fun m g _ => (θ_run _ _ _).mono (fun r h => ⟨fun c => (h c).2.2.2.2, sem_eq_zero_of_no_sems (by decide) r.2⟩)
    (Cert.Reference15Ideal.Value.run m g),
  fun m ρ _ => Cert.Kernel16.Gen.frame m ρ,
  fun m ρ _ => Cert.Kernel16Ideal.Gen.frame m ρ,
  fun m g _ => (θ_run _ _ _).mono (fun r h => ⟨fun c => (h c).2.2.2.2, sem_eq_zero_of_no_sems (by decide) r.2⟩)
    (Cert.Reference16Ideal.Value.run m g),
  fun m ρ _ => Cert.Kernel17.Gen.frame m ρ,
  fun m ρ _ => Cert.Kernel17Ideal.Gen.frame m ρ,
  fun m g _ => (θ_run _ _ _).mono (fun r h => ⟨fun c => (h c).2.2.2.2, sem_eq_zero_of_no_sems (by decide) r.2⟩)
    (Cert.Reference17Ideal.Value.run m g),
  fun m ρ _ => Cert.Kernel18.Small.frame m ρ,
  fun m ρ _ => Cert.Kernel18Ideal.Small.frame m ρ,
  fun m g _ => (θ_run _ _ _).mono (fun r h => ⟨fun c => (h c).2.2.2.2.2.2.2.2.2.2.2.2.2.2.2.2.2.2.2.2.2.2.2.2.2.2.2.2.2.2.2.2.2.2.2.2.2.2.2.2, sem_eq_zero_of_no_sems (by decide) r.2⟩)
    (Cert.Reference18Ideal.Value.run m g),
  trivial,
  Cert.KernelIdeal.Math.algebraic,
  trivial,
  Cert.Kernel2Ideal.Math.algebraic,
  trivial,
  Cert.Kernel3Ideal.Math.algebraic,
  trivial,
  Cert.Kernel4Ideal.Math.algebraic,
  trivial,
  Cert.Kernel5Ideal.Math.algebraic,
  trivial,
  Cert.Kernel6Ideal.Math.algebraic,
  trivial,
  Cert.Kernel7Ideal.Math.algebraic,
  trivial,
  Cert.Kernel8Ideal.Math.algebraic,
  trivial,
  Cert.Kernel9Ideal.Math.algebraic,
  trivial,
  Cert.Kernel10Ideal.Math.algebraic,
  trivial,
  Cert.Kernel11Ideal.Math.algebraic,
  trivial,
  Cert.Kernel12Ideal.Math.algebraic,
  trivial,
  Cert.Kernel13Ideal.Math.algebraic,
  trivial,
  Cert.Kernel14Ideal.Math.algebraic,
  trivial,
  Cert.Kernel15Ideal.Math.algebraic,
  trivial,
  Cert.Kernel16Ideal.Math.algebraic,
  trivial,
  Cert.Kernel17Ideal.Math.algebraic,
  trivial,
  Cert.Kernel18Ideal.Math.algebraic⟩

end Cert.Proof

end
